-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwFfn (m : (ℓ : Loc Cert.DwFfn.nD Cert.DwFfn.τ Cert.DwFfn.sig) → Buf (Elt Bits) ℓ) : Prop :=
  True

def Pre_DwFfnIdeal (m : (ℓ : Loc Cert.DwFfnIdeal.nD Cert.DwFfnIdeal.τ Cert.DwFfnIdeal.sig) → Buf (Elt Ideal) ℓ) : Prop :=
  True

def Pre_DwFfnRefIdeal (m : (ℓ : Loc Cert.DwFfnRefIdeal.nD Cert.DwFfnRefIdeal.τ Cert.DwFfnRefIdeal.sig) → Buf (Elt Ideal) ℓ) : Prop :=
  True

def Pre_DuFfn (m : (ℓ : Loc Cert.DuFfn.nD Cert.DuFfn.τ Cert.DuFfn.sig) → Buf (Elt Bits) ℓ) : Prop :=
  True

def Pre_DuFfnIdeal (m : (ℓ : Loc Cert.DuFfnIdeal.nD Cert.DuFfnIdeal.τ Cert.DuFfnIdeal.sig) → Buf (Elt Ideal) ℓ) : Prop :=
  True

def Pre_DuFfnRefIdeal (m : (ℓ : Loc Cert.DuFfnRefIdeal.nD Cert.DuFfnRefIdeal.τ Cert.DuFfnRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DuIn (m : (ℓ : Loc Cert.DuIn.nD Cert.DuIn.τ Cert.DuIn.sig) → Buf (Elt Bits) ℓ) : Prop :=
  True

def Pre_DuInIdeal (m : (ℓ : Loc Cert.DuInIdeal.nD Cert.DuInIdeal.τ Cert.DuInIdeal.sig) → Buf (Elt Ideal) ℓ) : Prop :=
  True

def Pre_DuInRefIdeal (m : (ℓ : Loc Cert.DuInRefIdeal.nD Cert.DuInRefIdeal.τ Cert.DuInRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_dact [hPre_finite_dact : Cert.Pre_finite_dact.Facts] (m : (ℓ : Loc Cert.DactIdeal.nD Cert.DactIdeal.τ Cert.DactIdeal.sig) → Buf (Elt Ideal) ℓ) : Prop :=
  ∀ c : Dev Cert.DactIdeal.nD,
    (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))).1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))).2.1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))).2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_finite_dact [hPre_finite_dact : Cert.Pre_finite_dact.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2))).1 = (fun _ => 1#1)
    ∧ (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2))).2.1 = (fun _ => 1#1)
    ∧ (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2))).2.2 = (fun _ => 1#1)

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_DwInBRefIdeal (m : (ℓ : Loc Cert.DwInBRefIdeal.nD Cert.DwInBRefIdeal.τ Cert.DwInBRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_DwMix (m : (ℓ : Loc Cert.DwMix.nD Cert.DwMix.τ Cert.DwMix.sig) → Buf (Elt Bits) ℓ) : Prop :=
  True

def Pre_DwMixIdeal (m : (ℓ : Loc Cert.DwMixIdeal.nD Cert.DwMixIdeal.τ Cert.DwMixIdeal.sig) → Buf (Elt Ideal) ℓ) : Prop :=
  True

def Pre_DwMixRefIdeal (m : (ℓ : Loc Cert.DwMixRefIdeal.nD Cert.DwMixRefIdeal.τ Cert.DwMixRefIdeal.sig) → Buf (Elt Ideal) ℓ) : Prop :=
  True

def Pre_DwAttn (m : (ℓ : Loc Cert.DwAttn.nD Cert.DwAttn.τ Cert.DwAttn.sig) → Buf (Elt Bits) ℓ) : Prop :=
  True

def Pre_DwAttnIdeal (m : (ℓ : Loc Cert.DwAttnIdeal.nD Cert.DwAttnIdeal.τ Cert.DwAttnIdeal.sig) → Buf (Elt Ideal) ℓ) : Prop :=
  True

def Pre_DwAttnRefIdeal (m : (ℓ : Loc Cert.DwAttnRefIdeal.nD Cert.DwAttnRefIdeal.τ Cert.DwAttnRefIdeal.sig) → Buf (Elt Ideal) ℓ) : Prop :=
  True

def Pre_DwConv (m : (ℓ : Loc Cert.DwConv.nD Cert.DwConv.τ Cert.DwConv.sig) → Buf (Elt Bits) ℓ) : Prop :=
  True

def Pre_DwConvIdeal (m : (ℓ : Loc Cert.DwConvIdeal.nD Cert.DwConvIdeal.τ Cert.DwConvIdeal.sig) → Buf (Elt Ideal) ℓ) : Prop :=
  True

def Pre_DwConvRefIdeal (m : (ℓ : Loc Cert.DwConvRefIdeal.nD Cert.DwConvRefIdeal.τ Cert.DwConvRefIdeal.sig) → Buf (Elt Ideal) ℓ) : Prop :=
  True

def Pre_DoAttn (m : (ℓ : Loc Cert.DoAttn.nD Cert.DoAttn.τ Cert.DoAttn.sig) → Buf (Elt Bits) ℓ) : Prop :=
  True

def Pre_DoAttnIdeal (m : (ℓ : Loc Cert.DoAttnIdeal.nD Cert.DoAttnIdeal.τ Cert.DoAttnIdeal.sig) → Buf (Elt Ideal) ℓ) : Prop :=
  True

def Pre_DoAttnRefIdeal (m : (ℓ : Loc Cert.DoAttnRefIdeal.nD Cert.DoAttnRefIdeal.τ Cert.DoAttnRefIdeal.sig) → Buf (Elt Ideal) ℓ) : Prop :=
  True

def Pre_Dcy (m : (ℓ : Loc Cert.Dcy.nD Cert.Dcy.τ Cert.Dcy.sig) → Buf (Elt Bits) ℓ) : Prop :=
  True

def Pre_DcyIdeal (m : (ℓ : Loc Cert.DcyIdeal.nD Cert.DcyIdeal.τ Cert.DcyIdeal.sig) → Buf (Elt Ideal) ℓ) : Prop :=
  True

def Pre_DcyRefIdeal (m : (ℓ : Loc Cert.DcyRefIdeal.nD Cert.DcyRefIdeal.τ Cert.DcyRefIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_ConvProj (m : (ℓ : Loc Cert.ConvProj.nD Cert.ConvProj.τ Cert.ConvProj.sig) → Buf (Elt Bits) ℓ) : Prop :=
  True

def Pre_ConvProjIdeal (m : (ℓ : Loc Cert.ConvProjIdeal.nD Cert.ConvProjIdeal.τ Cert.ConvProjIdeal.sig) → Buf (Elt Ideal) ℓ) : Prop :=
  True

def Pre_ConvProjRefIdeal (m : (ℓ : Loc Cert.ConvProjRefIdeal.nD Cert.ConvProjRefIdeal.τ Cert.ConvProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_RmsMix (m : (ℓ : Loc Cert.RmsMix.nD Cert.RmsMix.τ Cert.RmsMix.sig) → Buf (Elt Bits) ℓ) : Prop :=
  True

def Pre_RmsMixIdeal (m : (ℓ : Loc Cert.RmsMixIdeal.nD Cert.RmsMixIdeal.τ Cert.RmsMixIdeal.sig) → Buf (Elt Ideal) ℓ) : Prop :=
  True

def Pre_RmsMixRefIdeal (m : (ℓ : Loc Cert.RmsMixRefIdeal.nD Cert.RmsMixRefIdeal.τ Cert.RmsMixRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_RmsFfn (m : (ℓ : Loc Cert.RmsFfn.nD Cert.RmsFfn.τ Cert.RmsFfn.sig) → Buf (Elt Bits) ℓ) : Prop :=
  True

def Pre_RmsFfnIdeal (m : (ℓ : Loc Cert.RmsFfnIdeal.nD Cert.RmsFfnIdeal.τ Cert.RmsFfnIdeal.sig) → Buf (Elt Ideal) ℓ) : Prop :=
  True

def Pre_RmsFfnRefIdeal (m : (ℓ : Loc Cert.RmsFfnRefIdeal.nD Cert.RmsFfnRefIdeal.τ Cert.RmsFfnRefIdeal.sig) → Buf (Elt Ideal) ℓ) : Prop :=
  True

def Pre_RmsXattn (m : (ℓ : Loc Cert.RmsXattn.nD Cert.RmsXattn.τ Cert.RmsXattn.sig) → Buf (Elt Bits) ℓ) : Prop :=
  True

def Pre_RmsXattnIdeal (m : (ℓ : Loc Cert.RmsXattnIdeal.nD Cert.RmsXattnIdeal.τ Cert.RmsXattnIdeal.sig) → Buf (Elt Ideal) ℓ) : Prop :=
  True

def Pre_RmsXattnRefIdeal (m : (ℓ : Loc Cert.RmsXattnRefIdeal.nD Cert.RmsXattnRefIdeal.τ Cert.RmsXattnRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_XattnBwd (m : (ℓ : Loc Cert.XattnBwd.nD Cert.XattnBwd.τ Cert.XattnBwd.sig) → Buf (Elt Bits) ℓ) : Prop :=
  True

def Pre_XattnBwdIdeal (m : (ℓ : Loc Cert.XattnBwdIdeal.nD Cert.XattnBwdIdeal.τ Cert.XattnBwdIdeal.sig) → Buf (Elt Ideal) ℓ) : Prop :=
  True

def Pre_XattnBwdIdeal_finite_xattn [hPre_finite_xattn : Cert.Pre_finite_xattn.Facts] (m : (ℓ : Loc Cert.XattnBwdIdeal.nD Cert.XattnBwdIdeal.τ Cert.XattnBwdIdeal.sig) → Buf (Elt Ideal) ℓ) : Prop :=
  ∀ c : Dev Cert.XattnBwdIdeal.nD,
    (Cert.Pre_finite_xattn.fn (F := Ideal) (m ((c.tc : Thread Cert.XattnBwdIdeal.nD Cert.XattnBwdIdeal.τ).loc Cert.XattnBwdIdeal.main_arg0)) (m ((c.tc : Thread Cert.XattnBwdIdeal.nD Cert.XattnBwdIdeal.τ).loc Cert.XattnBwdIdeal.main_arg1)) (m ((c.tc : Thread Cert.XattnBwdIdeal.nD Cert.XattnBwdIdeal.τ).loc Cert.XattnBwdIdeal.main_arg2))).1 = (fun _ => 1#1)
    ∧ (Cert.Pre_finite_xattn.fn (F := Ideal) (m ((c.tc : Thread Cert.XattnBwdIdeal.nD Cert.XattnBwdIdeal.τ).loc Cert.XattnBwdIdeal.main_arg0)) (m ((c.tc : Thread Cert.XattnBwdIdeal.nD Cert.XattnBwdIdeal.τ).loc Cert.XattnBwdIdeal.main_arg1)) (m ((c.tc : Thread Cert.XattnBwdIdeal.nD Cert.XattnBwdIdeal.τ).loc Cert.XattnBwdIdeal.main_arg2))).2 = (fun _ => 1#1)

def Pre_XattnBwdRefIdeal (m : (ℓ : Loc Cert.XattnBwdRefIdeal.nD Cert.XattnBwdRefIdeal.τ Cert.XattnBwdRefIdeal.sig) → Buf (Elt Ideal) ℓ) : Prop :=
  True

def Pre_XattnBwdRefIdeal_finite_xattn [hPre_finite_xattn : Cert.Pre_finite_xattn.Facts] (m : (ℓ : Loc Cert.XattnBwdRefIdeal.nD Cert.XattnBwdRefIdeal.τ Cert.XattnBwdRefIdeal.sig) → Buf (Elt Ideal) ℓ) : Prop :=
  ∀ c : Dev Cert.XattnBwdRefIdeal.nD,
    (Cert.Pre_finite_xattn.fn (F := Ideal) (m ((c.tc : Thread Cert.XattnBwdRefIdeal.nD Cert.XattnBwdRefIdeal.τ).loc Cert.XattnBwdRefIdeal.main_arg0)) (m ((c.tc : Thread Cert.XattnBwdRefIdeal.nD Cert.XattnBwdRefIdeal.τ).loc Cert.XattnBwdRefIdeal.main_arg1)) (m ((c.tc : Thread Cert.XattnBwdRefIdeal.nD Cert.XattnBwdRefIdeal.τ).loc Cert.XattnBwdRefIdeal.main_arg2))).1 = (fun _ => 1#1)
    ∧ (Cert.Pre_finite_xattn.fn (F := Ideal) (m ((c.tc : Thread Cert.XattnBwdRefIdeal.nD Cert.XattnBwdRefIdeal.τ).loc Cert.XattnBwdRefIdeal.main_arg0)) (m ((c.tc : Thread Cert.XattnBwdRefIdeal.nD Cert.XattnBwdRefIdeal.τ).loc Cert.XattnBwdRefIdeal.main_arg1)) (m ((c.tc : Thread Cert.XattnBwdRefIdeal.nD Cert.XattnBwdRefIdeal.τ).loc Cert.XattnBwdRefIdeal.main_arg2))).2 = (fun _ => 1#1)

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_DwXo (m : (ℓ : Loc Cert.DwXo.nD Cert.DwXo.τ Cert.DwXo.sig) → Buf (Elt Bits) ℓ) : Prop :=
  True

def Pre_DwXoIdeal (m : (ℓ : Loc Cert.DwXoIdeal.nD Cert.DwXoIdeal.τ Cert.DwXoIdeal.sig) → Buf (Elt Ideal) ℓ) : Prop :=
  True

def Pre_DwXoRefIdeal (m : (ℓ : Loc Cert.DwXoRefIdeal.nD Cert.DwXoRefIdeal.τ Cert.DwXoRefIdeal.sig) → Buf (Elt Ideal) ℓ) : Prop :=
  True

def Pre_DoX (m : (ℓ : Loc Cert.DoX.nD Cert.DoX.τ Cert.DoX.sig) → Buf (Elt Bits) ℓ) : Prop :=
  True

def Pre_DoXIdeal (m : (ℓ : Loc Cert.DoXIdeal.nD Cert.DoXIdeal.τ Cert.DoXIdeal.sig) → Buf (Elt Ideal) ℓ) : Prop :=
  True

def Pre_DoXRefIdeal (m : (ℓ : Loc Cert.DoXRefIdeal.nD Cert.DoXRefIdeal.τ Cert.DoXRefIdeal.sig) → Buf (Elt Ideal) ℓ) : Prop :=
  True

def Pre_DwXq (m : (ℓ : Loc Cert.DwXq.nD Cert.DwXq.τ Cert.DwXq.sig) → Buf (Elt Bits) ℓ) : Prop :=
  True

def Pre_DwXqIdeal (m : (ℓ : Loc Cert.DwXqIdeal.nD Cert.DwXqIdeal.τ Cert.DwXqIdeal.sig) → Buf (Elt Ideal) ℓ) : Prop :=
  True

def Pre_DwXqRefIdeal (m : (ℓ : Loc Cert.DwXqRefIdeal.nD Cert.DwXqRefIdeal.τ Cert.DwXqRefIdeal.sig) → Buf (Elt Ideal) ℓ) : Prop :=
  True

def Pre_DwXkv (m : (ℓ : Loc Cert.DwXkv.nD Cert.DwXkv.τ Cert.DwXkv.sig) → Buf (Elt Bits) ℓ) : Prop :=
  True

def Pre_DwXkvIdeal (m : (ℓ : Loc Cert.DwXkvIdeal.nD Cert.DwXkvIdeal.τ Cert.DwXkvIdeal.sig) → Buf (Elt Ideal) ℓ) : Prop :=
  True

def Pre_DwXkvRefIdeal (m : (ℓ : Loc Cert.DwXkvRefIdeal.nD Cert.DwXkvRefIdeal.τ Cert.DwXkvRefIdeal.sig) → Buf (Elt Ideal) ℓ) : Prop :=
  True

def Pre_Dmem (m : (ℓ : Loc Cert.Dmem.nD Cert.Dmem.τ Cert.Dmem.sig) → Buf (Elt Bits) ℓ) : Prop :=
  True

def Pre_DmemIdeal (m : (ℓ : Loc Cert.DmemIdeal.nD Cert.DmemIdeal.τ Cert.DmemIdeal.sig) → Buf (Elt Ideal) ℓ) : Prop :=
  True

def Pre_DmemRefIdeal (m : (ℓ : Loc Cert.DmemRefIdeal.nD Cert.DmemRefIdeal.τ Cert.DmemRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamSinks (m : (ℓ : Loc Cert.AdamSinks.nD Cert.AdamSinks.τ Cert.AdamSinks.sig) → Buf (Elt Bits) ℓ) : Prop :=
  True

def Pre_AdamSinksIdeal (m : (ℓ : Loc Cert.AdamSinksIdeal.nD Cert.AdamSinksIdeal.τ Cert.AdamSinksIdeal.sig) → Buf (Elt Ideal) ℓ) : Prop :=
  True

def Pre_AdamSinksRefIdeal (m : (ℓ : Loc Cert.AdamSinksRefIdeal.nD Cert.AdamSinksRefIdeal.τ Cert.AdamSinksRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwFfn [hDwFfn : Cert.DwFfn.Facts] : Prop :=
  ∀ (m : (ℓ : Loc Cert.DwFfn.nD Cert.DwFfn.τ Cert.DwFfn.sig) → Buf (Elt Bits) ℓ) (g : Dev Cert.DwFfn.nD → PrngReg), Pre_DwFfn m →
    θ_run (Cert.DwFfn.defs (F := Bits)) (onTc (τ := Cert.DwFfn.τ) (Cert.DwFfn.main (F := Bits))) ⟨m, fun _ => 0, g⟩ (fun r => (∀ c : Dev Cert.DwFfn.nD,
      r.2.mem ((c.tc : Thread Cert.DwFfn.nD Cert.DwFfn.τ).loc Cert.DwFfn.main_arg0) = m ((c.tc : Thread Cert.DwFfn.nD Cert.DwFfn.τ).loc Cert.DwFfn.main_arg0)
      ∧ r.2.mem ((c.tc : Thread Cert.DwFfn.nD Cert.DwFfn.τ).loc Cert.DwFfn.main_arg1) = m ((c.tc : Thread Cert.DwFfn.nD Cert.DwFfn.τ).loc Cert.DwFfn.main_arg1))
      ∧ r.2.sem = fun _ => 0)

def quiescent_DwFfnIdeal [hDwFfnIdeal : Cert.DwFfnIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg), Pre_DwFfnIdeal m →
    θ_run (Cert.DwFfnIdeal.defs (F := Ideal)) (onTc (τ := Cert.DwFfnIdeal.τ) (Cert.DwFfnIdeal.main (F := Ideal))) ⟨m, fun _ => 0, g⟩ (fun r => (∀ c : Dev Cert.DwFfnIdeal.nD,
      r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
      ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ r.2.sem = fun _ => 0)

def quiescent_DwFfnRefIdeal [hDwFfnRefIdeal : Cert.DwFfnRefIdeal.Facts] : Prop :=
  ∀ (m : (ℓ : Loc Cert.DwFfnRefIdeal.nD Cert.DwFfnRefIdeal.τ Cert.DwFfnRefIdeal.sig) → Buf (Elt Ideal) ℓ) (g : Dev Cert.DwFfnRefIdeal.nD → PrngReg), Pre_DwFfnRefIdeal m →
    θ_run (Cert.DwFfnRefIdeal.defs (F := Ideal)) (onTc (τ := Cert.DwFfnRefIdeal.τ) (Cert.DwFfnRefIdeal.main (F := Ideal))) ⟨m, fun _ => 0, g⟩ (fun r => (∀ c : Dev Cert.DwFfnRefIdeal.nD,
      r.2.mem ((c.tc : Thread Cert.DwFfnRefIdeal.nD Cert.DwFfnRefIdeal.τ).loc Cert.DwFfnRefIdeal.main_arg0) = m ((c.tc : Thread Cert.DwFfnRefIdeal.nD Cert.DwFfnRefIdeal.τ).loc Cert.DwFfnRefIdeal.main_arg0)
      ∧ r.2.mem ((c.tc : Thread Cert.DwFfnRefIdeal.nD Cert.DwFfnRefIdeal.τ).loc Cert.DwFfnRefIdeal.main_arg1) = m ((c.tc : Thread Cert.DwFfnRefIdeal.nD Cert.DwFfnRefIdeal.τ).loc Cert.DwFfnRefIdeal.main_arg1))
      ∧ r.2.sem = fun _ => 0)

def quiescent_DuFfn [hDuFfn : Cert.DuFfn.Facts] : Prop :=
  ∀ (m : (ℓ : Loc Cert.DuFfn.nD Cert.DuFfn.τ Cert.DuFfn.sig) → Buf (Elt Bits) ℓ) (g : Dev Cert.DuFfn.nD → PrngReg), Pre_DuFfn m →
    θ_run (Cert.DuFfn.defs (F := Bits)) (onTc (τ := Cert.DuFfn.τ) (Cert.DuFfn.main (F := Bits))) ⟨m, fun _ => 0, g⟩ (fun r => (∀ c : Dev Cert.DuFfn.nD,
      r.2.mem ((c.tc : Thread Cert.DuFfn.nD Cert.DuFfn.τ).loc Cert.DuFfn.main_arg0) = m ((c.tc : Thread Cert.DuFfn.nD Cert.DuFfn.τ).loc Cert.DuFfn.main_arg0)
      ∧ r.2.mem ((c.tc : Thread Cert.DuFfn.nD Cert.DuFfn.τ).loc Cert.DuFfn.main_arg1) = m ((c.tc : Thread Cert.DuFfn.nD Cert.DuFfn.τ).loc Cert.DuFfn.main_arg1))
      ∧ r.2.sem = fun _ => 0)

def quiescent_DuFfnIdeal [hDuFfnIdeal : Cert.DuFfnIdeal.Facts] : Prop :=
  ∀ (m : (ℓ : Loc Cert.DuFfnIdeal.nD Cert.DuFfnIdeal.τ Cert.DuFfnIdeal.sig) → Buf (Elt Ideal) ℓ) (g : Dev Cert.DuFfnIdeal.nD → PrngReg), Pre_DuFfnIdeal m →
    θ_run (Cert.DuFfnIdeal.defs (F := Ideal)) (onTc (τ := Cert.DuFfnIdeal.τ) (Cert.DuFfnIdeal.main (F := Ideal))) ⟨m, fun _ => 0, g⟩ (fun r => (∀ c : Dev Cert.DuFfnIdeal.nD,
      r.2.mem ((c.tc : Thread Cert.DuFfnIdeal.nD Cert.DuFfnIdeal.τ).loc Cert.DuFfnIdeal.main_arg0) = m ((c.tc : Thread Cert.DuFfnIdeal.nD Cert.DuFfnIdeal.τ).loc Cert.DuFfnIdeal.main_arg0)
      ∧ r.2.mem ((c.tc : Thread Cert.DuFfnIdeal.nD Cert.DuFfnIdeal.τ).loc Cert.DuFfnIdeal.main_arg1) = m ((c.tc : Thread Cert.DuFfnIdeal.nD Cert.DuFfnIdeal.τ).loc Cert.DuFfnIdeal.main_arg1))
      ∧ r.2.sem = fun _ => 0)

def quiescent_DuFfnRefIdeal [hDuFfnRefIdeal : Cert.DuFfnRefIdeal.Facts] : Prop :=
  ∀ (m : (ℓ : Loc Cert.DuFfnRefIdeal.nD Cert.DuFfnRefIdeal.τ Cert.DuFfnRefIdeal.sig) → Buf (Elt Ideal) ℓ) (g : Dev Cert.DuFfnRefIdeal.nD → PrngReg), Pre_DuFfnRefIdeal m →
    θ_run (Cert.DuFfnRefIdeal.defs (F := Ideal)) (onTc (τ := Cert.DuFfnRefIdeal.τ) (Cert.DuFfnRefIdeal.main (F := Ideal))) ⟨m, fun _ => 0, g⟩ (fun r => (∀ c : Dev Cert.DuFfnRefIdeal.nD,
      r.2.mem ((c.tc : Thread Cert.DuFfnRefIdeal.nD Cert.DuFfnRefIdeal.τ).loc Cert.DuFfnRefIdeal.main_arg0) = m ((c.tc : Thread Cert.DuFfnRefIdeal.nD Cert.DuFfnRefIdeal.τ).loc Cert.DuFfnRefIdeal.main_arg0)
      ∧ r.2.mem ((c.tc : Thread Cert.DuFfnRefIdeal.nD Cert.DuFfnRefIdeal.τ).loc Cert.DuFfnRefIdeal.main_arg1) = m ((c.tc : Thread Cert.DuFfnRefIdeal.nD Cert.DuFfnRefIdeal.τ).loc Cert.DuFfnRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5)
      ∧ r.2.mem ((c.tc : Thread Cert.DwIn.nD Cert.DwIn.τ).loc Cert.DwIn.main_arg6) = m ((c.tc : Thread Cert.DwIn.nD Cert.DwIn.τ).loc Cert.DwIn.main_arg6)
      ∧ r.2.mem ((c.tc : Thread Cert.DwIn.nD Cert.DwIn.τ).loc Cert.DwIn.main_arg7) = m ((c.tc : Thread Cert.DwIn.nD Cert.DwIn.τ).loc Cert.DwIn.main_arg7)
      ∧ r.2.mem ((c.tc : Thread Cert.DwIn.nD Cert.DwIn.τ).loc Cert.DwIn.main_arg8) = m ((c.tc : Thread Cert.DwIn.nD Cert.DwIn.τ).loc Cert.DwIn.main_arg8))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
      ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
      ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7)
      ∧ r.2.mem ((c.tc : Thread Cert.DwInIdeal.nD Cert.DwInIdeal.τ).loc Cert.DwInIdeal.main_arg8) = m ((c.tc : Thread Cert.DwInIdeal.nD Cert.DwInIdeal.τ).loc Cert.DwInIdeal.main_arg8))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5)
      ∧ r.2.mem ((c.tc : Thread Cert.DwInRefIdeal.nD Cert.DwInRefIdeal.τ).loc Cert.DwInRefIdeal.main_arg6) = m ((c.tc : Thread Cert.DwInRefIdeal.nD Cert.DwInRefIdeal.τ).loc Cert.DwInRefIdeal.main_arg6)
      ∧ r.2.mem ((c.tc : Thread Cert.DwInRefIdeal.nD Cert.DwInRefIdeal.τ).loc Cert.DwInRefIdeal.main_arg7) = m ((c.tc : Thread Cert.DwInRefIdeal.nD Cert.DwInRefIdeal.τ).loc Cert.DwInRefIdeal.main_arg7)
      ∧ r.2.mem ((c.tc : Thread Cert.DwInRefIdeal.nD Cert.DwInRefIdeal.τ).loc Cert.DwInRefIdeal.main_arg8) = m ((c.tc : Thread Cert.DwInRefIdeal.nD Cert.DwInRefIdeal.τ).loc Cert.DwInRefIdeal.main_arg8))
      ∧ r.2.sem = fun _ => 0)

def quiescent_DuIn [hDuIn : Cert.DuIn.Facts] : Prop :=
  ∀ (m : (ℓ : Loc Cert.DuIn.nD Cert.DuIn.τ Cert.DuIn.sig) → Buf (Elt Bits) ℓ) (g : Dev Cert.DuIn.nD → PrngReg), Pre_DuIn m →
    θ_run (Cert.DuIn.defs (F := Bits)) (onTc (τ := Cert.DuIn.τ) (Cert.DuIn.main (F := Bits))) ⟨m, fun _ => 0, g⟩ (fun r => (∀ c : Dev Cert.DuIn.nD,
      r.2.mem ((c.tc : Thread Cert.DuIn.nD Cert.DuIn.τ).loc Cert.DuIn.main_arg0) = m ((c.tc : Thread Cert.DuIn.nD Cert.DuIn.τ).loc Cert.DuIn.main_arg0)
      ∧ r.2.mem ((c.tc : Thread Cert.DuIn.nD Cert.DuIn.τ).loc Cert.DuIn.main_arg1) = m ((c.tc : Thread Cert.DuIn.nD Cert.DuIn.τ).loc Cert.DuIn.main_arg1)
      ∧ r.2.mem ((c.tc : Thread Cert.DuIn.nD Cert.DuIn.τ).loc Cert.DuIn.main_arg2) = m ((c.tc : Thread Cert.DuIn.nD Cert.DuIn.τ).loc Cert.DuIn.main_arg2)
      ∧ r.2.mem ((c.tc : Thread Cert.DuIn.nD Cert.DuIn.τ).loc Cert.DuIn.main_arg3) = m ((c.tc : Thread Cert.DuIn.nD Cert.DuIn.τ).loc Cert.DuIn.main_arg3)
      ∧ r.2.mem ((c.tc : Thread Cert.DuIn.nD Cert.DuIn.τ).loc Cert.DuIn.main_arg4) = m ((c.tc : Thread Cert.DuIn.nD Cert.DuIn.τ).loc Cert.DuIn.main_arg4)
      ∧ r.2.mem ((c.tc : Thread Cert.DuIn.nD Cert.DuIn.τ).loc Cert.DuIn.main_arg5) = m ((c.tc : Thread Cert.DuIn.nD Cert.DuIn.τ).loc Cert.DuIn.main_arg5)
      ∧ r.2.mem ((c.tc : Thread Cert.DuIn.nD Cert.DuIn.τ).loc Cert.DuIn.main_arg6) = m ((c.tc : Thread Cert.DuIn.nD Cert.DuIn.τ).loc Cert.DuIn.main_arg6)
      ∧ r.2.mem ((c.tc : Thread Cert.DuIn.nD Cert.DuIn.τ).loc Cert.DuIn.main_arg7) = m ((c.tc : Thread Cert.DuIn.nD Cert.DuIn.τ).loc Cert.DuIn.main_arg7)
      ∧ r.2.mem ((c.tc : Thread Cert.DuIn.nD Cert.DuIn.τ).loc Cert.DuIn.main_arg8) = m ((c.tc : Thread Cert.DuIn.nD Cert.DuIn.τ).loc Cert.DuIn.main_arg8))
      ∧ r.2.sem = fun _ => 0)

def quiescent_DuInIdeal [hDuInIdeal : Cert.DuInIdeal.Facts] : Prop :=
  ∀ (m : (ℓ : Loc Cert.DuInIdeal.nD Cert.DuInIdeal.τ Cert.DuInIdeal.sig) → Buf (Elt Ideal) ℓ) (g : Dev Cert.DuInIdeal.nD → PrngReg), Pre_DuInIdeal m →
    θ_run (Cert.DuInIdeal.defs (F := Ideal)) (onTc (τ := Cert.DuInIdeal.τ) (Cert.DuInIdeal.main (F := Ideal))) ⟨m, fun _ => 0, g⟩ (fun r => (∀ c : Dev Cert.DuInIdeal.nD,
      r.2.mem ((c.tc : Thread Cert.DuInIdeal.nD Cert.DuInIdeal.τ).loc Cert.DuInIdeal.main_arg0) = m ((c.tc : Thread Cert.DuInIdeal.nD Cert.DuInIdeal.τ).loc Cert.DuInIdeal.main_arg0)
      ∧ r.2.mem ((c.tc : Thread Cert.DuInIdeal.nD Cert.DuInIdeal.τ).loc Cert.DuInIdeal.main_arg1) = m ((c.tc : Thread Cert.DuInIdeal.nD Cert.DuInIdeal.τ).loc Cert.DuInIdeal.main_arg1)
      ∧ r.2.mem ((c.tc : Thread Cert.DuInIdeal.nD Cert.DuInIdeal.τ).loc Cert.DuInIdeal.main_arg2) = m ((c.tc : Thread Cert.DuInIdeal.nD Cert.DuInIdeal.τ).loc Cert.DuInIdeal.main_arg2)
      ∧ r.2.mem ((c.tc : Thread Cert.DuInIdeal.nD Cert.DuInIdeal.τ).loc Cert.DuInIdeal.main_arg3) = m ((c.tc : Thread Cert.DuInIdeal.nD Cert.DuInIdeal.τ).loc Cert.DuInIdeal.main_arg3)
      ∧ r.2.mem ((c.tc : Thread Cert.DuInIdeal.nD Cert.DuInIdeal.τ).loc Cert.DuInIdeal.main_arg4) = m ((c.tc : Thread Cert.DuInIdeal.nD Cert.DuInIdeal.τ).loc Cert.DuInIdeal.main_arg4)
      ∧ r.2.mem ((c.tc : Thread Cert.DuInIdeal.nD Cert.DuInIdeal.τ).loc Cert.DuInIdeal.main_arg5) = m ((c.tc : Thread Cert.DuInIdeal.nD Cert.DuInIdeal.τ).loc Cert.DuInIdeal.main_arg5)
      ∧ r.2.mem ((c.tc : Thread Cert.DuInIdeal.nD Cert.DuInIdeal.τ).loc Cert.DuInIdeal.main_arg6) = m ((c.tc : Thread Cert.DuInIdeal.nD Cert.DuInIdeal.τ).loc Cert.DuInIdeal.main_arg6)
      ∧ r.2.mem ((c.tc : Thread Cert.DuInIdeal.nD Cert.DuInIdeal.τ).loc Cert.DuInIdeal.main_arg7) = m ((c.tc : Thread Cert.DuInIdeal.nD Cert.DuInIdeal.τ).loc Cert.DuInIdeal.main_arg7)
      ∧ r.2.mem ((c.tc : Thread Cert.DuInIdeal.nD Cert.DuInIdeal.τ).loc Cert.DuInIdeal.main_arg8) = m ((c.tc : Thread Cert.DuInIdeal.nD Cert.DuInIdeal.τ).loc Cert.DuInIdeal.main_arg8))
      ∧ r.2.sem = fun _ => 0)

def quiescent_DuInRefIdeal [hDuInRefIdeal : Cert.DuInRefIdeal.Facts] : Prop :=
  ∀ (m : (ℓ : Loc Cert.DuInRefIdeal.nD Cert.DuInRefIdeal.τ Cert.DuInRefIdeal.sig) → Buf (Elt Ideal) ℓ) (g : Dev Cert.DuInRefIdeal.nD → PrngReg), Pre_DuInRefIdeal m →
    θ_run (Cert.DuInRefIdeal.defs (F := Ideal)) (onTc (τ := Cert.DuInRefIdeal.τ) (Cert.DuInRefIdeal.main (F := Ideal))) ⟨m, fun _ => 0, g⟩ (fun r => (∀ c : Dev Cert.DuInRefIdeal.nD,
      r.2.mem ((c.tc : Thread Cert.DuInRefIdeal.nD Cert.DuInRefIdeal.τ).loc Cert.DuInRefIdeal.main_arg0) = m ((c.tc : Thread Cert.DuInRefIdeal.nD Cert.DuInRefIdeal.τ).loc Cert.DuInRefIdeal.main_arg0)
      ∧ r.2.mem ((c.tc : Thread Cert.DuInRefIdeal.nD Cert.DuInRefIdeal.τ).loc Cert.DuInRefIdeal.main_arg1) = m ((c.tc : Thread Cert.DuInRefIdeal.nD Cert.DuInRefIdeal.τ).loc Cert.DuInRefIdeal.main_arg1)
      ∧ r.2.mem ((c.tc : Thread Cert.DuInRefIdeal.nD Cert.DuInRefIdeal.τ).loc Cert.DuInRefIdeal.main_arg2) = m ((c.tc : Thread Cert.DuInRefIdeal.nD Cert.DuInRefIdeal.τ).loc Cert.DuInRefIdeal.main_arg2)
      ∧ r.2.mem ((c.tc : Thread Cert.DuInRefIdeal.nD Cert.DuInRefIdeal.τ).loc Cert.DuInRefIdeal.main_arg3) = m ((c.tc : Thread Cert.DuInRefIdeal.nD Cert.DuInRefIdeal.τ).loc Cert.DuInRefIdeal.main_arg3)
      ∧ r.2.mem ((c.tc : Thread Cert.DuInRefIdeal.nD Cert.DuInRefIdeal.τ).loc Cert.DuInRefIdeal.main_arg4) = m ((c.tc : Thread Cert.DuInRefIdeal.nD Cert.DuInRefIdeal.τ).loc Cert.DuInRefIdeal.main_arg4)
      ∧ r.2.mem ((c.tc : Thread Cert.DuInRefIdeal.nD Cert.DuInRefIdeal.τ).loc Cert.DuInRefIdeal.main_arg5) = m ((c.tc : Thread Cert.DuInRefIdeal.nD Cert.DuInRefIdeal.τ).loc Cert.DuInRefIdeal.main_arg5)
      ∧ r.2.mem ((c.tc : Thread Cert.DuInRefIdeal.nD Cert.DuInRefIdeal.τ).loc Cert.DuInRefIdeal.main_arg6) = m ((c.tc : Thread Cert.DuInRefIdeal.nD Cert.DuInRefIdeal.τ).loc Cert.DuInRefIdeal.main_arg6)
      ∧ r.2.mem ((c.tc : Thread Cert.DuInRefIdeal.nD Cert.DuInRefIdeal.τ).loc Cert.DuInRefIdeal.main_arg7) = m ((c.tc : Thread Cert.DuInRefIdeal.nD Cert.DuInRefIdeal.τ).loc Cert.DuInRefIdeal.main_arg7)
      ∧ r.2.mem ((c.tc : Thread Cert.DuInRefIdeal.nD Cert.DuInRefIdeal.τ).loc Cert.DuInRefIdeal.main_arg8) = m ((c.tc : Thread Cert.DuInRefIdeal.nD Cert.DuInRefIdeal.τ).loc Cert.DuInRefIdeal.main_arg8))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactIdeal_pre_finite_dact [hDactIdeal : Cert.DactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_dact m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_DactRefIdeal_pre_finite_dact [hDactRefIdeal : Cert.DactRefIdeal.Facts] [hPre_finite_dact : Cert.Pre_finite_dact.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_finite_dact m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1)
      ∧ r.2.mem ((c.tc : Thread Cert.DwInB.nD Cert.DwInB.τ).loc Cert.DwInB.main_arg2) = m ((c.tc : Thread Cert.DwInB.nD Cert.DwInB.τ).loc Cert.DwInB.main_arg2)
      ∧ r.2.mem ((c.tc : Thread Cert.DwInB.nD Cert.DwInB.τ).loc Cert.DwInB.main_arg3) = m ((c.tc : Thread Cert.DwInB.nD Cert.DwInB.τ).loc Cert.DwInB.main_arg3)
      ∧ r.2.mem ((c.tc : Thread Cert.DwInB.nD Cert.DwInB.τ).loc Cert.DwInB.main_arg4) = m ((c.tc : Thread Cert.DwInB.nD Cert.DwInB.τ).loc Cert.DwInB.main_arg4)
      ∧ r.2.mem ((c.tc : Thread Cert.DwInB.nD Cert.DwInB.τ).loc Cert.DwInB.main_arg5) = m ((c.tc : Thread Cert.DwInB.nD Cert.DwInB.τ).loc Cert.DwInB.main_arg5)
      ∧ r.2.mem ((c.tc : Thread Cert.DwInB.nD Cert.DwInB.τ).loc Cert.DwInB.main_arg6) = m ((c.tc : Thread Cert.DwInB.nD Cert.DwInB.τ).loc Cert.DwInB.main_arg6)
      ∧ r.2.mem ((c.tc : Thread Cert.DwInB.nD Cert.DwInB.τ).loc Cert.DwInB.main_arg7) = m ((c.tc : Thread Cert.DwInB.nD Cert.DwInB.τ).loc Cert.DwInB.main_arg7)
      ∧ r.2.mem ((c.tc : Thread Cert.DwInB.nD Cert.DwInB.τ).loc Cert.DwInB.main_arg8) = m ((c.tc : Thread Cert.DwInB.nD Cert.DwInB.τ).loc Cert.DwInB.main_arg8))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
      ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2)
      ∧ r.2.mem ((c.tc : Thread Cert.DwInBIdeal.nD Cert.DwInBIdeal.τ).loc Cert.DwInBIdeal.main_arg3) = m ((c.tc : Thread Cert.DwInBIdeal.nD Cert.DwInBIdeal.τ).loc Cert.DwInBIdeal.main_arg3)
      ∧ r.2.mem ((c.tc : Thread Cert.DwInBIdeal.nD Cert.DwInBIdeal.τ).loc Cert.DwInBIdeal.main_arg4) = m ((c.tc : Thread Cert.DwInBIdeal.nD Cert.DwInBIdeal.τ).loc Cert.DwInBIdeal.main_arg4)
      ∧ r.2.mem ((c.tc : Thread Cert.DwInBIdeal.nD Cert.DwInBIdeal.τ).loc Cert.DwInBIdeal.main_arg5) = m ((c.tc : Thread Cert.DwInBIdeal.nD Cert.DwInBIdeal.τ).loc Cert.DwInBIdeal.main_arg5)
      ∧ r.2.mem ((c.tc : Thread Cert.DwInBIdeal.nD Cert.DwInBIdeal.τ).loc Cert.DwInBIdeal.main_arg6) = m ((c.tc : Thread Cert.DwInBIdeal.nD Cert.DwInBIdeal.τ).loc Cert.DwInBIdeal.main_arg6)
      ∧ r.2.mem ((c.tc : Thread Cert.DwInBIdeal.nD Cert.DwInBIdeal.τ).loc Cert.DwInBIdeal.main_arg7) = m ((c.tc : Thread Cert.DwInBIdeal.nD Cert.DwInBIdeal.τ).loc Cert.DwInBIdeal.main_arg7)
      ∧ r.2.mem ((c.tc : Thread Cert.DwInBIdeal.nD Cert.DwInBIdeal.τ).loc Cert.DwInBIdeal.main_arg8) = m ((c.tc : Thread Cert.DwInBIdeal.nD Cert.DwInBIdeal.τ).loc Cert.DwInBIdeal.main_arg8))
      ∧ r.2.sem = fun _ => 0)

def quiescent_DwInBRefIdeal [hDwInBRefIdeal : Cert.DwInBRefIdeal.Facts] : Prop :=
  ∀ (m : (ℓ : Loc Cert.DwInBRefIdeal.nD Cert.DwInBRefIdeal.τ Cert.DwInBRefIdeal.sig) → Buf (Elt Ideal) ℓ) (g : Dev Cert.DwInBRefIdeal.nD → PrngReg), Pre_DwInBRefIdeal m →
    θ_run (Cert.DwInBRefIdeal.defs (F := Ideal)) (onTc (τ := Cert.DwInBRefIdeal.τ) (Cert.DwInBRefIdeal.main (F := Ideal))) ⟨m, fun _ => 0, g⟩ (fun r => (∀ c : Dev Cert.DwInBRefIdeal.nD,
      r.2.mem ((c.tc : Thread Cert.DwInBRefIdeal.nD Cert.DwInBRefIdeal.τ).loc Cert.DwInBRefIdeal.main_arg0) = m ((c.tc : Thread Cert.DwInBRefIdeal.nD Cert.DwInBRefIdeal.τ).loc Cert.DwInBRefIdeal.main_arg0)
      ∧ r.2.mem ((c.tc : Thread Cert.DwInBRefIdeal.nD Cert.DwInBRefIdeal.τ).loc Cert.DwInBRefIdeal.main_arg1) = m ((c.tc : Thread Cert.DwInBRefIdeal.nD Cert.DwInBRefIdeal.τ).loc Cert.DwInBRefIdeal.main_arg1)
      ∧ r.2.mem ((c.tc : Thread Cert.DwInBRefIdeal.nD Cert.DwInBRefIdeal.τ).loc Cert.DwInBRefIdeal.main_arg2) = m ((c.tc : Thread Cert.DwInBRefIdeal.nD Cert.DwInBRefIdeal.τ).loc Cert.DwInBRefIdeal.main_arg2)
      ∧ r.2.mem ((c.tc : Thread Cert.DwInBRefIdeal.nD Cert.DwInBRefIdeal.τ).loc Cert.DwInBRefIdeal.main_arg3) = m ((c.tc : Thread Cert.DwInBRefIdeal.nD Cert.DwInBRefIdeal.τ).loc Cert.DwInBRefIdeal.main_arg3)
      ∧ r.2.mem ((c.tc : Thread Cert.DwInBRefIdeal.nD Cert.DwInBRefIdeal.τ).loc Cert.DwInBRefIdeal.main_arg4) = m ((c.tc : Thread Cert.DwInBRefIdeal.nD Cert.DwInBRefIdeal.τ).loc Cert.DwInBRefIdeal.main_arg4)
      ∧ r.2.mem ((c.tc : Thread Cert.DwInBRefIdeal.nD Cert.DwInBRefIdeal.τ).loc Cert.DwInBRefIdeal.main_arg5) = m ((c.tc : Thread Cert.DwInBRefIdeal.nD Cert.DwInBRefIdeal.τ).loc Cert.DwInBRefIdeal.main_arg5)
      ∧ r.2.mem ((c.tc : Thread Cert.DwInBRefIdeal.nD Cert.DwInBRefIdeal.τ).loc Cert.DwInBRefIdeal.main_arg6) = m ((c.tc : Thread Cert.DwInBRefIdeal.nD Cert.DwInBRefIdeal.τ).loc Cert.DwInBRefIdeal.main_arg6)
      ∧ r.2.mem ((c.tc : Thread Cert.DwInBRefIdeal.nD Cert.DwInBRefIdeal.τ).loc Cert.DwInBRefIdeal.main_arg7) = m ((c.tc : Thread Cert.DwInBRefIdeal.nD Cert.DwInBRefIdeal.τ).loc Cert.DwInBRefIdeal.main_arg7)
      ∧ r.2.mem ((c.tc : Thread Cert.DwInBRefIdeal.nD Cert.DwInBRefIdeal.τ).loc Cert.DwInBRefIdeal.main_arg8) = m ((c.tc : Thread Cert.DwInBRefIdeal.nD Cert.DwInBRefIdeal.τ).loc Cert.DwInBRefIdeal.main_arg8))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_DwMix [hDwMix : Cert.DwMix.Facts] : Prop :=
  ∀ (m : (ℓ : Loc Cert.DwMix.nD Cert.DwMix.τ Cert.DwMix.sig) → Buf (Elt Bits) ℓ) (g : Dev Cert.DwMix.nD → PrngReg), Pre_DwMix m →
    θ_run (Cert.DwMix.defs (F := Bits)) (onTc (τ := Cert.DwMix.τ) (Cert.DwMix.main (F := Bits))) ⟨m, fun _ => 0, g⟩ (fun r => (∀ c : Dev Cert.DwMix.nD,
      r.2.mem ((c.tc : Thread Cert.DwMix.nD Cert.DwMix.τ).loc Cert.DwMix.main_arg0) = m ((c.tc : Thread Cert.DwMix.nD Cert.DwMix.τ).loc Cert.DwMix.main_arg0)
      ∧ r.2.mem ((c.tc : Thread Cert.DwMix.nD Cert.DwMix.τ).loc Cert.DwMix.main_arg1) = m ((c.tc : Thread Cert.DwMix.nD Cert.DwMix.τ).loc Cert.DwMix.main_arg1))
      ∧ r.2.sem = fun _ => 0)

def quiescent_DwMixIdeal [hDwMixIdeal : Cert.DwMixIdeal.Facts] : Prop :=
  ∀ (m : (ℓ : Loc Cert.DwMixIdeal.nD Cert.DwMixIdeal.τ Cert.DwMixIdeal.sig) → Buf (Elt Ideal) ℓ) (g : Dev Cert.DwMixIdeal.nD → PrngReg), Pre_DwMixIdeal m →
    θ_run (Cert.DwMixIdeal.defs (F := Ideal)) (onTc (τ := Cert.DwMixIdeal.τ) (Cert.DwMixIdeal.main (F := Ideal))) ⟨m, fun _ => 0, g⟩ (fun r => (∀ c : Dev Cert.DwMixIdeal.nD,
      r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
      ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ r.2.sem = fun _ => 0)

def quiescent_DwMixRefIdeal [hDwMixRefIdeal : Cert.DwMixRefIdeal.Facts] : Prop :=
  ∀ (m : (ℓ : Loc Cert.DwMixRefIdeal.nD Cert.DwMixRefIdeal.τ Cert.DwMixRefIdeal.sig) → Buf (Elt Ideal) ℓ) (g : Dev Cert.DwMixRefIdeal.nD → PrngReg), Pre_DwMixRefIdeal m →
    θ_run (Cert.DwMixRefIdeal.defs (F := Ideal)) (onTc (τ := Cert.DwMixRefIdeal.τ) (Cert.DwMixRefIdeal.main (F := Ideal))) ⟨m, fun _ => 0, g⟩ (fun r => (∀ c : Dev Cert.DwMixRefIdeal.nD,
      r.2.mem ((c.tc : Thread Cert.DwMixRefIdeal.nD Cert.DwMixRefIdeal.τ).loc Cert.DwMixRefIdeal.main_arg0) = m ((c.tc : Thread Cert.DwMixRefIdeal.nD Cert.DwMixRefIdeal.τ).loc Cert.DwMixRefIdeal.main_arg0)
      ∧ r.2.mem ((c.tc : Thread Cert.DwMixRefIdeal.nD Cert.DwMixRefIdeal.τ).loc Cert.DwMixRefIdeal.main_arg1) = m ((c.tc : Thread Cert.DwMixRefIdeal.nD Cert.DwMixRefIdeal.τ).loc Cert.DwMixRefIdeal.main_arg1))
      ∧ r.2.sem = fun _ => 0)

def quiescent_DwAttn [hDwAttn : Cert.DwAttn.Facts] : Prop :=
  ∀ (m : (ℓ : Loc Cert.DwAttn.nD Cert.DwAttn.τ Cert.DwAttn.sig) → Buf (Elt Bits) ℓ) (g : Dev Cert.DwAttn.nD → PrngReg), Pre_DwAttn m →
    θ_run (Cert.DwAttn.defs (F := Bits)) (onTc (τ := Cert.DwAttn.τ) (Cert.DwAttn.main (F := Bits))) ⟨m, fun _ => 0, g⟩ (fun r => (∀ c : Dev Cert.DwAttn.nD,
      r.2.mem ((c.tc : Thread Cert.DwAttn.nD Cert.DwAttn.τ).loc Cert.DwAttn.main_arg0) = m ((c.tc : Thread Cert.DwAttn.nD Cert.DwAttn.τ).loc Cert.DwAttn.main_arg0)
      ∧ r.2.mem ((c.tc : Thread Cert.DwAttn.nD Cert.DwAttn.τ).loc Cert.DwAttn.main_arg1) = m ((c.tc : Thread Cert.DwAttn.nD Cert.DwAttn.τ).loc Cert.DwAttn.main_arg1))
      ∧ r.2.sem = fun _ => 0)

def quiescent_DwAttnIdeal [hDwAttnIdeal : Cert.DwAttnIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg), Pre_DwAttnIdeal m →
    θ_run (Cert.DwAttnIdeal.defs (F := Ideal)) (onTc (τ := Cert.DwAttnIdeal.τ) (Cert.DwAttnIdeal.main (F := Ideal))) ⟨m, fun _ => 0, g⟩ (fun r => (∀ c : Dev Cert.DwAttnIdeal.nD,
      r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
      ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1))
      ∧ r.2.sem = fun _ => 0)

def quiescent_DwAttnRefIdeal [hDwAttnRefIdeal : Cert.DwAttnRefIdeal.Facts] : Prop :=
  ∀ (m : (ℓ : Loc Cert.DwAttnRefIdeal.nD Cert.DwAttnRefIdeal.τ Cert.DwAttnRefIdeal.sig) → Buf (Elt Ideal) ℓ) (g : Dev Cert.DwAttnRefIdeal.nD → PrngReg), Pre_DwAttnRefIdeal m →
    θ_run (Cert.DwAttnRefIdeal.defs (F := Ideal)) (onTc (τ := Cert.DwAttnRefIdeal.τ) (Cert.DwAttnRefIdeal.main (F := Ideal))) ⟨m, fun _ => 0, g⟩ (fun r => (∀ c : Dev Cert.DwAttnRefIdeal.nD,
      r.2.mem ((c.tc : Thread Cert.DwAttnRefIdeal.nD Cert.DwAttnRefIdeal.τ).loc Cert.DwAttnRefIdeal.main_arg0) = m ((c.tc : Thread Cert.DwAttnRefIdeal.nD Cert.DwAttnRefIdeal.τ).loc Cert.DwAttnRefIdeal.main_arg0)
      ∧ r.2.mem ((c.tc : Thread Cert.DwAttnRefIdeal.nD Cert.DwAttnRefIdeal.τ).loc Cert.DwAttnRefIdeal.main_arg1) = m ((c.tc : Thread Cert.DwAttnRefIdeal.nD Cert.DwAttnRefIdeal.τ).loc Cert.DwAttnRefIdeal.main_arg1))
      ∧ r.2.sem = fun _ => 0)

def quiescent_DwConv [hDwConv : Cert.DwConv.Facts] : Prop :=
  ∀ (m : (ℓ : Loc Cert.DwConv.nD Cert.DwConv.τ Cert.DwConv.sig) → Buf (Elt Bits) ℓ) (g : Dev Cert.DwConv.nD → PrngReg), Pre_DwConv m →
    θ_run (Cert.DwConv.defs (F := Bits)) (onTc (τ := Cert.DwConv.τ) (Cert.DwConv.main (F := Bits))) ⟨m, fun _ => 0, g⟩ (fun r => (∀ c : Dev Cert.DwConv.nD,
      r.2.mem ((c.tc : Thread Cert.DwConv.nD Cert.DwConv.τ).loc Cert.DwConv.main_arg0) = m ((c.tc : Thread Cert.DwConv.nD Cert.DwConv.τ).loc Cert.DwConv.main_arg0)
      ∧ r.2.mem ((c.tc : Thread Cert.DwConv.nD Cert.DwConv.τ).loc Cert.DwConv.main_arg1) = m ((c.tc : Thread Cert.DwConv.nD Cert.DwConv.τ).loc Cert.DwConv.main_arg1))
      ∧ r.2.sem = fun _ => 0)

def quiescent_DwConvIdeal [hDwConvIdeal : Cert.DwConvIdeal.Facts] : Prop :=
  ∀ (m : (ℓ : Loc Cert.DwConvIdeal.nD Cert.DwConvIdeal.τ Cert.DwConvIdeal.sig) → Buf (Elt Ideal) ℓ) (g : Dev Cert.DwConvIdeal.nD → PrngReg), Pre_DwConvIdeal m →
    θ_run (Cert.DwConvIdeal.defs (F := Ideal)) (onTc (τ := Cert.DwConvIdeal.τ) (Cert.DwConvIdeal.main (F := Ideal))) ⟨m, fun _ => 0, g⟩ (fun r => (∀ c : Dev Cert.DwConvIdeal.nD,
      r.2.mem ((c.tc : Thread Cert.DwConvIdeal.nD Cert.DwConvIdeal.τ).loc Cert.DwConvIdeal.main_arg0) = m ((c.tc : Thread Cert.DwConvIdeal.nD Cert.DwConvIdeal.τ).loc Cert.DwConvIdeal.main_arg0)
      ∧ r.2.mem ((c.tc : Thread Cert.DwConvIdeal.nD Cert.DwConvIdeal.τ).loc Cert.DwConvIdeal.main_arg1) = m ((c.tc : Thread Cert.DwConvIdeal.nD Cert.DwConvIdeal.τ).loc Cert.DwConvIdeal.main_arg1))
      ∧ r.2.sem = fun _ => 0)

def quiescent_DwConvRefIdeal [hDwConvRefIdeal : Cert.DwConvRefIdeal.Facts] : Prop :=
  ∀ (m : (ℓ : Loc Cert.DwConvRefIdeal.nD Cert.DwConvRefIdeal.τ Cert.DwConvRefIdeal.sig) → Buf (Elt Ideal) ℓ) (g : Dev Cert.DwConvRefIdeal.nD → PrngReg), Pre_DwConvRefIdeal m →
    θ_run (Cert.DwConvRefIdeal.defs (F := Ideal)) (onTc (τ := Cert.DwConvRefIdeal.τ) (Cert.DwConvRefIdeal.main (F := Ideal))) ⟨m, fun _ => 0, g⟩ (fun r => (∀ c : Dev Cert.DwConvRefIdeal.nD,
      r.2.mem ((c.tc : Thread Cert.DwConvRefIdeal.nD Cert.DwConvRefIdeal.τ).loc Cert.DwConvRefIdeal.main_arg0) = m ((c.tc : Thread Cert.DwConvRefIdeal.nD Cert.DwConvRefIdeal.τ).loc Cert.DwConvRefIdeal.main_arg0)
      ∧ r.2.mem ((c.tc : Thread Cert.DwConvRefIdeal.nD Cert.DwConvRefIdeal.τ).loc Cert.DwConvRefIdeal.main_arg1) = m ((c.tc : Thread Cert.DwConvRefIdeal.nD Cert.DwConvRefIdeal.τ).loc Cert.DwConvRefIdeal.main_arg1))
      ∧ r.2.sem = fun _ => 0)

def quiescent_DoAttn [hDoAttn : Cert.DoAttn.Facts] : Prop :=
  ∀ (m : (ℓ : Loc Cert.DoAttn.nD Cert.DoAttn.τ Cert.DoAttn.sig) → Buf (Elt Bits) ℓ) (g : Dev Cert.DoAttn.nD → PrngReg), Pre_DoAttn m →
    θ_run (Cert.DoAttn.defs (F := Bits)) (onTc (τ := Cert.DoAttn.τ) (Cert.DoAttn.main (F := Bits))) ⟨m, fun _ => 0, g⟩ (fun r => (∀ c : Dev Cert.DoAttn.nD,
      r.2.mem ((c.tc : Thread Cert.DoAttn.nD Cert.DoAttn.τ).loc Cert.DoAttn.main_arg0) = m ((c.tc : Thread Cert.DoAttn.nD Cert.DoAttn.τ).loc Cert.DoAttn.main_arg0)
      ∧ r.2.mem ((c.tc : Thread Cert.DoAttn.nD Cert.DoAttn.τ).loc Cert.DoAttn.main_arg1) = m ((c.tc : Thread Cert.DoAttn.nD Cert.DoAttn.τ).loc Cert.DoAttn.main_arg1))
      ∧ r.2.sem = fun _ => 0)

def quiescent_DoAttnIdeal [hDoAttnIdeal : Cert.DoAttnIdeal.Facts] : Prop :=
  ∀ (m : (ℓ : Loc Cert.DoAttnIdeal.nD Cert.DoAttnIdeal.τ Cert.DoAttnIdeal.sig) → Buf (Elt Ideal) ℓ) (g : Dev Cert.DoAttnIdeal.nD → PrngReg), Pre_DoAttnIdeal m →
    θ_run (Cert.DoAttnIdeal.defs (F := Ideal)) (onTc (τ := Cert.DoAttnIdeal.τ) (Cert.DoAttnIdeal.main (F := Ideal))) ⟨m, fun _ => 0, g⟩ (fun r => (∀ c : Dev Cert.DoAttnIdeal.nD,
      r.2.mem ((c.tc : Thread Cert.DoAttnIdeal.nD Cert.DoAttnIdeal.τ).loc Cert.DoAttnIdeal.main_arg0) = m ((c.tc : Thread Cert.DoAttnIdeal.nD Cert.DoAttnIdeal.τ).loc Cert.DoAttnIdeal.main_arg0)
      ∧ r.2.mem ((c.tc : Thread Cert.DoAttnIdeal.nD Cert.DoAttnIdeal.τ).loc Cert.DoAttnIdeal.main_arg1) = m ((c.tc : Thread Cert.DoAttnIdeal.nD Cert.DoAttnIdeal.τ).loc Cert.DoAttnIdeal.main_arg1))
      ∧ r.2.sem = fun _ => 0)

def quiescent_DoAttnRefIdeal [hDoAttnRefIdeal : Cert.DoAttnRefIdeal.Facts] : Prop :=
  ∀ (m : (ℓ : Loc Cert.DoAttnRefIdeal.nD Cert.DoAttnRefIdeal.τ Cert.DoAttnRefIdeal.sig) → Buf (Elt Ideal) ℓ) (g : Dev Cert.DoAttnRefIdeal.nD → PrngReg), Pre_DoAttnRefIdeal m →
    θ_run (Cert.DoAttnRefIdeal.defs (F := Ideal)) (onTc (τ := Cert.DoAttnRefIdeal.τ) (Cert.DoAttnRefIdeal.main (F := Ideal))) ⟨m, fun _ => 0, g⟩ (fun r => (∀ c : Dev Cert.DoAttnRefIdeal.nD,
      r.2.mem ((c.tc : Thread Cert.DoAttnRefIdeal.nD Cert.DoAttnRefIdeal.τ).loc Cert.DoAttnRefIdeal.main_arg0) = m ((c.tc : Thread Cert.DoAttnRefIdeal.nD Cert.DoAttnRefIdeal.τ).loc Cert.DoAttnRefIdeal.main_arg0)
      ∧ r.2.mem ((c.tc : Thread Cert.DoAttnRefIdeal.nD Cert.DoAttnRefIdeal.τ).loc Cert.DoAttnRefIdeal.main_arg1) = m ((c.tc : Thread Cert.DoAttnRefIdeal.nD Cert.DoAttnRefIdeal.τ).loc Cert.DoAttnRefIdeal.main_arg1))
      ∧ r.2.sem = fun _ => 0)

def quiescent_Dcy [hDcy : Cert.Dcy.Facts] : Prop :=
  ∀ (m : (ℓ : Loc Cert.Dcy.nD Cert.Dcy.τ Cert.Dcy.sig) → Buf (Elt Bits) ℓ) (g : Dev Cert.Dcy.nD → PrngReg), Pre_Dcy m →
    θ_run (Cert.Dcy.defs (F := Bits)) (onTc (τ := Cert.Dcy.τ) (Cert.Dcy.main (F := Bits))) ⟨m, fun _ => 0, g⟩ (fun r => (∀ c : Dev Cert.Dcy.nD,
      r.2.mem ((c.tc : Thread Cert.Dcy.nD Cert.Dcy.τ).loc Cert.Dcy.main_arg0) = m ((c.tc : Thread Cert.Dcy.nD Cert.Dcy.τ).loc Cert.Dcy.main_arg0)
      ∧ r.2.mem ((c.tc : Thread Cert.Dcy.nD Cert.Dcy.τ).loc Cert.Dcy.main_arg1) = m ((c.tc : Thread Cert.Dcy.nD Cert.Dcy.τ).loc Cert.Dcy.main_arg1))
      ∧ r.2.sem = fun _ => 0)

def quiescent_DcyIdeal [hDcyIdeal : Cert.DcyIdeal.Facts] : Prop :=
  ∀ (m : (ℓ : Loc Cert.DcyIdeal.nD Cert.DcyIdeal.τ Cert.DcyIdeal.sig) → Buf (Elt Ideal) ℓ) (g : Dev Cert.DcyIdeal.nD → PrngReg), Pre_DcyIdeal m →
    θ_run (Cert.DcyIdeal.defs (F := Ideal)) (onTc (τ := Cert.DcyIdeal.τ) (Cert.DcyIdeal.main (F := Ideal))) ⟨m, fun _ => 0, g⟩ (fun r => (∀ c : Dev Cert.DcyIdeal.nD,
      r.2.mem ((c.tc : Thread Cert.DcyIdeal.nD Cert.DcyIdeal.τ).loc Cert.DcyIdeal.main_arg0) = m ((c.tc : Thread Cert.DcyIdeal.nD Cert.DcyIdeal.τ).loc Cert.DcyIdeal.main_arg0)
      ∧ r.2.mem ((c.tc : Thread Cert.DcyIdeal.nD Cert.DcyIdeal.τ).loc Cert.DcyIdeal.main_arg1) = m ((c.tc : Thread Cert.DcyIdeal.nD Cert.DcyIdeal.τ).loc Cert.DcyIdeal.main_arg1))
      ∧ r.2.sem = fun _ => 0)

def quiescent_DcyRefIdeal [hDcyRefIdeal : Cert.DcyRefIdeal.Facts] : Prop :=
  ∀ (m : (ℓ : Loc Cert.DcyRefIdeal.nD Cert.DcyRefIdeal.τ Cert.DcyRefIdeal.sig) → Buf (Elt Ideal) ℓ) (g : Dev Cert.DcyRefIdeal.nD → PrngReg), Pre_DcyRefIdeal m →
    θ_run (Cert.DcyRefIdeal.defs (F := Ideal)) (onTc (τ := Cert.DcyRefIdeal.τ) (Cert.DcyRefIdeal.main (F := Ideal))) ⟨m, fun _ => 0, g⟩ (fun r => (∀ c : Dev Cert.DcyRefIdeal.nD,
      r.2.mem ((c.tc : Thread Cert.DcyRefIdeal.nD Cert.DcyRefIdeal.τ).loc Cert.DcyRefIdeal.main_arg0) = m ((c.tc : Thread Cert.DcyRefIdeal.nD Cert.DcyRefIdeal.τ).loc Cert.DcyRefIdeal.main_arg0)
      ∧ r.2.mem ((c.tc : Thread Cert.DcyRefIdeal.nD Cert.DcyRefIdeal.τ).loc Cert.DcyRefIdeal.main_arg1) = m ((c.tc : Thread Cert.DcyRefIdeal.nD Cert.DcyRefIdeal.τ).loc Cert.DcyRefIdeal.main_arg1))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1))
      ∧ r.2.sem = fun _ => 0)

def quiescent_ConvProj [hConvProj : Cert.ConvProj.Facts] : Prop :=
  ∀ (m : (ℓ : Loc Cert.ConvProj.nD Cert.ConvProj.τ Cert.ConvProj.sig) → Buf (Elt Bits) ℓ) (g : Dev Cert.ConvProj.nD → PrngReg), Pre_ConvProj m →
    θ_run (Cert.ConvProj.defs (F := Bits)) (onTc (τ := Cert.ConvProj.τ) (Cert.ConvProj.main (F := Bits))) ⟨m, fun _ => 0, g⟩ (fun r => (∀ c : Dev Cert.ConvProj.nD,
      r.2.mem ((c.tc : Thread Cert.ConvProj.nD Cert.ConvProj.τ).loc Cert.ConvProj.main_arg0) = m ((c.tc : Thread Cert.ConvProj.nD Cert.ConvProj.τ).loc Cert.ConvProj.main_arg0)
      ∧ r.2.mem ((c.tc : Thread Cert.ConvProj.nD Cert.ConvProj.τ).loc Cert.ConvProj.main_arg1) = m ((c.tc : Thread Cert.ConvProj.nD Cert.ConvProj.τ).loc Cert.ConvProj.main_arg1)
      ∧ r.2.mem ((c.tc : Thread Cert.ConvProj.nD Cert.ConvProj.τ).loc Cert.ConvProj.main_arg2) = m ((c.tc : Thread Cert.ConvProj.nD Cert.ConvProj.τ).loc Cert.ConvProj.main_arg2)
      ∧ r.2.mem ((c.tc : Thread Cert.ConvProj.nD Cert.ConvProj.τ).loc Cert.ConvProj.main_arg3) = m ((c.tc : Thread Cert.ConvProj.nD Cert.ConvProj.τ).loc Cert.ConvProj.main_arg3))
      ∧ r.2.sem = fun _ => 0)

def quiescent_ConvProjIdeal [hConvProjIdeal : Cert.ConvProjIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg), Pre_ConvProjIdeal m →
    θ_run (Cert.ConvProjIdeal.defs (F := Ideal)) (onTc (τ := Cert.ConvProjIdeal.τ) (Cert.ConvProjIdeal.main (F := Ideal))) ⟨m, fun _ => 0, g⟩ (fun r => (∀ c : Dev Cert.ConvProjIdeal.nD,
      r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
      ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
      ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2)
      ∧ r.2.mem ((c.tc : Thread Cert.ConvProjIdeal.nD Cert.ConvProjIdeal.τ).loc Cert.ConvProjIdeal.main_arg3) = m ((c.tc : Thread Cert.ConvProjIdeal.nD Cert.ConvProjIdeal.τ).loc Cert.ConvProjIdeal.main_arg3))
      ∧ r.2.sem = fun _ => 0)

def quiescent_ConvProjRefIdeal [hConvProjRefIdeal : Cert.ConvProjRefIdeal.Facts] : Prop :=
  ∀ (m : (ℓ : Loc Cert.ConvProjRefIdeal.nD Cert.ConvProjRefIdeal.τ Cert.ConvProjRefIdeal.sig) → Buf (Elt Ideal) ℓ) (g : Dev Cert.ConvProjRefIdeal.nD → PrngReg), Pre_ConvProjRefIdeal m →
    θ_run (Cert.ConvProjRefIdeal.defs (F := Ideal)) (onTc (τ := Cert.ConvProjRefIdeal.τ) (Cert.ConvProjRefIdeal.main (F := Ideal))) ⟨m, fun _ => 0, g⟩ (fun r => (∀ c : Dev Cert.ConvProjRefIdeal.nD,
      r.2.mem ((c.tc : Thread Cert.ConvProjRefIdeal.nD Cert.ConvProjRefIdeal.τ).loc Cert.ConvProjRefIdeal.main_arg0) = m ((c.tc : Thread Cert.ConvProjRefIdeal.nD Cert.ConvProjRefIdeal.τ).loc Cert.ConvProjRefIdeal.main_arg0)
      ∧ r.2.mem ((c.tc : Thread Cert.ConvProjRefIdeal.nD Cert.ConvProjRefIdeal.τ).loc Cert.ConvProjRefIdeal.main_arg1) = m ((c.tc : Thread Cert.ConvProjRefIdeal.nD Cert.ConvProjRefIdeal.τ).loc Cert.ConvProjRefIdeal.main_arg1)
      ∧ r.2.mem ((c.tc : Thread Cert.ConvProjRefIdeal.nD Cert.ConvProjRefIdeal.τ).loc Cert.ConvProjRefIdeal.main_arg2) = m ((c.tc : Thread Cert.ConvProjRefIdeal.nD Cert.ConvProjRefIdeal.τ).loc Cert.ConvProjRefIdeal.main_arg2)
      ∧ r.2.mem ((c.tc : Thread Cert.ConvProjRefIdeal.nD Cert.ConvProjRefIdeal.τ).loc Cert.ConvProjRefIdeal.main_arg3) = m ((c.tc : Thread Cert.ConvProjRefIdeal.nD Cert.ConvProjRefIdeal.τ).loc Cert.ConvProjRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_RmsMix [hRmsMix : Cert.RmsMix.Facts] : Prop :=
  ∀ (m : (ℓ : Loc Cert.RmsMix.nD Cert.RmsMix.τ Cert.RmsMix.sig) → Buf (Elt Bits) ℓ) (g : Dev Cert.RmsMix.nD → PrngReg), Pre_RmsMix m →
    θ_run (Cert.RmsMix.defs (F := Bits)) (onTc (τ := Cert.RmsMix.τ) (Cert.RmsMix.main (F := Bits))) ⟨m, fun _ => 0, g⟩ (fun r => (∀ c : Dev Cert.RmsMix.nD,
      r.2.mem ((c.tc : Thread Cert.RmsMix.nD Cert.RmsMix.τ).loc Cert.RmsMix.main_arg0) = m ((c.tc : Thread Cert.RmsMix.nD Cert.RmsMix.τ).loc Cert.RmsMix.main_arg0)
      ∧ r.2.mem ((c.tc : Thread Cert.RmsMix.nD Cert.RmsMix.τ).loc Cert.RmsMix.main_arg1) = m ((c.tc : Thread Cert.RmsMix.nD Cert.RmsMix.τ).loc Cert.RmsMix.main_arg1)
      ∧ r.2.mem ((c.tc : Thread Cert.RmsMix.nD Cert.RmsMix.τ).loc Cert.RmsMix.main_arg2) = m ((c.tc : Thread Cert.RmsMix.nD Cert.RmsMix.τ).loc Cert.RmsMix.main_arg2)
      ∧ r.2.mem ((c.tc : Thread Cert.RmsMix.nD Cert.RmsMix.τ).loc Cert.RmsMix.main_arg3) = m ((c.tc : Thread Cert.RmsMix.nD Cert.RmsMix.τ).loc Cert.RmsMix.main_arg3))
      ∧ r.2.sem = fun _ => 0)

def quiescent_RmsMixIdeal [hRmsMixIdeal : Cert.RmsMixIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg), Pre_RmsMixIdeal m →
    θ_run (Cert.RmsMixIdeal.defs (F := Ideal)) (onTc (τ := Cert.RmsMixIdeal.τ) (Cert.RmsMixIdeal.main (F := Ideal))) ⟨m, fun _ => 0, g⟩ (fun r => (∀ c : Dev Cert.RmsMixIdeal.nD,
      r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
      ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1)
      ∧ r.2.mem ((c.tc : Thread Cert.RmsMixIdeal.nD Cert.RmsMixIdeal.τ).loc Cert.RmsMixIdeal.main_arg2) = m ((c.tc : Thread Cert.RmsMixIdeal.nD Cert.RmsMixIdeal.τ).loc Cert.RmsMixIdeal.main_arg2)
      ∧ r.2.mem ((c.tc : Thread Cert.RmsMixIdeal.nD Cert.RmsMixIdeal.τ).loc Cert.RmsMixIdeal.main_arg3) = m ((c.tc : Thread Cert.RmsMixIdeal.nD Cert.RmsMixIdeal.τ).loc Cert.RmsMixIdeal.main_arg3))
      ∧ r.2.sem = fun _ => 0)

def quiescent_RmsMixRefIdeal [hRmsMixRefIdeal : Cert.RmsMixRefIdeal.Facts] : Prop :=
  ∀ (m : (ℓ : Loc Cert.RmsMixRefIdeal.nD Cert.RmsMixRefIdeal.τ Cert.RmsMixRefIdeal.sig) → Buf (Elt Ideal) ℓ) (g : Dev Cert.RmsMixRefIdeal.nD → PrngReg), Pre_RmsMixRefIdeal m →
    θ_run (Cert.RmsMixRefIdeal.defs (F := Ideal)) (onTc (τ := Cert.RmsMixRefIdeal.τ) (Cert.RmsMixRefIdeal.main (F := Ideal))) ⟨m, fun _ => 0, g⟩ (fun r => (∀ c : Dev Cert.RmsMixRefIdeal.nD,
      r.2.mem ((c.tc : Thread Cert.RmsMixRefIdeal.nD Cert.RmsMixRefIdeal.τ).loc Cert.RmsMixRefIdeal.main_arg0) = m ((c.tc : Thread Cert.RmsMixRefIdeal.nD Cert.RmsMixRefIdeal.τ).loc Cert.RmsMixRefIdeal.main_arg0)
      ∧ r.2.mem ((c.tc : Thread Cert.RmsMixRefIdeal.nD Cert.RmsMixRefIdeal.τ).loc Cert.RmsMixRefIdeal.main_arg1) = m ((c.tc : Thread Cert.RmsMixRefIdeal.nD Cert.RmsMixRefIdeal.τ).loc Cert.RmsMixRefIdeal.main_arg1)
      ∧ r.2.mem ((c.tc : Thread Cert.RmsMixRefIdeal.nD Cert.RmsMixRefIdeal.τ).loc Cert.RmsMixRefIdeal.main_arg2) = m ((c.tc : Thread Cert.RmsMixRefIdeal.nD Cert.RmsMixRefIdeal.τ).loc Cert.RmsMixRefIdeal.main_arg2)
      ∧ r.2.mem ((c.tc : Thread Cert.RmsMixRefIdeal.nD Cert.RmsMixRefIdeal.τ).loc Cert.RmsMixRefIdeal.main_arg3) = m ((c.tc : Thread Cert.RmsMixRefIdeal.nD Cert.RmsMixRefIdeal.τ).loc Cert.RmsMixRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_RmsFfn [hRmsFfn : Cert.RmsFfn.Facts] : Prop :=
  ∀ (m : (ℓ : Loc Cert.RmsFfn.nD Cert.RmsFfn.τ Cert.RmsFfn.sig) → Buf (Elt Bits) ℓ) (g : Dev Cert.RmsFfn.nD → PrngReg), Pre_RmsFfn m →
    θ_run (Cert.RmsFfn.defs (F := Bits)) (onTc (τ := Cert.RmsFfn.τ) (Cert.RmsFfn.main (F := Bits))) ⟨m, fun _ => 0, g⟩ (fun r => (∀ c : Dev Cert.RmsFfn.nD,
      r.2.mem ((c.tc : Thread Cert.RmsFfn.nD Cert.RmsFfn.τ).loc Cert.RmsFfn.main_arg0) = m ((c.tc : Thread Cert.RmsFfn.nD Cert.RmsFfn.τ).loc Cert.RmsFfn.main_arg0)
      ∧ r.2.mem ((c.tc : Thread Cert.RmsFfn.nD Cert.RmsFfn.τ).loc Cert.RmsFfn.main_arg1) = m ((c.tc : Thread Cert.RmsFfn.nD Cert.RmsFfn.τ).loc Cert.RmsFfn.main_arg1)
      ∧ r.2.mem ((c.tc : Thread Cert.RmsFfn.nD Cert.RmsFfn.τ).loc Cert.RmsFfn.main_arg2) = m ((c.tc : Thread Cert.RmsFfn.nD Cert.RmsFfn.τ).loc Cert.RmsFfn.main_arg2)
      ∧ r.2.mem ((c.tc : Thread Cert.RmsFfn.nD Cert.RmsFfn.τ).loc Cert.RmsFfn.main_arg3) = m ((c.tc : Thread Cert.RmsFfn.nD Cert.RmsFfn.τ).loc Cert.RmsFfn.main_arg3))
      ∧ r.2.sem = fun _ => 0)

def quiescent_RmsFfnIdeal [hRmsFfnIdeal : Cert.RmsFfnIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg), Pre_RmsFfnIdeal m →
    θ_run (Cert.RmsFfnIdeal.defs (F := Ideal)) (onTc (τ := Cert.RmsFfnIdeal.τ) (Cert.RmsFfnIdeal.main (F := Ideal))) ⟨m, fun _ => 0, g⟩ (fun r => (∀ c : Dev Cert.RmsFfnIdeal.nD,
      r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
      ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1)
      ∧ r.2.mem ((c.tc : Thread Cert.RmsFfnIdeal.nD Cert.RmsFfnIdeal.τ).loc Cert.RmsFfnIdeal.main_arg2) = m ((c.tc : Thread Cert.RmsFfnIdeal.nD Cert.RmsFfnIdeal.τ).loc Cert.RmsFfnIdeal.main_arg2)
      ∧ r.2.mem ((c.tc : Thread Cert.RmsFfnIdeal.nD Cert.RmsFfnIdeal.τ).loc Cert.RmsFfnIdeal.main_arg3) = m ((c.tc : Thread Cert.RmsFfnIdeal.nD Cert.RmsFfnIdeal.τ).loc Cert.RmsFfnIdeal.main_arg3))
      ∧ r.2.sem = fun _ => 0)

def quiescent_RmsFfnRefIdeal [hRmsFfnRefIdeal : Cert.RmsFfnRefIdeal.Facts] : Prop :=
  ∀ (m : (ℓ : Loc Cert.RmsFfnRefIdeal.nD Cert.RmsFfnRefIdeal.τ Cert.RmsFfnRefIdeal.sig) → Buf (Elt Ideal) ℓ) (g : Dev Cert.RmsFfnRefIdeal.nD → PrngReg), Pre_RmsFfnRefIdeal m →
    θ_run (Cert.RmsFfnRefIdeal.defs (F := Ideal)) (onTc (τ := Cert.RmsFfnRefIdeal.τ) (Cert.RmsFfnRefIdeal.main (F := Ideal))) ⟨m, fun _ => 0, g⟩ (fun r => (∀ c : Dev Cert.RmsFfnRefIdeal.nD,
      r.2.mem ((c.tc : Thread Cert.RmsFfnRefIdeal.nD Cert.RmsFfnRefIdeal.τ).loc Cert.RmsFfnRefIdeal.main_arg0) = m ((c.tc : Thread Cert.RmsFfnRefIdeal.nD Cert.RmsFfnRefIdeal.τ).loc Cert.RmsFfnRefIdeal.main_arg0)
      ∧ r.2.mem ((c.tc : Thread Cert.RmsFfnRefIdeal.nD Cert.RmsFfnRefIdeal.τ).loc Cert.RmsFfnRefIdeal.main_arg1) = m ((c.tc : Thread Cert.RmsFfnRefIdeal.nD Cert.RmsFfnRefIdeal.τ).loc Cert.RmsFfnRefIdeal.main_arg1)
      ∧ r.2.mem ((c.tc : Thread Cert.RmsFfnRefIdeal.nD Cert.RmsFfnRefIdeal.τ).loc Cert.RmsFfnRefIdeal.main_arg2) = m ((c.tc : Thread Cert.RmsFfnRefIdeal.nD Cert.RmsFfnRefIdeal.τ).loc Cert.RmsFfnRefIdeal.main_arg2)
      ∧ r.2.mem ((c.tc : Thread Cert.RmsFfnRefIdeal.nD Cert.RmsFfnRefIdeal.τ).loc Cert.RmsFfnRefIdeal.main_arg3) = m ((c.tc : Thread Cert.RmsFfnRefIdeal.nD Cert.RmsFfnRefIdeal.τ).loc Cert.RmsFfnRefIdeal.main_arg3))
      ∧ r.2.sem = fun _ => 0)

def quiescent_RmsXattn [hRmsXattn : Cert.RmsXattn.Facts] : Prop :=
  ∀ (m : (ℓ : Loc Cert.RmsXattn.nD Cert.RmsXattn.τ Cert.RmsXattn.sig) → Buf (Elt Bits) ℓ) (g : Dev Cert.RmsXattn.nD → PrngReg), Pre_RmsXattn m →
    θ_run (Cert.RmsXattn.defs (F := Bits)) (onTc (τ := Cert.RmsXattn.τ) (Cert.RmsXattn.main (F := Bits))) ⟨m, fun _ => 0, g⟩ (fun r => (∀ c : Dev Cert.RmsXattn.nD,
      r.2.mem ((c.tc : Thread Cert.RmsXattn.nD Cert.RmsXattn.τ).loc Cert.RmsXattn.main_arg0) = m ((c.tc : Thread Cert.RmsXattn.nD Cert.RmsXattn.τ).loc Cert.RmsXattn.main_arg0)
      ∧ r.2.mem ((c.tc : Thread Cert.RmsXattn.nD Cert.RmsXattn.τ).loc Cert.RmsXattn.main_arg1) = m ((c.tc : Thread Cert.RmsXattn.nD Cert.RmsXattn.τ).loc Cert.RmsXattn.main_arg1)
      ∧ r.2.mem ((c.tc : Thread Cert.RmsXattn.nD Cert.RmsXattn.τ).loc Cert.RmsXattn.main_arg2) = m ((c.tc : Thread Cert.RmsXattn.nD Cert.RmsXattn.τ).loc Cert.RmsXattn.main_arg2)
      ∧ r.2.mem ((c.tc : Thread Cert.RmsXattn.nD Cert.RmsXattn.τ).loc Cert.RmsXattn.main_arg3) = m ((c.tc : Thread Cert.RmsXattn.nD Cert.RmsXattn.τ).loc Cert.RmsXattn.main_arg3)
      ∧ r.2.mem ((c.tc : Thread Cert.RmsXattn.nD Cert.RmsXattn.τ).loc Cert.RmsXattn.main_arg4) = m ((c.tc : Thread Cert.RmsXattn.nD Cert.RmsXattn.τ).loc Cert.RmsXattn.main_arg4))
      ∧ r.2.sem = fun _ => 0)

def quiescent_RmsXattnIdeal [hRmsXattnIdeal : Cert.RmsXattnIdeal.Facts] : Prop :=
  ∀ (m : (ℓ : Loc Cert.RmsXattnIdeal.nD Cert.RmsXattnIdeal.τ Cert.RmsXattnIdeal.sig) → Buf (Elt Ideal) ℓ) (g : Dev Cert.RmsXattnIdeal.nD → PrngReg), Pre_RmsXattnIdeal m →
    θ_run (Cert.RmsXattnIdeal.defs (F := Ideal)) (onTc (τ := Cert.RmsXattnIdeal.τ) (Cert.RmsXattnIdeal.main (F := Ideal))) ⟨m, fun _ => 0, g⟩ (fun r => (∀ c : Dev Cert.RmsXattnIdeal.nD,
      r.2.mem ((c.tc : Thread Cert.RmsXattnIdeal.nD Cert.RmsXattnIdeal.τ).loc Cert.RmsXattnIdeal.main_arg0) = m ((c.tc : Thread Cert.RmsXattnIdeal.nD Cert.RmsXattnIdeal.τ).loc Cert.RmsXattnIdeal.main_arg0)
      ∧ r.2.mem ((c.tc : Thread Cert.RmsXattnIdeal.nD Cert.RmsXattnIdeal.τ).loc Cert.RmsXattnIdeal.main_arg1) = m ((c.tc : Thread Cert.RmsXattnIdeal.nD Cert.RmsXattnIdeal.τ).loc Cert.RmsXattnIdeal.main_arg1)
      ∧ r.2.mem ((c.tc : Thread Cert.RmsXattnIdeal.nD Cert.RmsXattnIdeal.τ).loc Cert.RmsXattnIdeal.main_arg2) = m ((c.tc : Thread Cert.RmsXattnIdeal.nD Cert.RmsXattnIdeal.τ).loc Cert.RmsXattnIdeal.main_arg2)
      ∧ r.2.mem ((c.tc : Thread Cert.RmsXattnIdeal.nD Cert.RmsXattnIdeal.τ).loc Cert.RmsXattnIdeal.main_arg3) = m ((c.tc : Thread Cert.RmsXattnIdeal.nD Cert.RmsXattnIdeal.τ).loc Cert.RmsXattnIdeal.main_arg3)
      ∧ r.2.mem ((c.tc : Thread Cert.RmsXattnIdeal.nD Cert.RmsXattnIdeal.τ).loc Cert.RmsXattnIdeal.main_arg4) = m ((c.tc : Thread Cert.RmsXattnIdeal.nD Cert.RmsXattnIdeal.τ).loc Cert.RmsXattnIdeal.main_arg4))
      ∧ r.2.sem = fun _ => 0)

def quiescent_RmsXattnRefIdeal [hRmsXattnRefIdeal : Cert.RmsXattnRefIdeal.Facts] : Prop :=
  ∀ (m : (ℓ : Loc Cert.RmsXattnRefIdeal.nD Cert.RmsXattnRefIdeal.τ Cert.RmsXattnRefIdeal.sig) → Buf (Elt Ideal) ℓ) (g : Dev Cert.RmsXattnRefIdeal.nD → PrngReg), Pre_RmsXattnRefIdeal m →
    θ_run (Cert.RmsXattnRefIdeal.defs (F := Ideal)) (onTc (τ := Cert.RmsXattnRefIdeal.τ) (Cert.RmsXattnRefIdeal.main (F := Ideal))) ⟨m, fun _ => 0, g⟩ (fun r => (∀ c : Dev Cert.RmsXattnRefIdeal.nD,
      r.2.mem ((c.tc : Thread Cert.RmsXattnRefIdeal.nD Cert.RmsXattnRefIdeal.τ).loc Cert.RmsXattnRefIdeal.main_arg0) = m ((c.tc : Thread Cert.RmsXattnRefIdeal.nD Cert.RmsXattnRefIdeal.τ).loc Cert.RmsXattnRefIdeal.main_arg0)
      ∧ r.2.mem ((c.tc : Thread Cert.RmsXattnRefIdeal.nD Cert.RmsXattnRefIdeal.τ).loc Cert.RmsXattnRefIdeal.main_arg1) = m ((c.tc : Thread Cert.RmsXattnRefIdeal.nD Cert.RmsXattnRefIdeal.τ).loc Cert.RmsXattnRefIdeal.main_arg1)
      ∧ r.2.mem ((c.tc : Thread Cert.RmsXattnRefIdeal.nD Cert.RmsXattnRefIdeal.τ).loc Cert.RmsXattnRefIdeal.main_arg2) = m ((c.tc : Thread Cert.RmsXattnRefIdeal.nD Cert.RmsXattnRefIdeal.τ).loc Cert.RmsXattnRefIdeal.main_arg2)
      ∧ r.2.mem ((c.tc : Thread Cert.RmsXattnRefIdeal.nD Cert.RmsXattnRefIdeal.τ).loc Cert.RmsXattnRefIdeal.main_arg3) = m ((c.tc : Thread Cert.RmsXattnRefIdeal.nD Cert.RmsXattnRefIdeal.τ).loc Cert.RmsXattnRefIdeal.main_arg3)
      ∧ r.2.mem ((c.tc : Thread Cert.RmsXattnRefIdeal.nD Cert.RmsXattnRefIdeal.τ).loc Cert.RmsXattnRefIdeal.main_arg4) = m ((c.tc : Thread Cert.RmsXattnRefIdeal.nD Cert.RmsXattnRefIdeal.τ).loc Cert.RmsXattnRefIdeal.main_arg4))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1)
      ∧ r.2.mem ((c.tc : Thread Cert.RmsMem.nD Cert.RmsMem.τ).loc Cert.RmsMem.main_arg2) = m ((c.tc : Thread Cert.RmsMem.nD Cert.RmsMem.τ).loc Cert.RmsMem.main_arg2))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
      ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1)
      ∧ r.2.mem ((c.tc : Thread Cert.RmsMemRefIdeal.nD Cert.RmsMemRefIdeal.τ).loc Cert.RmsMemRefIdeal.main_arg2) = m ((c.tc : Thread Cert.RmsMemRefIdeal.nD Cert.RmsMemRefIdeal.τ).loc Cert.RmsMemRefIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1))
      ∧ r.2.sem = fun _ => 0)

def quiescent_XattnBwd [hXattnBwd : Cert.XattnBwd.Facts] : Prop :=
  ∀ (m : (ℓ : Loc Cert.XattnBwd.nD Cert.XattnBwd.τ Cert.XattnBwd.sig) → Buf (Elt Bits) ℓ) (g : Dev Cert.XattnBwd.nD → PrngReg), Pre_XattnBwd m →
    θ_run (Cert.XattnBwd.defs (F := Bits)) (onTc (τ := Cert.XattnBwd.τ) (Cert.XattnBwd.main (F := Bits))) ⟨m, fun _ => 0, g⟩ (fun r => (∀ c : Dev Cert.XattnBwd.nD,
      r.2.mem ((c.tc : Thread Cert.XattnBwd.nD Cert.XattnBwd.τ).loc Cert.XattnBwd.main_arg0) = m ((c.tc : Thread Cert.XattnBwd.nD Cert.XattnBwd.τ).loc Cert.XattnBwd.main_arg0)
      ∧ r.2.mem ((c.tc : Thread Cert.XattnBwd.nD Cert.XattnBwd.τ).loc Cert.XattnBwd.main_arg1) = m ((c.tc : Thread Cert.XattnBwd.nD Cert.XattnBwd.τ).loc Cert.XattnBwd.main_arg1)
      ∧ r.2.mem ((c.tc : Thread Cert.XattnBwd.nD Cert.XattnBwd.τ).loc Cert.XattnBwd.main_arg2) = m ((c.tc : Thread Cert.XattnBwd.nD Cert.XattnBwd.τ).loc Cert.XattnBwd.main_arg2))
      ∧ r.2.sem = fun _ => 0)

def quiescent_XattnBwdIdeal [hXattnBwdIdeal : Cert.XattnBwdIdeal.Facts] : Prop :=
  ∀ (m : (ℓ : Loc Cert.XattnBwdIdeal.nD Cert.XattnBwdIdeal.τ Cert.XattnBwdIdeal.sig) → Buf (Elt Ideal) ℓ) (g : Dev Cert.XattnBwdIdeal.nD → PrngReg), Pre_XattnBwdIdeal m →
    θ_run (Cert.XattnBwdIdeal.defs (F := Ideal)) (onTc (τ := Cert.XattnBwdIdeal.τ) (Cert.XattnBwdIdeal.main (F := Ideal))) ⟨m, fun _ => 0, g⟩ (fun r => (∀ c : Dev Cert.XattnBwdIdeal.nD,
      r.2.mem ((c.tc : Thread Cert.XattnBwdIdeal.nD Cert.XattnBwdIdeal.τ).loc Cert.XattnBwdIdeal.main_arg0) = m ((c.tc : Thread Cert.XattnBwdIdeal.nD Cert.XattnBwdIdeal.τ).loc Cert.XattnBwdIdeal.main_arg0)
      ∧ r.2.mem ((c.tc : Thread Cert.XattnBwdIdeal.nD Cert.XattnBwdIdeal.τ).loc Cert.XattnBwdIdeal.main_arg1) = m ((c.tc : Thread Cert.XattnBwdIdeal.nD Cert.XattnBwdIdeal.τ).loc Cert.XattnBwdIdeal.main_arg1)
      ∧ r.2.mem ((c.tc : Thread Cert.XattnBwdIdeal.nD Cert.XattnBwdIdeal.τ).loc Cert.XattnBwdIdeal.main_arg2) = m ((c.tc : Thread Cert.XattnBwdIdeal.nD Cert.XattnBwdIdeal.τ).loc Cert.XattnBwdIdeal.main_arg2))
      ∧ r.2.sem = fun _ => 0)

def quiescent_XattnBwdIdeal_pre_finite_xattn [hXattnBwdIdeal : Cert.XattnBwdIdeal.Facts] [hPre_finite_xattn : Cert.Pre_finite_xattn.Facts] : Prop :=
  ∀ (m : (ℓ : Loc Cert.XattnBwdIdeal.nD Cert.XattnBwdIdeal.τ Cert.XattnBwdIdeal.sig) → Buf (Elt Ideal) ℓ) (g : Dev Cert.XattnBwdIdeal.nD → PrngReg), Pre_XattnBwdIdeal_finite_xattn m →
    θ_run (Cert.XattnBwdIdeal.defs (F := Ideal)) (onTc (τ := Cert.XattnBwdIdeal.τ) (Cert.XattnBwdIdeal.main (F := Ideal))) ⟨m, fun _ => 0, g⟩ (fun r => (∀ c : Dev Cert.XattnBwdIdeal.nD,
      r.2.mem ((c.tc : Thread Cert.XattnBwdIdeal.nD Cert.XattnBwdIdeal.τ).loc Cert.XattnBwdIdeal.main_arg0) = m ((c.tc : Thread Cert.XattnBwdIdeal.nD Cert.XattnBwdIdeal.τ).loc Cert.XattnBwdIdeal.main_arg0)
      ∧ r.2.mem ((c.tc : Thread Cert.XattnBwdIdeal.nD Cert.XattnBwdIdeal.τ).loc Cert.XattnBwdIdeal.main_arg1) = m ((c.tc : Thread Cert.XattnBwdIdeal.nD Cert.XattnBwdIdeal.τ).loc Cert.XattnBwdIdeal.main_arg1)
      ∧ r.2.mem ((c.tc : Thread Cert.XattnBwdIdeal.nD Cert.XattnBwdIdeal.τ).loc Cert.XattnBwdIdeal.main_arg2) = m ((c.tc : Thread Cert.XattnBwdIdeal.nD Cert.XattnBwdIdeal.τ).loc Cert.XattnBwdIdeal.main_arg2))
      ∧ r.2.sem = fun _ => 0)

def quiescent_XattnBwdRefIdeal [hXattnBwdRefIdeal : Cert.XattnBwdRefIdeal.Facts] : Prop :=
  ∀ (m : (ℓ : Loc Cert.XattnBwdRefIdeal.nD Cert.XattnBwdRefIdeal.τ Cert.XattnBwdRefIdeal.sig) → Buf (Elt Ideal) ℓ) (g : Dev Cert.XattnBwdRefIdeal.nD → PrngReg), Pre_XattnBwdRefIdeal m →
    θ_run (Cert.XattnBwdRefIdeal.defs (F := Ideal)) (onTc (τ := Cert.XattnBwdRefIdeal.τ) (Cert.XattnBwdRefIdeal.main (F := Ideal))) ⟨m, fun _ => 0, g⟩ (fun r => (∀ c : Dev Cert.XattnBwdRefIdeal.nD,
      r.2.mem ((c.tc : Thread Cert.XattnBwdRefIdeal.nD Cert.XattnBwdRefIdeal.τ).loc Cert.XattnBwdRefIdeal.main_arg0) = m ((c.tc : Thread Cert.XattnBwdRefIdeal.nD Cert.XattnBwdRefIdeal.τ).loc Cert.XattnBwdRefIdeal.main_arg0)
      ∧ r.2.mem ((c.tc : Thread Cert.XattnBwdRefIdeal.nD Cert.XattnBwdRefIdeal.τ).loc Cert.XattnBwdRefIdeal.main_arg1) = m ((c.tc : Thread Cert.XattnBwdRefIdeal.nD Cert.XattnBwdRefIdeal.τ).loc Cert.XattnBwdRefIdeal.main_arg1)
      ∧ r.2.mem ((c.tc : Thread Cert.XattnBwdRefIdeal.nD Cert.XattnBwdRefIdeal.τ).loc Cert.XattnBwdRefIdeal.main_arg2) = m ((c.tc : Thread Cert.XattnBwdRefIdeal.nD Cert.XattnBwdRefIdeal.τ).loc Cert.XattnBwdRefIdeal.main_arg2))
      ∧ r.2.sem = fun _ => 0)

def quiescent_XattnBwdRefIdeal_pre_finite_xattn [hXattnBwdRefIdeal : Cert.XattnBwdRefIdeal.Facts] [hPre_finite_xattn : Cert.Pre_finite_xattn.Facts] : Prop :=
  ∀ (m : (ℓ : Loc Cert.XattnBwdRefIdeal.nD Cert.XattnBwdRefIdeal.τ Cert.XattnBwdRefIdeal.sig) → Buf (Elt Ideal) ℓ) (g : Dev Cert.XattnBwdRefIdeal.nD → PrngReg), Pre_XattnBwdRefIdeal_finite_xattn m →
    θ_run (Cert.XattnBwdRefIdeal.defs (F := Ideal)) (onTc (τ := Cert.XattnBwdRefIdeal.τ) (Cert.XattnBwdRefIdeal.main (F := Ideal))) ⟨m, fun _ => 0, g⟩ (fun r => (∀ c : Dev Cert.XattnBwdRefIdeal.nD,
      r.2.mem ((c.tc : Thread Cert.XattnBwdRefIdeal.nD Cert.XattnBwdRefIdeal.τ).loc Cert.XattnBwdRefIdeal.main_arg0) = m ((c.tc : Thread Cert.XattnBwdRefIdeal.nD Cert.XattnBwdRefIdeal.τ).loc Cert.XattnBwdRefIdeal.main_arg0)
      ∧ r.2.mem ((c.tc : Thread Cert.XattnBwdRefIdeal.nD Cert.XattnBwdRefIdeal.τ).loc Cert.XattnBwdRefIdeal.main_arg1) = m ((c.tc : Thread Cert.XattnBwdRefIdeal.nD Cert.XattnBwdRefIdeal.τ).loc Cert.XattnBwdRefIdeal.main_arg1)
      ∧ r.2.mem ((c.tc : Thread Cert.XattnBwdRefIdeal.nD Cert.XattnBwdRefIdeal.τ).loc Cert.XattnBwdRefIdeal.main_arg2) = m ((c.tc : Thread Cert.XattnBwdRefIdeal.nD Cert.XattnBwdRefIdeal.τ).loc Cert.XattnBwdRefIdeal.main_arg2))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2)
      ∧ r.2.mem ((c.tc : Thread Cert.Xo.nD Cert.Xo.τ).loc Cert.Xo.main_arg3) = m ((c.tc : Thread Cert.Xo.nD Cert.Xo.τ).loc Cert.Xo.main_arg3))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2)
      ∧ r.2.mem ((c.tc : Thread Cert.XoIdeal.nD Cert.XoIdeal.τ).loc Cert.XoIdeal.main_arg3) = m ((c.tc : Thread Cert.XoIdeal.nD Cert.XoIdeal.τ).loc Cert.XoIdeal.main_arg3))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2)
      ∧ r.2.mem ((c.tc : Thread Cert.XoRefIdeal.nD Cert.XoRefIdeal.τ).loc Cert.XoRefIdeal.main_arg3) = m ((c.tc : Thread Cert.XoRefIdeal.nD Cert.XoRefIdeal.τ).loc Cert.XoRefIdeal.main_arg3))
      ∧ r.2.sem = fun _ => 0)

def quiescent_DwXo [hDwXo : Cert.DwXo.Facts] : Prop :=
  ∀ (m : (ℓ : Loc Cert.DwXo.nD Cert.DwXo.τ Cert.DwXo.sig) → Buf (Elt Bits) ℓ) (g : Dev Cert.DwXo.nD → PrngReg), Pre_DwXo m →
    θ_run (Cert.DwXo.defs (F := Bits)) (onTc (τ := Cert.DwXo.τ) (Cert.DwXo.main (F := Bits))) ⟨m, fun _ => 0, g⟩ (fun r => (∀ c : Dev Cert.DwXo.nD,
      r.2.mem ((c.tc : Thread Cert.DwXo.nD Cert.DwXo.τ).loc Cert.DwXo.main_arg0) = m ((c.tc : Thread Cert.DwXo.nD Cert.DwXo.τ).loc Cert.DwXo.main_arg0)
      ∧ r.2.mem ((c.tc : Thread Cert.DwXo.nD Cert.DwXo.τ).loc Cert.DwXo.main_arg1) = m ((c.tc : Thread Cert.DwXo.nD Cert.DwXo.τ).loc Cert.DwXo.main_arg1))
      ∧ r.2.sem = fun _ => 0)

def quiescent_DwXoIdeal [hDwXoIdeal : Cert.DwXoIdeal.Facts] : Prop :=
  ∀ (m : (ℓ : Loc Cert.DwXoIdeal.nD Cert.DwXoIdeal.τ Cert.DwXoIdeal.sig) → Buf (Elt Ideal) ℓ) (g : Dev Cert.DwXoIdeal.nD → PrngReg), Pre_DwXoIdeal m →
    θ_run (Cert.DwXoIdeal.defs (F := Ideal)) (onTc (τ := Cert.DwXoIdeal.τ) (Cert.DwXoIdeal.main (F := Ideal))) ⟨m, fun _ => 0, g⟩ (fun r => (∀ c : Dev Cert.DwXoIdeal.nD,
      r.2.mem ((c.tc : Thread Cert.DwXoIdeal.nD Cert.DwXoIdeal.τ).loc Cert.DwXoIdeal.main_arg0) = m ((c.tc : Thread Cert.DwXoIdeal.nD Cert.DwXoIdeal.τ).loc Cert.DwXoIdeal.main_arg0)
      ∧ r.2.mem ((c.tc : Thread Cert.DwXoIdeal.nD Cert.DwXoIdeal.τ).loc Cert.DwXoIdeal.main_arg1) = m ((c.tc : Thread Cert.DwXoIdeal.nD Cert.DwXoIdeal.τ).loc Cert.DwXoIdeal.main_arg1))
      ∧ r.2.sem = fun _ => 0)

def quiescent_DwXoRefIdeal [hDwXoRefIdeal : Cert.DwXoRefIdeal.Facts] : Prop :=
  ∀ (m : (ℓ : Loc Cert.DwXoRefIdeal.nD Cert.DwXoRefIdeal.τ Cert.DwXoRefIdeal.sig) → Buf (Elt Ideal) ℓ) (g : Dev Cert.DwXoRefIdeal.nD → PrngReg), Pre_DwXoRefIdeal m →
    θ_run (Cert.DwXoRefIdeal.defs (F := Ideal)) (onTc (τ := Cert.DwXoRefIdeal.τ) (Cert.DwXoRefIdeal.main (F := Ideal))) ⟨m, fun _ => 0, g⟩ (fun r => (∀ c : Dev Cert.DwXoRefIdeal.nD,
      r.2.mem ((c.tc : Thread Cert.DwXoRefIdeal.nD Cert.DwXoRefIdeal.τ).loc Cert.DwXoRefIdeal.main_arg0) = m ((c.tc : Thread Cert.DwXoRefIdeal.nD Cert.DwXoRefIdeal.τ).loc Cert.DwXoRefIdeal.main_arg0)
      ∧ r.2.mem ((c.tc : Thread Cert.DwXoRefIdeal.nD Cert.DwXoRefIdeal.τ).loc Cert.DwXoRefIdeal.main_arg1) = m ((c.tc : Thread Cert.DwXoRefIdeal.nD Cert.DwXoRefIdeal.τ).loc Cert.DwXoRefIdeal.main_arg1))
      ∧ r.2.sem = fun _ => 0)

def quiescent_DoX [hDoX : Cert.DoX.Facts] : Prop :=
  ∀ (m : (ℓ : Loc Cert.DoX.nD Cert.DoX.τ Cert.DoX.sig) → Buf (Elt Bits) ℓ) (g : Dev Cert.DoX.nD → PrngReg), Pre_DoX m →
    θ_run (Cert.DoX.defs (F := Bits)) (onTc (τ := Cert.DoX.τ) (Cert.DoX.main (F := Bits))) ⟨m, fun _ => 0, g⟩ (fun r => (∀ c : Dev Cert.DoX.nD,
      r.2.mem ((c.tc : Thread Cert.DoX.nD Cert.DoX.τ).loc Cert.DoX.main_arg0) = m ((c.tc : Thread Cert.DoX.nD Cert.DoX.τ).loc Cert.DoX.main_arg0)
      ∧ r.2.mem ((c.tc : Thread Cert.DoX.nD Cert.DoX.τ).loc Cert.DoX.main_arg1) = m ((c.tc : Thread Cert.DoX.nD Cert.DoX.τ).loc Cert.DoX.main_arg1))
      ∧ r.2.sem = fun _ => 0)

def quiescent_DoXIdeal [hDoXIdeal : Cert.DoXIdeal.Facts] : Prop :=
  ∀ (m : (ℓ : Loc Cert.DoXIdeal.nD Cert.DoXIdeal.τ Cert.DoXIdeal.sig) → Buf (Elt Ideal) ℓ) (g : Dev Cert.DoXIdeal.nD → PrngReg), Pre_DoXIdeal m →
    θ_run (Cert.DoXIdeal.defs (F := Ideal)) (onTc (τ := Cert.DoXIdeal.τ) (Cert.DoXIdeal.main (F := Ideal))) ⟨m, fun _ => 0, g⟩ (fun r => (∀ c : Dev Cert.DoXIdeal.nD,
      r.2.mem ((c.tc : Thread Cert.DoXIdeal.nD Cert.DoXIdeal.τ).loc Cert.DoXIdeal.main_arg0) = m ((c.tc : Thread Cert.DoXIdeal.nD Cert.DoXIdeal.τ).loc Cert.DoXIdeal.main_arg0)
      ∧ r.2.mem ((c.tc : Thread Cert.DoXIdeal.nD Cert.DoXIdeal.τ).loc Cert.DoXIdeal.main_arg1) = m ((c.tc : Thread Cert.DoXIdeal.nD Cert.DoXIdeal.τ).loc Cert.DoXIdeal.main_arg1))
      ∧ r.2.sem = fun _ => 0)

def quiescent_DoXRefIdeal [hDoXRefIdeal : Cert.DoXRefIdeal.Facts] : Prop :=
  ∀ (m : (ℓ : Loc Cert.DoXRefIdeal.nD Cert.DoXRefIdeal.τ Cert.DoXRefIdeal.sig) → Buf (Elt Ideal) ℓ) (g : Dev Cert.DoXRefIdeal.nD → PrngReg), Pre_DoXRefIdeal m →
    θ_run (Cert.DoXRefIdeal.defs (F := Ideal)) (onTc (τ := Cert.DoXRefIdeal.τ) (Cert.DoXRefIdeal.main (F := Ideal))) ⟨m, fun _ => 0, g⟩ (fun r => (∀ c : Dev Cert.DoXRefIdeal.nD,
      r.2.mem ((c.tc : Thread Cert.DoXRefIdeal.nD Cert.DoXRefIdeal.τ).loc Cert.DoXRefIdeal.main_arg0) = m ((c.tc : Thread Cert.DoXRefIdeal.nD Cert.DoXRefIdeal.τ).loc Cert.DoXRefIdeal.main_arg0)
      ∧ r.2.mem ((c.tc : Thread Cert.DoXRefIdeal.nD Cert.DoXRefIdeal.τ).loc Cert.DoXRefIdeal.main_arg1) = m ((c.tc : Thread Cert.DoXRefIdeal.nD Cert.DoXRefIdeal.τ).loc Cert.DoXRefIdeal.main_arg1))
      ∧ r.2.sem = fun _ => 0)

def quiescent_DwXq [hDwXq : Cert.DwXq.Facts] : Prop :=
  ∀ (m : (ℓ : Loc Cert.DwXq.nD Cert.DwXq.τ Cert.DwXq.sig) → Buf (Elt Bits) ℓ) (g : Dev Cert.DwXq.nD → PrngReg), Pre_DwXq m →
    θ_run (Cert.DwXq.defs (F := Bits)) (onTc (τ := Cert.DwXq.τ) (Cert.DwXq.main (F := Bits))) ⟨m, fun _ => 0, g⟩ (fun r => (∀ c : Dev Cert.DwXq.nD,
      r.2.mem ((c.tc : Thread Cert.DwXq.nD Cert.DwXq.τ).loc Cert.DwXq.main_arg0) = m ((c.tc : Thread Cert.DwXq.nD Cert.DwXq.τ).loc Cert.DwXq.main_arg0)
      ∧ r.2.mem ((c.tc : Thread Cert.DwXq.nD Cert.DwXq.τ).loc Cert.DwXq.main_arg1) = m ((c.tc : Thread Cert.DwXq.nD Cert.DwXq.τ).loc Cert.DwXq.main_arg1))
      ∧ r.2.sem = fun _ => 0)

def quiescent_DwXqIdeal [hDwXqIdeal : Cert.DwXqIdeal.Facts] : Prop :=
  ∀ (m : (ℓ : Loc Cert.DwXqIdeal.nD Cert.DwXqIdeal.τ Cert.DwXqIdeal.sig) → Buf (Elt Ideal) ℓ) (g : Dev Cert.DwXqIdeal.nD → PrngReg), Pre_DwXqIdeal m →
    θ_run (Cert.DwXqIdeal.defs (F := Ideal)) (onTc (τ := Cert.DwXqIdeal.τ) (Cert.DwXqIdeal.main (F := Ideal))) ⟨m, fun _ => 0, g⟩ (fun r => (∀ c : Dev Cert.DwXqIdeal.nD,
      r.2.mem ((c.tc : Thread Cert.DwXqIdeal.nD Cert.DwXqIdeal.τ).loc Cert.DwXqIdeal.main_arg0) = m ((c.tc : Thread Cert.DwXqIdeal.nD Cert.DwXqIdeal.τ).loc Cert.DwXqIdeal.main_arg0)
      ∧ r.2.mem ((c.tc : Thread Cert.DwXqIdeal.nD Cert.DwXqIdeal.τ).loc Cert.DwXqIdeal.main_arg1) = m ((c.tc : Thread Cert.DwXqIdeal.nD Cert.DwXqIdeal.τ).loc Cert.DwXqIdeal.main_arg1))
      ∧ r.2.sem = fun _ => 0)

def quiescent_DwXqRefIdeal [hDwXqRefIdeal : Cert.DwXqRefIdeal.Facts] : Prop :=
  ∀ (m : (ℓ : Loc Cert.DwXqRefIdeal.nD Cert.DwXqRefIdeal.τ Cert.DwXqRefIdeal.sig) → Buf (Elt Ideal) ℓ) (g : Dev Cert.DwXqRefIdeal.nD → PrngReg), Pre_DwXqRefIdeal m →
    θ_run (Cert.DwXqRefIdeal.defs (F := Ideal)) (onTc (τ := Cert.DwXqRefIdeal.τ) (Cert.DwXqRefIdeal.main (F := Ideal))) ⟨m, fun _ => 0, g⟩ (fun r => (∀ c : Dev Cert.DwXqRefIdeal.nD,
      r.2.mem ((c.tc : Thread Cert.DwXqRefIdeal.nD Cert.DwXqRefIdeal.τ).loc Cert.DwXqRefIdeal.main_arg0) = m ((c.tc : Thread Cert.DwXqRefIdeal.nD Cert.DwXqRefIdeal.τ).loc Cert.DwXqRefIdeal.main_arg0)
      ∧ r.2.mem ((c.tc : Thread Cert.DwXqRefIdeal.nD Cert.DwXqRefIdeal.τ).loc Cert.DwXqRefIdeal.main_arg1) = m ((c.tc : Thread Cert.DwXqRefIdeal.nD Cert.DwXqRefIdeal.τ).loc Cert.DwXqRefIdeal.main_arg1))
      ∧ r.2.sem = fun _ => 0)

def quiescent_DwXkv [hDwXkv : Cert.DwXkv.Facts] : Prop :=
  ∀ (m : (ℓ : Loc Cert.DwXkv.nD Cert.DwXkv.τ Cert.DwXkv.sig) → Buf (Elt Bits) ℓ) (g : Dev Cert.DwXkv.nD → PrngReg), Pre_DwXkv m →
    θ_run (Cert.DwXkv.defs (F := Bits)) (onTc (τ := Cert.DwXkv.τ) (Cert.DwXkv.main (F := Bits))) ⟨m, fun _ => 0, g⟩ (fun r => (∀ c : Dev Cert.DwXkv.nD,
      r.2.mem ((c.tc : Thread Cert.DwXkv.nD Cert.DwXkv.τ).loc Cert.DwXkv.main_arg0) = m ((c.tc : Thread Cert.DwXkv.nD Cert.DwXkv.τ).loc Cert.DwXkv.main_arg0)
      ∧ r.2.mem ((c.tc : Thread Cert.DwXkv.nD Cert.DwXkv.τ).loc Cert.DwXkv.main_arg1) = m ((c.tc : Thread Cert.DwXkv.nD Cert.DwXkv.τ).loc Cert.DwXkv.main_arg1))
      ∧ r.2.sem = fun _ => 0)

def quiescent_DwXkvIdeal [hDwXkvIdeal : Cert.DwXkvIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg), Pre_DwXkvIdeal m →
    θ_run (Cert.DwXkvIdeal.defs (F := Ideal)) (onTc (τ := Cert.DwXkvIdeal.τ) (Cert.DwXkvIdeal.main (F := Ideal))) ⟨m, fun _ => 0, g⟩ (fun r => (∀ c : Dev Cert.DwXkvIdeal.nD,
      r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
      ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1))
      ∧ r.2.sem = fun _ => 0)

def quiescent_DwXkvRefIdeal [hDwXkvRefIdeal : Cert.DwXkvRefIdeal.Facts] : Prop :=
  ∀ (m : (ℓ : Loc Cert.DwXkvRefIdeal.nD Cert.DwXkvRefIdeal.τ Cert.DwXkvRefIdeal.sig) → Buf (Elt Ideal) ℓ) (g : Dev Cert.DwXkvRefIdeal.nD → PrngReg), Pre_DwXkvRefIdeal m →
    θ_run (Cert.DwXkvRefIdeal.defs (F := Ideal)) (onTc (τ := Cert.DwXkvRefIdeal.τ) (Cert.DwXkvRefIdeal.main (F := Ideal))) ⟨m, fun _ => 0, g⟩ (fun r => (∀ c : Dev Cert.DwXkvRefIdeal.nD,
      r.2.mem ((c.tc : Thread Cert.DwXkvRefIdeal.nD Cert.DwXkvRefIdeal.τ).loc Cert.DwXkvRefIdeal.main_arg0) = m ((c.tc : Thread Cert.DwXkvRefIdeal.nD Cert.DwXkvRefIdeal.τ).loc Cert.DwXkvRefIdeal.main_arg0)
      ∧ r.2.mem ((c.tc : Thread Cert.DwXkvRefIdeal.nD Cert.DwXkvRefIdeal.τ).loc Cert.DwXkvRefIdeal.main_arg1) = m ((c.tc : Thread Cert.DwXkvRefIdeal.nD Cert.DwXkvRefIdeal.τ).loc Cert.DwXkvRefIdeal.main_arg1))
      ∧ r.2.sem = fun _ => 0)

def quiescent_Dmem [hDmem : Cert.Dmem.Facts] : Prop :=
  ∀ (m : (ℓ : Loc Cert.Dmem.nD Cert.Dmem.τ Cert.Dmem.sig) → Buf (Elt Bits) ℓ) (g : Dev Cert.Dmem.nD → PrngReg), Pre_Dmem m →
    θ_run (Cert.Dmem.defs (F := Bits)) (onTc (τ := Cert.Dmem.τ) (Cert.Dmem.main (F := Bits))) ⟨m, fun _ => 0, g⟩ (fun r => (∀ c : Dev Cert.Dmem.nD,
      r.2.mem ((c.tc : Thread Cert.Dmem.nD Cert.Dmem.τ).loc Cert.Dmem.main_arg0) = m ((c.tc : Thread Cert.Dmem.nD Cert.Dmem.τ).loc Cert.Dmem.main_arg0)
      ∧ r.2.mem ((c.tc : Thread Cert.Dmem.nD Cert.Dmem.τ).loc Cert.Dmem.main_arg1) = m ((c.tc : Thread Cert.Dmem.nD Cert.Dmem.τ).loc Cert.Dmem.main_arg1))
      ∧ r.2.sem = fun _ => 0)

def quiescent_DmemIdeal [hDmemIdeal : Cert.DmemIdeal.Facts] : Prop :=
  ∀ (m : (ℓ : Loc Cert.DmemIdeal.nD Cert.DmemIdeal.τ Cert.DmemIdeal.sig) → Buf (Elt Ideal) ℓ) (g : Dev Cert.DmemIdeal.nD → PrngReg), Pre_DmemIdeal m →
    θ_run (Cert.DmemIdeal.defs (F := Ideal)) (onTc (τ := Cert.DmemIdeal.τ) (Cert.DmemIdeal.main (F := Ideal))) ⟨m, fun _ => 0, g⟩ (fun r => (∀ c : Dev Cert.DmemIdeal.nD,
      r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
      ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1))
      ∧ r.2.sem = fun _ => 0)

def quiescent_DmemRefIdeal [hDmemRefIdeal : Cert.DmemRefIdeal.Facts] : Prop :=
  ∀ (m : (ℓ : Loc Cert.DmemRefIdeal.nD Cert.DmemRefIdeal.τ Cert.DmemRefIdeal.sig) → Buf (Elt Ideal) ℓ) (g : Dev Cert.DmemRefIdeal.nD → PrngReg), Pre_DmemRefIdeal m →
    θ_run (Cert.DmemRefIdeal.defs (F := Ideal)) (onTc (τ := Cert.DmemRefIdeal.τ) (Cert.DmemRefIdeal.main (F := Ideal))) ⟨m, fun _ => 0, g⟩ (fun r => (∀ c : Dev Cert.DmemRefIdeal.nD,
      r.2.mem ((c.tc : Thread Cert.DmemRefIdeal.nD Cert.DmemRefIdeal.τ).loc Cert.DmemRefIdeal.main_arg0) = m ((c.tc : Thread Cert.DmemRefIdeal.nD Cert.DmemRefIdeal.τ).loc Cert.DmemRefIdeal.main_arg0)
      ∧ r.2.mem ((c.tc : Thread Cert.DmemRefIdeal.nD Cert.DmemRefIdeal.τ).loc Cert.DmemRefIdeal.main_arg1) = m ((c.tc : Thread Cert.DmemRefIdeal.nD Cert.DmemRefIdeal.τ).loc Cert.DmemRefIdeal.main_arg1))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamSinks [hAdamSinks : Cert.AdamSinks.Facts] : Prop :=
  ∀ (m : (ℓ : Loc Cert.AdamSinks.nD Cert.AdamSinks.τ Cert.AdamSinks.sig) → Buf (Elt Bits) ℓ) (g : Dev Cert.AdamSinks.nD → PrngReg), Pre_AdamSinks m →
    θ_run (Cert.AdamSinks.defs (F := Bits)) (onTc (τ := Cert.AdamSinks.τ) (Cert.AdamSinks.main (F := Bits))) ⟨m, fun _ => 0, g⟩ (fun r => (∀ c : Dev Cert.AdamSinks.nD,
      r.2.mem ((c.tc : Thread Cert.AdamSinks.nD Cert.AdamSinks.τ).loc Cert.AdamSinks.main_arg0) = m ((c.tc : Thread Cert.AdamSinks.nD Cert.AdamSinks.τ).loc Cert.AdamSinks.main_arg0)
      ∧ r.2.mem ((c.tc : Thread Cert.AdamSinks.nD Cert.AdamSinks.τ).loc Cert.AdamSinks.main_arg1) = m ((c.tc : Thread Cert.AdamSinks.nD Cert.AdamSinks.τ).loc Cert.AdamSinks.main_arg1)
      ∧ r.2.mem ((c.tc : Thread Cert.AdamSinks.nD Cert.AdamSinks.τ).loc Cert.AdamSinks.main_arg2) = m ((c.tc : Thread Cert.AdamSinks.nD Cert.AdamSinks.τ).loc Cert.AdamSinks.main_arg2)
      ∧ r.2.mem ((c.tc : Thread Cert.AdamSinks.nD Cert.AdamSinks.τ).loc Cert.AdamSinks.main_arg3) = m ((c.tc : Thread Cert.AdamSinks.nD Cert.AdamSinks.τ).loc Cert.AdamSinks.main_arg3))
      ∧ r.2.sem = fun _ => 0)

def quiescent_AdamSinksIdeal [hAdamSinksIdeal : Cert.AdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg), Pre_AdamSinksIdeal m →
    θ_run (Cert.AdamSinksIdeal.defs (F := Ideal)) (onTc (τ := Cert.AdamSinksIdeal.τ) (Cert.AdamSinksIdeal.main (F := Ideal))) ⟨m, fun _ => 0, g⟩ (fun r => (∀ c : Dev Cert.AdamSinksIdeal.nD,
      r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
      ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
      ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
      ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ r.2.sem = fun _ => 0)

def quiescent_AdamSinksRefIdeal [hAdamSinksRefIdeal : Cert.AdamSinksRefIdeal.Facts] : Prop :=
  ∀ (m : (ℓ : Loc Cert.AdamSinksRefIdeal.nD Cert.AdamSinksRefIdeal.τ Cert.AdamSinksRefIdeal.sig) → Buf (Elt Ideal) ℓ) (g : Dev Cert.AdamSinksRefIdeal.nD → PrngReg), Pre_AdamSinksRefIdeal m →
    θ_run (Cert.AdamSinksRefIdeal.defs (F := Ideal)) (onTc (τ := Cert.AdamSinksRefIdeal.τ) (Cert.AdamSinksRefIdeal.main (F := Ideal))) ⟨m, fun _ => 0, g⟩ (fun r => (∀ c : Dev Cert.AdamSinksRefIdeal.nD,
      r.2.mem ((c.tc : Thread Cert.AdamSinksRefIdeal.nD Cert.AdamSinksRefIdeal.τ).loc Cert.AdamSinksRefIdeal.main_arg0) = m ((c.tc : Thread Cert.AdamSinksRefIdeal.nD Cert.AdamSinksRefIdeal.τ).loc Cert.AdamSinksRefIdeal.main_arg0)
      ∧ r.2.mem ((c.tc : Thread Cert.AdamSinksRefIdeal.nD Cert.AdamSinksRefIdeal.τ).loc Cert.AdamSinksRefIdeal.main_arg1) = m ((c.tc : Thread Cert.AdamSinksRefIdeal.nD Cert.AdamSinksRefIdeal.τ).loc Cert.AdamSinksRefIdeal.main_arg1)
      ∧ r.2.mem ((c.tc : Thread Cert.AdamSinksRefIdeal.nD Cert.AdamSinksRefIdeal.τ).loc Cert.AdamSinksRefIdeal.main_arg2) = m ((c.tc : Thread Cert.AdamSinksRefIdeal.nD Cert.AdamSinksRefIdeal.τ).loc Cert.AdamSinksRefIdeal.main_arg2)
      ∧ r.2.mem ((c.tc : Thread Cert.AdamSinksRefIdeal.nD Cert.AdamSinksRefIdeal.τ).loc Cert.AdamSinksRefIdeal.main_arg3) = m ((c.tc : Thread Cert.AdamSinksRefIdeal.nD Cert.AdamSinksRefIdeal.τ).loc Cert.AdamSinksRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v33) = v0 c
          ∧ r.2.mem ((c.tc : Thread Cert.GateRefIdeal.nD Cert.GateRefIdeal.τ).loc Cert.GateRefIdeal.main_v34) = v1 c
          ∧ r.2.mem ((c.tc : Thread Cert.GateRefIdeal.nD Cert.GateRefIdeal.τ).loc Cert.GateRefIdeal.main_v35) = v2 c
          ∧ r.2.mem ((c.tc : Thread Cert.GateRefIdeal.nD Cert.GateRefIdeal.τ).loc Cert.GateRefIdeal.main_v36) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwFfn_DwFfnIdeal : Prop :=
  True

def algebraic_DwFfnIdeal_DwFfnRefIdeal [hDwFfnIdeal : Cert.DwFfnIdeal.Facts] [hDwFfnRefIdeal : Cert.DwFfnRefIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg)
    (m' : (ℓ : Loc Cert.DwFfnRefIdeal.nD Cert.DwFfnRefIdeal.τ Cert.DwFfnRefIdeal.sig) → Buf (Elt Ideal) ℓ) (g' : Dev Cert.DwFfnRefIdeal.nD → PrngReg), Pre_DwFfnIdeal m →
    (∀ c : Dev Cert.DwFfnIdeal.nD,
      m' ((c.tc : Thread Cert.DwFfnRefIdeal.nD Cert.DwFfnRefIdeal.τ).loc Cert.DwFfnRefIdeal.main_arg0) = m ((c.tc : Thread Cert.DwFfnIdeal.nD Cert.DwFfnIdeal.τ).loc Cert.DwFfnIdeal.main_arg0)
      ∧ m' ((c.tc : Thread Cert.DwFfnRefIdeal.nD Cert.DwFfnRefIdeal.τ).loc Cert.DwFfnRefIdeal.main_arg1) = m ((c.tc : Thread Cert.DwFfnIdeal.nD Cert.DwFfnIdeal.τ).loc Cert.DwFfnIdeal.main_arg1)) →
    ∃ (v0 : (c : Dev Cert.DwFfnIdeal.nD) → Buf (Elt Ideal) ((c.tc : Thread Cert.DwFfnIdeal.nD Cert.DwFfnIdeal.τ).loc Cert.DwFfnIdeal.main_v0)),
      θ_run (Cert.DwFfnIdeal.defs (F := Ideal)) (onTc (τ := Cert.DwFfnIdeal.τ) (Cert.DwFfnIdeal.main (F := Ideal))) ⟨m, fun _ => 0, g⟩ (fun r => ∀ c : Dev Cert.DwFfnIdeal.nD,
          r.2.mem ((c.tc : Thread Cert.DwFfnIdeal.nD Cert.DwFfnIdeal.τ).loc Cert.DwFfnIdeal.main_v0) = v0 c
          ∧ r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
          ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ θ_run (Cert.DwFfnRefIdeal.defs (F := Ideal)) (onTc (τ := Cert.DwFfnRefIdeal.τ) (Cert.DwFfnRefIdeal.main (F := Ideal))) ⟨m', fun _ => 0, g'⟩ (fun r => ∀ c : Dev Cert.DwFfnRefIdeal.nD,
          r.2.mem ((c.tc : Thread Cert.DwFfnRefIdeal.nD Cert.DwFfnRefIdeal.τ).loc Cert.DwFfnRefIdeal.main_v13) = v0 c
          ∧ r.2.mem ((c.tc : Thread Cert.DwFfnRefIdeal.nD Cert.DwFfnRefIdeal.τ).loc Cert.DwFfnRefIdeal.main_arg0) = m' ((c.tc : Thread Cert.DwFfnRefIdeal.nD Cert.DwFfnRefIdeal.τ).loc Cert.DwFfnRefIdeal.main_arg0)
          ∧ r.2.mem ((c.tc : Thread Cert.DwFfnRefIdeal.nD Cert.DwFfnRefIdeal.τ).loc Cert.DwFfnRefIdeal.main_arg1) = m' ((c.tc : Thread Cert.DwFfnRefIdeal.nD Cert.DwFfnRefIdeal.τ).loc Cert.DwFfnRefIdeal.main_arg1))

def preserves_DuFfn_DuFfnIdeal : Prop :=
  True

def algebraic_DuFfnIdeal_DuFfnRefIdeal [hDuFfnIdeal : Cert.DuFfnIdeal.Facts] [hDuFfnRefIdeal : Cert.DuFfnRefIdeal.Facts] : Prop :=
  ∀ (m : (ℓ : Loc Cert.DuFfnIdeal.nD Cert.DuFfnIdeal.τ Cert.DuFfnIdeal.sig) → Buf (Elt Ideal) ℓ) (g : Dev Cert.DuFfnIdeal.nD → PrngReg)
    (m' : (ℓ : Loc Cert.DuFfnRefIdeal.nD Cert.DuFfnRefIdeal.τ Cert.DuFfnRefIdeal.sig) → Buf (Elt Ideal) ℓ) (g' : Dev Cert.DuFfnRefIdeal.nD → PrngReg), Pre_DuFfnIdeal m →
    (∀ c : Dev Cert.DuFfnIdeal.nD,
      m' ((c.tc : Thread Cert.DuFfnRefIdeal.nD Cert.DuFfnRefIdeal.τ).loc Cert.DuFfnRefIdeal.main_arg0) = m ((c.tc : Thread Cert.DuFfnIdeal.nD Cert.DuFfnIdeal.τ).loc Cert.DuFfnIdeal.main_arg0)
      ∧ m' ((c.tc : Thread Cert.DuFfnRefIdeal.nD Cert.DuFfnRefIdeal.τ).loc Cert.DuFfnRefIdeal.main_arg1) = m ((c.tc : Thread Cert.DuFfnIdeal.nD Cert.DuFfnIdeal.τ).loc Cert.DuFfnIdeal.main_arg1)) →
    ∃ (v0 : (c : Dev Cert.DuFfnIdeal.nD) → Buf (Elt Ideal) ((c.tc : Thread Cert.DuFfnIdeal.nD Cert.DuFfnIdeal.τ).loc Cert.DuFfnIdeal.main_v0)),
      θ_run (Cert.DuFfnIdeal.defs (F := Ideal)) (onTc (τ := Cert.DuFfnIdeal.τ) (Cert.DuFfnIdeal.main (F := Ideal))) ⟨m, fun _ => 0, g⟩ (fun r => ∀ c : Dev Cert.DuFfnIdeal.nD,
          r.2.mem ((c.tc : Thread Cert.DuFfnIdeal.nD Cert.DuFfnIdeal.τ).loc Cert.DuFfnIdeal.main_v0) = v0 c
          ∧ r.2.mem ((c.tc : Thread Cert.DuFfnIdeal.nD Cert.DuFfnIdeal.τ).loc Cert.DuFfnIdeal.main_arg0) = m ((c.tc : Thread Cert.DuFfnIdeal.nD Cert.DuFfnIdeal.τ).loc Cert.DuFfnIdeal.main_arg0)
          ∧ r.2.mem ((c.tc : Thread Cert.DuFfnIdeal.nD Cert.DuFfnIdeal.τ).loc Cert.DuFfnIdeal.main_arg1) = m ((c.tc : Thread Cert.DuFfnIdeal.nD Cert.DuFfnIdeal.τ).loc Cert.DuFfnIdeal.main_arg1))
      ∧ θ_run (Cert.DuFfnRefIdeal.defs (F := Ideal)) (onTc (τ := Cert.DuFfnRefIdeal.τ) (Cert.DuFfnRefIdeal.main (F := Ideal))) ⟨m', fun _ => 0, g'⟩ (fun r => ∀ c : Dev Cert.DuFfnRefIdeal.nD,
          r.2.mem ((c.tc : Thread Cert.DuFfnRefIdeal.nD Cert.DuFfnRefIdeal.τ).loc Cert.DuFfnRefIdeal.main_v9) = v0 c
          ∧ r.2.mem ((c.tc : Thread Cert.DuFfnRefIdeal.nD Cert.DuFfnRefIdeal.τ).loc Cert.DuFfnRefIdeal.main_arg0) = m' ((c.tc : Thread Cert.DuFfnRefIdeal.nD Cert.DuFfnRefIdeal.τ).loc Cert.DuFfnRefIdeal.main_arg0)
          ∧ r.2.mem ((c.tc : Thread Cert.DuFfnRefIdeal.nD Cert.DuFfnRefIdeal.τ).loc Cert.DuFfnRefIdeal.main_arg1) = m' ((c.tc : Thread Cert.DuFfnRefIdeal.nD Cert.DuFfnRefIdeal.τ).loc Cert.DuFfnRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)
      ∧ m' ((c.tc : Thread Cert.DwInRefIdeal.nD Cert.DwInRefIdeal.τ).loc Cert.DwInRefIdeal.main_arg6) = m ((c.tc : Thread Cert.DwInIdeal.nD Cert.DwInIdeal.τ).loc Cert.DwInIdeal.main_arg6)
      ∧ m' ((c.tc : Thread Cert.DwInRefIdeal.nD Cert.DwInRefIdeal.τ).loc Cert.DwInRefIdeal.main_arg7) = m ((c.tc : Thread Cert.DwInIdeal.nD Cert.DwInIdeal.τ).loc Cert.DwInIdeal.main_arg7)
      ∧ m' ((c.tc : Thread Cert.DwInRefIdeal.nD Cert.DwInRefIdeal.τ).loc Cert.DwInRefIdeal.main_arg8) = m ((c.tc : Thread Cert.DwInIdeal.nD Cert.DwInIdeal.τ).loc Cert.DwInIdeal.main_arg8)) →
    ∃ (v0 : (c : Dev Cert.DwInIdeal.nD) → Buf (Elt Ideal) ((c.tc : Thread Cert.DwInIdeal.nD Cert.DwInIdeal.τ).loc Cert.DwInIdeal.main_v1)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v1) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
          ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
          ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7)
          ∧ r.2.mem ((c.tc : Thread Cert.DwInIdeal.nD Cert.DwInIdeal.τ).loc Cert.DwInIdeal.main_arg8) = m ((c.tc : Thread Cert.DwInIdeal.nD Cert.DwInIdeal.τ).loc Cert.DwInIdeal.main_arg8))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v24) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5)
          ∧ r.2.mem ((c.tc : Thread Cert.DwInRefIdeal.nD Cert.DwInRefIdeal.τ).loc Cert.DwInRefIdeal.main_arg6) = m' ((c.tc : Thread Cert.DwInRefIdeal.nD Cert.DwInRefIdeal.τ).loc Cert.DwInRefIdeal.main_arg6)
          ∧ r.2.mem ((c.tc : Thread Cert.DwInRefIdeal.nD Cert.DwInRefIdeal.τ).loc Cert.DwInRefIdeal.main_arg7) = m' ((c.tc : Thread Cert.DwInRefIdeal.nD Cert.DwInRefIdeal.τ).loc Cert.DwInRefIdeal.main_arg7)
          ∧ r.2.mem ((c.tc : Thread Cert.DwInRefIdeal.nD Cert.DwInRefIdeal.τ).loc Cert.DwInRefIdeal.main_arg8) = m' ((c.tc : Thread Cert.DwInRefIdeal.nD Cert.DwInRefIdeal.τ).loc Cert.DwInRefIdeal.main_arg8))

def preserves_DuIn_DuInIdeal : Prop :=
  True

def algebraic_DuInIdeal_DuInRefIdeal [hDuInIdeal : Cert.DuInIdeal.Facts] [hDuInRefIdeal : Cert.DuInRefIdeal.Facts] : Prop :=
  ∀ (m : (ℓ : Loc Cert.DuInIdeal.nD Cert.DuInIdeal.τ Cert.DuInIdeal.sig) → Buf (Elt Ideal) ℓ) (g : Dev Cert.DuInIdeal.nD → PrngReg)
    (m' : (ℓ : Loc Cert.DuInRefIdeal.nD Cert.DuInRefIdeal.τ Cert.DuInRefIdeal.sig) → Buf (Elt Ideal) ℓ) (g' : Dev Cert.DuInRefIdeal.nD → PrngReg), Pre_DuInIdeal m →
    (∀ c : Dev Cert.DuInIdeal.nD,
      m' ((c.tc : Thread Cert.DuInRefIdeal.nD Cert.DuInRefIdeal.τ).loc Cert.DuInRefIdeal.main_arg0) = m ((c.tc : Thread Cert.DuInIdeal.nD Cert.DuInIdeal.τ).loc Cert.DuInIdeal.main_arg0)
      ∧ m' ((c.tc : Thread Cert.DuInRefIdeal.nD Cert.DuInRefIdeal.τ).loc Cert.DuInRefIdeal.main_arg1) = m ((c.tc : Thread Cert.DuInIdeal.nD Cert.DuInIdeal.τ).loc Cert.DuInIdeal.main_arg1)
      ∧ m' ((c.tc : Thread Cert.DuInRefIdeal.nD Cert.DuInRefIdeal.τ).loc Cert.DuInRefIdeal.main_arg2) = m ((c.tc : Thread Cert.DuInIdeal.nD Cert.DuInIdeal.τ).loc Cert.DuInIdeal.main_arg2)
      ∧ m' ((c.tc : Thread Cert.DuInRefIdeal.nD Cert.DuInRefIdeal.τ).loc Cert.DuInRefIdeal.main_arg3) = m ((c.tc : Thread Cert.DuInIdeal.nD Cert.DuInIdeal.τ).loc Cert.DuInIdeal.main_arg3)
      ∧ m' ((c.tc : Thread Cert.DuInRefIdeal.nD Cert.DuInRefIdeal.τ).loc Cert.DuInRefIdeal.main_arg4) = m ((c.tc : Thread Cert.DuInIdeal.nD Cert.DuInIdeal.τ).loc Cert.DuInIdeal.main_arg4)
      ∧ m' ((c.tc : Thread Cert.DuInRefIdeal.nD Cert.DuInRefIdeal.τ).loc Cert.DuInRefIdeal.main_arg5) = m ((c.tc : Thread Cert.DuInIdeal.nD Cert.DuInIdeal.τ).loc Cert.DuInIdeal.main_arg5)
      ∧ m' ((c.tc : Thread Cert.DuInRefIdeal.nD Cert.DuInRefIdeal.τ).loc Cert.DuInRefIdeal.main_arg6) = m ((c.tc : Thread Cert.DuInIdeal.nD Cert.DuInIdeal.τ).loc Cert.DuInIdeal.main_arg6)
      ∧ m' ((c.tc : Thread Cert.DuInRefIdeal.nD Cert.DuInRefIdeal.τ).loc Cert.DuInRefIdeal.main_arg7) = m ((c.tc : Thread Cert.DuInIdeal.nD Cert.DuInIdeal.τ).loc Cert.DuInIdeal.main_arg7)
      ∧ m' ((c.tc : Thread Cert.DuInRefIdeal.nD Cert.DuInRefIdeal.τ).loc Cert.DuInRefIdeal.main_arg8) = m ((c.tc : Thread Cert.DuInIdeal.nD Cert.DuInIdeal.τ).loc Cert.DuInIdeal.main_arg8)) →
    ∃ (v0 : (c : Dev Cert.DuInIdeal.nD) → Buf (Elt Ideal) ((c.tc : Thread Cert.DuInIdeal.nD Cert.DuInIdeal.τ).loc Cert.DuInIdeal.main_v1)),
      θ_run (Cert.DuInIdeal.defs (F := Ideal)) (onTc (τ := Cert.DuInIdeal.τ) (Cert.DuInIdeal.main (F := Ideal))) ⟨m, fun _ => 0, g⟩ (fun r => ∀ c : Dev Cert.DuInIdeal.nD,
          r.2.mem ((c.tc : Thread Cert.DuInIdeal.nD Cert.DuInIdeal.τ).loc Cert.DuInIdeal.main_v1) = v0 c
          ∧ r.2.mem ((c.tc : Thread Cert.DuInIdeal.nD Cert.DuInIdeal.τ).loc Cert.DuInIdeal.main_arg0) = m ((c.tc : Thread Cert.DuInIdeal.nD Cert.DuInIdeal.τ).loc Cert.DuInIdeal.main_arg0)
          ∧ r.2.mem ((c.tc : Thread Cert.DuInIdeal.nD Cert.DuInIdeal.τ).loc Cert.DuInIdeal.main_arg1) = m ((c.tc : Thread Cert.DuInIdeal.nD Cert.DuInIdeal.τ).loc Cert.DuInIdeal.main_arg1)
          ∧ r.2.mem ((c.tc : Thread Cert.DuInIdeal.nD Cert.DuInIdeal.τ).loc Cert.DuInIdeal.main_arg2) = m ((c.tc : Thread Cert.DuInIdeal.nD Cert.DuInIdeal.τ).loc Cert.DuInIdeal.main_arg2)
          ∧ r.2.mem ((c.tc : Thread Cert.DuInIdeal.nD Cert.DuInIdeal.τ).loc Cert.DuInIdeal.main_arg3) = m ((c.tc : Thread Cert.DuInIdeal.nD Cert.DuInIdeal.τ).loc Cert.DuInIdeal.main_arg3)
          ∧ r.2.mem ((c.tc : Thread Cert.DuInIdeal.nD Cert.DuInIdeal.τ).loc Cert.DuInIdeal.main_arg4) = m ((c.tc : Thread Cert.DuInIdeal.nD Cert.DuInIdeal.τ).loc Cert.DuInIdeal.main_arg4)
          ∧ r.2.mem ((c.tc : Thread Cert.DuInIdeal.nD Cert.DuInIdeal.τ).loc Cert.DuInIdeal.main_arg5) = m ((c.tc : Thread Cert.DuInIdeal.nD Cert.DuInIdeal.τ).loc Cert.DuInIdeal.main_arg5)
          ∧ r.2.mem ((c.tc : Thread Cert.DuInIdeal.nD Cert.DuInIdeal.τ).loc Cert.DuInIdeal.main_arg6) = m ((c.tc : Thread Cert.DuInIdeal.nD Cert.DuInIdeal.τ).loc Cert.DuInIdeal.main_arg6)
          ∧ r.2.mem ((c.tc : Thread Cert.DuInIdeal.nD Cert.DuInIdeal.τ).loc Cert.DuInIdeal.main_arg7) = m ((c.tc : Thread Cert.DuInIdeal.nD Cert.DuInIdeal.τ).loc Cert.DuInIdeal.main_arg7)
          ∧ r.2.mem ((c.tc : Thread Cert.DuInIdeal.nD Cert.DuInIdeal.τ).loc Cert.DuInIdeal.main_arg8) = m ((c.tc : Thread Cert.DuInIdeal.nD Cert.DuInIdeal.τ).loc Cert.DuInIdeal.main_arg8))
      ∧ θ_run (Cert.DuInRefIdeal.defs (F := Ideal)) (onTc (τ := Cert.DuInRefIdeal.τ) (Cert.DuInRefIdeal.main (F := Ideal))) ⟨m', fun _ => 0, g'⟩ (fun r => ∀ c : Dev Cert.DuInRefIdeal.nD,
          r.2.mem ((c.tc : Thread Cert.DuInRefIdeal.nD Cert.DuInRefIdeal.τ).loc Cert.DuInRefIdeal.main_v21) = v0 c
          ∧ r.2.mem ((c.tc : Thread Cert.DuInRefIdeal.nD Cert.DuInRefIdeal.τ).loc Cert.DuInRefIdeal.main_arg0) = m' ((c.tc : Thread Cert.DuInRefIdeal.nD Cert.DuInRefIdeal.τ).loc Cert.DuInRefIdeal.main_arg0)
          ∧ r.2.mem ((c.tc : Thread Cert.DuInRefIdeal.nD Cert.DuInRefIdeal.τ).loc Cert.DuInRefIdeal.main_arg1) = m' ((c.tc : Thread Cert.DuInRefIdeal.nD Cert.DuInRefIdeal.τ).loc Cert.DuInRefIdeal.main_arg1)
          ∧ r.2.mem ((c.tc : Thread Cert.DuInRefIdeal.nD Cert.DuInRefIdeal.τ).loc Cert.DuInRefIdeal.main_arg2) = m' ((c.tc : Thread Cert.DuInRefIdeal.nD Cert.DuInRefIdeal.τ).loc Cert.DuInRefIdeal.main_arg2)
          ∧ r.2.mem ((c.tc : Thread Cert.DuInRefIdeal.nD Cert.DuInRefIdeal.τ).loc Cert.DuInRefIdeal.main_arg3) = m' ((c.tc : Thread Cert.DuInRefIdeal.nD Cert.DuInRefIdeal.τ).loc Cert.DuInRefIdeal.main_arg3)
          ∧ r.2.mem ((c.tc : Thread Cert.DuInRefIdeal.nD Cert.DuInRefIdeal.τ).loc Cert.DuInRefIdeal.main_arg4) = m' ((c.tc : Thread Cert.DuInRefIdeal.nD Cert.DuInRefIdeal.τ).loc Cert.DuInRefIdeal.main_arg4)
          ∧ r.2.mem ((c.tc : Thread Cert.DuInRefIdeal.nD Cert.DuInRefIdeal.τ).loc Cert.DuInRefIdeal.main_arg5) = m' ((c.tc : Thread Cert.DuInRefIdeal.nD Cert.DuInRefIdeal.τ).loc Cert.DuInRefIdeal.main_arg5)
          ∧ r.2.mem ((c.tc : Thread Cert.DuInRefIdeal.nD Cert.DuInRefIdeal.τ).loc Cert.DuInRefIdeal.main_arg6) = m' ((c.tc : Thread Cert.DuInRefIdeal.nD Cert.DuInRefIdeal.τ).loc Cert.DuInRefIdeal.main_arg6)
          ∧ r.2.mem ((c.tc : Thread Cert.DuInRefIdeal.nD Cert.DuInRefIdeal.τ).loc Cert.DuInRefIdeal.main_arg7) = m' ((c.tc : Thread Cert.DuInRefIdeal.nD Cert.DuInRefIdeal.τ).loc Cert.DuInRefIdeal.main_arg7)
          ∧ r.2.mem ((c.tc : Thread Cert.DuInRefIdeal.nD Cert.DuInRefIdeal.τ).loc Cert.DuInRefIdeal.main_arg8) = m' ((c.tc : Thread Cert.DuInRefIdeal.nD Cert.DuInRefIdeal.τ).loc Cert.DuInRefIdeal.main_arg8))

def preserves_Dact_DactIdeal : Prop :=
  True

def algebraic_DactIdeal_DactRefIdeal_pre_finite_dact [hDactIdeal : Cert.DactIdeal.Facts] [hDactRefIdeal : Cert.DactRefIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_finite_dact m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v18) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_DwInB_DwInBIdeal : Prop :=
  True

def algebraic_DwInBIdeal_DwInBRefIdeal [hDwInBIdeal : Cert.DwInBIdeal.Facts] [hDwInBRefIdeal : Cert.DwInBRefIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.DwInBRefIdeal.nD Cert.DwInBRefIdeal.τ Cert.DwInBRefIdeal.sig) → Buf (Elt Ideal) ℓ) (g' : Dev Cert.DwInBRefIdeal.nD → PrngReg), Pre_DwInBIdeal m →
    (∀ c : Dev Cert.DwInBIdeal.nD,
      m' ((c.tc : Thread Cert.DwInBRefIdeal.nD Cert.DwInBRefIdeal.τ).loc Cert.DwInBRefIdeal.main_arg0) = m ((c.tc : Thread Cert.DwInBIdeal.nD Cert.DwInBIdeal.τ).loc Cert.DwInBIdeal.main_arg0)
      ∧ m' ((c.tc : Thread Cert.DwInBRefIdeal.nD Cert.DwInBRefIdeal.τ).loc Cert.DwInBRefIdeal.main_arg1) = m ((c.tc : Thread Cert.DwInBIdeal.nD Cert.DwInBIdeal.τ).loc Cert.DwInBIdeal.main_arg1)
      ∧ m' ((c.tc : Thread Cert.DwInBRefIdeal.nD Cert.DwInBRefIdeal.τ).loc Cert.DwInBRefIdeal.main_arg2) = m ((c.tc : Thread Cert.DwInBIdeal.nD Cert.DwInBIdeal.τ).loc Cert.DwInBIdeal.main_arg2)
      ∧ m' ((c.tc : Thread Cert.DwInBRefIdeal.nD Cert.DwInBRefIdeal.τ).loc Cert.DwInBRefIdeal.main_arg3) = m ((c.tc : Thread Cert.DwInBIdeal.nD Cert.DwInBIdeal.τ).loc Cert.DwInBIdeal.main_arg3)
      ∧ m' ((c.tc : Thread Cert.DwInBRefIdeal.nD Cert.DwInBRefIdeal.τ).loc Cert.DwInBRefIdeal.main_arg4) = m ((c.tc : Thread Cert.DwInBIdeal.nD Cert.DwInBIdeal.τ).loc Cert.DwInBIdeal.main_arg4)
      ∧ m' ((c.tc : Thread Cert.DwInBRefIdeal.nD Cert.DwInBRefIdeal.τ).loc Cert.DwInBRefIdeal.main_arg5) = m ((c.tc : Thread Cert.DwInBIdeal.nD Cert.DwInBIdeal.τ).loc Cert.DwInBIdeal.main_arg5)
      ∧ m' ((c.tc : Thread Cert.DwInBRefIdeal.nD Cert.DwInBRefIdeal.τ).loc Cert.DwInBRefIdeal.main_arg6) = m ((c.tc : Thread Cert.DwInBIdeal.nD Cert.DwInBIdeal.τ).loc Cert.DwInBIdeal.main_arg6)
      ∧ m' ((c.tc : Thread Cert.DwInBRefIdeal.nD Cert.DwInBRefIdeal.τ).loc Cert.DwInBRefIdeal.main_arg7) = m ((c.tc : Thread Cert.DwInBIdeal.nD Cert.DwInBIdeal.τ).loc Cert.DwInBIdeal.main_arg7)
      ∧ m' ((c.tc : Thread Cert.DwInBRefIdeal.nD Cert.DwInBRefIdeal.τ).loc Cert.DwInBRefIdeal.main_arg8) = m ((c.tc : Thread Cert.DwInBIdeal.nD Cert.DwInBIdeal.τ).loc Cert.DwInBIdeal.main_arg8)) →
    ∃ (v0 : (c : Dev Cert.DwInBIdeal.nD) → Buf (Elt Ideal) ((c.tc : Thread Cert.DwInBIdeal.nD Cert.DwInBIdeal.τ).loc Cert.DwInBIdeal.main_v1)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v1) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
          ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2)
          ∧ r.2.mem ((c.tc : Thread Cert.DwInBIdeal.nD Cert.DwInBIdeal.τ).loc Cert.DwInBIdeal.main_arg3) = m ((c.tc : Thread Cert.DwInBIdeal.nD Cert.DwInBIdeal.τ).loc Cert.DwInBIdeal.main_arg3)
          ∧ r.2.mem ((c.tc : Thread Cert.DwInBIdeal.nD Cert.DwInBIdeal.τ).loc Cert.DwInBIdeal.main_arg4) = m ((c.tc : Thread Cert.DwInBIdeal.nD Cert.DwInBIdeal.τ).loc Cert.DwInBIdeal.main_arg4)
          ∧ r.2.mem ((c.tc : Thread Cert.DwInBIdeal.nD Cert.DwInBIdeal.τ).loc Cert.DwInBIdeal.main_arg5) = m ((c.tc : Thread Cert.DwInBIdeal.nD Cert.DwInBIdeal.τ).loc Cert.DwInBIdeal.main_arg5)
          ∧ r.2.mem ((c.tc : Thread Cert.DwInBIdeal.nD Cert.DwInBIdeal.τ).loc Cert.DwInBIdeal.main_arg6) = m ((c.tc : Thread Cert.DwInBIdeal.nD Cert.DwInBIdeal.τ).loc Cert.DwInBIdeal.main_arg6)
          ∧ r.2.mem ((c.tc : Thread Cert.DwInBIdeal.nD Cert.DwInBIdeal.τ).loc Cert.DwInBIdeal.main_arg7) = m ((c.tc : Thread Cert.DwInBIdeal.nD Cert.DwInBIdeal.τ).loc Cert.DwInBIdeal.main_arg7)
          ∧ r.2.mem ((c.tc : Thread Cert.DwInBIdeal.nD Cert.DwInBIdeal.τ).loc Cert.DwInBIdeal.main_arg8) = m ((c.tc : Thread Cert.DwInBIdeal.nD Cert.DwInBIdeal.τ).loc Cert.DwInBIdeal.main_arg8))
      ∧ θ_run (Cert.DwInBRefIdeal.defs (F := Ideal)) (onTc (τ := Cert.DwInBRefIdeal.τ) (Cert.DwInBRefIdeal.main (F := Ideal))) ⟨m', fun _ => 0, g'⟩ (fun r => ∀ c : Dev Cert.DwInBRefIdeal.nD,
          r.2.mem ((c.tc : Thread Cert.DwInBRefIdeal.nD Cert.DwInBRefIdeal.τ).loc Cert.DwInBRefIdeal.main_v24) = v0 c
          ∧ r.2.mem ((c.tc : Thread Cert.DwInBRefIdeal.nD Cert.DwInBRefIdeal.τ).loc Cert.DwInBRefIdeal.main_arg0) = m' ((c.tc : Thread Cert.DwInBRefIdeal.nD Cert.DwInBRefIdeal.τ).loc Cert.DwInBRefIdeal.main_arg0)
          ∧ r.2.mem ((c.tc : Thread Cert.DwInBRefIdeal.nD Cert.DwInBRefIdeal.τ).loc Cert.DwInBRefIdeal.main_arg1) = m' ((c.tc : Thread Cert.DwInBRefIdeal.nD Cert.DwInBRefIdeal.τ).loc Cert.DwInBRefIdeal.main_arg1)
          ∧ r.2.mem ((c.tc : Thread Cert.DwInBRefIdeal.nD Cert.DwInBRefIdeal.τ).loc Cert.DwInBRefIdeal.main_arg2) = m' ((c.tc : Thread Cert.DwInBRefIdeal.nD Cert.DwInBRefIdeal.τ).loc Cert.DwInBRefIdeal.main_arg2)
          ∧ r.2.mem ((c.tc : Thread Cert.DwInBRefIdeal.nD Cert.DwInBRefIdeal.τ).loc Cert.DwInBRefIdeal.main_arg3) = m' ((c.tc : Thread Cert.DwInBRefIdeal.nD Cert.DwInBRefIdeal.τ).loc Cert.DwInBRefIdeal.main_arg3)
          ∧ r.2.mem ((c.tc : Thread Cert.DwInBRefIdeal.nD Cert.DwInBRefIdeal.τ).loc Cert.DwInBRefIdeal.main_arg4) = m' ((c.tc : Thread Cert.DwInBRefIdeal.nD Cert.DwInBRefIdeal.τ).loc Cert.DwInBRefIdeal.main_arg4)
          ∧ r.2.mem ((c.tc : Thread Cert.DwInBRefIdeal.nD Cert.DwInBRefIdeal.τ).loc Cert.DwInBRefIdeal.main_arg5) = m' ((c.tc : Thread Cert.DwInBRefIdeal.nD Cert.DwInBRefIdeal.τ).loc Cert.DwInBRefIdeal.main_arg5)
          ∧ r.2.mem ((c.tc : Thread Cert.DwInBRefIdeal.nD Cert.DwInBRefIdeal.τ).loc Cert.DwInBRefIdeal.main_arg6) = m' ((c.tc : Thread Cert.DwInBRefIdeal.nD Cert.DwInBRefIdeal.τ).loc Cert.DwInBRefIdeal.main_arg6)
          ∧ r.2.mem ((c.tc : Thread Cert.DwInBRefIdeal.nD Cert.DwInBRefIdeal.τ).loc Cert.DwInBRefIdeal.main_arg7) = m' ((c.tc : Thread Cert.DwInBRefIdeal.nD Cert.DwInBRefIdeal.τ).loc Cert.DwInBRefIdeal.main_arg7)
          ∧ r.2.mem ((c.tc : Thread Cert.DwInBRefIdeal.nD Cert.DwInBRefIdeal.τ).loc Cert.DwInBRefIdeal.main_arg8) = m' ((c.tc : Thread Cert.DwInBRefIdeal.nD Cert.DwInBRefIdeal.τ).loc Cert.DwInBRefIdeal.main_arg8))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v3) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v8) = v0 c
          ∧ r.2.mem ((c.tc : Thread Cert.FfnInRefIdeal.nD Cert.FfnInRefIdeal.τ).loc Cert.FfnInRefIdeal.main_v11) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_DwMix_DwMixIdeal : Prop :=
  True

def algebraic_DwMixIdeal_DwMixRefIdeal [hDwMixIdeal : Cert.DwMixIdeal.Facts] [hDwMixRefIdeal : Cert.DwMixRefIdeal.Facts] : Prop :=
  ∀ (m : (ℓ : Loc Cert.DwMixIdeal.nD Cert.DwMixIdeal.τ Cert.DwMixIdeal.sig) → Buf (Elt Ideal) ℓ) (g : Dev Cert.DwMixIdeal.nD → PrngReg)
    (m' : (ℓ : Loc Cert.DwMixRefIdeal.nD Cert.DwMixRefIdeal.τ Cert.DwMixRefIdeal.sig) → Buf (Elt Ideal) ℓ) (g' : Dev Cert.DwMixRefIdeal.nD → PrngReg), Pre_DwMixIdeal m →
    (∀ c : Dev Cert.DwMixIdeal.nD,
      m' ((c.tc : Thread Cert.DwMixRefIdeal.nD Cert.DwMixRefIdeal.τ).loc Cert.DwMixRefIdeal.main_arg0) = m ((c.tc : Thread Cert.DwMixIdeal.nD Cert.DwMixIdeal.τ).loc Cert.DwMixIdeal.main_arg0)
      ∧ m' ((c.tc : Thread Cert.DwMixRefIdeal.nD Cert.DwMixRefIdeal.τ).loc Cert.DwMixRefIdeal.main_arg1) = m ((c.tc : Thread Cert.DwMixIdeal.nD Cert.DwMixIdeal.τ).loc Cert.DwMixIdeal.main_arg1)) →
    ∃ (v0 : (c : Dev Cert.DwMixIdeal.nD) → Buf (Elt Ideal) ((c.tc : Thread Cert.DwMixIdeal.nD Cert.DwMixIdeal.τ).loc Cert.DwMixIdeal.main_v0)),
      θ_run (Cert.DwMixIdeal.defs (F := Ideal)) (onTc (τ := Cert.DwMixIdeal.τ) (Cert.DwMixIdeal.main (F := Ideal))) ⟨m, fun _ => 0, g⟩ (fun r => ∀ c : Dev Cert.DwMixIdeal.nD,
          r.2.mem ((c.tc : Thread Cert.DwMixIdeal.nD Cert.DwMixIdeal.τ).loc Cert.DwMixIdeal.main_v0) = v0 c
          ∧ r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
          ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ θ_run (Cert.DwMixRefIdeal.defs (F := Ideal)) (onTc (τ := Cert.DwMixRefIdeal.τ) (Cert.DwMixRefIdeal.main (F := Ideal))) ⟨m', fun _ => 0, g'⟩ (fun r => ∀ c : Dev Cert.DwMixRefIdeal.nD,
          r.2.mem ((c.tc : Thread Cert.DwMixRefIdeal.nD Cert.DwMixRefIdeal.τ).loc Cert.DwMixRefIdeal.main_v6) = v0 c
          ∧ r.2.mem ((c.tc : Thread Cert.DwMixRefIdeal.nD Cert.DwMixRefIdeal.τ).loc Cert.DwMixRefIdeal.main_arg0) = m' ((c.tc : Thread Cert.DwMixRefIdeal.nD Cert.DwMixRefIdeal.τ).loc Cert.DwMixRefIdeal.main_arg0)
          ∧ r.2.mem ((c.tc : Thread Cert.DwMixRefIdeal.nD Cert.DwMixRefIdeal.τ).loc Cert.DwMixRefIdeal.main_arg1) = m' ((c.tc : Thread Cert.DwMixRefIdeal.nD Cert.DwMixRefIdeal.τ).loc Cert.DwMixRefIdeal.main_arg1))

def preserves_DwAttn_DwAttnIdeal : Prop :=
  True

def algebraic_DwAttnIdeal_DwAttnRefIdeal [hDwAttnIdeal : Cert.DwAttnIdeal.Facts] [hDwAttnRefIdeal : Cert.DwAttnRefIdeal.Facts] : Prop :=
  ∀ (m : (ℓ : Loc Cert.DwAttnIdeal.nD Cert.DwAttnIdeal.τ Cert.DwAttnIdeal.sig) → Buf (Elt Ideal) ℓ) (g : Dev Cert.DwAttnIdeal.nD → PrngReg)
    (m' : (ℓ : Loc Cert.DwAttnRefIdeal.nD Cert.DwAttnRefIdeal.τ Cert.DwAttnRefIdeal.sig) → Buf (Elt Ideal) ℓ) (g' : Dev Cert.DwAttnRefIdeal.nD → PrngReg), Pre_DwAttnIdeal m →
    (∀ c : Dev Cert.DwAttnIdeal.nD,
      m' ((c.tc : Thread Cert.DwAttnRefIdeal.nD Cert.DwAttnRefIdeal.τ).loc Cert.DwAttnRefIdeal.main_arg0) = m ((c.tc : Thread Cert.DwAttnIdeal.nD Cert.DwAttnIdeal.τ).loc Cert.DwAttnIdeal.main_arg0)
      ∧ m' ((c.tc : Thread Cert.DwAttnRefIdeal.nD Cert.DwAttnRefIdeal.τ).loc Cert.DwAttnRefIdeal.main_arg1) = m ((c.tc : Thread Cert.DwAttnIdeal.nD Cert.DwAttnIdeal.τ).loc Cert.DwAttnIdeal.main_arg1)) →
    ∃ (v0 : (c : Dev Cert.DwAttnIdeal.nD) → Buf (Elt Ideal) ((c.tc : Thread Cert.DwAttnIdeal.nD Cert.DwAttnIdeal.τ).loc Cert.DwAttnIdeal.main_v0)),
      θ_run (Cert.DwAttnIdeal.defs (F := Ideal)) (onTc (τ := Cert.DwAttnIdeal.τ) (Cert.DwAttnIdeal.main (F := Ideal))) ⟨m, fun _ => 0, g⟩ (fun r => ∀ c : Dev Cert.DwAttnIdeal.nD,
          r.2.mem ((c.tc : Thread Cert.DwAttnIdeal.nD Cert.DwAttnIdeal.τ).loc Cert.DwAttnIdeal.main_v0) = v0 c
          ∧ r.2.mem ((c.tc : Thread Cert.DwAttnIdeal.nD Cert.DwAttnIdeal.τ).loc Cert.DwAttnIdeal.main_arg0) = m ((c.tc : Thread Cert.DwAttnIdeal.nD Cert.DwAttnIdeal.τ).loc Cert.DwAttnIdeal.main_arg0)
          ∧ r.2.mem ((c.tc : Thread Cert.DwAttnIdeal.nD Cert.DwAttnIdeal.τ).loc Cert.DwAttnIdeal.main_arg1) = m ((c.tc : Thread Cert.DwAttnIdeal.nD Cert.DwAttnIdeal.τ).loc Cert.DwAttnIdeal.main_arg1))
      ∧ θ_run (Cert.DwAttnRefIdeal.defs (F := Ideal)) (onTc (τ := Cert.DwAttnRefIdeal.τ) (Cert.DwAttnRefIdeal.main (F := Ideal))) ⟨m', fun _ => 0, g'⟩ (fun r => ∀ c : Dev Cert.DwAttnRefIdeal.nD,
          r.2.mem ((c.tc : Thread Cert.DwAttnRefIdeal.nD Cert.DwAttnRefIdeal.τ).loc Cert.DwAttnRefIdeal.main_v8) = v0 c
          ∧ r.2.mem ((c.tc : Thread Cert.DwAttnRefIdeal.nD Cert.DwAttnRefIdeal.τ).loc Cert.DwAttnRefIdeal.main_arg0) = m' ((c.tc : Thread Cert.DwAttnRefIdeal.nD Cert.DwAttnRefIdeal.τ).loc Cert.DwAttnRefIdeal.main_arg0)
          ∧ r.2.mem ((c.tc : Thread Cert.DwAttnRefIdeal.nD Cert.DwAttnRefIdeal.τ).loc Cert.DwAttnRefIdeal.main_arg1) = m' ((c.tc : Thread Cert.DwAttnRefIdeal.nD Cert.DwAttnRefIdeal.τ).loc Cert.DwAttnRefIdeal.main_arg1))

def preserves_DwConv_DwConvIdeal : Prop :=
  True

def algebraic_DwConvIdeal_DwConvRefIdeal [hDwConvIdeal : Cert.DwConvIdeal.Facts] [hDwConvRefIdeal : Cert.DwConvRefIdeal.Facts] : Prop :=
  ∀ (m : (ℓ : Loc Cert.DwConvIdeal.nD Cert.DwConvIdeal.τ Cert.DwConvIdeal.sig) → Buf (Elt Ideal) ℓ) (g : Dev Cert.DwConvIdeal.nD → PrngReg)
    (m' : (ℓ : Loc Cert.DwConvRefIdeal.nD Cert.DwConvRefIdeal.τ Cert.DwConvRefIdeal.sig) → Buf (Elt Ideal) ℓ) (g' : Dev Cert.DwConvRefIdeal.nD → PrngReg), Pre_DwConvIdeal m →
    (∀ c : Dev Cert.DwConvIdeal.nD,
      m' ((c.tc : Thread Cert.DwConvRefIdeal.nD Cert.DwConvRefIdeal.τ).loc Cert.DwConvRefIdeal.main_arg0) = m ((c.tc : Thread Cert.DwConvIdeal.nD Cert.DwConvIdeal.τ).loc Cert.DwConvIdeal.main_arg0)
      ∧ m' ((c.tc : Thread Cert.DwConvRefIdeal.nD Cert.DwConvRefIdeal.τ).loc Cert.DwConvRefIdeal.main_arg1) = m ((c.tc : Thread Cert.DwConvIdeal.nD Cert.DwConvIdeal.τ).loc Cert.DwConvIdeal.main_arg1)) →
    ∃ (v0 : (c : Dev Cert.DwConvIdeal.nD) → Buf (Elt Ideal) ((c.tc : Thread Cert.DwConvIdeal.nD Cert.DwConvIdeal.τ).loc Cert.DwConvIdeal.main_v0)),
      θ_run (Cert.DwConvIdeal.defs (F := Ideal)) (onTc (τ := Cert.DwConvIdeal.τ) (Cert.DwConvIdeal.main (F := Ideal))) ⟨m, fun _ => 0, g⟩ (fun r => ∀ c : Dev Cert.DwConvIdeal.nD,
          r.2.mem ((c.tc : Thread Cert.DwConvIdeal.nD Cert.DwConvIdeal.τ).loc Cert.DwConvIdeal.main_v0) = v0 c
          ∧ r.2.mem ((c.tc : Thread Cert.DwConvIdeal.nD Cert.DwConvIdeal.τ).loc Cert.DwConvIdeal.main_arg0) = m ((c.tc : Thread Cert.DwConvIdeal.nD Cert.DwConvIdeal.τ).loc Cert.DwConvIdeal.main_arg0)
          ∧ r.2.mem ((c.tc : Thread Cert.DwConvIdeal.nD Cert.DwConvIdeal.τ).loc Cert.DwConvIdeal.main_arg1) = m ((c.tc : Thread Cert.DwConvIdeal.nD Cert.DwConvIdeal.τ).loc Cert.DwConvIdeal.main_arg1))
      ∧ θ_run (Cert.DwConvRefIdeal.defs (F := Ideal)) (onTc (τ := Cert.DwConvRefIdeal.τ) (Cert.DwConvRefIdeal.main (F := Ideal))) ⟨m', fun _ => 0, g'⟩ (fun r => ∀ c : Dev Cert.DwConvRefIdeal.nD,
          r.2.mem ((c.tc : Thread Cert.DwConvRefIdeal.nD Cert.DwConvRefIdeal.τ).loc Cert.DwConvRefIdeal.main_v8) = v0 c
          ∧ r.2.mem ((c.tc : Thread Cert.DwConvRefIdeal.nD Cert.DwConvRefIdeal.τ).loc Cert.DwConvRefIdeal.main_arg0) = m' ((c.tc : Thread Cert.DwConvRefIdeal.nD Cert.DwConvRefIdeal.τ).loc Cert.DwConvRefIdeal.main_arg0)
          ∧ r.2.mem ((c.tc : Thread Cert.DwConvRefIdeal.nD Cert.DwConvRefIdeal.τ).loc Cert.DwConvRefIdeal.main_arg1) = m' ((c.tc : Thread Cert.DwConvRefIdeal.nD Cert.DwConvRefIdeal.τ).loc Cert.DwConvRefIdeal.main_arg1))

def preserves_DoAttn_DoAttnIdeal : Prop :=
  True

def algebraic_DoAttnIdeal_DoAttnRefIdeal [hDoAttnIdeal : Cert.DoAttnIdeal.Facts] [hDoAttnRefIdeal : Cert.DoAttnRefIdeal.Facts] : Prop :=
  ∀ (m : (ℓ : Loc Cert.DoAttnIdeal.nD Cert.DoAttnIdeal.τ Cert.DoAttnIdeal.sig) → Buf (Elt Ideal) ℓ) (g : Dev Cert.DoAttnIdeal.nD → PrngReg)
    (m' : (ℓ : Loc Cert.DoAttnRefIdeal.nD Cert.DoAttnRefIdeal.τ Cert.DoAttnRefIdeal.sig) → Buf (Elt Ideal) ℓ) (g' : Dev Cert.DoAttnRefIdeal.nD → PrngReg), Pre_DoAttnIdeal m →
    (∀ c : Dev Cert.DoAttnIdeal.nD,
      m' ((c.tc : Thread Cert.DoAttnRefIdeal.nD Cert.DoAttnRefIdeal.τ).loc Cert.DoAttnRefIdeal.main_arg0) = m ((c.tc : Thread Cert.DoAttnIdeal.nD Cert.DoAttnIdeal.τ).loc Cert.DoAttnIdeal.main_arg0)
      ∧ m' ((c.tc : Thread Cert.DoAttnRefIdeal.nD Cert.DoAttnRefIdeal.τ).loc Cert.DoAttnRefIdeal.main_arg1) = m ((c.tc : Thread Cert.DoAttnIdeal.nD Cert.DoAttnIdeal.τ).loc Cert.DoAttnIdeal.main_arg1)) →
    ∃ (v0 : (c : Dev Cert.DoAttnIdeal.nD) → Buf (Elt Ideal) ((c.tc : Thread Cert.DoAttnIdeal.nD Cert.DoAttnIdeal.τ).loc Cert.DoAttnIdeal.main_v0)),
      θ_run (Cert.DoAttnIdeal.defs (F := Ideal)) (onTc (τ := Cert.DoAttnIdeal.τ) (Cert.DoAttnIdeal.main (F := Ideal))) ⟨m, fun _ => 0, g⟩ (fun r => ∀ c : Dev Cert.DoAttnIdeal.nD,
          r.2.mem ((c.tc : Thread Cert.DoAttnIdeal.nD Cert.DoAttnIdeal.τ).loc Cert.DoAttnIdeal.main_v0) = v0 c
          ∧ r.2.mem ((c.tc : Thread Cert.DoAttnIdeal.nD Cert.DoAttnIdeal.τ).loc Cert.DoAttnIdeal.main_arg0) = m ((c.tc : Thread Cert.DoAttnIdeal.nD Cert.DoAttnIdeal.τ).loc Cert.DoAttnIdeal.main_arg0)
          ∧ r.2.mem ((c.tc : Thread Cert.DoAttnIdeal.nD Cert.DoAttnIdeal.τ).loc Cert.DoAttnIdeal.main_arg1) = m ((c.tc : Thread Cert.DoAttnIdeal.nD Cert.DoAttnIdeal.τ).loc Cert.DoAttnIdeal.main_arg1))
      ∧ θ_run (Cert.DoAttnRefIdeal.defs (F := Ideal)) (onTc (τ := Cert.DoAttnRefIdeal.τ) (Cert.DoAttnRefIdeal.main (F := Ideal))) ⟨m', fun _ => 0, g'⟩ (fun r => ∀ c : Dev Cert.DoAttnRefIdeal.nD,
          r.2.mem ((c.tc : Thread Cert.DoAttnRefIdeal.nD Cert.DoAttnRefIdeal.τ).loc Cert.DoAttnRefIdeal.main_v5) = v0 c
          ∧ r.2.mem ((c.tc : Thread Cert.DoAttnRefIdeal.nD Cert.DoAttnRefIdeal.τ).loc Cert.DoAttnRefIdeal.main_arg0) = m' ((c.tc : Thread Cert.DoAttnRefIdeal.nD Cert.DoAttnRefIdeal.τ).loc Cert.DoAttnRefIdeal.main_arg0)
          ∧ r.2.mem ((c.tc : Thread Cert.DoAttnRefIdeal.nD Cert.DoAttnRefIdeal.τ).loc Cert.DoAttnRefIdeal.main_arg1) = m' ((c.tc : Thread Cert.DoAttnRefIdeal.nD Cert.DoAttnRefIdeal.τ).loc Cert.DoAttnRefIdeal.main_arg1))

def preserves_Dcy_DcyIdeal : Prop :=
  True

def algebraic_DcyIdeal_DcyRefIdeal [hDcyIdeal : Cert.DcyIdeal.Facts] [hDcyRefIdeal : Cert.DcyRefIdeal.Facts] : Prop :=
  ∀ (m : (ℓ : Loc Cert.DcyIdeal.nD Cert.DcyIdeal.τ Cert.DcyIdeal.sig) → Buf (Elt Ideal) ℓ) (g : Dev Cert.DcyIdeal.nD → PrngReg)
    (m' : (ℓ : Loc Cert.DcyRefIdeal.nD Cert.DcyRefIdeal.τ Cert.DcyRefIdeal.sig) → Buf (Elt Ideal) ℓ) (g' : Dev Cert.DcyRefIdeal.nD → PrngReg), Pre_DcyIdeal m →
    (∀ c : Dev Cert.DcyIdeal.nD,
      m' ((c.tc : Thread Cert.DcyRefIdeal.nD Cert.DcyRefIdeal.τ).loc Cert.DcyRefIdeal.main_arg0) = m ((c.tc : Thread Cert.DcyIdeal.nD Cert.DcyIdeal.τ).loc Cert.DcyIdeal.main_arg0)
      ∧ m' ((c.tc : Thread Cert.DcyRefIdeal.nD Cert.DcyRefIdeal.τ).loc Cert.DcyRefIdeal.main_arg1) = m ((c.tc : Thread Cert.DcyIdeal.nD Cert.DcyIdeal.τ).loc Cert.DcyIdeal.main_arg1)) →
    ∃ (v0 : (c : Dev Cert.DcyIdeal.nD) → Buf (Elt Ideal) ((c.tc : Thread Cert.DcyIdeal.nD Cert.DcyIdeal.τ).loc Cert.DcyIdeal.main_v0)),
      θ_run (Cert.DcyIdeal.defs (F := Ideal)) (onTc (τ := Cert.DcyIdeal.τ) (Cert.DcyIdeal.main (F := Ideal))) ⟨m, fun _ => 0, g⟩ (fun r => ∀ c : Dev Cert.DcyIdeal.nD,
          r.2.mem ((c.tc : Thread Cert.DcyIdeal.nD Cert.DcyIdeal.τ).loc Cert.DcyIdeal.main_v0) = v0 c
          ∧ r.2.mem ((c.tc : Thread Cert.DcyIdeal.nD Cert.DcyIdeal.τ).loc Cert.DcyIdeal.main_arg0) = m ((c.tc : Thread Cert.DcyIdeal.nD Cert.DcyIdeal.τ).loc Cert.DcyIdeal.main_arg0)
          ∧ r.2.mem ((c.tc : Thread Cert.DcyIdeal.nD Cert.DcyIdeal.τ).loc Cert.DcyIdeal.main_arg1) = m ((c.tc : Thread Cert.DcyIdeal.nD Cert.DcyIdeal.τ).loc Cert.DcyIdeal.main_arg1))
      ∧ θ_run (Cert.DcyRefIdeal.defs (F := Ideal)) (onTc (τ := Cert.DcyRefIdeal.τ) (Cert.DcyRefIdeal.main (F := Ideal))) ⟨m', fun _ => 0, g'⟩ (fun r => ∀ c : Dev Cert.DcyRefIdeal.nD,
          r.2.mem ((c.tc : Thread Cert.DcyRefIdeal.nD Cert.DcyRefIdeal.τ).loc Cert.DcyRefIdeal.main_v4) = v0 c
          ∧ r.2.mem ((c.tc : Thread Cert.DcyRefIdeal.nD Cert.DcyRefIdeal.τ).loc Cert.DcyRefIdeal.main_arg0) = m' ((c.tc : Thread Cert.DcyRefIdeal.nD Cert.DcyRefIdeal.τ).loc Cert.DcyRefIdeal.main_arg0)
          ∧ r.2.mem ((c.tc : Thread Cert.DcyRefIdeal.nD Cert.DcyRefIdeal.τ).loc Cert.DcyRefIdeal.main_arg1) = m' ((c.tc : Thread Cert.DcyRefIdeal.nD Cert.DcyRefIdeal.τ).loc Cert.DcyRefIdeal.main_arg1))

def preserves_AttnProj_AttnProjIdeal : Prop :=
  True

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)) →
    ∃ (v0 : (c : Dev Cert.AttnProjIdeal.nD) → Buf (Elt Ideal) ((c.tc : Thread Cert.AttnProjIdeal.nD Cert.AttnProjIdeal.τ).loc Cert.AttnProjIdeal.main_v0)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v0) = v0 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v2) = v0 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1))

def preserves_ConvProj_ConvProjIdeal : Prop :=
  True

def algebraic_ConvProjIdeal_ConvProjRefIdeal [hConvProjIdeal : Cert.ConvProjIdeal.Facts] [hConvProjRefIdeal : Cert.ConvProjRefIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg)
    (m' : (ℓ : Loc Cert.ConvProjRefIdeal.nD Cert.ConvProjRefIdeal.τ Cert.ConvProjRefIdeal.sig) → Buf (Elt Ideal) ℓ) (g' : Dev Cert.ConvProjRefIdeal.nD → PrngReg), Pre_ConvProjIdeal m →
    (∀ c : Dev Cert.ConvProjIdeal.nD,
      m' ((c.tc : Thread Cert.ConvProjRefIdeal.nD Cert.ConvProjRefIdeal.τ).loc Cert.ConvProjRefIdeal.main_arg0) = m ((c.tc : Thread Cert.ConvProjIdeal.nD Cert.ConvProjIdeal.τ).loc Cert.ConvProjIdeal.main_arg0)
      ∧ m' ((c.tc : Thread Cert.ConvProjRefIdeal.nD Cert.ConvProjRefIdeal.τ).loc Cert.ConvProjRefIdeal.main_arg1) = m ((c.tc : Thread Cert.ConvProjIdeal.nD Cert.ConvProjIdeal.τ).loc Cert.ConvProjIdeal.main_arg1)
      ∧ m' ((c.tc : Thread Cert.ConvProjRefIdeal.nD Cert.ConvProjRefIdeal.τ).loc Cert.ConvProjRefIdeal.main_arg2) = m ((c.tc : Thread Cert.ConvProjIdeal.nD Cert.ConvProjIdeal.τ).loc Cert.ConvProjIdeal.main_arg2)
      ∧ m' ((c.tc : Thread Cert.ConvProjRefIdeal.nD Cert.ConvProjRefIdeal.τ).loc Cert.ConvProjRefIdeal.main_arg3) = m ((c.tc : Thread Cert.ConvProjIdeal.nD Cert.ConvProjIdeal.τ).loc Cert.ConvProjIdeal.main_arg3)) →
    ∃ (v0 : (c : Dev Cert.ConvProjIdeal.nD) → Buf (Elt Ideal) ((c.tc : Thread Cert.ConvProjIdeal.nD Cert.ConvProjIdeal.τ).loc Cert.ConvProjIdeal.main_v0_0)) (v1 : (c : Dev Cert.ConvProjIdeal.nD) → Buf (Elt Ideal) ((c.tc : Thread Cert.ConvProjIdeal.nD Cert.ConvProjIdeal.τ).loc Cert.ConvProjIdeal.main_v0_1)),
      θ_run (Cert.ConvProjIdeal.defs (F := Ideal)) (onTc (τ := Cert.ConvProjIdeal.τ) (Cert.ConvProjIdeal.main (F := Ideal))) ⟨m, fun _ => 0, g⟩ (fun r => ∀ c : Dev Cert.ConvProjIdeal.nD,
          r.2.mem ((c.tc : Thread Cert.ConvProjIdeal.nD Cert.ConvProjIdeal.τ).loc Cert.ConvProjIdeal.main_v0_0) = v0 c
          ∧ r.2.mem ((c.tc : Thread Cert.ConvProjIdeal.nD Cert.ConvProjIdeal.τ).loc Cert.ConvProjIdeal.main_v0_1) = v1 c
          ∧ r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
          ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
          ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2)
          ∧ r.2.mem ((c.tc : Thread Cert.ConvProjIdeal.nD Cert.ConvProjIdeal.τ).loc Cert.ConvProjIdeal.main_arg3) = m ((c.tc : Thread Cert.ConvProjIdeal.nD Cert.ConvProjIdeal.τ).loc Cert.ConvProjIdeal.main_arg3))
      ∧ θ_run (Cert.ConvProjRefIdeal.defs (F := Ideal)) (onTc (τ := Cert.ConvProjRefIdeal.τ) (Cert.ConvProjRefIdeal.main (F := Ideal))) ⟨m', fun _ => 0, g'⟩ (fun r => ∀ c : Dev Cert.ConvProjRefIdeal.nD,
          r.2.mem ((c.tc : Thread Cert.ConvProjRefIdeal.nD Cert.ConvProjRefIdeal.τ).loc Cert.ConvProjRefIdeal.main_v4) = v0 c
          ∧ r.2.mem ((c.tc : Thread Cert.ConvProjRefIdeal.nD Cert.ConvProjRefIdeal.τ).loc Cert.ConvProjRefIdeal.main_v20) = v1 c
          ∧ r.2.mem ((c.tc : Thread Cert.ConvProjRefIdeal.nD Cert.ConvProjRefIdeal.τ).loc Cert.ConvProjRefIdeal.main_arg0) = m' ((c.tc : Thread Cert.ConvProjRefIdeal.nD Cert.ConvProjRefIdeal.τ).loc Cert.ConvProjRefIdeal.main_arg0)
          ∧ r.2.mem ((c.tc : Thread Cert.ConvProjRefIdeal.nD Cert.ConvProjRefIdeal.τ).loc Cert.ConvProjRefIdeal.main_arg1) = m' ((c.tc : Thread Cert.ConvProjRefIdeal.nD Cert.ConvProjRefIdeal.τ).loc Cert.ConvProjRefIdeal.main_arg1)
          ∧ r.2.mem ((c.tc : Thread Cert.ConvProjRefIdeal.nD Cert.ConvProjRefIdeal.τ).loc Cert.ConvProjRefIdeal.main_arg2) = m' ((c.tc : Thread Cert.ConvProjRefIdeal.nD Cert.ConvProjRefIdeal.τ).loc Cert.ConvProjRefIdeal.main_arg2)
          ∧ r.2.mem ((c.tc : Thread Cert.ConvProjRefIdeal.nD Cert.ConvProjRefIdeal.τ).loc Cert.ConvProjRefIdeal.main_arg3) = m' ((c.tc : Thread Cert.ConvProjRefIdeal.nD Cert.ConvProjRefIdeal.τ).loc Cert.ConvProjRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v1_0)) (v1 : (c : Dev Cert.MixOutIdeal.nD) → Buf (Elt Ideal) ((c.tc : Thread Cert.MixOutIdeal.nD Cert.MixOutIdeal.τ).loc Cert.MixOutIdeal.main_v1_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1_0) = v0 c
          ∧ r.2.mem ((c.tc : Thread Cert.MixOutIdeal.nD Cert.MixOutIdeal.τ).loc Cert.MixOutIdeal.main_v1_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v17) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_RmsMix_RmsMixIdeal : Prop :=
  True

def algebraic_RmsMixIdeal_RmsMixRefIdeal [hRmsMixIdeal : Cert.RmsMixIdeal.Facts] [hRmsMixRefIdeal : Cert.RmsMixRefIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg)
    (m' : (ℓ : Loc Cert.RmsMixRefIdeal.nD Cert.RmsMixRefIdeal.τ Cert.RmsMixRefIdeal.sig) → Buf (Elt Ideal) ℓ) (g' : Dev Cert.RmsMixRefIdeal.nD → PrngReg), Pre_RmsMixIdeal m →
    (∀ c : Dev Cert.RmsMixIdeal.nD,
      m' ((c.tc : Thread Cert.RmsMixRefIdeal.nD Cert.RmsMixRefIdeal.τ).loc Cert.RmsMixRefIdeal.main_arg0) = m ((c.tc : Thread Cert.RmsMixIdeal.nD Cert.RmsMixIdeal.τ).loc Cert.RmsMixIdeal.main_arg0)
      ∧ m' ((c.tc : Thread Cert.RmsMixRefIdeal.nD Cert.RmsMixRefIdeal.τ).loc Cert.RmsMixRefIdeal.main_arg1) = m ((c.tc : Thread Cert.RmsMixIdeal.nD Cert.RmsMixIdeal.τ).loc Cert.RmsMixIdeal.main_arg1)
      ∧ m' ((c.tc : Thread Cert.RmsMixRefIdeal.nD Cert.RmsMixRefIdeal.τ).loc Cert.RmsMixRefIdeal.main_arg2) = m ((c.tc : Thread Cert.RmsMixIdeal.nD Cert.RmsMixIdeal.τ).loc Cert.RmsMixIdeal.main_arg2)
      ∧ m' ((c.tc : Thread Cert.RmsMixRefIdeal.nD Cert.RmsMixRefIdeal.τ).loc Cert.RmsMixRefIdeal.main_arg3) = m ((c.tc : Thread Cert.RmsMixIdeal.nD Cert.RmsMixIdeal.τ).loc Cert.RmsMixIdeal.main_arg3)) →
    ∃ (v0 : (c : Dev Cert.RmsMixIdeal.nD) → Buf (Elt Ideal) ((c.tc : Thread Cert.RmsMixIdeal.nD Cert.RmsMixIdeal.τ).loc Cert.RmsMixIdeal.main_v1_0)) (v1 : (c : Dev Cert.RmsMixIdeal.nD) → Buf (Elt Ideal) ((c.tc : Thread Cert.RmsMixIdeal.nD Cert.RmsMixIdeal.τ).loc Cert.RmsMixIdeal.main_v1_1)) (v2 : (c : Dev Cert.RmsMixIdeal.nD) → Buf (Elt Ideal) ((c.tc : Thread Cert.RmsMixIdeal.nD Cert.RmsMixIdeal.τ).loc Cert.RmsMixIdeal.main_v1_2)),
      θ_run (Cert.RmsMixIdeal.defs (F := Ideal)) (onTc (τ := Cert.RmsMixIdeal.τ) (Cert.RmsMixIdeal.main (F := Ideal))) ⟨m, fun _ => 0, g⟩ (fun r => ∀ c : Dev Cert.RmsMixIdeal.nD,
          r.2.mem ((c.tc : Thread Cert.RmsMixIdeal.nD Cert.RmsMixIdeal.τ).loc Cert.RmsMixIdeal.main_v1_0) = v0 c
          ∧ r.2.mem ((c.tc : Thread Cert.RmsMixIdeal.nD Cert.RmsMixIdeal.τ).loc Cert.RmsMixIdeal.main_v1_1) = v1 c
          ∧ r.2.mem ((c.tc : Thread Cert.RmsMixIdeal.nD Cert.RmsMixIdeal.τ).loc Cert.RmsMixIdeal.main_v1_2) = v2 c
          ∧ r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
          ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1)
          ∧ r.2.mem ((c.tc : Thread Cert.RmsMixIdeal.nD Cert.RmsMixIdeal.τ).loc Cert.RmsMixIdeal.main_arg2) = m ((c.tc : Thread Cert.RmsMixIdeal.nD Cert.RmsMixIdeal.τ).loc Cert.RmsMixIdeal.main_arg2)
          ∧ r.2.mem ((c.tc : Thread Cert.RmsMixIdeal.nD Cert.RmsMixIdeal.τ).loc Cert.RmsMixIdeal.main_arg3) = m ((c.tc : Thread Cert.RmsMixIdeal.nD Cert.RmsMixIdeal.τ).loc Cert.RmsMixIdeal.main_arg3))
      ∧ θ_run (Cert.RmsMixRefIdeal.defs (F := Ideal)) (onTc (τ := Cert.RmsMixRefIdeal.τ) (Cert.RmsMixRefIdeal.main (F := Ideal))) ⟨m', fun _ => 0, g'⟩ (fun r => ∀ c : Dev Cert.RmsMixRefIdeal.nD,
          r.2.mem ((c.tc : Thread Cert.RmsMixRefIdeal.nD Cert.RmsMixRefIdeal.τ).loc Cert.RmsMixRefIdeal.main_v36) = v0 c
          ∧ r.2.mem ((c.tc : Thread Cert.RmsMixRefIdeal.nD Cert.RmsMixRefIdeal.τ).loc Cert.RmsMixRefIdeal.main_v37) = v1 c
          ∧ r.2.mem ((c.tc : Thread Cert.RmsMixRefIdeal.nD Cert.RmsMixRefIdeal.τ).loc Cert.RmsMixRefIdeal.main_v38) = v2 c
          ∧ r.2.mem ((c.tc : Thread Cert.RmsMixRefIdeal.nD Cert.RmsMixRefIdeal.τ).loc Cert.RmsMixRefIdeal.main_arg0) = m' ((c.tc : Thread Cert.RmsMixRefIdeal.nD Cert.RmsMixRefIdeal.τ).loc Cert.RmsMixRefIdeal.main_arg0)
          ∧ r.2.mem ((c.tc : Thread Cert.RmsMixRefIdeal.nD Cert.RmsMixRefIdeal.τ).loc Cert.RmsMixRefIdeal.main_arg1) = m' ((c.tc : Thread Cert.RmsMixRefIdeal.nD Cert.RmsMixRefIdeal.τ).loc Cert.RmsMixRefIdeal.main_arg1)
          ∧ r.2.mem ((c.tc : Thread Cert.RmsMixRefIdeal.nD Cert.RmsMixRefIdeal.τ).loc Cert.RmsMixRefIdeal.main_arg2) = m' ((c.tc : Thread Cert.RmsMixRefIdeal.nD Cert.RmsMixRefIdeal.τ).loc Cert.RmsMixRefIdeal.main_arg2)
          ∧ r.2.mem ((c.tc : Thread Cert.RmsMixRefIdeal.nD Cert.RmsMixRefIdeal.τ).loc Cert.RmsMixRefIdeal.main_arg3) = m' ((c.tc : Thread Cert.RmsMixRefIdeal.nD Cert.RmsMixRefIdeal.τ).loc Cert.RmsMixRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)) (v2 : (c : Dev Cert.ConvIdeal.nD) → Buf (Elt Ideal) ((c.tc : Thread Cert.ConvIdeal.nD Cert.ConvIdeal.τ).loc Cert.ConvIdeal.main_v3_2)) (v3 : (c : Dev Cert.ConvIdeal.nD) → Buf (Elt Ideal) ((c.tc : Thread Cert.ConvIdeal.nD Cert.ConvIdeal.τ).loc Cert.ConvIdeal.main_v3_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_v3_2) = v2 c
          ∧ r.2.mem ((c.tc : Thread Cert.ConvIdeal.nD Cert.ConvIdeal.τ).loc Cert.ConvIdeal.main_v3_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v66) = v0 c
          ∧ r.2.mem ((c.tc : Thread Cert.ConvRefIdeal.nD Cert.ConvRefIdeal.τ).loc Cert.ConvRefIdeal.main_v67) = v1 c
          ∧ r.2.mem ((c.tc : Thread Cert.ConvRefIdeal.nD Cert.ConvRefIdeal.τ).loc Cert.ConvRefIdeal.main_v68) = v2 c
          ∧ r.2.mem ((c.tc : Thread Cert.ConvRefIdeal.nD Cert.ConvRefIdeal.τ).loc Cert.ConvRefIdeal.main_v65) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_RmsFfn_RmsFfnIdeal : Prop :=
  True

def algebraic_RmsFfnIdeal_RmsFfnRefIdeal [hRmsFfnIdeal : Cert.RmsFfnIdeal.Facts] [hRmsFfnRefIdeal : Cert.RmsFfnRefIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg)
    (m' : (ℓ : Loc Cert.RmsFfnRefIdeal.nD Cert.RmsFfnRefIdeal.τ Cert.RmsFfnRefIdeal.sig) → Buf (Elt Ideal) ℓ) (g' : Dev Cert.RmsFfnRefIdeal.nD → PrngReg), Pre_RmsFfnIdeal m →
    (∀ c : Dev Cert.RmsFfnIdeal.nD,
      m' ((c.tc : Thread Cert.RmsFfnRefIdeal.nD Cert.RmsFfnRefIdeal.τ).loc Cert.RmsFfnRefIdeal.main_arg0) = m ((c.tc : Thread Cert.RmsFfnIdeal.nD Cert.RmsFfnIdeal.τ).loc Cert.RmsFfnIdeal.main_arg0)
      ∧ m' ((c.tc : Thread Cert.RmsFfnRefIdeal.nD Cert.RmsFfnRefIdeal.τ).loc Cert.RmsFfnRefIdeal.main_arg1) = m ((c.tc : Thread Cert.RmsFfnIdeal.nD Cert.RmsFfnIdeal.τ).loc Cert.RmsFfnIdeal.main_arg1)
      ∧ m' ((c.tc : Thread Cert.RmsFfnRefIdeal.nD Cert.RmsFfnRefIdeal.τ).loc Cert.RmsFfnRefIdeal.main_arg2) = m ((c.tc : Thread Cert.RmsFfnIdeal.nD Cert.RmsFfnIdeal.τ).loc Cert.RmsFfnIdeal.main_arg2)
      ∧ m' ((c.tc : Thread Cert.RmsFfnRefIdeal.nD Cert.RmsFfnRefIdeal.τ).loc Cert.RmsFfnRefIdeal.main_arg3) = m ((c.tc : Thread Cert.RmsFfnIdeal.nD Cert.RmsFfnIdeal.τ).loc Cert.RmsFfnIdeal.main_arg3)) →
    ∃ (v0 : (c : Dev Cert.RmsFfnIdeal.nD) → Buf (Elt Ideal) ((c.tc : Thread Cert.RmsFfnIdeal.nD Cert.RmsFfnIdeal.τ).loc Cert.RmsFfnIdeal.main_v1_0)) (v1 : (c : Dev Cert.RmsFfnIdeal.nD) → Buf (Elt Ideal) ((c.tc : Thread Cert.RmsFfnIdeal.nD Cert.RmsFfnIdeal.τ).loc Cert.RmsFfnIdeal.main_v1_1)) (v2 : (c : Dev Cert.RmsFfnIdeal.nD) → Buf (Elt Ideal) ((c.tc : Thread Cert.RmsFfnIdeal.nD Cert.RmsFfnIdeal.τ).loc Cert.RmsFfnIdeal.main_v1_2)),
      θ_run (Cert.RmsFfnIdeal.defs (F := Ideal)) (onTc (τ := Cert.RmsFfnIdeal.τ) (Cert.RmsFfnIdeal.main (F := Ideal))) ⟨m, fun _ => 0, g⟩ (fun r => ∀ c : Dev Cert.RmsFfnIdeal.nD,
          r.2.mem ((c.tc : Thread Cert.RmsFfnIdeal.nD Cert.RmsFfnIdeal.τ).loc Cert.RmsFfnIdeal.main_v1_0) = v0 c
          ∧ r.2.mem ((c.tc : Thread Cert.RmsFfnIdeal.nD Cert.RmsFfnIdeal.τ).loc Cert.RmsFfnIdeal.main_v1_1) = v1 c
          ∧ r.2.mem ((c.tc : Thread Cert.RmsFfnIdeal.nD Cert.RmsFfnIdeal.τ).loc Cert.RmsFfnIdeal.main_v1_2) = v2 c
          ∧ r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
          ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1)
          ∧ r.2.mem ((c.tc : Thread Cert.RmsFfnIdeal.nD Cert.RmsFfnIdeal.τ).loc Cert.RmsFfnIdeal.main_arg2) = m ((c.tc : Thread Cert.RmsFfnIdeal.nD Cert.RmsFfnIdeal.τ).loc Cert.RmsFfnIdeal.main_arg2)
          ∧ r.2.mem ((c.tc : Thread Cert.RmsFfnIdeal.nD Cert.RmsFfnIdeal.τ).loc Cert.RmsFfnIdeal.main_arg3) = m ((c.tc : Thread Cert.RmsFfnIdeal.nD Cert.RmsFfnIdeal.τ).loc Cert.RmsFfnIdeal.main_arg3))
      ∧ θ_run (Cert.RmsFfnRefIdeal.defs (F := Ideal)) (onTc (τ := Cert.RmsFfnRefIdeal.τ) (Cert.RmsFfnRefIdeal.main (F := Ideal))) ⟨m', fun _ => 0, g'⟩ (fun r => ∀ c : Dev Cert.RmsFfnRefIdeal.nD,
          r.2.mem ((c.tc : Thread Cert.RmsFfnRefIdeal.nD Cert.RmsFfnRefIdeal.τ).loc Cert.RmsFfnRefIdeal.main_v36) = v0 c
          ∧ r.2.mem ((c.tc : Thread Cert.RmsFfnRefIdeal.nD Cert.RmsFfnRefIdeal.τ).loc Cert.RmsFfnRefIdeal.main_v37) = v1 c
          ∧ r.2.mem ((c.tc : Thread Cert.RmsFfnRefIdeal.nD Cert.RmsFfnRefIdeal.τ).loc Cert.RmsFfnRefIdeal.main_v38) = v2 c
          ∧ r.2.mem ((c.tc : Thread Cert.RmsFfnRefIdeal.nD Cert.RmsFfnRefIdeal.τ).loc Cert.RmsFfnRefIdeal.main_arg0) = m' ((c.tc : Thread Cert.RmsFfnRefIdeal.nD Cert.RmsFfnRefIdeal.τ).loc Cert.RmsFfnRefIdeal.main_arg0)
          ∧ r.2.mem ((c.tc : Thread Cert.RmsFfnRefIdeal.nD Cert.RmsFfnRefIdeal.τ).loc Cert.RmsFfnRefIdeal.main_arg1) = m' ((c.tc : Thread Cert.RmsFfnRefIdeal.nD Cert.RmsFfnRefIdeal.τ).loc Cert.RmsFfnRefIdeal.main_arg1)
          ∧ r.2.mem ((c.tc : Thread Cert.RmsFfnRefIdeal.nD Cert.RmsFfnRefIdeal.τ).loc Cert.RmsFfnRefIdeal.main_arg2) = m' ((c.tc : Thread Cert.RmsFfnRefIdeal.nD Cert.RmsFfnRefIdeal.τ).loc Cert.RmsFfnRefIdeal.main_arg2)
          ∧ r.2.mem ((c.tc : Thread Cert.RmsFfnRefIdeal.nD Cert.RmsFfnRefIdeal.τ).loc Cert.RmsFfnRefIdeal.main_arg3) = m' ((c.tc : Thread Cert.RmsFfnRefIdeal.nD Cert.RmsFfnRefIdeal.τ).loc Cert.RmsFfnRefIdeal.main_arg3))

def preserves_RmsXattn_RmsXattnIdeal : Prop :=
  True

def algebraic_RmsXattnIdeal_RmsXattnRefIdeal [hRmsXattnIdeal : Cert.RmsXattnIdeal.Facts] [hRmsXattnRefIdeal : Cert.RmsXattnRefIdeal.Facts] : Prop :=
  ∀ (m : (ℓ : Loc Cert.RmsXattnIdeal.nD Cert.RmsXattnIdeal.τ Cert.RmsXattnIdeal.sig) → Buf (Elt Ideal) ℓ) (g : Dev Cert.RmsXattnIdeal.nD → PrngReg)
    (m' : (ℓ : Loc Cert.RmsXattnRefIdeal.nD Cert.RmsXattnRefIdeal.τ Cert.RmsXattnRefIdeal.sig) → Buf (Elt Ideal) ℓ) (g' : Dev Cert.RmsXattnRefIdeal.nD → PrngReg), Pre_RmsXattnIdeal m →
    (∀ c : Dev Cert.RmsXattnIdeal.nD,
      m' ((c.tc : Thread Cert.RmsXattnRefIdeal.nD Cert.RmsXattnRefIdeal.τ).loc Cert.RmsXattnRefIdeal.main_arg0) = m ((c.tc : Thread Cert.RmsXattnIdeal.nD Cert.RmsXattnIdeal.τ).loc Cert.RmsXattnIdeal.main_arg0)
      ∧ m' ((c.tc : Thread Cert.RmsXattnRefIdeal.nD Cert.RmsXattnRefIdeal.τ).loc Cert.RmsXattnRefIdeal.main_arg1) = m ((c.tc : Thread Cert.RmsXattnIdeal.nD Cert.RmsXattnIdeal.τ).loc Cert.RmsXattnIdeal.main_arg1)
      ∧ m' ((c.tc : Thread Cert.RmsXattnRefIdeal.nD Cert.RmsXattnRefIdeal.τ).loc Cert.RmsXattnRefIdeal.main_arg2) = m ((c.tc : Thread Cert.RmsXattnIdeal.nD Cert.RmsXattnIdeal.τ).loc Cert.RmsXattnIdeal.main_arg2)
      ∧ m' ((c.tc : Thread Cert.RmsXattnRefIdeal.nD Cert.RmsXattnRefIdeal.τ).loc Cert.RmsXattnRefIdeal.main_arg3) = m ((c.tc : Thread Cert.RmsXattnIdeal.nD Cert.RmsXattnIdeal.τ).loc Cert.RmsXattnIdeal.main_arg3)
      ∧ m' ((c.tc : Thread Cert.RmsXattnRefIdeal.nD Cert.RmsXattnRefIdeal.τ).loc Cert.RmsXattnRefIdeal.main_arg4) = m ((c.tc : Thread Cert.RmsXattnIdeal.nD Cert.RmsXattnIdeal.τ).loc Cert.RmsXattnIdeal.main_arg4)) →
    ∃ (v0 : (c : Dev Cert.RmsXattnIdeal.nD) → Buf (Elt Ideal) ((c.tc : Thread Cert.RmsXattnIdeal.nD Cert.RmsXattnIdeal.τ).loc Cert.RmsXattnIdeal.main_v1_0)) (v1 : (c : Dev Cert.RmsXattnIdeal.nD) → Buf (Elt Ideal) ((c.tc : Thread Cert.RmsXattnIdeal.nD Cert.RmsXattnIdeal.τ).loc Cert.RmsXattnIdeal.main_v1_1)) (v2 : (c : Dev Cert.RmsXattnIdeal.nD) → Buf (Elt Ideal) ((c.tc : Thread Cert.RmsXattnIdeal.nD Cert.RmsXattnIdeal.τ).loc Cert.RmsXattnIdeal.main_v1_2)),
      θ_run (Cert.RmsXattnIdeal.defs (F := Ideal)) (onTc (τ := Cert.RmsXattnIdeal.τ) (Cert.RmsXattnIdeal.main (F := Ideal))) ⟨m, fun _ => 0, g⟩ (fun r => ∀ c : Dev Cert.RmsXattnIdeal.nD,
          r.2.mem ((c.tc : Thread Cert.RmsXattnIdeal.nD Cert.RmsXattnIdeal.τ).loc Cert.RmsXattnIdeal.main_v1_0) = v0 c
          ∧ r.2.mem ((c.tc : Thread Cert.RmsXattnIdeal.nD Cert.RmsXattnIdeal.τ).loc Cert.RmsXattnIdeal.main_v1_1) = v1 c
          ∧ r.2.mem ((c.tc : Thread Cert.RmsXattnIdeal.nD Cert.RmsXattnIdeal.τ).loc Cert.RmsXattnIdeal.main_v1_2) = v2 c
          ∧ r.2.mem ((c.tc : Thread Cert.RmsXattnIdeal.nD Cert.RmsXattnIdeal.τ).loc Cert.RmsXattnIdeal.main_arg0) = m ((c.tc : Thread Cert.RmsXattnIdeal.nD Cert.RmsXattnIdeal.τ).loc Cert.RmsXattnIdeal.main_arg0)
          ∧ r.2.mem ((c.tc : Thread Cert.RmsXattnIdeal.nD Cert.RmsXattnIdeal.τ).loc Cert.RmsXattnIdeal.main_arg1) = m ((c.tc : Thread Cert.RmsXattnIdeal.nD Cert.RmsXattnIdeal.τ).loc Cert.RmsXattnIdeal.main_arg1)
          ∧ r.2.mem ((c.tc : Thread Cert.RmsXattnIdeal.nD Cert.RmsXattnIdeal.τ).loc Cert.RmsXattnIdeal.main_arg2) = m ((c.tc : Thread Cert.RmsXattnIdeal.nD Cert.RmsXattnIdeal.τ).loc Cert.RmsXattnIdeal.main_arg2)
          ∧ r.2.mem ((c.tc : Thread Cert.RmsXattnIdeal.nD Cert.RmsXattnIdeal.τ).loc Cert.RmsXattnIdeal.main_arg3) = m ((c.tc : Thread Cert.RmsXattnIdeal.nD Cert.RmsXattnIdeal.τ).loc Cert.RmsXattnIdeal.main_arg3)
          ∧ r.2.mem ((c.tc : Thread Cert.RmsXattnIdeal.nD Cert.RmsXattnIdeal.τ).loc Cert.RmsXattnIdeal.main_arg4) = m ((c.tc : Thread Cert.RmsXattnIdeal.nD Cert.RmsXattnIdeal.τ).loc Cert.RmsXattnIdeal.main_arg4))
      ∧ θ_run (Cert.RmsXattnRefIdeal.defs (F := Ideal)) (onTc (τ := Cert.RmsXattnRefIdeal.τ) (Cert.RmsXattnRefIdeal.main (F := Ideal))) ⟨m', fun _ => 0, g'⟩ (fun r => ∀ c : Dev Cert.RmsXattnRefIdeal.nD,
          r.2.mem ((c.tc : Thread Cert.RmsXattnRefIdeal.nD Cert.RmsXattnRefIdeal.τ).loc Cert.RmsXattnRefIdeal.main_v40) = v0 c
          ∧ r.2.mem ((c.tc : Thread Cert.RmsXattnRefIdeal.nD Cert.RmsXattnRefIdeal.τ).loc Cert.RmsXattnRefIdeal.main_v41) = v1 c
          ∧ r.2.mem ((c.tc : Thread Cert.RmsXattnRefIdeal.nD Cert.RmsXattnRefIdeal.τ).loc Cert.RmsXattnRefIdeal.main_v42) = v2 c
          ∧ r.2.mem ((c.tc : Thread Cert.RmsXattnRefIdeal.nD Cert.RmsXattnRefIdeal.τ).loc Cert.RmsXattnRefIdeal.main_arg0) = m' ((c.tc : Thread Cert.RmsXattnRefIdeal.nD Cert.RmsXattnRefIdeal.τ).loc Cert.RmsXattnRefIdeal.main_arg0)
          ∧ r.2.mem ((c.tc : Thread Cert.RmsXattnRefIdeal.nD Cert.RmsXattnRefIdeal.τ).loc Cert.RmsXattnRefIdeal.main_arg1) = m' ((c.tc : Thread Cert.RmsXattnRefIdeal.nD Cert.RmsXattnRefIdeal.τ).loc Cert.RmsXattnRefIdeal.main_arg1)
          ∧ r.2.mem ((c.tc : Thread Cert.RmsXattnRefIdeal.nD Cert.RmsXattnRefIdeal.τ).loc Cert.RmsXattnRefIdeal.main_arg2) = m' ((c.tc : Thread Cert.RmsXattnRefIdeal.nD Cert.RmsXattnRefIdeal.τ).loc Cert.RmsXattnRefIdeal.main_arg2)
          ∧ r.2.mem ((c.tc : Thread Cert.RmsXattnRefIdeal.nD Cert.RmsXattnRefIdeal.τ).loc Cert.RmsXattnRefIdeal.main_arg3) = m' ((c.tc : Thread Cert.RmsXattnRefIdeal.nD Cert.RmsXattnRefIdeal.τ).loc Cert.RmsXattnRefIdeal.main_arg3)
          ∧ r.2.mem ((c.tc : Thread Cert.RmsXattnRefIdeal.nD Cert.RmsXattnRefIdeal.τ).loc Cert.RmsXattnRefIdeal.main_arg4) = m' ((c.tc : Thread Cert.RmsXattnRefIdeal.nD Cert.RmsXattnRefIdeal.τ).loc Cert.RmsXattnRefIdeal.main_arg4))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)
      ∧ m' ((c.tc : Thread Cert.RmsMemRefIdeal.nD Cert.RmsMemRefIdeal.τ).loc Cert.RmsMemRefIdeal.main_arg2) = m ((c.tc : Thread Cert.RmsMemIdeal.nD Cert.RmsMemIdeal.τ).loc Cert.RmsMemIdeal.main_arg2)) →
    ∃ (v0 : (c : Dev Cert.RmsMemIdeal.nD) → Buf (Elt Ideal) ((c.tc : Thread Cert.RmsMemIdeal.nD Cert.RmsMemIdeal.τ).loc Cert.RmsMemIdeal.main_v1)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v1) = v0 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
          ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v17) = v0 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1)
          ∧ r.2.mem ((c.tc : Thread Cert.RmsMemRefIdeal.nD Cert.RmsMemRefIdeal.τ).loc Cert.RmsMemRefIdeal.main_arg2) = m' ((c.tc : Thread Cert.RmsMemRefIdeal.nD Cert.RmsMemRefIdeal.τ).loc Cert.RmsMemRefIdeal.main_arg2))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)) →
    ∃ (v0 : (c : Dev Cert.NormMixIdeal.nD) → Buf (Elt Ideal) ((c.tc : Thread Cert.NormMixIdeal.nD Cert.NormMixIdeal.τ).loc Cert.NormMixIdeal.main_v1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v1) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v13) = v0 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v1) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v13) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v3)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v3) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v27) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)) →
    ∃ (v0 : (c : Dev Cert.XattnIdeal.nD) → Buf (Elt Ideal) ((c.tc : Thread Cert.XattnIdeal.nD Cert.XattnIdeal.τ).loc Cert.XattnIdeal.main_v0)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v24) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1))

def preserves_XattnBwd_XattnBwdIdeal : Prop :=
  True

def algebraic_XattnBwdIdeal_XattnBwdRefIdeal_pre_finite_xattn [hXattnBwdIdeal : Cert.XattnBwdIdeal.Facts] [hXattnBwdRefIdeal : Cert.XattnBwdRefIdeal.Facts] [hPre_finite_xattn : Cert.Pre_finite_xattn.Facts] : Prop :=
  ∀ (m : (ℓ : Loc Cert.XattnBwdIdeal.nD Cert.XattnBwdIdeal.τ Cert.XattnBwdIdeal.sig) → Buf (Elt Ideal) ℓ) (g : Dev Cert.XattnBwdIdeal.nD → PrngReg)
    (m' : (ℓ : Loc Cert.XattnBwdRefIdeal.nD Cert.XattnBwdRefIdeal.τ Cert.XattnBwdRefIdeal.sig) → Buf (Elt Ideal) ℓ) (g' : Dev Cert.XattnBwdRefIdeal.nD → PrngReg), Pre_XattnBwdIdeal_finite_xattn m →
    (∀ c : Dev Cert.XattnBwdIdeal.nD,
      m' ((c.tc : Thread Cert.XattnBwdRefIdeal.nD Cert.XattnBwdRefIdeal.τ).loc Cert.XattnBwdRefIdeal.main_arg0) = m ((c.tc : Thread Cert.XattnBwdIdeal.nD Cert.XattnBwdIdeal.τ).loc Cert.XattnBwdIdeal.main_arg0)
      ∧ m' ((c.tc : Thread Cert.XattnBwdRefIdeal.nD Cert.XattnBwdRefIdeal.τ).loc Cert.XattnBwdRefIdeal.main_arg1) = m ((c.tc : Thread Cert.XattnBwdIdeal.nD Cert.XattnBwdIdeal.τ).loc Cert.XattnBwdIdeal.main_arg1)
      ∧ m' ((c.tc : Thread Cert.XattnBwdRefIdeal.nD Cert.XattnBwdRefIdeal.τ).loc Cert.XattnBwdRefIdeal.main_arg2) = m ((c.tc : Thread Cert.XattnBwdIdeal.nD Cert.XattnBwdIdeal.τ).loc Cert.XattnBwdIdeal.main_arg2)) →
    ∃ (v0 : (c : Dev Cert.XattnBwdIdeal.nD) → Buf (Elt Ideal) ((c.tc : Thread Cert.XattnBwdIdeal.nD Cert.XattnBwdIdeal.τ).loc Cert.XattnBwdIdeal.main_v0_0)) (v1 : (c : Dev Cert.XattnBwdIdeal.nD) → Buf (Elt Ideal) ((c.tc : Thread Cert.XattnBwdIdeal.nD Cert.XattnBwdIdeal.τ).loc Cert.XattnBwdIdeal.main_v0_1)),
      θ_run (Cert.XattnBwdIdeal.defs (F := Ideal)) (onTc (τ := Cert.XattnBwdIdeal.τ) (Cert.XattnBwdIdeal.main (F := Ideal))) ⟨m, fun _ => 0, g⟩ (fun r => ∀ c : Dev Cert.XattnBwdIdeal.nD,
          r.2.mem ((c.tc : Thread Cert.XattnBwdIdeal.nD Cert.XattnBwdIdeal.τ).loc Cert.XattnBwdIdeal.main_v0_0) = v0 c
          ∧ r.2.mem ((c.tc : Thread Cert.XattnBwdIdeal.nD Cert.XattnBwdIdeal.τ).loc Cert.XattnBwdIdeal.main_v0_1) = v1 c
          ∧ r.2.mem ((c.tc : Thread Cert.XattnBwdIdeal.nD Cert.XattnBwdIdeal.τ).loc Cert.XattnBwdIdeal.main_arg0) = m ((c.tc : Thread Cert.XattnBwdIdeal.nD Cert.XattnBwdIdeal.τ).loc Cert.XattnBwdIdeal.main_arg0)
          ∧ r.2.mem ((c.tc : Thread Cert.XattnBwdIdeal.nD Cert.XattnBwdIdeal.τ).loc Cert.XattnBwdIdeal.main_arg1) = m ((c.tc : Thread Cert.XattnBwdIdeal.nD Cert.XattnBwdIdeal.τ).loc Cert.XattnBwdIdeal.main_arg1)
          ∧ r.2.mem ((c.tc : Thread Cert.XattnBwdIdeal.nD Cert.XattnBwdIdeal.τ).loc Cert.XattnBwdIdeal.main_arg2) = m ((c.tc : Thread Cert.XattnBwdIdeal.nD Cert.XattnBwdIdeal.τ).loc Cert.XattnBwdIdeal.main_arg2))
      ∧ θ_run (Cert.XattnBwdRefIdeal.defs (F := Ideal)) (onTc (τ := Cert.XattnBwdRefIdeal.τ) (Cert.XattnBwdRefIdeal.main (F := Ideal))) ⟨m', fun _ => 0, g'⟩ (fun r => ∀ c : Dev Cert.XattnBwdRefIdeal.nD,
          r.2.mem ((c.tc : Thread Cert.XattnBwdRefIdeal.nD Cert.XattnBwdRefIdeal.τ).loc Cert.XattnBwdRefIdeal.main_v71) = v0 c
          ∧ r.2.mem ((c.tc : Thread Cert.XattnBwdRefIdeal.nD Cert.XattnBwdRefIdeal.τ).loc Cert.XattnBwdRefIdeal.main_v69) = v1 c
          ∧ r.2.mem ((c.tc : Thread Cert.XattnBwdRefIdeal.nD Cert.XattnBwdRefIdeal.τ).loc Cert.XattnBwdRefIdeal.main_arg0) = m' ((c.tc : Thread Cert.XattnBwdRefIdeal.nD Cert.XattnBwdRefIdeal.τ).loc Cert.XattnBwdRefIdeal.main_arg0)
          ∧ r.2.mem ((c.tc : Thread Cert.XattnBwdRefIdeal.nD Cert.XattnBwdRefIdeal.τ).loc Cert.XattnBwdRefIdeal.main_arg1) = m' ((c.tc : Thread Cert.XattnBwdRefIdeal.nD Cert.XattnBwdRefIdeal.τ).loc Cert.XattnBwdRefIdeal.main_arg1)
          ∧ r.2.mem ((c.tc : Thread Cert.XattnBwdRefIdeal.nD Cert.XattnBwdRefIdeal.τ).loc Cert.XattnBwdRefIdeal.main_arg2) = m' ((c.tc : Thread Cert.XattnBwdRefIdeal.nD Cert.XattnBwdRefIdeal.τ).loc Cert.XattnBwdRefIdeal.main_arg2))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v3) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)) →
    ∃ (v0 : (c : Dev Cert.XkvIdeal.nD) → Buf (Elt Ideal) ((c.tc : Thread Cert.XkvIdeal.nD Cert.XkvIdeal.τ).loc Cert.XkvIdeal.main_v0)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v0) = v0 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v3) = v0 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)
      ∧ m' ((c.tc : Thread Cert.XoRefIdeal.nD Cert.XoRefIdeal.τ).loc Cert.XoRefIdeal.main_arg3) = m ((c.tc : Thread Cert.XoIdeal.nD Cert.XoIdeal.τ).loc Cert.XoIdeal.main_arg3)) →
    ∃ (v0 : (c : Dev Cert.XoIdeal.nD) → Buf (Elt Ideal) ((c.tc : Thread Cert.XoIdeal.nD Cert.XoIdeal.τ).loc Cert.XoIdeal.main_v1_0)) (v1 : (c : Dev Cert.XoIdeal.nD) → Buf (Elt Ideal) ((c.tc : Thread Cert.XoIdeal.nD Cert.XoIdeal.τ).loc Cert.XoIdeal.main_v1_1)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v1_0) = v0 c
          ∧ r.2.mem ((c.tc : Thread Cert.XoIdeal.nD Cert.XoIdeal.τ).loc Cert.XoIdeal.main_v1_1) = v1 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2)
          ∧ r.2.mem ((c.tc : Thread Cert.XoIdeal.nD Cert.XoIdeal.τ).loc Cert.XoIdeal.main_arg3) = m ((c.tc : Thread Cert.XoIdeal.nD Cert.XoIdeal.τ).loc Cert.XoIdeal.main_arg3))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v3) = v0 c
          ∧ r.2.mem ((c.tc : Thread Cert.XoRefIdeal.nD Cert.XoRefIdeal.τ).loc Cert.XoRefIdeal.main_v17) = v1 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2)
          ∧ r.2.mem ((c.tc : Thread Cert.XoRefIdeal.nD Cert.XoRefIdeal.τ).loc Cert.XoRefIdeal.main_arg3) = m' ((c.tc : Thread Cert.XoRefIdeal.nD Cert.XoRefIdeal.τ).loc Cert.XoRefIdeal.main_arg3))

def preserves_DwXo_DwXoIdeal : Prop :=
  True

def algebraic_DwXoIdeal_DwXoRefIdeal [hDwXoIdeal : Cert.DwXoIdeal.Facts] [hDwXoRefIdeal : Cert.DwXoRefIdeal.Facts] : Prop :=
  ∀ (m : (ℓ : Loc Cert.DwXoIdeal.nD Cert.DwXoIdeal.τ Cert.DwXoIdeal.sig) → Buf (Elt Ideal) ℓ) (g : Dev Cert.DwXoIdeal.nD → PrngReg)
    (m' : (ℓ : Loc Cert.DwXoRefIdeal.nD Cert.DwXoRefIdeal.τ Cert.DwXoRefIdeal.sig) → Buf (Elt Ideal) ℓ) (g' : Dev Cert.DwXoRefIdeal.nD → PrngReg), Pre_DwXoIdeal m →
    (∀ c : Dev Cert.DwXoIdeal.nD,
      m' ((c.tc : Thread Cert.DwXoRefIdeal.nD Cert.DwXoRefIdeal.τ).loc Cert.DwXoRefIdeal.main_arg0) = m ((c.tc : Thread Cert.DwXoIdeal.nD Cert.DwXoIdeal.τ).loc Cert.DwXoIdeal.main_arg0)
      ∧ m' ((c.tc : Thread Cert.DwXoRefIdeal.nD Cert.DwXoRefIdeal.τ).loc Cert.DwXoRefIdeal.main_arg1) = m ((c.tc : Thread Cert.DwXoIdeal.nD Cert.DwXoIdeal.τ).loc Cert.DwXoIdeal.main_arg1)) →
    ∃ (v0 : (c : Dev Cert.DwXoIdeal.nD) → Buf (Elt Ideal) ((c.tc : Thread Cert.DwXoIdeal.nD Cert.DwXoIdeal.τ).loc Cert.DwXoIdeal.main_v0)),
      θ_run (Cert.DwXoIdeal.defs (F := Ideal)) (onTc (τ := Cert.DwXoIdeal.τ) (Cert.DwXoIdeal.main (F := Ideal))) ⟨m, fun _ => 0, g⟩ (fun r => ∀ c : Dev Cert.DwXoIdeal.nD,
          r.2.mem ((c.tc : Thread Cert.DwXoIdeal.nD Cert.DwXoIdeal.τ).loc Cert.DwXoIdeal.main_v0) = v0 c
          ∧ r.2.mem ((c.tc : Thread Cert.DwXoIdeal.nD Cert.DwXoIdeal.τ).loc Cert.DwXoIdeal.main_arg0) = m ((c.tc : Thread Cert.DwXoIdeal.nD Cert.DwXoIdeal.τ).loc Cert.DwXoIdeal.main_arg0)
          ∧ r.2.mem ((c.tc : Thread Cert.DwXoIdeal.nD Cert.DwXoIdeal.τ).loc Cert.DwXoIdeal.main_arg1) = m ((c.tc : Thread Cert.DwXoIdeal.nD Cert.DwXoIdeal.τ).loc Cert.DwXoIdeal.main_arg1))
      ∧ θ_run (Cert.DwXoRefIdeal.defs (F := Ideal)) (onTc (τ := Cert.DwXoRefIdeal.τ) (Cert.DwXoRefIdeal.main (F := Ideal))) ⟨m', fun _ => 0, g'⟩ (fun r => ∀ c : Dev Cert.DwXoRefIdeal.nD,
          r.2.mem ((c.tc : Thread Cert.DwXoRefIdeal.nD Cert.DwXoRefIdeal.τ).loc Cert.DwXoRefIdeal.main_v8) = v0 c
          ∧ r.2.mem ((c.tc : Thread Cert.DwXoRefIdeal.nD Cert.DwXoRefIdeal.τ).loc Cert.DwXoRefIdeal.main_arg0) = m' ((c.tc : Thread Cert.DwXoRefIdeal.nD Cert.DwXoRefIdeal.τ).loc Cert.DwXoRefIdeal.main_arg0)
          ∧ r.2.mem ((c.tc : Thread Cert.DwXoRefIdeal.nD Cert.DwXoRefIdeal.τ).loc Cert.DwXoRefIdeal.main_arg1) = m' ((c.tc : Thread Cert.DwXoRefIdeal.nD Cert.DwXoRefIdeal.τ).loc Cert.DwXoRefIdeal.main_arg1))

def preserves_DoX_DoXIdeal : Prop :=
  True

def algebraic_DoXIdeal_DoXRefIdeal [hDoXIdeal : Cert.DoXIdeal.Facts] [hDoXRefIdeal : Cert.DoXRefIdeal.Facts] : Prop :=
  ∀ (m : (ℓ : Loc Cert.DoXIdeal.nD Cert.DoXIdeal.τ Cert.DoXIdeal.sig) → Buf (Elt Ideal) ℓ) (g : Dev Cert.DoXIdeal.nD → PrngReg)
    (m' : (ℓ : Loc Cert.DoXRefIdeal.nD Cert.DoXRefIdeal.τ Cert.DoXRefIdeal.sig) → Buf (Elt Ideal) ℓ) (g' : Dev Cert.DoXRefIdeal.nD → PrngReg), Pre_DoXIdeal m →
    (∀ c : Dev Cert.DoXIdeal.nD,
      m' ((c.tc : Thread Cert.DoXRefIdeal.nD Cert.DoXRefIdeal.τ).loc Cert.DoXRefIdeal.main_arg0) = m ((c.tc : Thread Cert.DoXIdeal.nD Cert.DoXIdeal.τ).loc Cert.DoXIdeal.main_arg0)
      ∧ m' ((c.tc : Thread Cert.DoXRefIdeal.nD Cert.DoXRefIdeal.τ).loc Cert.DoXRefIdeal.main_arg1) = m ((c.tc : Thread Cert.DoXIdeal.nD Cert.DoXIdeal.τ).loc Cert.DoXIdeal.main_arg1)) →
    ∃ (v0 : (c : Dev Cert.DoXIdeal.nD) → Buf (Elt Ideal) ((c.tc : Thread Cert.DoXIdeal.nD Cert.DoXIdeal.τ).loc Cert.DoXIdeal.main_v0)),
      θ_run (Cert.DoXIdeal.defs (F := Ideal)) (onTc (τ := Cert.DoXIdeal.τ) (Cert.DoXIdeal.main (F := Ideal))) ⟨m, fun _ => 0, g⟩ (fun r => ∀ c : Dev Cert.DoXIdeal.nD,
          r.2.mem ((c.tc : Thread Cert.DoXIdeal.nD Cert.DoXIdeal.τ).loc Cert.DoXIdeal.main_v0) = v0 c
          ∧ r.2.mem ((c.tc : Thread Cert.DoXIdeal.nD Cert.DoXIdeal.τ).loc Cert.DoXIdeal.main_arg0) = m ((c.tc : Thread Cert.DoXIdeal.nD Cert.DoXIdeal.τ).loc Cert.DoXIdeal.main_arg0)
          ∧ r.2.mem ((c.tc : Thread Cert.DoXIdeal.nD Cert.DoXIdeal.τ).loc Cert.DoXIdeal.main_arg1) = m ((c.tc : Thread Cert.DoXIdeal.nD Cert.DoXIdeal.τ).loc Cert.DoXIdeal.main_arg1))
      ∧ θ_run (Cert.DoXRefIdeal.defs (F := Ideal)) (onTc (τ := Cert.DoXRefIdeal.τ) (Cert.DoXRefIdeal.main (F := Ideal))) ⟨m', fun _ => 0, g'⟩ (fun r => ∀ c : Dev Cert.DoXRefIdeal.nD,
          r.2.mem ((c.tc : Thread Cert.DoXRefIdeal.nD Cert.DoXRefIdeal.τ).loc Cert.DoXRefIdeal.main_v5) = v0 c
          ∧ r.2.mem ((c.tc : Thread Cert.DoXRefIdeal.nD Cert.DoXRefIdeal.τ).loc Cert.DoXRefIdeal.main_arg0) = m' ((c.tc : Thread Cert.DoXRefIdeal.nD Cert.DoXRefIdeal.τ).loc Cert.DoXRefIdeal.main_arg0)
          ∧ r.2.mem ((c.tc : Thread Cert.DoXRefIdeal.nD Cert.DoXRefIdeal.τ).loc Cert.DoXRefIdeal.main_arg1) = m' ((c.tc : Thread Cert.DoXRefIdeal.nD Cert.DoXRefIdeal.τ).loc Cert.DoXRefIdeal.main_arg1))

def preserves_DwXq_DwXqIdeal : Prop :=
  True

def algebraic_DwXqIdeal_DwXqRefIdeal [hDwXqIdeal : Cert.DwXqIdeal.Facts] [hDwXqRefIdeal : Cert.DwXqRefIdeal.Facts] : Prop :=
  ∀ (m : (ℓ : Loc Cert.DwXqIdeal.nD Cert.DwXqIdeal.τ Cert.DwXqIdeal.sig) → Buf (Elt Ideal) ℓ) (g : Dev Cert.DwXqIdeal.nD → PrngReg)
    (m' : (ℓ : Loc Cert.DwXqRefIdeal.nD Cert.DwXqRefIdeal.τ Cert.DwXqRefIdeal.sig) → Buf (Elt Ideal) ℓ) (g' : Dev Cert.DwXqRefIdeal.nD → PrngReg), Pre_DwXqIdeal m →
    (∀ c : Dev Cert.DwXqIdeal.nD,
      m' ((c.tc : Thread Cert.DwXqRefIdeal.nD Cert.DwXqRefIdeal.τ).loc Cert.DwXqRefIdeal.main_arg0) = m ((c.tc : Thread Cert.DwXqIdeal.nD Cert.DwXqIdeal.τ).loc Cert.DwXqIdeal.main_arg0)
      ∧ m' ((c.tc : Thread Cert.DwXqRefIdeal.nD Cert.DwXqRefIdeal.τ).loc Cert.DwXqRefIdeal.main_arg1) = m ((c.tc : Thread Cert.DwXqIdeal.nD Cert.DwXqIdeal.τ).loc Cert.DwXqIdeal.main_arg1)) →
    ∃ (v0 : (c : Dev Cert.DwXqIdeal.nD) → Buf (Elt Ideal) ((c.tc : Thread Cert.DwXqIdeal.nD Cert.DwXqIdeal.τ).loc Cert.DwXqIdeal.main_v0)),
      θ_run (Cert.DwXqIdeal.defs (F := Ideal)) (onTc (τ := Cert.DwXqIdeal.τ) (Cert.DwXqIdeal.main (F := Ideal))) ⟨m, fun _ => 0, g⟩ (fun r => ∀ c : Dev Cert.DwXqIdeal.nD,
          r.2.mem ((c.tc : Thread Cert.DwXqIdeal.nD Cert.DwXqIdeal.τ).loc Cert.DwXqIdeal.main_v0) = v0 c
          ∧ r.2.mem ((c.tc : Thread Cert.DwXqIdeal.nD Cert.DwXqIdeal.τ).loc Cert.DwXqIdeal.main_arg0) = m ((c.tc : Thread Cert.DwXqIdeal.nD Cert.DwXqIdeal.τ).loc Cert.DwXqIdeal.main_arg0)
          ∧ r.2.mem ((c.tc : Thread Cert.DwXqIdeal.nD Cert.DwXqIdeal.τ).loc Cert.DwXqIdeal.main_arg1) = m ((c.tc : Thread Cert.DwXqIdeal.nD Cert.DwXqIdeal.τ).loc Cert.DwXqIdeal.main_arg1))
      ∧ θ_run (Cert.DwXqRefIdeal.defs (F := Ideal)) (onTc (τ := Cert.DwXqRefIdeal.τ) (Cert.DwXqRefIdeal.main (F := Ideal))) ⟨m', fun _ => 0, g'⟩ (fun r => ∀ c : Dev Cert.DwXqRefIdeal.nD,
          r.2.mem ((c.tc : Thread Cert.DwXqRefIdeal.nD Cert.DwXqRefIdeal.τ).loc Cert.DwXqRefIdeal.main_v6) = v0 c
          ∧ r.2.mem ((c.tc : Thread Cert.DwXqRefIdeal.nD Cert.DwXqRefIdeal.τ).loc Cert.DwXqRefIdeal.main_arg0) = m' ((c.tc : Thread Cert.DwXqRefIdeal.nD Cert.DwXqRefIdeal.τ).loc Cert.DwXqRefIdeal.main_arg0)
          ∧ r.2.mem ((c.tc : Thread Cert.DwXqRefIdeal.nD Cert.DwXqRefIdeal.τ).loc Cert.DwXqRefIdeal.main_arg1) = m' ((c.tc : Thread Cert.DwXqRefIdeal.nD Cert.DwXqRefIdeal.τ).loc Cert.DwXqRefIdeal.main_arg1))

def preserves_DwXkv_DwXkvIdeal : Prop :=
  True

def algebraic_DwXkvIdeal_DwXkvRefIdeal [hDwXkvIdeal : Cert.DwXkvIdeal.Facts] [hDwXkvRefIdeal : Cert.DwXkvRefIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg)
    (m' : (ℓ : Loc Cert.DwXkvRefIdeal.nD Cert.DwXkvRefIdeal.τ Cert.DwXkvRefIdeal.sig) → Buf (Elt Ideal) ℓ) (g' : Dev Cert.DwXkvRefIdeal.nD → PrngReg), Pre_DwXkvIdeal m →
    (∀ c : Dev Cert.DwXkvIdeal.nD,
      m' ((c.tc : Thread Cert.DwXkvRefIdeal.nD Cert.DwXkvRefIdeal.τ).loc Cert.DwXkvRefIdeal.main_arg0) = m ((c.tc : Thread Cert.DwXkvIdeal.nD Cert.DwXkvIdeal.τ).loc Cert.DwXkvIdeal.main_arg0)
      ∧ m' ((c.tc : Thread Cert.DwXkvRefIdeal.nD Cert.DwXkvRefIdeal.τ).loc Cert.DwXkvRefIdeal.main_arg1) = m ((c.tc : Thread Cert.DwXkvIdeal.nD Cert.DwXkvIdeal.τ).loc Cert.DwXkvIdeal.main_arg1)) →
    ∃ (v0 : (c : Dev Cert.DwXkvIdeal.nD) → Buf (Elt Ideal) ((c.tc : Thread Cert.DwXkvIdeal.nD Cert.DwXkvIdeal.τ).loc Cert.DwXkvIdeal.main_v0)),
      θ_run (Cert.DwXkvIdeal.defs (F := Ideal)) (onTc (τ := Cert.DwXkvIdeal.τ) (Cert.DwXkvIdeal.main (F := Ideal))) ⟨m, fun _ => 0, g⟩ (fun r => ∀ c : Dev Cert.DwXkvIdeal.nD,
          r.2.mem ((c.tc : Thread Cert.DwXkvIdeal.nD Cert.DwXkvIdeal.τ).loc Cert.DwXkvIdeal.main_v0) = v0 c
          ∧ r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
          ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1))
      ∧ θ_run (Cert.DwXkvRefIdeal.defs (F := Ideal)) (onTc (τ := Cert.DwXkvRefIdeal.τ) (Cert.DwXkvRefIdeal.main (F := Ideal))) ⟨m', fun _ => 0, g'⟩ (fun r => ∀ c : Dev Cert.DwXkvRefIdeal.nD,
          r.2.mem ((c.tc : Thread Cert.DwXkvRefIdeal.nD Cert.DwXkvRefIdeal.τ).loc Cert.DwXkvRefIdeal.main_v5) = v0 c
          ∧ r.2.mem ((c.tc : Thread Cert.DwXkvRefIdeal.nD Cert.DwXkvRefIdeal.τ).loc Cert.DwXkvRefIdeal.main_arg0) = m' ((c.tc : Thread Cert.DwXkvRefIdeal.nD Cert.DwXkvRefIdeal.τ).loc Cert.DwXkvRefIdeal.main_arg0)
          ∧ r.2.mem ((c.tc : Thread Cert.DwXkvRefIdeal.nD Cert.DwXkvRefIdeal.τ).loc Cert.DwXkvRefIdeal.main_arg1) = m' ((c.tc : Thread Cert.DwXkvRefIdeal.nD Cert.DwXkvRefIdeal.τ).loc Cert.DwXkvRefIdeal.main_arg1))

def preserves_Dmem_DmemIdeal : Prop :=
  True

def algebraic_DmemIdeal_DmemRefIdeal [hDmemIdeal : Cert.DmemIdeal.Facts] [hDmemRefIdeal : Cert.DmemRefIdeal.Facts] : Prop :=
  ∀ (m : (ℓ : Loc Cert.DmemIdeal.nD Cert.DmemIdeal.τ Cert.DmemIdeal.sig) → Buf (Elt Ideal) ℓ) (g : Dev Cert.DmemIdeal.nD → PrngReg)
    (m' : (ℓ : Loc Cert.DmemRefIdeal.nD Cert.DmemRefIdeal.τ Cert.DmemRefIdeal.sig) → Buf (Elt Ideal) ℓ) (g' : Dev Cert.DmemRefIdeal.nD → PrngReg), Pre_DmemIdeal m →
    (∀ c : Dev Cert.DmemIdeal.nD,
      m' ((c.tc : Thread Cert.DmemRefIdeal.nD Cert.DmemRefIdeal.τ).loc Cert.DmemRefIdeal.main_arg0) = m ((c.tc : Thread Cert.DmemIdeal.nD Cert.DmemIdeal.τ).loc Cert.DmemIdeal.main_arg0)
      ∧ m' ((c.tc : Thread Cert.DmemRefIdeal.nD Cert.DmemRefIdeal.τ).loc Cert.DmemRefIdeal.main_arg1) = m ((c.tc : Thread Cert.DmemIdeal.nD Cert.DmemIdeal.τ).loc Cert.DmemIdeal.main_arg1)) →
    ∃ (v0 : (c : Dev Cert.DmemIdeal.nD) → Buf (Elt Ideal) ((c.tc : Thread Cert.DmemIdeal.nD Cert.DmemIdeal.τ).loc Cert.DmemIdeal.main_v0)),
      θ_run (Cert.DmemIdeal.defs (F := Ideal)) (onTc (τ := Cert.DmemIdeal.τ) (Cert.DmemIdeal.main (F := Ideal))) ⟨m, fun _ => 0, g⟩ (fun r => ∀ c : Dev Cert.DmemIdeal.nD,
          r.2.mem ((c.tc : Thread Cert.DmemIdeal.nD Cert.DmemIdeal.τ).loc Cert.DmemIdeal.main_v0) = v0 c
          ∧ r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
          ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1))
      ∧ θ_run (Cert.DmemRefIdeal.defs (F := Ideal)) (onTc (τ := Cert.DmemRefIdeal.τ) (Cert.DmemRefIdeal.main (F := Ideal))) ⟨m', fun _ => 0, g'⟩ (fun r => ∀ c : Dev Cert.DmemRefIdeal.nD,
          r.2.mem ((c.tc : Thread Cert.DmemRefIdeal.nD Cert.DmemRefIdeal.τ).loc Cert.DmemRefIdeal.main_v3) = v0 c
          ∧ r.2.mem ((c.tc : Thread Cert.DmemRefIdeal.nD Cert.DmemRefIdeal.τ).loc Cert.DmemRefIdeal.main_arg0) = m' ((c.tc : Thread Cert.DmemRefIdeal.nD Cert.DmemRefIdeal.τ).loc Cert.DmemRefIdeal.main_arg0)
          ∧ r.2.mem ((c.tc : Thread Cert.DmemRefIdeal.nD Cert.DmemRefIdeal.τ).loc Cert.DmemRefIdeal.main_arg1) = m' ((c.tc : Thread Cert.DmemRefIdeal.nD Cert.DmemRefIdeal.τ).loc Cert.DmemRefIdeal.main_arg1))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v23) = v0 c
          ∧ r.2.mem ((c.tc : Thread Cert.AdamGainRefIdeal.nD Cert.AdamGainRefIdeal.τ).loc Cert.AdamGainRefIdeal.main_v4) = v1 c
          ∧ r.2.mem ((c.tc : Thread Cert.AdamGainRefIdeal.nD Cert.AdamGainRefIdeal.τ).loc Cert.AdamGainRefIdeal.main_v10) = v2 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamSinks_AdamSinksIdeal : Prop :=
  True

def algebraic_AdamSinksIdeal_AdamSinksRefIdeal [hAdamSinksIdeal : Cert.AdamSinksIdeal.Facts] [hAdamSinksRefIdeal : Cert.AdamSinksRefIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg)
    (m' : (ℓ : Loc Cert.AdamSinksRefIdeal.nD Cert.AdamSinksRefIdeal.τ Cert.AdamSinksRefIdeal.sig) → Buf (Elt Ideal) ℓ) (g' : Dev Cert.AdamSinksRefIdeal.nD → PrngReg), Pre_AdamSinksIdeal m →
    (∀ c : Dev Cert.AdamSinksIdeal.nD,
      m' ((c.tc : Thread Cert.AdamSinksRefIdeal.nD Cert.AdamSinksRefIdeal.τ).loc Cert.AdamSinksRefIdeal.main_arg0) = m ((c.tc : Thread Cert.AdamSinksIdeal.nD Cert.AdamSinksIdeal.τ).loc Cert.AdamSinksIdeal.main_arg0)
      ∧ m' ((c.tc : Thread Cert.AdamSinksRefIdeal.nD Cert.AdamSinksRefIdeal.τ).loc Cert.AdamSinksRefIdeal.main_arg1) = m ((c.tc : Thread Cert.AdamSinksIdeal.nD Cert.AdamSinksIdeal.τ).loc Cert.AdamSinksIdeal.main_arg1)
      ∧ m' ((c.tc : Thread Cert.AdamSinksRefIdeal.nD Cert.AdamSinksRefIdeal.τ).loc Cert.AdamSinksRefIdeal.main_arg2) = m ((c.tc : Thread Cert.AdamSinksIdeal.nD Cert.AdamSinksIdeal.τ).loc Cert.AdamSinksIdeal.main_arg2)
      ∧ m' ((c.tc : Thread Cert.AdamSinksRefIdeal.nD Cert.AdamSinksRefIdeal.τ).loc Cert.AdamSinksRefIdeal.main_arg3) = m ((c.tc : Thread Cert.AdamSinksIdeal.nD Cert.AdamSinksIdeal.τ).loc Cert.AdamSinksIdeal.main_arg3)) →
    ∃ (v0 : (c : Dev Cert.AdamSinksIdeal.nD) → Buf (Elt Ideal) ((c.tc : Thread Cert.AdamSinksIdeal.nD Cert.AdamSinksIdeal.τ).loc Cert.AdamSinksIdeal.main_v0_0)) (v1 : (c : Dev Cert.AdamSinksIdeal.nD) → Buf (Elt Ideal) ((c.tc : Thread Cert.AdamSinksIdeal.nD Cert.AdamSinksIdeal.τ).loc Cert.AdamSinksIdeal.main_v0_1)) (v2 : (c : Dev Cert.AdamSinksIdeal.nD) → Buf (Elt Ideal) ((c.tc : Thread Cert.AdamSinksIdeal.nD Cert.AdamSinksIdeal.τ).loc Cert.AdamSinksIdeal.main_v0_2)),
      θ_run (Cert.AdamSinksIdeal.defs (F := Ideal)) (onTc (τ := Cert.AdamSinksIdeal.τ) (Cert.AdamSinksIdeal.main (F := Ideal))) ⟨m, fun _ => 0, g⟩ (fun r => ∀ c : Dev Cert.AdamSinksIdeal.nD,
          r.2.mem ((c.tc : Thread Cert.AdamSinksIdeal.nD Cert.AdamSinksIdeal.τ).loc Cert.AdamSinksIdeal.main_v0_0) = v0 c
          ∧ r.2.mem ((c.tc : Thread Cert.AdamSinksIdeal.nD Cert.AdamSinksIdeal.τ).loc Cert.AdamSinksIdeal.main_v0_1) = v1 c
          ∧ r.2.mem ((c.tc : Thread Cert.AdamSinksIdeal.nD Cert.AdamSinksIdeal.τ).loc Cert.AdamSinksIdeal.main_v0_2) = v2 c
          ∧ r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
          ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
          ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
          ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ θ_run (Cert.AdamSinksRefIdeal.defs (F := Ideal)) (onTc (τ := Cert.AdamSinksRefIdeal.τ) (Cert.AdamSinksRefIdeal.main (F := Ideal))) ⟨m', fun _ => 0, g'⟩ (fun r => ∀ c : Dev Cert.AdamSinksRefIdeal.nD,
          r.2.mem ((c.tc : Thread Cert.AdamSinksRefIdeal.nD Cert.AdamSinksRefIdeal.τ).loc Cert.AdamSinksRefIdeal.main_v23) = v0 c
          ∧ r.2.mem ((c.tc : Thread Cert.AdamSinksRefIdeal.nD Cert.AdamSinksRefIdeal.τ).loc Cert.AdamSinksRefIdeal.main_v4) = v1 c
          ∧ r.2.mem ((c.tc : Thread Cert.AdamSinksRefIdeal.nD Cert.AdamSinksRefIdeal.τ).loc Cert.AdamSinksRefIdeal.main_v10) = v2 c
          ∧ r.2.mem ((c.tc : Thread Cert.AdamSinksRefIdeal.nD Cert.AdamSinksRefIdeal.τ).loc Cert.AdamSinksRefIdeal.main_arg0) = m' ((c.tc : Thread Cert.AdamSinksRefIdeal.nD Cert.AdamSinksRefIdeal.τ).loc Cert.AdamSinksRefIdeal.main_arg0)
          ∧ r.2.mem ((c.tc : Thread Cert.AdamSinksRefIdeal.nD Cert.AdamSinksRefIdeal.τ).loc Cert.AdamSinksRefIdeal.main_arg1) = m' ((c.tc : Thread Cert.AdamSinksRefIdeal.nD Cert.AdamSinksRefIdeal.τ).loc Cert.AdamSinksRefIdeal.main_arg1)
          ∧ r.2.mem ((c.tc : Thread Cert.AdamSinksRefIdeal.nD Cert.AdamSinksRefIdeal.τ).loc Cert.AdamSinksRefIdeal.main_arg2) = m' ((c.tc : Thread Cert.AdamSinksRefIdeal.nD Cert.AdamSinksRefIdeal.τ).loc Cert.AdamSinksRefIdeal.main_arg2)
          ∧ r.2.mem ((c.tc : Thread Cert.AdamSinksRefIdeal.nD Cert.AdamSinksRefIdeal.τ).loc Cert.AdamSinksRefIdeal.main_arg3) = m' ((c.tc : Thread Cert.AdamSinksRefIdeal.nD Cert.AdamSinksRefIdeal.τ).loc Cert.AdamSinksRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def Claim : Prop :=
  ∃ (hGate : Cert.Gate.Facts) (hGateIdeal : Cert.GateIdeal.Facts) (hGateRefIdeal : Cert.GateRefIdeal.Facts) (hDwOut : Cert.DwOut.Facts) (hDwOutIdeal : Cert.DwOutIdeal.Facts) (hDwOutRefIdeal : Cert.DwOutRefIdeal.Facts) (hDwFfn : Cert.DwFfn.Facts) (hDwFfnIdeal : Cert.DwFfnIdeal.Facts) (hDwFfnRefIdeal : Cert.DwFfnRefIdeal.Facts) (hDuFfn : Cert.DuFfn.Facts) (hDuFfnIdeal : Cert.DuFfnIdeal.Facts) (hDuFfnRefIdeal : Cert.DuFfnRefIdeal.Facts) (hDwIn : Cert.DwIn.Facts) (hDwInIdeal : Cert.DwInIdeal.Facts) (hDwInRefIdeal : Cert.DwInRefIdeal.Facts) (hDuIn : Cert.DuIn.Facts) (hDuInIdeal : Cert.DuInIdeal.Facts) (hDuInRefIdeal : Cert.DuInRefIdeal.Facts) (hDact : Cert.Dact.Facts) (hDactIdeal : Cert.DactIdeal.Facts) (hDactRefIdeal : Cert.DactRefIdeal.Facts) (hDwInB : Cert.DwInB.Facts) (hDwInBIdeal : Cert.DwInBIdeal.Facts) (hDwInBRefIdeal : Cert.DwInBRefIdeal.Facts) (hProjIn : Cert.ProjIn.Facts) (hProjInIdeal : Cert.ProjInIdeal.Facts) (hProjInRefIdeal : Cert.ProjInRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hDwMix : Cert.DwMix.Facts) (hDwMixIdeal : Cert.DwMixIdeal.Facts) (hDwMixRefIdeal : Cert.DwMixRefIdeal.Facts) (hDwAttn : Cert.DwAttn.Facts) (hDwAttnIdeal : Cert.DwAttnIdeal.Facts) (hDwAttnRefIdeal : Cert.DwAttnRefIdeal.Facts) (hDwConv : Cert.DwConv.Facts) (hDwConvIdeal : Cert.DwConvIdeal.Facts) (hDwConvRefIdeal : Cert.DwConvRefIdeal.Facts) (hDoAttn : Cert.DoAttn.Facts) (hDoAttnIdeal : Cert.DoAttnIdeal.Facts) (hDoAttnRefIdeal : Cert.DoAttnRefIdeal.Facts) (hDcy : Cert.Dcy.Facts) (hDcyIdeal : Cert.DcyIdeal.Facts) (hDcyRefIdeal : Cert.DcyRefIdeal.Facts) (hAttnProj : Cert.AttnProj.Facts) (hAttnProjIdeal : Cert.AttnProjIdeal.Facts) (hAttnProjRefIdeal : Cert.AttnProjRefIdeal.Facts) (hConvProj : Cert.ConvProj.Facts) (hConvProjIdeal : Cert.ConvProjIdeal.Facts) (hConvProjRefIdeal : Cert.ConvProjRefIdeal.Facts) (hMixOut : Cert.MixOut.Facts) (hMixOutIdeal : Cert.MixOutIdeal.Facts) (hMixOutRefIdeal : Cert.MixOutRefIdeal.Facts) (hRmsMix : Cert.RmsMix.Facts) (hRmsMixIdeal : Cert.RmsMixIdeal.Facts) (hRmsMixRefIdeal : Cert.RmsMixRefIdeal.Facts) (hConv : Cert.Conv.Facts) (hConvIdeal : Cert.ConvIdeal.Facts) (hConvRefIdeal : Cert.ConvRefIdeal.Facts) (hRmsFfn : Cert.RmsFfn.Facts) (hRmsFfnIdeal : Cert.RmsFfnIdeal.Facts) (hRmsFfnRefIdeal : Cert.RmsFfnRefIdeal.Facts) (hRmsXattn : Cert.RmsXattn.Facts) (hRmsXattnIdeal : Cert.RmsXattnIdeal.Facts) (hRmsXattnRefIdeal : Cert.RmsXattnRefIdeal.Facts) (hRmsMem : Cert.RmsMem.Facts) (hRmsMemIdeal : Cert.RmsMemIdeal.Facts) (hRmsMemRefIdeal : Cert.RmsMemRefIdeal.Facts) (hNormMix : Cert.NormMix.Facts) (hNormMixIdeal : Cert.NormMixIdeal.Facts) (hNormMixRefIdeal : Cert.NormMixRefIdeal.Facts) (hNormMem : Cert.NormMem.Facts) (hNormMemIdeal : Cert.NormMemIdeal.Facts) (hNormMemRefIdeal : Cert.NormMemRefIdeal.Facts) (hConvFwd : Cert.ConvFwd.Facts) (hConvFwdIdeal : Cert.ConvFwdIdeal.Facts) (hConvFwdRefIdeal : Cert.ConvFwdRefIdeal.Facts) (hLossHead : Cert.LossHead.Facts) (hLossHeadIdeal : Cert.LossHeadIdeal.Facts) (hLossHeadRefIdeal : Cert.LossHeadRefIdeal.Facts) (hXattn : Cert.Xattn.Facts) (hXattnIdeal : Cert.XattnIdeal.Facts) (hXattnRefIdeal : Cert.XattnRefIdeal.Facts) (hXattnBwd : Cert.XattnBwd.Facts) (hXattnBwdIdeal : Cert.XattnBwdIdeal.Facts) (hXattnBwdRefIdeal : Cert.XattnBwdRefIdeal.Facts) (hXq : Cert.Xq.Facts) (hXqIdeal : Cert.XqIdeal.Facts) (hXqRefIdeal : Cert.XqRefIdeal.Facts) (hXkv : Cert.Xkv.Facts) (hXkvIdeal : Cert.XkvIdeal.Facts) (hXkvRefIdeal : Cert.XkvRefIdeal.Facts) (hXo : Cert.Xo.Facts) (hXoIdeal : Cert.XoIdeal.Facts) (hXoRefIdeal : Cert.XoRefIdeal.Facts) (hDwXo : Cert.DwXo.Facts) (hDwXoIdeal : Cert.DwXoIdeal.Facts) (hDwXoRefIdeal : Cert.DwXoRefIdeal.Facts) (hDoX : Cert.DoX.Facts) (hDoXIdeal : Cert.DoXIdeal.Facts) (hDoXRefIdeal : Cert.DoXRefIdeal.Facts) (hDwXq : Cert.DwXq.Facts) (hDwXqIdeal : Cert.DwXqIdeal.Facts) (hDwXqRefIdeal : Cert.DwXqRefIdeal.Facts) (hDwXkv : Cert.DwXkv.Facts) (hDwXkvIdeal : Cert.DwXkvIdeal.Facts) (hDwXkvRefIdeal : Cert.DwXkvRefIdeal.Facts) (hDmem : Cert.Dmem.Facts) (hDmemIdeal : Cert.DmemIdeal.Facts) (hDmemRefIdeal : Cert.DmemRefIdeal.Facts) (hAdamGain : Cert.AdamGain.Facts) (hAdamGainIdeal : Cert.AdamGainIdeal.Facts) (hAdamGainRefIdeal : Cert.AdamGainRefIdeal.Facts) (hAdamSinks : Cert.AdamSinks.Facts) (hAdamSinksIdeal : Cert.AdamSinksIdeal.Facts) (hAdamSinksRefIdeal : Cert.AdamSinksRefIdeal.Facts) (hAdamConv : Cert.AdamConv.Facts) (hAdamConvIdeal : Cert.AdamConvIdeal.Facts) (hAdamConvRefIdeal : Cert.AdamConvRefIdeal.Facts) (hPre_finite_dact : Cert.Pre_finite_dact.Facts) (hPre_finite_xattn : Cert.Pre_finite_xattn.Facts),
    quiescent_Gate (hGate := hGate)
    ∧ quiescent_GateIdeal (hGateIdeal := hGateIdeal)
    ∧ quiescent_GateRefIdeal (hGateRefIdeal := hGateRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwFfn (hDwFfn := hDwFfn)
    ∧ quiescent_DwFfnIdeal (hDwFfnIdeal := hDwFfnIdeal)
    ∧ quiescent_DwFfnRefIdeal (hDwFfnRefIdeal := hDwFfnRefIdeal)
    ∧ quiescent_DuFfn (hDuFfn := hDuFfn)
    ∧ quiescent_DuFfnIdeal (hDuFfnIdeal := hDuFfnIdeal)
    ∧ quiescent_DuFfnRefIdeal (hDuFfnRefIdeal := hDuFfnRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DuIn (hDuIn := hDuIn)
    ∧ quiescent_DuInIdeal (hDuInIdeal := hDuInIdeal)
    ∧ quiescent_DuInRefIdeal (hDuInRefIdeal := hDuInRefIdeal)
    ∧ quiescent_Dact (hDact := hDact)
    ∧ quiescent_DactIdeal (hDactIdeal := hDactIdeal)
    ∧ quiescent_DactIdeal_pre_finite_dact (hDactIdeal := hDactIdeal) (hPre_finite_dact := hPre_finite_dact)
    ∧ quiescent_DactRefIdeal (hDactRefIdeal := hDactRefIdeal)
    ∧ quiescent_DactRefIdeal_pre_finite_dact (hDactRefIdeal := hDactRefIdeal) (hPre_finite_dact := hPre_finite_dact)
    ∧ quiescent_DwInB (hDwInB := hDwInB)
    ∧ quiescent_DwInBIdeal (hDwInBIdeal := hDwInBIdeal)
    ∧ quiescent_DwInBRefIdeal (hDwInBRefIdeal := hDwInBRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_DwMix (hDwMix := hDwMix)
    ∧ quiescent_DwMixIdeal (hDwMixIdeal := hDwMixIdeal)
    ∧ quiescent_DwMixRefIdeal (hDwMixRefIdeal := hDwMixRefIdeal)
    ∧ quiescent_DwAttn (hDwAttn := hDwAttn)
    ∧ quiescent_DwAttnIdeal (hDwAttnIdeal := hDwAttnIdeal)
    ∧ quiescent_DwAttnRefIdeal (hDwAttnRefIdeal := hDwAttnRefIdeal)
    ∧ quiescent_DwConv (hDwConv := hDwConv)
    ∧ quiescent_DwConvIdeal (hDwConvIdeal := hDwConvIdeal)
    ∧ quiescent_DwConvRefIdeal (hDwConvRefIdeal := hDwConvRefIdeal)
    ∧ quiescent_DoAttn (hDoAttn := hDoAttn)
    ∧ quiescent_DoAttnIdeal (hDoAttnIdeal := hDoAttnIdeal)
    ∧ quiescent_DoAttnRefIdeal (hDoAttnRefIdeal := hDoAttnRefIdeal)
    ∧ quiescent_Dcy (hDcy := hDcy)
    ∧ quiescent_DcyIdeal (hDcyIdeal := hDcyIdeal)
    ∧ quiescent_DcyRefIdeal (hDcyRefIdeal := hDcyRefIdeal)
    ∧ quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_ConvProj (hConvProj := hConvProj)
    ∧ quiescent_ConvProjIdeal (hConvProjIdeal := hConvProjIdeal)
    ∧ quiescent_ConvProjRefIdeal (hConvProjRefIdeal := hConvProjRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_RmsMix (hRmsMix := hRmsMix)
    ∧ quiescent_RmsMixIdeal (hRmsMixIdeal := hRmsMixIdeal)
    ∧ quiescent_RmsMixRefIdeal (hRmsMixRefIdeal := hRmsMixRefIdeal)
    ∧ quiescent_Conv (hConv := hConv)
    ∧ quiescent_ConvIdeal (hConvIdeal := hConvIdeal)
    ∧ quiescent_ConvRefIdeal (hConvRefIdeal := hConvRefIdeal)
    ∧ quiescent_RmsFfn (hRmsFfn := hRmsFfn)
    ∧ quiescent_RmsFfnIdeal (hRmsFfnIdeal := hRmsFfnIdeal)
    ∧ quiescent_RmsFfnRefIdeal (hRmsFfnRefIdeal := hRmsFfnRefIdeal)
    ∧ quiescent_RmsXattn (hRmsXattn := hRmsXattn)
    ∧ quiescent_RmsXattnIdeal (hRmsXattnIdeal := hRmsXattnIdeal)
    ∧ quiescent_RmsXattnRefIdeal (hRmsXattnRefIdeal := hRmsXattnRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Xattn (hXattn := hXattn)
    ∧ quiescent_XattnIdeal (hXattnIdeal := hXattnIdeal)
    ∧ quiescent_XattnRefIdeal (hXattnRefIdeal := hXattnRefIdeal)
    ∧ quiescent_XattnBwd (hXattnBwd := hXattnBwd)
    ∧ quiescent_XattnBwdIdeal (hXattnBwdIdeal := hXattnBwdIdeal)
    ∧ quiescent_XattnBwdIdeal_pre_finite_xattn (hXattnBwdIdeal := hXattnBwdIdeal) (hPre_finite_xattn := hPre_finite_xattn)
    ∧ quiescent_XattnBwdRefIdeal (hXattnBwdRefIdeal := hXattnBwdRefIdeal)
    ∧ quiescent_XattnBwdRefIdeal_pre_finite_xattn (hXattnBwdRefIdeal := hXattnBwdRefIdeal) (hPre_finite_xattn := hPre_finite_xattn)
    ∧ quiescent_Xq (hXq := hXq)
    ∧ quiescent_XqIdeal (hXqIdeal := hXqIdeal)
    ∧ quiescent_XqRefIdeal (hXqRefIdeal := hXqRefIdeal)
    ∧ quiescent_Xkv (hXkv := hXkv)
    ∧ quiescent_XkvIdeal (hXkvIdeal := hXkvIdeal)
    ∧ quiescent_XkvRefIdeal (hXkvRefIdeal := hXkvRefIdeal)
    ∧ quiescent_Xo (hXo := hXo)
    ∧ quiescent_XoIdeal (hXoIdeal := hXoIdeal)
    ∧ quiescent_XoRefIdeal (hXoRefIdeal := hXoRefIdeal)
    ∧ quiescent_DwXo (hDwXo := hDwXo)
    ∧ quiescent_DwXoIdeal (hDwXoIdeal := hDwXoIdeal)
    ∧ quiescent_DwXoRefIdeal (hDwXoRefIdeal := hDwXoRefIdeal)
    ∧ quiescent_DoX (hDoX := hDoX)
    ∧ quiescent_DoXIdeal (hDoXIdeal := hDoXIdeal)
    ∧ quiescent_DoXRefIdeal (hDoXRefIdeal := hDoXRefIdeal)
    ∧ quiescent_DwXq (hDwXq := hDwXq)
    ∧ quiescent_DwXqIdeal (hDwXqIdeal := hDwXqIdeal)
    ∧ quiescent_DwXqRefIdeal (hDwXqRefIdeal := hDwXqRefIdeal)
    ∧ quiescent_DwXkv (hDwXkv := hDwXkv)
    ∧ quiescent_DwXkvIdeal (hDwXkvIdeal := hDwXkvIdeal)
    ∧ quiescent_DwXkvRefIdeal (hDwXkvRefIdeal := hDwXkvRefIdeal)
    ∧ quiescent_Dmem (hDmem := hDmem)
    ∧ quiescent_DmemIdeal (hDmemIdeal := hDmemIdeal)
    ∧ quiescent_DmemRefIdeal (hDmemRefIdeal := hDmemRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamSinks (hAdamSinks := hAdamSinks)
    ∧ quiescent_AdamSinksIdeal (hAdamSinksIdeal := hAdamSinksIdeal)
    ∧ quiescent_AdamSinksRefIdeal (hAdamSinksRefIdeal := hAdamSinksRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ preserves_Gate_GateIdeal
    ∧ algebraic_GateIdeal_GateRefIdeal (hGateIdeal := hGateIdeal) (hGateRefIdeal := hGateRefIdeal)
    ∧ preserves_DwOut_DwOutIdeal
    ∧ algebraic_DwOutIdeal_DwOutRefIdeal (hDwOutIdeal := hDwOutIdeal) (hDwOutRefIdeal := hDwOutRefIdeal)
    ∧ preserves_DwFfn_DwFfnIdeal
    ∧ algebraic_DwFfnIdeal_DwFfnRefIdeal (hDwFfnIdeal := hDwFfnIdeal) (hDwFfnRefIdeal := hDwFfnRefIdeal)
    ∧ preserves_DuFfn_DuFfnIdeal
    ∧ algebraic_DuFfnIdeal_DuFfnRefIdeal (hDuFfnIdeal := hDuFfnIdeal) (hDuFfnRefIdeal := hDuFfnRefIdeal)
    ∧ preserves_DwIn_DwInIdeal
    ∧ algebraic_DwInIdeal_DwInRefIdeal (hDwInIdeal := hDwInIdeal) (hDwInRefIdeal := hDwInRefIdeal)
    ∧ preserves_DuIn_DuInIdeal
    ∧ algebraic_DuInIdeal_DuInRefIdeal (hDuInIdeal := hDuInIdeal) (hDuInRefIdeal := hDuInRefIdeal)
    ∧ preserves_Dact_DactIdeal
    ∧ algebraic_DactIdeal_DactRefIdeal_pre_finite_dact (hDactIdeal := hDactIdeal) (hDactRefIdeal := hDactRefIdeal) (hPre_finite_dact := hPre_finite_dact)
    ∧ preserves_DwInB_DwInBIdeal
    ∧ algebraic_DwInBIdeal_DwInBRefIdeal (hDwInBIdeal := hDwInBIdeal) (hDwInBRefIdeal := hDwInBRefIdeal)
    ∧ preserves_ProjIn_ProjInIdeal
    ∧ algebraic_ProjInIdeal_ProjInRefIdeal (hProjInIdeal := hProjInIdeal) (hProjInRefIdeal := hProjInRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_DwMix_DwMixIdeal
    ∧ algebraic_DwMixIdeal_DwMixRefIdeal (hDwMixIdeal := hDwMixIdeal) (hDwMixRefIdeal := hDwMixRefIdeal)
    ∧ preserves_DwAttn_DwAttnIdeal
    ∧ algebraic_DwAttnIdeal_DwAttnRefIdeal (hDwAttnIdeal := hDwAttnIdeal) (hDwAttnRefIdeal := hDwAttnRefIdeal)
    ∧ preserves_DwConv_DwConvIdeal
    ∧ algebraic_DwConvIdeal_DwConvRefIdeal (hDwConvIdeal := hDwConvIdeal) (hDwConvRefIdeal := hDwConvRefIdeal)
    ∧ preserves_DoAttn_DoAttnIdeal
    ∧ algebraic_DoAttnIdeal_DoAttnRefIdeal (hDoAttnIdeal := hDoAttnIdeal) (hDoAttnRefIdeal := hDoAttnRefIdeal)
    ∧ preserves_Dcy_DcyIdeal
    ∧ algebraic_DcyIdeal_DcyRefIdeal (hDcyIdeal := hDcyIdeal) (hDcyRefIdeal := hDcyRefIdeal)
    ∧ preserves_AttnProj_AttnProjIdeal
    ∧ algebraic_AttnProjIdeal_AttnProjRefIdeal (hAttnProjIdeal := hAttnProjIdeal) (hAttnProjRefIdeal := hAttnProjRefIdeal)
    ∧ preserves_ConvProj_ConvProjIdeal
    ∧ algebraic_ConvProjIdeal_ConvProjRefIdeal (hConvProjIdeal := hConvProjIdeal) (hConvProjRefIdeal := hConvProjRefIdeal)
    ∧ preserves_MixOut_MixOutIdeal
    ∧ algebraic_MixOutIdeal_MixOutRefIdeal (hMixOutIdeal := hMixOutIdeal) (hMixOutRefIdeal := hMixOutRefIdeal)
    ∧ preserves_RmsMix_RmsMixIdeal
    ∧ algebraic_RmsMixIdeal_RmsMixRefIdeal (hRmsMixIdeal := hRmsMixIdeal) (hRmsMixRefIdeal := hRmsMixRefIdeal)
    ∧ preserves_Conv_ConvIdeal
    ∧ algebraic_ConvIdeal_ConvRefIdeal (hConvIdeal := hConvIdeal) (hConvRefIdeal := hConvRefIdeal)
    ∧ preserves_RmsFfn_RmsFfnIdeal
    ∧ algebraic_RmsFfnIdeal_RmsFfnRefIdeal (hRmsFfnIdeal := hRmsFfnIdeal) (hRmsFfnRefIdeal := hRmsFfnRefIdeal)
    ∧ preserves_RmsXattn_RmsXattnIdeal
    ∧ algebraic_RmsXattnIdeal_RmsXattnRefIdeal (hRmsXattnIdeal := hRmsXattnIdeal) (hRmsXattnRefIdeal := hRmsXattnRefIdeal)
    ∧ preserves_RmsMem_RmsMemIdeal
    ∧ algebraic_RmsMemIdeal_RmsMemRefIdeal (hRmsMemIdeal := hRmsMemIdeal) (hRmsMemRefIdeal := hRmsMemRefIdeal)
    ∧ preserves_NormMix_NormMixIdeal
    ∧ algebraic_NormMixIdeal_NormMixRefIdeal (hNormMixIdeal := hNormMixIdeal) (hNormMixRefIdeal := hNormMixRefIdeal)
    ∧ preserves_NormMem_NormMemIdeal
    ∧ algebraic_NormMemIdeal_NormMemRefIdeal (hNormMemIdeal := hNormMemIdeal) (hNormMemRefIdeal := hNormMemRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_Xattn_XattnIdeal
    ∧ algebraic_XattnIdeal_XattnRefIdeal (hXattnIdeal := hXattnIdeal) (hXattnRefIdeal := hXattnRefIdeal)
    ∧ preserves_XattnBwd_XattnBwdIdeal
    ∧ algebraic_XattnBwdIdeal_XattnBwdRefIdeal_pre_finite_xattn (hXattnBwdIdeal := hXattnBwdIdeal) (hXattnBwdRefIdeal := hXattnBwdRefIdeal) (hPre_finite_xattn := hPre_finite_xattn)
    ∧ preserves_Xq_XqIdeal
    ∧ algebraic_XqIdeal_XqRefIdeal (hXqIdeal := hXqIdeal) (hXqRefIdeal := hXqRefIdeal)
    ∧ preserves_Xkv_XkvIdeal
    ∧ algebraic_XkvIdeal_XkvRefIdeal (hXkvIdeal := hXkvIdeal) (hXkvRefIdeal := hXkvRefIdeal)
    ∧ preserves_Xo_XoIdeal
    ∧ algebraic_XoIdeal_XoRefIdeal (hXoIdeal := hXoIdeal) (hXoRefIdeal := hXoRefIdeal)
    ∧ preserves_DwXo_DwXoIdeal
    ∧ algebraic_DwXoIdeal_DwXoRefIdeal (hDwXoIdeal := hDwXoIdeal) (hDwXoRefIdeal := hDwXoRefIdeal)
    ∧ preserves_DoX_DoXIdeal
    ∧ algebraic_DoXIdeal_DoXRefIdeal (hDoXIdeal := hDoXIdeal) (hDoXRefIdeal := hDoXRefIdeal)
    ∧ preserves_DwXq_DwXqIdeal
    ∧ algebraic_DwXqIdeal_DwXqRefIdeal (hDwXqIdeal := hDwXqIdeal) (hDwXqRefIdeal := hDwXqRefIdeal)
    ∧ preserves_DwXkv_DwXkvIdeal
    ∧ algebraic_DwXkvIdeal_DwXkvRefIdeal (hDwXkvIdeal := hDwXkvIdeal) (hDwXkvRefIdeal := hDwXkvRefIdeal)
    ∧ preserves_Dmem_DmemIdeal
    ∧ algebraic_DmemIdeal_DmemRefIdeal (hDmemIdeal := hDmemIdeal) (hDmemRefIdeal := hDmemRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamSinks_AdamSinksIdeal
    ∧ algebraic_AdamSinksIdeal_AdamSinksRefIdeal (hAdamSinksIdeal := hAdamSinksIdeal) (hAdamSinksRefIdeal := hAdamSinksRefIdeal)
    ∧ preserves_AdamConv_AdamConvIdeal
    ∧ algebraic_AdamConvIdeal_AdamConvRefIdeal (hAdamConvIdeal := hAdamConvIdeal) (hAdamConvRefIdeal := hAdamConvRefIdeal)
-- ==== Pre_finite_dact.lean ====
abbrev S4096x2048 : Shape := ⟨2, ![4096, 2048]⟩
abbrev S5632x2048 : Shape := ⟨2, ![5632, 2048]⟩
abbrev S2x4096x5632 : Shape := ⟨3, ![2, 4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S2x4096x5632 : S_.BroadcastsInDim S2x4096x5632 (![] : Fin 0 → Fin S2x4096x5632.rank)

variable [Facts]

def fn {F : FTy → Type} [FloatOps F] (main_arg0 : FVec F S4096x2048 .bf16) (main_arg1 : FVec F S5632x2048 .bf16) (main_arg2 : FVec F S2x4096x5632 .bf16) : IVec S4096x2048 1 × IVec S5632x2048 1 × IVec S2x4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S2x4096x5632 .f32 := (extf .f32 · bitsLt_bf16_f32) main_arg2
  let main_v9 : FVec F S2x4096x5632 .f32 := Host.absf main_v8
  let main_cst_1 : FVec F S_ .f32 := constant S_ .f32 0x7F800000#32
  let main_v10 : FVec F S2x4096x5632 .f32 := broadcastInDim S2x4096x5632 ![] bcast_S_S2x4096x5632 main_cst_1
  let main_v11 : IVec S2x4096x5632 1 := cmpf .olt main_v9 main_v10
  (main_v3, main_v7, main_v11)
-- ==== Pre_finite_xattn.lean ====
abbrev S4096x512 : Shape := ⟨2, ![4096, 512]⟩
abbrev S256x1024 : Shape := ⟨2, ![256, 1024]⟩
abbrev S256x512 : Shape := ⟨2, ![256, 512]⟩
abbrev S_ : Shape := ⟨0, ![]⟩

class Facts : Prop where
  slices_S256x1024_S256x512_0_0 : S256x1024.Slices ![0, 0] S256x512
  bitsLt_bf16_f32 : FTy.bits .bf16 < FTy.bits .f32
  bcast_S_S4096x512 : S_.BroadcastsInDim S4096x512 (![] : Fin 0 → Fin S4096x512.rank)
  bcast_S_S256x512 : S_.BroadcastsInDim S256x512 (![] : Fin 0 → Fin S256x512.rank)

variable [Facts]

def fn {F : FTy → Type} [FloatOps F] (main_arg0 : FVec F S4096x512 .bf16) (main_arg1 : FVec F S256x1024 .bf16) (main_arg2 : FVec F S4096x512 .bf16) : IVec S4096x512 1 × IVec S256x512 1 :=
  let main_v0 : FVec F S256x512 .bf16 := (extractStridedSlice S256x512 ![0, 0] · slices_S256x1024_S256x512_0_0) main_arg1
  let main_v1 : FVec F S4096x512 .f32 := (extf .f32 · bitsLt_bf16_f32) main_arg0
  let main_v2 : FVec F S4096x512 .f32 := Host.absf main_v1
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  let main_v5 : FVec F S256x512 .f32 := (extf .f32 · bitsLt_bf16_f32) main_v0
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  (main_v4, main_v8)
-- ==== Gate.lean ====
abbrev S4096x2048 : Shape := ⟨2, ![4096, 2048]⟩
abbrev S2048x2048 : Shape := ⟨2, ![2048, 2048]⟩
abbrev S4096x8704 : Shape := ⟨2, ![4096, 8704]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x8704, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GateRefIdeal.lean ====
abbrev S4096x2048 : Shape := ⟨2, ![4096, 2048]⟩
abbrev S2048x2048 : Shape := ⟨2, ![2048, 2048]⟩
abbrev S4096x8704 : Shape := ⟨2, ![4096, 8704]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x8704, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | .hbm, ⟨45, _⟩ => ⟨S4096x2048, .bf16⟩
  | .hbm, ⟨46, _⟩ => ⟨S4096x2048, .bf16⟩
  | .hbm, ⟨47, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== DwOut.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwFfn.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S4096x1024 : Shape := ⟨2, ![4096, 1024]⟩
abbrev S1x4096x1408 : Shape := ⟨3, ![1, 4096, 1408]⟩
abbrev S1x1024x1408 : Shape := ⟨3, ![1, 1024, 1408]⟩
abbrev S4096x1408 : Shape := ⟨2, ![4096, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnRefIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S1x4096x5632 : Shape := ⟨3, ![1, 4096, 5632]⟩
abbrev S4096x5632 : Shape := ⟨2, ![4096, 5632]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S1x4096x5632, .bf16⟩
  | .hbm, ⟨7, _⟩ => ⟨S4096x5632, .bf16⟩
  | .hbm, ⟨8, _⟩ => ⟨S1x4096x5632, .bf16⟩
  | .hbm, ⟨9, _⟩ => ⟨S4096x5632, .bf16⟩
  | .hbm, ⟨10, _⟩ => ⟨S4096x11264, .bf16⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S2048x8x1408, .f32⟩
  | .hbm, ⟨15, _⟩ => ⟨S8x2048x1408, .f32⟩
  | .hbm, ⟨16, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== DuFfn.lean ====
abbrev S2x4096x5632 : Shape := ⟨3, ![2, 4096, 5632]⟩
abbrev S2048x11264 : Shape := ⟨2, ![2048, 11264]⟩
abbrev S4096x2048 : Shape := ⟨2, ![4096, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuFfnRefIdeal.lean ====
abbrev S2x4096x5632 : Shape := ⟨3, ![2, 4096, 5632]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩
abbrev S1x4096x5632 : Shape := ⟨3, ![1, 4096, 5632]⟩
abbrev S4096x5632 : Shape := ⟨2, ![4096, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S2048x11264, .f32⟩
  | .hbm, ⟨3, _⟩ => ⟨S_, .f32⟩
  | .hbm, ⟨4, _⟩ => ⟨S4096x2048, .f32⟩
  | .hbm, ⟨5, _⟩ => ⟨S4096x11264, .f32⟩
  | .hbm, ⟨6, _⟩ => ⟨S1x4096x5632, .bf16⟩
  | .hbm, ⟨7, _⟩ => ⟨S4096x5632, .bf16⟩
  | .hbm, ⟨8, _⟩ => ⟨S1x4096x5632, .bf16⟩
  | .hbm, ⟨9, _⟩ => ⟨S4096x5632, .bf16⟩
  | .hbm, ⟨10, _⟩ => ⟨S4096x11264, .bf16⟩
  | .hbm, ⟨11, _⟩ => ⟨S4096x11264, .f32⟩
  | .hbm, ⟨12, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwIn.lean ====
abbrev S4096x1024 : Shape := ⟨2, ![4096, 1024]⟩
abbrev S4096x256 : Shape := ⟨2, ![4096, 256]⟩
abbrev S4096x2048 : Shape := ⟨2, ![4096, 2048]⟩
abbrev S4096x8704 : Shape := ⟨2, ![4096, 8704]⟩
abbrev S8704x1024 : Shape := ⟨2, ![8704, 1024]⟩
abbrev S4096x512 : Shape := ⟨2, ![4096, 512]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x8704, .bf16⟩
  | .hbm, ⟨10, _⟩ => ⟨S8704x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![17, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S4096x256 : Shape := ⟨2, ![4096, 256]⟩
abbrev S4096x2048 : Shape := ⟨2, ![4096, 2048]⟩
abbrev S_ : Shape := ⟨0, ![]⟩
abbrev S2048x8704 : Shape := ⟨2, ![2048, 8704]⟩
abbrev S4096x8704 : Shape := ⟨2, ![4096, 8704]⟩
abbrev S8704x2048 : Shape := ⟨2, ![8704, 2048]⟩
abbrev S8704x1024 : Shape := ⟨2, ![8704, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .f32⟩
  | .hbm, ⟨10, _⟩ => ⟨S_, .f32⟩
  | .hbm, ⟨11, _⟩ => ⟨S2048x8704, .f32⟩
  | .hbm, ⟨12, _⟩ => ⟨S4096x8704, .f32⟩
  | .hbm, ⟨13, _⟩ => ⟨S4096x1024, .f32⟩
  | .hbm, ⟨14, _⟩ => ⟨S4096x256, .f32⟩
  | .hbm, ⟨15, _⟩ => ⟨S4096x256, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S4096x2048, .f32⟩
  | .hbm, ⟨21, _⟩ => ⟨S4096x1024, .f32⟩
  | .hbm, ⟨22, _⟩ => ⟨S4096x256, .f32⟩
  | .hbm, ⟨23, _⟩ => ⟨S4096x256, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2048, .f32⟩
  | .hbm, ⟨28, _⟩ => ⟨S4096x2048, .f32⟩
  | .hbm, ⟨29, _⟩ => ⟨S4096x8704, .f32⟩
  | .hbm, ⟨30, _⟩ => ⟨S8704x2048, .f32⟩
  | .hbm, ⟨31, _⟩ => ⟨S2048x8704, .f32⟩
  | .hbm, ⟨32, _⟩ => ⟨S8704x2048, .f32⟩
  | .hbm, ⟨33, _⟩ => ⟨S8704x1024, .f32⟩
  | .hbm, ⟨34, _⟩ => ⟨S8704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== DuIn.lean ====
abbrev S4096x1024 : Shape := ⟨2, ![4096, 1024]⟩
abbrev S4096x256 : Shape := ⟨2, ![4096, 256]⟩
abbrev S4096x2048 : Shape := ⟨2, ![4096, 2048]⟩
abbrev S8704x2048 : Shape := ⟨2, ![8704, 2048]⟩
abbrev S4096x8704 : Shape := ⟨2, ![4096, 8704]⟩
abbrev S512x4352 : Shape := ⟨2, ![512, 4352]⟩
abbrev S4352x1024 : Shape := ⟨2, ![4352, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x2048, .bf16⟩
  | .hbm, ⟨7, _⟩ => ⟨S4096x2048, .bf16⟩
  | .hbm, ⟨8, _⟩ => ⟨S8704x2048, .bf16⟩
  | .hbm, ⟨9, _⟩ => ⟨S4096x8704, .bf16⟩
  | .hbm, ⟨10, _⟩ => ⟨S4096x2048, .f32⟩
  | .local _ .vmem, ⟨0, _⟩ => ⟨S512x4352, .bf16⟩
  | .local _ .vmem, ⟨1, _⟩ => ⟨S512x4352, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuInRefIdeal.lean ====
abbrev S4096x1024 : Shape := ⟨2, ![4096, 1024]⟩
abbrev S4096x256 : Shape := ⟨2, ![4096, 256]⟩
abbrev S4096x2048 : Shape := ⟨2, ![4096, 2048]⟩
abbrev S8704x2048 : Shape := ⟨2, ![8704, 2048]⟩
abbrev S2048x8704 : Shape := ⟨2, ![2048, 8704]⟩
abbrev S_ : Shape := ⟨0, ![]⟩
abbrev S4096x8704 : Shape := ⟨2, ![4096, 8704]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x2048, .bf16⟩
  | .hbm, ⟨7, _⟩ => ⟨S4096x2048, .bf16⟩
  | .hbm, ⟨8, _⟩ => ⟨S8704x2048, .bf16⟩
  | .hbm, ⟨9, _⟩ => ⟨S2048x8704, .bf16⟩
  | .hbm, ⟨10, _⟩ => ⟨S2048x8704, .f32⟩
  | .hbm, ⟨11, _⟩ => ⟨S_, .f32⟩
  | .hbm, ⟨12, _⟩ => ⟨S4096x2048, .f32⟩
  | .hbm, ⟨13, _⟩ => ⟨S4096x8704, .f32⟩
  | .hbm, ⟨14, _⟩ => ⟨S4096x1024, .f32⟩
  | .hbm, ⟨15, _⟩ => ⟨S4096x256, .f32⟩
  | .hbm, ⟨16, _⟩ => ⟨S4096x256, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S4096x2048, .f32⟩
  | .hbm, ⟨22, _⟩ => ⟨S4096x1024, .f32⟩
  | .hbm, ⟨23, _⟩ => ⟨S4096x256, .f32⟩
  | .hbm, ⟨24, _⟩ => ⟨S4096x256, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x2048, .f32⟩
  | .hbm, ⟨29, _⟩ => ⟨S4096x2048, .f32⟩
  | .hbm, ⟨30, _⟩ => ⟨S4096x8704, .f32⟩
  | .hbm, ⟨31, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Dact.lean ====
abbrev S4096x2048 : Shape := ⟨2, ![4096, 2048]⟩
abbrev S5632x2048 : Shape := ⟨2, ![5632, 2048]⟩
abbrev S2x4096x5632 : Shape := ⟨3, ![2, 4096, 5632]⟩
abbrev S1024x2048 : Shape := ⟨2, ![1024, 2048]⟩
abbrev S512x2048 : Shape := ⟨2, ![512, 2048]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S2x4096x5632, .bf16⟩
  | .hbm, ⟨3, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DactRefIdeal.lean ====
abbrev S4096x2048 : Shape := ⟨2, ![4096, 2048]⟩
abbrev S5632x2048 : Shape := ⟨2, ![5632, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S2x4096x5632, .bf16⟩
  | .hbm, ⟨3, _⟩ => ⟨S1x4096x5632, .bf16⟩
  | .hbm, ⟨4, _⟩ => ⟨S4096x5632, .bf16⟩
  | .hbm, ⟨5, _⟩ => ⟨S4096x5632, .f32⟩
  | .hbm, ⟨6, _⟩ => ⟨S1x4096x5632, .bf16⟩
  | .hbm, ⟨7, _⟩ => ⟨S4096x5632, .bf16⟩
  | .hbm, ⟨8, _⟩ => ⟨S4096x5632, .f32⟩
  | .hbm, ⟨9, _⟩ => ⟨S5632x2048, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x2048, .f32⟩
  | .hbm, ⟨25, _⟩ => ⟨S4096x2048, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S1x4096x5632, .f32⟩
  | .hbm, ⟨34, _⟩ => ⟨S1x4096x5632, .f32⟩
  | .hbm, ⟨35, _⟩ => ⟨S2x4096x5632, .f32⟩
  | .hbm, ⟨36, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== DwInB.lean ====
abbrev S4096x1024 : Shape := ⟨2, ![4096, 1024]⟩
abbrev S4096x256 : Shape := ⟨2, ![4096, 256]⟩
abbrev S4096x2048 : Shape := ⟨2, ![4096, 2048]⟩
abbrev S4096x8704 : Shape := ⟨2, ![4096, 8704]⟩
abbrev S8704x1024 : Shape := ⟨2, ![8704, 1024]⟩
abbrev S4096x512 : Shape := ⟨2, ![4096, 512]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x8704, .bf16⟩
  | .hbm, ⟨10, _⟩ => ⟨S8704x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![17, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInBRefIdeal.lean ====
abbrev S4096x1024 : Shape := ⟨2, ![4096, 1024]⟩
abbrev S4096x256 : Shape := ⟨2, ![4096, 256]⟩
abbrev S4096x2048 : Shape := ⟨2, ![4096, 2048]⟩
abbrev S_ : Shape := ⟨0, ![]⟩
abbrev S2048x8704 : Shape := ⟨2, ![2048, 8704]⟩
abbrev S4096x8704 : Shape := ⟨2, ![4096, 8704]⟩
abbrev S8704x2048 : Shape := ⟨2, ![8704, 2048]⟩
abbrev S8704x1024 : Shape := ⟨2, ![8704, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .f32⟩
  | .hbm, ⟨10, _⟩ => ⟨S_, .f32⟩
  | .hbm, ⟨11, _⟩ => ⟨S2048x8704, .f32⟩
  | .hbm, ⟨12, _⟩ => ⟨S4096x8704, .f32⟩
  | .hbm, ⟨13, _⟩ => ⟨S4096x1024, .f32⟩
  | .hbm, ⟨14, _⟩ => ⟨S4096x256, .f32⟩
  | .hbm, ⟨15, _⟩ => ⟨S4096x256, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S4096x2048, .f32⟩
  | .hbm, ⟨21, _⟩ => ⟨S4096x1024, .f32⟩
  | .hbm, ⟨22, _⟩ => ⟨S4096x256, .f32⟩
  | .hbm, ⟨23, _⟩ => ⟨S4096x256, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2048, .f32⟩
  | .hbm, ⟨28, _⟩ => ⟨S4096x2048, .f32⟩
  | .hbm, ⟨29, _⟩ => ⟨S4096x8704, .f32⟩
  | .hbm, ⟨30, _⟩ => ⟨S8704x2048, .f32⟩
  | .hbm, ⟨31, _⟩ => ⟨S2048x8704, .f32⟩
  | .hbm, ⟨32, _⟩ => ⟨S8704x2048, .f32⟩
  | .hbm, ⟨33, _⟩ => ⟨S8704x1024, .f32⟩
  | .hbm, ⟨34, _⟩ => ⟨S8704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== ProjIn.lean ====
abbrev S4096x2048 : Shape := ⟨2, ![4096, 2048]⟩
abbrev S8704x2048 : Shape := ⟨2, ![8704, 2048]⟩
abbrev S4096x8704 : Shape := ⟨2, ![4096, 8704]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8704x2048, .bf16⟩
  | .hbm, ⟨2, _⟩ => ⟨S4096x8704, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S4096x2048 : Shape := ⟨2, ![4096, 2048]⟩
abbrev S8704x2048 : Shape := ⟨2, ![8704, 2048]⟩
abbrev S2048x8704 : Shape := ⟨2, ![2048, 8704]⟩
abbrev S4096x8704 : Shape := ⟨2, ![4096, 8704]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8704x2048, .bf16⟩
  | .hbm, ⟨2, _⟩ => ⟨S4096x2048, .f32⟩
  | .hbm, ⟨3, _⟩ => ⟨S2048x8704, .bf16⟩
  | .hbm, ⟨4, _⟩ => ⟨S2048x8704, .f32⟩
  | .hbm, ⟨5, _⟩ => ⟨S4096x8704, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnIn.lean ====
abbrev S4096x2048 : Shape := ⟨2, ![4096, 2048]⟩
abbrev S2048x11264 : Shape := ⟨2, ![2048, 11264]⟩
abbrev S2x4096x5632 : Shape := ⟨3, ![2, 4096, 5632]⟩
abbrev S4096x5632 : Shape := ⟨2, ![4096, 5632]⟩
abbrev S1024x2048 : Shape := ⟨2, ![1024, 2048]⟩
abbrev S2048x512 : Shape := ⟨2, ![2048, 512]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2x4096x5632, .bf16⟩
  | .hbm, ⟨3, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInRefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S1x4096x5632, .f32⟩
  | .hbm, ⟨9, _⟩ => ⟨S2x4096x5632, .f32⟩
  | .hbm, ⟨10, _⟩ => ⟨S2x4096x5632, .bf16⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== FfnOut.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwMix.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMixRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwAttn.lean ====
abbrev S4096x1024 : Shape := ⟨2, ![4096, 1024]⟩
abbrev S4096x2048 : Shape := ⟨2, ![4096, 2048]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .bf16⟩
  | .local _ .vmem, ⟨4, _⟩ => ⟨S1x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwAttnRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwConv.lean ====
abbrev S4096x1024 : Shape := ⟨2, ![4096, 1024]⟩
abbrev S4096x2048 : Shape := ⟨2, ![4096, 2048]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .bf16⟩
  | .local _ .vmem, ⟨4, _⟩ => ⟨S1x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwConvRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DoAttn.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoAttnRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dcy.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcyRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnProj.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnProjRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ConvProj.lean ====
abbrev S4096x1024 : Shape := ⟨2, ![4096, 1024]⟩
abbrev S1024x2048 : Shape := ⟨2, ![1024, 2048]⟩
abbrev S4096x8704 : Shape := ⟨2, ![4096, 8704]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x8704, .f32⟩
  | .hbm, ⟨3, _⟩ => ⟨S4096x2048, .f32⟩
  | .hbm, ⟨4, _⟩ => ⟨S4096x2048, .f32⟩
  | .hbm, ⟨5, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvProjRefIdeal.lean ====
abbrev S4096x1024 : Shape := ⟨2, ![4096, 1024]⟩
abbrev S1024x2048 : Shape := ⟨2, ![1024, 2048]⟩
abbrev S4096x8704 : Shape := ⟨2, ![4096, 8704]⟩
abbrev S4096x2048 : Shape := ⟨2, ![4096, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x8704, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S1024x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixOutRefIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== RmsMix.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsMixRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Conv.lean ====
abbrev S4096x8704 : Shape := ⟨2, ![4096, 8704]⟩
abbrev S3x1024 : Shape := ⟨2, ![3, 1024]⟩
abbrev S4096x1024 : Shape := ⟨2, ![4096, 1024]⟩
abbrev S_ : Shape := ⟨0, ![]⟩
abbrev S8x1024 : Shape := ⟨2, ![8, 1024]⟩
abbrev S1 : Shape := ⟨1, ![1]⟩
abbrev S1024x512 : Shape := ⟨2, ![1024, 512]⟩
abbrev S8x512 : Shape := ⟨2, ![8, 512]⟩
abbrev S1x512 : Shape := ⟨2, ![1, 512]⟩
abbrev S512 : Shape := ⟨1, ![512]⟩

abbrev nBuf : Space → Nat
  | .hbm => 12
  | .vmem => 26
  | .smem => 0
  | _ => 0

abbrev bufTy : (tb : Table) → Fin (tcTables nBuf tb) → BufTy
  | .hbm, ⟨0, _⟩ => ⟨S4096x8704, .f32⟩
  | .hbm, ⟨1, _⟩ => ⟨S3x1024, .f32⟩
  | .hbm, ⟨2, _⟩ => ⟨S4096x1024, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S8x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S1024x512, .f32⟩
  | .local _ .vmem, ⟨11, _⟩ => ⟨S1024x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S8x512, .f32⟩
  | .local _ .vmem, ⟨25, _⟩ => ⟨S8x512, .f32⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.addi c3_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let v3 : BitVec 32 := Scalar.addi c7_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c5_i32 : BitVec 32 := 5#32
  let v3 : BitVec 32 := Scalar.addi c5_i32 arg0
  let c0_i32 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ConvRefIdeal.lean ====
abbrev S4096x8704 : Shape := ⟨2, ![4096, 8704]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x8704, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S4098x1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S4098x1024, .f32⟩
  | .hbm, ⟨58, _⟩ => ⟨S4098x1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S3x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S4098x1024, .f32⟩
  | .hbm, ⟨73, _⟩ => ⟨S4098x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S2x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .i32⟩
  | .hbm, ⟨83, _⟩ => ⟨S_, .f32⟩
  | .hbm, ⟨84, _⟩ => ⟨S8x1024, .f32⟩
  | .hbm, ⟨85, _⟩ => ⟨S4096x1024, .bf16⟩
  | .hbm, ⟨86, _⟩ => ⟨S4096x1024, .bf16⟩
  | .hbm, ⟨87, _⟩ => ⟨S4096x1024, .bf16⟩
  | _, _ => ⟨S4096x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c : Ref sig .tc := ⟨.hbm, 82, rfl⟩
abbrev main_call0_v0 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== RmsFfn.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsFfnRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== RmsXattn.lean ====
abbrev S4096x512 : Shape := ⟨2, ![4096, 512]⟩
abbrev S4096x2048 : Shape := ⟨2, ![4096, 2048]⟩
abbrev S2048 : Shape := ⟨1, ![2048]⟩
abbrev S2048x512 : Shape := ⟨2, ![2048, 512]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S2048x512, .bf16⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S1x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S2048x512, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsXattnRefIdeal.lean ====
abbrev S4096x512 : Shape := ⟨2, ![4096, 512]⟩
abbrev S4096x2048 : Shape := ⟨2, ![4096, 2048]⟩
abbrev S2048 : Shape := ⟨1, ![2048]⟩
abbrev S2048x512 : Shape := ⟨2, ![2048, 512]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S2048x512, .bf16⟩
  | .hbm, ⟨5, _⟩ => ⟨S2048x512, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x512, .f32⟩
  | .hbm, ⟨27, _⟩ => ⟨S4096x512, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .bf16⟩
  | .hbm, ⟨56, _⟩ => ⟨S1x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== RmsMem.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S1x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RmsMemRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S2048, .f32⟩
  | .hbm, ⟨22, _⟩ => ⟨S1x2048, .f32⟩
  | .hbm, ⟨23, _⟩ => ⟨S_, .f32⟩
  | .hbm, ⟨24, _⟩ => ⟨S2048, .f32⟩
  | .hbm, ⟨25, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== NormMix.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormMem.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemRefIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvFwd.lean ====
abbrev S4096x8704 : Shape := ⟨2, ![4096, 8704]⟩
abbrev S3x1024 : Shape := ⟨2, ![3, 1024]⟩
abbrev S_ : Shape := ⟨0, ![]⟩
abbrev S8x1024 : Shape := ⟨2, ![8, 1024]⟩
abbrev S1 : Shape := ⟨1, ![1]⟩
abbrev S4096x1024 : Shape := ⟨2, ![4096, 1024]⟩
abbrev S1024x512 : Shape := ⟨2, ![1024, 512]⟩
abbrev S8x512 : Shape := ⟨2, ![8, 512]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S4096x8704, .f32⟩
  | .hbm, ⟨1, _⟩ => ⟨S3x1024, .f32⟩
  | .hbm, ⟨2, _⟩ => ⟨S_, .f32⟩
  | .hbm, ⟨3, _⟩ => ⟨S8x1024, .f32⟩
  | .hbm, ⟨4, _⟩ => ⟨S_, .i32⟩
  | .hbm, ⟨5, _⟩ => ⟨S1, .i32⟩
  | .hbm, ⟨6, _⟩ => ⟨S8x1024, .f32⟩
  | .hbm, ⟨7, _⟩ => ⟨S4096x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1024x512, .bf16⟩
  | .local _ .vmem, ⟨13, _⟩ => ⟨S1024x512, .bf16⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.addi c3_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let v3 : BitVec 32 := Scalar.addi c7_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFwdRefIdeal.lean ====
abbrev S4096x8704 : Shape := ⟨2, ![4096, 8704]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x8704, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S2x1024, .f32⟩
  | .hbm, ⟨8, _⟩ => ⟨S4098x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S8x128, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S8x128, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S8x128, .f32⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Xattn.lean ====
abbrev S4096x512 : Shape := ⟨2, ![4096, 512]⟩
abbrev S256x1024 : Shape := ⟨2, ![256, 1024]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XattnRefIdeal.lean ====
abbrev S4096x512 : Shape := ⟨2, ![4096, 512]⟩
abbrev S256x1024 : Shape := ⟨2, ![256, 1024]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .f32⟩
  | .hbm, ⟨3, _⟩ => ⟨S256x1024, .f32⟩
  | .hbm, ⟨4, _⟩ => ⟨S4096x4x128, .f32⟩
  | .hbm, ⟨5, _⟩ => ⟨S256x512, .f32⟩
  | .hbm, ⟨6, _⟩ => ⟨S256x4x128, .f32⟩
  | .hbm, ⟨7, _⟩ => ⟨S256x512, .f32⟩
  | .hbm, ⟨8, _⟩ => ⟨S256x4x128, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x128x4096, .f32⟩
  | .hbm, ⟨28, _⟩ => ⟨S4096x4x128, .f32⟩
  | .hbm, ⟨29, _⟩ => ⟨S4096x512, .f32⟩
  | .hbm, ⟨30, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== XattnBwd.lean ====
abbrev S4096x512 : Shape := ⟨2, ![4096, 512]⟩
abbrev S256x1024 : Shape := ⟨2, ![256, 1024]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .bf16⟩
  | .hbm, ⟨3, _⟩ => ⟨S4096x512, .bf16⟩
  | .hbm, ⟨4, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== XattnBwdRefIdeal.lean ====
abbrev S4096x512 : Shape := ⟨2, ![4096, 512]⟩
abbrev S256x1024 : Shape := ⟨2, ![256, 1024]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .bf16⟩
  | .hbm, ⟨3, _⟩ => ⟨S4096x512, .f32⟩
  | .hbm, ⟨4, _⟩ => ⟨S256x1024, .f32⟩
  | .hbm, ⟨5, _⟩ => ⟨S4096x4x128, .f32⟩
  | .hbm, ⟨6, _⟩ => ⟨S256x512, .f32⟩
  | .hbm, ⟨7, _⟩ => ⟨S256x4x128, .f32⟩
  | .hbm, ⟨8, _⟩ => ⟨S256x512, .f32⟩
  | .hbm, ⟨9, _⟩ => ⟨S256x4x128, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x128x4096, .f32⟩
  | .hbm, ⟨53, _⟩ => ⟨S4096x4x128, .f32⟩
  | .hbm, ⟨54, _⟩ => ⟨S4096x512, .f32⟩
  | .hbm, ⟨55, _⟩ => ⟨S4096x512, .f32⟩
  | .hbm, ⟨56, _⟩ => ⟨S4096x4x128, .f32⟩
  | .hbm, ⟨57, _⟩ => ⟨S4x128x4096, .f32⟩
  | .hbm, ⟨58, _⟩ => ⟨S4x4096x256, .f32⟩
  | .hbm, ⟨59, _⟩ => ⟨S4x128x256, .f32⟩
  | .hbm, ⟨60, _⟩ => ⟨S256x4x128, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x128, .f32⟩
  | .hbm, ⟨79, _⟩ => ⟨S256x4x128, .f32⟩
  | .hbm, ⟨80, _⟩ => ⟨S4x4096x128, .f32⟩
  | .hbm, ⟨81, _⟩ => ⟨S4096x4x128, .f32⟩
  | .hbm, ⟨82, _⟩ => ⟨S256x512, .f32⟩
  | .hbm, ⟨83, _⟩ => ⟨S_, .f32⟩
  | .hbm, ⟨84, _⟩ => ⟨S256x1024, .f32⟩
  | .hbm, ⟨85, _⟩ => ⟨S256x512, .f32⟩
  | .hbm, ⟨86, _⟩ => ⟨S_, .f32⟩
  | .hbm, ⟨87, _⟩ => ⟨S256x1024, .f32⟩
  | .hbm, ⟨88, _⟩ => ⟨S256x1024, .f32⟩
  | .hbm, ⟨89, _⟩ => ⟨S4096x512, .f32⟩
  | .hbm, ⟨90, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Xq.lean ====
abbrev S4096x2048 : Shape := ⟨2, ![4096, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqRefIdeal.lean ====
abbrev S4096x2048 : Shape := ⟨2, ![4096, 2048]⟩
abbrev S2048x512 : Shape := ⟨2, ![2048, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x512, .bf16⟩
  | .hbm, ⟨2, _⟩ => ⟨S4096x2048, .f32⟩
  | .hbm, ⟨3, _⟩ => ⟨S2048x512, .f32⟩
  | .hbm, ⟨4, _⟩ => ⟨S4096x512, .f32⟩
  | .hbm, ⟨5, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xkv.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XkvRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | .hbm, ⟨5, _⟩ => ⟨S256x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xo.lean ====
abbrev S4096x512 : Shape := ⟨2, ![4096, 512]⟩
abbrev S512x2048 : Shape := ⟨2, ![512, 2048]⟩
abbrev S4096x2048 : Shape := ⟨2, ![4096, 2048]⟩
abbrev S2048 : Shape := ⟨1, ![2048]⟩
abbrev S1x2048 : Shape := ⟨2, ![1, 2048]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== XoRefIdeal.lean ====
abbrev S4096x512 : Shape := ⟨2, ![4096, 512]⟩
abbrev S512x2048 : Shape := ⟨2, ![512, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S2048, .f32⟩
  | .hbm, ⟨4, _⟩ => ⟨S4096x512, .f32⟩
  | .hbm, ⟨5, _⟩ => ⟨S512x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DwXo.lean ====
abbrev S4096x512 : Shape := ⟨2, ![4096, 512]⟩
abbrev S4096x2048 : Shape := ⟨2, ![4096, 2048]⟩
abbrev S8x512x256 : Shape := ⟨3, ![8, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S8x512x256, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .bf16⟩
  | .local _ .vmem, ⟨4, _⟩ => ⟨S1x512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXoRefIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩
abbrev S512x8x256 : Shape := ⟨3, ![512, 8, 256]⟩
abbrev S8x512x256 : Shape := ⟨3, ![8, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x8x256, .f32⟩
  | .hbm, ⟨10, _⟩ => ⟨S8x512x256, .f32⟩
  | .hbm, ⟨11, _⟩ => ⟨S8x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DoX.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoXRefIdeal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S512x2048, .f32⟩
  | .hbm, ⟨3, _⟩ => ⟨S_, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S4096x512, .f32⟩
  | .hbm, ⟨8, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwXq.lean ====
abbrev S4096x2048 : Shape := ⟨2, ![4096, 2048]⟩
abbrev S4096x512 : Shape := ⟨2, ![4096, 512]⟩
abbrev S2048x512 : Shape := ⟨2, ![2048, 512]⟩
abbrev S4096x1024 : Shape := ⟨2, ![4096, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S2048x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXqRefIdeal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S_, .f32⟩
  | .hbm, ⟨3, _⟩ => ⟨S2048x512, .f32⟩
  | .hbm, ⟨4, _⟩ => ⟨S4096x2048, .f32⟩
  | .hbm, ⟨5, _⟩ => ⟨S4096x512, .f32⟩
  | .hbm, ⟨6, _⟩ => ⟨S4096x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwXkv.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXkvRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dmem.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmemRefIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S256x2048, .f32⟩
  | .hbm, ⟨5, _⟩ => ⟨S256x1024, .f32⟩
  | .hbm, ⟨6, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamGain.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamGainRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSinks.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSinksRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamConvRefIdeal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.GateValue.lean ====
/-
  The value of the backward call of the gated mix (`mm_dmerged`): each of its four result arrays, element by element, is
  the gradient the reference program computes.
-/
module

public import proofs.«01_k».proof.Proof.Gen.GateIdeal.Value
public import proofs.«01_k».proof.Proof.Gen.GateRefIdeal.Read
public import proofs.«01_k».proof.Proof.Gen.GateRefIdeal.Run
public import proofs.«01_k».proof.Defs
public import Idealize.ShloMosaic.Lib.Pointwise
public import Idealize.ShloMosaic.Lib.ValueIdx

@[expose] public section

noncomputable section

namespace Cert.Proof.GateValue

open Cert.GateIdeal Cert.GateIdeal.Gen Idealize.ShloMosaic Idealize.ShloMosaic.TcCoe Idealize.SL.Sem
open Idealize.ShloMosaic.Pipeline (Dat)
open Cert.GateRefIdeal.Read (val_main_v9 val_main_v19 val_main_v8 val_main_v18 val_main_v26 val_main_v33 val_main_v34 val_main_v35 val_main_v36)

variable (m : (ℓ : Loc nD τ sig) → Buf (Elt Ideal) ℓ)

theorem hz : (![0, 0] : Fin 2 → Nat) = fun _ => 0 := funext fun a => by fin_cases a <;> rfl

/-- The block indices of the windows at a grid point: row block `t / 4`, column block `t % 4`, the two gates 9 and 13
    column blocks into the projection. -/
theorem idx_facts : ∀ t : Fin cfg0.N,
    (win0_0.index t 0 = t.val / 4 ∧ win0_0.index t 1 = 0) ∧ (win0_1.index t 0 = t.val % 4 ∧ win0_1.index t 1 = 0)
    ∧ (win0_2.index t 0 = t.val / 4 ∧ win0_2.index t 1 = 9 + t.val % 4)
    ∧ (win0_3.index t 0 = t.val / 4 ∧ win0_3.index t 1 = 13 + t.val % 4)
    ∧ (win0_4.index t 0 = t.val / 4 ∧ win0_4.index t 1 = t.val % 4) ∧ (win0_5.index t 0 = t.val / 4 ∧ win0_5.index t 1 = t.val % 4)
    ∧ (win0_6.index t 0 = t.val / 4 ∧ win0_6.index t 1 = t.val % 4) ∧ (win0_7.index t 0 = t.val / 4 ∧ win0_7.index t 1 = t.val % 4)
    ∧ (win0_8.index t 0 = t.val / 4 ∧ win0_8.index t 1 = t.val % 4)
    ∧ (win0_9.index t 0 = t.val / 4 ∧ win0_9.index t 1 = t.val % 4) :=
  (by decide +kernel : ∀ t : Fin grid0.N, _)

/-- The array index of element `(r, n)` of the block at point `t`. -/
abbrev at_ (t : Fin cfg0.N) (r : Fin 1024) (n : Fin 512) : S4096x2048.Idx := fun a => match a with
  | ⟨0, _⟩ => ⟨t.val / 4 * 1024 + r.val, by have h : t.val < 16 := t.isLt; have := r.isLt; show _ < 4096; omega⟩
  | ⟨1, _⟩ => ⟨t.val % 4 * 512 + n.val, by have := n.isLt; show _ < 2048; omega⟩

/-- The block product at an element: the sum over the 2048 contracted columns. -/
theorem pay2_apply (v0 : Vec Ideal S1024x2048 .bf16) (v1 : Vec Ideal S512x2048 .bf16) (r : Fin 1024) (n : Fin 512) :
    k0_pay2 (F := Ideal) v0 v1 (ix2 r n) = ∑ k : Fin 2048, v0 (ix2 r k) * v1 (ix2 n k) := by
  unfold k0_pay2
  simp only [pointwise, zero_add]

/-- The first gate's sigmoid at an element. -/
theorem pay3_apply (v : Vec Ideal S1024x512 .f32) (y : S1024x512.Idx) :
    k0_pay3 (F := Ideal) v y = Ideal.div 1 (1 + Ideal.exp (-(v y))) := by
  unfold k0_pay3
  simp only [pointwise, zero_sub]

/-- The second gate's sigmoid at an element. -/
theorem pay4_apply (v : Vec Ideal S1024x512 .f32) (y : S1024x512.Idx) :
    k0_pay4 (F := Ideal) v y = Ideal.div 1 (1 + Ideal.exp (-(v y))) := by
  unfold k0_pay4
  simp only [pointwise, zero_sub]

/-- The reference's sigmoid of the first gate at an index. -/
theorem ref8_apply (x : (⟨S4096x8704, .f32⟩ : BufTy).Contents (Elt Ideal)) (i : S4096x2048.Idx) :
    val_main_v8 (F := Ideal) x i = Ideal.div 1 (1 + Ideal.exp (-(x (Cert.GateRefIdeal.Read.idx_main_v0 i)))) := by
  rw [Cert.GateRefIdeal.Read.val_main_v8_apply, Cert.GateRefIdeal.Read.val_main_v7_apply,
    Cert.GateRefIdeal.Read.val_main_cst_0_apply, Cert.GateRefIdeal.Read.val_main_v6_apply,
    Cert.GateRefIdeal.Read.val_main_v5_apply, Cert.GateRefIdeal.Read.val_main_cst_apply,
    Cert.GateRefIdeal.Read.val_main_v4_apply, Cert.GateRefIdeal.Read.val_main_v3_apply,
    Cert.GateRefIdeal.Read.val_main_v0_apply]
  simp only [pointwise]

/-- The reference's sigmoid of the second gate at an index. -/
theorem ref18_apply (x : (⟨S4096x8704, .f32⟩ : BufTy).Contents (Elt Ideal)) (i : S4096x2048.Idx) :
    val_main_v18 (F := Ideal) x i = Ideal.div 1 (1 + Ideal.exp (-(x (Cert.GateRefIdeal.Read.idx_main_v1 i)))) := by
  rw [Cert.GateRefIdeal.Read.val_main_v18_apply, Cert.GateRefIdeal.Read.val_main_v17_apply,
    Cert.GateRefIdeal.Read.val_main_cst_3_apply, Cert.GateRefIdeal.Read.val_main_v16_apply,
    Cert.GateRefIdeal.Read.val_main_v15_apply, Cert.GateRefIdeal.Read.val_main_cst_2_apply,
    Cert.GateRefIdeal.Read.val_main_v14_apply, Cert.GateRefIdeal.Read.val_main_v13_apply,
    Cert.GateRefIdeal.Read.val_main_v1_apply]
  simp only [pointwise]

/-- The first gate's gradient at a block element, and the reference's at an index: the product by the branch's output and
    by the sigmoid's derivative. -/
theorem pay7_apply (v0 : Vec Ideal S1024x2048 .bf16) (v1 : Vec Ideal S512x2048 .bf16) (v3 v25 : Vec Ideal S1024x512 .f32) (y : S1024x512.Idx) :
    k0_pay7 (F := Ideal) v0 v1 v3 v25 y
      = k0_pay2 (F := Ideal) v0 v1 y * v25 y * (k0_pay3 (F := Ideal) v3 y * (1 - k0_pay3 (F := Ideal) v3 y)) := by
  unfold k0_pay7
  simp only [pointwise]

theorem ref35_apply (x0 : (⟨S4096x2048, .bf16⟩ : BufTy).Contents (Elt Ideal)) (x1 : (⟨S2048x2048, .bf16⟩ : BufTy).Contents (Elt Ideal))
    (x2 : (⟨S4096x8704, .f32⟩ : BufTy).Contents (Elt Ideal)) (x3 : (⟨S4096x2048, .f32⟩ : BufTy).Contents (Elt Ideal)) (i : S4096x2048.Idx) :
    val_main_v35 (F := Ideal) x0 x1 x2 x3 i
      = val_main_v26 (F := Ideal) x0 x1 i * x3 i * (val_main_v8 (F := Ideal) x2 i * (1 - val_main_v8 (F := Ideal) x2 i)) := by
  rw [Cert.GateRefIdeal.Read.val_main_v35_apply, Cert.GateRefIdeal.Read.val_main_v32_apply,
    Cert.GateRefIdeal.Read.val_main_v31_apply, Cert.GateRefIdeal.Read.val_main_v11_apply,
    Cert.GateRefIdeal.Read.val_main_v10_apply, Cert.GateRefIdeal.Read.val_main_v9_apply,
    Cert.GateRefIdeal.Read.val_main_cst_1_apply]
  simp only [pointwise]

/-- The second gate's, likewise. -/
theorem pay1_apply (v2 v18 : FVec Ideal S1024x512 .f32) (v33 : Vec Ideal S1024x512 .f32) (y : S1024x512.Idx) :
    k0_pay1 (F := Ideal) v2 v18 v33 y = v2 y * v33 y * (v18 y * (1 - v18 y)) := by
  unfold k0_pay1
  simp only [pointwise]

theorem ref36_apply (x0 : (⟨S4096x2048, .bf16⟩ : BufTy).Contents (Elt Ideal)) (x1 : (⟨S2048x2048, .bf16⟩ : BufTy).Contents (Elt Ideal))
    (x2 : (⟨S4096x8704, .f32⟩ : BufTy).Contents (Elt Ideal)) (x4 : (⟨S4096x2048, .f32⟩ : BufTy).Contents (Elt Ideal)) (i : S4096x2048.Idx) :
    val_main_v36 (F := Ideal) x0 x1 x2 x4 i
      = val_main_v26 (F := Ideal) x0 x1 i * x4 i * (val_main_v18 (F := Ideal) x2 i * (1 - val_main_v18 (F := Ideal) x2 i)) := by
  rw [Cert.GateRefIdeal.Read.val_main_v36_apply, Cert.GateRefIdeal.Read.val_main_v29_apply,
    Cert.GateRefIdeal.Read.val_main_v28_apply, Cert.GateRefIdeal.Read.val_main_v21_apply,
    Cert.GateRefIdeal.Read.val_main_v20_apply, Cert.GateRefIdeal.Read.val_main_v19_apply,
    Cert.GateRefIdeal.Read.val_main_cst_4_apply]
  simp only [pointwise]

/-- The product of the incoming gradient's rows with the weight's rows: at a block element, the reference's product at
    its array index. -/
theorem dmv_eq (c : Dev nD) (t : Fin cfg0.N) (r : Fin 1024) (n : Fin 512) :
    k0_pay2 (F := Ideal) (iblk m c 0 t) (iblk m c 1 t) (ix2 r n)
      = val_main_v26 (F := Ideal) (m ((c : Thread nD τ).loc main_arg0)) (m ((c : Thread nD τ).loc main_arg1)) (at_ t r n) := by
  rw [Cert.GateRefIdeal.Read.val_main_v26_apply, pay2_apply]
  obtain ⟨⟨h00, h01⟩, ⟨h10, h11⟩, -⟩ := idx_facts t
  refine Finset.sum_congr rfl fun k _ => congrArg₂ (· * ·) ?_ ?_
  · show m ((c : Thread nD τ).loc main_arg0) ((win0_0.rect t).emb (ix2 r k)) = m ((c : Thread nD τ).loc main_arg0) _
    refine congrArg _ (funext fun a => Fin.ext ?_)
    match a with
    | ⟨0, _⟩ => exact (win0_0.rect_emb_val t _ 0).trans (by rw [h00]; rfl)
    | ⟨1, _⟩ => exact (win0_0.rect_emb_val t _ 1).trans (by rw [h01]; exact (Nat.zero_mul _).symm ▸ Nat.zero_add _)
  · show m ((c : Thread nD τ).loc main_arg1) ((win0_1.rect t).emb (ix2 n k)) = m ((c : Thread nD τ).loc main_arg1) _
    refine congrArg _ (funext fun a => Fin.ext ?_)
    match a with
    | ⟨0, _⟩ => exact (win0_1.rect_emb_val t _ 0).trans (by rw [h10]; rfl)
    | ⟨1, _⟩ => exact (win0_1.rect_emb_val t _ 1).trans (by rw [h11]; exact (Nat.zero_mul _).symm ▸ Nat.zero_add _)

/-- The first gate's block at an element, as the sigmoid the reference takes at its array index. -/
theorem sa_eq (c : Dev nD) (t : Fin cfg0.N) (r : Fin 1024) (n : Fin 512) :
    k0_pay3 (F := Ideal) (iblk m c 2 t) (ix2 r n) = val_main_v8 (F := Ideal) (m ((c : Thread nD τ).loc main_arg2)) (at_ t r n) := by
  rw [pay3_apply, ref8_apply]
  obtain ⟨-, -, ⟨h0, h1⟩, -⟩ := idx_facts t
  have e : (win0_2.rect t).emb (ix2 r n) = Cert.GateRefIdeal.Read.idx_main_v0 (at_ t r n) := funext fun a => Fin.ext (by
    match a with
    | ⟨0, _⟩ => exact (win0_2.rect_emb_val t _ 0).trans (by rw [h0]; rfl)
    | ⟨1, _⟩ => exact (win0_2.rect_emb_val t _ 1).trans (by
        rw [h1]; show (9 + t.val % 4) * 512 + n.val = 4608 + (t.val % 4 * 512 + n.val); omega))
  rw [← e]; rfl

/-- The second gate's block at an element, likewise. -/
theorem sc_eq (c : Dev nD) (t : Fin cfg0.N) (r : Fin 1024) (n : Fin 512) :
    k0_pay4 (F := Ideal) (iblk m c 3 t) (ix2 r n) = val_main_v18 (F := Ideal) (m ((c : Thread nD τ).loc main_arg2)) (at_ t r n) := by
  rw [pay4_apply, ref18_apply]
  obtain ⟨-, -, -, ⟨h0, h1⟩, -⟩ := idx_facts t
  have e : (win0_3.rect t).emb (ix2 r n) = Cert.GateRefIdeal.Read.idx_main_v1 (at_ t r n) := funext fun a => Fin.ext (by
    match a with
    | ⟨0, _⟩ => exact (win0_3.rect_emb_val t _ 0).trans (by rw [h0]; rfl)
    | ⟨1, _⟩ => exact (win0_3.rect_emb_val t _ 1).trans (by
        rw [h1]; show (13 + t.val % 4) * 512 + n.val = 6656 + (t.val % 4 * 512 + n.val); omega))
  rw [← e]; rfl

/-- The two forward outputs' blocks read their arrays at the block element's array index. -/
theorem ya_eq (c : Dev nD) (t : Fin cfg0.N) (r : Fin 1024) (n : Fin 512) :
    (iblk m c 4 t : Vec Ideal S1024x512 .f32) (ix2 r n) = m ((c : Thread nD τ).loc main_arg3) (at_ t r n) := by
  obtain ⟨-, -, -, -, ⟨h0, h1⟩, -⟩ := idx_facts t
  show m ((c : Thread nD τ).loc main_arg3) ((win0_4.rect t).emb (ix2 r n)) = _
  refine congrArg _ (funext fun a => Fin.ext ?_)
  match a with
  | ⟨0, _⟩ => exact (win0_4.rect_emb_val t _ 0).trans (by rw [h0]; rfl)
  | ⟨1, _⟩ => exact (win0_4.rect_emb_val t _ 1).trans (by rw [h1]; rfl)

theorem yc_eq (c : Dev nD) (t : Fin cfg0.N) (r : Fin 1024) (n : Fin 512) :
    (iblk m c 5 t : Vec Ideal S1024x512 .f32) (ix2 r n) = m ((c : Thread nD τ).loc main_arg4) (at_ t r n) := by
  obtain ⟨-, -, -, -, -, ⟨h0, h1⟩, -⟩ := idx_facts t
  show m ((c : Thread nD τ).loc main_arg4) ((win0_5.rect t).emb (ix2 r n)) = _
  refine congrArg _ (funext fun a => Fin.ext ?_)
  match a with
  | ⟨0, _⟩ => exact (win0_5.rect_emb_val t _ 0).trans (by rw [h0]; rfl)
  | ⟨1, _⟩ => exact (win0_5.rect_emb_val t _ 1).trans (by rw [h1]; rfl)

/-- The result blocks' elements sit at the block element's array index (the four result windows move alike). -/
theorem emb_out (t : Fin cfg0.N) (r : Fin 1024) (n : Fin 512) :
    (win0_6.rect t).emb (ix2 r n) = at_ t r n ∧ (win0_7.rect t).emb (ix2 r n) = at_ t r n
    ∧ (win0_8.rect t).emb (ix2 r n) = at_ t r n ∧ (win0_9.rect t).emb (ix2 r n) = at_ t r n := by
  obtain ⟨-, -, -, -, -, -, ⟨h6, h6'⟩, ⟨h7, h7'⟩, ⟨h8, h8'⟩, h9, h9'⟩ := idx_facts t
  refine ⟨funext fun a => Fin.ext ?_, funext fun a => Fin.ext ?_, funext fun a => Fin.ext ?_, funext fun a => Fin.ext ?_⟩ <;>
    match a with
    | ⟨0, _⟩ => first
      | exact (win0_6.rect_emb_val t _ 0).trans (by rw [h6]; rfl) | exact (win0_7.rect_emb_val t _ 0).trans (by rw [h7]; rfl)
      | exact (win0_8.rect_emb_val t _ 0).trans (by rw [h8]; rfl) | exact (win0_9.rect_emb_val t _ 0).trans (by rw [h9]; rfl)
    | ⟨1, _⟩ => first
      | exact (win0_6.rect_emb_val t _ 1).trans (by rw [h6']; rfl) | exact (win0_7.rect_emb_val t _ 1).trans (by rw [h7']; rfl)
      | exact (win0_8.rect_emb_val t _ 1).trans (by rw [h8']; rfl) | exact (win0_9.rect_emb_val t _ 1).trans (by rw [h9']; rfl)

/-- Every index of a result array is one of a block's elements. -/
theorem onto (i : S4096x2048.Idx) : ∃ t : Fin cfg0.N, ∃ r n, at_ t r n = i := by
  have h0 : (i 0).val < 4096 := (i 0).isLt
  have h1 : (i 1).val < 2048 := (i 1).isLt
  refine ⟨⟨(i 0).val / 1024 * 4 + (i 1).val / 512, by show _ < 16; omega⟩, ⟨(i 0).val % 1024, by omega⟩, ⟨(i 1).val % 512, by omega⟩,
    funext fun a => Fin.ext ?_⟩
  match a with
  | ⟨0, _⟩ => show ((i 0).val / 1024 * 4 + (i 1).val / 512) / 4 * 1024 + (i 0).val % 1024 = (i 0).val; omega
  | ⟨1, _⟩ => show ((i 0).val / 1024 * 4 + (i 1).val / 512) % 4 * 512 + (i 1).val % 512 = (i 1).val; omega

/-- The argument arrays of a device as launched: the incoming gradient, the weight, the projection and the two branches'
    forward outputs. -/
abbrev A0 (c : Dev nD) : (⟨S4096x2048, .bf16⟩ : BufTy).Contents (Elt Ideal) := m ((c : Thread nD τ).loc main_arg0)
abbrev A1 (c : Dev nD) : (⟨S2048x2048, .bf16⟩ : BufTy).Contents (Elt Ideal) := m ((c : Thread nD τ).loc main_arg1)
abbrev A2 (c : Dev nD) : (⟨S4096x8704, .f32⟩ : BufTy).Contents (Elt Ideal) := m ((c : Thread nD τ).loc main_arg2)
abbrev A3 (c : Dev nD) : (⟨S4096x2048, .f32⟩ : BufTy).Contents (Elt Ideal) := m ((c : Thread nD τ).loc main_arg3)
abbrev A4 (c : Dev nD) : (⟨S4096x2048, .f32⟩ : BufTy).Contents (Elt Ideal) := m ((c : Thread nD τ).loc main_arg4)

/-- Result 1, the gradient of the attention branch's output: the array after the run is the reference's. -/
theorem final6 (c : Dev nD) : (dats m 0 c).arrAt 6 cfg0.N = val_main_v33 (F := Ideal) (A0 m c) (A1 m c) (A2 m c) := by
  refine (dats m 0 c).arrAt_eq_of_cover 6 _ (fun t hf => ?_) (fun i => ?_)
  · rw [Cert.GateIdeal.Value.flushed6]
    unfold out0_6
    rw [View.canon_unit_zero hz, View.ld_unit_zero hz, View.ld_unit_zero hz, View.ld_unit_zero hz]
    funext y
    obtain ⟨r, n, rfl⟩ : ∃ r n, y = ix2 r n := ⟨y 0, y 1, eq_ix2 y⟩
    show k0_pay5 (F := Ideal) (iblk m c 0 t) (iblk m c 1 t) (iblk m c 2 t) (ix2 r n)
      = val_main_v33 (F := Ideal) _ _ _ ((win0_6.rect t).emb (ix2 r n))
    rw [(emb_out t r n).1]
    show k0_pay2 (F := Ideal) _ _ _ * k0_pay3 (F := Ideal) _ _ = val_main_v8 (F := Ideal) _ _ * val_main_v26 (F := Ideal) _ _ _
    rw [dmv_eq, sa_eq, mul_comm]
  · obtain ⟨t, r, n, rfl⟩ := onto i
    rw [← (emb_out t r n).1]
    exact ⟨t, flush0_6 t, View.emb_mem_set ((cfg0.win 6).blk t).view _⟩

/-- Result 2, the gradient of the convolution branch's output: the array after the run is the reference's. -/
theorem final7 (c : Dev nD) : (dats m 0 c).arrAt 7 cfg0.N = val_main_v34 (F := Ideal) (A0 m c) (A1 m c) (A2 m c) := by
  refine (dats m 0 c).arrAt_eq_of_cover 7 _ (fun t hf => ?_) (fun i => ?_)
  · rw [Cert.GateIdeal.Value.flushed7]
    unfold out0_7
    rw [View.canon_unit_zero hz, View.ld_unit_zero hz, View.ld_unit_zero hz, View.ld_unit_zero hz]
    funext y
    obtain ⟨r, n, rfl⟩ : ∃ r n, y = ix2 r n := ⟨y 0, y 1, eq_ix2 y⟩
    show k0_pay6 (F := Ideal) (iblk m c 0 t) (iblk m c 1 t) (iblk m c 3 t) (ix2 r n)
      = val_main_v34 (F := Ideal) _ _ _ ((win0_7.rect t).emb (ix2 r n))
    rw [(emb_out t r n).2.1]
    show k0_pay2 (F := Ideal) _ _ _ * k0_pay4 (F := Ideal) _ _ = val_main_v18 (F := Ideal) _ _ * val_main_v26 (F := Ideal) _ _ _
    rw [dmv_eq, sc_eq, mul_comm]
  · obtain ⟨t, r, n, rfl⟩ := onto i
    rw [← (emb_out t r n).2.1]
    exact ⟨t, flush0_7 t, View.emb_mem_set ((cfg0.win 7).blk t).view _⟩

/-- Result 3, the gradient of the attention branch's gate: the array after the run is the reference's. -/
theorem final8 (c : Dev nD) : (dats m 0 c).arrAt 8 cfg0.N = val_main_v35 (F := Ideal) (A0 m c) (A1 m c) (A2 m c) (A3 m c) := by
  refine (dats m 0 c).arrAt_eq_of_cover 8 _ (fun t hf => ?_) (fun i => ?_)
  · rw [Cert.GateIdeal.Value.flushed8]
    unfold out0_8
    rw [View.canon_unit_zero hz, View.ld_unit_zero hz, View.ld_unit_zero hz, View.ld_unit_zero hz, View.ld_unit_zero hz]
    funext y
    obtain ⟨r, n, rfl⟩ : ∃ r n, y = ix2 r n := ⟨y 0, y 1, eq_ix2 y⟩
    show k0_pay7 (F := Ideal) (iblk m c 0 t) (iblk m c 1 t) (iblk m c 2 t) (iblk m c 4 t) (ix2 r n)
      = val_main_v35 (F := Ideal) _ _ _ _ ((win0_8.rect t).emb (ix2 r n))
    rw [(emb_out t r n).2.2.1]
    rw [pay7_apply, ref35_apply, dmv_eq, sa_eq, ya_eq]
  · obtain ⟨t, r, n, rfl⟩ := onto i
    rw [← (emb_out t r n).2.2.1]
    exact ⟨t, flush0_8 t, View.emb_mem_set ((cfg0.win 8).blk t).view _⟩

/-- Result 4, the gradient of the convolution branch's gate: the array after the run is the reference's. -/
theorem final9 (c : Dev nD) : (dats m 0 c).arrAt 9 cfg0.N = val_main_v36 (F := Ideal) (A0 m c) (A1 m c) (A2 m c) (A4 m c) := by
  refine (dats m 0 c).arrAt_eq_of_cover 9 _ (fun t hf => ?_) (fun i => ?_)
  · rw [Cert.GateIdeal.Value.flushed9]
    unfold out0_9
    rw [View.canon_unit_zero hz, View.ld_unit_zero hz, View.ld_unit_zero hz, View.ld_unit_zero hz, View.ld_unit_zero hz]
    funext y
    obtain ⟨r, n, rfl⟩ : ∃ r n, y = ix2 r n := ⟨y 0, y 1, eq_ix2 y⟩
    show k0_pay1 (F := Ideal) (k0_pay2 (iblk m c 0 t) (iblk m c 1 t)) (k0_pay4 (iblk m c 3 t)) (iblk m c 5 t) (ix2 r n)
      = val_main_v36 (F := Ideal) _ _ _ _ ((win0_9.rect t).emb (ix2 r n))
    rw [(emb_out t r n).2.2.2]
    rw [pay1_apply, ref36_apply, dmv_eq, sc_eq, yc_eq]
  · obtain ⟨t, r, n, rfl⟩ := onto i
    rw [← (emb_out t r n).2.2.2]
    exact ⟨t, flush0_9 t, View.emb_mem_set ((cfg0.win 9).blk t).view _⟩

/-- The kernel computes the reference's gradients: started with the same arguments, both programs' runs end with the same
    four results and with the arguments unchanged. -/
theorem algebraic : Cert.algebraic_GateIdeal_GateRefIdeal := by
  intro m g m' g' _ hagree
  refine ⟨fun c => val_main_v33 (F := Ideal) (A0 m c) (A1 m c) (A2 m c), fun c => val_main_v34 (F := Ideal) (A0 m c) (A1 m c) (A2 m c),
    fun c => val_main_v35 (F := Ideal) (A0 m c) (A1 m c) (A2 m c) (A3 m c), fun c => val_main_v36 (F := Ideal) (A0 m c) (A1 m c) (A2 m c) (A4 m c),
    (θ_run _ _ _).mono (fun r h c => ?_) (Cert.GateIdeal.Value.run_blocks (F := Ideal) m g),
    (θ_run _ _ _).mono (fun r h c => ?_) (Cert.GateRefIdeal.Value.run (F := Ideal) m' g')⟩
  · obtain ⟨h6, h7, h8, h9, hargs⟩ := h c
    exact ⟨h6.trans (final6 m c), h7.trans (final7 m c), h8.trans (final8 m c), h9.trans (final9 m c), hargs⟩
  · obtain ⟨h33, h34, h35, h36, hargs⟩ := h c
    obtain ⟨a0, a1, a2, a3, a4⟩ := hagree c
    refine ⟨h33.trans ?_, h34.trans ?_, h35.trans ?_, h36.trans ?_, hargs⟩
    · rw [a0, a1, a2]; exact Cert.GateRefIdeal.Read.val_main_v33_eq _ _ _
    · rw [a0, a1, a2]; exact Cert.GateRefIdeal.Read.val_main_v34_eq _ _ _
    · rw [a0, a1, a2, a3]; exact Cert.GateRefIdeal.Read.val_main_v35_eq _ _ _ _
    · rw [a0, a1, a2, a4]; exact Cert.GateRefIdeal.Read.val_main_v36_eq _ _ _ _

/-- The reference's own run ends, with its arguments unchanged and every counter at zero. -/
theorem frame_reference : Cert.quiescent_GateRefIdeal := fun m ρ _ =>
  (θ_run Cert.GateRefIdeal.defs _ _).mono (fun r h => ⟨fun c => (h c).2.2.2.2, Idealize.ShloMosaic.sem_eq_zero_of_no_sems (by decide) r.2⟩)
    (Cert.GateRefIdeal.Value.run (F := Ideal) m ρ)

end Cert.Proof.GateValue

end
-- ==== Proof.DwOutValue.lean ====
/-
  The value of the backward call `mm_dw_ffn_out`: the gradient of the feed-forward layer's second weight, each block of 512
  x 1024 elements one product over the 4096 tokens, is the gradient the reference program computes.
-/
module

public import proofs.«01_k».proof.Proof.Gen.DwOutIdeal.Value
public import proofs.«01_k».proof.Proof.Gen.DwOutRefIdeal.Read
public import proofs.«01_k».proof.Proof.Gen.DwOutRefIdeal.Run
public import proofs.«01_k».proof.Defs
public import Idealize.ShloMosaic.Lib.Pointwise
public import Idealize.ShloMosaic.Lib.ValueIdx

@[expose] public section

noncomputable section

namespace Cert.Proof.DwOutValue

open Cert.DwOutIdeal Cert.DwOutIdeal.Gen Idealize.ShloMosaic Idealize.ShloMosaic.TcCoe Idealize.SL.Sem
open Cert.DwOutRefIdeal.Read (val_main_v6)

variable (m : (ℓ : Loc nD τ sig) → Buf (Elt Ideal) ℓ)

theorem hz : (![0, 0] : Fin 2 → Nat) = fun _ => 0 := funext fun a => by fin_cases a <;> rfl

/-- The block indices of the windows at a grid point: column block `t / 2` of the activations, column block `t % 2` of the
    incoming gradient, and the block of the weight gradient at both. -/
theorem idx_facts : ∀ t : Fin cfg0.N,
    (win0_0.index t 0 = 0 ∧ win0_0.index t 1 = t.val / 2) ∧ (win0_1.index t 0 = 0 ∧ win0_1.index t 1 = t.val % 2)
    ∧ (win0_2.index t 0 = t.val / 2 ∧ win0_2.index t 1 = t.val % 2) :=
  (by decide +kernel : ∀ t : Fin grid0.N, _)

/-- The array index of element `(r, n)` of the block at point `t`. -/
abbrev at_ (t : Fin cfg0.N) (r : Fin 512) (n : Fin 1024) : S5632x2048.Idx := fun a => match a with
  | ⟨0, _⟩ => ⟨t.val / 2 * 512 + r.val, by have h : t.val < 22 := t.isLt; have := r.isLt; show _ < 5632; omega⟩
  | ⟨1, _⟩ => ⟨t.val % 2 * 1024 + n.val, by have := n.isLt; show _ < 2048; omega⟩

/-- The block product at an element: the sum over the 4096 tokens. -/
theorem pay_apply (v0 : Vec Ideal S4096x512 .bf16) (v1 : Vec Ideal S4096x1024 .bf16) (r : Fin 512) (n : Fin 1024) :
    k0_pay1 (F := Ideal) v0 v1 (ix2 r n) = ∑ k : Fin 4096, v0 (ix2 k r) * v1 (ix2 k n) := by
  unfold k0_pay1
  simp only [pointwise, zero_add]

/-- The reference's weight gradient at an index: the sum over the tokens. -/
theorem ref_apply (x0 : (⟨S4096x5632, .bf16⟩ : BufTy).Contents (Elt Ideal)) (x1 : (⟨S4096x2048, .bf16⟩ : BufTy).Contents (Elt Ideal))
    (i : S5632x2048.Idx) :
    val_main_v6 (F := Ideal) x0 x1 i = ∑ k : Fin 4096, x0 (fun a => match a with | ⟨0, _⟩ => ⟨k.val, k.isLt⟩ | ⟨1, _⟩ => ⟨(i 0).val, (i 0).isLt⟩)
      * x1 (fun a => match a with | ⟨0, _⟩ => ⟨k.val, k.isLt⟩ | ⟨1, _⟩ => ⟨(i 1).val, (i 1).isLt⟩) := by
  rw [Cert.DwOutRefIdeal.Read.val_main_v6_apply, Cert.DwOutRefIdeal.Read.val_main_v5_apply, Cert.DwOutRefIdeal.Read.val_main_v4_apply]
  exact Finset.sum_congr rfl fun k _ => mul_comm _ _

/-- Where a block's elements sit in their array: the two argument windows and the result window. -/
theorem emb0 (t : Fin cfg0.N) (k : Fin 4096) (r : Fin 512) (n : Fin 1024) :
    (win0_0.rect t).emb (ix2 k r) = (fun a => match a with | ⟨0, _⟩ => ⟨k.val, k.isLt⟩ | ⟨1, _⟩ => ⟨(at_ t r n 0).val, (at_ t r n 0).isLt⟩ : S4096x5632.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; rfl)

theorem emb1 (t : Fin cfg0.N) (k : Fin 4096) (r : Fin 512) (n : Fin 1024) :
    (win0_1.rect t).emb (ix2 k n) = (fun a => match a with | ⟨0, _⟩ => ⟨k.val, k.isLt⟩ | ⟨1, _⟩ => ⟨(at_ t r n 1).val, (at_ t r n 1).isLt⟩ : S4096x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; rfl)

theorem emb2 (t : Fin cfg0.N) (r : Fin 512) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; rfl)

/-- Every index of the result array is one of a block's elements. -/
theorem onto (i : S5632x2048.Idx) : ∃ t : Fin cfg0.N, ∃ r n, at_ t r n = i := by
  have h0 : (i 0).val < 5632 := (i 0).isLt
  have h1 : (i 1).val < 2048 := (i 1).isLt
  refine ⟨⟨(i 0).val / 512 * 2 + (i 1).val / 1024, by show _ < 22; omega⟩, ⟨(i 0).val % 512, by omega⟩, ⟨(i 1).val % 1024, by omega⟩,
    funext fun a => Fin.ext ?_⟩
  match a with
  | ⟨0, _⟩ => show ((i 0).val / 512 * 2 + (i 1).val / 1024) / 2 * 512 + (i 0).val % 512 = (i 0).val; omega
  | ⟨1, _⟩ => show ((i 0).val / 512 * 2 + (i 1).val / 1024) % 2 * 1024 + (i 1).val % 1024 = (i 1).val; omega

/-- The two argument arrays of a device as launched: the activations and the incoming gradient. -/
abbrev A0 (c : Dev nD) : (⟨S4096x5632, .bf16⟩ : BufTy).Contents (Elt Ideal) := m ((c : Thread nD τ).loc main_arg0)
abbrev A1 (c : Dev nD) : (⟨S4096x2048, .bf16⟩ : BufTy).Contents (Elt Ideal) := m ((c : Thread nD τ).loc main_arg1)

/-- The weight gradient: the array after the run is the reference's. -/
theorem final (c : Dev nD) : (dats m 0 c).arrAt 2 cfg0.N = val_main_v6 (F := Ideal) (A0 m c) (A1 m c) := by
  refine (dats m 0 c).arrAt_eq_of_cover 2 _ (fun t hf => ?_) (fun i => ?_)
  · rw [Cert.DwOutIdeal.Value.flushed2]
    unfold out0_2
    rw [View.canon_unit_zero hz, View.ld_unit_zero hz, View.ld_unit_zero hz]
    funext y
    obtain ⟨r, n, rfl⟩ : ∃ r n, y = ix2 r n := ⟨y 0, y 1, eq_ix2 y⟩
    show k0_pay1 (F := Ideal) (iblk m c 0 t) (iblk m c 1 t) (ix2 r n) = val_main_v6 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwOutIdeal_DwOutRefIdeal := by
  intro m g m' g' _ hagree
  refine ⟨fun c => val_main_v6 (F := Ideal) (A0 m c) (A1 m c),
    (θ_run _ _ _).mono (fun r h c => ?_) (Cert.DwOutIdeal.Value.run_blocks (F := Ideal) m g),
    (θ_run _ _ _).mono (fun r h c => ?_) (Cert.DwOutRefIdeal.Value.run (F := Ideal) m' g')⟩
  · exact ⟨(h c).1.trans (final m c), (h c).2⟩
  · obtain ⟨a0, a1⟩ := hagree c
    refine ⟨(h c).1.trans ?_, (h c).2⟩
    rw [a0, a1]; exact Cert.DwOutRefIdeal.Read.val_main_v6_eq _ _

/-- The reference's own run ends, with its arguments unchanged and every counter at zero. -/
theorem frame_reference : Cert.quiescent_DwOutRefIdeal := fun m ρ _ =>
  (θ_run Cert.DwOutRefIdeal.defs _ _).mono (fun r h => ⟨fun c => (h c).2, Idealize.ShloMosaic.sem_eq_zero_of_no_sems (by decide) r.2⟩)
    (Cert.DwOutRefIdeal.Value.run (F := Ideal) m ρ)

end Cert.Proof.DwOutValue

end
-- ==== Proof.DwFfnValue.lean ====
/-
  The value of the backward call `mm_dw_ffn_in`: the gradient of the feed-forward layer's first weight, in eight shards of 1408
  columns, each block of 1024 x 1408 elements one product over the 4096 tokens, is the gradient the reference program computes.
-/
module

public import proofs.«01_k».proof.Proof.Gen.DwFfnIdeal.Value
public import proofs.«01_k».proof.Proof.Gen.DwFfnRefIdeal.Read
public import proofs.«01_k».proof.Proof.Gen.DwFfnRefIdeal.Run
public import proofs.«01_k».proof.Defs
public import Idealize.ShloMosaic.Lib.Pointwise
public import Idealize.ShloMosaic.Lib.ValueIdx
public import Idealize.ShloMosaic.Lib.ValueLayout

@[expose] public section

noncomputable section

namespace Cert.Proof.DwFfnValue

open Cert.DwFfnIdeal Cert.DwFfnIdeal.Gen Idealize.ShloMosaic Idealize.ShloMosaic.TcCoe Idealize.SL.Sem
open Cert.DwFfnRefIdeal.Read

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The block indices of the windows at a grid point: row block `t / 8` of the weight, and shard `t % 8` of its columns, which
    lies in plane `t % 8 / 4` of the incoming gradient. -/
theorem idx_facts : ∀ t : Fin cfg0.N,
    (win0_0.index t 0 = 0 ∧ win0_0.index t 1 = t.val / 8)
    ∧ (win0_1.index t 0 = t.val % 8 / 4 ∧ win0_1.index t 1 = 0 ∧ win0_1.index t 2 = t.val % 8 % 4)
    ∧ (win0_2.index t 0 = t.val % 8 ∧ win0_2.index t 1 = t.val / 8 ∧ win0_2.index t 2 = 0) :=
  (by decide +kernel : ∀ t : Fin grid0.N, _)

/-- The array index of element `(r, n)` of the block at point `t`. -/
abbrev at_ (t : Fin cfg0.N) (r : Fin 1024) (n : Fin 1408) : S8x2048x1408.Idx := fun a => match a with
  | ⟨0, _⟩ => ⟨t.val % 8, by show _ < 8; omega⟩
  | ⟨1, _⟩ => ⟨t.val / 8 * 1024 + r.val, by have h : t.val < 16 := t.isLt; have := r.isLt; show _ < 2048; omega⟩
  | ⟨2, _⟩ => ⟨n.val, n.isLt⟩

/-- The block product at an element: the sum over the 4096 tokens. -/
theorem pay_apply (v0 : Vec Ideal S4096x1024 .bf16) (v1 : Vec Ideal S1x4096x1408 .bf16) (u : Fin 1) (r : Fin 1024) (n : Fin 1408) :
    k0_pay1 (F := Ideal) v0 v1 (ix3 u r n) = ∑ k : Fin 4096, v0 (ix2 k r) * v1 (ix3 0 k n) := by
  unfold k0_pay1
  simp only [pointwise, zero_add, ValueIdx.shapeCast_ab_1ab_apply, ValueIdx.shapeCast_1ab_ab_apply]

/-- Where column `j 1` of the two planes side by side lies. -/
abbrev plane (j : Cert.DwFfnRefIdeal.S4096x11264.Idx) : S2x4096x5632.Idx := fun a => match a with
  | ⟨0, _⟩ => ⟨(j 1).val / 5632, by have h : (j 1).val < 11264 := (j 1).isLt; show _ < 2; omega⟩
  | ⟨1, _⟩ => ⟨(j 0).val, (j 0).isLt⟩
  | ⟨2, _⟩ => ⟨(j 1).val % 5632, by show _ < 5632; omega⟩

/-- The reference's two planes side by side, read at an index. -/
theorem planes_apply (x1 : (⟨S2x4096x5632, .bf16⟩ : BufTy).Contents (Elt Ideal)) (j : Cert.DwFfnRefIdeal.S4096x11264.Idx) :
    val_main_v7 (F := Ideal) x1 j = x1 (plane j) := by
  have hj0 : (j 0).val < 4096 := (j 0).isLt
  have hj1 : (j 1).val < 11264 := (j 1).isLt
  unfold val_main_v7
  by_cases h : (j 1).val < 5632
  · rw [concatenate_pair_apply_left (t := Cert.DwFfnRefIdeal.S4096x11264) (s₁ := Cert.DwFfnRefIdeal.S4096x5632) (s₂ := Cert.DwFfnRefIdeal.S4096x5632) 1 _ _ _ j rfl
      (fun a => match a with | ⟨0, _⟩ => ⟨(j 0).val, hj0⟩ | ⟨1, _⟩ => ⟨(j 1).val, h⟩)
      (fun b => match b with | ⟨0, _⟩ => rfl | ⟨1, _⟩ => rfl), val_main_v4_apply, val_main_v3_apply]
    refine congrArg x1 (funext fun a => Fin.ext ?_)
    match a with
    | ⟨0, _⟩ => show 0 = (j 1).val / 5632; omega
    | ⟨1, _⟩ => show ((j 0).val * 5632 + (j 1).val) / 5632 % 4096 = (j 0).val; omega
    | ⟨2, _⟩ => show ((j 0).val * 5632 + (j 1).val) % 5632 = (j 1).val % 5632; omega
  · rw [concatenate_pair_apply_right (t := Cert.DwFfnRefIdeal.S4096x11264) (s₁ := Cert.DwFfnRefIdeal.S4096x5632) (s₂ := Cert.DwFfnRefIdeal.S4096x5632) 1 _ _ _ j rfl rfl
      (fun a => match a with | ⟨0, _⟩ => ⟨(j 0).val, hj0⟩ | ⟨1, _⟩ => ⟨(j 1).val - 5632, by show _ < 5632; omega⟩)
      (fun b hb => match b, hb with | ⟨0, _⟩, _ => rfl | ⟨1, _⟩, hb => absurd rfl hb)
      (by show (j 1).val - 5632 + 5632 = (j 1).val; omega), val_main_v6_apply, val_main_v5_apply]
    refine congrArg x1 (funext fun a => Fin.ext ?_)
    match a with
    | ⟨0, _⟩ => show 1 + 0 = (j 1).val / 5632; omega
    | ⟨1, _⟩ => show ((j 0).val * 5632 + ((j 1).val - 5632)) / 5632 % 4096 = (j 0).val; omega
    | ⟨2, _⟩ => show ((j 0).val * 5632 + ((j 1).val - 5632)) % 5632 = (j 1).val % 5632; omega

/-- The reference's weight gradient at an index: the sum over the tokens. -/
theorem ref_apply (x0 : (⟨S4096x2048, .bf16⟩ : BufTy).Contents (Elt Ideal)) (x1 : (⟨S2x4096x5632, .bf16⟩ : BufTy).Contents (Elt Ideal))
    (i : S8x2048x1408.Idx) :
    val_main_v13 (F := Ideal) x0 x1 i = ∑ k : Fin 4096, x0 (fun a => match a with | ⟨0, _⟩ => ⟨k.val, k.isLt⟩ | ⟨1, _⟩ => ⟨(i 1).val, (i 1).isLt⟩)
      * x1 (fun a => match a with
        | ⟨0, _⟩ => ⟨(i 0).val / 4, by have h : (i 0).val < 8 := (i 0).isLt; show _ < 2; omega⟩
        | ⟨1, _⟩ => ⟨k.val, k.isLt⟩
        | ⟨2, _⟩ => ⟨(i 0).val % 4 * 1408 + (i 2).val, by have h : (i 2).val < 1408 := (i 2).isLt; show _ < 5632; omega⟩) := by
  have h0 : (i 0).val < 8 := (i 0).isLt
  have h1 : (i 1).val < 2048 := (i 1).isLt
  have h2 : (i 2).val < 1408 := (i 2).isLt
  rw [val_main_v13_apply, val_main_v12_apply, val_main_v11_apply, val_main_v10_apply, val_main_v9_apply]
  refine Finset.sum_congr rfl fun k _ => (mul_comm _ _).trans (congrArg₂ (· * ·) ?_ ?_)
  · rw [val_main_v1_apply]
    refine congrArg x0 (funext fun a => Fin.ext ?_)
    match a with
    | ⟨0, _⟩ => rfl
    | ⟨1, _⟩ => show (((i 1).val * 8 + (i 0).val) * 1408 + (i 2).val) / 11264 = (i 1).val; omega
  · rw [val_main_v8_apply]
    refine (planes_apply x1 _).trans (congrArg x1 (funext fun a => Fin.ext ?_))
    match a with
    | ⟨0, _⟩ => show (((i 1).val * 8 + (i 0).val) * 1408 + (i 2).val) % 11264 / 5632 = (i 0).val / 4; omega
    | ⟨1, _⟩ => rfl
    | ⟨2, _⟩ => show (((i 1).val * 8 + (i 0).val) * 1408 + (i 2).val) % 11264 % 5632 = (i 0).val % 4 * 1408 + (i 2).val; omega

/-- Where a block's elements sit in their array: the two argument windows and the result window. -/
theorem emb0 (t : Fin cfg0.N) (k : Fin 4096) (r : Fin 1024) (n : Fin 1408) :
    (win0_0.rect t).emb (ix2 k r) = (fun a => match a with | ⟨0, _⟩ => ⟨k.val, k.isLt⟩ | ⟨1, _⟩ => ⟨(at_ t r n 1).val, (at_ t r n 1).isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; rfl)

theorem emb1 (t : Fin cfg0.N) (k : Fin 4096) (r : Fin 1024) (n : Fin 1408) :
    (win0_1.rect t).emb (ix3 0 k n) = (fun a => match a with
        | ⟨0, _⟩ => ⟨(at_ t r n 0).val / 4, by have h : (at_ t r n 0).val < 8 := (at_ t r n 0).isLt; show _ < 2; omega⟩
        | ⟨1, _⟩ => ⟨k.val, k.isLt⟩
        | ⟨2, _⟩ => ⟨(at_ t r n 0).val % 4 * 1408 + (at_ t r n 2).val, by have h : (at_ t r n 2).val < 1408 := (at_ t r n 2).isLt; show _ < 5632; omega⟩
        : S2x4096x5632.Idx) := by
  obtain ⟨-, ⟨h0, h1, h2⟩, -⟩ := idx_facts t
  refine funext fun a => Fin.ext ?_
  match a with
  | ⟨0, _⟩ => exact (win0_1.rect_emb_val t _ 0).trans (by rw [h0]; exact Nat.mul_one _)
  | ⟨1, _⟩ => exact (win0_1.rect_emb_val t _ 1).trans (by rw [h1]; show 0 * 4096 + k.val = k.val; omega)
  | ⟨2, _⟩ => exact (win0_1.rect_emb_val t _ 2).trans (by rw [h2]; rfl)

theorem emb2 (t : Fin cfg0.N) (r : Fin 1024) (n : Fin 1408) : (win0_2.rect t).emb (ix3 0 r n) = at_ t r n := by
  obtain ⟨-, -, h0, h1, h2⟩ := idx_facts t
  refine funext fun a => Fin.ext ?_
  match a with
  | ⟨0, _⟩ => exact (win0_2.rect_emb_val t _ 0).trans (by rw [h0]; exact Nat.mul_one _)
  | ⟨1, _⟩ => exact (win0_2.rect_emb_val t _ 1).trans (by rw [h1]; rfl)
  | ⟨2, _⟩ => exact (win0_2.rect_emb_val t _ 2).trans (by rw [h2]; exact (Nat.zero_mul _).symm ▸ Nat.zero_add _)

/-- Every index of the result array is one of a block's elements. -/
theorem onto (i : S8x2048x1408.Idx) : ∃ t : Fin cfg0.N, ∃ r n, at_ t r n = i := by
  have h0 : (i 0).val < 8 := (i 0).isLt
  have h1 : (i 1).val < 2048 := (i 1).isLt
  refine ⟨⟨(i 1).val / 1024 * 8 + (i 0).val, by show _ < 16; omega⟩, ⟨(i 1).val % 1024, by omega⟩, ⟨(i 2).val, (i 2).isLt⟩,
    funext fun a => Fin.ext ?_⟩
  match a with
  | ⟨0, _⟩ => show ((i 1).val / 1024 * 8 + (i 0).val) % 8 = (i 0).val; omega
  | ⟨1, _⟩ => show ((i 1).val / 1024 * 8 + (i 0).val) / 8 * 1024 + (i 1).val % 1024 = (i 1).val; omega
  | ⟨2, _⟩ => rfl

/-- The two argument arrays of a device as launched: the activations and the incoming gradient. -/
abbrev A0 (c : Dev nD) : (⟨S4096x2048, .bf16⟩ : BufTy).Contents (Elt Ideal) := m ((c : Thread nD τ).loc main_arg0)
abbrev A1 (c : Dev nD) : (⟨S2x4096x5632, .bf16⟩ : BufTy).Contents (Elt Ideal) := m ((c : Thread nD τ).loc main_arg1)

/-- The weight gradient: the array after the run is the reference's. -/
theorem final (c : Dev nD) : (dats m 0 c).arrAt 2 cfg0.N = val_main_v13 (F := Ideal) (A0 m c) (A1 m c) := by
  refine (dats m 0 c).arrAt_eq_of_cover 2 _ (fun t hf => ?_) (fun i => ?_)
  · rw [Cert.DwFfnIdeal.Value.flushed2]
    unfold out0_2
    rw [View.canon_unit_zero hz3, View.ld_unit_zero hz, View.ld_unit_zero hz3]
    funext y
    obtain ⟨r, n, rfl⟩ : ∃ r n, y = ix3 0 r n := ⟨y 1, y 2, (eq_ix3 y).trans (congrArg (fun u => ix3 u (y 1) (y 2)) (Subsingleton.elim (α := Fin 1) _ _))⟩
    show k0_pay1 (F := Ideal) (iblk m c 0 t) (iblk m c 1 t) (ix3 0 r n) = val_main_v13 (F := Ideal) _ _ ((win0_2.rect t).emb (ix3 0 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwFfnIdeal_DwFfnRefIdeal := by
  intro m g m' g' _ hagree
  refine ⟨fun c => val_main_v13 (F := Ideal) (A0 m c) (A1 m c),
    (θ_run _ _ _).mono (fun r h c => ?_) (Cert.DwFfnIdeal.Value.run_blocks (F := Ideal) m g),
    (θ_run _ _ _).mono (fun r h c => ?_) (Cert.DwFfnRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v13_eq _ _

/-- The reference's own run ends, with its arguments unchanged and every counter at zero. -/
theorem frame_reference : Cert.quiescent_DwFfnRefIdeal := fun m ρ _ =>
  (θ_run Cert.DwFfnRefIdeal.defs _ _).mono (fun r h => ⟨fun c => (h c).2, Idealize.ShloMosaic.sem_eq_zero_of_no_sems (by decide) r.2⟩)
    (Cert.DwFfnRefIdeal.Value.run (F := Ideal) m ρ)

end Cert.Proof.DwFfnValue

end
-- ==== Proof.Chunks.lean ====
/-
  A sum over a long axis cut into chunks of one length, which is what a product accumulated over its contracted axis is.
-/
module

public import Idealize.ShloMosaic.Lib.Pointwise
public import Idealize.ShloMosaic.Lib.ValueIdx

@[expose] public section

namespace Cert.Proof

/-- Zero offsets, on two and on three axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Position `q` of chunk `j`, of the `a` chunks of length `b` of an axis. -/
abbrev chunk {a b n : ℕ} (h : a * b = n) (j : Fin a) (q : Fin b) : Fin n :=
  ⟨j.val * b + q.val, by
    have hj : j.val + 1 ≤ a := j.isLt
    calc j.val * b + q.val < j.val * b + b := Nat.add_lt_add_left q.isLt _
      _ = (j.val + 1) * b := (Nat.succ_mul _ _).symm
      _ ≤ a * b := Nat.mul_le_mul_right _ hj
      _ = n := h⟩

/-- The sum over an axis is the sum over its chunks of each chunk's sum. -/
theorem sum_chunks {M : Type} [AddCommMonoid M] {a b n : ℕ} (h : a * b = n) (f : Fin n → M) :
    ∑ k : Fin n, f k = ∑ j : Fin a, ∑ q : Fin b, f (chunk h j q) := by
  subst h
  rw [← finProdFinEquiv.sum_comp, Fintype.sum_prod_type]
  refine Finset.sum_congr rfl fun j _ => Finset.sum_congr rfl fun q _ => congrArg f (Fin.ext ?_)
  show q.val + b * j.val = j.val * b + q.val
  rw [Nat.mul_comm, Nat.add_comm]

end Cert.Proof
-- ==== Proof.DuFfnValue.lean ====
/-
  The value of the backward call `mm_du3`: the gradient of the feed-forward layer's input. Each block of 1024 x 1024 elements is
  accumulated over four chunks of 2816 columns of the inner gradient's two planes; the last chunk's point writes it back. It is
  the gradient the reference program computes.
-/
module

public import proofs.«01_k».proof.Proof.Gen.DuFfnIdeal.Value
public import proofs.«01_k».proof.Proof.Gen.DuFfnRefIdeal.Read
public import proofs.«01_k».proof.Proof.Gen.DuFfnRefIdeal.Run
public import proofs.«01_k».proof.Proof.DwFfnValue
public import proofs.«01_k».proof.Proof.Chunks

@[expose] public section

noncomputable section

namespace Cert.Proof.DuFfnValue

open Cert.DuFfnIdeal Cert.DuFfnIdeal.Gen Idealize.ShloMosaic Idealize.ShloMosaic.TcCoe Idealize.SL.Sem
open Cert.DuFfnRefIdeal.Read
open Cert.Proof.DwFfnValue (plane planes_apply)

variable (m : (ℓ : Loc nD τ sig) → Buf (Elt Ideal) ℓ)

/-- The block indices of the windows at a grid point: row block `t / 8`, column block `t / 4 % 2` and chunk `t % 4`, which lies
    in plane `t % 4 / 2` of the inner gradient. -/
theorem idx_facts : ∀ t : Fin cfg0.N,
    (win0_0.index t 0 = t.val % 4 / 2 ∧ win0_0.index t 1 = t.val / 4 / 2 ∧ win0_0.index t 2 = t.val % 4 % 2)
    ∧ (win0_1.index t 0 = t.val / 4 % 2 ∧ win0_1.index t 1 = t.val % 4)
    ∧ (win0_2.index t 0 = t.val / 4 / 2 ∧ win0_2.index t 1 = t.val / 4 % 2) :=
  (by decide +kernel : ∀ t : Fin grid0.N, _)

/-- The array index of element `(r, n)` of the block accumulated at point `t`. -/
abbrev at_ (t : Fin cfg0.N) (r : Fin 1024) (n : Fin 1024) : S4096x2048.Idx := fun a => match a with
  | ⟨0, _⟩ => ⟨t.val / 4 / 2 * 1024 + r.val, by have h : t.val < 32 := t.isLt; have := r.isLt; show _ < 4096; omega⟩
  | ⟨1, _⟩ => ⟨t.val / 4 % 2 * 1024 + n.val, by have := n.isLt; show _ < 2048; omega⟩

/-- One chunk's product at an element. -/
theorem pay_apply (v0 : Vec Ideal S1x1024x2816 .bf16) (v1 : Vec Ideal S1024x2816 .bf16) (r n : Fin 1024) :
    k0_pay1 (F := Ideal) v0 v1 (ix2 r n) = ∑ q : Fin 2816, v0 (ix3 0 r q) * v1 (ix2 n q) := by
  unfold k0_pay1
  simp only [pointwise, zero_add, ValueIdx.shapeCast_1ab_ab_apply]

/-- The first chunk's point leaves its product in the accumulator. -/
theorem sout_A (c : Dev nD) (i : grid0.Coords) (a3 : Memref sig .tc .vmem S1x1024x2816 .bf16) (h3 : a3.IsWhole)
    (a4 : Memref sig .tc .vmem S1024x2816 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i) (hc2 : ¬cond0_2 i)
    (x0 : Vec Ideal S1x1024x2816 .bf16) (x1 : Vec Ideal S1024x2816 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S1x1024x2816) hz3,
    View.ld_unit_zero (S := S1024x2816) hz2, shapeCast_self]

/-- A middle chunk's point adds its product to the accumulator. -/
theorem sout_B (c : Dev nD) (i : grid0.Coords) (a3 : Memref sig .tc .vmem S1x1024x2816 .bf16) (h3 : a3.IsWhole)
    (a4 : Memref sig .tc .vmem S1024x2816 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i) (hc2 : ¬cond0_2 i)
    (x0 : Vec Ideal S1x1024x2816 .bf16) (x1 : Vec Ideal S1024x2816 .bf16) (xs : Vec Ideal S1024x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz2]
  unfold k0_pay3
  simp only [View.readAt_eq_ld, h3.read_unread, h4.read_unread, h6.read_unread, View.ld_unit_zero (S := S1x1024x2816) hz3,
    View.ld_unit_zero (S := S1024x2816) hz2, View.ld_unit_zero (S := S1024x1024) hz2, shapeCast_self]

/-- The last chunk's point leaves the accumulator with its product added in the result's block. -/
theorem out_C (c : Dev nD) (i : grid0.Coords) (a3 : Memref sig .tc .vmem S1x1024x2816 .bf16) (h3 : a3.IsWhole)
    (a4 : Memref sig .tc .vmem S1024x2816 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i) (hc2 : cond0_2 i)
    (x0 : Vec Ideal S1x1024x2816 .bf16) (x1 : Vec Ideal S1024x2816 .bf16) (xs : Vec Ideal S1024x1024 .f32) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1024x1024) _ hz2]
  unfold k0_pay3
  simp only [View.readAt_eq_ld, h3.read_unread, h4.read_unread, h6.read_unread, View.ld_unit_zero (S := S1x1024x2816) hz3,
    View.ld_unit_zero (S := S1024x2816) hz2, View.ld_unit_zero (S := S1024x1024) hz2, shapeCast_self]

/-- The accumulator after a first chunk's point, and after a middle one's. -/
theorem acc_A (c : Dev nD) (t : Fin cfg0.N) (h : t.val % 4 = 0) :
    (outsAt0 m c t.val t.isLt).2 = k0_pay1 (F := Ideal) (iblk m c 0 t) (iblk m c 1 t) := by
  rw [outsAt0_A m c t h (by omega) (by omega)]
  dsimp only
  rw [sout_A]

theorem acc_B (c : Dev nD) (t s : Fin cfg0.N) (hs : s.val + 1 = t.val) (h : ¬t.val % 4 = 0) (h2 : ¬t.val % 4 = 3) :
    (outsAt0 m c t.val t.isLt).2 = addf (outsAt0 m c s.val s.isLt).2 (k0_pay1 (F := Ideal) (iblk m c 0 t) (iblk m c 1 t)) := by
  obtain ⟨s, hsN⟩ := s
  obtain rfl : s = t.val - 1 := by simp only at hs; omega
  rw [outsAt0_B m c t h (by omega) h2]
  dsimp only
  rw [sout_B]

/-- The two argument arrays of a device as launched: the inner gradient's planes and the weight. -/
abbrev A0 (c : Dev nD) : (⟨S2x4096x5632, .bf16⟩ : BufTy).Contents (Elt Ideal) := m ((c : Thread nD τ).loc main_arg0)
abbrev A1 (c : Dev nD) : (⟨S2048x11264, .bf16⟩ : BufTy).Contents (Elt Ideal) := m ((c : Thread nD τ).loc main_arg1)

/-- One term of the reference's sum: column `k` of the planes side by side times column `k` of the weight. -/
abbrev lix (i : S4096x2048.Idx) (k : Fin 11264) : Cert.DwFfnRefIdeal.S4096x11264.Idx := fun a => match a with
  | ⟨0, _⟩ => ⟨(i 0).val, (i 0).isLt⟩
  | ⟨1, _⟩ => ⟨k.val, k.isLt⟩
abbrev rix (i : S4096x2048.Idx) (k : Fin 11264) : S2048x11264.Idx := fun a => match a with
  | ⟨0, _⟩ => ⟨(i 1).val, (i 1).isLt⟩
  | ⟨1, _⟩ => ⟨k.val, k.isLt⟩
def term (c : Dev nD) (i : S4096x2048.Idx) (k : Fin 11264) : EReal := A0 m c (plane (lix i k)) * A1 m c (rix i k)

/-- The reference's gradient at an index: the sum over the 11264 columns. -/
theorem ref_apply (c : Dev nD) (i : S4096x2048.Idx) :
    val_main_v9 (F := Ideal) (A0 m c) (A1 m c) i = ∑ k : Fin 11264, term m c i k := by
  rw [val_main_v9_apply]
  refine Finset.sum_congr rfl fun k _ => congrArg₂ (· * ·) ?_ ?_
  · rw [val_main_v8_apply]
    exact planes_apply (A0 m c) (lix i k)
  · rw [val_main_v0_apply]
    rfl

/-- Where a block's elements sit in their array: the two argument windows and the result window. -/
theorem emb0 (t : Fin cfg0.N) (r n : Fin 1024) (q : Fin 2816) (j : Fin 4) (hj : t.val % 4 = j.val) :
    (win0_0.rect t).emb (ix3 0 r q) = plane (lix (at_ t r n) (chunk rfl j q)) := by
  obtain ⟨⟨h0, h1, h2⟩, -⟩ := idx_facts t
  rw [hj] at h0 h2
  have hq := q.isLt
  have hj4 := j.isLt
  refine funext fun a => Fin.ext ?_
  match a with
  | ⟨0, _⟩ => exact (win0_0.rect_emb_val t _ 0).trans (by rw [h0]; show j.val / 2 * 1 + 0 = (j.val * 2816 + q.val) / 5632; omega)
  | ⟨1, _⟩ => exact (win0_0.rect_emb_val t _ 1).trans (by rw [h1]; rfl)
  | ⟨2, _⟩ => exact (win0_0.rect_emb_val t _ 2).trans (by rw [h2]; show j.val % 2 * 2816 + q.val = (j.val * 2816 + q.val) % 5632; omega)

theorem emb1 (t : Fin cfg0.N) (r n : Fin 1024) (q : Fin 2816) (j : Fin 4) (hj : t.val % 4 = j.val) :
    (win0_1.rect t).emb (ix2 n q) = rix (at_ t r n) (chunk rfl j q) := by
  obtain ⟨-, ⟨h0, h1⟩, -⟩ := idx_facts t
  rw [hj] at h1
  refine funext fun a => Fin.ext ?_
  match a with
  | ⟨0, _⟩ => exact (win0_1.rect_emb_val t _ 0).trans (by rw [h0]; rfl)
  | ⟨1, _⟩ => exact (win0_1.rect_emb_val t _ 1).trans (by rw [h1]; rfl)

theorem emb2 (t : Fin cfg0.N) (r n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; rfl)

/-- Chunk `j`'s product at a point of the block that point `t` writes back: the sum of that chunk's terms. -/
theorem prod_apply (c : Dev nD) (t s : Fin cfg0.N) (hs : s.val / 4 = t.val / 4) (j : Fin 4) (hj : s.val % 4 = j.val) (r n : Fin 1024) :
    k0_pay1 (F := Ideal) (iblk m c 0 s) (iblk m c 1 s) (ix2 r n) = ∑ q : Fin 2816, term m c (at_ t r n) (chunk rfl j q) := by
  have e : at_ s r n = at_ t r n := funext fun a => Fin.ext (by
    match a with
    | ⟨0, _⟩ => show s.val / 4 / 2 * 1024 + r.val = t.val / 4 / 2 * 1024 + r.val; rw [hs]
    | ⟨1, _⟩ => show s.val / 4 % 2 * 1024 + n.val = t.val / 4 % 2 * 1024 + n.val; rw [hs])
  rw [pay_apply, ← e]
  exact Finset.sum_congr rfl fun q _ => congrArg₂ (· * ·) (congrArg (A0 m c) (emb0 s r n q j hj)) (congrArg (A1 m c) (emb1 s r n q j hj))

/-- Every index of the result array is an element of a block some last chunk's point writes back. -/
theorem onto (i : S4096x2048.Idx) : ∃ t : Fin cfg0.N, t.val % 4 = 3 ∧ ∃ r n, at_ t r n = i := by
  have h0 : (i 0).val < 4096 := (i 0).isLt
  have h1 : (i 1).val < 2048 := (i 1).isLt
  refine ⟨⟨((i 0).val / 1024 * 2 + (i 1).val / 1024) * 4 + 3, by show _ < 32; omega⟩, by show (_ * 4 + 3) % 4 = 3; omega,
    ⟨(i 0).val % 1024, by omega⟩, ⟨(i 1).val % 1024, by omega⟩, funext fun a => Fin.ext ?_⟩
  match a with
  | ⟨0, _⟩ => show (((i 0).val / 1024 * 2 + (i 1).val / 1024) * 4 + 3) / 4 / 2 * 1024 + (i 0).val % 1024 = (i 0).val; omega
  | ⟨1, _⟩ => show (((i 0).val / 1024 * 2 + (i 1).val / 1024) * 4 + 3) / 4 % 2 * 1024 + (i 1).val % 1024 = (i 1).val; omega

/-- The gradient: the array after the run is the reference's. -/
theorem final (c : Dev nD) : (dats m 0 c).arrAt 2 cfg0.N = val_main_v9 (F := Ideal) (A0 m c) (A1 m c) := by
  refine (dats m 0 c).arrAt_eq_of_cover 2 _ (fun t hf => ?_) (fun i => ?_)
  · have h3 : t.val % 4 = 3 := (flush0_2 t).mp hf
    have hN : t.val < 32 := t.isLt
    let t2 : Fin cfg0.N := ⟨t.val - 1, by show _ < 32; omega⟩
    let t1 : Fin cfg0.N := ⟨t.val - 2, by show _ < 32; omega⟩
    let t0 : Fin cfg0.N := ⟨t.val - 3, by show _ < 32; omega⟩
    rw [Cert.DuFfnIdeal.Value.flushed2_C m c t (by omega) (by omega) h3, out_C,
      acc_B m c t2 t1 (by show t.val - 2 + 1 = t.val - 1; omega) (by show ¬(t.val - 1) % 4 = 0; omega) (by show ¬(t.val - 1) % 4 = 3; omega),
      acc_B m c t1 t0 (by show t.val - 3 + 1 = t.val - 2; omega) (by show ¬(t.val - 2) % 4 = 0; omega) (by show ¬(t.val - 2) % 4 = 3; omega),
      acc_A m c t0 (by show (t.val - 3) % 4 = 0; omega)]
    funext y
    obtain ⟨r, n, rfl⟩ : ∃ r n, y = ix2 r n := ⟨y 0, y 1, eq_ix2 y⟩
    show k0_pay1 (F := Ideal) (iblk m c 0 t0) (iblk m c 1 t0) (ix2 r n) + k0_pay1 (F := Ideal) (iblk m c 0 t1) (iblk m c 1 t1) (ix2 r n)
        + k0_pay1 (F := Ideal) (iblk m c 0 t2) (iblk m c 1 t2) (ix2 r n) + k0_pay1 (F := Ideal) (iblk m c 0 t) (iblk m c 1 t) (ix2 r n)
      = val_main_v9 (F := Ideal) _ _ ((win0_2.rect t).emb (ix2 r n))
    rw [emb2, ref_apply, sum_chunks (a := 4) (b := 2816) rfl, Fin.sum_univ_four,
      prod_apply m c t t0 (by show (t.val - 3) / 4 = t.val / 4; omega) 0 (by show (t.val - 3) % 4 = 0; omega),
      prod_apply m c t t1 (by show (t.val - 2) / 4 = t.val / 4; omega) 1 (by show (t.val - 2) % 4 = 1; omega),
      prod_apply m c t t2 (by show (t.val - 1) / 4 = t.val / 4; omega) 2 (by show (t.val - 1) % 4 = 2; omega),
      prod_apply m c t t rfl 3 h3]
  · obtain ⟨t, h3, r, n, rfl⟩ := onto i
    rw [← emb2]
    exact ⟨t, (flush0_2 t).mpr h3, View.emb_mem_set ((cfg0.win 2).blk t).view _⟩

/-- The kernel computes the reference's gradient: started with the same arguments, both programs' runs end with the same
    result and with the arguments unchanged. -/
theorem algebraic : Cert.algebraic_DuFfnIdeal_DuFfnRefIdeal := by
  intro m g m' g' _ hagree
  refine ⟨fun c => val_main_v9 (F := Ideal) (A0 m c) (A1 m c),
    (θ_run _ _ _).mono (fun r h c => ?_) (Cert.DuFfnIdeal.Value.run_blocks (F := Ideal) m g),
    (θ_run _ _ _).mono (fun r h c => ?_) (Cert.DuFfnRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v9_eq _ _

/-- The reference's own run ends, with its arguments unchanged and every counter at zero. -/
theorem frame_reference : Cert.quiescent_DuFfnRefIdeal := fun m ρ _ =>
  (θ_run Cert.DuFfnRefIdeal.defs _ _).mono (fun r h => ⟨fun c => (h c).2, Idealize.ShloMosaic.sem_eq_zero_of_no_sems (by decide) r.2⟩)
    (Cert.DuFfnRefIdeal.Value.run (F := Ideal) m ρ)

end Cert.Proof.DuFfnValue

end
-- ==== Proof.DwInValue.lean ====
/-
  The value of the backward call `mm_dw_in_0`: the gradient of the first 1024 columns of the in-projection's weight. The eight
  incoming gradients are laid side by side before the region; each block of 512 x 1024 elements of the result is then one product
  over the 4096 tokens. It is the gradient the reference program computes.
-/
module

public import proofs.«01_k».proof.Proof.Gen.DwInIdeal.Value
public import proofs.«01_k».proof.Proof.Gen.DwInRefIdeal.Read
public import proofs.«01_k».proof.Proof.Gen.DwInRefIdeal.Run
public import proofs.«01_k».proof.Defs
public import Idealize.ShloMosaic.Lib.Pointwise
public import Idealize.ShloMosaic.Lib.ValueIdx

@[expose] public section

noncomputable section

namespace Cert.Proof.DwInValue

open Cert.DwInIdeal Cert.DwInIdeal.Gen Idealize.ShloMosaic Idealize.ShloMosaic.TcCoe Idealize.SL.Sem
open Cert.DwInRefIdeal.Read

variable (m : (ℓ : Loc nD τ sig) → Buf (Elt Ideal) ℓ)

theorem hz : (![0, 0] : Fin 2 → Nat) = fun _ => 0 := funext fun a => by fin_cases a <;> rfl

/-- The block indices of the windows at a grid point: column block `t` of the gradients laid side by side, the first columns of
    the activations, and row block `t` of the weight gradient. -/
theorem idx_facts : ∀ t : Fin cfg0.N,
    (win0_0.index t 0 = 0 ∧ win0_0.index t 1 = t.val) ∧ (win0_1.index t 0 = 0 ∧ win0_1.index t 1 = 0)
    ∧ (win0_2.index t 0 = t.val ∧ win0_2.index t 1 = 0) :=
  (by decide +kernel : ∀ t : Fin grid0.N, _)

/-- The array index of element `(r, n)` of the block at point `t`. -/
abbrev at_ (t : Fin cfg0.N) (r : Fin 512) (n : Fin 1024) : S8704x1024.Idx := fun a => match a with
  | ⟨0, _⟩ => ⟨t.val * 512 + r.val, by have h : t.val < 17 := t.isLt; have := r.isLt; show _ < 8704; omega⟩
  | ⟨1, _⟩ => ⟨n.val, n.isLt⟩

/-- The block product at an element: the sum over the 4096 tokens. -/
theorem pay_apply (v0 : Vec Ideal S4096x512 .bf16) (v1 : Vec Ideal S4096x1024 .bf16) (r : Fin 512) (n : Fin 1024) :
    k0_pay1 (F := Ideal) v0 v1 (ix2 r n) = ∑ k : Fin 4096, v0 (ix2 k r) * v1 (ix2 k n) := by
  unfold k0_pay1
  simp only [pointwise, zero_add, shapeCast_self]

/-- The arrays of a device as launched: the eight incoming gradients, the activations, and the gradients side by side. -/
abbrev A (c : Dev nD) (b : Ref sig .tc) : Buf (Elt Ideal) ((c : Thread nD τ).loc b) := m ((c : Thread nD τ).loc b)
abbrev U (c : Dev nD) : (⟨S4096x2048, .bf16⟩ : BufTy).Contents (Elt Ideal) := m ((c : Thread nD τ).loc main_arg8)
abbrev side (c : Dev nD) : (⟨S4096x8704, .f32⟩ : BufTy).Contents (Elt Ideal) :=
  val_main_v19 (F := Ideal) (A m c main_arg0) (A m c main_arg1) (A m c main_arg2) (A m c main_arg3) (A m c main_arg4)
    (A m c main_arg5) (A m c main_arg6) (A m c main_arg7)
abbrev dW (c : Dev nD) : (⟨S8704x1024, .f32⟩ : BufTy).Contents (Elt Ideal) :=
  val_main_v24 (F := Ideal) (A m c main_arg0) (A m c main_arg1) (A m c main_arg2) (A m c main_arg3) (A m c main_arg4)
    (A m c main_arg5) (A m c main_arg6) (A m c main_arg7) (U m c)

/-- What the region finds in the array of the gradients side by side: what the reference lays side by side, a change of format
    being no change of value. -/
theorem V_side (c : Dev nD) : V m c main_v0 = side m c := by
  show StableHlo.after hostOps0 _ _ = _
  after_results
  rfl

/-- The reference's weight gradient at an index: the sum over the tokens. -/
theorem ref_apply (c : Dev nD) (i : S8704x1024.Idx) :
    dW m c i = ∑ k : Fin 4096, side m c (fun a => match a with | ⟨0, _⟩ => ⟨k.val, k.isLt⟩ | ⟨1, _⟩ => ⟨(i 0).val, (i 0).isLt⟩)
      * U m c (fun a => match a with | ⟨0, _⟩ => ⟨k.val, k.isLt⟩ | ⟨1, _⟩ => ⟨(i 1).val, by have h : (i 1).val < 1024 := (i 1).isLt; show _ < 2048; omega⟩) := by
  unfold dW
  rw [val_main_v24_apply, val_main_v23_apply, val_main_v22_apply, val_main_v21_apply, val_main_v20_apply]
  refine Finset.sum_congr rfl fun k _ => congrArg₂ (· * ·) ?_ ?_
  · rfl
  · rw [val_main_v0_apply]
    rfl

/-- Where a block's elements sit in their array: the two argument windows and the result window. -/
theorem emb0 (t : Fin cfg0.N) (k : Fin 4096) (r : Fin 512) (n : Fin 1024) :
    (win0_0.rect t).emb (ix2 k r) = (fun a => match a with | ⟨0, _⟩ => ⟨k.val, k.isLt⟩ | ⟨1, _⟩ => ⟨(at_ t r n 0).val, (at_ t r n 0).isLt⟩ : S4096x8704.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; rfl)

theorem emb1 (t : Fin cfg0.N) (k : Fin 4096) (r : Fin 512) (n : Fin 1024) :
    (win0_1.rect t).emb (ix2 k n) = (fun a => match a with | ⟨0, _⟩ => ⟨k.val, k.isLt⟩ | ⟨1, _⟩ => ⟨(at_ t r n 1).val, by have := n.isLt; show n.val < 2048; omega⟩ : S4096x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb2 (t : Fin cfg0.N) (r : Fin 512) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; exact (Nat.zero_mul _).symm ▸ Nat.zero_add _)

/-- Every index of the result array is one of a block's elements. -/
theorem onto (i : S8704x1024.Idx) : ∃ t : Fin cfg0.N, ∃ r n, at_ t r n = i := by
  have h0 : (i 0).val < 8704 := (i 0).isLt
  refine ⟨⟨(i 0).val / 512, by show _ < 17; omega⟩, ⟨(i 0).val % 512, by omega⟩, ⟨(i 1).val, (i 1).isLt⟩, funext fun a => Fin.ext ?_⟩
  match a with
  | ⟨0, _⟩ => show (i 0).val / 512 * 512 + (i 0).val % 512 = (i 0).val; omega
  | ⟨1, _⟩ => rfl

/-- The weight gradient: the array after the run is the reference's. -/
theorem final (c : Dev nD) : (dats m 0 c).arrAt 2 cfg0.N = dW m c := by
  refine (dats m 0 c).arrAt_eq_of_cover 2 _ (fun t hf => ?_) (fun i => ?_)
  · rw [Cert.DwInIdeal.Value.flushed2]
    unfold out0_2
    rw [View.canon_unit_zero hz, View.ld_unit_zero hz, View.ld_unit_zero hz]
    funext y
    obtain ⟨r, n, rfl⟩ : ∃ r n, y = ix2 r n := ⟨y 0, y 1, eq_ix2 y⟩
    show k0_pay1 (F := Ideal) (iblk m c 0 t) (iblk m c 1 t) (ix2 r n) = dW m c ((win0_2.rect t).emb (ix2 r n))
    rw [emb2, pay_apply, ref_apply]
    exact Finset.sum_congr rfl fun k _ => congrArg₂ (· * ·)
      ((congrFun (V_side m c) _).trans (congrArg (side m c) (emb0 t k r n)))
      ((congrFun (V_main_arg8 m c) _).trans (congrArg (U m c) (emb1 t k r n)))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwInIdeal_DwInRefIdeal := by
  intro m g m' g' _ hagree
  refine ⟨fun c => dW m c,
    (θ_run _ _ _).mono (fun r h c => ?_) (Cert.DwInIdeal.Value.run_blocks (F := Ideal) m g),
    (θ_run _ _ _).mono (fun r h c => ?_) (Cert.DwInRefIdeal.Value.run (F := Ideal) m' g')⟩
  · exact ⟨(h c).1.trans (final m c), (h c).2⟩
  · obtain ⟨a0, a1, a2, a3, a4, a5, a6, a7, a8⟩ := hagree c
    refine ⟨(h c).1.trans ?_, (h c).2⟩
    rw [a0, a1, a2, a3, a4, a5, a6, a7, a8]; exact val_main_v24_eq _ _ _ _ _ _ _ _ _

/-- The reference's own run ends, with its arguments unchanged and every counter at zero. -/
theorem frame_reference : Cert.quiescent_DwInRefIdeal := fun m ρ _ =>
  (θ_run Cert.DwInRefIdeal.defs _ _).mono (fun r h => ⟨fun c => (h c).2, Idealize.ShloMosaic.sem_eq_zero_of_no_sems (by decide) r.2⟩)
    (Cert.DwInRefIdeal.Value.run (F := Ideal) m ρ)

end Cert.Proof.DwInValue

end
-- ==== Proof.DuInValue.lean ====
/-
  The value of the backward call `mm_du1`: the gradient of the in-projection's input. The eight incoming gradients are laid side
  by side before the region. Each block of 512 x 1024 elements is accumulated over two chunks of 4352 columns; the second chunk's
  point writes it back. It is the gradient the reference program computes.
-/
module

public import proofs.«01_k».proof.Proof.Gen.DuInIdeal.Value
public import proofs.«01_k».proof.Proof.Gen.DuInRefIdeal.Read
public import proofs.«01_k».proof.Proof.Gen.DuInRefIdeal.Run
public import proofs.«01_k».proof.Defs
public import proofs.«01_k».proof.Proof.Chunks

@[expose] public section

noncomputable section

namespace Cert.Proof.DuInValue

open Cert.DuInIdeal Cert.DuInIdeal.Gen Idealize.ShloMosaic Idealize.ShloMosaic.TcCoe Idealize.SL.Sem
open Cert.DuInRefIdeal.Read

variable (m : (ℓ : Loc nD τ sig) → Buf (Elt Ideal) ℓ)

/-- The block indices of the windows at a grid point: row block `t / 4`, column block `t / 2 % 2` and chunk `t % 2`. -/
theorem idx_facts : ∀ t : Fin cfg0.N,
    (win0_0.index t 0 = t.val / 2 / 2 ∧ win0_0.index t 1 = t.val % 2)
    ∧ (win0_1.index t 0 = t.val % 2 ∧ win0_1.index t 1 = t.val / 2 % 2)
    ∧ (win0_2.index t 0 = t.val / 2 / 2 ∧ win0_2.index t 1 = t.val / 2 % 2) :=
  (by decide +kernel : ∀ t : Fin grid0.N, _)

/-- The array index of element `(r, n)` of the block accumulated at point `t`. -/
abbrev at_ (t : Fin cfg0.N) (r : Fin 512) (n : Fin 1024) : S4096x2048.Idx := fun a => match a with
  | ⟨0, _⟩ => ⟨t.val / 2 / 2 * 512 + r.val, by have h : t.val < 32 := t.isLt; have := r.isLt; show _ < 4096; omega⟩
  | ⟨1, _⟩ => ⟨t.val / 2 % 2 * 1024 + n.val, by have := n.isLt; show _ < 2048; omega⟩

/-- One chunk's product at an element. -/
theorem pay_apply (v0 : Vec Ideal S512x4352 .bf16) (v1 : Vec Ideal S4352x1024 .bf16) (r : Fin 512) (n : Fin 1024) :
    k0_pay1 (F := Ideal) v0 v1 (ix2 r n) = ∑ q : Fin 4352, v0 (ix2 r q) * v1 (ix2 q n) := by
  unfold k0_pay1
  simp only [pointwise, zero_add, shapeCast_self]

/-- The first chunk's point leaves its product in the accumulator. -/
theorem sout_A (c : Dev nD) (i : grid0.Coords) (a3 : Memref sig .tc .vmem S512x4352 .bf16) (h3 : a3.IsWhole)
    (a4 : Memref sig .tc .vmem S4352x1024 .bf16) (h4 : a4.IsWhole) (a5 : Memref sig .tc .vmem S512x1024 .f32) (h5 : a5.IsWhole)
    (a6 : Memref sig .tc .vmem S512x1024 .f32) (h6 : a6.IsWhole)
    (hc0 : cond0_0 i) (hc1 : ¬cond0_1 i) (hc2 : ¬cond0_2 i) (x0 : Vec Ideal S512x4352 .bf16) (x1 : Vec Ideal S4352x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S512x4352) hz2,
    View.ld_unit_zero (S := S4352x1024) hz2, shapeCast_self]

/-- The second chunk's point leaves the accumulator with its product added in the result's block. -/
theorem out_B (c : Dev nD) (i : grid0.Coords) (a3 : Memref sig .tc .vmem S512x4352 .bf16) (h3 : a3.IsWhole)
    (a4 : Memref sig .tc .vmem S4352x1024 .bf16) (h4 : a4.IsWhole) (a5 : Memref sig .tc .vmem S512x1024 .f32) (h5 : a5.IsWhole)
    (a6 : Memref sig .tc .vmem S512x1024 .f32) (h6 : a6.IsWhole)
    (hc0 : ¬cond0_0 i) (hc1 : cond0_1 i) (hc2 : cond0_2 i) (x0 : Vec Ideal S512x4352 .bf16) (x1 : Vec Ideal S4352x1024 .bf16)
    (xs : Vec Ideal S512x1024 .f32) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S512x1024) _ hz2]
  unfold k0_pay3
  simp only [View.readAt_eq_ld, h3.read_unread, h4.read_unread, h6.read_unread, View.ld_unit_zero (S := S512x4352) hz2,
    View.ld_unit_zero (S := S4352x1024) hz2, View.ld_unit_zero (S := S512x1024) hz2, shapeCast_self]

/-- The accumulator after a first chunk's point. -/
theorem acc_A (c : Dev nD) (t s : Fin cfg0.N) (hs : s.val + 1 = t.val) (h : t.val % 2 = 1) :
    (outsAt0 m c (t.val - 1) (Nat.lt_of_le_of_lt (Nat.sub_le _ _) t.isLt)).2 = k0_pay1 (F := Ideal) (iblk m c 0 s) (iblk m c 1 s) := by
  obtain ⟨s, hsN⟩ := s
  obtain rfl : s = t.val - 1 := by simp only at hs; omega
  have h0 : (⟨t.val - 1, hsN⟩ : Fin cfg0.N).val % 2 = 0 := by show (t.val - 1) % 2 = 0; omega
  rw [outsAt0_A m c ⟨t.val - 1, hsN⟩ h0 (by omega) (by omega)]
  dsimp only
  rw [sout_A]

/-- The arrays of a device as launched: the eight incoming gradients, the weight, and the gradients side by side. -/
abbrev A (c : Dev nD) (b : Ref sig .tc) : Buf (Elt Ideal) ((c : Thread nD τ).loc b) := m ((c : Thread nD τ).loc b)
abbrev W (c : Dev nD) : (⟨S8704x2048, .bf16⟩ : BufTy).Contents (Elt Ideal) := m ((c : Thread nD τ).loc main_arg8)
abbrev side (c : Dev nD) : (⟨S4096x8704, .f32⟩ : BufTy).Contents (Elt Ideal) :=
  val_main_v20 (F := Ideal) (A m c main_arg0) (A m c main_arg1) (A m c main_arg2) (A m c main_arg3) (A m c main_arg4)
    (A m c main_arg5) (A m c main_arg6) (A m c main_arg7)
abbrev dU (c : Dev nD) : (⟨S4096x2048, .f32⟩ : BufTy).Contents (Elt Ideal) :=
  val_main_v21 (F := Ideal) (A m c main_arg0) (A m c main_arg1) (A m c main_arg2) (A m c main_arg3) (A m c main_arg4)
    (A m c main_arg5) (A m c main_arg6) (A m c main_arg7) (W m c)

/-- What the region finds in the array of the gradients side by side: what the reference lays side by side, a change of format
    being no change of value. -/
theorem V_side (c : Dev nD) : V m c main_v0 = side m c := by
  show StableHlo.after hostOps0 _ _ = _
  after_results
  rfl

/-- One term of the reference's sum: column `k` of the gradients side by side times row `k` of the weight. -/
abbrev lix (i : S4096x2048.Idx) (k : Fin 8704) : S4096x8704.Idx := fun a => match a with
  | ⟨0, _⟩ => ⟨(i 0).val, (i 0).isLt⟩
  | ⟨1, _⟩ => ⟨k.val, k.isLt⟩
abbrev rix (i : S4096x2048.Idx) (k : Fin 8704) : S8704x2048.Idx := fun a => match a with
  | ⟨0, _⟩ => ⟨k.val, k.isLt⟩
  | ⟨1, _⟩ => ⟨(i 1).val, (i 1).isLt⟩
def term (c : Dev nD) (i : S4096x2048.Idx) (k : Fin 8704) : EReal := side m c (lix i k) * W m c (rix i k)

/-- The reference's gradient at an index: the sum over the 8704 columns. -/
theorem ref_apply (c : Dev nD) (i : S4096x2048.Idx) : dU m c i = ∑ k : Fin 8704, term m c i k := by
  unfold dU
  rw [val_main_v21_apply]
  refine Finset.sum_congr rfl fun k _ => congrArg₂ (· * ·) rfl ?_
  rw [val_main_v1_apply, val_main_v0_apply]
  rfl

/-- Where a block's elements sit in their array: the two argument windows and the result window. -/
theorem emb0 (t : Fin cfg0.N) (r : Fin 512) (n : Fin 1024) (q : Fin 4352) (j : Fin 2) (hj : t.val % 2 = j.val) :
    (win0_0.rect t).emb (ix2 r q) = lix (at_ t r n) (chunk rfl j q) := by
  obtain ⟨⟨h0, h1⟩, -⟩ := idx_facts t
  rw [hj] at h1
  refine funext fun a => Fin.ext ?_
  match a with
  | ⟨0, _⟩ => exact (win0_0.rect_emb_val t _ 0).trans (by rw [h0]; rfl)
  | ⟨1, _⟩ => exact (win0_0.rect_emb_val t _ 1).trans (by rw [h1]; rfl)

theorem emb1 (t : Fin cfg0.N) (r : Fin 512) (n : Fin 1024) (q : Fin 4352) (j : Fin 2) (hj : t.val % 2 = j.val) :
    (win0_1.rect t).emb (ix2 q n) = rix (at_ t r n) (chunk rfl j q) := by
  obtain ⟨-, ⟨h0, h1⟩, -⟩ := idx_facts t
  rw [hj] at h0
  refine funext fun a => Fin.ext ?_
  match a with
  | ⟨0, _⟩ => exact (win0_1.rect_emb_val t _ 0).trans (by rw [h0]; rfl)
  | ⟨1, _⟩ => exact (win0_1.rect_emb_val t _ 1).trans (by rw [h1]; rfl)

theorem emb2 (t : Fin cfg0.N) (r : Fin 512) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; rfl)

/-- Chunk `j`'s product at a point of the block that point `t` writes back: the sum of that chunk's terms. -/
theorem prod_apply (c : Dev nD) (t s : Fin cfg0.N) (hs : s.val / 2 = t.val / 2) (j : Fin 2) (hj : s.val % 2 = j.val) (r : Fin 512) (n : Fin 1024) :
    k0_pay1 (F := Ideal) (iblk m c 0 s) (iblk m c 1 s) (ix2 r n) = ∑ q : Fin 4352, term m c (at_ t r n) (chunk rfl j q) := by
  have e : at_ s r n = at_ t r n := funext fun a => Fin.ext (by
    match a with
    | ⟨0, _⟩ => show s.val / 2 / 2 * 512 + r.val = t.val / 2 / 2 * 512 + r.val; rw [hs]
    | ⟨1, _⟩ => show s.val / 2 % 2 * 1024 + n.val = t.val / 2 % 2 * 1024 + n.val; rw [hs])
  rw [pay_apply, ← e]
  exact Finset.sum_congr rfl fun q _ => congrArg₂ (· * ·)
    ((congrFun (V_side m c) _).trans (congrArg (side m c) (emb0 s r n q j hj)))
    ((congrFun (V_main_arg8 m c) _).trans (congrArg (W m c) (emb1 s r n q j hj)))

/-- Every index of the result array is an element of a block some second chunk's point writes back. -/
theorem onto (i : S4096x2048.Idx) : ∃ t : Fin cfg0.N, t.val % 2 = 1 ∧ ∃ r n, at_ t r n = i := by
  have h0 : (i 0).val < 4096 := (i 0).isLt
  have h1 : (i 1).val < 2048 := (i 1).isLt
  refine ⟨⟨((i 0).val / 512 * 2 + (i 1).val / 1024) * 2 + 1, by show _ < 32; omega⟩, by show (_ * 2 + 1) % 2 = 1; omega,
    ⟨(i 0).val % 512, by omega⟩, ⟨(i 1).val % 1024, by omega⟩, funext fun a => Fin.ext ?_⟩
  match a with
  | ⟨0, _⟩ => show (((i 0).val / 512 * 2 + (i 1).val / 1024) * 2 + 1) / 2 / 2 * 512 + (i 0).val % 512 = (i 0).val; omega
  | ⟨1, _⟩ => show (((i 0).val / 512 * 2 + (i 1).val / 1024) * 2 + 1) / 2 % 2 * 1024 + (i 1).val % 1024 = (i 1).val; omega

/-- The gradient: the array after the run is the reference's. -/
theorem final (c : Dev nD) : (dats m 0 c).arrAt 2 cfg0.N = dU m c := by
  refine (dats m 0 c).arrAt_eq_of_cover 2 _ (fun t hf => ?_) (fun i => ?_)
  · have h1 : t.val % 2 = 1 := (flush0_2 t).mp hf
    have hN : t.val < 32 := t.isLt
    let s : Fin cfg0.N := ⟨t.val - 1, by show _ < 32; omega⟩
    rw [Cert.DuInIdeal.Value.flushed2_B m c t (by omega) h1 h1, out_B, acc_A m c t s (by show t.val - 1 + 1 = t.val; omega) h1]
    funext y
    obtain ⟨r, n, rfl⟩ : ∃ r n, y = ix2 r n := ⟨y 0, y 1, eq_ix2 y⟩
    show k0_pay1 (F := Ideal) (iblk m c 0 s) (iblk m c 1 s) (ix2 r n) + k0_pay1 (F := Ideal) (iblk m c 0 t) (iblk m c 1 t) (ix2 r n)
      = dU m c ((win0_2.rect t).emb (ix2 r n))
    rw [emb2, ref_apply, sum_chunks (a := 2) (b := 4352) rfl, Fin.sum_univ_two,
      prod_apply m c t s (by show (t.val - 1) / 2 = t.val / 2; omega) 0 (by show (t.val - 1) % 2 = 0; omega),
      prod_apply m c t t rfl 1 h1]
  · obtain ⟨t, h1, r, n, rfl⟩ := onto i
    rw [← emb2]
    exact ⟨t, (flush0_2 t).mpr h1, View.emb_mem_set ((cfg0.win 2).blk t).view _⟩

/-- The kernel computes the reference's gradient: started with the same arguments, both programs' runs end with the same
    result and with the arguments unchanged. -/
theorem algebraic : Cert.algebraic_DuInIdeal_DuInRefIdeal := by
  intro m g m' g' _ hagree
  refine ⟨fun c => dU m c,
    (θ_run _ _ _).mono (fun r h c => ?_) (Cert.DuInIdeal.Value.run_blocks (F := Ideal) m g),
    (θ_run _ _ _).mono (fun r h c => ?_) (Cert.DuInRefIdeal.Value.run (F := Ideal) m' g')⟩
  · exact ⟨(h c).1.trans (final m c), (h c).2⟩
  · obtain ⟨a0, a1, a2, a3, a4, a5, a6, a7, a8⟩ := hagree c
    refine ⟨(h c).1.trans ?_, (h c).2⟩
    rw [a0, a1, a2, a3, a4, a5, a6, a7, a8]; exact val_main_v21_eq _ _ _ _ _ _ _ _ _

/-- The reference's own run ends, with its arguments unchanged and every counter at zero. -/
theorem frame_reference : Cert.quiescent_DuInRefIdeal := fun m ρ _ =>
  (θ_run Cert.DuInRefIdeal.defs _ _).mono (fun r h => ⟨fun c => (h c).2, Idealize.ShloMosaic.sem_eq_zero_of_no_sems (by decide) r.2⟩)
    (Cert.DuInRefIdeal.Value.run (F := Ideal) m ρ)

end Cert.Proof.DuInValue

end
-- ==== Proof.Planes.lean ====
/-
  A block of two planes of 1024 x 512 elements, filled by two stores of one plane each.
-/
module

public import Idealize.ShloMosaic.Lib.Pipeline.Value
public import Idealize.ShloMosaic.Lib.Pointwise
public import Idealize.ShloMosaic.Lib.Pipeline.ValueKit.Tiles
public import Idealize.ShloMosaic.Lib.Pipeline.FrameBody
public import Idealize.ShloMosaic.Lib.ValueIdx

@[expose] public section

namespace Cert.Proof

open Idealize.ShloMosaic Idealize.ShloMosaic.TcCoe

variable {Val : EltTy → Type} {e : EltTy}

/-- The plane at `p`, as a rectangle of the block. -/
abbrev planeRect (p : ℕ) (h : ∀ a, (![p, 0, 0] : Fin 3 → ℕ) a + (![1, 1024, 512] : Fin 3 → ℕ) a ≤ (⟨3, ![2, 1024, 512]⟩ : Shape).size a) :
    Rect (⟨3, ![2, 1024, 512]⟩ : Shape) := Rect.unit (s := (⟨3, ![2, 1024, 512]⟩ : Shape)) ![p, 0, 0] ![1, 1024, 512] h

/-- Element `(r, n)` of the plane at `p` is element `(p, r, n)` of the block. -/
theorem planeRect_emb (p : Fin 2) (h) (r : Fin 1024) (n : Fin 512) :
    (planeRect p.val h).emb (ix3 (0 : Fin 1) r n) = (ix3 p r n : (⟨3, ![2, 1024, 512]⟩ : Shape).Idx) := by
  refine funext fun a => Fin.ext ?_
  refine (Rect.idx_unit_val _ _ _ _ a).trans ?_
  match a with
  | ⟨0, _⟩ => exact Nat.add_zero _
  | ⟨1, _⟩ => exact Nat.zero_add _
  | ⟨2, _⟩ => exact Nat.zero_add _

/-- A plane read through its rectangle. -/
theorem ld_plane (X : (⟨3, ![2, 1024, 512]⟩ : Shape).Idx → Val e) (p : Fin 2) (h) (r : Fin 1024) (n : Fin 512) :
    View.ld X (planeRect p.val h) (ix3 (0 : Fin 1) r n) = X (ix3 p r n) := congrArg X (planeRect_emb p h r n)

variable [∀ e, Nonempty (Val e)]

/-- After both planes are stored, the second plane holds the second store's payload -/
theorem canon_plane1 (h1 h0) (w1 : (planeRect 1 h1).shape.Idx → Val e) (w0 : (planeRect 0 h0).shape.Idx → Val e) (r : Fin 1024) (n : Fin 512) :
    View.canon [(⟨planeRect 1 h1, w1⟩ : View.Piece Val _ e), ⟨planeRect 0 h0, w0⟩] (ix3 (1 : Fin 2) r n) = w1 (ix3 (0 : Fin 1) r n) := by
  rw [← planeRect_emb 1 h1 r n]; exact View.canon_cons_emb _ _ _ _

/-- and the first plane the first store's. -/
theorem canon_plane0 (h1 h0) (w1 : (planeRect 1 h1).shape.Idx → Val e) (w0 : (planeRect 0 h0).shape.Idx → Val e) (r : Fin 1024) (n : Fin 512) :
    View.canon [(⟨planeRect 1 h1, w1⟩ : View.Piece Val _ e), ⟨planeRect 0 h0, w0⟩] (ix3 (0 : Fin 2) r n) = w0 (ix3 (0 : Fin 1) r n) := by
  rw [View.canon_cons_of_not_mem]
  · rw [← planeRect_emb 0 h0 r n]; exact View.canon_cons_emb _ _ _ _
  · exact fun hm => absurd ((Rect.mem_set_unit (inb := h1)).mp hm 0).1 (by show ¬ (1 ≤ 0); omega)

end Cert.Proof
-- ==== Proof.DactValue.lean ====
/-
  The value of the backward call `mm_dact`: the gradient through the feed-forward layer's gated activation. The product of the
  incoming gradient with the transposed weight is the activation's gradient; times the activation's two partial derivatives it is
  the gradient of the two planes. The kernel takes the derivative of `a * s(a)` as `s * (1 + a * (1 - s))`, the reference program
  as `s + a * (s * (1 - s))`, which are equal where the numbers are finite: the claim's precondition.
-/
module

public import proofs.«01_k».proof.Proof.Gen.DactIdeal.Value
public import proofs.«01_k».proof.Proof.Gen.DactRefIdeal.Read
public import proofs.«01_k».proof.Proof.Gen.DactRefIdeal.Run
public import proofs.«01_k».proof.Defs
public import proofs.«01_k».proof.Proof.Chunks
public import proofs.«01_k».proof.Proof.Planes
public import Idealize.ShloMosaic.Lib.ValueLayout

@[expose] public section

noncomputable section

namespace Cert.Proof.DactValue

open Cert.DactIdeal Cert.DactIdeal.Gen Idealize.ShloMosaic Idealize.ShloMosaic.TcCoe Idealize.SL.Sem
open Cert.DactRefIdeal.Read

variable (m : (ℓ : Loc nD τ sig) → Buf (Elt Ideal) ℓ)

/-- The side conditions of the precondition's operations. -/
theorem preFacts : Cert.Pre_finite_dact.Facts where
  bitsLt_bf16_f32 := by decide
  bcast_S_S4096x2048 := by decide
  bcast_S_S5632x2048 := by decide
  bcast_S_S2x4096x5632 := by decide

/-! ## Finite numbers -/

/-- A number whose absolute value is below infinity is a real number. -/
theorem real_of_abs_lt {x : EReal} (h : max x (-x) < ⊤) : ∃ r : ℝ, x = r := by
  induction x using EReal.rec with
  | bot => simp at h
  | coe r => exact ⟨r, rfl⟩
  | top => simp at h

/-- The test the precondition makes of an element, when it holds. -/
theorem real_of_test {φ : FTy} (x : Ideal φ) (hb : FTy.bits φ < FTy.bits .f32)
    (h : FloatOps.cmpf .olt (FloatOps.hostAbsf (FloatOps.extf .f32 hb x)) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1 := h
  rw [htop, Ideal.cmp_olt_eq_one] at h'
  exact real_of_abs_lt h'

/-- A sum of products of real numbers is a real number. -/
theorem real_sum {n : ℕ} (f g : Fin n → EReal) (hf : ∀ k, ∃ r : ℝ, f k = r) (hg : ∀ k, ∃ r : ℝ, g k = r) :
    ∃ r : ℝ, ∑ k, f k * g k = r := by
  refine Finset.sum_induction _ (fun x : EReal => ∃ r : ℝ, x = r) ?_ ⟨0, EReal.coe_zero.symm⟩ fun k _ => ?_
  · rintro _ _ ⟨a, rfl⟩ ⟨b, rfl⟩
    exact ⟨a + b, (EReal.coe_add a b).symm⟩
  · obtain ⟨a, ha⟩ := hf k
    obtain ⟨b, hb⟩ := hg k
    exact ⟨a * b, by rw [ha, hb, EReal.coe_mul]⟩

/-- The sigmoid. -/
def sgm (a : EReal) : EReal := Ideal.div 1 (1 + Ideal.exp (-a))

/-- The sigmoid of a real number is a real number. -/
theorem real_sig {a : EReal} (ha : ∃ r : ℝ, a = r) : ∃ r : ℝ, sgm a = r := by
  obtain ⟨r, rfl⟩ := ha
  refine ⟨1 / (1 + Real.exp (-r)), ?_⟩
  have h : (1 : EReal) + Ideal.exp (-(r : EReal)) = ((1 + Real.exp (-r) : ℝ) : EReal) := by
    rw [← EReal.coe_neg, Ideal.exp_coe, EReal.coe_add, EReal.coe_one]
  unfold sgm
  rw [h, Ideal.div_coe (by positivity), one_mul]

/-- The two forms of the gradient through `a * sgm a`, for real numbers: the kernel's and the reference's. -/
theorem silu_grad {x a : EReal} (hx : ∃ r : ℝ, x = r) (ha : ∃ r : ℝ, a = r) :
    x * (sgm a * (1 + a * (1 - sgm a))) = x * sgm a + a * x * (sgm a * (1 - sgm a)) := by
  obtain ⟨s, hs⟩ := real_sig ha
  obtain ⟨x, rfl⟩ := hx
  obtain ⟨a, rfl⟩ := ha
  rw [hs, ← EReal.coe_one]
  norm_cast
  ring

/-! ## The block and the reference at an element -/

/-- The block indices of the windows at a grid point: row block `t / 11` of the gradient, row block `t % 11` of the weight, and
    the blocks of the planes and of their gradient at both. -/
theorem idx_facts : ∀ t : Fin cfg0.N,
    (win0_0.index t 0 = t.val / 11 ∧ win0_0.index t 1 = 0) ∧ (win0_1.index t 0 = t.val % 11 ∧ win0_1.index t 1 = 0)
    ∧ (win0_2.index t 0 = 0 ∧ win0_2.index t 1 = t.val / 11 ∧ win0_2.index t 2 = t.val % 11)
    ∧ (win0_3.index t 0 = 0 ∧ win0_3.index t 1 = t.val / 11 ∧ win0_3.index t 2 = t.val % 11) :=
  (by decide +kernel : ∀ t : Fin grid0.N, _)

/-- The index of element `(r, n)` of the block at point `t` in one of the planes, and in the two planes. -/
abbrev at_ (t : Fin cfg0.N) (r : Fin 1024) (n : Fin 512) : Cert.DactRefIdeal.S4096x5632.Idx := fun a => match a with
  | ⟨0, _⟩ => ⟨t.val / 11 * 1024 + r.val, by have h : t.val < 44 := t.isLt; have := r.isLt; show _ < 4096; omega⟩
  | ⟨1, _⟩ => ⟨t.val % 11 * 512 + n.val, by have := n.isLt; show _ < 5632; omega⟩

abbrev plane (p : Fin 2) (i : Cert.DactRefIdeal.S4096x5632.Idx) : S2x4096x5632.Idx := fun a => match a with
  | ⟨0, _⟩ => p
  | ⟨1, _⟩ => ⟨(i 0).val, (i 0).isLt⟩
  | ⟨2, _⟩ => ⟨(i 1).val, (i 1).isLt⟩

/-- The block's product at an element: the sum over the 2048 columns. -/
theorem pay1_apply (v0 : Vec Ideal S1024x2048 .bf16) (v1 : Vec Ideal S512x2048 .bf16) (r : Fin 1024) (n : Fin 512) :
    k0_pay1 (F := Ideal) v0 v1 (ix2 r n) = ∑ k : Fin 2048, v0 (ix2 r k) * v1 (ix2 n k) := by
  unfold k0_pay1
  simp only [pointwise, zero_add]

/-- The block's first plane, and its sigmoid. -/
theorem pay2_apply (v3 : Vec Ideal S1x1024x512 .bf16) (r : Fin 1024) (n : Fin 512) :
    k0_pay2 (F := Ideal) v3 (ix2 r n) = v3 (ix3 (0 : Fin 1) r n) := by
  unfold k0_pay2
  simp only [pointwise, ValueIdx.shapeCast_1ab_ab_apply]

theorem pay3_apply (v3 : Vec Ideal S1x1024x512 .bf16) (y : S1024x512.Idx) :
    k0_pay3 (F := Ideal) v3 y = sgm (k0_pay2 (F := Ideal) v3 y) := by
  unfold k0_pay3 sgm
  simp only [pointwise, zero_sub]

/-- The two stored planes at an element. -/
theorem pay4_apply (v0 : Vec Ideal S1024x2048 .bf16) (v1 : Vec Ideal S512x2048 .bf16) (v3 v6 : Vec Ideal S1x1024x512 .bf16) (r : Fin 1024) (n : Fin 512) :
    k0_pay4 (F := Ideal) v0 v1 v3 v6 (ix3 (0 : Fin 1) r n)
      = k0_pay1 (F := Ideal) v0 v1 (ix2 r n) * v6 (ix3 (0 : Fin 1) r n)
        * (sgm (v3 (ix3 (0 : Fin 1) r n)) * (1 + v3 (ix3 (0 : Fin 1) r n) * (1 - sgm (v3 (ix3 (0 : Fin 1) r n))))) := by
  unfold k0_pay4
  simp only [pointwise, ValueIdx.shapeCast_ab_1ab_apply, ValueIdx.shapeCast_1ab_ab_apply, pay3_apply, pay2_apply]

theorem pay5_apply (v0 : Vec Ideal S1024x2048 .bf16) (v1 : Vec Ideal S512x2048 .bf16) (v3 : Vec Ideal S1x1024x512 .bf16) (r : Fin 1024) (n : Fin 512) :
    k0_pay5 (F := Ideal) v0 v1 v3 (ix3 (0 : Fin 1) r n)
      = k0_pay1 (F := Ideal) v0 v1 (ix2 r n) * (v3 (ix3 (0 : Fin 1) r n) * sgm (v3 (ix3 (0 : Fin 1) r n))) := by
  unfold k0_pay5
  simp only [pointwise, ValueIdx.shapeCast_ab_1ab_apply, pay3_apply, pay2_apply]

section Reference
variable (x0 : (⟨S4096x2048, .bf16⟩ : BufTy).Contents (Elt Ideal)) (x1 : (⟨S5632x2048, .bf16⟩ : BufTy).Contents (Elt Ideal))
  (x2 : (⟨S2x4096x5632, .bf16⟩ : BufTy).Contents (Elt Ideal)) (i : Cert.DactRefIdeal.S4096x5632.Idx)

/-- The reference's product at an index: the sum over the 2048 columns. -/
theorem ref11_apply :
    val_main_v11 (F := Ideal) x0 x1 i = ∑ k : Fin 2048, x0 (fun a => match a with | ⟨0, _⟩ => ⟨(i 0).val, (i 0).isLt⟩ | ⟨1, _⟩ => ⟨k.val, k.isLt⟩)
      * x1 (fun a => match a with | ⟨0, _⟩ => ⟨(i 1).val, (i 1).isLt⟩ | ⟨1, _⟩ => ⟨k.val, k.isLt⟩) := by
  rw [val_main_v11_apply]
  rfl

/-- The reference's two planes at an index. -/
theorem ref2_apply : val_main_v2 (F := Ideal) x2 i = x2 (plane 0 i) := by
  have h0 : (i 0).val < 4096 := (i 0).isLt
  have h1 : (i 1).val < 5632 := (i 1).isLt
  rw [val_main_v2_apply, val_main_v1_apply, val_main_v0_apply]
  refine congrArg x2 (funext fun a => Fin.ext ?_)
  match a with
  | ⟨0, _⟩ => rfl
  | ⟨1, _⟩ => show ((i 0).val * 5632 + (i 1).val) / 5632 % 4096 = (i 0).val; omega
  | ⟨2, _⟩ => show ((i 0).val * 5632 + (i 1).val) % 5632 = (i 1).val; omega

theorem ref5_apply : val_main_v5 (F := Ideal) x2 i = x2 (plane 1 i) := by
  have h0 : (i 0).val < 4096 := (i 0).isLt
  have h1 : (i 1).val < 5632 := (i 1).isLt
  rw [val_main_v5_apply, val_main_v4_apply, val_main_v3_apply]
  refine congrArg x2 (funext fun a => Fin.ext ?_)
  match a with
  | ⟨0, _⟩ => rfl
  | ⟨1, _⟩ => show ((i 0).val * 5632 + (i 1).val) / 5632 % 4096 = (i 0).val; omega
  | ⟨2, _⟩ => show ((i 0).val * 5632 + (i 1).val) % 5632 = (i 1).val; omega

/-- The reference's sigmoid at an index, -/
theorem ref7_2_apply : val_main_v7_2 (F := Ideal) x2 i = sgm (val_main_v2 (F := Ideal) x2 i) := by
  rw [val_main_v7_2_apply, val_main_call0_v4_apply, val_main_call0_cst_0_apply, val_main_call0_v3_apply, val_main_call0_v2_apply,
    val_main_call0_cst_apply, val_main_call0_v1_apply, val_main_call0_v0_apply]
  unfold sgm
  simp only [pointwise]

/-- and the sigmoid's derivative. -/
theorem ref7_1_apply : val_main_v7_1 (F := Ideal) x2 i = sgm (val_main_v2 (F := Ideal) x2 i) * (1 - sgm (val_main_v2 (F := Ideal) x2 i)) := by
  rw [val_main_v7_1_apply, val_main_call0_v7_apply, val_main_call0_v6_apply, val_main_call0_cst_1_apply, ref7_2_apply]
  simp only [pointwise]

/-- The reference's gradient of the first plane at an index, -/
theorem ref14_apply : val_main_v14 (F := Ideal) x0 x1 x2 i
    = val_main_v11 (F := Ideal) x0 x1 i * x2 (plane 1 i) * sgm (x2 (plane 0 i))
      + x2 (plane 0 i) * (val_main_v11 (F := Ideal) x0 x1 i * x2 (plane 1 i)) * (sgm (x2 (plane 0 i)) * (1 - sgm (x2 (plane 0 i)))) := by
  rw [val_main_v14_apply, val_main_call1_v1_apply, val_main_call1_v2_apply, val_main_call1_v0_apply, ref7_1_apply, ref7_2_apply,
    val_main_v13_apply, ref2_apply, ref5_apply]
  simp only [pointwise]

/-- and of the second. -/
theorem ref12_apply : val_main_v12 (F := Ideal) x0 x1 x2 i
    = x2 (plane 0 i) * sgm (x2 (plane 0 i)) * val_main_v11 (F := Ideal) x0 x1 i := by
  rw [val_main_v12_apply, val_main_v7_0_apply, ref7_2_apply, ref2_apply]
  simp only [pointwise]

/-- The reference's result in each plane. -/
theorem planes0_apply : val_main_v18 (F := Ideal) x0 x1 x2 (plane 0 i) = val_main_v14 (F := Ideal) x0 x1 x2 i := by
  rw [val_main_v18_apply]
  show val_main_v17 (F := Ideal) x0 x1 x2 (plane 0 i) = _
  unfold val_main_v17
  rw [concatenate_pair_apply_left (t := Cert.DactRefIdeal.S2x4096x5632) (s₁ := Cert.DactRefIdeal.S1x4096x5632) (s₂ := Cert.DactRefIdeal.S1x4096x5632) 0 _ _ _ (plane 0 i) rfl
      (fun a => match a with | ⟨0, _⟩ => (0 : Fin 1) | ⟨1, _⟩ => ⟨(i 0).val, (i 0).isLt⟩ | ⟨2, _⟩ => ⟨(i 1).val, (i 1).isLt⟩)
      (fun b => match b with | ⟨0, _⟩ => rfl | ⟨1, _⟩ => rfl | ⟨2, _⟩ => rfl), val_main_v15_apply]
  exact congrArg (val_main_v14 (F := Ideal) x0 x1 x2) (funext fun a => match a with | ⟨0, _⟩ => rfl | ⟨1, _⟩ => rfl)

theorem planes1_apply : val_main_v18 (F := Ideal) x0 x1 x2 (plane 1 i) = val_main_v12 (F := Ideal) x0 x1 x2 i := by
  rw [val_main_v18_apply]
  show val_main_v17 (F := Ideal) x0 x1 x2 (plane 1 i) = _
  unfold val_main_v17
  rw [concatenate_pair_apply_right (t := Cert.DactRefIdeal.S2x4096x5632) (s₁ := Cert.DactRefIdeal.S1x4096x5632) (s₂ := Cert.DactRefIdeal.S1x4096x5632) 0 _ _ _ (plane 1 i) rfl rfl
      (fun a => match a with | ⟨0, _⟩ => (0 : Fin 1) | ⟨1, _⟩ => ⟨(i 0).val, (i 0).isLt⟩ | ⟨2, _⟩ => ⟨(i 1).val, (i 1).isLt⟩)
      (fun b hb => match b, hb with | ⟨0, _⟩, hb => absurd rfl hb | ⟨1, _⟩, _ => rfl | ⟨2, _⟩, _ => rfl) (by rfl), val_main_v16_apply]
  exact congrArg (val_main_v12 (F := Ideal) x0 x1 x2) (funext fun a => match a with | ⟨0, _⟩ => rfl | ⟨1, _⟩ => rfl)

end Reference

/-- Where a block's elements sit in their array: the argument windows and the result window. -/
theorem emb0 (t : Fin cfg0.N) (k : Fin 2048) (r : Fin 1024) (n : Fin 512) :
    (win0_0.rect t).emb (ix2 r k) = (fun a => match a with | ⟨0, _⟩ => ⟨(at_ t r n 0).val, (at_ t r n 0).isLt⟩ | ⟨1, _⟩ => ⟨k.val, k.isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 2048) (r : Fin 1024) (n : Fin 512) :
    (win0_1.rect t).emb (ix2 n k) = (fun a => match a with | ⟨0, _⟩ => ⟨(at_ t r n 1).val, (at_ t r n 1).isLt⟩ | ⟨1, _⟩ => ⟨k.val, k.isLt⟩ : S5632x2048.Idx) := by
  obtain ⟨-, ⟨h0, h1⟩, -⟩ := idx_facts t
  refine funext fun a => Fin.ext ?_
  match a with
  | ⟨0, _⟩ => exact (win0_1.rect_emb_val t _ 0).trans (by rw [h0]; rfl)
  | ⟨1, _⟩ => exact (win0_1.rect_emb_val t _ 1).trans (by rw [h1]; exact (Nat.zero_mul _).symm ▸ Nat.zero_add _)

theorem emb23 (t : Fin cfg0.N) (p : Fin 2) (r : Fin 1024) (n : Fin 512) :
    (win0_2.rect t).emb (ix3 p r n) = plane p (at_ t r n) ∧ (win0_3.rect t).emb (ix3 p r n) = plane p (at_ t r n) := by
  obtain ⟨-, -, ⟨h0, h1, h2⟩, h3, h4, h5⟩ := idx_facts t
  refine ⟨funext fun a => Fin.ext ?_, funext fun a => Fin.ext ?_⟩
  · match a with
    | ⟨0, _⟩ => exact (win0_2.rect_emb_val t _ 0).trans (by rw [h0]; show 0 * 2 + p.val = p.val; omega)
    | ⟨1, _⟩ => exact (win0_2.rect_emb_val t _ 1).trans (by rw [h1]; rfl)
    | ⟨2, _⟩ => exact (win0_2.rect_emb_val t _ 2).trans (by rw [h2]; rfl)
  · match a with
    | ⟨0, _⟩ => exact (win0_3.rect_emb_val t _ 0).trans (by rw [h3]; show 0 * 2 + p.val = p.val; omega)
    | ⟨1, _⟩ => exact (win0_3.rect_emb_val t _ 1).trans (by rw [h4]; rfl)
    | ⟨2, _⟩ => exact (win0_3.rect_emb_val t _ 2).trans (by rw [h5]; rfl)

/-- Every index of the result array is one of a block's elements. -/
theorem onto (i : S2x4096x5632.Idx) : ∃ t : Fin cfg0.N, ∃ p r n, plane p (at_ t r n) = i := by
  have h1 : (i 1).val < 4096 := (i 1).isLt
  have h2 : (i 2).val < 5632 := (i 2).isLt
  refine ⟨⟨(i 1).val / 1024 * 11 + (i 2).val / 512, by show _ < 44; omega⟩, i 0, ⟨(i 1).val % 1024, by omega⟩, ⟨(i 2).val % 512, by omega⟩,
    funext fun a => Fin.ext ?_⟩
  match a with
  | ⟨0, _⟩ => rfl
  | ⟨1, _⟩ => show ((i 1).val / 1024 * 11 + (i 2).val / 512) / 11 * 1024 + (i 1).val % 1024 = (i 1).val; omega
  | ⟨2, _⟩ => show ((i 1).val / 1024 * 11 + (i 2).val / 512) % 11 * 512 + (i 2).val % 512 = (i 2).val; omega

/-- The three argument arrays of a device as launched: the gradient, the weight and the two planes. -/
abbrev A0 (c : Dev nD) : (⟨S4096x2048, .bf16⟩ : BufTy).Contents (Elt Ideal) := m ((c : Thread nD τ).loc main_arg0)
abbrev A1 (c : Dev nD) : (⟨S5632x2048, .bf16⟩ : BufTy).Contents (Elt Ideal) := m ((c : Thread nD τ).loc main_arg1)
abbrev A2 (c : Dev nD) : (⟨S2x4096x5632, .bf16⟩ : BufTy).Contents (Elt Ideal) := m ((c : Thread nD τ).loc main_arg2)

/-- What the precondition says: every element of the three arrays is a real number. -/
theorem real_args (hpre : Cert.Pre_DactIdeal_finite_dact (hPre_finite_dact := preFacts) m) (c : Dev nD) :
    (∀ i, ∃ r : ℝ, A0 m c i = (r : EReal)) ∧ (∀ i, ∃ r : ℝ, A1 m c i = (r : EReal)) ∧ (∀ i, ∃ r : ℝ, A2 m c i = (r : EReal)) := by
  obtain ⟨h0, h1, h2⟩ := hpre c
  exact ⟨fun i => real_of_test _ _ (congrFun h0 i), fun i => real_of_test _ _ (congrFun h1 i), fun i => real_of_test _ _ (congrFun h2 i)⟩

/-- The block's product is the reference's at the block's array index. -/
theorem prod_eq (c : Dev nD) (t : Fin cfg0.N) (r : Fin 1024) (n : Fin 512) :
    k0_pay1 (F := Ideal) (iblk m c 0 t) (iblk m c 1 t) (ix2 r n) = val_main_v11 (F := Ideal) (A0 m c) (A1 m c) (at_ t r n) := by
  rw [pay1_apply, ref11_apply]
  exact Finset.sum_congr rfl fun k _ => congrArg₂ (· * ·) (congrArg (A0 m c) (emb0 t k r n)) (congrArg (A1 m c) (emb1 t k r n))

/-- The planes of the block's window are the array's at the block's array index. -/
theorem plane0_eq (c : Dev nD) (t : Fin cfg0.N) (r : Fin 1024) (n : Fin 512) :
    View.ld (Val := Elt Ideal) (e' := .bf16) (iblk m c 2 t) r0_2 (ix3 (0 : Fin 1) r n) = A2 m c (plane 0 (at_ t r n)) :=
  (ld_plane (iblk m c 2 t) 0 _ r n).trans (congrArg (A2 m c) (emb23 t 0 r n).1)

theorem plane1_eq (c : Dev nD) (t : Fin cfg0.N) (r : Fin 1024) (n : Fin 512) :
    View.ld (Val := Elt Ideal) (e' := .bf16) (iblk m c 2 t) r0_3 (ix3 (0 : Fin 1) r n) = A2 m c (plane 1 (at_ t r n)) :=
  (ld_plane (iblk m c 2 t) 1 _ r n).trans (congrArg (A2 m c) (emb23 t 1 r n).1)

/-- The gradient of the planes: the array after the run is the reference's. -/
theorem final (hpre : Cert.Pre_DactIdeal_finite_dact (hPre_finite_dact := preFacts) m) (c : Dev nD) :
    (dats m 0 c).arrAt 3 cfg0.N = val_main_v18 (F := Ideal) (A0 m c) (A1 m c) (A2 m c) := by
  obtain ⟨hr0, hr1, hr2⟩ := real_args m hpre c
  refine (dats m 0 c).arrAt_eq_of_cover 3 _ (fun t hf => ?_) (fun i => ?_)
  · rw [Cert.DactIdeal.Value.flushed3]
    unfold out0_3
    rw [View.ld_unit_zero hz2, View.ld_unit_zero hz2]
    funext y
    obtain ⟨p, r, n, rfl⟩ : ∃ p r n, y = ix3 p r n := ⟨y 0, y 1, y 2, eq_ix3 y⟩
    show View.canon [(⟨r0_3, k0_pay5 (F := Ideal) (iblk m c 0 t) (iblk m c 1 t) (View.ld (iblk m c 2 t) r0_2)⟩ : View.Piece (Elt Ideal) _ .bf16),
        ⟨r0_2, k0_pay4 (F := Ideal) (iblk m c 0 t) (iblk m c 1 t) (View.ld (iblk m c 2 t) r0_2) (View.ld (iblk m c 2 t) r0_3)⟩] (ix3 p r n)
      = val_main_v18 (F := Ideal) _ _ _ ((win0_3.rect t).emb (ix3 p r n))
    rw [(emb23 t p r n).2]
    match p with
    | ⟨0, _⟩ =>
      refine (canon_plane0 _ _ _ _ r n).trans ((pay4_apply _ _ _ _ r n).trans (Eq.trans ?_ (planes0_apply _ _ _ _).symm))
      rw [prod_eq, plane0_eq, plane1_eq, ref14_apply]
      refine silu_grad ?_ (hr2 _)
      obtain ⟨d, hd⟩ : ∃ d : ℝ, val_main_v11 (F := Ideal) (A0 m c) (A1 m c) (at_ t r n) = (d : EReal) := by
        rw [ref11_apply]; exact real_sum _ _ (fun k => hr0 _) (fun k => hr1 _)
      obtain ⟨b, hb⟩ := hr2 (plane 1 (at_ t r n))
      exact ⟨d * b, by rw [hd, hb, EReal.coe_mul]⟩
    | ⟨1, _⟩ =>
      refine (canon_plane1 _ _ _ _ r n).trans ((pay5_apply _ _ _ r n).trans (Eq.trans ?_ (planes1_apply _ _ _ _).symm))
      rw [prod_eq, plane0_eq, ref12_apply]
      exact mul_comm _ _
  · obtain ⟨t, p, r, n, rfl⟩ := onto i
    rw [← (emb23 t p r n).2]
    exact ⟨t, flush0_3 t, View.emb_mem_set ((cfg0.win 3).blk t).view _⟩

/-- On finite arguments the kernel computes the reference's gradient: started with the same arguments, both programs' runs end
    with the same result and with the arguments unchanged. -/
theorem algebraic : Cert.algebraic_DactIdeal_DactRefIdeal_pre_finite_dact (hPre_finite_dact := preFacts) := by
  intro m g m' g' hpre hagree
  refine ⟨fun c => val_main_v18 (F := Ideal) (A0 m c) (A1 m c) (A2 m c),
    (θ_run _ _ _).mono (fun r h c => ?_) (Cert.DactIdeal.Value.run_blocks (F := Ideal) m g),
    (θ_run _ _ _).mono (fun r h c => ?_) (Cert.DactRefIdeal.Value.run (F := Ideal) m' g')⟩
  · exact ⟨(h c).1.trans (final m hpre c), (h c).2⟩
  · obtain ⟨a0, a1, a2⟩ := hagree c
    refine ⟨(h c).1.trans ?_, (h c).2⟩
    rw [a0, a1, a2]; exact val_main_v18_eq _ _ _

/-- The reference's own run ends, with its arguments unchanged and every counter at zero. -/
theorem frame_reference : Cert.quiescent_DactRefIdeal := fun m ρ _ =>
  (θ_run Cert.DactRefIdeal.defs _ _).mono (fun r h => ⟨fun c => (h c).2, Idealize.ShloMosaic.sem_eq_zero_of_no_sems (by decide) r.2⟩)
    (Cert.DactRefIdeal.Value.run (F := Ideal) m ρ)

end Cert.Proof.DactValue

end
-- ==== Proof.DwInBValue.lean ====
/-
  The value of the backward call `mm_dw_in_1`: the gradient of the last 1024 columns of the in-projection's weight. The eight
  incoming gradients are laid side by side before the region; each block of 512 x 1024 elements of the result is then one product
  over the 4096 tokens. It is the gradient the reference program computes.
-/
module

public import proofs.«01_k».proof.Proof.Gen.DwInBIdeal.Value
public import proofs.«01_k».proof.Proof.Gen.DwInBRefIdeal.Read
public import proofs.«01_k».proof.Proof.Gen.DwInBRefIdeal.Run
public import proofs.«01_k».proof.Defs
public import Idealize.ShloMosaic.Lib.Pointwise
public import Idealize.ShloMosaic.Lib.ValueIdx

@[expose] public section

noncomputable section

namespace Cert.Proof.DwInBValue

open Cert.DwInBIdeal Cert.DwInBIdeal.Gen Idealize.ShloMosaic Idealize.ShloMosaic.TcCoe Idealize.SL.Sem
open Cert.DwInBRefIdeal.Read

variable (m : (ℓ : Loc nD τ sig) → Buf (Elt Ideal) ℓ)

theorem hz : (![0, 0] : Fin 2 → Nat) = fun _ => 0 := funext fun a => by fin_cases a <;> rfl

/-- The block indices of the windows at a grid point: column block `t` of the gradients laid side by side, the last columns of
    the activations, and row block `t` of the weight gradient. -/
theorem idx_facts : ∀ t : Fin cfg0.N,
    (win0_0.index t 0 = 0 ∧ win0_0.index t 1 = t.val) ∧ (win0_1.index t 0 = 0 ∧ win0_1.index t 1 = 1)
    ∧ (win0_2.index t 0 = t.val ∧ win0_2.index t 1 = 0) :=
  (by decide +kernel : ∀ t : Fin grid0.N, _)

/-- The array index of element `(r, n)` of the block at point `t`. -/
abbrev at_ (t : Fin cfg0.N) (r : Fin 512) (n : Fin 1024) : S8704x1024.Idx := fun a => match a with
  | ⟨0, _⟩ => ⟨t.val * 512 + r.val, by have h : t.val < 17 := t.isLt; have := r.isLt; show _ < 8704; omega⟩
  | ⟨1, _⟩ => ⟨n.val, n.isLt⟩

/-- The block product at an element: the sum over the 4096 tokens. -/
theorem pay_apply (v0 : Vec Ideal S4096x512 .bf16) (v1 : Vec Ideal S4096x1024 .bf16) (r : Fin 512) (n : Fin 1024) :
    k0_pay1 (F := Ideal) v0 v1 (ix2 r n) = ∑ k : Fin 4096, v0 (ix2 k r) * v1 (ix2 k n) := by
  unfold k0_pay1
  simp only [pointwise, zero_add, shapeCast_self]

/-- The arrays of a device as launched: the eight incoming gradients, the activations, and the gradients side by side. -/
abbrev A (c : Dev nD) (b : Ref sig .tc) : Buf (Elt Ideal) ((c : Thread nD τ).loc b) := m ((c : Thread nD τ).loc b)
abbrev U (c : Dev nD) : (⟨S4096x2048, .bf16⟩ : BufTy).Contents (Elt Ideal) := m ((c : Thread nD τ).loc main_arg8)
abbrev side (c : Dev nD) : (⟨S4096x8704, .f32⟩ : BufTy).Contents (Elt Ideal) :=
  val_main_v19 (F := Ideal) (A m c main_arg0) (A m c main_arg1) (A m c main_arg2) (A m c main_arg3) (A m c main_arg4)
    (A m c main_arg5) (A m c main_arg6) (A m c main_arg7)
abbrev dW (c : Dev nD) : (⟨S8704x1024, .f32⟩ : BufTy).Contents (Elt Ideal) :=
  val_main_v24 (F := Ideal) (A m c main_arg0) (A m c main_arg1) (A m c main_arg2) (A m c main_arg3) (A m c main_arg4)
    (A m c main_arg5) (A m c main_arg6) (A m c main_arg7) (U m c)

/-- What the region finds in the array of the gradients side by side: what the reference lays side by side, a change of format
    being no change of value. -/
theorem V_side (c : Dev nD) : V m c main_v0 = side m c := by
  show StableHlo.after hostOps0 _ _ = _
  after_results
  rfl

/-- The reference's weight gradient at an index: the sum over the tokens. -/
theorem ref_apply (c : Dev nD) (i : S8704x1024.Idx) :
    dW m c i = ∑ k : Fin 4096, side m c (fun a => match a with | ⟨0, _⟩ => ⟨k.val, k.isLt⟩ | ⟨1, _⟩ => ⟨(i 0).val, (i 0).isLt⟩)
      * U m c (fun a => match a with | ⟨0, _⟩ => ⟨k.val, k.isLt⟩ | ⟨1, _⟩ => ⟨1024 + (i 1).val, by have h : (i 1).val < 1024 := (i 1).isLt; show _ < 2048; omega⟩) := by
  unfold dW
  rw [val_main_v24_apply, val_main_v23_apply, val_main_v22_apply, val_main_v21_apply, val_main_v20_apply]
  refine Finset.sum_congr rfl fun k _ => congrArg₂ (· * ·) ?_ ?_
  · rfl
  · rw [val_main_v0_apply]
    rfl

/-- Where a block's elements sit in their array: the two argument windows and the result window. -/
theorem emb0 (t : Fin cfg0.N) (k : Fin 4096) (r : Fin 512) (n : Fin 1024) :
    (win0_0.rect t).emb (ix2 k r) = (fun a => match a with | ⟨0, _⟩ => ⟨k.val, k.isLt⟩ | ⟨1, _⟩ => ⟨(at_ t r n 0).val, (at_ t r n 0).isLt⟩ : S4096x8704.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; rfl)

theorem emb1 (t : Fin cfg0.N) (k : Fin 4096) (r : Fin 512) (n : Fin 1024) :
    (win0_1.rect t).emb (ix2 k n) = (fun a => match a with | ⟨0, _⟩ => ⟨k.val, k.isLt⟩ | ⟨1, _⟩ => ⟨1024 + (at_ t r n 1).val, by have := n.isLt; show 1024 + n.val < 2048; omega⟩ : S4096x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; show 1 * 1024 + n.val = 1024 + n.val; omega)

theorem emb2 (t : Fin cfg0.N) (r : Fin 512) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; exact (Nat.zero_mul _).symm ▸ Nat.zero_add _)

/-- Every index of the result array is one of a block's elements. -/
theorem onto (i : S8704x1024.Idx) : ∃ t : Fin cfg0.N, ∃ r n, at_ t r n = i := by
  have h0 : (i 0).val < 8704 := (i 0).isLt
  refine ⟨⟨(i 0).val / 512, by show _ < 17; omega⟩, ⟨(i 0).val % 512, by omega⟩, ⟨(i 1).val, (i 1).isLt⟩, funext fun a => Fin.ext ?_⟩
  match a with
  | ⟨0, _⟩ => show (i 0).val / 512 * 512 + (i 0).val % 512 = (i 0).val; omega
  | ⟨1, _⟩ => rfl

/-- The weight gradient: the array after the run is the reference's. -/
theorem final (c : Dev nD) : (dats m 0 c).arrAt 2 cfg0.N = dW m c := by
  refine (dats m 0 c).arrAt_eq_of_cover 2 _ (fun t hf => ?_) (fun i => ?_)
  · rw [Cert.DwInBIdeal.Value.flushed2]
    unfold out0_2
    rw [View.canon_unit_zero hz, View.ld_unit_zero hz, View.ld_unit_zero hz]
    funext y
    obtain ⟨r, n, rfl⟩ : ∃ r n, y = ix2 r n := ⟨y 0, y 1, eq_ix2 y⟩
    show k0_pay1 (F := Ideal) (iblk m c 0 t) (iblk m c 1 t) (ix2 r n) = dW m c ((win0_2.rect t).emb (ix2 r n))
    rw [emb2, pay_apply, ref_apply]
    exact Finset.sum_congr rfl fun k _ => congrArg₂ (· * ·)
      ((congrFun (V_side m c) _).trans (congrArg (side m c) (emb0 t k r n)))
      ((congrFun (V_main_arg8 m c) _).trans (congrArg (U m c) (emb1 t k r n)))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwInBIdeal_DwInBRefIdeal := by
  intro m g m' g' _ hagree
  refine ⟨fun c => dW m c,
    (θ_run _ _ _).mono (fun r h c => ?_) (Cert.DwInBIdeal.Value.run_blocks (F := Ideal) m g),
    (θ_run _ _ _).mono (fun r h c => ?_) (Cert.DwInBRefIdeal.Value.run (F := Ideal) m' g')⟩
  · exact ⟨(h c).1.trans (final m c), (h c).2⟩
  · obtain ⟨a0, a1, a2, a3, a4, a5, a6, a7, a8⟩ := hagree c
    refine ⟨(h c).1.trans ?_, (h c).2⟩
    rw [a0, a1, a2, a3, a4, a5, a6, a7, a8]; exact val_main_v24_eq _ _ _ _ _ _ _ _ _

/-- The reference's own run ends, with its arguments unchanged and every counter at zero. -/
theorem frame_reference : Cert.quiescent_DwInBRefIdeal := fun m ρ _ =>
  (θ_run Cert.DwInBRefIdeal.defs _ _).mono (fun r h => ⟨fun c => (h c).2, Idealize.ShloMosaic.sem_eq_zero_of_no_sems (by decide) r.2⟩)
    (Cert.DwInBRefIdeal.Value.run (F := Ideal) m ρ)

end Cert.Proof.DwInBValue

end
-- ==== Proof.ProjInValue.lean ====
/-
  The value of the forward call `mm_in`: the mixers' shared projection. Each block of 1024 x 512 elements is one product over the
  2048 columns of the normed input, the weight kept transposed. It is the projection the reference program computes.
-/
module

public import proofs.«01_k».proof.Proof.Gen.ProjInIdeal.Value
public import proofs.«01_k».proof.Proof.Gen.ProjInRefIdeal.Read
public import proofs.«01_k».proof.Proof.Gen.ProjInRefIdeal.Run
public import proofs.«01_k».proof.Defs
public import proofs.«01_k».proof.Proof.Chunks

@[expose] public section

noncomputable section

namespace Cert.Proof.ProjInValue

open Cert.ProjInIdeal Cert.ProjInIdeal.Gen Idealize.ShloMosaic Idealize.ShloMosaic.TcCoe Idealize.SL.Sem
open Cert.ProjInRefIdeal.Read

variable (m : (ℓ : Loc nD τ sig) → Buf (Elt Ideal) ℓ)

/-- The block indices of the windows at a grid point: row block `t / 17` of the input, row block `t % 17` of the transposed
    weight, and the block of the projection at both. -/
theorem idx_facts : ∀ t : Fin cfg0.N,
    (win0_0.index t 0 = t.val / 17 ∧ win0_0.index t 1 = 0) ∧ (win0_1.index t 0 = t.val % 17 ∧ win0_1.index t 1 = 0)
    ∧ (win0_2.index t 0 = t.val / 17 ∧ win0_2.index t 1 = t.val % 17) :=
  (by decide +kernel : ∀ t : Fin grid0.N, _)

/-- The array index of element `(r, n)` of the block at point `t`. -/
abbrev at_ (t : Fin cfg0.N) (r : Fin 1024) (n : Fin 512) : S4096x8704.Idx := fun a => match a with
  | ⟨0, _⟩ => ⟨t.val / 17 * 1024 + r.val, by have h : t.val < 68 := t.isLt; have := r.isLt; show _ < 4096; omega⟩
  | ⟨1, _⟩ => ⟨t.val % 17 * 512 + n.val, by have := n.isLt; show _ < 8704; omega⟩

/-- The block product at an element: the sum over the 2048 columns. -/
theorem pay_apply (v0 : Vec Ideal S1024x2048 .bf16) (v1 : Vec Ideal S512x2048 .bf16) (r : Fin 1024) (n : Fin 512) :
    k0_pay1 (F := Ideal) v0 v1 (ix2 r n) = ∑ k : Fin 2048, v0 (ix2 r k) * v1 (ix2 n k) := by
  unfold k0_pay1
  simp only [pointwise, zero_add, shapeCast_self]

/-- The reference's projection at an index: the sum over the 2048 columns. -/
theorem ref_apply (x0 : (⟨S4096x2048, .bf16⟩ : BufTy).Contents (Elt Ideal)) (x1 : (⟨S8704x2048, .bf16⟩ : BufTy).Contents (Elt Ideal))
    (i : S4096x8704.Idx) :
    val_main_v3 (F := Ideal) x0 x1 i = ∑ k : Fin 2048, x0 (fun a => match a with | ⟨0, _⟩ => ⟨(i 0).val, (i 0).isLt⟩ | ⟨1, _⟩ => ⟨k.val, k.isLt⟩)
      * x1 (fun a => match a with | ⟨0, _⟩ => ⟨(i 1).val, (i 1).isLt⟩ | ⟨1, _⟩ => ⟨k.val, k.isLt⟩) := by
  rw [val_main_v3_apply]
  refine Finset.sum_congr rfl fun k _ => ?_
  rw [val_main_v0_apply, val_main_v2_apply, val_main_v1_apply]
  rfl

/-- Where a block's elements sit in their array: the two argument windows and the result window. -/
theorem emb0 (t : Fin cfg0.N) (k : Fin 2048) (r : Fin 1024) (n : Fin 512) :
    (win0_0.rect t).emb (ix2 r k) = (fun a => match a with | ⟨0, _⟩ => ⟨(at_ t r n 0).val, (at_ t r n 0).isLt⟩ | ⟨1, _⟩ => ⟨k.val, k.isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 2048) (r : Fin 1024) (n : Fin 512) :
    (win0_1.rect t).emb (ix2 n k) = (fun a => match a with | ⟨0, _⟩ => ⟨(at_ t r n 1).val, (at_ t r n 1).isLt⟩ | ⟨1, _⟩ => ⟨k.val, k.isLt⟩ : S8704x2048.Idx) := by
  obtain ⟨-, ⟨h0, h1⟩, -⟩ := idx_facts t
  refine funext fun a => Fin.ext ?_
  match a with
  | ⟨0, _⟩ => exact (win0_1.rect_emb_val t _ 0).trans (by rw [h0]; rfl)
  | ⟨1, _⟩ => exact (win0_1.rect_emb_val t _ 1).trans (by rw [h1]; exact (Nat.zero_mul _).symm ▸ Nat.zero_add _)

theorem emb2 (t : Fin cfg0.N) (r : Fin 1024) (n : Fin 512) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; rfl)

/-- Every index of the result array is one of a block's elements. -/
theorem onto (i : S4096x8704.Idx) : ∃ t : Fin cfg0.N, ∃ r n, at_ t r n = i := by
  have h0 : (i 0).val < 4096 := (i 0).isLt
  have h1 : (i 1).val < 8704 := (i 1).isLt
  refine ⟨⟨(i 0).val / 1024 * 17 + (i 1).val / 512, by show _ < 68; omega⟩, ⟨(i 0).val % 1024, by omega⟩, ⟨(i 1).val % 512, by omega⟩,
    funext fun a => Fin.ext ?_⟩
  match a with
  | ⟨0, _⟩ => show ((i 0).val / 1024 * 17 + (i 1).val / 512) / 17 * 1024 + (i 0).val % 1024 = (i 0).val; omega
  | ⟨1, _⟩ => show ((i 0).val / 1024 * 17 + (i 1).val / 512) % 17 * 512 + (i 1).val % 512 = (i 1).val; omega

/-- The two argument arrays of a device as launched: the normed input and the transposed weight. -/
abbrev A0 (c : Dev nD) : (⟨S4096x2048, .bf16⟩ : BufTy).Contents (Elt Ideal) := m ((c : Thread nD τ).loc main_arg0)
abbrev A1 (c : Dev nD) : (⟨S8704x2048, .bf16⟩ : BufTy).Contents (Elt Ideal) := m ((c : Thread nD τ).loc main_arg1)

/-- The projection: the array after the run is the reference's. -/
theorem final (c : Dev nD) : (dats m 0 c).arrAt 2 cfg0.N = val_main_v3 (F := Ideal) (A0 m c) (A1 m c) := by
  refine (dats m 0 c).arrAt_eq_of_cover 2 _ (fun t hf => ?_) (fun i => ?_)
  · rw [Cert.ProjInIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v3 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's projection: started with the same arguments, both programs' runs end with the same
    result and with the arguments unchanged. -/
theorem algebraic : Cert.algebraic_ProjInIdeal_ProjInRefIdeal := by
  intro m g m' g' _ hagree
  refine ⟨fun c => val_main_v3 (F := Ideal) (A0 m c) (A1 m c),
    (θ_run _ _ _).mono (fun r h c => ?_) (Cert.ProjInIdeal.Value.run_blocks (F := Ideal) m g),
    (θ_run _ _ _).mono (fun r h c => ?_) (Cert.ProjInRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v3_eq _ _

/-- The reference's own run ends, with its arguments unchanged and every counter at zero. -/
theorem frame_reference : Cert.quiescent_ProjInRefIdeal := fun m ρ _ =>
  (θ_run Cert.ProjInRefIdeal.defs _ _).mono (fun r h => ⟨fun c => (h c).2, Idealize.ShloMosaic.sem_eq_zero_of_no_sems (by decide) r.2⟩)
    (Cert.ProjInRefIdeal.Value.run (F := Ideal) m ρ)

end Cert.Proof.ProjInValue

end
-- ==== Proof.FfnInValue.lean ====
/-
  The value of the forward call `mm_ffn_in`: the feed-forward layer's two input products, kept as two planes, and the gated
  activation `silu(a) * b` of them. Each block of 1024 x 512 elements of a plane is one product over the 2048 columns of the
  normed input. They are the planes and the activation the reference program computes.
-/
module

public import proofs.«01_k».proof.Proof.Gen.FfnInIdeal.Value
public import proofs.«01_k».proof.Proof.Gen.FfnInRefIdeal.Read
public import proofs.«01_k».proof.Proof.Gen.FfnInRefIdeal.Run
public import proofs.«01_k».proof.Defs
public import proofs.«01_k».proof.Proof.Chunks
public import proofs.«01_k».proof.Proof.Planes
public import Idealize.ShloMosaic.Lib.ValueLayout

@[expose] public section

noncomputable section

namespace Cert.Proof.FfnInValue

open Cert.FfnInIdeal Cert.FfnInIdeal.Gen Idealize.ShloMosaic Idealize.ShloMosaic.TcCoe Idealize.SL.Sem
open Cert.FfnInRefIdeal.Read

variable (m : (ℓ : Loc nD τ sig) → Buf (Elt Ideal) ℓ)

/-- The block indices of the windows at a grid point: row block `t / 11` of the input, column blocks `t % 11` and `11 + t % 11` of
    the weight, and the blocks of the planes and of the activation at both. -/
theorem idx_facts : ∀ t : Fin cfg0.N,
    (win0_0.index t 0 = t.val / 11 ∧ win0_0.index t 1 = 0)
    ∧ (win0_1.index t 0 = 0 ∧ win0_1.index t 1 = t.val % 11) ∧ (win0_2.index t 0 = 0 ∧ win0_2.index t 1 = 11 + t.val % 11)
    ∧ (win0_3.index t 0 = 0 ∧ win0_3.index t 1 = t.val / 11 ∧ win0_3.index t 2 = t.val % 11)
    ∧ (win0_4.index t 0 = t.val / 11 ∧ win0_4.index t 1 = t.val % 11) :=
  (by decide +kernel : ∀ t : Fin grid0.N, _)

/-- The array index of element `(r, n)` of the activation's block at point `t`, and of element `(p, r, n)` of the planes'. -/
abbrev at_ (t : Fin cfg0.N) (r : Fin 1024) (n : Fin 512) : S4096x5632.Idx := fun a => match a with
  | ⟨0, _⟩ => ⟨t.val / 11 * 1024 + r.val, by have h : t.val < 44 := t.isLt; have := r.isLt; show _ < 4096; omega⟩
  | ⟨1, _⟩ => ⟨t.val % 11 * 512 + n.val, by have := n.isLt; show _ < 5632; omega⟩

abbrev plane (p : Fin 2) (i : S4096x5632.Idx) : S2x4096x5632.Idx := fun a => match a with
  | ⟨0, _⟩ => p
  | ⟨1, _⟩ => ⟨(i 0).val, (i 0).isLt⟩
  | ⟨2, _⟩ => ⟨(i 1).val, (i 1).isLt⟩

/-- The two block products at an element: sums over the 2048 columns. -/
theorem pay1_apply (v0 : Vec Ideal S1024x2048 .bf16) (v1 : Vec Ideal S2048x512 .bf16) (r : Fin 1024) (n : Fin 512) :
    k0_pay1 (F := Ideal) v0 v1 (ix2 r n) = ∑ k : Fin 2048, v0 (ix2 r k) * v1 (ix2 k n) := by
  unfold k0_pay1
  simp only [pointwise, zero_add]

theorem pay2_apply (v0 : Vec Ideal S1024x2048 .bf16) (v1 : Vec Ideal S2048x512 .bf16) (r : Fin 1024) (n : Fin 512) :
    k0_pay2 (F := Ideal) v0 v1 (ix2 r n) = ∑ k : Fin 2048, v0 (ix2 r k) * v1 (ix2 k n) := by
  unfold k0_pay2
  simp only [pointwise, zero_add]

/-- The stored planes are the products. -/
theorem pay3_apply (v0 : Vec Ideal S1024x2048 .bf16) (v1 : Vec Ideal S2048x512 .bf16) (r : Fin 1024) (n : Fin 512) :
    k0_pay3 (F := Ideal) v0 v1 (ix3 (0 : Fin 1) r n) = k0_pay1 (F := Ideal) v0 v1 (ix2 r n) := by
  unfold k0_pay3
  simp only [pointwise, ValueIdx.shapeCast_ab_1ab_apply]

theorem pay4_apply (v0 : Vec Ideal S1024x2048 .bf16) (v1 : Vec Ideal S2048x512 .bf16) (r : Fin 1024) (n : Fin 512) :
    k0_pay4 (F := Ideal) v0 v1 (ix3 (0 : Fin 1) r n) = k0_pay2 (F := Ideal) v0 v1 (ix2 r n) := by
  unfold k0_pay4
  simp only [pointwise, ValueIdx.shapeCast_ab_1ab_apply]

/-- The gated activation of two numbers: `a` times its sigmoid, times `b`. -/
def swiglu (a b : EReal) : EReal := a * Ideal.div 1 (1 + Ideal.exp (-a)) * b

/-- The block's activation at an element. -/
theorem pay5_apply (v0 : Vec Ideal S1024x2048 .bf16) (v1 v3 : Vec Ideal S2048x512 .bf16) (y : S1024x512.Idx) :
    k0_pay5 (F := Ideal) v0 v1 v3 y = swiglu (k0_pay1 (F := Ideal) v0 v1 y) (k0_pay2 (F := Ideal) v0 v3 y) := by
  unfold k0_pay5 swiglu
  simp only [pointwise, zero_sub]

/-- The reference's two halves of the product at an index: sums over the 2048 columns. -/
theorem ref3_apply (x0 : (⟨S4096x2048, .bf16⟩ : BufTy).Contents (Elt Ideal)) (x1 : (⟨S2048x11264, .bf16⟩ : BufTy).Contents (Elt Ideal)) (i : S4096x5632.Idx) :
    val_main_v3 (F := Ideal) x0 x1 i = ∑ k : Fin 2048, x0 (fun a => match a with | ⟨0, _⟩ => ⟨(i 0).val, (i 0).isLt⟩ | ⟨1, _⟩ => ⟨k.val, k.isLt⟩)
      * x1 (fun a => match a with | ⟨0, _⟩ => ⟨k.val, k.isLt⟩ | ⟨1, _⟩ => ⟨(i 1).val, by have h : (i 1).val < 5632 := (i 1).isLt; show _ < 11264; omega⟩) := by
  rw [val_main_v3_apply, val_main_v2_apply]
  rfl

theorem ref4_apply (x0 : (⟨S4096x2048, .bf16⟩ : BufTy).Contents (Elt Ideal)) (x1 : (⟨S2048x11264, .bf16⟩ : BufTy).Contents (Elt Ideal)) (i : S4096x5632.Idx) :
    val_main_v4 (F := Ideal) x0 x1 i = ∑ k : Fin 2048, x0 (fun a => match a with | ⟨0, _⟩ => ⟨(i 0).val, (i 0).isLt⟩ | ⟨1, _⟩ => ⟨k.val, k.isLt⟩)
      * x1 (fun a => match a with | ⟨0, _⟩ => ⟨k.val, k.isLt⟩ | ⟨1, _⟩ => ⟨5632 + (i 1).val, by have h : (i 1).val < 5632 := (i 1).isLt; show _ < 11264; omega⟩) := by
  rw [val_main_v4_apply, val_main_v2_apply]
  rfl

/-- The reference's activation at an index, of its two halves. -/
theorem ref11_apply (x0 : (⟨S4096x2048, .bf16⟩ : BufTy).Contents (Elt Ideal)) (x1 : (⟨S2048x11264, .bf16⟩ : BufTy).Contents (Elt Ideal)) (i : S4096x5632.Idx) :
    val_main_v11 (F := Ideal) x0 x1 i = swiglu (val_main_v3 (F := Ideal) x0 x1 i) (val_main_v4 (F := Ideal) x0 x1 i) := by
  rw [val_main_v11_apply, val_main_v10_apply, val_main_v9_apply, val_main_call0_v5_apply, val_main_call0_v4_apply,
    val_main_call0_cst_0_apply, val_main_call0_v3_apply, val_main_call0_v2_apply, val_main_call0_cst_apply,
    val_main_call0_v1_apply, val_main_call0_v0_apply]
  unfold swiglu
  simp only [pointwise]

/-- The reference's planes at an index: the two halves. -/
theorem planes0_apply (x0 : (⟨S4096x2048, .bf16⟩ : BufTy).Contents (Elt Ideal)) (x1 : (⟨S2048x11264, .bf16⟩ : BufTy).Contents (Elt Ideal)) (i : S4096x5632.Idx) :
    val_main_v8 (F := Ideal) x0 x1 (plane 0 i) = val_main_v3 (F := Ideal) x0 x1 i := by
  rw [val_main_v8_apply]
  show val_main_v7 (F := Ideal) x0 x1 (plane 0 i) = _
  unfold val_main_v7
  rw [concatenate_pair_apply_left (t := Cert.FfnInRefIdeal.S2x4096x5632) (s₁ := Cert.FfnInRefIdeal.S1x4096x5632) (s₂ := Cert.FfnInRefIdeal.S1x4096x5632) 0 _ _ _ (plane 0 i) rfl
      (fun a => match a with | ⟨0, _⟩ => (0 : Fin 1) | ⟨1, _⟩ => ⟨(i 0).val, (i 0).isLt⟩ | ⟨2, _⟩ => ⟨(i 1).val, (i 1).isLt⟩)
      (fun b => match b with | ⟨0, _⟩ => rfl | ⟨1, _⟩ => rfl | ⟨2, _⟩ => rfl), val_main_v5_apply]
  exact congrArg (val_main_v3 (F := Ideal) x0 x1) (funext fun a => match a with | ⟨0, _⟩ => rfl | ⟨1, _⟩ => rfl)

theorem planes1_apply (x0 : (⟨S4096x2048, .bf16⟩ : BufTy).Contents (Elt Ideal)) (x1 : (⟨S2048x11264, .bf16⟩ : BufTy).Contents (Elt Ideal)) (i : S4096x5632.Idx) :
    val_main_v8 (F := Ideal) x0 x1 (plane 1 i) = val_main_v4 (F := Ideal) x0 x1 i := by
  rw [val_main_v8_apply]
  show val_main_v7 (F := Ideal) x0 x1 (plane 1 i) = _
  unfold val_main_v7
  rw [concatenate_pair_apply_right (t := Cert.FfnInRefIdeal.S2x4096x5632) (s₁ := Cert.FfnInRefIdeal.S1x4096x5632) (s₂ := Cert.FfnInRefIdeal.S1x4096x5632) 0 _ _ _ (plane 1 i) rfl rfl
      (fun a => match a with | ⟨0, _⟩ => (0 : Fin 1) | ⟨1, _⟩ => ⟨(i 0).val, (i 0).isLt⟩ | ⟨2, _⟩ => ⟨(i 1).val, (i 1).isLt⟩)
      (fun b hb => match b, hb with | ⟨0, _⟩, hb => absurd rfl hb | ⟨1, _⟩, _ => rfl | ⟨2, _⟩, _ => rfl) (by rfl), val_main_v6_apply]
  exact congrArg (val_main_v4 (F := Ideal) x0 x1) (funext fun a => match a with | ⟨0, _⟩ => rfl | ⟨1, _⟩ => rfl)

/-- Where a block's elements sit in their array: the argument windows and the result windows. -/
theorem emb0 (t : Fin cfg0.N) (k : Fin 2048) (r : Fin 1024) (n : Fin 512) :
    (win0_0.rect t).emb (ix2 r k) = (fun a => match a with | ⟨0, _⟩ => ⟨(at_ t r n 0).val, (at_ t r n 0).isLt⟩ | ⟨1, _⟩ => ⟨k.val, k.isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 2048) (r : Fin 1024) (n : Fin 512) :
    (win0_1.rect t).emb (ix2 k n) = (fun a => match a with
      | ⟨0, _⟩ => ⟨k.val, k.isLt⟩
      | ⟨1, _⟩ => ⟨(at_ t r n 1).val, by have h : (at_ t r n 1).val < 5632 := (at_ t r n 1).isLt; show _ < 11264; omega⟩ : S2048x11264.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; rfl)

theorem emb2 (t : Fin cfg0.N) (k : Fin 2048) (r : Fin 1024) (n : Fin 512) :
    (win0_2.rect t).emb (ix2 k n) = (fun a => match a with
      | ⟨0, _⟩ => ⟨k.val, k.isLt⟩
      | ⟨1, _⟩ => ⟨5632 + (at_ t r n 1).val, by have h : (at_ t r n 1).val < 5632 := (at_ t r n 1).isLt; show _ < 11264; omega⟩ : S2048x11264.Idx) := by
  obtain ⟨-, -, ⟨h0, h1⟩, -⟩ := idx_facts t
  refine funext fun a => Fin.ext ?_
  match a with
  | ⟨0, _⟩ => exact (win0_2.rect_emb_val t _ 0).trans (by rw [h0]; exact (Nat.zero_mul _).symm ▸ Nat.zero_add _)
  | ⟨1, _⟩ => exact (win0_2.rect_emb_val t _ 1).trans (by rw [h1]; show (11 + t.val % 11) * 512 + n.val = 5632 + (t.val % 11 * 512 + n.val); omega)

theorem emb3 (t : Fin cfg0.N) (p : Fin 2) (r : Fin 1024) (n : Fin 512) : (win0_3.rect t).emb (ix3 p r n) = plane p (at_ t r n) := by
  obtain ⟨-, -, -, ⟨h0, h1, h2⟩, -⟩ := idx_facts t
  refine funext fun a => Fin.ext ?_
  match a with
  | ⟨0, _⟩ => exact (win0_3.rect_emb_val t _ 0).trans (by rw [h0]; show 0 * 2 + p.val = p.val; omega)
  | ⟨1, _⟩ => exact (win0_3.rect_emb_val t _ 1).trans (by rw [h1]; rfl)
  | ⟨2, _⟩ => exact (win0_3.rect_emb_val t _ 2).trans (by rw [h2]; rfl)

theorem emb4 (t : Fin cfg0.N) (r : Fin 1024) (n : Fin 512) : (win0_4.rect t).emb (ix2 r n) = at_ t r n := by
  obtain ⟨-, -, -, -, h0, h1⟩ := idx_facts t
  refine funext fun a => Fin.ext ?_
  match a with
  | ⟨0, _⟩ => exact (win0_4.rect_emb_val t _ 0).trans (by rw [h0]; rfl)
  | ⟨1, _⟩ => exact (win0_4.rect_emb_val t _ 1).trans (by rw [h1]; rfl)

/-- Every index of the activation is one of a block's elements, -/
theorem onto (i : S4096x5632.Idx) : ∃ t : Fin cfg0.N, ∃ r n, at_ t r n = i := by
  have h0 : (i 0).val < 4096 := (i 0).isLt
  have h1 : (i 1).val < 5632 := (i 1).isLt
  refine ⟨⟨(i 0).val / 1024 * 11 + (i 1).val / 512, by show _ < 44; omega⟩, ⟨(i 0).val % 1024, by omega⟩, ⟨(i 1).val % 512, by omega⟩,
    funext fun a => Fin.ext ?_⟩
  match a with
  | ⟨0, _⟩ => show ((i 0).val / 1024 * 11 + (i 1).val / 512) / 11 * 1024 + (i 0).val % 1024 = (i 0).val; omega
  | ⟨1, _⟩ => show ((i 0).val / 1024 * 11 + (i 1).val / 512) % 11 * 512 + (i 1).val % 512 = (i 1).val; omega

/-- and every index of the planes is an index of the activation in one of the two. -/
theorem onto_plane (i : S2x4096x5632.Idx) : ∃ p j, plane p j = i :=
  ⟨i 0, (fun a => match a with | ⟨0, _⟩ => ⟨(i 1).val, (i 1).isLt⟩ | ⟨1, _⟩ => ⟨(i 2).val, (i 2).isLt⟩),
    funext fun a => match a with | ⟨0, _⟩ => rfl | ⟨1, _⟩ => rfl | ⟨2, _⟩ => rfl⟩

/-- The two argument arrays of a device as launched: the normed input and the weight. -/
abbrev A0 (c : Dev nD) : (⟨S4096x2048, .bf16⟩ : BufTy).Contents (Elt Ideal) := m ((c : Thread nD τ).loc main_arg0)
abbrev A1 (c : Dev nD) : (⟨S2048x11264, .bf16⟩ : BufTy).Contents (Elt Ideal) := m ((c : Thread nD τ).loc main_arg1)

/-- The blocks' products are the reference's two halves at the blocks' array indices. -/
theorem half0 (c : Dev nD) (t : Fin cfg0.N) (r : Fin 1024) (n : Fin 512) :
    k0_pay1 (F := Ideal) (iblk m c 0 t) (iblk m c 1 t) (ix2 r n) = val_main_v3 (F := Ideal) (A0 m c) (A1 m c) (at_ t r n) := by
  rw [pay1_apply, ref3_apply]
  exact Finset.sum_congr rfl fun k _ => congrArg₂ (· * ·) (congrArg (A0 m c) (emb0 t k r n)) (congrArg (A1 m c) (emb1 t k r n))

theorem half1 (c : Dev nD) (t : Fin cfg0.N) (r : Fin 1024) (n : Fin 512) :
    k0_pay2 (F := Ideal) (iblk m c 0 t) (iblk m c 2 t) (ix2 r n) = val_main_v4 (F := Ideal) (A0 m c) (A1 m c) (at_ t r n) := by
  rw [pay2_apply, ref4_apply]
  exact Finset.sum_congr rfl fun k _ => congrArg₂ (· * ·) (congrArg (A0 m c) (emb0 t k r n)) (congrArg (A1 m c) (emb2 t k r n))

/-- The planes: the array after the run is the reference's. -/
theorem final3 (c : Dev nD) : (dats m 0 c).arrAt 3 cfg0.N = val_main_v8 (F := Ideal) (A0 m c) (A1 m c) := by
  refine (dats m 0 c).arrAt_eq_of_cover 3 _ (fun t hf => ?_) (fun i => ?_)
  · rw [Cert.FfnInIdeal.Value.flushed3]
    unfold out0_3
    rw [View.ld_unit_zero hz2, View.ld_unit_zero hz2, View.ld_unit_zero hz2]
    funext y
    obtain ⟨p, r, n, rfl⟩ : ∃ p r n, y = ix3 p r n := ⟨y 0, y 1, y 2, eq_ix3 y⟩
    show View.canon [(⟨r0_3, k0_pay4 (F := Ideal) (iblk m c 0 t) (iblk m c 2 t)⟩ : View.Piece (Elt Ideal) _ .bf16), ⟨r0_2, k0_pay3 (F := Ideal) (iblk m c 0 t) (iblk m c 1 t)⟩] (ix3 p r n)
      = val_main_v8 (F := Ideal) _ _ ((win0_3.rect t).emb (ix3 p r n))
    rw [emb3]
    match p with
    | ⟨0, _⟩ => exact (canon_plane0 _ _ _ _ r n).trans ((pay3_apply _ _ r n).trans ((half0 m c t r n).trans (planes0_apply _ _ _).symm))
    | ⟨1, _⟩ => exact (canon_plane1 _ _ _ _ r n).trans ((pay4_apply _ _ r n).trans ((half1 m c t r n).trans (planes1_apply _ _ _).symm))
  · obtain ⟨p, j, rfl⟩ := onto_plane i
    obtain ⟨t, r, n, rfl⟩ := onto j
    rw [← emb3]
    exact ⟨t, flush0_3 t, View.emb_mem_set ((cfg0.win 3).blk t).view _⟩

/-- The activation: the array after the run is the reference's. -/
theorem final4 (c : Dev nD) : (dats m 0 c).arrAt 4 cfg0.N = val_main_v11 (F := Ideal) (A0 m c) (A1 m c) := by
  refine (dats m 0 c).arrAt_eq_of_cover 4 _ (fun t hf => ?_) (fun i => ?_)
  · rw [Cert.FfnInIdeal.Value.flushed4]
    unfold out0_4
    rw [View.canon_unit_zero hz2, View.ld_unit_zero hz2, View.ld_unit_zero hz2, View.ld_unit_zero hz2]
    funext y
    obtain ⟨r, n, rfl⟩ : ∃ r n, y = ix2 r n := ⟨y 0, y 1, eq_ix2 y⟩
    show k0_pay5 (F := Ideal) (iblk m c 0 t) (iblk m c 1 t) (iblk m c 2 t) (ix2 r n) = val_main_v11 (F := Ideal) _ _ ((win0_4.rect t).emb (ix2 r n))
    rw [emb4, pay5_apply, ref11_apply]
    exact congrArg₂ swiglu (half0 m c t r n) (half1 m c t r n)
  · obtain ⟨t, r, n, rfl⟩ := onto i
    rw [← emb4]
    exact ⟨t, flush0_4 t, View.emb_mem_set ((cfg0.win 4).blk t).view _⟩

/-- The kernel computes the reference's planes and activation: started with the same arguments, both programs' runs end with
    the same results and with the arguments unchanged. -/
theorem algebraic : Cert.algebraic_FfnInIdeal_FfnInRefIdeal := by
  intro m g m' g' _ hagree
  refine ⟨fun c => val_main_v8 (F := Ideal) (A0 m c) (A1 m c), fun c => val_main_v11 (F := Ideal) (A0 m c) (A1 m c),
    (θ_run _ _ _).mono (fun r h c => ?_) (Cert.FfnInIdeal.Value.run_blocks (F := Ideal) m g),
    (θ_run _ _ _).mono (fun r h c => ?_) (Cert.FfnInRefIdeal.Value.run (F := Ideal) m' g')⟩
  · exact ⟨(h c).1.trans (final3 m c), (h c).2.1.trans (final4 m c), (h c).2.2⟩
  · obtain ⟨a0, a1⟩ := hagree c
    refine ⟨(h c).1.trans ?_, (h c).2.1.trans ?_, (h c).2.2⟩
    · rw [a0, a1]; exact val_main_v8_eq _ _
    · rw [a0, a1]; exact val_main_v11_eq _ _

/-- The reference's own run ends, with its arguments unchanged and every counter at zero. -/
theorem frame_reference : Cert.quiescent_FfnInRefIdeal := fun m ρ _ =>
  (θ_run Cert.FfnInRefIdeal.defs _ _).mono (fun r h => ⟨fun c => (h c).2.2, Idealize.ShloMosaic.sem_eq_zero_of_no_sems (by decide) r.2⟩)
    (Cert.FfnInRefIdeal.Value.run (F := Ideal) m ρ)

end Cert.Proof.FfnInValue

end
-- ==== Proof.FfnOutValue.lean ====
/-
  The value of the forward call `mm_ffn_out`: the feed-forward layer's second product added to the residual. Each block of
  512 x 1024 elements is the residual's block plus one product over the 5632 hidden columns. It is the output the reference
  program computes.
-/
module

public import proofs.«01_k».proof.Proof.Gen.FfnOutIdeal.Value
public import proofs.«01_k».proof.Proof.Gen.FfnOutRefIdeal.Read
public import proofs.«01_k».proof.Proof.Gen.FfnOutRefIdeal.Run
public import proofs.«01_k».proof.Defs
public import proofs.«01_k».proof.Proof.Chunks

@[expose] public section

noncomputable section

namespace Cert.Proof.FfnOutValue

open Cert.FfnOutIdeal Cert.FfnOutIdeal.Gen Idealize.ShloMosaic Idealize.ShloMosaic.TcCoe Idealize.SL.Sem
open Cert.FfnOutRefIdeal.Read

variable (m : (ℓ : Loc nD τ sig) → Buf (Elt Ideal) ℓ)

/-- The block indices of the windows at a grid point: row block `t / 2` of the activations, column block `t % 2` of the weight,
    and the blocks of the residual and of the result at both. -/
theorem idx_facts : ∀ t : Fin cfg0.N,
    (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ (win0_3.index t 0 = t.val / 2 ∧ win0_3.index t 1 = t.val % 2) :=
  (by decide +kernel : ∀ t : Fin grid0.N, _)

/-- The array index of element `(r, n)` of the block at point `t`. -/
abbrev at_ (t : Fin cfg0.N) (r : Fin 512) (n : Fin 1024) : S4096x2048.Idx := fun a => match a with
  | ⟨0, _⟩ => ⟨t.val / 2 * 512 + r.val, by have h : t.val < 16 := t.isLt; have := r.isLt; show _ < 4096; omega⟩
  | ⟨1, _⟩ => ⟨t.val % 2 * 1024 + n.val, by have := n.isLt; show _ < 2048; omega⟩

/-- The block at an element: the residual plus the sum over the 5632 hidden columns. -/
theorem pay_apply (v0 : Vec Ideal S512x5632 .bf16) (v1 : Vec Ideal S5632x1024 .bf16) (v3 : Vec Ideal S512x1024 .f32) (r : Fin 512) (n : Fin 1024) :
    k0_pay1 (F := Ideal) v0 v1 v3 (ix2 r n) = v3 (ix2 r n) + ∑ k : Fin 5632, v0 (ix2 r k) * v1 (ix2 k n) := by
  unfold k0_pay1
  simp only [pointwise, zero_add, shapeCast_self]

/-- The reference's output at an index: the residual plus the sum over the hidden columns. -/
theorem ref_apply (x0 : (⟨S4096x5632, .bf16⟩ : BufTy).Contents (Elt Ideal)) (x1 : (⟨S5632x2048, .bf16⟩ : BufTy).Contents (Elt Ideal))
    (x2 : (⟨S4096x2048, .f32⟩ : BufTy).Contents (Elt Ideal)) (i : S4096x2048.Idx) :
    val_main_v3 (F := Ideal) x0 x1 x2 i = x2 i + ∑ k : Fin 5632, x0 (fun a => match a with | ⟨0, _⟩ => ⟨(i 0).val, (i 0).isLt⟩ | ⟨1, _⟩ => ⟨k.val, k.isLt⟩)
      * x1 (fun a => match a with | ⟨0, _⟩ => ⟨k.val, k.isLt⟩ | ⟨1, _⟩ => ⟨(i 1).val, (i 1).isLt⟩) := by
  rw [val_main_v3_apply, val_main_v2_apply]
  rfl

/-- Where a block's elements sit in their array: the three argument windows and the result window. -/
theorem emb0 (t : Fin cfg0.N) (k : Fin 5632) (r : Fin 512) (n : Fin 1024) :
    (win0_0.rect t).emb (ix2 r k) = (fun a => match a with | ⟨0, _⟩ => ⟨(at_ t r n 0).val, (at_ t r n 0).isLt⟩ | ⟨1, _⟩ => ⟨k.val, k.isLt⟩ : S4096x5632.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 5632) (r : Fin 512) (n : Fin 1024) :
    (win0_1.rect t).emb (ix2 k n) = (fun a => match a with | ⟨0, _⟩ => ⟨k.val, k.isLt⟩ | ⟨1, _⟩ => ⟨(at_ t r n 1).val, (at_ t r n 1).isLt⟩ : S5632x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; rfl)

theorem emb23 (t : Fin cfg0.N) (r : Fin 512) (n : Fin 1024) :
    (win0_2.rect t).emb (ix2 r n) = at_ t r n ∧ (win0_3.rect t).emb (ix2 r n) = at_ t r n := by
  obtain ⟨-, -, ⟨h0, h1⟩, h2, h3⟩ := idx_facts t
  refine ⟨funext fun a => Fin.ext ?_, funext fun a => Fin.ext ?_⟩
  · match a with
    | ⟨0, _⟩ => exact (win0_2.rect_emb_val t _ 0).trans (by rw [h0]; rfl)
    | ⟨1, _⟩ => exact (win0_2.rect_emb_val t _ 1).trans (by rw [h1]; rfl)
  · match a with
    | ⟨0, _⟩ => exact (win0_3.rect_emb_val t _ 0).trans (by rw [h2]; rfl)
    | ⟨1, _⟩ => exact (win0_3.rect_emb_val t _ 1).trans (by rw [h3]; rfl)

/-- Every index of the result array is one of a block's elements. -/
theorem onto (i : S4096x2048.Idx) : ∃ t : Fin cfg0.N, ∃ r n, at_ t r n = i := by
  have h0 : (i 0).val < 4096 := (i 0).isLt
  have h1 : (i 1).val < 2048 := (i 1).isLt
  refine ⟨⟨(i 0).val / 512 * 2 + (i 1).val / 1024, by show _ < 16; omega⟩, ⟨(i 0).val % 512, by omega⟩, ⟨(i 1).val % 1024, by omega⟩,
    funext fun a => Fin.ext ?_⟩
  match a with
  | ⟨0, _⟩ => show ((i 0).val / 512 * 2 + (i 1).val / 1024) / 2 * 512 + (i 0).val % 512 = (i 0).val; omega
  | ⟨1, _⟩ => show ((i 0).val / 512 * 2 + (i 1).val / 1024) % 2 * 1024 + (i 1).val % 1024 = (i 1).val; omega

/-- The three argument arrays of a device as launched: the activations, the weight and the residual. -/
abbrev A0 (c : Dev nD) : (⟨S4096x5632, .bf16⟩ : BufTy).Contents (Elt Ideal) := m ((c : Thread nD τ).loc main_arg0)
abbrev A1 (c : Dev nD) : (⟨S5632x2048, .bf16⟩ : BufTy).Contents (Elt Ideal) := m ((c : Thread nD τ).loc main_arg1)
abbrev A2 (c : Dev nD) : (⟨S4096x2048, .f32⟩ : BufTy).Contents (Elt Ideal) := m ((c : Thread nD τ).loc main_arg2)

/-- The output: the array after the run is the reference's. -/
theorem final (c : Dev nD) : (dats m 0 c).arrAt 3 cfg0.N = val_main_v3 (F := Ideal) (A0 m c) (A1 m c) (A2 m c) := by
  refine (dats m 0 c).arrAt_eq_of_cover 3 _ (fun t hf => ?_) (fun i => ?_)
  · rw [Cert.FfnOutIdeal.Value.flushed3]
    unfold out0_3
    rw [View.canon_unit_zero hz2, View.ld_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (iblk m c 2 t) (ix2 r n) = val_main_v3 (F := Ideal) _ _ _ ((win0_3.rect t).emb (ix2 r n))
    rw [(emb23 t r n).2, pay_apply, ref_apply]
    exact congrArg₂ (· + ·) (congrArg (A2 m c) (emb23 t r n).1)
      (Finset.sum_congr rfl fun k _ => congrArg₂ (· * ·) (congrArg (A0 m c) (emb0 t k r n)) (congrArg (A1 m c) (emb1 t k r n)))
  · obtain ⟨t, r, n, rfl⟩ := onto i
    rw [← (emb23 t r n).2]
    exact ⟨t, flush0_3 t, View.emb_mem_set ((cfg0.win 3).blk t).view _⟩

/-- The kernel computes the reference's output: started with the same arguments, both programs' runs end with the same result
    and with the arguments unchanged. -/
theorem algebraic : Cert.algebraic_FfnOutIdeal_FfnOutRefIdeal := by
  intro m g m' g' _ hagree
  refine ⟨fun c => val_main_v3 (F := Ideal) (A0 m c) (A1 m c) (A2 m c),
    (θ_run _ _ _).mono (fun r h c => ?_) (Cert.FfnOutIdeal.Value.run_blocks (F := Ideal) m g),
    (θ_run _ _ _).mono (fun r h c => ?_) (Cert.FfnOutRefIdeal.Value.run (F := Ideal) m' g')⟩
  · exact ⟨(h c).1.trans (final m c), (h c).2⟩
  · obtain ⟨a0, a1, a2⟩ := hagree c
    refine ⟨(h c).1.trans ?_, (h c).2⟩
    rw [a0, a1, a2]; exact val_main_v3_eq _ _ _

/-- The reference's own run ends, with its arguments unchanged and every counter at zero. -/
theorem frame_reference : Cert.quiescent_FfnOutRefIdeal := fun m ρ _ =>
  (θ_run Cert.FfnOutRefIdeal.defs _ _).mono (fun r h => ⟨fun c => (h c).2, Idealize.ShloMosaic.sem_eq_zero_of_no_sems (by decide) r.2⟩)
    (Cert.FfnOutRefIdeal.Value.run (F := Ideal) m ρ)

end Cert.Proof.FfnOutValue

end
-- ==== Proof.DwMixValue.lean ====
/-
  The value of the backward call `mm_dw_mix_out`: the gradient of the mixers' output weight, each block of 1024 x 1024 elements one
  product over the 4096 tokens, is the gradient the reference program computes.
-/
module

public import proofs.«01_k».proof.Proof.Gen.DwMixIdeal.Value
public import proofs.«01_k».proof.Proof.Gen.DwMixRefIdeal.Read
public import proofs.«01_k».proof.Proof.Gen.DwMixRefIdeal.Run
public import proofs.«01_k».proof.Defs
public import Idealize.ShloMosaic.Lib.Pointwise
public import Idealize.ShloMosaic.Lib.ValueIdx

@[expose] public section

noncomputable section

namespace Cert.Proof.DwMixValue

open Cert.DwMixIdeal Cert.DwMixIdeal.Gen Idealize.ShloMosaic Idealize.ShloMosaic.TcCoe Idealize.SL.Sem
open Cert.DwMixRefIdeal.Read (val_main_v6)

variable (m : (ℓ : Loc nD τ sig) → Buf (Elt Ideal) ℓ)

theorem hz : (![0, 0] : Fin 2 → Nat) = fun _ => 0 := funext fun a => by fin_cases a <;> rfl

/-- The block indices of the windows at a grid point: column block `t / 2` of the merged branches, column block `t % 2` of the
    incoming gradient, and the block of the weight gradient at both. -/
theorem idx_facts : ∀ t : Fin cfg0.N,
    (win0_0.index t 0 = 0 ∧ win0_0.index t 1 = t.val / 2) ∧ (win0_1.index t 0 = 0 ∧ win0_1.index t 1 = t.val % 2)
    ∧ (win0_2.index t 0 = t.val / 2 ∧ win0_2.index t 1 = t.val % 2) :=
  (by decide +kernel : ∀ t : Fin grid0.N, _)

/-- The array index of element `(r, n)` of the block at point `t`. -/
abbrev at_ (t : Fin cfg0.N) (r : Fin 1024) (n : Fin 1024) : S2048x2048.Idx := fun a => match a with
  | ⟨0, _⟩ => ⟨t.val / 2 * 1024 + r.val, by have h : t.val < 4 := t.isLt; have := r.isLt; show _ < 2048; omega⟩
  | ⟨1, _⟩ => ⟨t.val % 2 * 1024 + n.val, by have := n.isLt; show _ < 2048; omega⟩

/-- The block product at an element: the sum over the 4096 tokens. -/
theorem pay_apply (v0 : Vec Ideal S4096x1024 .bf16) (v1 : Vec Ideal S4096x1024 .bf16) (r : Fin 1024) (n : Fin 1024) :
    k0_pay1 (F := Ideal) v0 v1 (ix2 r n) = ∑ k : Fin 4096, v0 (ix2 k r) * v1 (ix2 k n) := by
  unfold k0_pay1
  simp only [pointwise, zero_add]

/-- The reference's weight gradient at an index: the sum over the tokens. -/
theorem ref_apply (x0 : (⟨S4096x2048, .bf16⟩ : BufTy).Contents (Elt Ideal)) (x1 : (⟨S4096x2048, .bf16⟩ : BufTy).Contents (Elt Ideal))
    (i : S2048x2048.Idx) :
    val_main_v6 (F := Ideal) x0 x1 i = ∑ k : Fin 4096, x0 (fun a => match a with | ⟨0, _⟩ => ⟨k.val, k.isLt⟩ | ⟨1, _⟩ => ⟨(i 0).val, (i 0).isLt⟩)
      * x1 (fun a => match a with | ⟨0, _⟩ => ⟨k.val, k.isLt⟩ | ⟨1, _⟩ => ⟨(i 1).val, (i 1).isLt⟩) := by
  rw [Cert.DwMixRefIdeal.Read.val_main_v6_apply, Cert.DwMixRefIdeal.Read.val_main_v5_apply, Cert.DwMixRefIdeal.Read.val_main_v4_apply]
  exact Finset.sum_congr rfl fun k _ => mul_comm _ _

/-- Where a block's elements sit in their array: the two argument windows and the result window. -/
theorem emb0 (t : Fin cfg0.N) (k : Fin 4096) (r : Fin 1024) (n : Fin 1024) :
    (win0_0.rect t).emb (ix2 k r) = (fun a => match a with | ⟨0, _⟩ => ⟨k.val, k.isLt⟩ | ⟨1, _⟩ => ⟨(at_ t r n 0).val, (at_ t r n 0).isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; rfl)

theorem emb1 (t : Fin cfg0.N) (k : Fin 4096) (r : Fin 1024) (n : Fin 1024) :
    (win0_1.rect t).emb (ix2 k n) = (fun a => match a with | ⟨0, _⟩ => ⟨k.val, k.isLt⟩ | ⟨1, _⟩ => ⟨(at_ t r n 1).val, (at_ t r n 1).isLt⟩ : S4096x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; rfl)

theorem emb2 (t : Fin cfg0.N) (r : Fin 1024) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; rfl)

/-- Every index of the result array is one of a block's elements. -/
theorem onto (i : S2048x2048.Idx) : ∃ t : Fin cfg0.N, ∃ r n, at_ t r n = i := by
  have h0 : (i 0).val < 2048 := (i 0).isLt
  have h1 : (i 1).val < 2048 := (i 1).isLt
  refine ⟨⟨(i 0).val / 1024 * 2 + (i 1).val / 1024, by show _ < 4; omega⟩, ⟨(i 0).val % 1024, by omega⟩, ⟨(i 1).val % 1024, by omega⟩,
    funext fun a => Fin.ext ?_⟩
  match a with
  | ⟨0, _⟩ => show ((i 0).val / 1024 * 2 + (i 1).val / 1024) / 2 * 1024 + (i 0).val % 1024 = (i 0).val; omega
  | ⟨1, _⟩ => show ((i 0).val / 1024 * 2 + (i 1).val / 1024) % 2 * 1024 + (i 1).val % 1024 = (i 1).val; omega

/-- The two argument arrays of a device as launched: the merged branches and the incoming gradient. -/
abbrev A0 (c : Dev nD) : (⟨S4096x2048, .bf16⟩ : BufTy).Contents (Elt Ideal) := m ((c : Thread nD τ).loc main_arg0)
abbrev A1 (c : Dev nD) : (⟨S4096x2048, .bf16⟩ : BufTy).Contents (Elt Ideal) := m ((c : Thread nD τ).loc main_arg1)

/-- The weight gradient: the array after the run is the reference's. -/
theorem final (c : Dev nD) : (dats m 0 c).arrAt 2 cfg0.N = val_main_v6 (F := Ideal) (A0 m c) (A1 m c) := by
  refine (dats m 0 c).arrAt_eq_of_cover 2 _ (fun t hf => ?_) (fun i => ?_)
  · rw [Cert.DwMixIdeal.Value.flushed2]
    unfold out0_2
    rw [View.canon_unit_zero hz, View.ld_unit_zero hz, View.ld_unit_zero hz]
    funext y
    obtain ⟨r, n, rfl⟩ : ∃ r n, y = ix2 r n := ⟨y 0, y 1, eq_ix2 y⟩
    show k0_pay1 (F := Ideal) (iblk m c 0 t) (iblk m c 1 t) (ix2 r n) = val_main_v6 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwMixIdeal_DwMixRefIdeal := by
  intro m g m' g' _ hagree
  refine ⟨fun c => val_main_v6 (F := Ideal) (A0 m c) (A1 m c),
    (θ_run _ _ _).mono (fun r h c => ?_) (Cert.DwMixIdeal.Value.run_blocks (F := Ideal) m g),
    (θ_run _ _ _).mono (fun r h c => ?_) (Cert.DwMixRefIdeal.Value.run (F := Ideal) m' g')⟩
  · exact ⟨(h c).1.trans (final m c), (h c).2⟩
  · obtain ⟨a0, a1⟩ := hagree c
    refine ⟨(h c).1.trans ?_, (h c).2⟩
    rw [a0, a1]; exact Cert.DwMixRefIdeal.Read.val_main_v6_eq _ _

/-- The reference's own run ends, with its arguments unchanged and every counter at zero. -/
theorem frame_reference : Cert.quiescent_DwMixRefIdeal := fun m ρ _ =>
  (θ_run Cert.DwMixRefIdeal.defs _ _).mono (fun r h => ⟨fun c => (h c).2, Idealize.ShloMosaic.sem_eq_zero_of_no_sems (by decide) r.2⟩)
    (Cert.DwMixRefIdeal.Value.run (F := Ideal) m ρ)

end Cert.Proof.DwMixValue

end
-- ==== Proof.DwAttnValue.lean ====
/-
  The value of the backward call `mm_dw_attn_proj`: the gradient of the attention branch's output projection, in eight shards of 256
  columns, each one product over the 4096 tokens, is the gradient the reference program computes.
-/
module

public import proofs.«01_k».proof.Proof.Gen.DwAttnIdeal.Value
public import proofs.«01_k».proof.Proof.Gen.DwAttnRefIdeal.Read
public import proofs.«01_k».proof.Proof.Gen.DwAttnRefIdeal.Run
public import proofs.«01_k».proof.Defs
public import Idealize.ShloMosaic.Lib.Pointwise
public import Idealize.ShloMosaic.Lib.ValueIdx
public import Idealize.ShloMosaic.Lib.ValueLayout

@[expose] public section

noncomputable section

namespace Cert.Proof.DwAttnValue

open Cert.DwAttnIdeal Cert.DwAttnIdeal.Gen Idealize.ShloMosaic Idealize.ShloMosaic.TcCoe Idealize.SL.Sem
open Cert.DwAttnRefIdeal.Read

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The block indices of the windows at a grid point: the whole of the attention's output, and shard `t` of the columns of the
    incoming gradient and of the weight's. -/
theorem idx_facts : ∀ t : Fin cfg0.N,
    (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) :=
  (by decide +kernel : ∀ t : Fin grid0.N, _)

/-- The array index of element `(r, n)` of the block at point `t`. -/
abbrev at_ (t : Fin cfg0.N) (r : Fin 1024) (n : Fin 256) : S8x1024x256.Idx := fun a => match a with
  | ⟨0, _⟩ => ⟨t.val, t.isLt⟩
  | ⟨1, _⟩ => ⟨r.val, r.isLt⟩
  | ⟨2, _⟩ => ⟨n.val, n.isLt⟩

/-- The block product at an element: the sum over the 4096 tokens. -/
theorem pay_apply (v0 : Vec Ideal S4096x1024 .bf16) (v1 : Vec Ideal S4096x256 .bf16) (u : Fin 1) (r : Fin 1024) (n : Fin 256) :
    k0_pay1 (F := Ideal) v0 v1 (ix3 u r n) = ∑ k : Fin 4096, v0 (ix2 k r) * v1 (ix2 k n) := by
  unfold k0_pay1
  simp only [pointwise, zero_add, ValueIdx.shapeCast_ab_1ab_apply]

/-- The reference's weight gradient at an index: the sum over the tokens. -/
theorem ref_apply (x0 : (⟨S4096x1024, .bf16⟩ : BufTy).Contents (Elt Ideal)) (x1 : (⟨S4096x2048, .bf16⟩ : BufTy).Contents (Elt Ideal))
    (i : S8x1024x256.Idx) :
    val_main_v8 (F := Ideal) x0 x1 i = ∑ k : Fin 4096, x0 (fun a => match a with | ⟨0, _⟩ => ⟨k.val, k.isLt⟩ | ⟨1, _⟩ => ⟨(i 1).val, (i 1).isLt⟩)
      * x1 (fun a => match a with
        | ⟨0, _⟩ => ⟨k.val, k.isLt⟩
        | ⟨1, _⟩ => ⟨(i 0).val * 256 + (i 2).val, by
            have h : (i 0).val < 8 := (i 0).isLt; have h' : (i 2).val < 256 := (i 2).isLt; show _ < 2048; omega⟩) := by
  have h0 : (i 0).val < 8 := (i 0).isLt
  have h1 : (i 1).val < 1024 := (i 1).isLt
  have h2 : (i 2).val < 256 := (i 2).isLt
  rw [val_main_v8_apply, val_main_v7_apply, val_main_v6_apply, val_main_v5_apply, val_main_v4_apply]
  refine Finset.sum_congr rfl fun k _ => (mul_comm _ _).trans (congrArg₂ (· * ·) ?_ ?_)
  · rw [val_main_v1_apply]
    refine congrArg x0 (funext fun a => Fin.ext ?_)
    match a with
    | ⟨0, _⟩ => rfl
    | ⟨1, _⟩ => show (((i 1).val * 8 + (i 0).val) * 256 + (i 2).val) / 2048 = (i 1).val; omega
  · rw [val_main_v3_apply]
    refine congrArg x1 (funext fun a => Fin.ext ?_)
    match a with
    | ⟨0, _⟩ => rfl
    | ⟨1, _⟩ => show (((i 1).val * 8 + (i 0).val) * 256 + (i 2).val) % 2048 = (i 0).val * 256 + (i 2).val; omega

/-- Where a block's elements sit in their array: the two argument windows and the result window. -/
theorem emb0 (t : Fin cfg0.N) (k : Fin 4096) (r : Fin 1024) (n : Fin 256) :
    (win0_0.rect t).emb (ix2 k r) = (fun a => match a with | ⟨0, _⟩ => ⟨k.val, k.isLt⟩ | ⟨1, _⟩ => ⟨(at_ t r n 1).val, (at_ t r n 1).isLt⟩ : S4096x1024.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; exact (Nat.zero_mul _).symm ▸ Nat.zero_add _)

theorem emb1 (t : Fin cfg0.N) (k : Fin 4096) (r : Fin 1024) (n : Fin 256) :
    (win0_1.rect t).emb (ix2 k n) = (fun a => match a with
        | ⟨0, _⟩ => ⟨k.val, k.isLt⟩
        | ⟨1, _⟩ => ⟨(at_ t r n 0).val * 256 + (at_ t r n 2).val, by
            have h : (at_ t r n 0).val < 8 := (at_ t r n 0).isLt; have h' : (at_ t r n 2).val < 256 := (at_ t r n 2).isLt; show _ < 2048; omega⟩
        : S4096x2048.Idx) := by
  obtain ⟨-, ⟨h0, h1⟩, -⟩ := idx_facts t
  refine funext fun a => Fin.ext ?_
  match a with
  | ⟨0, _⟩ => exact (win0_1.rect_emb_val t _ 0).trans (by rw [h0]; show 0 * 4096 + k.val = k.val; omega)
  | ⟨1, _⟩ => exact (win0_1.rect_emb_val t _ 1).trans (by rw [h1]; rfl)

theorem emb2 (t : Fin cfg0.N) (r : Fin 1024) (n : Fin 256) : (win0_2.rect t).emb (ix3 0 r n) = at_ t r n := by
  obtain ⟨-, -, h0, h1, h2⟩ := idx_facts t
  refine funext fun a => Fin.ext ?_
  match a with
  | ⟨0, _⟩ => exact (win0_2.rect_emb_val t _ 0).trans (by rw [h0]; exact Nat.mul_one _)
  | ⟨1, _⟩ => exact (win0_2.rect_emb_val t _ 1).trans (by rw [h1]; show 0 * 1024 + r.val = r.val; omega)
  | ⟨2, _⟩ => exact (win0_2.rect_emb_val t _ 2).trans (by rw [h2]; exact (Nat.zero_mul _).symm ▸ Nat.zero_add _)

/-- Every index of the result array is one of a block's elements. -/
theorem onto (i : S8x1024x256.Idx) : ∃ t : Fin cfg0.N, ∃ r n, at_ t r n = i := by
  refine ⟨⟨(i 0).val, (i 0).isLt⟩, ⟨(i 1).val, (i 1).isLt⟩, ⟨(i 2).val, (i 2).isLt⟩, funext fun a => Fin.ext ?_⟩
  match a with
  | ⟨0, _⟩ => rfl
  | ⟨1, _⟩ => rfl
  | ⟨2, _⟩ => rfl

/-- The two argument arrays of a device as launched: the attention's output and the incoming gradient. -/
abbrev A0 (c : Dev nD) : (⟨S4096x1024, .bf16⟩ : BufTy).Contents (Elt Ideal) := m ((c : Thread nD τ).loc main_arg0)
abbrev A1 (c : Dev nD) : (⟨S4096x2048, .bf16⟩ : BufTy).Contents (Elt Ideal) := m ((c : Thread nD τ).loc main_arg1)

/-- The weight gradient: the array after the run is the reference's. -/
theorem final (c : Dev nD) : (dats m 0 c).arrAt 2 cfg0.N = val_main_v8 (F := Ideal) (A0 m c) (A1 m c) := by
  refine (dats m 0 c).arrAt_eq_of_cover 2 _ (fun t hf => ?_) (fun i => ?_)
  · rw [Cert.DwAttnIdeal.Value.flushed2]
    unfold out0_2
    rw [View.canon_unit_zero hz3, View.ld_unit_zero hz, View.ld_unit_zero hz]
    funext y
    obtain ⟨r, n, rfl⟩ : ∃ r n, y = ix3 0 r n := ⟨y 1, y 2, (eq_ix3 y).trans (congrArg (fun u => ix3 u (y 1) (y 2)) (Subsingleton.elim (α := Fin 1) _ _))⟩
    show k0_pay1 (F := Ideal) (iblk m c 0 t) (iblk m c 1 t) (ix3 0 r n) = val_main_v8 (F := Ideal) _ _ ((win0_2.rect t).emb (ix3 0 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwAttnIdeal_DwAttnRefIdeal := by
  intro m g m' g' _ hagree
  refine ⟨fun c => val_main_v8 (F := Ideal) (A0 m c) (A1 m c),
    (θ_run _ _ _).mono (fun r h c => ?_) (Cert.DwAttnIdeal.Value.run_blocks (F := Ideal) m g),
    (θ_run _ _ _).mono (fun r h c => ?_) (Cert.DwAttnRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v8_eq _ _

/-- The reference's own run ends, with its arguments unchanged and every counter at zero. -/
theorem frame_reference : Cert.quiescent_DwAttnRefIdeal := fun m ρ _ =>
  (θ_run Cert.DwAttnRefIdeal.defs _ _).mono (fun r h => ⟨fun c => (h c).2, Idealize.ShloMosaic.sem_eq_zero_of_no_sems (by decide) r.2⟩)
    (Cert.DwAttnRefIdeal.Value.run (F := Ideal) m ρ)

end Cert.Proof.DwAttnValue

end
-- ==== Proof.DwConvValue.lean ====
/-
  The value of the backward call `mm_dw_conv_proj`: the gradient of the convolution branch's output projection, in eight shards of 256
  columns, each one product over the 4096 tokens, is the gradient the reference program computes.
-/
module

public import proofs.«01_k».proof.Proof.Gen.DwConvIdeal.Value
public import proofs.«01_k».proof.Proof.Gen.DwConvRefIdeal.Read
public import proofs.«01_k».proof.Proof.Gen.DwConvRefIdeal.Run
public import proofs.«01_k».proof.Defs
public import Idealize.ShloMosaic.Lib.Pointwise
public import Idealize.ShloMosaic.Lib.ValueIdx
public import Idealize.ShloMosaic.Lib.ValueLayout

@[expose] public section

noncomputable section

namespace Cert.Proof.DwConvValue

open Cert.DwConvIdeal Cert.DwConvIdeal.Gen Idealize.ShloMosaic Idealize.ShloMosaic.TcCoe Idealize.SL.Sem
open Cert.DwConvRefIdeal.Read

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The block indices of the windows at a grid point: the whole of the convolution's output, and shard `t` of the columns of the
    incoming gradient and of the weight's. -/
theorem idx_facts : ∀ t : Fin cfg0.N,
    (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) :=
  (by decide +kernel : ∀ t : Fin grid0.N, _)

/-- The array index of element `(r, n)` of the block at point `t`. -/
abbrev at_ (t : Fin cfg0.N) (r : Fin 1024) (n : Fin 256) : S8x1024x256.Idx := fun a => match a with
  | ⟨0, _⟩ => ⟨t.val, t.isLt⟩
  | ⟨1, _⟩ => ⟨r.val, r.isLt⟩
  | ⟨2, _⟩ => ⟨n.val, n.isLt⟩

/-- The block product at an element: the sum over the 4096 tokens. -/
theorem pay_apply (v0 : Vec Ideal S4096x1024 .bf16) (v1 : Vec Ideal S4096x256 .bf16) (u : Fin 1) (r : Fin 1024) (n : Fin 256) :
    k0_pay1 (F := Ideal) v0 v1 (ix3 u r n) = ∑ k : Fin 4096, v0 (ix2 k r) * v1 (ix2 k n) := by
  unfold k0_pay1
  simp only [pointwise, zero_add, ValueIdx.shapeCast_ab_1ab_apply]

/-- The reference's weight gradient at an index: the sum over the tokens. -/
theorem ref_apply (x0 : (⟨S4096x1024, .bf16⟩ : BufTy).Contents (Elt Ideal)) (x1 : (⟨S4096x2048, .bf16⟩ : BufTy).Contents (Elt Ideal))
    (i : S8x1024x256.Idx) :
    val_main_v8 (F := Ideal) x0 x1 i = ∑ k : Fin 4096, x0 (fun a => match a with | ⟨0, _⟩ => ⟨k.val, k.isLt⟩ | ⟨1, _⟩ => ⟨(i 1).val, (i 1).isLt⟩)
      * x1 (fun a => match a with
        | ⟨0, _⟩ => ⟨k.val, k.isLt⟩
        | ⟨1, _⟩ => ⟨(i 0).val * 256 + (i 2).val, by
            have h : (i 0).val < 8 := (i 0).isLt; have h' : (i 2).val < 256 := (i 2).isLt; show _ < 2048; omega⟩) := by
  have h0 : (i 0).val < 8 := (i 0).isLt
  have h1 : (i 1).val < 1024 := (i 1).isLt
  have h2 : (i 2).val < 256 := (i 2).isLt
  rw [val_main_v8_apply, val_main_v7_apply, val_main_v6_apply, val_main_v5_apply, val_main_v4_apply]
  refine Finset.sum_congr rfl fun k _ => (mul_comm _ _).trans (congrArg₂ (· * ·) ?_ ?_)
  · rw [val_main_v1_apply]
    refine congrArg x0 (funext fun a => Fin.ext ?_)
    match a with
    | ⟨0, _⟩ => rfl
    | ⟨1, _⟩ => show (((i 1).val * 8 + (i 0).val) * 256 + (i 2).val) / 2048 = (i 1).val; omega
  · rw [val_main_v3_apply]
    refine congrArg x1 (funext fun a => Fin.ext ?_)
    match a with
    | ⟨0, _⟩ => rfl
    | ⟨1, _⟩ => show (((i 1).val * 8 + (i 0).val) * 256 + (i 2).val) % 2048 = (i 0).val * 256 + (i 2).val; omega

/-- Where a block's elements sit in their array: the two argument windows and the result window. -/
theorem emb0 (t : Fin cfg0.N) (k : Fin 4096) (r : Fin 1024) (n : Fin 256) :
    (win0_0.rect t).emb (ix2 k r) = (fun a => match a with | ⟨0, _⟩ => ⟨k.val, k.isLt⟩ | ⟨1, _⟩ => ⟨(at_ t r n 1).val, (at_ t r n 1).isLt⟩ : S4096x1024.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; exact (Nat.zero_mul _).symm ▸ Nat.zero_add _)

theorem emb1 (t : Fin cfg0.N) (k : Fin 4096) (r : Fin 1024) (n : Fin 256) :
    (win0_1.rect t).emb (ix2 k n) = (fun a => match a with
        | ⟨0, _⟩ => ⟨k.val, k.isLt⟩
        | ⟨1, _⟩ => ⟨(at_ t r n 0).val * 256 + (at_ t r n 2).val, by
            have h : (at_ t r n 0).val < 8 := (at_ t r n 0).isLt; have h' : (at_ t r n 2).val < 256 := (at_ t r n 2).isLt; show _ < 2048; omega⟩
        : S4096x2048.Idx) := by
  obtain ⟨-, ⟨h0, h1⟩, -⟩ := idx_facts t
  refine funext fun a => Fin.ext ?_
  match a with
  | ⟨0, _⟩ => exact (win0_1.rect_emb_val t _ 0).trans (by rw [h0]; show 0 * 4096 + k.val = k.val; omega)
  | ⟨1, _⟩ => exact (win0_1.rect_emb_val t _ 1).trans (by rw [h1]; rfl)

theorem emb2 (t : Fin cfg0.N) (r : Fin 1024) (n : Fin 256) : (win0_2.rect t).emb (ix3 0 r n) = at_ t r n := by
  obtain ⟨-, -, h0, h1, h2⟩ := idx_facts t
  refine funext fun a => Fin.ext ?_
  match a with
  | ⟨0, _⟩ => exact (win0_2.rect_emb_val t _ 0).trans (by rw [h0]; exact Nat.mul_one _)
  | ⟨1, _⟩ => exact (win0_2.rect_emb_val t _ 1).trans (by rw [h1]; show 0 * 1024 + r.val = r.val; omega)
  | ⟨2, _⟩ => exact (win0_2.rect_emb_val t _ 2).trans (by rw [h2]; exact (Nat.zero_mul _).symm ▸ Nat.zero_add _)

/-- Every index of the result array is one of a block's elements. -/
theorem onto (i : S8x1024x256.Idx) : ∃ t : Fin cfg0.N, ∃ r n, at_ t r n = i := by
  refine ⟨⟨(i 0).val, (i 0).isLt⟩, ⟨(i 1).val, (i 1).isLt⟩, ⟨(i 2).val, (i 2).isLt⟩, funext fun a => Fin.ext ?_⟩
  match a with
  | ⟨0, _⟩ => rfl
  | ⟨1, _⟩ => rfl
  | ⟨2, _⟩ => rfl

/-- The two argument arrays of a device as launched: the convolution's output and the incoming gradient. -/
abbrev A0 (c : Dev nD) : (⟨S4096x1024, .bf16⟩ : BufTy).Contents (Elt Ideal) := m ((c : Thread nD τ).loc main_arg0)
abbrev A1 (c : Dev nD) : (⟨S4096x2048, .bf16⟩ : BufTy).Contents (Elt Ideal) := m ((c : Thread nD τ).loc main_arg1)

/-- The weight gradient: the array after the run is the reference's. -/
theorem final (c : Dev nD) : (dats m 0 c).arrAt 2 cfg0.N = val_main_v8 (F := Ideal) (A0 m c) (A1 m c) := by
  refine (dats m 0 c).arrAt_eq_of_cover 2 _ (fun t hf => ?_) (fun i => ?_)
  · rw [Cert.DwConvIdeal.Value.flushed2]
    unfold out0_2
    rw [View.canon_unit_zero hz3, View.ld_unit_zero hz, View.ld_unit_zero hz]
    funext y
    obtain ⟨r, n, rfl⟩ : ∃ r n, y = ix3 0 r n := ⟨y 1, y 2, (eq_ix3 y).trans (congrArg (fun u => ix3 u (y 1) (y 2)) (Subsingleton.elim (α := Fin 1) _ _))⟩
    show k0_pay1 (F := Ideal) (iblk m c 0 t) (iblk m c 1 t) (ix3 0 r n) = val_main_v8 (F := Ideal) _ _ ((win0_2.rect t).emb (ix3 0 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwConvIdeal_DwConvRefIdeal := by
  intro m g m' g' _ hagree
  refine ⟨fun c => val_main_v8 (F := Ideal) (A0 m c) (A1 m c),
    (θ_run _ _ _).mono (fun r h c => ?_) (Cert.DwConvIdeal.Value.run_blocks (F := Ideal) m g),
    (θ_run _ _ _).mono (fun r h c => ?_) (Cert.DwConvRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v8_eq _ _

/-- The reference's own run ends, with its arguments unchanged and every counter at zero. -/
theorem frame_reference : Cert.quiescent_DwConvRefIdeal := fun m ρ _ =>
  (θ_run Cert.DwConvRefIdeal.defs _ _).mono (fun r h => ⟨fun c => (h c).2, Idealize.ShloMosaic.sem_eq_zero_of_no_sems (by decide) r.2⟩)
    (Cert.DwConvRefIdeal.Value.run (F := Ideal) m ρ)

end Cert.Proof.DwConvValue

end
-- ==== Proof.DoAttnValue.lean ====
/-
  The value of the backward call `mm_do_attn`: the gradient of the attention's output. Each block of 1024 rows is one product over the 2048
  columns of the model width. It is the gradient the reference program computes.
-/
module

public import proofs.«01_k».proof.Proof.Gen.DoAttnIdeal.Value
public import proofs.«01_k».proof.Proof.Gen.DoAttnRefIdeal.Read
public import proofs.«01_k».proof.Proof.Gen.DoAttnRefIdeal.Run
public import proofs.«01_k».proof.Defs
public import proofs.«01_k».proof.Proof.Chunks

@[expose] public section

noncomputable section

namespace Cert.Proof.DoAttnValue

open Cert.DoAttnIdeal Cert.DoAttnIdeal.Gen Idealize.ShloMosaic Idealize.ShloMosaic.TcCoe Idealize.SL.Sem
open Cert.DoAttnRefIdeal.Read

variable (m : (ℓ : Loc nD τ sig) → Buf (Elt Ideal) ℓ)

/-- The block indices of the windows at a grid point: row block `t` of the incoming gradient, the whole weight, and row block `t`
    of the result. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The array index of element `(r, n)` of the block at point `t`. -/
abbrev at_ (t : Fin cfg0.N) (r : Fin 1024) (n : Fin 1024) : S4096x1024.Idx := fun a => match a with
  | ⟨0, _⟩ => ⟨t.val * 1024 + r.val, by have h : t.val < 4 := t.isLt; have := r.isLt; show _ < 4096; omega⟩
  | ⟨1, _⟩ => ⟨n.val, n.isLt⟩

/-- The block product at an element: the sum over the 2048 columns. -/
theorem pay_apply (v0 : Vec Ideal S1024x2048 .bf16) (v1 : Vec Ideal S1024x2048 .bf16) (r : Fin 1024) (n : Fin 1024) :
    k0_pay1 (F := Ideal) v0 v1 (ix2 r n) = ∑ k : Fin 2048, v0 (ix2 r k) * v1 (ix2 n k) := by
  unfold k0_pay1
  simp only [pointwise, zero_add, shapeCast_self]

/-- The reference's gradient at an index: the sum over the 2048 columns. -/
theorem ref_apply (x0 : (⟨S4096x2048, .bf16⟩ : BufTy).Contents (Elt Ideal)) (x1 : (⟨S1024x2048, .bf16⟩ : BufTy).Contents (Elt Ideal))
    (i : S4096x1024.Idx) :
    val_main_v5 (F := Ideal) x0 x1 i = ∑ k : Fin 2048, x0 (fun a => match a with | ⟨0, _⟩ => ⟨(i 0).val, (i 0).isLt⟩ | ⟨1, _⟩ => ⟨k.val, k.isLt⟩)
      * x1 (fun a => match a with | ⟨0, _⟩ => ⟨(i 1).val, (i 1).isLt⟩ | ⟨1, _⟩ => ⟨k.val, k.isLt⟩) := by
  rw [val_main_v5_apply]
  exact val_main_v4_apply x0 x1 i

/-- Where a block's elements sit in their array: the two argument windows and the result window. -/
theorem emb0 (t : Fin cfg0.N) (k : Fin 2048) (r : Fin 1024) (n : Fin 1024) :
    (win0_0.rect t).emb (ix2 r k) = (fun a => match a with | ⟨0, _⟩ => ⟨(at_ t r n 0).val, (at_ t r n 0).isLt⟩ | ⟨1, _⟩ => ⟨k.val, k.isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 2048) (r : Fin 1024) (n : Fin 1024) :
    (win0_1.rect t).emb (ix2 n k) = (fun a => match a with | ⟨0, _⟩ => ⟨(at_ t r n 1).val, (at_ t r n 1).isLt⟩ | ⟨1, _⟩ => ⟨k.val, k.isLt⟩ : S1024x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb2 (t : Fin cfg0.N) (r : Fin 1024) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; exact (Nat.zero_mul _).symm ▸ Nat.zero_add _)

/-- Every index of the result array is one of a block's elements. -/
theorem onto (i : S4096x1024.Idx) : ∃ t : Fin cfg0.N, ∃ r n, at_ t r n = i := by
  have h0 : (i 0).val < 4096 := (i 0).isLt
  refine ⟨⟨(i 0).val / 1024, by show _ < 4; omega⟩, ⟨(i 0).val % 1024, by omega⟩, ⟨(i 1).val, (i 1).isLt⟩, funext fun a => Fin.ext ?_⟩
  match a with
  | ⟨0, _⟩ => show (i 0).val / 1024 * 1024 + (i 0).val % 1024 = (i 0).val; omega
  | ⟨1, _⟩ => rfl

/-- The two argument arrays of a device as launched: the incoming gradient and the weight. -/
abbrev A0 (c : Dev nD) : (⟨S4096x2048, .bf16⟩ : BufTy).Contents (Elt Ideal) := m ((c : Thread nD τ).loc main_arg0)
abbrev A1 (c : Dev nD) : (⟨S1024x2048, .bf16⟩ : BufTy).Contents (Elt Ideal) := m ((c : Thread nD τ).loc main_arg1)

/-- The gradient: the array after the run is the reference's. -/
theorem final (c : Dev nD) : (dats m 0 c).arrAt 2 cfg0.N = val_main_v5 (F := Ideal) (A0 m c) (A1 m c) := by
  refine (dats m 0 c).arrAt_eq_of_cover 2 _ (fun t hf => ?_) (fun i => ?_)
  · rw [Cert.DoAttnIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v5 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DoAttnIdeal_DoAttnRefIdeal := by
  intro m g m' g' _ hagree
  refine ⟨fun c => val_main_v5 (F := Ideal) (A0 m c) (A1 m c),
    (θ_run _ _ _).mono (fun r h c => ?_) (Cert.DoAttnIdeal.Value.run_blocks (F := Ideal) m g),
    (θ_run _ _ _).mono (fun r h c => ?_) (Cert.DoAttnRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v5_eq _ _

/-- The reference's own run ends, with its arguments unchanged and every counter at zero. -/
theorem frame_reference : Cert.quiescent_DoAttnRefIdeal := fun m ρ _ =>
  (θ_run Cert.DoAttnRefIdeal.defs _ _).mono (fun r h => ⟨fun c => (h c).2, Idealize.ShloMosaic.sem_eq_zero_of_no_sems (by decide) r.2⟩)
    (Cert.DoAttnRefIdeal.Value.run (F := Ideal) m ρ)

end Cert.Proof.DoAttnValue

end
-- ==== Proof.DcyValue.lean ====
/-
  The value of the backward call `mm_dcy`: the gradient of the convolution's output. Each block of 1024 rows is one product over the 2048
  columns of the model width. It is the gradient the reference program computes.
-/
module

public import proofs.«01_k».proof.Proof.Gen.DcyIdeal.Value
public import proofs.«01_k».proof.Proof.Gen.DcyRefIdeal.Read
public import proofs.«01_k».proof.Proof.Gen.DcyRefIdeal.Run
public import proofs.«01_k».proof.Defs
public import proofs.«01_k».proof.Proof.Chunks

@[expose] public section

noncomputable section

namespace Cert.Proof.DcyValue

open Cert.DcyIdeal Cert.DcyIdeal.Gen Idealize.ShloMosaic Idealize.ShloMosaic.TcCoe Idealize.SL.Sem
open Cert.DcyRefIdeal.Read

variable (m : (ℓ : Loc nD τ sig) → Buf (Elt Ideal) ℓ)

/-- The block indices of the windows at a grid point: row block `t` of the incoming gradient, the whole weight, and row block `t`
    of the result. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The array index of element `(r, n)` of the block at point `t`. -/
abbrev at_ (t : Fin cfg0.N) (r : Fin 1024) (n : Fin 1024) : S4096x1024.Idx := fun a => match a with
  | ⟨0, _⟩ => ⟨t.val * 1024 + r.val, by have h : t.val < 4 := t.isLt; have := r.isLt; show _ < 4096; omega⟩
  | ⟨1, _⟩ => ⟨n.val, n.isLt⟩

/-- The block product at an element: the sum over the 2048 columns. -/
theorem pay_apply (v0 : Vec Ideal S1024x2048 .bf16) (v1 : Vec Ideal S1024x2048 .bf16) (r : Fin 1024) (n : Fin 1024) :
    k0_pay1 (F := Ideal) v0 v1 (ix2 r n) = ∑ k : Fin 2048, v0 (ix2 r k) * v1 (ix2 n k) := by
  unfold k0_pay1
  simp only [pointwise, zero_add, shapeCast_self]

/-- The reference's gradient at an index: the sum over the 2048 columns. -/
theorem ref_apply (x0 : (⟨S4096x2048, .bf16⟩ : BufTy).Contents (Elt Ideal)) (x1 : (⟨S1024x2048, .bf16⟩ : BufTy).Contents (Elt Ideal))
    (i : S4096x1024.Idx) :
    val_main_v4 (F := Ideal) x0 x1 i = ∑ k : Fin 2048, x0 (fun a => match a with | ⟨0, _⟩ => ⟨(i 0).val, (i 0).isLt⟩ | ⟨1, _⟩ => ⟨k.val, k.isLt⟩)
      * x1 (fun a => match a with | ⟨0, _⟩ => ⟨(i 1).val, (i 1).isLt⟩ | ⟨1, _⟩ => ⟨k.val, k.isLt⟩) := by
  exact val_main_v4_apply x0 x1 i

/-- Where a block's elements sit in their array: the two argument windows and the result window. -/
theorem emb0 (t : Fin cfg0.N) (k : Fin 2048) (r : Fin 1024) (n : Fin 1024) :
    (win0_0.rect t).emb (ix2 r k) = (fun a => match a with | ⟨0, _⟩ => ⟨(at_ t r n 0).val, (at_ t r n 0).isLt⟩ | ⟨1, _⟩ => ⟨k.val, k.isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 2048) (r : Fin 1024) (n : Fin 1024) :
    (win0_1.rect t).emb (ix2 n k) = (fun a => match a with | ⟨0, _⟩ => ⟨(at_ t r n 1).val, (at_ t r n 1).isLt⟩ | ⟨1, _⟩ => ⟨k.val, k.isLt⟩ : S1024x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb2 (t : Fin cfg0.N) (r : Fin 1024) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; exact (Nat.zero_mul _).symm ▸ Nat.zero_add _)

/-- Every index of the result array is one of a block's elements. -/
theorem onto (i : S4096x1024.Idx) : ∃ t : Fin cfg0.N, ∃ r n, at_ t r n = i := by
  have h0 : (i 0).val < 4096 := (i 0).isLt
  refine ⟨⟨(i 0).val / 1024, by show _ < 4; omega⟩, ⟨(i 0).val % 1024, by omega⟩, ⟨(i 1).val, (i 1).isLt⟩, funext fun a => Fin.ext ?_⟩
  match a with
  | ⟨0, _⟩ => show (i 0).val / 1024 * 1024 + (i 0).val % 1024 = (i 0).val; omega
  | ⟨1, _⟩ => rfl

/-- The two argument arrays of a device as launched: the incoming gradient and the weight. -/
abbrev A0 (c : Dev nD) : (⟨S4096x2048, .bf16⟩ : BufTy).Contents (Elt Ideal) := m ((c : Thread nD τ).loc main_arg0)
abbrev A1 (c : Dev nD) : (⟨S1024x2048, .bf16⟩ : BufTy).Contents (Elt Ideal) := m ((c : Thread nD τ).loc main_arg1)

/-- The gradient: the array after the run is the reference's. -/
theorem final (c : Dev nD) : (dats m 0 c).arrAt 2 cfg0.N = val_main_v4 (F := Ideal) (A0 m c) (A1 m c) := by
  refine (dats m 0 c).arrAt_eq_of_cover 2 _ (fun t hf => ?_) (fun i => ?_)
  · rw [Cert.DcyIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v4 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DcyIdeal_DcyRefIdeal := by
  intro m g m' g' _ hagree
  refine ⟨fun c => val_main_v4 (F := Ideal) (A0 m c) (A1 m c),
    (θ_run _ _ _).mono (fun r h c => ?_) (Cert.DcyIdeal.Value.run_blocks (F := Ideal) m g),
    (θ_run _ _ _).mono (fun r h c => ?_) (Cert.DcyRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v4_eq _ _

/-- The reference's own run ends, with its arguments unchanged and every counter at zero. -/
theorem frame_reference : Cert.quiescent_DcyRefIdeal := fun m ρ _ =>
  (θ_run Cert.DcyRefIdeal.defs _ _).mono (fun r h => ⟨fun c => (h c).2, Idealize.ShloMosaic.sem_eq_zero_of_no_sems (by decide) r.2⟩)
    (Cert.DcyRefIdeal.Value.run (F := Ideal) m ρ)

end Cert.Proof.DcyValue

end
-- ==== Proof.AttnProjValue.lean ====
/-
  The value of the forward call `mm_attn_proj`: the attention branch's output projection, each block of 1024 x 1024 elements one
  product over the 1024 columns of the attention's output. It is the projection the reference program computes.
-/
module

public import proofs.«01_k».proof.Proof.Gen.AttnProjIdeal.Value
public import proofs.«01_k».proof.Proof.Gen.AttnProjRefIdeal.Read
public import proofs.«01_k».proof.Proof.Gen.AttnProjRefIdeal.Run
public import proofs.«01_k».proof.Defs
public import proofs.«01_k».proof.Proof.Chunks

@[expose] public section

noncomputable section

namespace Cert.Proof.AttnProjValue

open Cert.AttnProjIdeal Cert.AttnProjIdeal.Gen Idealize.ShloMosaic Idealize.ShloMosaic.TcCoe Idealize.SL.Sem
open Cert.AttnProjRefIdeal.Read

variable (m : (ℓ : Loc nD τ sig) → Buf (Elt Ideal) ℓ)

/-- The block indices of the windows at a grid point: row block `t / 2` of the attention's output, column block `t % 2` of the
    weight, and the block of the result at both. -/
theorem idx_facts : ∀ t : Fin cfg0.N,
    (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) :=
  (by decide +kernel : ∀ t : Fin grid0.N, _)

/-- The array index of element `(r, n)` of the block at point `t`. -/
abbrev at_ (t : Fin cfg0.N) (r : Fin 1024) (n : Fin 1024) : S4096x2048.Idx := fun a => match a with
  | ⟨0, _⟩ => ⟨t.val / 2 * 1024 + r.val, by have h : t.val < 8 := t.isLt; have := r.isLt; show _ < 4096; omega⟩
  | ⟨1, _⟩ => ⟨t.val % 2 * 1024 + n.val, by have := n.isLt; show _ < 2048; omega⟩

/-- The block at an element: the sum over the 1024 columns. -/
theorem pay_apply (v0 : Vec Ideal S1024x1024 .bf16) (v1 : Vec Ideal S1024x1024 .bf16) (r : Fin 1024) (n : Fin 1024) :
    k0_pay1 (F := Ideal) v0 v1 (ix2 r n) = ∑ k : Fin 1024, v0 (ix2 r k) * v1 (ix2 k n) := by
  unfold k0_pay1
  simp only [pointwise, zero_add]

/-- Where a block's elements sit in their array: the two argument windows and the result window. -/
theorem emb0 (t : Fin cfg0.N) (k : Fin 1024) (r : Fin 1024) (n : Fin 1024) :
    (win0_0.rect t).emb (ix2 r k) = (fun a => match a with | ⟨0, _⟩ => ⟨(at_ t r n 0).val, (at_ t r n 0).isLt⟩ | ⟨1, _⟩ => ⟨k.val, k.isLt⟩ : S4096x1024.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 1024) (r : Fin 1024) (n : Fin 1024) :
    (win0_1.rect t).emb (ix2 k n) = (fun a => match a with | ⟨0, _⟩ => ⟨k.val, k.isLt⟩ | ⟨1, _⟩ => ⟨(at_ t r n 1).val, (at_ t r n 1).isLt⟩ : S1024x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; rfl)

theorem emb2 (t : Fin cfg0.N) (r : Fin 1024) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; rfl)

/-- Every index of the result array is one of a block's elements. -/
theorem onto (i : S4096x2048.Idx) : ∃ t : Fin cfg0.N, ∃ r n, at_ t r n = i := by
  have h0 : (i 0).val < 4096 := (i 0).isLt
  have h1 : (i 1).val < 2048 := (i 1).isLt
  refine ⟨⟨(i 0).val / 1024 * 2 + (i 1).val / 1024, by show _ < 8; omega⟩, ⟨(i 0).val % 1024, by omega⟩, ⟨(i 1).val % 1024, by omega⟩,
    funext fun a => Fin.ext ?_⟩
  match a with
  | ⟨0, _⟩ => show ((i 0).val / 1024 * 2 + (i 1).val / 1024) / 2 * 1024 + (i 0).val % 1024 = (i 0).val; omega
  | ⟨1, _⟩ => show ((i 0).val / 1024 * 2 + (i 1).val / 1024) % 2 * 1024 + (i 1).val % 1024 = (i 1).val; omega

/-- The two argument arrays of a device as launched: the attention's output and the weight. -/
abbrev A0 (c : Dev nD) : (⟨S4096x1024, .bf16⟩ : BufTy).Contents (Elt Ideal) := m ((c : Thread nD τ).loc main_arg0)
abbrev A1 (c : Dev nD) : (⟨S1024x2048, .bf16⟩ : BufTy).Contents (Elt Ideal) := m ((c : Thread nD τ).loc main_arg1)

/-- The projection: the array after the run is the reference's. -/
theorem final (c : Dev nD) : (dats m 0 c).arrAt 2 cfg0.N = val_main_v2 (F := Ideal) (A0 m c) (A1 m c) := by
  refine (dats m 0 c).arrAt_eq_of_cover 2 _ (fun t hf => ?_) (fun i => ?_)
  · rw [Cert.AttnProjIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v2 (F := Ideal) _ _ ((win0_2.rect t).emb (ix2 r n))
    rw [emb2, pay_apply, val_main_v2_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's projection: started with the same arguments, both programs' runs end with the same result
    and with the arguments unchanged. -/
theorem algebraic : Cert.algebraic_AttnProjIdeal_AttnProjRefIdeal := by
  intro m g m' g' _ hagree
  refine ⟨fun c => val_main_v2 (F := Ideal) (A0 m c) (A1 m c),
    (θ_run _ _ _).mono (fun r h c => ?_) (Cert.AttnProjIdeal.Value.run_blocks (F := Ideal) m g),
    (θ_run _ _ _).mono (fun r h c => ?_) (Cert.AttnProjRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v2_eq _ _

/-- The reference's own run ends, with its arguments unchanged and every counter at zero. -/
theorem frame_reference : Cert.quiescent_AttnProjRefIdeal := fun m ρ _ =>
  (θ_run Cert.AttnProjRefIdeal.defs _ _).mono (fun r h => ⟨fun c => (h c).2, Idealize.ShloMosaic.sem_eq_zero_of_no_sems (by decide) r.2⟩)
    (Cert.AttnProjRefIdeal.Value.run (F := Ideal) m ρ)

end Cert.Proof.AttnProjValue

end
-- ==== Proof.ConvProjValue.lean ====
/-
  The value of the forward call `mm_conv_proj`: the convolution branch's output projection and the two branches gated and added.
  Each block of 1024 x 512 elements is one product over the 1024 columns of the convolution's output; the second result adds the
  attention branch's block times its gate's sigmoid to the product times the other gate's sigmoid. Both are the results the
  reference program computes.
-/
module

public import proofs.«01_k».proof.Proof.Gen.ConvProjIdeal.Value
public import proofs.«01_k».proof.Proof.Gen.ConvProjRefIdeal.Read
public import proofs.«01_k».proof.Proof.Gen.ConvProjRefIdeal.Run
public import proofs.«01_k».proof.Defs
public import proofs.«01_k».proof.Proof.Chunks

@[expose] public section

noncomputable section

namespace Cert.Proof.ConvProjValue

open Cert.ConvProjIdeal Cert.ConvProjIdeal.Gen Idealize.ShloMosaic Idealize.ShloMosaic.TcCoe Idealize.SL.Sem
open Cert.ConvProjRefIdeal.Read

variable (m : (ℓ : Loc nD τ sig) → Buf (Elt Ideal) ℓ)

/-- The block indices of the windows at a grid point: row block `t / 4` of the convolution's output, column block `t % 4` of the
    weight, the two gates' blocks in the projection, and the blocks of the attention branch and of both results. -/
theorem idx_facts : ∀ t : Fin cfg0.N,
    (win0_0.index t 0 = t.val / 4 ∧ win0_0.index t 1 = 0) ∧ (win0_1.index t 0 = 0 ∧ win0_1.index t 1 = t.val % 4)
    ∧ (win0_2.index t 0 = t.val / 4 ∧ win0_2.index t 1 = 9 + t.val % 4) ∧ (win0_3.index t 0 = t.val / 4 ∧ win0_3.index t 1 = 13 + t.val % 4)
    ∧ (win0_4.index t 0 = t.val / 4 ∧ win0_4.index t 1 = t.val % 4) ∧ (win0_5.index t 0 = t.val / 4 ∧ win0_5.index t 1 = t.val % 4)
    ∧ (win0_6.index t 0 = t.val / 4 ∧ win0_6.index t 1 = t.val % 4) :=
  (by decide +kernel : ∀ t : Fin grid0.N, _)

/-- The array index of element `(r, n)` of the block at point `t`. -/
abbrev at_ (t : Fin cfg0.N) (r : Fin 1024) (n : Fin 512) : S4096x2048.Idx := fun a => match a with
  | ⟨0, _⟩ => ⟨t.val / 4 * 1024 + r.val, by have h : t.val < 16 := t.isLt; have := r.isLt; show _ < 4096; omega⟩
  | ⟨1, _⟩ => ⟨t.val % 4 * 512 + n.val, by have := n.isLt; show _ < 2048; omega⟩

/-- The sigmoid both programs take. -/
abbrev sgm (x : EReal) : EReal := Ideal.div 1 (1 + Ideal.exp (-x))

/-- The product's block at an element, and the gated sum's. -/
theorem pay1_apply (v0 : Vec Ideal S1024x1024 .bf16) (v1 : Vec Ideal S1024x512 .bf16) (r : Fin 1024) (n : Fin 512) :
    k0_pay1 (F := Ideal) v0 v1 (ix2 r n) = ∑ k : Fin 1024, v0 (ix2 r k) * v1 (ix2 k n) := by
  unfold k0_pay1
  simp only [pointwise, zero_add]

theorem pay2_apply (v0 : Vec Ideal S1024x1024 .bf16) (v1 : Vec Ideal S1024x512 .bf16) (v4 v12 v14 : Vec Ideal S1024x512 .f32) (y : S1024x512.Idx) :
    k0_pay2 (F := Ideal) v0 v1 v4 v12 v14 y = sgm (v4 y) * v12 y + sgm (v14 y) * k0_pay1 (F := Ideal) v0 v1 y := by
  unfold k0_pay2
  simp only [pointwise, zero_sub]

/-- The reference's gated sum at an index. -/
theorem ref_apply (x0 : (⟨S4096x1024, .bf16⟩ : BufTy).Contents (Elt Ideal)) (x1 : (⟨S1024x2048, .bf16⟩ : BufTy).Contents (Elt Ideal))
    (x2 : (⟨S4096x8704, .f32⟩ : BufTy).Contents (Elt Ideal)) (x3 : (⟨S4096x2048, .f32⟩ : BufTy).Contents (Elt Ideal)) (i : S4096x2048.Idx) :
    val_main_v20 (F := Ideal) x0 x1 x2 x3 i
      = sgm (x2 (idx_main_v0 i)) * x3 i + sgm (x2 (idx_main_v1 i)) * val_main_v4 (F := Ideal) x0 x1 i := by
  rw [val_main_v20_apply, val_main_v19_apply, val_main_v18_apply, val_main_v17_apply, val_main_v16_apply, val_main_cst_2_apply,
    val_main_v15_apply, val_main_v14_apply, val_main_cst_1_apply, val_main_v13_apply, val_main_v12_apply, val_main_v11_apply,
    val_main_v10_apply, val_main_v9_apply, val_main_cst_0_apply, val_main_v8_apply, val_main_v7_apply, val_main_cst_apply,
    val_main_v6_apply, val_main_v5_apply, val_main_v1_apply, val_main_v0_apply]
  simp only [pointwise]

/-- Where a block's elements sit in their array: the five argument windows and the two result windows. -/
theorem emb0 (t : Fin cfg0.N) (k : Fin 1024) (r : Fin 1024) (n : Fin 512) :
    (win0_0.rect t).emb (ix2 r k) = (fun a => match a with | ⟨0, _⟩ => ⟨(at_ t r n 0).val, (at_ t r n 0).isLt⟩ | ⟨1, _⟩ => ⟨k.val, k.isLt⟩ : S4096x1024.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 1024) (r : Fin 1024) (n : Fin 512) :
    (win0_1.rect t).emb (ix2 k n) = (fun a => match a with | ⟨0, _⟩ => ⟨k.val, k.isLt⟩ | ⟨1, _⟩ => ⟨(at_ t r n 1).val, (at_ t r n 1).isLt⟩ : S1024x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; rfl)

theorem emb2 (t : Fin cfg0.N) (r : Fin 1024) (n : Fin 512) : (win0_2.rect t).emb (ix2 r n) = idx_main_v0 (at_ t r n) := by
  obtain ⟨-, -, ⟨h0, h1⟩, -⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; show (9 + t.val % 4) * 512 + n.val = 4608 + (t.val % 4 * 512 + n.val); omega)

theorem emb3 (t : Fin cfg0.N) (r : Fin 1024) (n : Fin 512) : (win0_3.rect t).emb (ix2 r n) = idx_main_v1 (at_ t r n) := by
  obtain ⟨-, -, -, ⟨h0, h1⟩, -⟩ := idx_facts t
  refine funext fun a => Fin.ext ?_
  match a with
  | ⟨0, _⟩ => exact (win0_3.rect_emb_val t _ 0).trans (by rw [h0]; rfl)
  | ⟨1, _⟩ => exact (win0_3.rect_emb_val t _ 1).trans (by rw [h1]; show (13 + t.val % 4) * 512 + n.val = 6656 + (t.val % 4 * 512 + n.val); omega)

theorem emb456 (t : Fin cfg0.N) (r : Fin 1024) (n : Fin 512) :
    (win0_4.rect t).emb (ix2 r n) = at_ t r n ∧ (win0_5.rect t).emb (ix2 r n) = at_ t r n ∧ (win0_6.rect t).emb (ix2 r n) = at_ t r n := by
  obtain ⟨-, -, -, -, ⟨h0, h1⟩, ⟨h2, h3⟩, h4, h5⟩ := idx_facts t
  refine ⟨funext fun a => Fin.ext ?_, funext fun a => Fin.ext ?_, funext fun a => Fin.ext ?_⟩
  · match a with
    | ⟨0, _⟩ => exact (win0_4.rect_emb_val t _ 0).trans (by rw [h0]; rfl)
    | ⟨1, _⟩ => exact (win0_4.rect_emb_val t _ 1).trans (by rw [h1]; rfl)
  · match a with
    | ⟨0, _⟩ => exact (win0_5.rect_emb_val t _ 0).trans (by rw [h2]; rfl)
    | ⟨1, _⟩ => exact (win0_5.rect_emb_val t _ 1).trans (by rw [h3]; rfl)
  · match a with
    | ⟨0, _⟩ => exact (win0_6.rect_emb_val t _ 0).trans (by rw [h4]; rfl)
    | ⟨1, _⟩ => exact (win0_6.rect_emb_val t _ 1).trans (by rw [h5]; rfl)

/-- Every index of a result array is one of a block's elements. -/
theorem onto (i : S4096x2048.Idx) : ∃ t : Fin cfg0.N, ∃ r n, at_ t r n = i := by
  have h0 : (i 0).val < 4096 := (i 0).isLt
  have h1 : (i 1).val < 2048 := (i 1).isLt
  refine ⟨⟨(i 0).val / 1024 * 4 + (i 1).val / 512, by show _ < 16; omega⟩, ⟨(i 0).val % 1024, by omega⟩, ⟨(i 1).val % 512, by omega⟩,
    funext fun a => Fin.ext ?_⟩
  match a with
  | ⟨0, _⟩ => show ((i 0).val / 1024 * 4 + (i 1).val / 512) / 4 * 1024 + (i 0).val % 1024 = (i 0).val; omega
  | ⟨1, _⟩ => show ((i 0).val / 1024 * 4 + (i 1).val / 512) % 4 * 512 + (i 1).val % 512 = (i 1).val; omega

/-- The four argument arrays of a device as launched: the convolution's output, the weight, the projection and the attention
    branch's output. -/
abbrev A0 (c : Dev nD) : (⟨S4096x1024, .bf16⟩ : BufTy).Contents (Elt Ideal) := m ((c : Thread nD τ).loc main_arg0)
abbrev A1 (c : Dev nD) : (⟨S1024x2048, .bf16⟩ : BufTy).Contents (Elt Ideal) := m ((c : Thread nD τ).loc main_arg1)
abbrev A2 (c : Dev nD) : (⟨S4096x8704, .f32⟩ : BufTy).Contents (Elt Ideal) := m ((c : Thread nD τ).loc main_arg2)
abbrev A3 (c : Dev nD) : (⟨S4096x2048, .f32⟩ : BufTy).Contents (Elt Ideal) := m ((c : Thread nD τ).loc main_arg3)

/-- The product's block at an element is the reference's product at its array index. -/
theorem product_eq (c : Dev nD) (t : Fin cfg0.N) (r : Fin 1024) (n : Fin 512) :
    k0_pay1 (F := Ideal) (iblk m c 0 t) (iblk m c 1 t) (ix2 r n) = val_main_v4 (F := Ideal) (A0 m c) (A1 m c) (at_ t r n) := by
  rw [pay1_apply, val_main_v4_apply]
  exact Finset.sum_congr rfl fun k _ => congrArg₂ (· * ·) (congrArg (A0 m c) (emb0 t k r n)) (congrArg (A1 m c) (emb1 t k r n))

/-- The projected branch, and the gated sum of the two: the arrays after the run are the reference's. -/
theorem final_yc (c : Dev nD) : (dats m 0 c).arrAt 5 cfg0.N = val_main_v4 (F := Ideal) (A0 m c) (A1 m c) := by
  refine (dats m 0 c).arrAt_eq_of_cover 5 _ (fun t hf => ?_) (fun i => ?_)
  · rw [Cert.ConvProjIdeal.Value.flushed5]
    unfold out0_5
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v4 (F := Ideal) _ _ ((win0_5.rect t).emb (ix2 r n))
    rw [(emb456 t r n).2.1]
    exact product_eq m c t r n
  · obtain ⟨t, r, n, rfl⟩ := onto i
    rw [← (emb456 t r n).2.1]
    exact ⟨t, flush0_5 t, View.emb_mem_set ((cfg0.win 5).blk t).view _⟩

theorem final_merged (c : Dev nD) : (dats m 0 c).arrAt 6 cfg0.N = val_main_v20 (F := Ideal) (A0 m c) (A1 m c) (A2 m c) (A3 m c) := by
  refine (dats m 0 c).arrAt_eq_of_cover 6 _ (fun t hf => ?_) (fun i => ?_)
  · rw [Cert.ConvProjIdeal.Value.flushed6]
    unfold out0_6
    rw [View.canon_unit_zero hz2, View.ld_unit_zero hz2, View.ld_unit_zero hz2, View.ld_unit_zero hz2, View.ld_unit_zero hz2,
      View.ld_unit_zero hz2]
    funext y
    obtain ⟨r, n, rfl⟩ : ∃ r n, y = ix2 r n := ⟨y 0, y 1, eq_ix2 y⟩
    show k0_pay2 (F := Ideal) (iblk m c 0 t) (iblk m c 1 t) (iblk m c 2 t) (iblk m c 4 t) (iblk m c 3 t) (ix2 r n)
      = val_main_v20 (F := Ideal) _ _ _ _ ((win0_6.rect t).emb (ix2 r n))
    rw [(emb456 t r n).2.2, pay2_apply, ref_apply, product_eq]
    exact congrArg₂ (· + ·) (congrArg₂ (· * ·) (congrArg (fun i => sgm (A2 m c i)) (emb2 t r n)) (congrArg (A3 m c) (emb456 t r n).1))
      (congrArg (· * _) (congrArg (fun i => sgm (A2 m c i)) (emb3 t r n)))
  · obtain ⟨t, r, n, rfl⟩ := onto i
    rw [← (emb456 t r n).2.2]
    exact ⟨t, flush0_6 t, View.emb_mem_set ((cfg0.win 6).blk t).view _⟩

/-- The kernel computes the reference's two results: started with the same arguments, both programs' runs end with the same
    results and with the arguments unchanged. -/
theorem algebraic : Cert.algebraic_ConvProjIdeal_ConvProjRefIdeal := by
  intro m g m' g' _ hagree
  refine ⟨fun c => val_main_v4 (F := Ideal) (A0 m c) (A1 m c), fun c => val_main_v20 (F := Ideal) (A0 m c) (A1 m c) (A2 m c) (A3 m c),
    (θ_run _ _ _).mono (fun r h c => ?_) (Cert.ConvProjIdeal.Value.run_blocks (F := Ideal) m g),
    (θ_run _ _ _).mono (fun r h c => ?_) (Cert.ConvProjRefIdeal.Value.run (F := Ideal) m' g')⟩
  · exact ⟨(h c).1.trans (final_yc m c), (h c).2.1.trans (final_merged m c), (h c).2.2⟩
  · obtain ⟨a0, a1, a2, a3⟩ := hagree c
    refine ⟨(h c).1.trans ?_, (h c).2.1.trans ?_, (h c).2.2⟩
    · rw [a0, a1]; exact val_main_v4_eq _ _
    · rw [a0, a1, a2, a3]; exact val_main_v20_eq _ _ _ _

/-- The reference's own run ends, with its arguments unchanged and every counter at zero. -/
theorem frame_reference : Cert.quiescent_ConvProjRefIdeal := fun m ρ _ =>
  (θ_run Cert.ConvProjRefIdeal.defs _ _).mono (fun r h => ⟨fun c => (h c).2.2, Idealize.ShloMosaic.sem_eq_zero_of_no_sems (by decide) r.2⟩)
    (Cert.ConvProjRefIdeal.Value.run (F := Ideal) m ρ)

end Cert.Proof.ConvProjValue

end
-- ==== Proof.MixOutValue.lean ====
/-
  The value of the forward call `mm_mix_out`: the mixer's output projection with the residual added, and the next norm of it. Each
  block of 512 whole rows is the residual plus one product over the 2048 columns of the merged branches; its second result scales
  each row by the reciprocal root of its mean square and by the gain. Both are the results the reference program computes.
-/
module

public import proofs.«01_k».proof.Proof.Gen.MixOutIdeal.Value
public import proofs.«01_k».proof.Proof.Gen.MixOutRefIdeal.Read
public import proofs.«01_k».proof.Proof.Gen.MixOutRefIdeal.Run
public import proofs.«01_k».proof.Defs
public import proofs.«01_k».proof.Proof.Chunks

@[expose] public section

noncomputable section

namespace Cert.Proof.MixOutValue

open Cert.MixOutIdeal Cert.MixOutIdeal.Gen Idealize.ShloMosaic Idealize.ShloMosaic.TcCoe Idealize.SL.Sem
open Cert.MixOutRefIdeal.Read

variable (m : (ℓ : Loc nD τ sig) → Buf (Elt Ideal) ℓ)

/-- The block indices of the windows at a grid point: row block `t` of the merged branches, of the residual and of both results,
    and the whole weight and gain. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

/-- The array index of element `(r, n)` of the block at point `t`. -/
abbrev at_ (t : Fin cfg0.N) (r : Fin 512) (n : Fin 2048) : S4096x2048.Idx := fun a => match a with
  | ⟨0, _⟩ => ⟨t.val * 512 + r.val, by have h : t.val < 8 := t.isLt; have := r.isLt; show _ < 4096; omega⟩
  | ⟨1, _⟩ => ⟨n.val, n.isLt⟩

/-- A row's element scaled by the reciprocal root of the row's mean square and by the gain. -/
abbrev normed (h : Fin 2048 → EReal) (g : EReal) (n : Fin 2048) : EReal :=
  h n * Ideal.rsqrt (Ideal.div (∑ k : Fin 2048, h k * h k) (Ideal.ofBits .f32 0x45000000#32) + Ideal.ofBits .f32 0x358637BD#32) * g

/-- The projected block at an element, and the normed block. -/
theorem pay1_apply (v0 : Vec Ideal S512x2048 .bf16) (v1 : Vec Ideal S2048x2048 .bf16) (v3 : Vec Ideal S512x2048 .f32) (r : Fin 512)
    (n : Fin 2048) :
    k0_pay1 (F := Ideal) v0 v1 v3 (ix2 r n) = v3 (ix2 r n) + ∑ k : Fin 2048, v0 (ix2 r k) * v1 (ix2 k n) := by
  unfold k0_pay1
  simp only [pointwise, zero_add]

theorem pay2_apply (v0 : Vec Ideal S512x2048 .bf16) (v1 : Vec Ideal S2048x2048 .bf16) (v3 : Vec Ideal S512x2048 .f32)
    (v16 : Vec Ideal S1x2048 .f32) (r : Fin 512) (n : Fin 2048) :
    Cert.MixOutIdeal.Value.E5 (F := Ideal) v0 v1 v3 v16 (ix2 r n)
      = normed (fun k => k0_pay1 (F := Ideal) v0 v1 v3 (ix2 r k)) (v16 (ix2 0 n)) n := by
  have e0 : Cert.MixOutIdeal.Value.ix5_0 (ix2 r n) = ix2 r n := funext fun a => Fin.ext (match a with | ⟨0, _⟩ => rfl | ⟨1, _⟩ => rfl)
  have e2 : Cert.MixOutIdeal.Value.ix5_2 (ix2 r n) = ix2 0 n := funext fun a => Fin.ext (match a with | ⟨0, _⟩ => rfl | ⟨1, _⟩ => rfl)
  unfold Cert.MixOutIdeal.Value.E5
  rw [e0, e2]
  simp only [pointwise]

/-- The arrays of a device as launched: the merged branches, the weight, the residual and the gain. -/
abbrev A0 (c : Dev nD) : (⟨S4096x2048, .bf16⟩ : BufTy).Contents (Elt Ideal) := m ((c : Thread nD τ).loc main_arg0)
abbrev A1 (c : Dev nD) : (⟨S2048x2048, .bf16⟩ : BufTy).Contents (Elt Ideal) := m ((c : Thread nD τ).loc main_arg1)
abbrev A2 (c : Dev nD) : (⟨S4096x2048, .f32⟩ : BufTy).Contents (Elt Ideal) := m ((c : Thread nD τ).loc main_arg2)
abbrev A3 (c : Dev nD) : (⟨S2048, .f32⟩ : BufTy).Contents (Elt Ideal) := m ((c : Thread nD τ).loc main_arg3)

/-- What the region finds in the gain's row: the gain. -/
theorem V_gain (c : Dev nD) : V m c main_v0 = shapeCast S1x2048 (A3 m c) shapeCasts_S2048_S1x2048 := by
  show StableHlo.after hostOps0 _ _ = _
  after_results
  rfl

theorem gain_apply (g : (⟨S2048, .f32⟩ : BufTy).Contents (Elt Ideal)) (i : S1x2048.Idx) :
    shapeCast S1x2048 g shapeCasts_S2048_S1x2048 i = g (fun a => match a with | ⟨0, _⟩ => ⟨(i 1).val, (i 1).isLt⟩) := by
  have h0 : (i 0).val < 1 := (i 0).isLt
  refine shapeCast_apply _ _ i _ ?_
  rw [Shape.rowMajor_val_one, Shape.rowMajor_val_two]
  show (i 1).val = (i 0).val * 2048 + (i 1).val
  omega

/-- The reference's normed rows at an index. -/
theorem ref_apply (x0 : (⟨S4096x2048, .bf16⟩ : BufTy).Contents (Elt Ideal)) (x1 : (⟨S2048x2048, .bf16⟩ : BufTy).Contents (Elt Ideal))
    (x2 : (⟨S4096x2048, .f32⟩ : BufTy).Contents (Elt Ideal)) (x3 : (⟨S2048, .f32⟩ : BufTy).Contents (Elt Ideal)) (t : Fin cfg0.N)
    (r : Fin 512) (n : Fin 2048) :
    val_main_v17 (F := Ideal) x0 x1 x2 x3 (at_ t r n)
      = normed (fun k => val_main_v3 (F := Ideal) x0 x1 x2 (at_ t r k)) (x3 (fun a => match a with | ⟨0, _⟩ => n)) n := by
  rw [val_main_v17_apply, val_main_v16_apply, val_main_v15_apply, val_main_v14_apply, val_main_v13_apply, val_main_v12_apply,
    val_main_v11_apply, val_main_v10_apply, val_main_v9_apply, val_main_cst_1_apply, val_main_v8_apply, val_main_v7_apply,
    val_main_cst_0_apply, val_main_v6_apply, val_main_v5_apply, val_main_cst_apply]
  simp only [val_main_v4_apply, pointwise, zero_add]
  refine congrArg₂ (· * ·) (congrArg (val_main_v3 (F := Ideal) x0 x1 x2 (at_ t r n) * ·) (congrArg (fun s => Ideal.rsqrt (Ideal.div s _ + _))
    (Finset.sum_congr rfl fun k _ => ?_))) (congrArg x3 (funext fun a => Fin.ext ?_))
  · exact congrArg (fun i => val_main_v3 (F := Ideal) x0 x1 x2 i * val_main_v3 (F := Ideal) x0 x1 x2 i)
      (funext fun a => Fin.ext (match a with | ⟨0, _⟩ => rfl | ⟨1, _⟩ => rfl))
  · match a with
    | ⟨0, _⟩ => rfl

/-- Where a block's elements sit in their array: the four argument windows and the two result windows. -/
theorem emb0245 (t : Fin cfg0.N) (r : Fin 512) (n : Fin 2048) :
    (win0_0.rect t).emb (ix2 r n) = at_ t r n ∧ (win0_2.rect t).emb (ix2 r n) = at_ t r n
    ∧ (win0_4.rect t).emb (ix2 r n) = at_ t r n ∧ (win0_5.rect t).emb (ix2 r n) = at_ t r n := by
  obtain ⟨⟨h0, h1⟩, -, ⟨h2, h3⟩, -, ⟨h4, h5⟩, h6, h7⟩ := idx_facts t
  refine ⟨funext fun a => Fin.ext ?_, funext fun a => Fin.ext ?_, funext fun a => Fin.ext ?_, funext fun a => Fin.ext ?_⟩
  · match a with
    | ⟨0, _⟩ => exact (win0_0.rect_emb_val t _ 0).trans (by rw [h0]; rfl)
    | ⟨1, _⟩ => exact (win0_0.rect_emb_val t _ 1).trans (by rw [h1]; exact (Nat.zero_mul _).symm ▸ Nat.zero_add _)
  · match a with
    | ⟨0, _⟩ => exact (win0_2.rect_emb_val t _ 0).trans (by rw [h2]; rfl)
    | ⟨1, _⟩ => exact (win0_2.rect_emb_val t _ 1).trans (by rw [h3]; exact (Nat.zero_mul _).symm ▸ Nat.zero_add _)
  · match a with
    | ⟨0, _⟩ => exact (win0_4.rect_emb_val t _ 0).trans (by rw [h4]; rfl)
    | ⟨1, _⟩ => exact (win0_4.rect_emb_val t _ 1).trans (by rw [h5]; exact (Nat.zero_mul _).symm ▸ Nat.zero_add _)
  · match a with
    | ⟨0, _⟩ => exact (win0_5.rect_emb_val t _ 0).trans (by rw [h6]; rfl)
    | ⟨1, _⟩ => exact (win0_5.rect_emb_val t _ 1).trans (by rw [h7]; exact (Nat.zero_mul _).symm ▸ Nat.zero_add _)

theorem emb1 (t : Fin cfg0.N) (k n : Fin 2048) : (win0_1.rect t).emb (ix2 k n) = ix2 k n := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb3 (t : Fin cfg0.N) (n : Fin 2048) : (win0_3.rect t).emb (ix2 0 n) = ix2 0 n := by
  obtain ⟨-, -, -, ⟨h0, h1⟩, -⟩ := idx_facts t
  refine funext fun a => Fin.ext ?_
  match a with
  | ⟨0, _⟩ => exact (win0_3.rect_emb_val t _ 0).trans (by rw [h0]; exact (Nat.zero_mul _).symm ▸ Nat.zero_add _)
  | ⟨1, _⟩ => exact (win0_3.rect_emb_val t _ 1).trans (by rw [h1]; exact (Nat.zero_mul _).symm ▸ Nat.zero_add _)

/-- Every index of a result array is one of a block's elements. -/
theorem onto (i : S4096x2048.Idx) : ∃ t : Fin cfg0.N, ∃ r n, at_ t r n = i := by
  have h0 : (i 0).val < 4096 := (i 0).isLt
  refine ⟨⟨(i 0).val / 512, by show _ < 8; omega⟩, ⟨(i 0).val % 512, by omega⟩, ⟨(i 1).val, (i 1).isLt⟩, funext fun a => Fin.ext ?_⟩
  match a with
  | ⟨0, _⟩ => show (i 0).val / 512 * 512 + (i 0).val % 512 = (i 0).val; omega
  | ⟨1, _⟩ => rfl

/-- The projected block at an element is the reference's at its array index. -/
theorem product_eq (c : Dev nD) (t : Fin cfg0.N) (r : Fin 512) (n : Fin 2048) :
    k0_pay1 (F := Ideal) (iblk m c 0 t) (iblk m c 1 t) (iblk m c 2 t) (ix2 r n)
      = val_main_v3 (F := Ideal) (A0 m c) (A1 m c) (A2 m c) (at_ t r n) := by
  rw [pay1_apply, val_main_v3_apply, val_main_v2_apply]
  refine congrArg₂ (· + ·) ((congrFun (V_main_arg2 m c) _).trans (congrArg (A2 m c) (emb0245 t r n).2.1))
    (Finset.sum_congr rfl fun k _ => congrArg₂ (· * ·) ?_ ?_)
  · exact (congrFun (V_main_arg0 m c) _).trans (congrArg (A0 m c) ((emb0245 t r k).1.trans
      (funext fun a => Fin.ext (match a with | ⟨0, _⟩ => rfl | ⟨1, _⟩ => rfl))))
  · exact (congrFun (V_main_arg1 m c) _).trans (congrArg (A1 m c) ((emb1 t k n).trans
      (funext fun a => Fin.ext (match a with | ⟨0, _⟩ => rfl | ⟨1, _⟩ => rfl))))

/-- The projected rows, and the normed ones: the arrays after the run are the reference's. -/
theorem final_h (c : Dev nD) : (dats m 0 c).arrAt 4 cfg0.N = val_main_v3 (F := Ideal) (A0 m c) (A1 m c) (A2 m c) := by
  refine (dats m 0 c).arrAt_eq_of_cover 4 _ (fun t hf => ?_) (fun i => ?_)
  · rw [Cert.MixOutIdeal.Value.flushed4]
    unfold out0_4
    rw [View.canon_unit_zero hz2, View.ld_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (iblk m c 2 t) (ix2 r n)
      = val_main_v3 (F := Ideal) _ _ _ ((win0_4.rect t).emb (ix2 r n))
    rw [(emb0245 t r n).2.2.1]
    exact product_eq m c t r n
  · obtain ⟨t, r, n, rfl⟩ := onto i
    rw [← (emb0245 t r n).2.2.1]
    exact ⟨t, flush0_4 t, View.emb_mem_set ((cfg0.win 4).blk t).view _⟩

theorem final_u (c : Dev nD) : (dats m 0 c).arrAt 5 cfg0.N = val_main_v17 (F := Ideal) (A0 m c) (A1 m c) (A2 m c) (A3 m c) := by
  refine (dats m 0 c).arrAt_eq_of_cover 5 _ (fun t hf => ?_) (fun i => ?_)
  · rw [Cert.MixOutIdeal.Value.flushed5]
    unfold out0_5
    rw [View.ld_unit_zero hz2, View.ld_unit_zero hz2, View.ld_unit_zero hz2, View.ld_unit_zero hz2]
    funext y
    obtain ⟨r, n, rfl⟩ : ∃ r n, y = ix2 r n := ⟨y 0, y 1, eq_ix2 y⟩
    show View.canon [⟨r0_0, k0_pay2 (F := Ideal) (iblk m c 0 t) (iblk m c 1 t) (iblk m c 2 t) (iblk m c 3 t)⟩] (ix2 r n)
      = val_main_v17 (F := Ideal) _ _ _ _ ((win0_5.rect t).emb (ix2 r n))
    rw [(emb0245 t r n).2.2.2, Cert.MixOutIdeal.Value.canon5_eq, pay2_apply, ref_apply]
    refine congrArg₂ (fun h g => normed h g n) (funext fun k => product_eq m c t r k) ?_
    refine (congrFun (V_gain m c) _).trans ((congrArg _ (emb3 t n)).trans ((gain_apply _ _).trans (congrArg (A3 m c) ?_)))
    exact funext fun a => Fin.ext (match a with | ⟨0, _⟩ => rfl)
  · obtain ⟨t, r, n, rfl⟩ := onto i
    rw [← (emb0245 t r n).2.2.2]
    exact ⟨t, flush0_5 t, View.emb_mem_set ((cfg0.win 5).blk t).view _⟩

/-- The kernel computes the reference's two results: started with the same arguments, both programs' runs end with the same
    results and with the arguments unchanged. -/
theorem algebraic : Cert.algebraic_MixOutIdeal_MixOutRefIdeal := by
  intro m g m' g' _ hagree
  refine ⟨fun c => val_main_v3 (F := Ideal) (A0 m c) (A1 m c) (A2 m c),
    fun c => val_main_v17 (F := Ideal) (A0 m c) (A1 m c) (A2 m c) (A3 m c),
    (θ_run _ _ _).mono (fun r h c => ?_) (Cert.MixOutIdeal.Value.run_blocks (F := Ideal) m g),
    (θ_run _ _ _).mono (fun r h c => ?_) (Cert.MixOutRefIdeal.Value.run (F := Ideal) m' g')⟩
  · exact ⟨(h c).1.trans (final_h m c), (h c).2.1.trans (final_u m c), (h c).2.2⟩
  · obtain ⟨a0, a1, a2, a3⟩ := hagree c
    refine ⟨(h c).1.trans ?_, (h c).2.1.trans ?_, (h c).2.2⟩
    · rw [a0, a1, a2]; exact val_main_v3_eq _ _ _
    · rw [a0, a1, a2, a3]; exact val_main_v17_eq _ _ _ _

/-- The reference's own run ends, with its arguments unchanged and every counter at zero. -/
theorem frame_reference : Cert.quiescent_MixOutRefIdeal := fun m ρ _ =>
  (θ_run Cert.MixOutRefIdeal.defs _ _).mono (fun r h => ⟨fun c => (h c).2.2, Idealize.ShloMosaic.sem_eq_zero_of_no_sems (by decide) r.2⟩)
    (Cert.MixOutRefIdeal.Value.run (F := Ideal) m ρ)

end Cert.Proof.MixOutValue

end
-- ==== Proof.Norm.lean ====
/-
  The gradient of a row's root-mean-square norm, over the extended reals: the form that a block computes, which norms the row
  first, is the form that the derivative of the norm has. Where the row has an infinite entry both are the residual alone.
-/
module

public import Idealize.ShloMosaic.Lib.Pointwise
public import Idealize.ShloMosaic.PureOps.Ideal

@[expose] public section

noncomputable section

namespace Cert.Proof.Norm

open Idealize.ShloMosaic

/-- The row's length, the number added under the root, and the derivative's factor, as the words the programs spell. -/
theorem ofBits_2048 : Ideal.ofBits .f32 0x45000000#32 = ((2048 : ℝ) : EReal) := by
  simp [Ideal.ofBits, Ideal.ieee, -EReal.coe_mul]; norm_num

theorem ofBits_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- A sum of squares is no less than zero, and is `⊤` where one of them is. -/
theorem mul_self_nonneg' (a : EReal) : 0 ≤ a * a := by
  induction a with
  | bot => simp
  | top => simp
  | coe r => exact_mod_cast mul_self_nonneg r

theorem sum_sq_top {n : ℕ} (x : Fin n → EReal) (k : Fin n) (h : x k = ⊤ ∨ x k = ⊥) : ∑ j, x j * x j = ⊤ := by
  have hk : x k * x k = ⊤ := by rcases h with h | h <;> simp [h]
  refine top_unique (hk ▸ ?_)
  exact Finset.single_le_sum (f := fun j => x j * x j) (fun j _ => mul_self_nonneg' (x j)) (Finset.mem_univ k)

/-- A sum of squares of reals is a real that is no less than zero. -/
theorem sum_sq_real {n : ℕ} (u : Fin n → ℝ) : ∑ j, (u j : EReal) * (u j : EReal) = ((∑ j, u j * u j : ℝ) : EReal) := by
  induction (Finset.univ : Finset (Fin n)) using Finset.cons_induction with
  | empty => simp
  | cons a s ha ih => rw [Finset.sum_cons, Finset.sum_cons, ih, EReal.coe_add, EReal.coe_mul]

/-- A positive real comes out of a sum. -/
theorem mul_sum {n : ℕ} (r : ℝ) (hr : 0 ≤ r) (f : Fin n → EReal) : ∑ k, (r : EReal) * f k = (r : EReal) * ∑ k, f k := by
  induction (Finset.univ : Finset (Fin n)) using Finset.cons_induction with
  | empty => simp
  | cons a s ha ih =>
    rw [Finset.sum_cons, Finset.sum_cons, ih, EReal.left_distrib_of_nonneg_of_ne_top (by exact_mod_cast hr) (EReal.coe_ne_top _)]

/-- Twice a number, as a sum. -/
theorem twice (a : ℝ) (b : EReal) : (a : EReal) * b + (a : EReal) * b = ((2 * a : ℝ) : EReal) * b := by
  have h : ((1 : EReal) + 1) * ((a : EReal) * b) = 1 * ((a : EReal) * b) + 1 * ((a : EReal) * b) :=
    EReal.right_distrib_of_nonneg zero_le_one zero_le_one
  rw [one_mul] at h
  rw [← h, ← mul_assoc, EReal.coe_mul, one_add_one_eq_two]
  rfl

/-- The row's mean square with the small number added, and its reciprocal root. -/
abbrev ms {n : ℕ} (x : Fin n → EReal) : EReal :=
  Ideal.div (∑ k, x k * x k) (Ideal.ofBits .f32 0x45000000#32) + Ideal.ofBits .f32 0x358637BD#32
abbrev rr {n : ℕ} (x : Fin n → EReal) : EReal := Ideal.rsqrt (ms x)

/-- The gradient at element `j` as a block computes it, from the row `x`, the scaled gradient `y` and the residual's gradient. -/
abbrev blockGrad {n : ℕ} (x y : Fin n → EReal) (res : EReal) (j : Fin n) : EReal :=
  res + rr x * (y j - x j * rr x * Ideal.div (∑ k, x k * rr x * y k) (Ideal.ofBits .f32 0x45000000#32))

/-- The factor of `x` in the derivative of the reciprocal root, and the derivative itself. -/
abbrev factor {n : ℕ} (x y : Fin n → EReal) : EReal :=
  Ideal.div ((∑ k, x k * y k) * (Ideal.ofBits .f32 0xBF000000#32 * Ideal.div (rr x) (ms x))) (Ideal.ofBits .f32 0x45000000#32)
abbrev derivGrad {n : ℕ} (x y : Fin n → EReal) (res : EReal) (j : Fin n) : EReal :=
  res + y j * rr x + x j * factor x y + factor x y * x j

/-- A row with an infinite entry: its mean square is `⊤` and its reciprocal root is zero. -/
theorem ms_top {n : ℕ} (x : Fin n → EReal) (k : Fin n) (h : x k = ⊤ ∨ x k = ⊥) : ms x = ⊤ := by
  obtain ⟨e, -, he⟩ := ofBits_eps
  rw [ms, sum_sq_top x k h, ofBits_2048, he, Ideal.div_coe (by norm_num), EReal.top_mul_coe_of_pos (by norm_num)]
  exact EReal.top_add_coe e

/-- A row of reals: its mean square is a positive real, and its reciprocal root the positive real it should be. -/
theorem ms_real {n : ℕ} (u : Fin n → ℝ) :
    ∃ μ : ℝ, 0 < μ ∧ ms (fun k => (u k : EReal)) = (μ : EReal) ∧ rr (fun k => (u k : EReal)) = (((Real.sqrt μ)⁻¹ : ℝ) : EReal) := by
  obtain ⟨e, he, hw⟩ := ofBits_eps
  have hs : 0 ≤ ∑ j, u j * u j := Finset.sum_nonneg fun j _ => mul_self_nonneg _
  have hμ : 0 < (∑ j, u j * u j) * (1 / 2048) + e := by positivity
  have h : ms (fun k => (u k : EReal)) = (((∑ j, u j * u j) * (1 / 2048) + e : ℝ) : EReal) := by
    rw [ms, sum_sq_real, ofBits_2048, hw, Ideal.div_coe (by norm_num), ← EReal.coe_mul, ← EReal.coe_add]
  refine ⟨_, hμ, h, ?_⟩
  rw [rr, h, Ideal.rsqrt_coe, if_neg hμ.le.not_gt, if_neg hμ.ne']

/-- The two forms of the gradient are one number. -/
theorem grad_eq {n : ℕ} (x y : Fin n → EReal) (res : EReal) (j : Fin n) : blockGrad x y res j = derivGrad x y res j := by
  by_cases hx : ∃ k, x k = ⊤ ∨ x k = ⊥
  · obtain ⟨k, hk⟩ := hx
    have hm : ms x = ⊤ := ms_top x k hk
    have hr : rr x = 0 := by rw [rr, hm]; rfl
    have h0 : Ideal.div (0 : EReal) (⊤ : EReal) = 0 := by rw [Ideal.div, if_neg EReal.top_ne_zero, zero_mul]
    have hf : factor x y = 0 := by
      rw [factor, hr, hm, h0, mul_zero, mul_zero, ofBits_2048, Ideal.div_coe (by norm_num), zero_mul]
    rw [blockGrad, derivGrad, hr, hf, zero_mul, mul_zero, mul_zero, zero_mul, add_zero, add_zero, add_zero]
  · have hu : ∀ k, x k = ((x k).toReal : EReal) := fun k =>
      (EReal.coe_toReal (fun h => hx ⟨k, .inl h⟩) (fun h => hx ⟨k, .inr h⟩)).symm
    obtain ⟨u, rfl⟩ : ∃ u : Fin n → ℝ, x = fun k => (u k : EReal) := ⟨fun k => (x k).toReal, funext hu⟩
    obtain ⟨μ, hμ, hm, hr⟩ := ms_real u
    rw [blockGrad, derivGrad, factor, hm, hr, ofBits_2048, ofBits_half]
    have hρ : 0 < (Real.sqrt μ)⁻¹ := inv_pos.mpr (Real.sqrt_pos.mpr hμ)
    have hρ2 : (Real.sqrt μ)⁻¹ * (Real.sqrt μ)⁻¹ = 1 / μ := by
      rw [← mul_inv, Real.mul_self_sqrt hμ.le, one_div]
    generalize (Real.sqrt μ)⁻¹ = ρ at hρ hρ2
    have e1 : ∀ k, (u k : EReal) * (ρ : EReal) * y k = (ρ : EReal) * ((u k : EReal) * y k) := fun k => by
      rw [mul_comm (u k : EReal), mul_assoc]
    rw [Finset.sum_congr rfl fun k _ => e1 k, mul_sum ρ hρ.le]
    generalize ∑ k, (u k : EReal) * y k = T
    rw [Ideal.div_coe (by norm_num), Ideal.div_coe (by norm_num), Ideal.div_coe hμ.ne', ← EReal.coe_mul ρ, ← EReal.coe_mul, ← EReal.coe_mul,
      sub_eq_add_neg, EReal.left_distrib_of_nonneg_of_ne_top (by exact_mod_cast hρ.le) (EReal.coe_ne_top _), add_assoc, add_assoc]
    congr 1
    rw [mul_comm (ρ : EReal) (y j)]
    congr 1
    have e2 : (u j : EReal) * (T * ((-(1 / 2) * (ρ * (1 / μ)) : ℝ) : EReal) * ((1 / 2048 : ℝ) : EReal))
        = ((u j * (-(1 / 2) * (ρ * (1 / μ)) * (1 / 2048)) : ℝ) : EReal) * T := by
      rw [mul_assoc, ← EReal.coe_mul, mul_comm T, ← mul_assoc, ← EReal.coe_mul]
    rw [mul_comm (T * _ * _) (u j : EReal), e2, twice, ← hρ2, ← EReal.neg_mul, ← EReal.coe_neg]
    have e3 : (ρ : EReal) * (((-(u j * ρ) : ℝ) : EReal) * ((ρ : EReal) * T * ((1 / 2048 : ℝ) : EReal)))
        = ((ρ * (-(u j * ρ) * (ρ * (1 / 2048))) : ℝ) : EReal) * T := by
      rw [mul_comm (ρ : EReal) T, mul_assoc T, ← EReal.coe_mul, mul_comm T, ← mul_assoc, ← mul_assoc, ← EReal.coe_mul, ← EReal.coe_mul, mul_assoc ρ]
    rw [e3]
    congr 2
    ring

/-- What a fold that adds one term a step holds is the sum of the terms so far. -/
theorem fold_sum (f p : ℕ → EReal) (h0 : f 0 = p 0) (N : ℕ) (hs : ∀ k, k + 1 < N → f (k + 1) = f k + p (k + 1)) :
    ∀ k, k < N → f k = ∑ s ∈ Finset.range (k + 1), p s := by
  intro k
  induction k with
  | zero => intro _; simpa using h0
  | succ k ih => intro hk; rw [hs k hk, ih (by omega), Finset.sum_range_succ _ (k + 1)]

end Cert.Proof.Norm

end
-- ==== Proof.RmsMixValue.lean ====
/-
  The value of the backward call `rms_mix_bwd`: the gradient of the first norm, which with the residual's gradient is the step's
  gradient of x. Each block of 512 whole rows computes its rows' gradient; the gain's gradient is accumulated over the eight row
  blocks. They are the results of the derivative the reference program computes.
-/
module

public import proofs.«01_k».proof.Proof.Gen.RmsMixIdeal.Value
public import proofs.«01_k».proof.Proof.Gen.RmsMixRefIdeal.Read
public import proofs.«01_k».proof.Proof.Gen.RmsMixRefIdeal.Run
public import proofs.«01_k».proof.Defs
public import proofs.«01_k».proof.Proof.Chunks
public import proofs.«01_k».proof.Proof.Norm

@[expose] public section

noncomputable section

namespace Cert.Proof.RmsMixValue

open Cert.RmsMixIdeal Cert.RmsMixIdeal.Gen Idealize.ShloMosaic Idealize.ShloMosaic.TcCoe Idealize.SL.Sem
open Cert.RmsMixRefIdeal.Read
open Cert.Proof.Norm

variable (m : (ℓ : Loc nD τ sig) → Buf (Elt Ideal) ℓ)

/-- The block indices of the windows at a grid point: row block `t` of the row arrays, and the whole gain and gain's gradient. -/
theorem idx_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

/-- The array index of element `(r, n)` of the block at point `t`. -/
abbrev at_ (t : Fin cfg0.N) (r : Fin 512) (n : Fin 2048) : S4096x2048.Idx := fun a => match a with
  | ⟨0, _⟩ => ⟨t.val * 512 + r.val, by have h : t.val < 8 := t.isLt; have := r.isLt; show _ < 4096; omega⟩
  | ⟨1, _⟩ => ⟨n.val, n.isLt⟩

/-- A block's gradient at an element, and what a block adds to the gain's gradient. -/
theorem pay4_apply (v0 v1 : Vec Ideal S512x2048 .f32) (v12 : Vec Ideal S1x2048 .f32) (v16 : Vec Ideal S512x2048 .f32) (r : Fin 512)
    (n : Fin 2048) :
    k0_pay4 (F := Ideal) v0 v1 v12 v16 (ix2 r n)
      = blockGrad (fun k => v0 (ix2 r k)) (fun k => v1 (ix2 r k) * v12 (ix2 0 k)) (v16 (ix2 r n)) n := by
  unfold k0_pay4 k0_pay3 k0_pay2
  simp only [pointwise, zero_add, shapeCast_self]
  rfl

theorem pay1_apply (v0 v1 : Vec Ideal S512x2048 .f32) (v34 : Vec Ideal S1x2048 .f32) (n : Fin 2048) :
    k0_pay1 (F := Ideal) v1 (k0_pay3 v0) v34 (ix2 0 n)
      = v34 (ix2 0 n) + ∑ r : Fin 512, v1 (ix2 r n) * (v0 (ix2 r n) * rr fun k => v0 (ix2 r k)) := by
  unfold k0_pay1 k0_pay3 k0_pay2
  simp only [pointwise, zero_add, shapeCast_self]
  rfl

/-- What a point leaves in the three results' blocks: at the first point the gain's gradient starts from zero, at a later one
    from what the point before left. -/
theorem out_A4 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc0 : cond0_0 i) (x0 x1 : Vec Ideal S512x2048 .f32) (x2 : Vec Ideal S1x2048 .f32) (x3 : Vec Ideal S512x2048 .f32) :
    out0_A_4 c i a1 h1 a2 h2 a3 h3 a4 h4 a5 h5 a6 h6 a7 h7 hc0 x0 x1 x2 x3 = k0_pay4 x1 x0 x2 x3 := by
  unfold out0_A_4
  rw [View.read_writes_eq_canon _ _ _ (cover0_A_4 c i a1 h1 a2 h2 a3 h3 a4 h4 a5 h5 a6 h6 a7 h7 hc0 x0 x1 x2 x3)]
  unfold kernelRun0_A
  dsimp only
  try sl_unfold_words
  rw [View.canon_unit_zero hz2]
  simp only [View.readAt_eq_ld, h1.read_unread, h2.read_unread, h3.read_unread, h4.read_unread, h7.read_unread,
    View.ld_unit_zero (S := S512x2048) hz2, View.ld_unit_zero (S := S1x2048) hz2, shapeCast_self]

theorem out_A5 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc0 : cond0_0 i) (x0 x1 : Vec Ideal S512x2048 .f32) (x2 : Vec Ideal S1x2048 .f32) (x3 : Vec Ideal S512x2048 .f32) :
    out0_A_5 c i a1 h1 a2 h2 a3 h3 a4 h4 a5 h5 a6 h6 a7 h7 hc0 x0 x1 x2 x3 = k0_pay5 x1 x0 x2 x3 := by
  unfold out0_A_5
  rw [View.read_writes_eq_canon _ _ _ (cover0_A_5 c i a1 h1 a2 h2 a3 h3 a4 h4 a5 h5 a6 h6 a7 h7 hc0 x0 x1 x2 x3)]
  unfold kernelRun0_A
  dsimp only
  try sl_unfold_words
  rw [View.canon_unit_zero hz2]
  simp only [View.readAt_eq_ld, h1.read_unread, h2.read_unread, h3.read_unread, h4.read_unread, h7.read_unread,
    View.ld_unit_zero (S := S512x2048) hz2, View.ld_unit_zero (S := S1x2048) hz2, shapeCast_self]

theorem out_A6 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc0 : cond0_0 i) (x0 x1 : Vec Ideal S512x2048 .f32) (x2 : Vec Ideal S1x2048 .f32) (x3 : Vec Ideal S512x2048 .f32) :
    out0_A_6 c i a1 h1 a2 h2 a3 h3 a4 h4 a5 h5 a6 h6 a7 h7 hc0 x0 x1 x2 x3 = k0_pay1 (F := Ideal) x0 (k0_pay3 x1) (k0_pay6 (F := Ideal)) := by
  unfold out0_A_6
  rw [View.read_writes_eq_canon _ _ _ (cover0_A_6 c i a1 h1 a2 h2 a3 h3 a4 h4 a5 h5 a6 h6 a7 h7 hc0 x0 x1 x2 x3)]
  unfold kernelRun0_A
  dsimp only
  try sl_unfold_words
  rw [View.canon_cons_unit_zero hz2, View.readCov_unit_zero (S := S1x2048) _ hz2]
  simp only [View.readAt_eq_ld, h1.read_unread, h2.read_unread, h3.read_unread, h4.read_unread, h7.read_unread,
    View.ld_unit_zero (S := S512x2048) hz2, View.ld_unit_zero (S := S1x2048) hz2, shapeCast_self]

theorem out_B4 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc0 : ¬cond0_0 i) (x0 x1 : Vec Ideal S512x2048 .f32) (x2 : Vec Ideal S1x2048 .f32) (x3 : Vec Ideal S512x2048 .f32) (xs : Vec Ideal S1x2048 .f32) :
    out0_B_4 c i a1 h1 a2 h2 a3 h3 a4 h4 a5 h5 a6 h6 a7 h7 hc0 x0 x1 x2 x3 xs = k0_pay4 x1 x0 x2 x3 := by
  unfold out0_B_4
  rw [View.read_writes_eq_canon _ _ _ (cover0_B_4 c i a1 h1 a2 h2 a3 h3 a4 h4 a5 h5 a6 h6 a7 h7 hc0 x0 x1 x2 x3 xs)]
  unfold kernelRun0_B
  dsimp only
  try sl_unfold_words
  rw [View.canon_unit_zero hz2]
  simp only [View.readAt_eq_ld, h1.read_unread, h2.read_unread, h3.read_unread, h4.read_unread, h7.read_unread,
    View.ld_unit_zero (S := S512x2048) hz2, View.ld_unit_zero (S := S1x2048) hz2, shapeCast_self]

theorem out_B5 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc0 : ¬cond0_0 i) (x0 x1 : Vec Ideal S512x2048 .f32) (x2 : Vec Ideal S1x2048 .f32) (x3 : Vec Ideal S512x2048 .f32) (xs : Vec Ideal S1x2048 .f32) :
    out0_B_5 c i a1 h1 a2 h2 a3 h3 a4 h4 a5 h5 a6 h6 a7 h7 hc0 x0 x1 x2 x3 xs = k0_pay5 x1 x0 x2 x3 := by
  unfold out0_B_5
  rw [View.read_writes_eq_canon _ _ _ (cover0_B_5 c i a1 h1 a2 h2 a3 h3 a4 h4 a5 h5 a6 h6 a7 h7 hc0 x0 x1 x2 x3 xs)]
  unfold kernelRun0_B
  dsimp only
  try sl_unfold_words
  rw [View.canon_unit_zero hz2]
  simp only [View.readAt_eq_ld, h1.read_unread, h2.read_unread, h3.read_unread, h4.read_unread, h7.read_unread,
    View.ld_unit_zero (S := S512x2048) hz2, View.ld_unit_zero (S := S1x2048) hz2, shapeCast_self]

theorem out_B6 (c : Dev nD) (i : grid0.Coords) (a1 : Memref sig .tc .vmem S512x2048 .f32) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .bf16) (h6 : a6.IsWhole) (a7 : Memref sig .tc .vmem S1x2048 .f32) (h7 : a7.IsWhole)
    (hc0 : ¬cond0_0 i) (x0 x1 : Vec Ideal S512x2048 .f32) (x2 : Vec Ideal S1x2048 .f32) (x3 : Vec Ideal S512x2048 .f32) (xs : Vec Ideal S1x2048 .f32) :
    out0_B_6 c i a1 h1 a2 h2 a3 h3 a4 h4 a5 h5 a6 h6 a7 h7 hc0 x0 x1 x2 x3 xs = k0_pay1 x0 (k0_pay3 x1) xs := by
  unfold out0_B_6
  rw [View.read_writes_eq_canon _ _ _ (cover0_B_6 c i a1 h1 a2 h2 a3 h3 a4 h4 a5 h5 a6 h6 a7 h7 hc0 x0 x1 x2 x3 xs)]
  unfold kernelRun0_B
  dsimp only
  try sl_unfold_words
  rw [View.canon_unit_zero hz2]
  simp only [View.readAt_eq_ld, h1.read_unread, h2.read_unread, h3.read_unread, h4.read_unread, h7.read_unread,
    View.ld_unit_zero (S := S512x2048) hz2, View.ld_unit_zero (S := S1x2048) hz2, shapeCast_self]

/-- The three results' blocks after a point. -/
theorem block4 (c : Dev nD) (t : Fin cfg0.N) :
    (outsAt0 m c t.val t.isLt).1 = k0_pay4 (F := Ideal) (iblk m c 1 t) (iblk m c 0 t) (iblk m c 2 t) (iblk m c 3 t) := by
  by_cases h : t.val % 8 = 0
  · rw [outsAt0_A m c t h]; dsimp only; rw [out_A4]
  · rw [outsAt0_B m c t h]; dsimp only; rw [out_B4]

theorem block5 (c : Dev nD) (t : Fin cfg0.N) :
    (outsAt0 m c t.val t.isLt).2.1 = k0_pay5 (F := Ideal) (iblk m c 1 t) (iblk m c 0 t) (iblk m c 2 t) (iblk m c 3 t) := by
  by_cases h : t.val % 8 = 0
  · rw [outsAt0_A m c t h]; dsimp only; rw [out_A5]
  · rw [outsAt0_B m c t h]; dsimp only; rw [out_B5]

theorem acc_A (c : Dev nD) (t : Fin cfg0.N) (h : t.val % 8 = 0) :
    (outsAt0 m c t.val t.isLt).2.2 = k0_pay1 (F := Ideal) (iblk m c 0 t) (k0_pay3 (iblk m c 1 t)) (k0_pay6 (F := Ideal)) := by
  rw [outsAt0_A m c t h]; dsimp only; rw [out_A6]

theorem acc_B (c : Dev nD) (t : Fin cfg0.N) (h : ¬t.val % 8 = 0) :
    (outsAt0 m c t.val t.isLt).2.2 = k0_pay1 (F := Ideal) (iblk m c 0 t) (k0_pay3 (iblk m c 1 t))
      (outsAt0 m c (t.val - 1) (Nat.lt_of_le_of_lt (Nat.sub_le _ _) t.isLt)).2.2 := by
  rw [outsAt0_B m c t h]; dsimp only; rw [out_B6]

/-- The arrays of a device as launched: the normed rows' gradient, the rows, the gain and the residual's gradient. -/
abbrev A0 (c : Dev nD) : (⟨S4096x2048, .f32⟩ : BufTy).Contents (Elt Ideal) := m ((c : Thread nD τ).loc main_arg0)
abbrev A1 (c : Dev nD) : (⟨S4096x2048, .f32⟩ : BufTy).Contents (Elt Ideal) := m ((c : Thread nD τ).loc main_arg1)
abbrev A2 (c : Dev nD) : (⟨S2048, .f32⟩ : BufTy).Contents (Elt Ideal) := m ((c : Thread nD τ).loc main_arg2)
abbrev A3 (c : Dev nD) : (⟨S4096x2048, .f32⟩ : BufTy).Contents (Elt Ideal) := m ((c : Thread nD τ).loc main_arg3)

/-- The gain's one axis, and what the region finds in the gain's row: the gain. -/
abbrev gix (n : Fin 2048) : S2048.Idx := fun a => match a with | ⟨0, _⟩ => ⟨n.val, n.isLt⟩

theorem V_gain (c : Dev nD) : V m c main_v0 = shapeCast S1x2048 (A2 m c) shapeCasts_S2048_S1x2048 := by
  show StableHlo.after hostOps0 _ _ = _
  after_results
  rfl

theorem gain_apply (g : (⟨S2048, .f32⟩ : BufTy).Contents (Elt Ideal)) (i : S1x2048.Idx) :
    shapeCast S1x2048 g shapeCasts_S2048_S1x2048 i = g (gix (i 1)) := by
  have h0 : (i 0).val < 1 := (i 0).isLt
  refine shapeCast_apply _ _ i _ ?_
  rw [Shape.rowMajor_val_one, Shape.rowMajor_val_two]
  show (i 1).val = (i 0).val * 2048 + (i 1).val
  omega

/-- The reference's mean square and reciprocal root of a row, its gradient at an index, and its term of the gain's gradient. -/
theorem ref_ms (x1 : (⟨S4096x2048, .f32⟩ : BufTy).Contents (Elt Ideal)) (i : Cert.RmsMixRefIdeal.S4096x1.Idx) :
    val_main_v6 (F := Ideal) x1 i = ms fun k => x1 (idx_main_v1 (idx_main_v2 i) k) := by
  rw [val_main_v6_apply, val_main_v5_apply, val_main_cst_1_apply, val_main_v4_apply, val_main_v3_apply, val_main_cst_0_apply,
    val_main_v2_apply, val_main_v1_apply, val_main_cst_apply]
  simp only [val_main_v0_apply, pointwise, zero_add]

theorem ref_rr (x1 : (⟨S4096x2048, .f32⟩ : BufTy).Contents (Elt Ideal)) (i : Cert.RmsMixRefIdeal.S4096x1.Idx) :
    val_main_v7 (F := Ideal) x1 i = rr fun k => x1 (idx_main_v1 (idx_main_v2 i) k) := by
  rw [val_main_v7_apply, ref_ms]
  rfl

theorem row_at (x1 : (⟨S4096x2048, .f32⟩ : BufTy).Contents (Elt Ideal)) (t : Fin cfg0.N) (r : Fin 512) (i : Cert.RmsMixRefIdeal.S4096x1.Idx)
    (hi : (i 0).val = t.val * 512 + r.val) :
    (fun k => x1 (idx_main_v1 (idx_main_v2 i) k)) = fun k => x1 (at_ t r k) :=
  funext fun k => congrArg x1 (funext fun a => Fin.ext (match a with | ⟨0, _⟩ => hi | ⟨1, _⟩ => rfl))

theorem ref_gain (x2 : (⟨S2048, .f32⟩ : BufTy).Contents (Elt Ideal)) (t : Fin cfg0.N) (r : Fin 512) (n : Fin 2048) :
    val_main_v19 (F := Ideal) x2 (at_ t r n) = x2 (gix n) := by
  rw [val_main_v19_apply, val_main_v13_apply]
  exact congrArg x2 (funext fun a => Fin.ext (match a with | ⟨0, _⟩ => rfl))

theorem ref_y (x0 : (⟨S4096x2048, .f32⟩ : BufTy).Contents (Elt Ideal)) (x2 : (⟨S2048, .f32⟩ : BufTy).Contents (Elt Ideal))
    (t : Fin cfg0.N) (r : Fin 512) (n : Fin 2048) :
    val_main_v20 (F := Ideal) x0 x2 (at_ t r n) = x0 (at_ t r n) * x2 (gix n) := by
  rw [val_main_v20_apply, ref_gain]
  rfl

theorem ref_factor (x0 x1 : (⟨S4096x2048, .f32⟩ : BufTy).Contents (Elt Ideal)) (x2 : (⟨S2048, .f32⟩ : BufTy).Contents (Elt Ideal))
    (t : Fin cfg0.N) (r : Fin 512) (n : Fin 2048) :
    val_main_v32 (F := Ideal) x0 x1 x2 (at_ t r n)
      = factor (fun k => x1 (at_ t r k)) fun k => x0 (at_ t r k) * x2 (gix k) := by
  rw [val_main_v32_apply, val_main_v31_apply, val_main_cst_7_apply]
  simp only [Finset.univ_unique, Finset.sum_singleton]
  rw [val_main_v30_apply, val_main_v29_apply, val_main_cst_6_apply, val_main_v28_apply, val_main_v24_apply, val_main_v23_apply,
    val_main_cst_5_apply, val_main_v10_apply, val_main_v9_apply, val_main_cst_2_apply, val_main_v8_apply, ref_ms, ref_rr,
    row_at x1 t r _ (by rfl)]
  simp only [pointwise, zero_add]
  refine congrArg (fun s => Ideal.div (s * _) _) (Finset.sum_congr rfl fun k _ => ?_)
  rw [val_main_v22_apply]
  have e : idx_main_v23 (idx_main_v24 (idx_main_v31 (idx_main_v32 (at_ t r n)) default)) k = at_ t r k :=
    funext fun a => Fin.ext (match a with
      | ⟨0, _⟩ => by show (t.val * 512 + r.val) * 1 + 0 = t.val * 512 + r.val; omega
      | ⟨1, _⟩ => rfl)
  rw [e, ref_y]
  rfl

theorem ref_apply (x0 x1 : (⟨S4096x2048, .f32⟩ : BufTy).Contents (Elt Ideal)) (x2 : (⟨S2048, .f32⟩ : BufTy).Contents (Elt Ideal))
    (x3 : (⟨S4096x2048, .f32⟩ : BufTy).Contents (Elt Ideal)) (t : Fin cfg0.N) (r : Fin 512) (n : Fin 2048) :
    val_main_v36 (F := Ideal) x0 x1 x2 x3 (at_ t r n)
      = derivGrad (fun k => x1 (at_ t r k)) (fun k => x0 (at_ t r k) * x2 (gix k)) (x3 (at_ t r n)) n := by
  rw [val_main_v36_apply, val_main_v35_apply, val_main_v34_apply, val_main_v33_apply, val_main_v27_apply, val_main_v26_apply,
    val_main_v25_apply, ref_rr, row_at x1 t r _ (by rfl), ref_y, ref_factor]
  rfl

theorem ref_term (x0 x1 : (⟨S4096x2048, .f32⟩ : BufTy).Contents (Elt Ideal)) (t : Fin cfg0.N) (r : Fin 512) (n : Fin 2048) :
    val_main_v16 (F := Ideal) x0 x1 (at_ t r n) = x0 (at_ t r n) * (x1 (at_ t r n) * rr fun k => x1 (at_ t r k)) := by
  rw [val_main_v16_apply, val_main_v12_apply, val_main_v11_apply, ref_rr, row_at x1 t r _ (by rfl)]
  exact mul_comm _ _

theorem ref_dg (x0 x1 : (⟨S4096x2048, .f32⟩ : BufTy).Contents (Elt Ideal)) (n : Fin 2048) :
    val_main_v38 (F := Ideal) x0 x1 (ix2 0 n) = ∑ t : Fin 8, ∑ r : Fin 512, val_main_v16 (F := Ideal) x0 x1 (at_ t r n) := by
  rw [val_main_v38_apply, val_main_v21_apply, val_main_cst_4_apply]
  simp only [Finset.univ_unique, Finset.sum_singleton]
  rw [val_main_v18_apply, val_main_v17_apply, val_main_cst_3_apply]
  simp only [pointwise, zero_add]
  rw [sum_chunks (a := 8) (b := 512) rfl]
  refine Finset.sum_congr rfl fun t _ => Finset.sum_congr rfl fun r _ => congrArg (val_main_v16 (F := Ideal) x0 x1) ?_
  exact funext fun a => Fin.ext (match a with
    | ⟨0, _⟩ => rfl
    | ⟨1, _⟩ => by show 0 * 2048 + (0 * 2048 + n.val) = n.val; omega)

/-- Where a block's elements sit in their array: the argument windows and the result windows. -/
theorem emb0 (t : Fin cfg0.N) (r : Fin 512) (n : Fin 2048) : (win0_0.rect t).emb (ix2 r n) = at_ t r n := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (r : Fin 512) (n : Fin 2048) : (win0_1.rect t).emb (ix2 r n) = at_ t r n := by
  obtain ⟨-, ⟨h0, h1⟩, -⟩ := idx_facts t
  refine funext fun a => Fin.ext ?_
  match a with
  | ⟨0, _⟩ => exact (win0_1.rect_emb_val t _ 0).trans (by rw [h0]; rfl)
  | ⟨1, _⟩ => exact (win0_1.rect_emb_val t _ 1).trans (by rw [h1]; exact (Nat.zero_mul _).symm ▸ Nat.zero_add _)

theorem emb2 (t : Fin cfg0.N) (n : Fin 2048) : (win0_2.rect t).emb (ix2 0 n) = ix2 0 n := by
  obtain ⟨-, -, ⟨h0, h1⟩, -⟩ := idx_facts t
  refine funext fun a => Fin.ext ?_
  match a with
  | ⟨0, _⟩ => exact (win0_2.rect_emb_val t _ 0).trans (by rw [h0]; exact (Nat.zero_mul _).symm ▸ Nat.zero_add _)
  | ⟨1, _⟩ => exact (win0_2.rect_emb_val t _ 1).trans (by rw [h1]; exact (Nat.zero_mul _).symm ▸ Nat.zero_add _)

theorem emb3 (t : Fin cfg0.N) (r : Fin 512) (n : Fin 2048) : (win0_3.rect t).emb (ix2 r n) = at_ t r n := by
  obtain ⟨-, -, -, ⟨h0, h1⟩, -⟩ := idx_facts t
  refine funext fun a => Fin.ext ?_
  match a with
  | ⟨0, _⟩ => exact (win0_3.rect_emb_val t _ 0).trans (by rw [h0]; rfl)
  | ⟨1, _⟩ => exact (win0_3.rect_emb_val t _ 1).trans (by rw [h1]; exact (Nat.zero_mul _).symm ▸ Nat.zero_add _)

theorem emb45 (t : Fin cfg0.N) (r : Fin 512) (n : Fin 2048) :
    (win0_4.rect t).emb (ix2 r n) = at_ t r n ∧ (win0_5.rect t).emb (ix2 r n) = at_ t r n := by
  obtain ⟨-, -, -, -, ⟨h0, h1⟩, ⟨h2, h3⟩, -⟩ := idx_facts t
  refine ⟨funext fun a => Fin.ext ?_, funext fun a => Fin.ext ?_⟩
  · match a with
    | ⟨0, _⟩ => exact (win0_4.rect_emb_val t _ 0).trans (by rw [h0]; rfl)
    | ⟨1, _⟩ => exact (win0_4.rect_emb_val t _ 1).trans (by rw [h1]; exact (Nat.zero_mul _).symm ▸ Nat.zero_add _)
  · match a with
    | ⟨0, _⟩ => exact (win0_5.rect_emb_val t _ 0).trans (by rw [h2]; rfl)
    | ⟨1, _⟩ => exact (win0_5.rect_emb_val t _ 1).trans (by rw [h3]; exact (Nat.zero_mul _).symm ▸ Nat.zero_add _)

theorem emb6 (t : Fin cfg0.N) (n : Fin 2048) : (win0_6.rect t).emb (ix2 0 n) = ix2 0 n := by
  obtain ⟨-, -, -, -, -, -, h0, h1⟩ := idx_facts t
  refine funext fun a => Fin.ext ?_
  match a with
  | ⟨0, _⟩ => exact (win0_6.rect_emb_val t _ 0).trans (by rw [h0]; exact (Nat.zero_mul _).symm ▸ Nat.zero_add _)
  | ⟨1, _⟩ => exact (win0_6.rect_emb_val t _ 1).trans (by rw [h1]; exact (Nat.zero_mul _).symm ▸ Nat.zero_add _)

/-- The argument blocks at an element. -/
theorem blk0 (c : Dev nD) (t : Fin cfg0.N) (r : Fin 512) (n : Fin 2048) : iblk m c 0 t (ix2 r n) = A0 m c (at_ t r n) :=
  (congrFun (V_main_arg0 m c) _).trans (congrArg (A0 m c) (emb0 t r n))
theorem blk1 (c : Dev nD) (t : Fin cfg0.N) (r : Fin 512) (n : Fin 2048) : iblk m c 1 t (ix2 r n) = A1 m c (at_ t r n) :=
  (congrFun (V_main_arg1 m c) _).trans (congrArg (A1 m c) (emb1 t r n))
theorem blk2 (c : Dev nD) (t : Fin cfg0.N) (n : Fin 2048) : iblk m c 2 t (ix2 0 n) = A2 m c (gix n) :=
  (congrFun (V_gain m c) _).trans ((congrArg _ (emb2 t n)).trans (gain_apply _ _))
theorem blk3 (c : Dev nD) (t : Fin cfg0.N) (r : Fin 512) (n : Fin 2048) : iblk m c 3 t (ix2 r n) = A3 m c (at_ t r n) :=
  (congrFun (V_main_arg3 m c) _).trans (congrArg (A3 m c) (emb3 t r n))

/-- A block's gradient at an element is the reference's at its array index. -/
theorem grad_block (c : Dev nD) (t : Fin cfg0.N) (r : Fin 512) (n : Fin 2048) :
    k0_pay4 (F := Ideal) (iblk m c 1 t) (iblk m c 0 t) (iblk m c 2 t) (iblk m c 3 t) (ix2 r n)
      = val_main_v36 (F := Ideal) (A0 m c) (A1 m c) (A2 m c) (A3 m c) (at_ t r n) := by
  rw [pay4_apply, ref_apply, ← grad_eq]
  have e1 : (fun k => iblk m c 1 t (ix2 r k)) = fun k => A1 m c (at_ t r k) := funext fun k => blk1 m c t r k
  have e0 : (fun k => @HMul.hMul EReal EReal EReal _ (iblk m c 0 t (ix2 r k)) (iblk m c 2 t (ix2 0 k))) = fun k => A0 m c (at_ t r k) * A2 m c (gix k) :=
    funext fun k => congrArg₂ (· * ·) (blk0 m c t r k) (blk2 m c t k)
  exact (congrArg (fun s => blockGrad _ _ s n) (blk3 m c t r n)).trans (congrArg₂ (fun a b => blockGrad a b _ n) e1 e0)

/-- What a block adds to the gain's gradient: its rows' terms. -/
theorem part_block (c : Dev nD) (t : Fin cfg0.N) (v : Vec Ideal S1x2048 .f32) (n : Fin 2048) :
    k0_pay1 (F := Ideal) (iblk m c 0 t) (k0_pay3 (iblk m c 1 t)) v (ix2 0 n)
      = v (ix2 0 n) + ∑ r : Fin 512, val_main_v16 (F := Ideal) (A0 m c) (A1 m c) (at_ t r n) := by
  rw [pay1_apply]
  refine congrArg (v (ix2 0 n) + ·) (Finset.sum_congr rfl fun r _ => ?_)
  rw [ref_term]
  have e1 : (fun k => iblk m c 1 t (ix2 r k)) = fun k => A1 m c (at_ t r k) := funext fun k => blk1 m c t r k
  exact congrArg₂ (· * ·) (blk0 m c t r n) (congrArg₂ (· * ·) (blk1 m c t r n) (congrArg rr e1))

/-- The gain's gradient after a point: the blocks so far. -/
def part (c : Dev nD) (n : Fin 2048) (s : ℕ) : EReal :=
  if h : s < 8 then ∑ r : Fin 512, val_main_v16 (F := Ideal) (A0 m c) (A1 m c) (at_ ⟨s, h⟩ r n) else 0
def acc (c : Dev nD) (n : Fin 2048) (s : ℕ) : EReal := if h : s < 8 then (outsAt0 m c s h).2.2 (ix2 0 n) else 0

theorem acc_eq (c : Dev nD) (n : Fin 2048) (s : ℕ) (h : s < 8) : acc m c n s = ∑ u ∈ Finset.range (s + 1), part m c n u := by
  refine fold_sum _ _ ?_ 8 (fun k hk => ?_) s h
  · rw [acc, part, dif_pos (by omega), dif_pos (by omega)]
    refine (congrFun (acc_A m c ⟨0, by decide⟩ rfl) _).trans ((part_block m c ⟨0, by decide⟩ _ n).trans ?_)
    exact (congrArg (· + _) (show k0_pay6 (F := Ideal) (ix2 0 n) = 0 from by unfold k0_pay6; simp only [pointwise])).trans (zero_add _)
  · rw [acc, acc, part, dif_pos hk, dif_pos (by omega), dif_pos hk]
    exact (congrFun (acc_B m c ⟨k + 1, hk⟩ (by show ¬(k + 1) % 8 = 0; omega)) _).trans (part_block m c ⟨k + 1, hk⟩ _ n)

/-- Every index of the gradient is one of a block's elements. -/
theorem onto (i : S4096x2048.Idx) : ∃ t : Fin cfg0.N, ∃ r n, at_ t r n = i := by
  have h0 : (i 0).val < 4096 := (i 0).isLt
  refine ⟨⟨(i 0).val / 512, by show _ < 8; omega⟩, ⟨(i 0).val % 512, by omega⟩, ⟨(i 1).val, (i 1).isLt⟩, funext fun a => Fin.ext ?_⟩
  match a with
  | ⟨0, _⟩ => show (i 0).val / 512 * 512 + (i 0).val % 512 = (i 0).val; omega
  | ⟨1, _⟩ => rfl

/-- The gradient, its rounded copy and the gain's gradient: the arrays after the run are the reference's. -/
theorem final_dx (c : Dev nD) :
    (dats m 0 c).arrAt 4 cfg0.N = val_main_v36 (F := Ideal) (A0 m c) (A1 m c) (A2 m c) (A3 m c) := by
  refine (dats m 0 c).arrAt_eq_of_cover 4 _ (fun t hf => ?_) (fun i => ?_)
  · rw [Cert.RmsMixIdeal.Value.flushed4, block4]
    funext y
    obtain ⟨r, n, rfl⟩ : ∃ r n, y = ix2 r n := ⟨y 0, y 1, eq_ix2 y⟩
    show k0_pay4 (F := Ideal) _ _ _ _ (ix2 r n) = val_main_v36 (F := Ideal) _ _ _ _ ((win0_4.rect t).emb (ix2 r n))
    rw [(emb45 t r n).1]
    exact grad_block m c t r n
  · obtain ⟨t, r, n, rfl⟩ := onto i
    rw [← (emb45 t r n).1]
    exact ⟨t, flush0_4 t, View.emb_mem_set ((cfg0.win 4).blk t).view _⟩

theorem final_dxb (c : Dev nD) :
    (dats m 0 c).arrAt 5 cfg0.N = val_main_v37 (F := Ideal) (A0 m c) (A1 m c) (A2 m c) (A3 m c) := by
  refine (dats m 0 c).arrAt_eq_of_cover 5 _ (fun t hf => ?_) (fun i => ?_)
  · rw [Cert.RmsMixIdeal.Value.flushed5, block5]
    funext y
    obtain ⟨r, n, rfl⟩ : ∃ r n, y = ix2 r n := ⟨y 0, y 1, eq_ix2 y⟩
    show k0_pay4 (F := Ideal) _ _ _ _ (ix2 r n) = val_main_v36 (F := Ideal) _ _ _ _ ((win0_5.rect t).emb (ix2 r n))
    rw [(emb45 t r n).2]
    exact grad_block m c t r n
  · obtain ⟨t, r, n, rfl⟩ := onto i
    rw [← (emb45 t r n).2]
    exact ⟨t, flush0_5 t, View.emb_mem_set ((cfg0.win 5).blk t).view _⟩

theorem final_dg (c : Dev nD) : (dats m 0 c).arrAt 6 cfg0.N = val_main_v38 (F := Ideal) (A0 m c) (A1 m c) := by
  refine (dats m 0 c).arrAt_eq_of_cover 6 _ (fun t hf => ?_) (fun i => ?_)
  · have h7 : t.val % 8 = 7 := (flush0_6 t).mp hf
    have hN : t.val < 8 := t.isLt
    obtain rfl : t = ⟨7, by decide⟩ := Fin.ext (by show t.val = 7; omega)
    rw [Cert.RmsMixIdeal.Value.flushed6]
    funext y
    obtain ⟨z, n, rfl⟩ : ∃ z n, y = ix2 z n := ⟨y 0, y 1, eq_ix2 y⟩
    obtain rfl : z = 0 := Fin.ext (by have : z.val < 1 := z.isLt; show z.val = 0; omega)
    show (outsAt0 m c 7 (by decide)).2.2 (ix2 0 n) = val_main_v38 (F := Ideal) _ _ ((win0_6.rect ⟨7, by decide⟩).emb (ix2 0 n))
    rw [emb6, ref_dg]
    have h := acc_eq m c n 7 (by decide)
    rw [acc, dif_pos (by decide), Finset.sum_range] at h
    refine h.trans (Finset.sum_congr rfl fun s _ => ?_)
    rw [part, dif_pos s.isLt]
  · obtain ⟨z, n, rfl⟩ : ∃ z n, i = ix2 z n := ⟨i 0, i 1, eq_ix2 i⟩
    obtain rfl : z = 0 := Fin.ext (by have : z.val < 1 := z.isLt; show z.val = 0; omega)
    rw [← emb6 ⟨7, by decide⟩ n]
    exact ⟨⟨7, by decide⟩, (flush0_6 _).mpr rfl, View.emb_mem_set ((cfg0.win 6).blk ⟨7, by decide⟩).view _⟩

/-- The kernel computes the reference's three results: started with the same arguments, both programs' runs end with the same
    results and with the arguments unchanged. -/
theorem algebraic : Cert.algebraic_RmsMixIdeal_RmsMixRefIdeal := by
  intro m g m' g' _ hagree
  refine ⟨fun c => val_main_v36 (F := Ideal) (A0 m c) (A1 m c) (A2 m c) (A3 m c),
    fun c => val_main_v37 (F := Ideal) (A0 m c) (A1 m c) (A2 m c) (A3 m c),
    fun c => val_main_v38 (F := Ideal) (A0 m c) (A1 m c),
    (θ_run _ _ _).mono (fun r h c => ?_) (Cert.RmsMixIdeal.Value.run_blocks (F := Ideal) m g),
    (θ_run _ _ _).mono (fun r h c => ?_) (Cert.RmsMixRefIdeal.Value.run (F := Ideal) m' g')⟩
  · exact ⟨(h c).1.trans (final_dx m c), (h c).2.1.trans (final_dxb m c), (h c).2.2.1.trans (final_dg m c), (h c).2.2.2⟩
  · obtain ⟨a0, a1, a2, a3⟩ := hagree c
    refine ⟨(h c).1.trans ?_, (h c).2.1.trans ?_, (h c).2.2.1.trans ?_, (h c).2.2.2⟩
    · rw [a0, a1, a2, a3]; exact val_main_v36_eq _ _ _ _
    · rw [a0, a1, a2, a3]; exact val_main_v37_eq _ _ _ _
    · rw [a0, a1]; exact val_main_v38_eq _ _

/-- The reference's own run ends, with its arguments unchanged and every counter at zero. -/
theorem frame_reference : Cert.quiescent_RmsMixRefIdeal := fun m ρ _ =>
  (θ_run Cert.RmsMixRefIdeal.defs _ _).mono (fun r h => ⟨fun c => (h c).2.2.2, Idealize.ShloMosaic.sem_eq_zero_of_no_sems (by decide) r.2⟩)
    (Cert.RmsMixRefIdeal.Value.run (F := Ideal) m ρ)

end Cert.Proof.RmsMixValue

end
-- ==== Proof.ConvPay.lean ====
/-
  The blocks of the convolution's backward call at an element. Each block sees its own 1024 rows and one group of eight rows before
  and after them: a rotation brings a row's neighbour beside it, and the rows at the block's edge are taken from the group.
-/
module

public import proofs.«01_k».proof.Proof.Gen.ConvIdeal.Value
public import proofs.«01_k».proof.Proof.Chunks
public import Idealize.ShloMosaic.Lib.KernelVsHost

@[expose] public section

noncomputable section

namespace Cert.Proof.ConvPay

open Cert.ConvIdeal Cert.ConvIdeal.Gen Idealize.ShloMosaic

/-- A select on a coordinate's being a given number is the `if` on it. -/
theorem select_at {α : Type} (r k : ℕ) (hr : r < 2 ^ 32) (hk : k < 2 ^ 32) (A B : α) :
    Scalar.select (IntOp.cmpi .eq (BitVec.ofNat 32 r) (BitVec.ofNat 32 k)) A B = if r = k then A else B := by
  by_cases h : r = k
  · subst h
    rw [if_pos rfl]
    have e : IntOp.cmpi .eq (BitVec.ofNat 32 r) (BitVec.ofNat 32 r) = 1#1 := by simp [IntOp.cmpi]
    rw [e]; rfl
  · rw [if_neg h]
    have hne : BitVec.ofNat 32 r ≠ BitVec.ofNat 32 k := fun e => h (by
      have := congrArg BitVec.toNat e
      rwa [BitVec.toNat_ofNat, BitVec.toNat_ofNat, Nat.mod_eq_of_lt hr, Nat.mod_eq_of_lt hk] at this)
    have e : IntOp.cmpi .eq (BitVec.ofNat 32 r) (BitVec.ofNat 32 k) = 0#1 := by
      show BitVec.ofBool (BitVec.ofNat 32 r == BitVec.ofNat 32 k) = 0#1
      rw [beq_eq_false_iff_ne.2 hne]; rfl
    rw [e]; rfl

/-- The same, for the row numbers of a block and of a group. -/
theorem select_row {α : Type} (r : Fin 1024) (n : Fin 512) (k : ℕ) (hk : k < 2 ^ 32) (h : S1024x512.Iotas .tc 32 [0]) (A B : α) :
    Scalar.select (cmpi .eq (iota .tc S1024x512 32 [0] h) (broadcast S1024x512 (BitVec.ofNat 32 k)) (ix2 r n)) A B
      = if r.val = k then A else B := by
  have e : iota .tc S1024x512 32 [0] h (ix2 r n) = BitVec.ofNat 32 r.val :=
    congrArg (BitVec.ofNat 32) (by show 0 * 1024 + r.val = r.val; omega)
  show Scalar.select (IntOp.cmpi .eq (iota .tc _ 32 [0] h (ix2 r n)) (BitVec.ofNat 32 k)) A B = _
  rw [e]
  exact select_at r.val k (by omega) hk A B

theorem select_row8 {α : Type} (r : Fin 8) (n : Fin 512) (k : ℕ) (hk : k < 2 ^ 32) (h : S8x512.Iotas .tc 32 [0]) (A B : α) :
    Scalar.select (cmpi .eq (iota .tc S8x512 32 [0] h) (broadcast S8x512 (BitVec.ofNat 32 k)) (ix2 r n)) A B
      = if r.val = k then A else B := by
  have e : iota .tc S8x512 32 [0] h (ix2 r n) = BitVec.ofNat 32 r.val :=
    congrArg (BitVec.ofNat 32) (by show 0 * 8 + r.val = r.val; omega)
  show Scalar.select (IntOp.cmpi .eq (iota .tc _ 32 [0] h (ix2 r n)) (BitVec.ofNat 32 k)) A B = _
  rw [e]
  exact select_at r.val k (by omega) hk A B

/-- The flags "not the first row block" and "not the last row block", as the factor that the rows beyond are multiplied by. -/
theorem flag_gt (k : ℕ) (hk : k < 4) :
    Scalar.sitofp (F := Ideal) .f32 (Scalar.extui (Scalar.cmpi .sgt (BitVec.ofNat 32 k) 0#32)) = if k = 0 then 0 else 1 := by
  interval_cases k <;> simp [Scalar.cmpi, IntOp.cmpi, Scalar.extui] <;> rfl

theorem flag_lt (k : ℕ) (hk : k < 4) :
    Scalar.sitofp (F := Ideal) .f32 (Scalar.extui (Scalar.cmpi .slt (BitVec.ofNat 32 k) 3#32)) = if k = 3 then 0 else 1 := by
  interval_cases k <;> simp [Scalar.cmpi, IntOp.cmpi, Scalar.extui] <;> rfl

/-- A rotation along the rows, at an element. -/
theorem rot_apply (sb : BitVec 32) (x : S1024x512.Idx → EReal) (h : S1024x512.Rotates 0 none) (r r' : Fin 1024) (n : Fin 512)
    (hr : r'.val = (r.val + 1024 - sb.toNat % 1024) % 1024) :
    dynamicRotate 0 sb none x h (ix2 r n) = x (ix2 r' n) :=
  dynamicRotate_apply 0 sb x h _ _ fun b => match b with
    | ⟨0, _⟩ => hr
    | ⟨1, _⟩ => rfl

/-- One row repeated down a block, and a row taken out of a group. -/
theorem spread_row (x : S1x512.Idx → EReal) (hc : S1x512.ShapeCasts S1x512) (hb : S1x512.Broadcasts S1024x512) (r : Fin 1024) (n : Fin 512) :
    broadcastTo S1024x512 (shapeCast S1x512 x hc) hb (ix2 r n) = x (ix2 0 n) := by
  rw [broadcastTo_apply _ _ _ (ix2 0 n) (fun a => match a with | ⟨0, _⟩ => rfl | ⟨1, _⟩ => rfl), shapeCast_self]

theorem group_row (q : Fin 8) (k : ℕ) (hk : q.val = k) (x : S8x512.Idx → EReal) (h : S8x512.Slices ![k, 0] S1x512) (n : Fin 512) :
    extractStridedSlice S1x512 ![k, 0] x h (ix2 0 n) = x (ix2 q n) :=
  extractStridedSlice_apply _ _ _ _ _ fun b => match b with
    | ⟨0, _⟩ => hk
    | ⟨1, _⟩ => (Nat.zero_add _).symm

variable (i : grid0.Coords)

theorem pay1_apply (z g : Vec Ideal S1024x512 .f32) (r : Fin 1024) (n : Fin 512) :
    k0_pay1 (F := Ideal) z g (ix2 r n) = g (ix2 r n) * z (ix2 r n) := rfl

theorem pay2_apply (gp zp : Vec Ideal S8x512 .f32) (r : Fin 8) (n : Fin 512) :
    k0_pay2 (F := Ideal) i gp zp (ix2 r n) = gp (ix2 r n) * zp (ix2 r n) * if (i 1).val = 0 then 0 else 1 := by
  unfold k0_pay2
  exact congrArg (gp (ix2 r n) * zp (ix2 r n) * ·) (flag_gt (i 1).val (i 1).isLt)

theorem pay14_apply (k : ℕ) (hk : k < 4) (dn gn : Vec Ideal S8x512 .f32) (r : Fin 8) (n : Fin 512) :
    k0_pay14 (F := Ideal) (BitVec.ofNat 32 k) dn gn (ix2 r n) = dn (ix2 r n) * gn (ix2 r n) * if k = 3 then 0 else 1 := by
  unfold k0_pay14
  exact congrArg (dn (ix2 r n) * gn (ix2 r n) * ·) (flag_lt k hk)

/-- The rows one and two before. -/
theorem pay4_apply (z g : Vec Ideal S1024x512 .f32) (gp zp : Vec Ideal S8x512 .f32) (r : Fin 1024) (n : Fin 512) :
    k0_pay4 (F := Ideal) i z g gp zp (ix2 r n)
      = if h : r.val = 0 then k0_pay2 (F := Ideal) i gp zp (ix2 7 n)
        else k0_pay1 (F := Ideal) z g (ix2 ⟨r.val - 1, by omega⟩ n) := by
  unfold k0_pay4 k0_pay3
  rw [ValueIdx.select_apply, select_row r n 0 (by omega)]
  by_cases h : r.val = 0
  · rw [if_pos h, dif_pos h, spread_row, group_row 7 7 rfl]
  · rw [if_neg h, dif_neg h]
    exact rot_apply _ _ _ _ _ _ (by show r.val - 1 = (r.val + 1024 - 1 % 1024) % 1024; omega)

theorem pay5_apply (z g : Vec Ideal S1024x512 .f32) (gp zp : Vec Ideal S8x512 .f32) (r : Fin 1024) (n : Fin 512) :
    k0_pay5 (F := Ideal) i z g gp zp (ix2 r n)
      = if h : r.val < 2 then k0_pay2 (F := Ideal) i gp zp (ix2 ⟨6 + r.val, by omega⟩ n)
        else k0_pay1 (F := Ideal) z g (ix2 ⟨r.val - 2, by omega⟩ n) := by
  unfold k0_pay5 k0_pay3
  rw [ValueIdx.select_apply, select_row r n 0 (by omega)]
  by_cases h0 : r.val = 0
  · rw [if_pos h0, dif_pos (by omega), spread_row, group_row ⟨6 + r.val, by omega⟩ 6 (by show 6 + r.val = 6; omega)]
  · rw [if_neg h0, ValueIdx.select_apply, select_row r n 1 (by omega)]
    by_cases h1 : r.val = 1
    · rw [if_pos h1, dif_pos (by omega), spread_row, group_row ⟨6 + r.val, by omega⟩ 7 (by show 6 + r.val = 7; omega)]
    · rw [if_neg h1, dif_neg (by omega)]
      exact rot_apply _ _ _ _ _ _ (by show r.val - 2 = (r.val + 1024 - 2 % 1024) % 1024; omega)

/-- The taps' rows. -/
theorem pay7_apply (w : Vec Ideal S8x512 .f32) (n : Fin 512) : k0_pay7 (F := Ideal) w (ix2 0 n) = w (ix2 0 n) := by
  unfold k0_pay7 k0_pay6
  rw [extractStridedSlice_apply _ _ _ (ix2 0 n) (ix2 0 n) (fun b => match b with
    | ⟨0, _⟩ => rfl
    | ⟨1, _⟩ => (Nat.zero_add _).symm), shapeCast_self]
theorem pay8_apply (w : Vec Ideal S8x512 .f32) (n : Fin 512) : k0_pay8 (F := Ideal) w (ix2 0 n) = w (ix2 1 n) := by
  unfold k0_pay8 k0_pay6
  rw [extractStridedSlice_apply _ _ _ (ix2 0 n) (ix2 1 n) (fun b => match b with
    | ⟨0, _⟩ => rfl
    | ⟨1, _⟩ => (Nat.zero_add _).symm), shapeCast_self]
theorem pay9_apply (w : Vec Ideal S8x512 .f32) (n : Fin 512) : k0_pay9 (F := Ideal) w (ix2 0 n) = w (ix2 2 n) := by
  unfold k0_pay9 k0_pay6
  rw [extractStridedSlice_apply _ _ _ (ix2 0 n) (ix2 2 n) (fun b => match b with
    | ⟨0, _⟩ => rfl
    | ⟨1, _⟩ => (Nat.zero_add _).symm), shapeCast_self]

/-- The gate's gradient at an element. -/
theorem dgb_apply (z g : Vec Ideal S1024x512 .f32) (gp zp w : Vec Ideal S8x512 .f32) (d : Vec Ideal S1024x512 .f32) (r : Fin 1024) (n : Fin 512) :
    k0_pay12 (F := Ideal) (k0_pay1 z g) (k0_pay4 i z g gp zp) (k0_pay9 w) (k0_pay10 i z g gp zp w) (k0_pay11 w) d (ix2 r n)
      = d (ix2 r n) * (w (ix2 0 n) * k0_pay5 (F := Ideal) i z g gp zp (ix2 r n) + w (ix2 1 n) * k0_pay4 (F := Ideal) i z g gp zp (ix2 r n)
          + w (ix2 2 n) * k0_pay1 (F := Ideal) z g (ix2 r n)) := by
  rw [← pay7_apply w n, ← pay8_apply w n, ← pay9_apply w n]
  unfold k0_pay12 k0_pay10 k0_pay11
  simp only [pointwise]
  rfl

/-- The gradient of the convolution's input at an element: the rows one and two after. -/
theorem next1_apply (k : ℕ) (hk : k < 4) (g d : Vec Ideal S1024x512 .f32) (dn gn w : Vec Ideal S8x512 .f32) (r : Fin 1024) (n : Fin 512) :
    k0_pay16 (F := Ideal) (BitVec.ofNat 32 k) g (k0_pay8 w) (k0_pay9 w) d dn gn (ix2 r n)
      = w (ix2 2 n) * k0_pay13 (F := Ideal) g d (ix2 r n)
        + w (ix2 1 n) * (if h : r.val = 1023 then k0_pay14 (F := Ideal) (BitVec.ofNat 32 k) dn gn (ix2 0 n)
            else k0_pay13 (F := Ideal) g d (ix2 ⟨r.val + 1, by omega⟩ n)) := by
  rw [← pay8_apply w n, ← pay9_apply w n]
  unfold k0_pay16 k0_pay15
  rw [ValueIdx.addf_apply, ValueIdx.mulf_apply, ValueIdx.mulf_apply, ValueIdx.select_apply, select_row r n 1023 (by omega)]
  refine congrArg₂ (· + ·) (congrArg (· * _) ?_) (congrArg₂ (· * ·) ?_ ?_)
  · simp only [pointwise]; rfl
  · simp only [pointwise]; rfl
  · by_cases h : r.val = 1023
    · rw [if_pos h, dif_pos h, spread_row]
      exact group_row 0 0 rfl _ _ n
    · rw [if_neg h, dif_neg h]
      exact rot_apply _ _ _ _ _ _ (by show r.val + 1 = (r.val + 1024 - 1023 % 1024) % 1024; omega)

theorem next2_apply (k : ℕ) (hk : k < 4) (g d : Vec Ideal S1024x512 .f32) (dn gn w : Vec Ideal S8x512 .f32) (r : Fin 1024) (n : Fin 512) :
    k0_pay17 (F := Ideal) (BitVec.ofNat 32 k) g (k0_pay7 w) d dn gn (ix2 r n)
      = w (ix2 0 n) * (if h : 1022 ≤ r.val then k0_pay14 (F := Ideal) (BitVec.ofNat 32 k) dn gn (ix2 ⟨r.val - 1022, by omega⟩ n)
            else k0_pay13 (F := Ideal) g d (ix2 ⟨r.val + 2, by omega⟩ n)) := by
  rw [← pay7_apply w n]
  unfold k0_pay17 k0_pay15
  rw [ValueIdx.mulf_apply, ValueIdx.select_apply, select_row r n 1023 (by omega)]
  refine congrArg₂ (· * ·) ?_ ?_
  · simp only [pointwise]; rfl
  · by_cases h : r.val = 1023
    · rw [if_pos h, dif_pos (by omega), spread_row, group_row ⟨r.val - 1022, by omega⟩ 1 (by show r.val - 1022 = 1; omega)]
    · rw [if_neg h, ValueIdx.select_apply, select_row r n 1022 (by omega)]
      by_cases h1 : r.val = 1022
      · rw [if_pos h1, dif_pos (by omega), spread_row]
        exact group_row ⟨r.val - 1022, by omega⟩ 0 (by show r.val - 1022 = 0; omega) _ _ n
      · rw [if_neg h1, dif_neg (by omega)]
        exact rot_apply _ _ _ _ _ _ (by show r.val + 2 = (r.val + 1024 - 1022 % 1024) % 1024; omega)

/-- What a block adds to the taps' gradient: in the rows 0, 1 and 2, the sums of its rows' products with the rows two before, one
    before, and the same; nothing in the other rows. -/
theorem dw_apply (cz s1 s2 dy : FVec Ideal S1024x512 .f32) (acc : Vec Ideal S8x512 .f32) (q : Fin 8) (n : Fin 512) :
    k0_pay22 (F := Ideal) cz s1 s2 dy acc (ix2 q n)
      = acc (ix2 q n) + if q.val = 0 then ∑ r : Fin 1024, dy (ix2 r n) * s2 (ix2 r n)
          else if q.val = 1 then ∑ r : Fin 1024, dy (ix2 r n) * s1 (ix2 r n)
          else if q.val = 2 then ∑ r : Fin 1024, dy (ix2 r n) * cz (ix2 r n) else 0 := by
  unfold k0_pay22
  rw [ValueIdx.addf_apply, ValueIdx.select_apply, ValueIdx.select_apply, ValueIdx.select_apply]
  rw [select_row8 q n 0 (by omega), select_row8 q n 1 (by omega), select_row8 q n 2 (by omega)]
  refine congrArg₂ (· + ·) (by rw [shapeCast_self]) (if_congr Iff.rfl ?_ (if_congr Iff.rfl ?_ (if_congr Iff.rfl ?_ ?_)))
  · simp only [pointwise, shapeCast_self, zero_add]; rfl
  · simp only [pointwise, shapeCast_self, zero_add]; rfl
  · simp only [pointwise, shapeCast_self, zero_add]; rfl
  · simp only [pointwise]

end Cert.Proof.ConvPay

end
-- ==== Proof.ConvRef.lean ====
/-
  The convolution's reference at an element: the products read a few rows before, and the gradients a few rows after, are zero
  beyond the array's ends.
-/
module

public import proofs.«01_k».proof.Proof.Gen.ConvRefIdeal.Read
public import proofs.«01_k».proof.Proof.Chunks
public import Idealize.ShloMosaic.Lib.KernelVsHost

@[expose] public section

noncomputable section

namespace Cert.Proof.ConvRef

open Cert.ConvRefIdeal Idealize.ShloMosaic
open Cert.ConvRefIdeal.Read

/-- The element `k` rows before, and the one `k` rows after; zero beyond the ends. -/
def back (f : S4096x1024.Idx → EReal) (k : ℕ) (R : Fin 4096) (n : Fin 1024) : EReal :=
  if h : k ≤ R.val then f (ix2 ⟨R.val - k, by omega⟩ n) else 0
def fwd (f : S4096x1024.Idx → EReal) (k : ℕ) (R : Fin 4096) (n : Fin 1024) : EReal :=
  if h : R.val + k < 4096 then f (ix2 ⟨R.val + k, h⟩ n) else 0

theorem back_zero (f : S4096x1024.Idx → EReal) (R : Fin 4096) (n : Fin 1024) : back f 0 R n = f (ix2 R n) := dif_pos (Nat.zero_le _)

/-- Rows of zeros put before and after an array's rows, at an element. -/
theorem pad_rows {A B C : ℕ} (lo hi : ℕ) (x : (⟨2, ![A, C]⟩ : Shape).Idx → EReal) (v : S_.Idx → EReal)
    (h : Shape.Pads ⟨2, ![A, C]⟩ ![lo, 0] ![hi, 0] ![0, 0] ⟨2, ![B, C]⟩) (hu : 0 < S_.numel) (hv : v (Shape.Idx.first hu) = 0)
    (R : Fin B) (n : Fin C) :
    pad ⟨2, ![B, C]⟩ ![lo, 0] ![hi, 0] ![0, 0] x v h hu (ix2 R n)
      = if h : lo ≤ R.val ∧ R.val - lo < A then x (ix2 ⟨R.val - lo, h.2⟩ n) else 0 := by
  split
  · next h' =>
    exact pad_apply_of_inside _ _ _ _ _ _ _ _ _ fun a => match a with
      | ⟨0, _⟩ => by show R.val = lo + (R.val - lo) * 1; omega
      | ⟨1, _⟩ => by show n.val = 0 + n.val * 1; omega
  · next h' =>
    refine (pad_apply_of_not_inside _ _ _ _ _ _ _ _ 0 fun hin => h' ⟨hin.1, ?_⟩).trans hv
    have := hin.2.2
    have e : (R.val - lo) / 1 < A := this
    omega

variable (x0 : (⟨S4096x8704, .f32⟩ : BufTy).Contents (Elt Ideal)) (x1 : (⟨S3x1024, .f32⟩ : BufTy).Contents (Elt Ideal))
  (x2 : (⟨S4096x1024, .f32⟩ : BufTy).Contents (Elt Ideal))

/-- The products with two rows of zeros before them. -/
theorem v5_apply (R : Fin 4098) (n : Fin 1024) :
    val_main_v5 (F := Ideal) x0 (ix2 R n) = if h : 2 ≤ R.val then val_main_v3 (F := Ideal) x0 (ix2 ⟨R.val - 2, by omega⟩ n) else 0 := by
  unfold val_main_v5
  generalize val_main_v3 (F := Ideal) x0 = y
  split
  · next h =>
    exact concatenate_pair_apply_right (t := S4098x1024) (s₁ := S2x1024) (s₂ := S4096x1024) 0 _ y _ (ix2 R n) rfl rfl
      (ix2 ⟨R.val - 2, by omega⟩ n) (fun b hb => match b, hb with | ⟨0, _⟩, hb => absurd rfl hb | ⟨1, _⟩, _ => rfl)
      (by show R.val - 2 + 2 = R.val; omega)
  · next h =>
    refine (concatenate_pair_apply_left (t := S4098x1024) (s₁ := S2x1024) (s₂ := S4096x1024) 0 _ y _ (ix2 R n) rfl
      (ix2 ⟨R.val, by omega⟩ n) (fun b => match b with | ⟨0, _⟩ => rfl | ⟨1, _⟩ => rfl)).trans ?_
    rw [val_main_v4_apply, val_main_cst_apply]
    simp only [pointwise]

theorem v9_apply (R : Fin 4096) (n : Fin 1024) :
    val_main_v9 (F := Ideal) x0 (ix2 R n) = back (val_main_v3 (F := Ideal) x0) 2 R n := by
  rw [val_main_v9_apply]
  exact (congrArg _ (funext fun a => Fin.ext (match a with | ⟨0, _⟩ => rfl | ⟨1, _⟩ => rfl))).trans
    (v5_apply x0 ⟨R.val, by omega⟩ n)

theorem v15_apply (R : Fin 4096) (n : Fin 1024) :
    val_main_v15 (F := Ideal) x0 (ix2 R n) = back (val_main_v3 (F := Ideal) x0) 1 R n := by
  have e : idx_main_v15 (ix2 R n) = ix2 (⟨1 + R.val, by omega⟩ : Fin 4098) n :=
    funext fun a => Fin.ext (match a with | ⟨0, _⟩ => rfl | ⟨1, _⟩ => rfl)
  rw [val_main_v15_apply, e, v5_apply]
  unfold back
  by_cases h : 1 ≤ R.val
  · rw [dif_pos (by show 2 ≤ 1 + R.val; omega), dif_pos h]
    exact congrArg (fun r => val_main_v3 (F := Ideal) x0 (ix2 r n)) (Fin.ext (by show 1 + R.val - 2 = R.val - 1; omega))
  · rw [dif_neg (by show ¬2 ≤ 1 + R.val; omega), dif_neg h]

theorem v22_apply (R : Fin 4096) (n : Fin 1024) :
    val_main_v22 (F := Ideal) x0 (ix2 R n) = val_main_v3 (F := Ideal) x0 (ix2 R n) := by
  have e : idx_main_v22 (ix2 R n) = ix2 (⟨2 + R.val, by omega⟩ : Fin 4098) n :=
    funext fun a => Fin.ext (match a with | ⟨0, _⟩ => rfl | ⟨1, _⟩ => rfl)
  rw [val_main_v22_apply, e, v5_apply]
  rw [dif_pos (by show 2 ≤ 2 + R.val; omega)]
  exact congrArg (fun r => val_main_v3 (F := Ideal) x0 (ix2 r n)) (Fin.ext (by show 2 + R.val - 2 = R.val; omega))

/-- The taps, at any row. -/
theorem tap0 (R : Fin 4096) (n : Fin 1024) : val_main_v11 (F := Ideal) x1 (ix2 R n) = x1 (ix2 0 n) ∧ val_main_v50 (F := Ideal) x1 (ix2 R n) = x1 (ix2 0 n) := by
  constructor
  · rw [val_main_v11_apply, val_main_v10_apply, val_main_v8_apply, val_main_v7_apply]
    exact congrArg x1 (funext fun a => Fin.ext (match a with | ⟨0, _⟩ => rfl | ⟨1, _⟩ => Nat.mod_eq_of_lt n.isLt))
  · rw [val_main_v50_apply, val_main_v10_apply, val_main_v8_apply, val_main_v7_apply]
    exact congrArg x1 (funext fun a => Fin.ext (match a with | ⟨0, _⟩ => rfl | ⟨1, _⟩ => Nat.mod_eq_of_lt n.isLt))
theorem tap1 (R : Fin 4096) (n : Fin 1024) : val_main_v17 (F := Ideal) x1 (ix2 R n) = x1 (ix2 1 n) ∧ val_main_v39 (F := Ideal) x1 (ix2 R n) = x1 (ix2 1 n) := by
  constructor
  · rw [val_main_v17_apply, val_main_v16_apply, val_main_v14_apply, val_main_v13_apply]
    exact congrArg x1 (funext fun a => Fin.ext (match a with | ⟨0, _⟩ => rfl | ⟨1, _⟩ => Nat.mod_eq_of_lt n.isLt))
  · rw [val_main_v39_apply, val_main_v16_apply, val_main_v14_apply, val_main_v13_apply]
    exact congrArg x1 (funext fun a => Fin.ext (match a with | ⟨0, _⟩ => rfl | ⟨1, _⟩ => Nat.mod_eq_of_lt n.isLt))
theorem tap2 (R : Fin 4096) (n : Fin 1024) : val_main_v24 (F := Ideal) x1 (ix2 R n) = x1 (ix2 2 n) ∧ val_main_v30 (F := Ideal) x1 (ix2 R n) = x1 (ix2 2 n) := by
  constructor
  · rw [val_main_v24_apply, val_main_v23_apply, val_main_v21_apply, val_main_v20_apply]
    exact congrArg x1 (funext fun a => Fin.ext (match a with | ⟨0, _⟩ => rfl | ⟨1, _⟩ => Nat.mod_eq_of_lt n.isLt))
  · rw [val_main_v30_apply, val_main_v23_apply, val_main_v21_apply, val_main_v20_apply]
    exact congrArg x1 (funext fun a => Fin.ext (match a with | ⟨0, _⟩ => rfl | ⟨1, _⟩ => Nat.mod_eq_of_lt n.isLt))

/-- The gradient of the gate that multiplies the convolution. -/
theorem dgb_apply (R : Fin 4096) (n : Fin 1024) :
    val_main_v67 (F := Ideal) x0 x1 x2 (ix2 R n)
      = x2 (ix2 R n) * (x1 (ix2 0 n) * back (val_main_v3 (F := Ideal) x0) 2 R n + x1 (ix2 1 n) * back (val_main_v3 (F := Ideal) x0) 1 R n
          + x1 (ix2 2 n) * val_main_v3 (F := Ideal) x0 (ix2 R n)) := by
  rw [val_main_v67_apply, val_main_v29_apply, val_main_v26_apply, val_main_v19_apply, val_main_v12_apply, val_main_v18_apply,
    val_main_v25_apply, v9_apply, v15_apply, v22_apply, (tap0 x1 R n).1, (tap1 x1 R n).1, (tap2 x1 R n).1]
  rfl

/-- The gradient of the convolution's input. -/
theorem v62_apply (R : Fin 4096) (n : Fin 1024) :
    val_main_v62 (F := Ideal) x0 x1 x2 (ix2 R n)
      = x1 (ix2 2 n) * val_main_v28 (F := Ideal) x0 x2 (ix2 R n) + x1 (ix2 1 n) * fwd (val_main_v28 (F := Ideal) x0 x2) 1 R n
        + x1 (ix2 0 n) * fwd (val_main_v28 (F := Ideal) x0 x2) 2 R n := by
  have e : idx_main_v62 (ix2 R n) = ix2 (⟨2 + R.val, by omega⟩ : Fin 4098) n :=
    funext fun a => Fin.ext (match a with | ⟨0, _⟩ => rfl | ⟨1, _⟩ => rfl)
  rw [val_main_v62_apply, e, val_main_v57_apply, val_main_v46_apply]
  refine congrArg₂ (· + ·) (congrArg₂ (· + ·) ?_ ?_) ?_
  · unfold val_main_v36
    refine (pad_rows 2 0 _ _ _ _ (by rw [val_main_cst_3_apply]; simp only [pointwise]) _ n).trans ?_
    rw [dif_pos (by constructor <;> simp <;> omega)]
    refine (congrArg (fun r => val_main_v31 (F := Ideal) x0 x1 x2 (ix2 r n)) (Fin.ext (by show 2 + R.val - 2 = R.val; omega) : _ = _)).trans ?_
    rw [val_main_v31_apply, (tap2 x1 R n).2]
    rfl
  · unfold val_main_v45
    refine (pad_rows 1 1 _ _ _ _ (by rw [val_main_cst_7_apply]; simp only [pointwise]) _ n).trans ?_
    unfold fwd
    by_cases h : R.val + 1 < 4096
    · rw [dif_pos h, dif_pos (by constructor <;> simp <;> omega)]
      refine (congrArg (fun r => val_main_v40 (F := Ideal) x0 x1 x2 (ix2 r n)) (Fin.ext (by show 2 + R.val - 1 = R.val + 1; omega) : _ = ⟨R.val + 1, h⟩)).trans ?_
      dsimp only
      rw [val_main_v40_apply, (tap1 x1 _ n).2]
      rfl
    · rw [dif_neg h, dif_neg (by simp; omega), mul_zero]
  · unfold val_main_v56
    refine (pad_rows 0 2 _ _ _ _ (by rw [val_main_cst_11_apply]; simp only [pointwise]) _ n).trans ?_
    unfold fwd
    by_cases h : R.val + 2 < 4096
    · rw [dif_pos h, dif_pos (by constructor <;> simp <;> omega)]
      refine (congrArg (fun r => val_main_v51 (F := Ideal) x0 x1 x2 (ix2 r n)) (Fin.ext (by show 2 + R.val - 0 = R.val + 2; omega) : _ = ⟨R.val + 2, h⟩)).trans ?_
      dsimp only
      rw [val_main_v51_apply, (tap0 x1 _ n).2]
      rfl
    · rw [dif_neg h, dif_neg (by simp; omega), mul_zero]

/-- The sum, over the rows, of the output's gradient times the product `k` rows before: a tap's gradient. -/
def tapGrad (k : ℕ) (n : Fin 1024) : EReal :=
  ∑ R : Fin 4096, val_main_v28 (F := Ideal) x0 x2 (ix2 R n) * back (val_main_v3 (F := Ideal) x0) k R n

theorem v37_apply (n : Fin 1024) : val_main_v37 (F := Ideal) x0 x2 (ix2 0 n) = tapGrad x0 x2 0 n := by
  rw [val_main_v37_apply, val_main_v35_apply, val_main_cst_2_apply]
  simp only [Finset.univ_unique, Finset.sum_singleton]
  rw [val_main_v34_apply, val_main_v33_apply, val_main_cst_1_apply]
  simp only [pointwise, zero_add]
  refine Finset.sum_congr rfl fun R _ => ?_
  refine (congrArg (val_main_v32 (F := Ideal) x0 x2) (?_ : _ = ix2 R n)).trans ?_
  · exact funext fun a => Fin.ext (match a with
      | ⟨0, _⟩ => rfl
      | ⟨1, _⟩ => by show 0 * 1024 + n.val = n.val; omega)
  rw [val_main_v32_apply, v22_apply, back_zero]
  rfl
theorem v47_apply (n : Fin 1024) : val_main_v47 (F := Ideal) x0 x2 (ix2 0 n) = tapGrad x0 x2 1 n := by
  rw [val_main_v47_apply, val_main_v44_apply, val_main_cst_6_apply]
  simp only [Finset.univ_unique, Finset.sum_singleton]
  rw [val_main_v43_apply, val_main_v42_apply, val_main_cst_5_apply]
  simp only [pointwise, zero_add]
  refine Finset.sum_congr rfl fun R _ => ?_
  refine (congrArg (val_main_v41 (F := Ideal) x0 x2) (?_ : _ = ix2 R n)).trans ?_
  · exact funext fun a => Fin.ext (match a with
      | ⟨0, _⟩ => rfl
      | ⟨1, _⟩ => by show 0 * 1024 + n.val = n.val; omega)
  rw [val_main_v41_apply, v15_apply]
  rfl
theorem v58_apply (n : Fin 1024) : val_main_v58 (F := Ideal) x0 x2 (ix2 0 n) = tapGrad x0 x2 2 n := by
  rw [val_main_v58_apply, val_main_v55_apply, val_main_cst_10_apply]
  simp only [Finset.univ_unique, Finset.sum_singleton]
  rw [val_main_v54_apply, val_main_v53_apply, val_main_cst_9_apply]
  simp only [pointwise, zero_add]
  refine Finset.sum_congr rfl fun R _ => ?_
  refine (congrArg (val_main_v52 (F := Ideal) x0 x2) (?_ : _ = ix2 R n)).trans ?_
  · exact funext fun a => Fin.ext (match a with
      | ⟨0, _⟩ => rfl
      | ⟨1, _⟩ => by show 0 * 1024 + n.val = n.val; omega)
  rw [val_main_v52_apply, v9_apply]
  rfl

theorem zero_word : val_main_call0_v0 (F := Ideal) (Shape.Idx.first (by decide)) = 0 := by
  rw [val_main_call0_v0_apply, val_main_c_apply]
  show (((0#32 : BitVec 32).toInt : ℝ) : EReal) = 0
  simp

/-- The taps' gradient in eight rows, of which the taps are the first three. -/
theorem v65_apply (q : Fin 8) (n : Fin 1024) :
    val_main_v65 (F := Ideal) x0 x2 (ix2 q n)
      = if q.val = 0 then tapGrad x0 x2 2 n else if q.val = 1 then tapGrad x0 x2 1 n else if q.val = 2 then tapGrad x0 x2 0 n else 0 := by
  unfold val_main_v65
  refine (pad_rows 0 5 _ _ _ _ (zero_word) q n).trans ?_
  by_cases h : q.val < 3
  · rw [dif_pos ⟨Nat.zero_le _, by omega⟩, val_main_v60_apply, val_main_v49_apply]
    unfold val_main_v38 val_main_v48 val_main_v59
    refine (congrArg₂ (· + ·) (congrArg₂ (· + ·)
      (pad_rows 2 0 _ _ _ _ (by rw [val_main_cst_4_apply]; simp only [pointwise]) _ n)
      (pad_rows 1 1 _ _ _ _ (by rw [val_main_cst_8_apply]; simp only [pointwise]) _ n))
      (pad_rows 0 2 _ _ _ _ (by rw [val_main_cst_12_apply]; simp only [pointwise]) _ n)).trans ?_
    rw [← v37_apply, ← v47_apply, ← v58_apply]
    obtain ⟨q, hq⟩ := q
    dsimp only at h ⊢
    interval_cases q <;> simp
  · rw [dif_neg (by omega), if_neg (by omega), if_neg (by omega), if_neg (by omega)]

end Cert.Proof.ConvRef

end
-- ==== Proof.ConvBlock.lean ====
/-
  The convolution's blocks are the reference's elements: the neighbours that a block takes from the groups beside it are the rows
  before and after it, and at the array's ends the groups are multiplied by zero, as the reference's zeros beyond them are.
-/
module

public import proofs.«01_k».proof.Proof.ConvPay
public import proofs.«01_k».proof.Proof.ConvRef

@[expose] public section

noncomputable section

namespace Cert.Proof.ConvBlock

open Cert.ConvIdeal Cert.ConvIdeal.Gen Idealize.ShloMosaic
open Cert.ConvRefIdeal.Read Cert.Proof.ConvPay Cert.Proof.ConvRef

/-- The row block of a grid point. -/
theorem lt4 (i : grid0.Coords) : (i 1).val < 4 := (i 1).isLt

/-- The array's row of a block's row, of a row of the group before it, and of a row of the group after it. -/
abbrev row (i : grid0.Coords) (r : Fin 1024) : Fin 4096 := ⟨(i 1).val * 1024 + r.val, by have := lt4 i; omega⟩
abbrev prow (i : grid0.Coords) (r : Fin 8) : Fin 4096 := ⟨((i 1).val * 128 - 1) * 8 + r.val, by have := lt4 i; omega⟩
abbrev nrow (i : grid0.Coords) (r : Fin 8) : Fin 4096 := ⟨min (((i 1).val + 1) * 128) 511 * 8 + r.val, by have := lt4 i; omega⟩

/-- What the blocks at a grid point are, of the arguments: the slices' rows and the taps. -/
structure Blocks (i : grid0.Coords) (col : Fin 512 → Fin 1024) (x0 : (⟨S4096x8704, .f32⟩ : BufTy).Contents (Elt Ideal))
    (x1 : (⟨S3x1024, .f32⟩ : BufTy).Contents (Elt Ideal)) (x2 : (⟨S4096x1024, .f32⟩ : BufTy).Contents (Elt Ideal))
    (z gb gc : Vec Ideal S1024x512 .f32) (zp gp : Vec Ideal S8x512 .f32) (d : Vec Ideal S1024x512 .f32) (dn gn w : Vec Ideal S8x512 .f32) : Prop where
  z_at : ∀ r n, z (ix2 r n) = val_main_v0 (F := Ideal) x0 (ix2 (row i r) (col n))
  gb_at : ∀ r n, gb (ix2 r n) = val_main_v1 (F := Ideal) x0 (ix2 (row i r) (col n))
  gc_at : ∀ r n, gc (ix2 r n) = val_main_v2 (F := Ideal) x0 (ix2 (row i r) (col n))
  zp_at : ∀ r n, zp (ix2 r n) = val_main_v0 (F := Ideal) x0 (ix2 (prow i r) (col n))
  gp_at : ∀ r n, gp (ix2 r n) = val_main_v2 (F := Ideal) x0 (ix2 (prow i r) (col n))
  d_at : ∀ r n, d (ix2 r n) = x2 (ix2 (row i r) (col n))
  dn_at : ∀ r n, dn (ix2 r n) = x2 (ix2 (nrow i r) (col n))
  gn_at : ∀ r n, gn (ix2 r n) = val_main_v1 (F := Ideal) x0 (ix2 (nrow i r) (col n))
  w_at : ∀ (q : Fin 8) (h : q.val < 3) n, w (ix2 q n) = x1 (ix2 ⟨q.val, h⟩ (col n))

variable {i : grid0.Coords} {col : Fin 512 → Fin 1024} {x0 : (⟨S4096x8704, .f32⟩ : BufTy).Contents (Elt Ideal)}
  {x1 : (⟨S3x1024, .f32⟩ : BufTy).Contents (Elt Ideal)} {x2 : (⟨S4096x1024, .f32⟩ : BufTy).Contents (Elt Ideal)}
  {z gb gc : Vec Ideal S1024x512 .f32} {zp gp : Vec Ideal S8x512 .f32} {d : Vec Ideal S1024x512 .f32} {dn gn w : Vec Ideal S8x512 .f32}
  (B : Blocks i col x0 x1 x2 z gb gc zp gp d dn gn w)

include B

/-- The products: the same row, the row before and the one before that. -/
theorem cz_at (r : Fin 1024) (n : Fin 512) :
    k0_pay1 (F := Ideal) z gc (ix2 r n) = val_main_v3 (F := Ideal) x0 (ix2 (row i r) (col n)) := by
  rw [pay1_apply, B.z_at, B.gc_at, val_main_v3_apply]
  rfl

theorem before_at (q : Fin 8) (n : Fin 512) (k : ℕ) (R : Fin 4096) (hR : R.val + 8 = (i 1).val * 1024 + q.val + k) (hq : q.val + k ≥ 8) (hk : R.val - (i 1).val * 1024 < k) (hR' : (i 1).val * 1024 ≤ R.val) :
    k0_pay2 (F := Ideal) i gp zp (ix2 q n) = back (val_main_v3 (F := Ideal) x0) k R (col n) := by
  rw [pay2_apply, B.gp_at, B.zp_at]
  unfold back
  by_cases h : (i 1).val = 0
  · rw [if_pos h, dif_neg (by omega), mul_zero]
  · rw [if_neg h, dif_pos (by omega), mul_one, val_main_v3_apply]
    have e : (⟨R.val - k, by omega⟩ : Fin 4096) = prow i q := Fin.ext (by show R.val - k = ((i 1).val * 128 - 1) * 8 + q.val; omega)
    rw [e]
    rfl

theorem s1_at (r : Fin 1024) (n : Fin 512) :
    k0_pay4 (F := Ideal) i z gc gp zp (ix2 r n) = back (val_main_v3 (F := Ideal) x0) 1 (row i r) (col n) := by
  rw [pay4_apply]
  by_cases h : r.val = 0
  · rw [dif_pos h]
    exact before_at B 7 n 1 (row i r) (by show (i 1).val * 1024 + r.val + 8 = (i 1).val * 1024 + 7 + 1; omega) (by decide)
      (by show (i 1).val * 1024 + r.val - (i 1).val * 1024 < 1; omega) (Nat.le_add_right _ _)
  · rw [dif_neg h, cz_at B]
    unfold back
    rw [dif_pos (by show 1 ≤ (i 1).val * 1024 + r.val; omega)]
    exact congrArg (fun R => val_main_v3 (F := Ideal) x0 (ix2 R (col n)))
      (Fin.ext (by show (i 1).val * 1024 + (r.val - 1) = (i 1).val * 1024 + r.val - 1; omega))

theorem s2_at (r : Fin 1024) (n : Fin 512) :
    k0_pay5 (F := Ideal) i z gc gp zp (ix2 r n) = back (val_main_v3 (F := Ideal) x0) 2 (row i r) (col n) := by
  rw [pay5_apply]
  by_cases h : r.val < 2
  · rw [dif_pos h]
    exact before_at B ⟨6 + r.val, by omega⟩ n 2 (row i r) (by show (i 1).val * 1024 + r.val + 8 = (i 1).val * 1024 + (6 + r.val) + 2; omega)
      (by show 6 + r.val + 2 ≥ 8; omega) (by show (i 1).val * 1024 + r.val - (i 1).val * 1024 < 2; omega) (Nat.le_add_right _ _)
  · rw [dif_neg h, cz_at B]
    unfold back
    rw [dif_pos (by show 2 ≤ (i 1).val * 1024 + r.val; omega)]
    exact congrArg (fun R => val_main_v3 (F := Ideal) x0 (ix2 R (col n)))
      (Fin.ext (by show (i 1).val * 1024 + (r.val - 2) = (i 1).val * 1024 + r.val - 2; omega))

/-- The convolution's output's gradients: the same row, and the rows after it. -/
theorem dy_at (r : Fin 1024) (n : Fin 512) :
    k0_pay13 (F := Ideal) gb d (ix2 r n) = val_main_v28 (F := Ideal) x0 x2 (ix2 (row i r) (col n)) := by
  rw [val_main_v28_apply, ← B.gb_at, ← B.d_at]
  exact mul_comm _ _

theorem after_at (q : Fin 8) (n : Fin 512) (k : ℕ) (R : Fin 4096) (hR : R.val + k = ((i 1).val + 1) * 1024 + q.val) :
    k0_pay14 (F := Ideal) (BitVec.ofNat 32 (i 1).val) dn gn (ix2 q n) = fwd (val_main_v28 (F := Ideal) x0 x2) k R (col n) := by
  have := lt4 i
  rw [pay14_apply _ (lt4 i), B.dn_at, B.gn_at]
  unfold fwd
  by_cases h : (i 1).val = 3
  · rw [if_pos h, dif_neg (by omega), mul_zero]
  · rw [if_neg h, dif_pos (by omega), mul_one, val_main_v28_apply]
    have e : (⟨R.val + k, by omega⟩ : Fin 4096) = nrow i q :=
      Fin.ext (by show R.val + k = min (((i 1).val + 1) * 128) 511 * 8 + q.val; omega)
    rw [e]
    exact mul_comm _ _

/-- The gradient of the convolution's input. -/
theorem dcz_at (r : Fin 1024) (n : Fin 512) :
    k0_pay16 (F := Ideal) (BitVec.ofNat 32 (i 1).val) gb (k0_pay8 w) (k0_pay9 w) d dn gn (ix2 r n)
        + k0_pay17 (F := Ideal) (BitVec.ofNat 32 (i 1).val) gb (k0_pay7 w) d dn gn (ix2 r n)
      = val_main_v62 (F := Ideal) x0 x1 x2 (ix2 (row i r) (col n)) := by
  have := lt4 i
  rw [next1_apply _ (lt4 i), next2_apply _ (lt4 i), v62_apply, dy_at B, B.w_at 0 (by decide), B.w_at 1 (by decide), B.w_at 2 (by decide)]
  refine congrArg₂ (· + ·) (congrArg₂ (· + ·) rfl (congrArg₂ (· * ·) rfl ?_)) (congrArg₂ (· * ·) rfl ?_)
  · by_cases h : r.val = 1023
    · rw [dif_pos h]
      exact after_at B 0 n 1 (row i r) (by show (i 1).val * 1024 + r.val + 1 = ((i 1).val + 1) * 1024 + 0; omega)
    · rw [dif_neg h, dy_at B]
      unfold fwd
      rw [dif_pos (by show (i 1).val * 1024 + r.val + 1 < 4096; omega)]
      rfl
  · by_cases h : 1022 ≤ r.val
    · rw [dif_pos h]
      exact after_at B ⟨r.val - 1022, by omega⟩ n 2 (row i r)
        (by show (i 1).val * 1024 + r.val + 2 = ((i 1).val + 1) * 1024 + (r.val - 1022); omega)
    · rw [dif_neg h, dy_at B]
      unfold fwd
      rw [dif_pos (by show (i 1).val * 1024 + r.val + 2 < 4096; omega)]
      rfl

/-- The three gradients of a block at an element are the reference's at its array index. -/
theorem dz_at (r : Fin 1024) (n : Fin 512) :
    k0_pay19 (F := Ideal) gc (k0_pay16 (F := Ideal) (BitVec.ofNat 32 (i 1).val) gb (k0_pay8 w) (k0_pay9 w) d dn gn)
        (k0_pay17 (F := Ideal) (BitVec.ofNat 32 (i 1).val) gb (k0_pay7 w) d dn gn) (ix2 r n)
      = val_main_v66 (F := Ideal) x0 x1 x2 (ix2 (row i r) (col n)) := by
  rw [val_main_v66_apply, val_main_v63_apply, ← dcz_at B, ← B.gc_at]
  exact mul_comm _ _

theorem dgb_at (r : Fin 1024) (n : Fin 512) :
    k0_pay12 (F := Ideal) (k0_pay1 z gc) (k0_pay4 i z gc gp zp) (k0_pay9 w) (k0_pay10 i z gc gp zp w) (k0_pay11 w) d (ix2 r n)
      = val_main_v67 (F := Ideal) x0 x1 x2 (ix2 (row i r) (col n)) := by
  rw [ConvPay.dgb_apply, ConvRef.dgb_apply, s1_at B, s2_at B, cz_at B, B.d_at, B.w_at 0 (by decide), B.w_at 1 (by decide), B.w_at 2 (by decide)]
  rfl

theorem dgc_at (r : Fin 1024) (n : Fin 512) :
    k0_pay20 (F := Ideal) z (k0_pay16 (F := Ideal) (BitVec.ofNat 32 (i 1).val) gb (k0_pay8 w) (k0_pay9 w) d dn gn)
        (k0_pay17 (F := Ideal) (BitVec.ofNat 32 (i 1).val) gb (k0_pay7 w) d dn gn) (ix2 r n)
      = val_main_v68 (F := Ideal) x0 x1 x2 (ix2 (row i r) (col n)) := by
  rw [val_main_v68_apply, val_main_v64_apply, ← dcz_at B, ← B.z_at]
  rfl

omit B in
/-- What a row block adds to row `q` of the taps' gradient. -/
def part (x0 : (⟨S4096x8704, .f32⟩ : BufTy).Contents (Elt Ideal)) (x2 : (⟨S4096x1024, .f32⟩ : BufTy).Contents (Elt Ideal))
    (row : Fin 1024 → Fin 4096) (q : Fin 8) (n : Fin 1024) : EReal :=
  if q.val < 3 then ∑ r : Fin 1024, val_main_v28 (F := Ideal) x0 x2 (ix2 (row r) n) * back (val_main_v3 (F := Ideal) x0) (2 - q.val) (row r) n
  else 0

theorem dw_at (acc : Vec Ideal S8x512 .f32) (q : Fin 8) (n : Fin 512) :
    k0_pay22 (F := Ideal) (k0_pay1 z gc) (k0_pay4 i z gc gp zp) (k0_pay5 i z gc gp zp) (k0_pay13 gb d) acc (ix2 q n)
      = acc (ix2 q n) + part x0 x2 (row i) q (col n) := by
  rw [dw_apply]
  unfold part
  refine congrArg (acc (ix2 q n) + ·) ?_
  by_cases h0 : q.val = 0
  · rw [if_pos h0, if_pos (by omega), h0]
    exact Finset.sum_congr rfl fun r _ => by rw [dy_at B, s2_at B]
  · rw [if_neg h0]
    by_cases h1 : q.val = 1
    · rw [if_pos h1, if_pos (by omega), h1]
      exact Finset.sum_congr rfl fun r _ => by rw [dy_at B, s1_at B]
    · rw [if_neg h1]
      by_cases h2 : q.val = 2
      · rw [if_pos h2, if_pos (by omega), h2]
        exact Finset.sum_congr rfl fun r _ => by rw [dy_at B, cz_at B, back_zero]
      · rw [if_neg h2, if_neg (by omega)]

end Cert.Proof.ConvBlock

end
-- ==== Proof.ConvValue.lean ====
/-
  The value of the backward call `conv_bwd`: the gradients of the gated convolution's input and of its two gates, and the taps'
  gradient, accumulated over the four row blocks of each half of the columns. They are the results of the derivative the reference
  program computes.
-/
module

public import proofs.«01_k».proof.Proof.Gen.ConvRefIdeal.Run
public import proofs.«01_k».proof.Defs
public import proofs.«01_k».proof.Proof.ConvBlock
public import proofs.«01_k».proof.Proof.Norm
public import Idealize.ShloMosaic.Lib.Routing.OpsOne

@[expose] public section

noncomputable section

namespace Cert.Proof.ConvValue

open Cert.ConvIdeal Cert.ConvIdeal.Gen Idealize.ShloMosaic Idealize.ShloMosaic.TcCoe Idealize.SL.Sem
open Cert.ConvRefIdeal.Read Cert.Proof.ConvRef Cert.Proof.ConvBlock

variable (m : (ℓ : Loc nD τ sig) → Buf (Elt Ideal) ℓ)

/-- The block indices of the windows at a grid point: row block `t % 4` and column half `t / 4`, past the columns before the slice;
    of the groups, the one before and the one after the row block. -/
theorem idx_facts : ∀ t : Fin cfg0.N, ((grid0.coords t) 1).val = t.val % 4
    ∧ (win0_0.index t 0 = t.val % 4 ∧ win0_0.index t 1 = 3 + t.val / 4) ∧ (win0_1.index t 0 = t.val % 4 ∧ win0_1.index t 1 = 5 + t.val / 4)
    ∧ (win0_2.index t 0 = t.val % 4 ∧ win0_2.index t 1 = 7 + t.val / 4)
    ∧ (win0_3.index t 0 = t.val % 4 * 128 - 1 ∧ win0_3.index t 1 = 3 + t.val / 4)
    ∧ (win0_4.index t 0 = t.val % 4 * 128 - 1 ∧ win0_4.index t 1 = 7 + t.val / 4)
    ∧ (win0_5.index t 0 = t.val % 4 ∧ win0_5.index t 1 = t.val / 4)
    ∧ (win0_6.index t 0 = min ((t.val % 4 + 1) * 128) 511 ∧ win0_6.index t 1 = t.val / 4)
    ∧ (win0_7.index t 0 = min ((t.val % 4 + 1) * 128) 511 ∧ win0_7.index t 1 = 5 + t.val / 4)
    ∧ (win0_8.index t 0 = 0 ∧ win0_8.index t 1 = t.val / 4) :=
  (by decide +kernel : ∀ t : Fin grid0.N, _)

theorem out_facts : ∀ t : Fin cfg0.N, (win0_9.index t 0 = t.val % 4 ∧ win0_9.index t 1 = t.val / 4)
    ∧ (win0_10.index t 0 = t.val % 4 ∧ win0_10.index t 1 = t.val / 4) ∧ (win0_11.index t 0 = t.val % 4 ∧ win0_11.index t 1 = t.val / 4)
    ∧ (win0_12.index t 0 = 0 ∧ win0_12.index t 1 = t.val / 4) :=
  (by decide +kernel : ∀ t : Fin grid0.N, _)

/-- The array's row and column of an element of the block at point `t`. -/
abbrev trow (t : Fin cfg0.N) (r : Fin 1024) : Fin 4096 := row (grid0.coords t) r
abbrev col (t : Fin cfg0.N) (n : Fin 512) : Fin 1024 := ⟨t.val / 4 * 512 + n.val, by have h : t.val < 8 := t.isLt; omega⟩

section
variable (c : Dev nD) (i : grid0.Coords) (a2 : Memref sig .tc .vmem S1024x512 .f32) (h2 : a2.IsWhole)
  (a3 : Memref sig .tc .vmem S1024x512 .f32) (h3 : a3.IsWhole) (a4 : Memref sig .tc .vmem S1024x512 .f32) (h4 : a4.IsWhole)
  (a5 : Memref sig .tc .vmem S8x512 .f32) (h5 : a5.IsWhole) (a6 : Memref sig .tc .vmem S8x512 .f32) (h6 : a6.IsWhole)
  (a7 : Memref sig .tc .vmem S1024x512 .f32) (h7 : a7.IsWhole) (a8 : Memref sig .tc .vmem S8x512 .f32) (h8 : a8.IsWhole)
  (a9 : Memref sig .tc .vmem S8x512 .f32) (h9 : a9.IsWhole) (a10 : Memref sig .tc .vmem S8x512 .f32) (h10 : a10.IsWhole)
  (a11 : Memref sig .tc .vmem S1024x512 .bf16) (h11 : a11.IsWhole) (a12 : Memref sig .tc .vmem S1024x512 .bf16) (h12 : a12.IsWhole)
  (a13 : Memref sig .tc .vmem S1024x512 .bf16) (h13 : a13.IsWhole) (a14 : Memref sig .tc .vmem S8x512 .f32) (h14 : a14.IsWhole)
  (x0 x1 x2 : Vec Ideal S1024x512 .f32) (x3 x4 : Vec Ideal S8x512 .f32) (x5 : Vec Ideal S1024x512 .f32) (x6 x7 x8 xs : Vec Ideal S8x512 .f32)

/-- What a point computes from its blocks: the three gradients, and what it adds to the taps' gradient. -/
abbrev dz : FVec Ideal S1024x512 .bf16 :=
  k0_pay19 x2 (k0_pay16 (BitVec.ofNat 32 (i 1).val) x1 (k0_pay8 x8) (k0_pay9 x8) x5 x6 x7) (k0_pay17 (BitVec.ofNat 32 (i 1).val) x1 (k0_pay7 x8) x5 x6 x7)
abbrev dgb : FVec Ideal S1024x512 .bf16 :=
  k0_pay12 (k0_pay1 x0 x2) (k0_pay4 i x0 x2 x4 x3) (k0_pay9 x8) (k0_pay10 i x0 x2 x4 x3 x8) (k0_pay11 x8) x5
abbrev dgc : FVec Ideal S1024x512 .bf16 :=
  k0_pay20 x0 (k0_pay16 (BitVec.ofNat 32 (i 1).val) x1 (k0_pay8 x8) (k0_pay9 x8) x5 x6 x7) (k0_pay17 (BitVec.ofNat 32 (i 1).val) x1 (k0_pay7 x8) x5 x6 x7)
abbrev dw : FVec Ideal S8x512 .f32 :=
  k0_pay22 (k0_pay1 x0 x2) (k0_pay4 i x0 x2 x4 x3) (k0_pay5 i x0 x2 x4 x3) (k0_pay13 x1 x5) xs

/-- What a point leaves in the results' blocks: at a column half's first row block the taps' gradient starts from zero, at a later
    one from what the point before left. -/
theorem out_A9 (hc0 : cond0_0 i) :
    out0_A_9 c i a2 h2 a3 h3 a4 h4 a5 h5 a6 h6 a7 h7 a8 h8 a9 h9 a10 h10 a11 h11 a12 h12 a13 h13 a14 h14 hc0 x0 x1 x2 x3 x4 x5 x6 x7 x8
      = dz i x1 x2 x5 x6 x7 x8 := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 hc0 x0 x1 x2 x3 x4 x5 x6 x7 x8)]
  unfold kernelRun0_A
  dsimp only
  try sl_unfold_words
  rw [View.canon_unit_zero hz2]
  simp only [View.readAt_eq_ld, h2.read_unread, h3.read_unread, h4.read_unread, h5.read_unread, h6.read_unread, h7.read_unread,
    h8.read_unread, h9.read_unread, h10.read_unread, h14.read_unread, View.ld_unit_zero (S := S1024x512) hz2,
    View.ld_unit_zero (S := S8x512) hz2, shapeCast_self]

theorem out_A10 (hc0 : cond0_0 i) :
    out0_A_10 c i a2 h2 a3 h3 a4 h4 a5 h5 a6 h6 a7 h7 a8 h8 a9 h9 a10 h10 a11 h11 a12 h12 a13 h13 a14 h14 hc0 x0 x1 x2 x3 x4 x5 x6 x7 x8
      = dgb i x0 x2 x3 x4 x5 x8 := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 hc0 x0 x1 x2 x3 x4 x5 x6 x7 x8)]
  unfold kernelRun0_A
  dsimp only
  try sl_unfold_words
  rw [View.canon_unit_zero hz2]
  simp only [View.readAt_eq_ld, h2.read_unread, h3.read_unread, h4.read_unread, h5.read_unread, h6.read_unread, h7.read_unread,
    h8.read_unread, h9.read_unread, h10.read_unread, h14.read_unread, View.ld_unit_zero (S := S1024x512) hz2,
    View.ld_unit_zero (S := S8x512) hz2, shapeCast_self]

theorem out_A11 (hc0 : cond0_0 i) :
    out0_A_11 c i a2 h2 a3 h3 a4 h4 a5 h5 a6 h6 a7 h7 a8 h8 a9 h9 a10 h10 a11 h11 a12 h12 a13 h13 a14 h14 hc0 x0 x1 x2 x3 x4 x5 x6 x7 x8
      = dgc i x0 x1 x5 x6 x7 x8 := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc0 x0 x1 x2 x3 x4 x5 x6 x7 x8)]
  unfold kernelRun0_A
  dsimp only
  try sl_unfold_words
  rw [View.canon_unit_zero hz2]
  simp only [View.readAt_eq_ld, h2.read_unread, h3.read_unread, h4.read_unread, h5.read_unread, h6.read_unread, h7.read_unread,
    h8.read_unread, h9.read_unread, h10.read_unread, h14.read_unread, View.ld_unit_zero (S := S1024x512) hz2,
    View.ld_unit_zero (S := S8x512) hz2, shapeCast_self]

theorem out_A12 (hc0 : cond0_0 i) :
    out0_A_12 c i a2 h2 a3 h3 a4 h4 a5 h5 a6 h6 a7 h7 a8 h8 a9 h9 a10 h10 a11 h11 a12 h12 a13 h13 a14 h14 hc0 x0 x1 x2 x3 x4 x5 x6 x7 x8
      = dw i x0 x1 x2 x3 x4 x5 (k0_pay21 (F := Ideal)) := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 hc0 x0 x1 x2 x3 x4 x5 x6 x7 x8)]
  unfold kernelRun0_A
  dsimp only
  try sl_unfold_words
  rw [View.canon_cons_unit_zero hz2, View.readCov_unit_zero (S := S8x512) _ hz2]
  simp only [View.readAt_eq_ld, h2.read_unread, h3.read_unread, h4.read_unread, h5.read_unread, h6.read_unread, h7.read_unread,
    h8.read_unread, h9.read_unread, h10.read_unread, h14.read_unread, View.ld_unit_zero (S := S1024x512) hz2,
    View.ld_unit_zero (S := S8x512) hz2, shapeCast_self]

theorem out_B9 (hc0 : ¬cond0_0 i) :
    out0_B_9 c i a2 h2 a3 h3 a4 h4 a5 h5 a6 h6 a7 h7 a8 h8 a9 h9 a10 h10 a11 h11 a12 h12 a13 h13 a14 h14 hc0 x0 x1 x2 x3 x4 x5 x6 x7 x8 xs
      = dz i x1 x2 x5 x6 x7 x8 := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 hc0 x0 x1 x2 x3 x4 x5 x6 x7 x8 xs)]
  unfold kernelRun0_B
  dsimp only
  try sl_unfold_words
  rw [View.canon_unit_zero hz2]
  simp only [View.readAt_eq_ld, h2.read_unread, h3.read_unread, h4.read_unread, h5.read_unread, h6.read_unread, h7.read_unread,
    h8.read_unread, h9.read_unread, h10.read_unread, h14.read_unread, View.ld_unit_zero (S := S1024x512) hz2,
    View.ld_unit_zero (S := S8x512) hz2, shapeCast_self]

theorem out_B10 (hc0 : ¬cond0_0 i) :
    out0_B_10 c i a2 h2 a3 h3 a4 h4 a5 h5 a6 h6 a7 h7 a8 h8 a9 h9 a10 h10 a11 h11 a12 h12 a13 h13 a14 h14 hc0 x0 x1 x2 x3 x4 x5 x6 x7 x8 xs
      = dgb i x0 x2 x3 x4 x5 x8 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 hc0 x0 x1 x2 x3 x4 x5 x6 x7 x8 xs)]
  unfold kernelRun0_B
  dsimp only
  try sl_unfold_words
  rw [View.canon_unit_zero hz2]
  simp only [View.readAt_eq_ld, h2.read_unread, h3.read_unread, h4.read_unread, h5.read_unread, h6.read_unread, h7.read_unread,
    h8.read_unread, h9.read_unread, h10.read_unread, h14.read_unread, View.ld_unit_zero (S := S1024x512) hz2,
    View.ld_unit_zero (S := S8x512) hz2, shapeCast_self]

theorem out_B11 (hc0 : ¬cond0_0 i) :
    out0_B_11 c i a2 h2 a3 h3 a4 h4 a5 h5 a6 h6 a7 h7 a8 h8 a9 h9 a10 h10 a11 h11 a12 h12 a13 h13 a14 h14 hc0 x0 x1 x2 x3 x4 x5 x6 x7 x8 xs
      = dgc i x0 x1 x5 x6 x7 x8 := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc0 x0 x1 x2 x3 x4 x5 x6 x7 x8 xs)]
  unfold kernelRun0_B
  dsimp only
  try sl_unfold_words
  rw [View.canon_unit_zero hz2]
  simp only [View.readAt_eq_ld, h2.read_unread, h3.read_unread, h4.read_unread, h5.read_unread, h6.read_unread, h7.read_unread,
    h8.read_unread, h9.read_unread, h10.read_unread, h14.read_unread, View.ld_unit_zero (S := S1024x512) hz2,
    View.ld_unit_zero (S := S8x512) hz2, shapeCast_self]

theorem out_B12 (hc0 : ¬cond0_0 i) :
    out0_B_12 c i a2 h2 a3 h3 a4 h4 a5 h5 a6 h6 a7 h7 a8 h8 a9 h9 a10 h10 a11 h11 a12 h12 a13 h13 a14 h14 hc0 x0 x1 x2 x3 x4 x5 x6 x7 x8 xs
      = dw i x0 x1 x2 x3 x4 x5 xs := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 hc0 x0 x1 x2 x3 x4 x5 x6 x7 x8 xs)]
  unfold kernelRun0_B
  dsimp only
  try sl_unfold_words
  rw [View.canon_unit_zero hz2]
  simp only [View.readAt_eq_ld, h2.read_unread, h3.read_unread, h4.read_unread, h5.read_unread, h6.read_unread, h7.read_unread,
    h8.read_unread, h9.read_unread, h10.read_unread, h14.read_unread, View.ld_unit_zero (S := S1024x512) hz2,
    View.ld_unit_zero (S := S8x512) hz2, shapeCast_self]

end

/-- The results' blocks after a point. -/
theorem block9 (c : Dev nD) (t : Fin cfg0.N) : (outsAt0 m c t.val t.isLt).1
    = dz (grid0.coords t) (iblk m c 1 t) (iblk m c 2 t) (iblk m c 5 t) (iblk m c 6 t) (iblk m c 7 t) (iblk m c 8 t) := by
  by_cases h : t.val % 4 = 0
  · rw [outsAt0_A m c t h]; dsimp only; rw [out_A9]
  · rw [outsAt0_B m c t h]; dsimp only; rw [out_B9]

theorem block10 (c : Dev nD) (t : Fin cfg0.N) : (outsAt0 m c t.val t.isLt).2.1
    = dgb (grid0.coords t) (iblk m c 0 t) (iblk m c 2 t) (iblk m c 3 t) (iblk m c 4 t) (iblk m c 5 t) (iblk m c 8 t) := by
  by_cases h : t.val % 4 = 0
  · rw [outsAt0_A m c t h]; dsimp only; rw [out_A10]
  · rw [outsAt0_B m c t h]; dsimp only; rw [out_B10]

theorem block11 (c : Dev nD) (t : Fin cfg0.N) : (outsAt0 m c t.val t.isLt).2.2.1
    = dgc (grid0.coords t) (iblk m c 0 t) (iblk m c 1 t) (iblk m c 5 t) (iblk m c 6 t) (iblk m c 7 t) (iblk m c 8 t) := by
  by_cases h : t.val % 4 = 0
  · rw [outsAt0_A m c t h]; dsimp only; rw [out_A11]
  · rw [outsAt0_B m c t h]; dsimp only; rw [out_B11]

theorem acc_A (c : Dev nD) (t : Fin cfg0.N) (h : t.val % 4 = 0) : (outsAt0 m c t.val t.isLt).2.2.2
    = dw (grid0.coords t) (iblk m c 0 t) (iblk m c 1 t) (iblk m c 2 t) (iblk m c 3 t) (iblk m c 4 t) (iblk m c 5 t) (k0_pay21 (F := Ideal)) := by
  rw [outsAt0_A m c t h]; dsimp only; rw [out_A12]

theorem acc_B (c : Dev nD) (t : Fin cfg0.N) (h : ¬t.val % 4 = 0) : (outsAt0 m c t.val t.isLt).2.2.2
    = dw (grid0.coords t) (iblk m c 0 t) (iblk m c 1 t) (iblk m c 2 t) (iblk m c 3 t) (iblk m c 4 t) (iblk m c 5 t)
        (outsAt0 m c (t.val - 1) (Nat.lt_of_le_of_lt (Nat.sub_le _ _) t.isLt)).2.2.2 := by
  rw [outsAt0_B m c t h]; dsimp only; rw [out_B12]

/-- The arrays of a device as launched: the projected rows, the taps, and the gradient of the gated convolution. -/
abbrev A0 (c : Dev nD) : (⟨S4096x8704, .f32⟩ : BufTy).Contents (Elt Ideal) := m ((c : Thread nD τ).loc main_arg0)
abbrev A1 (c : Dev nD) : (⟨S3x1024, .f32⟩ : BufTy).Contents (Elt Ideal) := m ((c : Thread nD τ).loc main_arg1)
abbrev A2 (c : Dev nD) : (⟨S4096x1024, .f32⟩ : BufTy).Contents (Elt Ideal) := m ((c : Thread nD τ).loc main_arg2)

/-- What the region finds in the taps' eight rows: the taps in the first three. -/
theorem V_taps (c : Dev nD) : V m c main_v2 = Host.scatter scatter_S8x1024_S1_S3x1024_01_n_0_0 (fun _ b => b)
    (broadcastInDim S8x1024 ![] bcast_S_S8x1024 (constant (F := Ideal) S_ .f32 0x00000000#32))
    (broadcastInDim S1 ![] bcast_S_S1 (constantI S_ 32 0#32)) (A1 m c) := by
  show StableHlo.after hostOps0 _ _ = _
  after_results

theorem lands (idx : IVec S1 32) (hidx : ∀ i, (idx i).toInt = 0) (k : S3x1024.Idx) (q : Fin 8) (n : Fin 1024) :
    scatter_S8x1024_S1_S3x1024_01_n_0_0.resultIdx? k idx = some (ix2 q n) ↔ (k 0).val = q.val ∧ (k 1).val = n.val := by
  have w0 : scatter_S8x1024_S1_S3x1024_01_n_0_0.window k 0 = (k 0).val := rfl
  have w1 : scatter_S8x1024_S1_S3x1024_01_n_0_0.window k 1 = (k 1).val := rfl
  have s0 : scatter_S8x1024_S1_S3x1024_01_n_0_0.start k idx 0 = 0 := hidx _
  have s1 : scatter_S8x1024_S1_S3x1024_01_n_0_0.start k idx 1 = 0 := rfl
  refine (Routing.resultIdx?_ix2 scatter_S8x1024_S1_S3x1024_01_n_0_0 k idx q n).trans ?_
  rw [s0, w0, s1, w1]
  omega

theorem taps_at (x : S8x1024.Idx → EReal) (idx : IVec S1 32) (hidx : ∀ i, (idx i).toInt = 0) (w : S3x1024.Idx → EReal) (q : Fin 8)
    (hq : q.val < 3) (n : Fin 1024) :
    Host.scatter scatter_S8x1024_S1_S3x1024_01_n_0_0 (fun _ b => b) x idx w (ix2 q n) = w (ix2 ⟨q.val, hq⟩ n) := by
  refine Routing.scatter_set_hit _ x idx w _ _ (fun k hk => ?_) (ix2 ⟨q.val, hq⟩ n) ((lands idx hidx _ q n).2 ⟨rfl, rfl⟩)
  obtain ⟨e0, e1⟩ := (lands idx hidx k q n).1 hk
  exact congrArg w (funext fun a => Fin.ext (match a with | ⟨0, _⟩ => e0 | ⟨1, _⟩ => e1))

/-- The blocks at a grid point are the arguments'. -/
theorem blocks (c : Dev nD) (t : Fin cfg0.N) : Blocks (grid0.coords t) (col t) (A0 m c) (A1 m c) (A2 m c) (iblk m c 0 t) (iblk m c 1 t)
    (iblk m c 2 t) (iblk m c 3 t) (iblk m c 4 t) (iblk m c 5 t) (iblk m c 6 t) (iblk m c 7 t) (iblk m c 8 t) := by
  obtain ⟨hi, ⟨a0, b0⟩, ⟨a1, b1⟩, ⟨a2, b2⟩, ⟨a3, b3⟩, ⟨a4, b4⟩, ⟨a5, b5⟩, ⟨a6, b6⟩, ⟨a7, b7⟩, a8, b8⟩ := idx_facts t
  refine ⟨fun r n => ?_, fun r n => ?_, fun r n => ?_, fun r n => ?_, fun r n => ?_, fun r n => ?_, fun r n => ?_, fun r n => ?_, fun q hq n => ?_⟩
  · -- the window of `z`
    rw [val_main_v0_apply]
    refine (congrFun (V_main_arg0 m c) _).trans (congrArg (A0 m c) (funext fun a => Fin.ext ?_))
    match a with
    | ⟨0, _⟩ => exact (win0_0.rect_emb_val t _ 0).trans (by rw [a0]; show _ * 1024 + r.val = ((grid0.coords t) 1).val * 1024 + r.val; rw [hi])
    | ⟨1, _⟩ => exact (win0_0.rect_emb_val t _ 1).trans (by rw [b0]; show _ * 512 + n.val = 1536 + (t.val / 4 * 512 + n.val); omega)
  · -- the window of `gb`
    rw [val_main_v1_apply]
    refine (congrFun (V_main_arg0 m c) _).trans (congrArg (A0 m c) (funext fun a => Fin.ext ?_))
    match a with
    | ⟨0, _⟩ => exact (win0_1.rect_emb_val t _ 0).trans (by rw [a1]; show _ * 1024 + r.val = ((grid0.coords t) 1).val * 1024 + r.val; rw [hi])
    | ⟨1, _⟩ => exact (win0_1.rect_emb_val t _ 1).trans (by rw [b1]; show _ * 512 + n.val = 2560 + (t.val / 4 * 512 + n.val); omega)
  · -- the window of `gc`
    rw [val_main_v2_apply]
    refine (congrFun (V_main_arg0 m c) _).trans (congrArg (A0 m c) (funext fun a => Fin.ext ?_))
    match a with
    | ⟨0, _⟩ => exact (win0_2.rect_emb_val t _ 0).trans (by rw [a2]; show _ * 1024 + r.val = ((grid0.coords t) 1).val * 1024 + r.val; rw [hi])
    | ⟨1, _⟩ => exact (win0_2.rect_emb_val t _ 1).trans (by rw [b2]; show _ * 512 + n.val = 3584 + (t.val / 4 * 512 + n.val); omega)
  · -- the window of `zp`
    rw [val_main_v0_apply]
    refine (congrFun (V_main_arg0 m c) _).trans (congrArg (A0 m c) (funext fun a => Fin.ext ?_))
    match a with
    | ⟨0, _⟩ => exact (win0_3.rect_emb_val t _ 0).trans (by rw [a3]; show _ * 8 + r.val = (((grid0.coords t) 1).val * 128 - 1) * 8 + r.val; rw [hi])
    | ⟨1, _⟩ => exact (win0_3.rect_emb_val t _ 1).trans (by rw [b3]; show _ * 512 + n.val = 1536 + (t.val / 4 * 512 + n.val); omega)
  · -- the window of `gp`
    rw [val_main_v2_apply]
    refine (congrFun (V_main_arg0 m c) _).trans (congrArg (A0 m c) (funext fun a => Fin.ext ?_))
    match a with
    | ⟨0, _⟩ => exact (win0_4.rect_emb_val t _ 0).trans (by rw [a4]; show _ * 8 + r.val = (((grid0.coords t) 1).val * 128 - 1) * 8 + r.val; rw [hi])
    | ⟨1, _⟩ => exact (win0_4.rect_emb_val t _ 1).trans (by rw [b4]; show _ * 512 + n.val = 3584 + (t.val / 4 * 512 + n.val); omega)
  · -- the window of `d`
    refine (congrFun (V_main_arg2 m c) _).trans (congrArg (A2 m c) (funext fun a => Fin.ext ?_))
    match a with
    | ⟨0, _⟩ => exact (win0_5.rect_emb_val t _ 0).trans (by rw [a5]; show _ * 1024 + r.val = ((grid0.coords t) 1).val * 1024 + r.val; rw [hi])
    | ⟨1, _⟩ => exact (win0_5.rect_emb_val t _ 1).trans (by rw [b5]; show _ * 512 + n.val = (t.val / 4 * 512 + n.val); omega)
  · -- the window of `dn`
    refine (congrFun (V_main_arg2 m c) _).trans (congrArg (A2 m c) (funext fun a => Fin.ext ?_))
    match a with
    | ⟨0, _⟩ => exact (win0_6.rect_emb_val t _ 0).trans (by rw [a6]; show _ * 8 + r.val = min ((((grid0.coords t) 1).val + 1) * 128) 511 * 8 + r.val; rw [hi])
    | ⟨1, _⟩ => exact (win0_6.rect_emb_val t _ 1).trans (by rw [b6]; show _ * 512 + n.val = (t.val / 4 * 512 + n.val); omega)
  · -- the window of `gn`
    rw [val_main_v1_apply]
    refine (congrFun (V_main_arg0 m c) _).trans (congrArg (A0 m c) (funext fun a => Fin.ext ?_))
    match a with
    | ⟨0, _⟩ => exact (win0_7.rect_emb_val t _ 0).trans (by rw [a7]; show _ * 8 + r.val = min ((((grid0.coords t) 1).val + 1) * 128) 511 * 8 + r.val; rw [hi])
    | ⟨1, _⟩ => exact (win0_7.rect_emb_val t _ 1).trans (by rw [b7]; show _ * 512 + n.val = 2560 + (t.val / 4 * 512 + n.val); omega)
  · -- the window of the taps
    have e : (win0_8.rect t).emb (ix2 q n) = ix2 q (col t n) := by
      refine funext fun a => Fin.ext ?_
      match a with
      | ⟨0, _⟩ => exact (win0_8.rect_emb_val t _ 0).trans (by rw [a8]; exact (Nat.zero_mul _).symm ▸ Nat.zero_add _)
      | ⟨1, _⟩ => exact (win0_8.rect_emb_val t _ 1).trans (by rw [b8]; rfl)
    exact (congrFun (V_taps m c) _).trans ((congrArg _ e).trans (taps_at _ _ (fun _ => rfl) (A1 m c) q hq (col t n)))

/-- Where the results' blocks' elements sit in their arrays. -/
theorem emb9 (t : Fin cfg0.N) (r : Fin 1024) (n : Fin 512) : (win0_9.rect t).emb (ix2 r n) = ix2 (trow t r) (col t n) := by
  obtain ⟨⟨h0, h1⟩, -⟩ := out_facts t
  refine funext fun a => Fin.ext ?_
  match a with
  | ⟨0, _⟩ => exact (win0_9.rect_emb_val t _ 0).trans (by rw [h0, ← (idx_facts t).1]; rfl)
  | ⟨1, _⟩ => exact (win0_9.rect_emb_val t _ 1).trans (by rw [h1]; rfl)

theorem emb10 (t : Fin cfg0.N) (r : Fin 1024) (n : Fin 512) : (win0_10.rect t).emb (ix2 r n) = ix2 (trow t r) (col t n) := by
  obtain ⟨-, ⟨h0, h1⟩, -⟩ := out_facts t
  refine funext fun a => Fin.ext ?_
  match a with
  | ⟨0, _⟩ => exact (win0_10.rect_emb_val t _ 0).trans (by rw [h0, ← (idx_facts t).1]; rfl)
  | ⟨1, _⟩ => exact (win0_10.rect_emb_val t _ 1).trans (by rw [h1]; rfl)

theorem emb11 (t : Fin cfg0.N) (r : Fin 1024) (n : Fin 512) : (win0_11.rect t).emb (ix2 r n) = ix2 (trow t r) (col t n) := by
  obtain ⟨-, -, ⟨h0, h1⟩, -⟩ := out_facts t
  refine funext fun a => Fin.ext ?_
  match a with
  | ⟨0, _⟩ => exact (win0_11.rect_emb_val t _ 0).trans (by rw [h0, ← (idx_facts t).1]; rfl)
  | ⟨1, _⟩ => exact (win0_11.rect_emb_val t _ 1).trans (by rw [h1]; rfl)

theorem emb12 (t : Fin cfg0.N) (q : Fin 8) (n : Fin 512) : (win0_12.rect t).emb (ix2 q n) = ix2 q (col t n) := by
  obtain ⟨-, -, -, h0, h1⟩ := out_facts t
  refine funext fun a => Fin.ext ?_
  match a with
  | ⟨0, _⟩ => exact (win0_12.rect_emb_val t _ 0).trans (by rw [h0]; exact (Nat.zero_mul _).symm ▸ Nat.zero_add _)
  | ⟨1, _⟩ => exact (win0_12.rect_emb_val t _ 1).trans (by rw [h1]; rfl)

/-- Every index of a gradient is one of a block's elements, and every index of the taps' gradient one of a column half's. -/
theorem onto (y : S4096x1024.Idx) : ∃ t : Fin cfg0.N, ∃ r n, ix2 (trow t r) (col t n) = y := by
  have h0 : (y 0).val < 4096 := (y 0).isLt
  have h1 : (y 1).val < 1024 := (y 1).isLt
  let t : Fin cfg0.N := ⟨(y 1).val / 512 * 4 + (y 0).val / 1024, by show _ < 8; omega⟩
  have ht : t.val = (y 1).val / 512 * 4 + (y 0).val / 1024 := rfl
  refine ⟨t, ⟨(y 0).val % 1024, by omega⟩, ⟨(y 1).val % 512, by omega⟩, funext fun a => Fin.ext ?_⟩
  have hi := (idx_facts t).1
  match a with
  | ⟨0, _⟩ => show ((grid0.coords t) 1).val * 1024 + (y 0).val % 1024 = (y 0).val; omega
  | ⟨1, _⟩ => show t.val / 4 * 512 + (y 1).val % 512 = (y 1).val; omega

/-- The three gradients: the arrays after the run are the reference's. -/
theorem final_dz (c : Dev nD) : (dats m 0 c).arrAt 9 cfg0.N = val_main_v66 (F := Ideal) (A0 m c) (A1 m c) (A2 m c) := by
  refine (dats m 0 c).arrAt_eq_of_cover 9 _ (fun t hf => ?_) (fun y => ?_)
  · rw [Cert.ConvIdeal.Value.flushed9, block9]
    funext y
    obtain ⟨r, n, rfl⟩ : ∃ r n, y = ix2 r n := ⟨y 0, y 1, eq_ix2 y⟩
    show dz _ _ _ _ _ _ _ (ix2 r n) = val_main_v66 (F := Ideal) _ _ _ ((win0_9.rect t).emb (ix2 r n))
    rw [emb9]
    exact dz_at (blocks m c t) r n
  · obtain ⟨t, r, n, rfl⟩ := onto y
    rw [← emb9 t r n]
    exact ⟨t, flush0_9 t, View.emb_mem_set ((cfg0.win 9).blk t).view _⟩

theorem final_dgb (c : Dev nD) : (dats m 0 c).arrAt 10 cfg0.N = val_main_v67 (F := Ideal) (A0 m c) (A1 m c) (A2 m c) := by
  refine (dats m 0 c).arrAt_eq_of_cover 10 _ (fun t hf => ?_) (fun y => ?_)
  · rw [Cert.ConvIdeal.Value.flushed10, block10]
    funext y
    obtain ⟨r, n, rfl⟩ : ∃ r n, y = ix2 r n := ⟨y 0, y 1, eq_ix2 y⟩
    show dgb _ _ _ _ _ _ _ (ix2 r n) = val_main_v67 (F := Ideal) _ _ _ ((win0_10.rect t).emb (ix2 r n))
    rw [emb10]
    exact dgb_at (blocks m c t) r n
  · obtain ⟨t, r, n, rfl⟩ := onto y
    rw [← emb10 t r n]
    exact ⟨t, flush0_10 t, View.emb_mem_set ((cfg0.win 10).blk t).view _⟩

theorem final_dgc (c : Dev nD) : (dats m 0 c).arrAt 11 cfg0.N = val_main_v68 (F := Ideal) (A0 m c) (A1 m c) (A2 m c) := by
  refine (dats m 0 c).arrAt_eq_of_cover 11 _ (fun t hf => ?_) (fun y => ?_)
  · rw [Cert.ConvIdeal.Value.flushed11, block11]
    funext y
    obtain ⟨r, n, rfl⟩ : ∃ r n, y = ix2 r n := ⟨y 0, y 1, eq_ix2 y⟩
    show dgc _ _ _ _ _ _ _ (ix2 r n) = val_main_v68 (F := Ideal) _ _ _ ((win0_11.rect t).emb (ix2 r n))
    rw [emb11]
    exact dgc_at (blocks m c t) r n
  · obtain ⟨t, r, n, rfl⟩ := onto y
    rw [← emb11 t r n]
    exact ⟨t, flush0_11 t, View.emb_mem_set ((cfg0.win 11).blk t).view _⟩

/-- The reference's taps' gradient, by row blocks. -/
theorem tap_blocks (x0 : (⟨S4096x8704, .f32⟩ : BufTy).Contents (Elt Ideal)) (x2 : (⟨S4096x1024, .f32⟩ : BufTy).Contents (Elt Ideal))
    (q : Fin 8) (n : Fin 1024) :
    val_main_v65 (F := Ideal) x0 x2 (ix2 q n)
      = ∑ s : Fin 4, part x0 x2 (fun r => ⟨s.val * 1024 + r.val, by omega⟩) q n := by
  rw [v65_apply]
  unfold part tapGrad
  by_cases h : q.val < 3
  · simp only [if_pos h]
    have key : ∀ k, (∑ R : Fin 4096, val_main_v28 (F := Ideal) x0 x2 (ix2 R n) * back (val_main_v3 (F := Ideal) x0) k R n)
        = ∑ s : Fin 4, ∑ r : Fin 1024, val_main_v28 (F := Ideal) x0 x2 (ix2 ⟨s.val * 1024 + r.val, by omega⟩ n)
            * back (val_main_v3 (F := Ideal) x0) k ⟨s.val * 1024 + r.val, by omega⟩ n := fun k => sum_chunks (a := 4) (b := 1024) rfl _
    by_cases h0 : q.val = 0
    · rw [if_pos h0, key, h0]
    · rw [if_neg h0]
      by_cases h1 : q.val = 1
      · rw [if_pos h1, key, h1]
      · rw [if_neg h1, if_pos (by omega : q.val = 2), key, (by omega : q.val = 2)]
  · simp only [if_neg h, Finset.sum_const_zero]
    rw [if_neg (by omega), if_neg (by omega), if_neg (by omega)]

/-- The taps' gradient after the row blocks so far of a column half. -/
abbrev pt (j s : ℕ) (hj : j < 2) (hs : s < 4) : Fin cfg0.N := ⟨j * 4 + s, by show _ < 8; omega⟩
def term (c : Dev nD) (j : Fin 2) (q : Fin 8) (n : Fin 512) (s : ℕ) : EReal :=
  if h : s < 4 then part (A0 m c) (A2 m c) (trow (pt j.val s j.isLt h)) q (col (pt j.val s j.isLt h) n) else 0
def acc (c : Dev nD) (j : Fin 2) (q : Fin 8) (n : Fin 512) (s : ℕ) : EReal :=
  if h : s < 4 then (outsAt0 m c (pt j.val s j.isLt h).val (pt j.val s j.isLt h).isLt).2.2.2 (ix2 q n) else 0

theorem acc_eq (c : Dev nD) (j : Fin 2) (q : Fin 8) (n : Fin 512) (s : ℕ) (h : s < 4) :
    acc m c j q n s = ∑ u ∈ Finset.range (s + 1), term m c j q n u := by
  refine Norm.fold_sum _ _ ?_ 4 (fun k hk => ?_) s h
  · rw [acc, term, dif_pos (by omega), dif_pos (by omega)]
    refine (congrFun (acc_A m c (pt j.val 0 j.isLt (by omega)) (by show (j.val * 4 + 0) % 4 = 0; omega)) _).trans
      ((dw_at (blocks m c _) _ q n).trans ?_)
    exact (congrArg (· + _) (show k0_pay21 (F := Ideal) (ix2 q n) = 0 from by unfold k0_pay21; simp only [pointwise])).trans (zero_add _)
  · rw [acc, acc, term, dif_pos hk, dif_pos (by omega), dif_pos hk]
    exact (congrFun (acc_B m c (pt j.val (k + 1) j.isLt hk) (by show ¬(j.val * 4 + (k + 1)) % 4 = 0; omega)) _).trans
      (dw_at (blocks m c _) _ q n)

theorem final_dw (c : Dev nD) : (dats m 0 c).arrAt 12 cfg0.N = val_main_v65 (F := Ideal) (A0 m c) (A2 m c) := by
  refine (dats m 0 c).arrAt_eq_of_cover 12 _ (fun t hf => ?_) (fun y => ?_)
  · have h3 : t.val % 4 = 3 := (flush0_12 t).mp hf
    have hN : t.val < 8 := t.isLt
    obtain ⟨j, rfl⟩ : ∃ j : Fin 2, t = pt j.val 3 j.isLt (by decide) :=
      ⟨⟨t.val / 4, by omega⟩, Fin.ext (by show t.val = t.val / 4 * 4 + 3; omega)⟩
    rw [Cert.ConvIdeal.Value.flushed12]
    funext y
    obtain ⟨q, n, rfl⟩ : ∃ q n, y = ix2 q n := ⟨y 0, y 1, eq_ix2 y⟩
    show (outsAt0 m c (pt j.val 3 j.isLt (by decide)).val _).2.2.2 (ix2 q n)
      = val_main_v65 (F := Ideal) _ _ ((win0_12.rect (pt j.val 3 j.isLt (by decide))).emb (ix2 q n))
    rw [emb12, tap_blocks]
    have h := acc_eq m c j q n 3 (by decide)
    rw [acc, dif_pos (by decide), Finset.sum_range] at h
    refine h.trans (Finset.sum_congr rfl fun s _ => ?_)
    have hs : s.val < 4 := s.isLt
    rw [term, dif_pos hs]
    have e1 : trow (pt j.val s.val j.isLt hs) = fun r => ⟨s.val * 1024 + r.val, by omega⟩ := by
      funext r
      have hi : ((grid0.coords (pt j.val s.val j.isLt hs)) 1).val = (j.val * 4 + s.val) % 4 := (idx_facts _).1
      exact Fin.ext (by show ((grid0.coords (pt j.val s.val j.isLt hs)) 1).val * 1024 + r.val = s.val * 1024 + r.val; omega)
    have e2 : col (pt j.val s.val j.isLt hs) n = col (pt j.val 3 j.isLt (by decide)) n :=
      Fin.ext (by show (j.val * 4 + s.val) / 4 * 512 + n.val = (j.val * 4 + 3) / 4 * 512 + n.val; omega)
    rw [e1, e2]
  · obtain ⟨q, n, rfl⟩ : ∃ q n, y = ix2 q n := ⟨y 0, y 1, eq_ix2 y⟩
    have hn : n.val < 1024 := n.isLt
    let t : Fin cfg0.N := pt (n.val / 512) 3 (by omega) (by decide)
    have e : (win0_12.rect t).emb (ix2 q (⟨n.val % 512, by omega⟩ : Fin 512)) = ix2 q n := by
      rw [emb12]
      exact congrArg (ix2 q) (Fin.ext (by show (n.val / 512 * 4 + 3) / 4 * 512 + n.val % 512 = n.val; omega))
    rw [← e]
    exact ⟨t, (flush0_12 t).mpr (by show (n.val / 512 * 4 + 3) % 4 = 3; omega), View.emb_mem_set ((cfg0.win 12).blk t).view _⟩

/-- The kernel computes the reference's four results: started with the same arguments, both programs' runs end with the same
    results and with the arguments unchanged. -/
theorem algebraic : Cert.algebraic_ConvIdeal_ConvRefIdeal := by
  intro m g m' g' _ hagree
  refine ⟨fun c => val_main_v66 (F := Ideal) (A0 m c) (A1 m c) (A2 m c), fun c => val_main_v67 (F := Ideal) (A0 m c) (A1 m c) (A2 m c),
    fun c => val_main_v68 (F := Ideal) (A0 m c) (A1 m c) (A2 m c), fun c => val_main_v65 (F := Ideal) (A0 m c) (A2 m c),
    (θ_run _ _ _).mono (fun r h c => ?_) (Cert.ConvIdeal.Value.run_blocks (F := Ideal) m g),
    (θ_run _ _ _).mono (fun r h c => ?_) (Cert.ConvRefIdeal.Value.run (F := Ideal) m' g')⟩
  · exact ⟨(h c).1.trans (final_dz m c), (h c).2.1.trans (final_dgb m c), (h c).2.2.1.trans (final_dgc m c),
      (h c).2.2.2.1.trans (final_dw m c), (h c).2.2.2.2⟩
  · obtain ⟨a0, a1, a2⟩ := hagree c
    refine ⟨(h c).1.trans ?_, (h c).2.1.trans ?_, (h c).2.2.1.trans ?_, (h c).2.2.2.1.trans ?_, (h c).2.2.2.2⟩
    · rw [a0, a1, a2]; exact val_main_v66_eq _ _ _
    · rw [a0, a1, a2]; exact val_main_v67_eq _ _ _
    · rw [a0, a1, a2]; exact val_main_v68_eq _ _ _
    · rw [a0, a2]; exact val_main_v65_eq _ _

/-- The reference's own run ends, with its arguments unchanged and every counter at zero. -/
theorem frame_reference : Cert.quiescent_ConvRefIdeal := fun m ρ _ =>
  (θ_run Cert.ConvRefIdeal.defs _ _).mono (fun r h => ⟨fun c => (h c).2.2.2.2, Idealize.ShloMosaic.sem_eq_zero_of_no_sems (by decide) r.2⟩)
    (Cert.ConvRefIdeal.Value.run (F := Ideal) m ρ)

end Cert.Proof.ConvValue

end
-- ==== Proof.RmsFfnValue.lean ====
/-
  The value of the backward call `rms_ffn_bwd`: the gradient of the feed-forward's norm. It is the kernel of the first norm's
  gradient on arrays of the same shapes, so the two programs are one but for their names, and what is proved of the one call
  holds of the other.
-/
module

public import proofs.«01_k».proof.Proof.RmsMixValue
public import proofs.«01_k».proof.Proof.Gen.RmsFfnIdeal.Value
public import proofs.«01_k».proof.Proof.Gen.RmsFfnRefIdeal.Read
public import proofs.«01_k».proof.Proof.Gen.RmsFfnRefIdeal.Run

@[expose] public section

noncomputable section

namespace Cert.Proof.RmsFfnValue

open Idealize.ShloMosaic Idealize.ShloMosaic.TcCoe Idealize.SL.Sem

/-- The two programs' bodies are one, and so are their body tables. -/
theorem bodies_eq : Cert.RmsFfnIdeal.defs₀ (F := Ideal) = Cert.RmsMixIdeal.defs₀ (F := Ideal) := by
  refine congrArg Defs.onTc (funext fun l => ?_)
  match l with
  | ⟨0, _⟩ => exact funext fun _ => rfl

theorem defs_eq : Cert.RmsFfnIdeal.defs (F := Ideal) = Cert.RmsMixIdeal.defs (F := Ideal) := congrArg (Pipeline.defs _) bodies_eq

/-- The kernel computes the reference's three results, as the first norm's gradient does. -/
theorem algebraic : Cert.algebraic_RmsFfnIdeal_RmsFfnRefIdeal := by
  unfold Cert.algebraic_RmsFfnIdeal_RmsFfnRefIdeal
  rw [defs_eq]
  exact Cert.Proof.RmsMixValue.algebraic

/-- The reference's own run ends, with its arguments unchanged and every counter at zero. -/
theorem frame_reference : Cert.quiescent_RmsFfnRefIdeal := Cert.Proof.RmsMixValue.frame_reference

end Cert.Proof.RmsFfnValue

end
-- ==== Proof.RmsXattnValue.lean ====
/-
  The value of the backward call `rms_xattn_bwd`: the gradient of the cross attention's norm. Each block of 512 whole rows first
  forms its normed rows' gradient, one product over the 512 columns of the queries' gradient and of the query weight, and from it
  its rows' gradient; the gain's gradient is accumulated over the eight row blocks. They are the results of the derivative the
  reference program computes.
-/
module

public import proofs.«01_k».proof.Proof.Gen.RmsXattnIdeal.Value
public import proofs.«01_k».proof.Proof.Gen.RmsXattnRefIdeal.Read
public import proofs.«01_k».proof.Proof.Gen.RmsXattnRefIdeal.Run
public import proofs.«01_k».proof.Defs
public import proofs.«01_k».proof.Proof.Chunks
public import proofs.«01_k».proof.Proof.Norm

@[expose] public section

noncomputable section

namespace Cert.Proof.RmsXattnValue

open Cert.RmsXattnIdeal Cert.RmsXattnIdeal.Gen Idealize.ShloMosaic Idealize.ShloMosaic.TcCoe Idealize.SL.Sem
open Cert.RmsXattnRefIdeal.Read
open Cert.Proof.Norm

variable (m : (ℓ : Loc nD τ sig) → Buf (Elt Ideal) ℓ)

/-- The block indices of the windows at a grid point: row block `t` of the row arrays, and the whole gain, query weight and gain's
    gradient. -/
theorem idx_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) :=
  (by decide +kernel : ∀ t : Fin grid0.N, _)

/-- The array index of element `(r, n)` of the block at point `t`. -/
abbrev at_ (t : Fin cfg0.N) (r : Fin 512) (n : Fin 2048) : S4096x2048.Idx := fun a => match a with
  | ⟨0, _⟩ => ⟨t.val * 512 + r.val, by have h : t.val < 8 := t.isLt; have := r.isLt; show _ < 4096; omega⟩
  | ⟨1, _⟩ => ⟨n.val, n.isLt⟩

/-- A block's product at an element, its gradient, and what it adds to the gain's gradient. -/
theorem pay3_apply (v1 : Vec Ideal S512x512 .bf16) (v2 : Vec Ideal S2048x512 .bf16) (r : Fin 512) (n : Fin 2048) :
    k0_pay3 (F := Ideal) v1 v2 (ix2 r n) = ∑ k : Fin 512, v1 (ix2 r k) * v2 (ix2 n k) := by
  unfold k0_pay3
  simp only [pointwise, zero_add]

theorem pay6_apply (v0 : Vec Ideal S512x2048 .f32) (v1 : Vec Ideal S512x512 .bf16) (v2 : Vec Ideal S2048x512 .bf16)
    (v14 : Vec Ideal S1x2048 .f32) (v18 : Vec Ideal S512x2048 .f32) (r : Fin 512) (n : Fin 2048) :
    k0_pay6 (F := Ideal) v0 v1 v2 v14 v18 (ix2 r n)
      = blockGrad (fun k => v0 (ix2 r k)) (fun k => k0_pay3 (F := Ideal) v1 v2 (ix2 r k) * v14 (ix2 0 k)) (v18 (ix2 r n)) n := by
  unfold k0_pay6 k0_pay5 k0_pay4
  simp only [pointwise, zero_add, shapeCast_self]
  rfl

theorem pay2_apply (v0 v3 : Vec Ideal S512x2048 .f32) (v36 : Vec Ideal S1x2048 .f32) (n : Fin 2048) :
    k0_pay2 (F := Ideal) v3 (k0_pay5 v0) v36 (ix2 0 n)
      = v36 (ix2 0 n) + ∑ r : Fin 512, v3 (ix2 r n) * (v0 (ix2 r n) * rr fun k => v0 (ix2 r k)) := by
  unfold k0_pay2 k0_pay5 k0_pay4
  simp only [pointwise, zero_add, shapeCast_self]
  rfl

/-- What a point leaves in the three results' blocks: at the first point the gain's gradient starts from zero, at a later one
    from what the point before left. -/
theorem out_A5 (c : Dev nD) (i : grid0.Coords) (a1 : Memref sig .tc .vmem S512x512 .bf16) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S2048x512 .bf16) (h5 : a5.IsWhole)
    (a6 : Memref sig .tc .vmem S512x2048 .f32) (h6 : a6.IsWhole) (a7 : Memref sig .tc .vmem S512x2048 .bf16) (h7 : a7.IsWhole)
    (a8 : Memref sig .tc .vmem S1x2048 .f32) (h8 : a8.IsWhole)
    (hc0 : cond0_0 i) (x0 : Vec Ideal S512x512 .bf16) (x1 : Vec Ideal S512x2048 .f32) (x2 : Vec Ideal S1x2048 .f32)
    (x3 : Vec Ideal S512x2048 .f32) (x4 : Vec Ideal S2048x512 .bf16) :
    out0_A_5 c i a1 h1 a2 h2 a3 h3 a4 h4 a5 h5 a6 h6 a7 h7 a8 h8 hc0 x0 x1 x2 x3 x4 = k0_pay6 x1 x0 x4 x2 x3 := by
  unfold out0_A_5
  rw [View.read_writes_eq_canon _ _ _ (cover0_A_5 c i a1 h1 a2 h2 a3 h3 a4 h4 a5 h5 a6 h6 a7 h7 a8 h8 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h8.read_unread,
    View.ld_unit_zero (S := S512x2048) hz2, View.ld_unit_zero (S := S512x512) hz2, View.ld_unit_zero (S := S2048x512) hz2,
    View.ld_unit_zero (S := S1x2048) hz2, shapeCast_self]

theorem out_A6 (c : Dev nD) (i : grid0.Coords) (a1 : Memref sig .tc .vmem S512x512 .bf16) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S2048x512 .bf16) (h5 : a5.IsWhole)
    (a6 : Memref sig .tc .vmem S512x2048 .f32) (h6 : a6.IsWhole) (a7 : Memref sig .tc .vmem S512x2048 .bf16) (h7 : a7.IsWhole)
    (a8 : Memref sig .tc .vmem S1x2048 .f32) (h8 : a8.IsWhole)
    (hc0 : cond0_0 i) (x0 : Vec Ideal S512x512 .bf16) (x1 : Vec Ideal S512x2048 .f32) (x2 : Vec Ideal S1x2048 .f32)
    (x3 : Vec Ideal S512x2048 .f32) (x4 : Vec Ideal S2048x512 .bf16) :
    out0_A_6 c i a1 h1 a2 h2 a3 h3 a4 h4 a5 h5 a6 h6 a7 h7 a8 h8 hc0 x0 x1 x2 x3 x4 = k0_pay7 x1 x0 x4 x2 x3 := by
  unfold out0_A_6
  rw [View.read_writes_eq_canon _ _ _ (cover0_A_6 c i a1 h1 a2 h2 a3 h3 a4 h4 a5 h5 a6 h6 a7 h7 a8 h8 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h8.read_unread,
    View.ld_unit_zero (S := S512x2048) hz2, View.ld_unit_zero (S := S512x512) hz2, View.ld_unit_zero (S := S2048x512) hz2,
    View.ld_unit_zero (S := S1x2048) hz2, shapeCast_self]

theorem out_A7 (c : Dev nD) (i : grid0.Coords) (a1 : Memref sig .tc .vmem S512x512 .bf16) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S2048x512 .bf16) (h5 : a5.IsWhole)
    (a6 : Memref sig .tc .vmem S512x2048 .f32) (h6 : a6.IsWhole) (a7 : Memref sig .tc .vmem S512x2048 .bf16) (h7 : a7.IsWhole)
    (a8 : Memref sig .tc .vmem S1x2048 .f32) (h8 : a8.IsWhole)
    (hc0 : cond0_0 i) (x0 : Vec Ideal S512x512 .bf16) (x1 : Vec Ideal S512x2048 .f32) (x2 : Vec Ideal S1x2048 .f32)
    (x3 : Vec Ideal S512x2048 .f32) (x4 : Vec Ideal S2048x512 .bf16) :
    out0_A_7 c i a1 h1 a2 h2 a3 h3 a4 h4 a5 h5 a6 h6 a7 h7 a8 h8 hc0 x0 x1 x2 x3 x4 = k0_pay2 (F := Ideal) (k0_pay3 x0 x4) (k0_pay5 x1) (k0_pay1 (F := Ideal)) := by
  unfold out0_A_7
  rw [View.read_writes_eq_canon _ _ _ (cover0_A_7 c i a1 h1 a2 h2 a3 h3 a4 h4 a5 h5 a6 h6 a7 h7 a8 h8 hc0 x0 x1 x2 x3 x4)]
  unfold kernelRun0_A
  dsimp only
  sl_unfold_words
  rw [View.canon_cons_unit_zero hz2, View.readCov_unit_zero (S := S1x2048) _ hz2]
  simp only [View.readAt_eq_ld, h1.read_unread, h2.read_unread, h3.read_unread, h4.read_unread, h5.read_unread, h8.read_unread,
    View.ld_unit_zero (S := S512x2048) hz2, View.ld_unit_zero (S := S512x512) hz2, View.ld_unit_zero (S := S2048x512) hz2,
    View.ld_unit_zero (S := S1x2048) hz2, shapeCast_self]

theorem out_B5 (c : Dev nD) (i : grid0.Coords) (a1 : Memref sig .tc .vmem S512x512 .bf16) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S2048x512 .bf16) (h5 : a5.IsWhole)
    (a6 : Memref sig .tc .vmem S512x2048 .f32) (h6 : a6.IsWhole) (a7 : Memref sig .tc .vmem S512x2048 .bf16) (h7 : a7.IsWhole)
    (a8 : Memref sig .tc .vmem S1x2048 .f32) (h8 : a8.IsWhole)
    (hc0 : ¬cond0_0 i) (x0 : Vec Ideal S512x512 .bf16) (x1 : Vec Ideal S512x2048 .f32) (x2 : Vec Ideal S1x2048 .f32)
    (x3 : Vec Ideal S512x2048 .f32) (x4 : Vec Ideal S2048x512 .bf16) (xs : Vec Ideal S1x2048 .f32) :
    out0_B_5 c i a1 h1 a2 h2 a3 h3 a4 h4 a5 h5 a6 h6 a7 h7 a8 h8 hc0 x0 x1 x2 x3 x4 xs = k0_pay6 x1 x0 x4 x2 x3 := by
  unfold out0_B_5
  rw [View.read_writes_eq_canon _ _ _ (cover0_B_5 c i a1 h1 a2 h2 a3 h3 a4 h4 a5 h5 a6 h6 a7 h7 a8 h8 hc0 x0 x1 x2 x3 x4 xs)]
  unfold kernelRun0_B
  dsimp only
  sl_unfold_words
  rw [View.canon_unit_zero hz2]
  simp only [View.readAt_eq_ld, h1.read_unread, h2.read_unread, h3.read_unread, h4.read_unread, h5.read_unread, h8.read_unread,
    View.ld_unit_zero (S := S512x2048) hz2, View.ld_unit_zero (S := S512x512) hz2, View.ld_unit_zero (S := S2048x512) hz2,
    View.ld_unit_zero (S := S1x2048) hz2, shapeCast_self]

theorem out_B6 (c : Dev nD) (i : grid0.Coords) (a1 : Memref sig .tc .vmem S512x512 .bf16) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S2048x512 .bf16) (h5 : a5.IsWhole)
    (a6 : Memref sig .tc .vmem S512x2048 .f32) (h6 : a6.IsWhole) (a7 : Memref sig .tc .vmem S512x2048 .bf16) (h7 : a7.IsWhole)
    (a8 : Memref sig .tc .vmem S1x2048 .f32) (h8 : a8.IsWhole)
    (hc0 : ¬cond0_0 i) (x0 : Vec Ideal S512x512 .bf16) (x1 : Vec Ideal S512x2048 .f32) (x2 : Vec Ideal S1x2048 .f32)
    (x3 : Vec Ideal S512x2048 .f32) (x4 : Vec Ideal S2048x512 .bf16) (xs : Vec Ideal S1x2048 .f32) :
    out0_B_6 c i a1 h1 a2 h2 a3 h3 a4 h4 a5 h5 a6 h6 a7 h7 a8 h8 hc0 x0 x1 x2 x3 x4 xs = k0_pay7 x1 x0 x4 x2 x3 := by
  unfold out0_B_6
  rw [View.read_writes_eq_canon _ _ _ (cover0_B_6 c i a1 h1 a2 h2 a3 h3 a4 h4 a5 h5 a6 h6 a7 h7 a8 h8 hc0 x0 x1 x2 x3 x4 xs)]
  unfold kernelRun0_B
  dsimp only
  sl_unfold_words
  rw [View.canon_unit_zero hz2]
  simp only [View.readAt_eq_ld, h1.read_unread, h2.read_unread, h3.read_unread, h4.read_unread, h5.read_unread, h8.read_unread,
    View.ld_unit_zero (S := S512x2048) hz2, View.ld_unit_zero (S := S512x512) hz2, View.ld_unit_zero (S := S2048x512) hz2,
    View.ld_unit_zero (S := S1x2048) hz2, shapeCast_self]

theorem out_B7 (c : Dev nD) (i : grid0.Coords) (a1 : Memref sig .tc .vmem S512x512 .bf16) (h1 : a1.IsWhole)
    (a2 : Memref sig .tc .vmem S512x2048 .f32) (h2 : a2.IsWhole) (a3 : Memref sig .tc .vmem S1x2048 .f32) (h3 : a3.IsWhole)
    (a4 : Memref sig .tc .vmem S512x2048 .f32) (h4 : a4.IsWhole) (a5 : Memref sig .tc .vmem S2048x512 .bf16) (h5 : a5.IsWhole)
    (a6 : Memref sig .tc .vmem S512x2048 .f32) (h6 : a6.IsWhole) (a7 : Memref sig .tc .vmem S512x2048 .bf16) (h7 : a7.IsWhole)
    (a8 : Memref sig .tc .vmem S1x2048 .f32) (h8 : a8.IsWhole)
    (hc0 : ¬cond0_0 i) (x0 : Vec Ideal S512x512 .bf16) (x1 : Vec Ideal S512x2048 .f32) (x2 : Vec Ideal S1x2048 .f32)
    (x3 : Vec Ideal S512x2048 .f32) (x4 : Vec Ideal S2048x512 .bf16) (xs : Vec Ideal S1x2048 .f32) :
    out0_B_7 c i a1 h1 a2 h2 a3 h3 a4 h4 a5 h5 a6 h6 a7 h7 a8 h8 hc0 x0 x1 x2 x3 x4 xs = k0_pay2 (F := Ideal) (k0_pay3 x0 x4) (k0_pay5 x1) xs := by
  unfold out0_B_7
  rw [View.read_writes_eq_canon _ _ _ (cover0_B_7 c i a1 h1 a2 h2 a3 h3 a4 h4 a5 h5 a6 h6 a7 h7 a8 h8 hc0 x0 x1 x2 x3 x4 xs)]
  unfold kernelRun0_B
  dsimp only
  sl_unfold_words
  rw [View.canon_unit_zero hz2]
  simp only [View.readAt_eq_ld, h1.read_unread, h2.read_unread, h3.read_unread, h4.read_unread, h5.read_unread, h8.read_unread,
    View.ld_unit_zero (S := S512x2048) hz2, View.ld_unit_zero (S := S512x512) hz2, View.ld_unit_zero (S := S2048x512) hz2,
    View.ld_unit_zero (S := S1x2048) hz2, shapeCast_self]

/-- The three results' blocks after a point. -/
theorem block5 (c : Dev nD) (t : Fin cfg0.N) :
    (outsAt0 m c t.val t.isLt).1 = k0_pay6 (F := Ideal) (iblk m c 1 t) (iblk m c 0 t) (iblk m c 4 t) (iblk m c 2 t) (iblk m c 3 t) := by
  by_cases h : t.val % 8 = 0
  · rw [outsAt0_A m c t h]; dsimp only; rw [out_A5]
  · rw [outsAt0_B m c t h]; dsimp only; rw [out_B5]

theorem block6 (c : Dev nD) (t : Fin cfg0.N) :
    (outsAt0 m c t.val t.isLt).2.1 = k0_pay7 (F := Ideal) (iblk m c 1 t) (iblk m c 0 t) (iblk m c 4 t) (iblk m c 2 t) (iblk m c 3 t) := by
  by_cases h : t.val % 8 = 0
  · rw [outsAt0_A m c t h]; dsimp only; rw [out_A6]
  · rw [outsAt0_B m c t h]; dsimp only; rw [out_B6]

theorem acc_A (c : Dev nD) (t : Fin cfg0.N) (h : t.val % 8 = 0) :
    (outsAt0 m c t.val t.isLt).2.2
      = k0_pay2 (F := Ideal) (k0_pay3 (iblk m c 0 t) (iblk m c 4 t)) (k0_pay5 (iblk m c 1 t)) (k0_pay1 (F := Ideal)) := by
  rw [outsAt0_A m c t h]; dsimp only; rw [out_A7]

theorem acc_B (c : Dev nD) (t : Fin cfg0.N) (h : ¬t.val % 8 = 0) :
    (outsAt0 m c t.val t.isLt).2.2 = k0_pay2 (F := Ideal) (k0_pay3 (iblk m c 0 t) (iblk m c 4 t)) (k0_pay5 (iblk m c 1 t))
      (outsAt0 m c (t.val - 1) (Nat.lt_of_le_of_lt (Nat.sub_le _ _) t.isLt)).2.2 := by
  rw [outsAt0_B m c t h]; dsimp only; rw [out_B7]

/-- The arrays of a device as launched: the queries' gradient, the rows, the gain, the residual's gradient
    and the query weight. -/
abbrev A0 (c : Dev nD) : (⟨S4096x512, .bf16⟩ : BufTy).Contents (Elt Ideal) := m ((c : Thread nD τ).loc main_arg0)
abbrev A1 (c : Dev nD) : (⟨S4096x2048, .f32⟩ : BufTy).Contents (Elt Ideal) := m ((c : Thread nD τ).loc main_arg1)
abbrev A2 (c : Dev nD) : (⟨S2048, .f32⟩ : BufTy).Contents (Elt Ideal) := m ((c : Thread nD τ).loc main_arg2)
abbrev A3 (c : Dev nD) : (⟨S4096x2048, .f32⟩ : BufTy).Contents (Elt Ideal) := m ((c : Thread nD τ).loc main_arg3)
abbrev A4 (c : Dev nD) : (⟨S2048x512, .bf16⟩ : BufTy).Contents (Elt Ideal) := m ((c : Thread nD τ).loc main_arg4)

/-- The gain's one axis, and what the region finds in the gain's row: the gain. -/
abbrev gix (n : Fin 2048) : S2048.Idx := fun a => match a with | ⟨0, _⟩ => ⟨n.val, n.isLt⟩

theorem V_gain (c : Dev nD) : V m c main_v0 = shapeCast S1x2048 (A2 m c) shapeCasts_S2048_S1x2048 := by
  show StableHlo.after hostOps0 _ _ = _
  after_results
  rfl

theorem gain_apply (g : (⟨S2048, .f32⟩ : BufTy).Contents (Elt Ideal)) (i : S1x2048.Idx) :
    shapeCast S1x2048 g shapeCasts_S2048_S1x2048 i = g (gix (i 1)) := by
  have h0 : (i 0).val < 1 := (i 0).isLt
  refine shapeCast_apply _ _ i _ ?_
  rw [Shape.rowMajor_val_one, Shape.rowMajor_val_two]
  show (i 1).val = (i 0).val * 2048 + (i 1).val
  omega

/-- The reference's mean square and reciprocal root of a row, its gradient at an index, and its term of the gain's gradient. -/
theorem ref_ms (x1 : (⟨S4096x2048, .f32⟩ : BufTy).Contents (Elt Ideal)) (i : Cert.RmsXattnRefIdeal.S4096x1.Idx) :
    val_main_v7 (F := Ideal) x1 i = ms fun k => x1 (idx_main_v2 (idx_main_v3 i) k) := by
  rw [val_main_v7_apply, val_main_v6_apply, val_main_cst_1_apply, val_main_v5_apply, val_main_v4_apply, val_main_cst_0_apply,
    val_main_v3_apply, val_main_v2_apply, val_main_cst_apply]
  simp only [val_main_v1_apply, pointwise, zero_add]

theorem ref_rr (x1 : (⟨S4096x2048, .f32⟩ : BufTy).Contents (Elt Ideal)) (i : Cert.RmsXattnRefIdeal.S4096x1.Idx) :
    val_main_v8 (F := Ideal) x1 i = rr fun k => x1 (idx_main_v2 (idx_main_v3 i) k) := by
  rw [val_main_v8_apply, ref_ms]
  rfl

theorem row_at (x1 : (⟨S4096x2048, .f32⟩ : BufTy).Contents (Elt Ideal)) (t : Fin cfg0.N) (r : Fin 512) (i : Cert.RmsXattnRefIdeal.S4096x1.Idx)
    (hi : (i 0).val = t.val * 512 + r.val) :
    (fun k => x1 (idx_main_v2 (idx_main_v3 i) k)) = fun k => x1 (at_ t r k) :=
  funext fun k => congrArg x1 (funext fun a => Fin.ext (match a with | ⟨0, _⟩ => hi | ⟨1, _⟩ => rfl))

theorem ref_gain (x2 : (⟨S2048, .f32⟩ : BufTy).Contents (Elt Ideal)) (t : Fin cfg0.N) (r : Fin 512) (n : Fin 2048) :
    val_main_v23 (F := Ideal) x2 (at_ t r n) = x2 (gix n) := by
  rw [val_main_v23_apply, val_main_v14_apply]
  exact congrArg x2 (funext fun a => Fin.ext (match a with | ⟨0, _⟩ => rfl))

theorem ref_y (x0 : (⟨S4096x512, .bf16⟩ : BufTy).Contents (Elt Ideal)) (x4 : (⟨S2048x512, .bf16⟩ : BufTy).Contents (Elt Ideal)) (x2 : (⟨S2048, .f32⟩ : BufTy).Contents (Elt Ideal))
    (t : Fin cfg0.N) (r : Fin 512) (n : Fin 2048) :
    val_main_v24 (F := Ideal) x0 x2 x4 (at_ t r n) = val_main_v19 (F := Ideal) x0 x4 (at_ t r n) * x2 (gix n) := by
  rw [val_main_v24_apply, ref_gain]
  rfl

theorem ref_factor (x0 : (⟨S4096x512, .bf16⟩ : BufTy).Contents (Elt Ideal)) (x1 : (⟨S4096x2048, .f32⟩ : BufTy).Contents (Elt Ideal))
    (x4 : (⟨S2048x512, .bf16⟩ : BufTy).Contents (Elt Ideal)) (x2 : (⟨S2048, .f32⟩ : BufTy).Contents (Elt Ideal))
    (t : Fin cfg0.N) (r : Fin 512) (n : Fin 2048) :
    val_main_v36 (F := Ideal) x0 x1 x2 x4 (at_ t r n)
      = factor (fun k => x1 (at_ t r k)) fun k => val_main_v19 (F := Ideal) x0 x4 (at_ t r k) * x2 (gix k) := by
  rw [val_main_v36_apply, val_main_v35_apply, val_main_cst_7_apply]
  simp only [Finset.univ_unique, Finset.sum_singleton]
  rw [val_main_v34_apply, val_main_v33_apply, val_main_cst_6_apply, val_main_v32_apply, val_main_v28_apply, val_main_v27_apply,
    val_main_cst_5_apply, val_main_v11_apply, val_main_v10_apply, val_main_cst_2_apply, val_main_v9_apply, ref_ms, ref_rr,
    row_at x1 t r _ (by rfl)]
  simp only [pointwise, zero_add]
  refine congrArg (fun s => Ideal.div (s * _) _) (Finset.sum_congr rfl fun k _ => ?_)
  rw [val_main_v26_apply]
  have e : idx_main_v27 (idx_main_v28 (idx_main_v35 (idx_main_v36 (at_ t r n)) default)) k = at_ t r k :=
    funext fun a => Fin.ext (match a with
      | ⟨0, _⟩ => by show (t.val * 512 + r.val) * 1 + 0 = t.val * 512 + r.val; omega
      | ⟨1, _⟩ => rfl)
  rw [e, ref_y]
  rfl

theorem ref_apply (x0 : (⟨S4096x512, .bf16⟩ : BufTy).Contents (Elt Ideal)) (x1 : (⟨S4096x2048, .f32⟩ : BufTy).Contents (Elt Ideal))
    (x4 : (⟨S2048x512, .bf16⟩ : BufTy).Contents (Elt Ideal)) (x2 : (⟨S2048, .f32⟩ : BufTy).Contents (Elt Ideal))
    (x3 : (⟨S4096x2048, .f32⟩ : BufTy).Contents (Elt Ideal)) (t : Fin cfg0.N) (r : Fin 512) (n : Fin 2048) :
    val_main_v40 (F := Ideal) x0 x1 x2 x3 x4 (at_ t r n)
      = derivGrad (fun k => x1 (at_ t r k)) (fun k => val_main_v19 (F := Ideal) x0 x4 (at_ t r k) * x2 (gix k)) (x3 (at_ t r n)) n := by
  rw [val_main_v40_apply, val_main_v39_apply, val_main_v38_apply, val_main_v37_apply, val_main_v31_apply, val_main_v30_apply,
    val_main_v29_apply, ref_rr, row_at x1 t r _ (by rfl), ref_y, ref_factor]
  rfl

theorem ref_term (x0 : (⟨S4096x512, .bf16⟩ : BufTy).Contents (Elt Ideal)) (x1 : (⟨S4096x2048, .f32⟩ : BufTy).Contents (Elt Ideal))
    (x4 : (⟨S2048x512, .bf16⟩ : BufTy).Contents (Elt Ideal)) (t : Fin cfg0.N) (r : Fin 512) (n : Fin 2048) :
    val_main_v20 (F := Ideal) x0 x1 x4 (at_ t r n) = val_main_v19 (F := Ideal) x0 x4 (at_ t r n) * (x1 (at_ t r n) * rr fun k => x1 (at_ t r k)) := by
  rw [val_main_v20_apply, val_main_v13_apply, val_main_v12_apply, ref_rr, row_at x1 t r _ (by rfl)]
  exact mul_comm _ _

theorem ref_dg (x0 : (⟨S4096x512, .bf16⟩ : BufTy).Contents (Elt Ideal)) (x1 : (⟨S4096x2048, .f32⟩ : BufTy).Contents (Elt Ideal))
    (x4 : (⟨S2048x512, .bf16⟩ : BufTy).Contents (Elt Ideal)) (n : Fin 2048) :
    val_main_v42 (F := Ideal) x0 x1 x4 (ix2 0 n) = ∑ t : Fin 8, ∑ r : Fin 512, val_main_v20 (F := Ideal) x0 x1 x4 (at_ t r n) := by
  rw [val_main_v42_apply, val_main_v25_apply, val_main_cst_4_apply]
  simp only [Finset.univ_unique, Finset.sum_singleton]
  rw [val_main_v22_apply, val_main_v21_apply, val_main_cst_3_apply]
  simp only [pointwise, zero_add]
  rw [sum_chunks (a := 8) (b := 512) rfl]
  refine Finset.sum_congr rfl fun t _ => Finset.sum_congr rfl fun r _ => congrArg (val_main_v20 (F := Ideal) x0 x1 x4) ?_
  exact funext fun a => Fin.ext (match a with
    | ⟨0, _⟩ => rfl
    | ⟨1, _⟩ => by show 0 * 2048 + (0 * 2048 + n.val) = n.val; omega)

/-- Where a block's elements sit in their array: the argument windows and the result windows. -/
theorem emb0 (t : Fin cfg0.N) (r k : Fin 512) (n : Fin 2048) : (win0_0.rect t).emb (ix2 r k) = lidx_main_v19 (at_ t r n) k := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb4 (t : Fin cfg0.N) (r k : Fin 512) (n : Fin 2048) : (win0_4.rect t).emb (ix2 n k) = ridx_main_v19 (at_ t r n) k := by
  obtain ⟨-, -, -, -, ⟨h0, h1⟩, -⟩ := idx_facts t
  refine funext fun a => Fin.ext ?_
  match a with
  | ⟨0, _⟩ => exact (win0_4.rect_emb_val t _ 0).trans (by rw [h0]; exact (Nat.zero_mul _).symm ▸ Nat.zero_add _)
  | ⟨1, _⟩ => exact (win0_4.rect_emb_val t _ 1).trans (by rw [h1]; exact (Nat.zero_mul _).symm ▸ Nat.zero_add _)

theorem emb1 (t : Fin cfg0.N) (r : Fin 512) (n : Fin 2048) : (win0_1.rect t).emb (ix2 r n) = at_ t r n := by
  obtain ⟨-, ⟨h0, h1⟩, -⟩ := idx_facts t
  refine funext fun a => Fin.ext ?_
  match a with
  | ⟨0, _⟩ => exact (win0_1.rect_emb_val t _ 0).trans (by rw [h0]; rfl)
  | ⟨1, _⟩ => exact (win0_1.rect_emb_val t _ 1).trans (by rw [h1]; exact (Nat.zero_mul _).symm ▸ Nat.zero_add _)

theorem emb2 (t : Fin cfg0.N) (n : Fin 2048) : (win0_2.rect t).emb (ix2 0 n) = ix2 0 n := by
  obtain ⟨-, -, ⟨h0, h1⟩, -⟩ := idx_facts t
  refine funext fun a => Fin.ext ?_
  match a with
  | ⟨0, _⟩ => exact (win0_2.rect_emb_val t _ 0).trans (by rw [h0]; exact (Nat.zero_mul _).symm ▸ Nat.zero_add _)
  | ⟨1, _⟩ => exact (win0_2.rect_emb_val t _ 1).trans (by rw [h1]; exact (Nat.zero_mul _).symm ▸ Nat.zero_add _)

theorem emb3 (t : Fin cfg0.N) (r : Fin 512) (n : Fin 2048) : (win0_3.rect t).emb (ix2 r n) = at_ t r n := by
  obtain ⟨-, -, -, ⟨h0, h1⟩, -⟩ := idx_facts t
  refine funext fun a => Fin.ext ?_
  match a with
  | ⟨0, _⟩ => exact (win0_3.rect_emb_val t _ 0).trans (by rw [h0]; rfl)
  | ⟨1, _⟩ => exact (win0_3.rect_emb_val t _ 1).trans (by rw [h1]; exact (Nat.zero_mul _).symm ▸ Nat.zero_add _)

theorem emb56 (t : Fin cfg0.N) (r : Fin 512) (n : Fin 2048) :
    (win0_5.rect t).emb (ix2 r n) = at_ t r n ∧ (win0_6.rect t).emb (ix2 r n) = at_ t r n := by
  obtain ⟨-, -, -, -, -, ⟨h0, h1⟩, ⟨h2, h3⟩, -⟩ := idx_facts t
  refine ⟨funext fun a => Fin.ext ?_, funext fun a => Fin.ext ?_⟩
  · match a with
    | ⟨0, _⟩ => exact (win0_5.rect_emb_val t _ 0).trans (by rw [h0]; rfl)
    | ⟨1, _⟩ => exact (win0_5.rect_emb_val t _ 1).trans (by rw [h1]; exact (Nat.zero_mul _).symm ▸ Nat.zero_add _)
  · match a with
    | ⟨0, _⟩ => exact (win0_6.rect_emb_val t _ 0).trans (by rw [h2]; rfl)
    | ⟨1, _⟩ => exact (win0_6.rect_emb_val t _ 1).trans (by rw [h3]; exact (Nat.zero_mul _).symm ▸ Nat.zero_add _)

theorem emb7 (t : Fin cfg0.N) (n : Fin 2048) : (win0_7.rect t).emb (ix2 0 n) = ix2 0 n := by
  obtain ⟨-, -, -, -, -, -, -, h0, h1⟩ := idx_facts t
  refine funext fun a => Fin.ext ?_
  match a with
  | ⟨0, _⟩ => exact (win0_7.rect_emb_val t _ 0).trans (by rw [h0]; exact (Nat.zero_mul _).symm ▸ Nat.zero_add _)
  | ⟨1, _⟩ => exact (win0_7.rect_emb_val t _ 1).trans (by rw [h1]; exact (Nat.zero_mul _).symm ▸ Nat.zero_add _)

/-- The argument blocks at an element, the first and the last as the product of them. -/
theorem blk0 (c : Dev nD) (t : Fin cfg0.N) (r : Fin 512) (n : Fin 2048) :
    k0_pay3 (F := Ideal) (iblk m c 0 t) (iblk m c 4 t) (ix2 r n) = val_main_v19 (F := Ideal) (A0 m c) (A4 m c) (at_ t r n) := by
  rw [pay3_apply, val_main_v19_apply]
  exact Finset.sum_congr rfl fun k _ => congrArg₂ (· * ·)
    ((congrFun (V_main_arg0 m c) _).trans (congrArg (A0 m c) (emb0 t r k n)))
    ((congrFun (V_main_arg4 m c) _).trans (congrArg (A4 m c) (emb4 t r k n)))
theorem blk1 (c : Dev nD) (t : Fin cfg0.N) (r : Fin 512) (n : Fin 2048) : iblk m c 1 t (ix2 r n) = A1 m c (at_ t r n) :=
  (congrFun (V_main_arg1 m c) _).trans (congrArg (A1 m c) (emb1 t r n))
theorem blk2 (c : Dev nD) (t : Fin cfg0.N) (n : Fin 2048) : iblk m c 2 t (ix2 0 n) = A2 m c (gix n) :=
  (congrFun (V_gain m c) _).trans ((congrArg _ (emb2 t n)).trans (gain_apply _ _))
theorem blk3 (c : Dev nD) (t : Fin cfg0.N) (r : Fin 512) (n : Fin 2048) : iblk m c 3 t (ix2 r n) = A3 m c (at_ t r n) :=
  (congrFun (V_main_arg3 m c) _).trans (congrArg (A3 m c) (emb3 t r n))

/-- A block's gradient at an element is the reference's at its array index. -/
theorem grad_block (c : Dev nD) (t : Fin cfg0.N) (r : Fin 512) (n : Fin 2048) :
    k0_pay6 (F := Ideal) (iblk m c 1 t) (iblk m c 0 t) (iblk m c 4 t) (iblk m c 2 t) (iblk m c 3 t) (ix2 r n)
      = val_main_v40 (F := Ideal) (A0 m c) (A1 m c) (A2 m c) (A3 m c) (A4 m c) (at_ t r n) := by
  rw [pay6_apply, ref_apply, ← grad_eq]
  have e1 : (fun k => iblk m c 1 t (ix2 r k)) = fun k => A1 m c (at_ t r k) := funext fun k => blk1 m c t r k
  have e0 : (fun k => @HMul.hMul EReal EReal EReal _ (k0_pay3 (F := Ideal) (iblk m c 0 t) (iblk m c 4 t) (ix2 r k)) (iblk m c 2 t (ix2 0 k))) = fun k => val_main_v19 (F := Ideal) (A0 m c) (A4 m c) (at_ t r k) * A2 m c (gix k) :=
    funext fun k => congrArg₂ (· * ·) (blk0 m c t r k) (blk2 m c t k)
  exact (congrArg (fun s => blockGrad _ _ s n) (blk3 m c t r n)).trans (congrArg₂ (fun a b => blockGrad a b _ n) e1 e0)

/-- What a block adds to the gain's gradient: its rows' terms. -/
theorem part_block (c : Dev nD) (t : Fin cfg0.N) (v : Vec Ideal S1x2048 .f32) (n : Fin 2048) :
    k0_pay2 (F := Ideal) (k0_pay3 (iblk m c 0 t) (iblk m c 4 t)) (k0_pay5 (iblk m c 1 t)) v (ix2 0 n)
      = v (ix2 0 n) + ∑ r : Fin 512, val_main_v20 (F := Ideal) (A0 m c) (A1 m c) (A4 m c) (at_ t r n) := by
  rw [pay2_apply]
  refine congrArg (v (ix2 0 n) + ·) (Finset.sum_congr rfl fun r _ => ?_)
  rw [ref_term]
  have e1 : (fun k => iblk m c 1 t (ix2 r k)) = fun k => A1 m c (at_ t r k) := funext fun k => blk1 m c t r k
  exact congrArg₂ (· * ·) (blk0 m c t r n) (congrArg₂ (· * ·) (blk1 m c t r n) (congrArg rr e1))

/-- The gain's gradient after a point: the blocks so far. -/
def part (c : Dev nD) (n : Fin 2048) (s : ℕ) : EReal :=
  if h : s < 8 then ∑ r : Fin 512, val_main_v20 (F := Ideal) (A0 m c) (A1 m c) (A4 m c) (at_ ⟨s, h⟩ r n) else 0
def acc (c : Dev nD) (n : Fin 2048) (s : ℕ) : EReal := if h : s < 8 then (outsAt0 m c s h).2.2 (ix2 0 n) else 0

theorem acc_eq (c : Dev nD) (n : Fin 2048) (s : ℕ) (h : s < 8) : acc m c n s = ∑ u ∈ Finset.range (s + 1), part m c n u := by
  refine fold_sum _ _ ?_ 8 (fun k hk => ?_) s h
  · rw [acc, part, dif_pos (by omega), dif_pos (by omega)]
    refine (congrFun (acc_A m c ⟨0, by decide⟩ rfl) _).trans ((part_block m c ⟨0, by decide⟩ _ n).trans ?_)
    exact (congrArg (· + _) (show k0_pay1 (F := Ideal) (ix2 0 n) = 0 from by unfold k0_pay1; simp only [pointwise])).trans (zero_add _)
  · rw [acc, acc, part, dif_pos hk, dif_pos (by omega), dif_pos hk]
    exact (congrFun (acc_B m c ⟨k + 1, hk⟩ (by show ¬(k + 1) % 8 = 0; omega)) _).trans (part_block m c ⟨k + 1, hk⟩ _ n)

/-- Every index of the gradient is one of a block's elements. -/
theorem onto (i : S4096x2048.Idx) : ∃ t : Fin cfg0.N, ∃ r n, at_ t r n = i := by
  have h0 : (i 0).val < 4096 := (i 0).isLt
  refine ⟨⟨(i 0).val / 512, by show _ < 8; omega⟩, ⟨(i 0).val % 512, by omega⟩, ⟨(i 1).val, (i 1).isLt⟩, funext fun a => Fin.ext ?_⟩
  match a with
  | ⟨0, _⟩ => show (i 0).val / 512 * 512 + (i 0).val % 512 = (i 0).val; omega
  | ⟨1, _⟩ => rfl

/-- The gradient, its rounded copy and the gain's gradient: the arrays after the run are the reference's. -/
theorem final_dx (c : Dev nD) :
    (dats m 0 c).arrAt 5 cfg0.N = val_main_v40 (F := Ideal) (A0 m c) (A1 m c) (A2 m c) (A3 m c) (A4 m c) := by
  refine (dats m 0 c).arrAt_eq_of_cover 5 _ (fun t hf => ?_) (fun i => ?_)
  · rw [Cert.RmsXattnIdeal.Value.flushed5, block5]
    funext y
    obtain ⟨r, n, rfl⟩ : ∃ r n, y = ix2 r n := ⟨y 0, y 1, eq_ix2 y⟩
    show k0_pay6 (F := Ideal) _ _ _ _ _ (ix2 r n) = val_main_v40 (F := Ideal) _ _ _ _ _ ((win0_5.rect t).emb (ix2 r n))
    rw [(emb56 t r n).1]
    exact grad_block m c t r n
  · obtain ⟨t, r, n, rfl⟩ := onto i
    rw [← (emb56 t r n).1]
    exact ⟨t, flush0_5 t, View.emb_mem_set ((cfg0.win 5).blk t).view _⟩

theorem final_dxb (c : Dev nD) :
    (dats m 0 c).arrAt 6 cfg0.N = val_main_v41 (F := Ideal) (A0 m c) (A1 m c) (A2 m c) (A3 m c) (A4 m c) := by
  refine (dats m 0 c).arrAt_eq_of_cover 6 _ (fun t hf => ?_) (fun i => ?_)
  · rw [Cert.RmsXattnIdeal.Value.flushed6, block6]
    funext y
    obtain ⟨r, n, rfl⟩ : ∃ r n, y = ix2 r n := ⟨y 0, y 1, eq_ix2 y⟩
    show k0_pay6 (F := Ideal) _ _ _ _ _ (ix2 r n) = val_main_v40 (F := Ideal) _ _ _ _ _ ((win0_6.rect t).emb (ix2 r n))
    rw [(emb56 t r n).2]
    exact grad_block m c t r n
  · obtain ⟨t, r, n, rfl⟩ := onto i
    rw [← (emb56 t r n).2]
    exact ⟨t, flush0_6 t, View.emb_mem_set ((cfg0.win 6).blk t).view _⟩

theorem final_dg (c : Dev nD) : (dats m 0 c).arrAt 7 cfg0.N = val_main_v42 (F := Ideal) (A0 m c) (A1 m c) (A4 m c) := by
  refine (dats m 0 c).arrAt_eq_of_cover 7 _ (fun t hf => ?_) (fun i => ?_)
  · have h7 : t.val % 8 = 7 := (flush0_7 t).mp hf
    have hN : t.val < 8 := t.isLt
    obtain rfl : t = ⟨7, by decide⟩ := Fin.ext (by show t.val = 7; omega)
    rw [Cert.RmsXattnIdeal.Value.flushed7]
    funext y
    obtain ⟨z, n, rfl⟩ : ∃ z n, y = ix2 z n := ⟨y 0, y 1, eq_ix2 y⟩
    obtain rfl : z = 0 := Fin.ext (by have : z.val < 1 := z.isLt; show z.val = 0; omega)
    show (outsAt0 m c 7 (by decide)).2.2 (ix2 0 n) = val_main_v42 (F := Ideal) _ _ _ ((win0_7.rect ⟨7, by decide⟩).emb (ix2 0 n))
    rw [emb7, ref_dg]
    have h := acc_eq m c n 7 (by decide)
    rw [acc, dif_pos (by decide), Finset.sum_range] at h
    refine h.trans (Finset.sum_congr rfl fun s _ => ?_)
    rw [part, dif_pos s.isLt]
  · obtain ⟨z, n, rfl⟩ : ∃ z n, i = ix2 z n := ⟨i 0, i 1, eq_ix2 i⟩
    obtain rfl : z = 0 := Fin.ext (by have : z.val < 1 := z.isLt; show z.val = 0; omega)
    rw [← emb7 ⟨7, by decide⟩ n]
    exact ⟨⟨7, by decide⟩, (flush0_7 _).mpr rfl, View.emb_mem_set ((cfg0.win 7).blk ⟨7, by decide⟩).view _⟩

/-- The kernel computes the reference's three results: started with the same arguments, both programs' runs end with the same
    results and with the arguments unchanged. -/
theorem algebraic : Cert.algebraic_RmsXattnIdeal_RmsXattnRefIdeal := by
  intro m g m' g' _ hagree
  refine ⟨fun c => val_main_v40 (F := Ideal) (A0 m c) (A1 m c) (A2 m c) (A3 m c) (A4 m c),
    fun c => val_main_v41 (F := Ideal) (A0 m c) (A1 m c) (A2 m c) (A3 m c) (A4 m c),
    fun c => val_main_v42 (F := Ideal) (A0 m c) (A1 m c) (A4 m c),
    (θ_run _ _ _).mono (fun r h c => ?_) (Cert.RmsXattnIdeal.Value.run_blocks (F := Ideal) m g),
    (θ_run _ _ _).mono (fun r h c => ?_) (Cert.RmsXattnRefIdeal.Value.run (F := Ideal) m' g')⟩
  · exact ⟨(h c).1.trans (final_dx m c), (h c).2.1.trans (final_dxb m c), (h c).2.2.1.trans (final_dg m c), (h c).2.2.2⟩
  · obtain ⟨a0, a1, a2, a3, a4⟩ := hagree c
    refine ⟨(h c).1.trans ?_, (h c).2.1.trans ?_, (h c).2.2.1.trans ?_, (h c).2.2.2⟩
    · exact (val_main_v40_eq m' c).trans (by rw [a0, a1, a2, a3, a4])
    · exact (val_main_v41_eq m' c).trans (by rw [a0, a1, a2, a3, a4])
    · rw [a0, a1, a4]; exact val_main_v42_eq _ _ _

/-- The reference's own run ends, with its arguments unchanged and every counter at zero. -/
theorem frame_reference : Cert.quiescent_RmsXattnRefIdeal := fun m ρ _ =>
  (θ_run Cert.RmsXattnRefIdeal.defs _ _).mono (fun r h => ⟨fun c => (h c).2.2.2, Idealize.ShloMosaic.sem_eq_zero_of_no_sems (by decide) r.2⟩)
    (Cert.RmsXattnRefIdeal.Value.run (F := Ideal) m ρ)

end Cert.Proof.RmsXattnValue

end
-- ==== Proof.RmsMemValue.lean ====
/-
  The value of the backward call `rms_mem_bwd`: the gradient of the gain of the memory's norm, the sum over the memory's 256 rows of
  the normed row times the incoming gradient. One grid point does all of it.
-/
module

public import proofs.«01_k».proof.Proof.Gen.RmsMemIdeal.Value
public import proofs.«01_k».proof.Proof.Gen.RmsMemRefIdeal.Read
public import proofs.«01_k».proof.Proof.Gen.RmsMemRefIdeal.Run
public import proofs.«01_k».proof.Defs
public import proofs.«01_k».proof.Proof.Chunks
public import proofs.«01_k».proof.Proof.Norm

@[expose] public section

noncomputable section

namespace Cert.Proof.RmsMemValue

open Cert.RmsMemIdeal Cert.RmsMemIdeal.Gen Idealize.ShloMosaic Idealize.ShloMosaic.TcCoe Idealize.SL.Sem
open Cert.RmsMemRefIdeal.Read
open Cert.Proof.Norm

variable (m : (ℓ : Loc nD τ sig) → Buf (Elt Ideal) ℓ)

/-- Every window's block is its whole array. -/
theorem idx_facts : ∀ t : Fin cfg0.N,
    (win0_0.index t 0 = 0 ∧ win0_0.index t 1 = 0) ∧ (win0_1.index t 0 = 0 ∧ win0_1.index t 1 = 0)
    ∧ (win0_3.index t 0 = 0 ∧ win0_3.index t 1 = 0) :=
  (by decide +kernel : ∀ t : Fin grid0.N, _)

/-- What the block adds to the gain's gradient. -/
theorem pay2_apply (v0 v1 : Vec Ideal S256x2048 .f32) (v15 : Vec Ideal S1x2048 .f32) (n : Fin 2048) :
    k0_pay2 (F := Ideal) v0 v1 v15 (ix2 0 n)
      = v15 (ix2 0 n) + ∑ r : Fin 256, v1 (ix2 r n) * (v0 (ix2 r n) * rr fun k => v0 (ix2 r k)) := by
  unfold k0_pay2
  simp only [pointwise, zero_add, shapeCast_self]
  rfl

/-- What the point leaves in the result's block: the sum from zero. -/
theorem out_3 (c : Dev nD) (i : grid0.Coords) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S1x2048 .f32) (h4 : a4.IsWhole) (hc0 : cond0_0 i)
    (x0 x1 : Vec Ideal S256x2048 .f32) (x2 : Vec Ideal S1x2048 .f32) :
    out0_A_3 c i a1 h1 a2 h2 a3 h3 a4 h4 hc0 x0 x1 x2 = k0_pay2 (F := Ideal) x1 x0 (k0_pay1 (F := Ideal)) := by
  unfold out0_A_3
  rw [View.read_writes_eq_canon _ _ _ (cover0_A_3 c i a1 h1 a2 h2 a3 h3 a4 h4 hc0 x0 x1 x2)]
  unfold kernelRun0_A
  dsimp only
  sl_unfold_words
  rw [View.canon_cons_unit_zero hz2, View.readCov_unit_zero (S := S1x2048) _ hz2]
  simp only [View.readAt_eq_ld, h1.read_unread, h2.read_unread, View.ld_unit_zero (S := S256x2048) hz2]

/-- The arrays of a device as launched: the incoming gradient and the memory's rows. -/
abbrev A0 (c : Dev nD) : (⟨S256x2048, .f32⟩ : BufTy).Contents (Elt Ideal) := m ((c : Thread nD τ).loc main_arg0)
abbrev A1 (c : Dev nD) : (⟨S256x2048, .f32⟩ : BufTy).Contents (Elt Ideal) := m ((c : Thread nD τ).loc main_arg1)

/-- The reference's term of the gain's gradient, and the gradient. -/
theorem ref_term (x0 x1 : (⟨S256x2048, .f32⟩ : BufTy).Contents (Elt Ideal)) (r : Fin 256) (n : Fin 2048) :
    val_main_v13 (F := Ideal) x0 x1 (ix2 r n) = x0 (ix2 r n) * (x1 (ix2 r n) * rr fun k => x1 (ix2 r k)) := by
  rw [val_main_v13_apply, val_main_v9_apply, val_main_v8_apply, val_main_v7_apply, val_main_v6_apply, val_main_v5_apply,
    val_main_cst_1_apply, val_main_v4_apply, val_main_v3_apply, val_main_cst_0_apply, val_main_v2_apply, val_main_v1_apply,
    val_main_cst_apply]
  simp only [val_main_v0_apply, pointwise, zero_add]
  have e : ∀ k, idx_main_v1 (idx_main_v2 (idx_main_v8 (ix2 r n))) k = ix2 r k := fun k =>
    funext fun a => Fin.ext (match a with | ⟨0, _⟩ => rfl | ⟨1, _⟩ => rfl)
  simp only [e]
  exact mul_comm _ _

theorem ref_dg (x0 x1 : (⟨S256x2048, .f32⟩ : BufTy).Contents (Elt Ideal)) (n : Fin 2048) :
    val_main_v17 (F := Ideal) x0 x1 (ix2 0 n) = ∑ r : Fin 256, val_main_v13 (F := Ideal) x0 x1 (ix2 r n) := by
  rw [val_main_v17_apply, val_main_v16_apply, val_main_cst_3_apply]
  simp only [Finset.univ_unique, Finset.sum_singleton]
  rw [val_main_v15_apply, val_main_v14_apply, val_main_cst_2_apply]
  simp only [pointwise, zero_add]
  refine Finset.sum_congr rfl fun r _ => congrArg (val_main_v13 (F := Ideal) x0 x1) ?_
  exact funext fun a => Fin.ext (match a with
    | ⟨0, _⟩ => rfl
    | ⟨1, _⟩ => by show 0 * 2048 + (0 * 2048 + n.val) = n.val; omega)

/-- Where a block's elements sit in their array. -/
theorem emb0 (t : Fin cfg0.N) (r : Fin 256) (n : Fin 2048) : (win0_0.rect t).emb (ix2 r n) = ix2 r n := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; exact (Nat.zero_mul _).symm ▸ Nat.zero_add _)

theorem emb1 (t : Fin cfg0.N) (r : Fin 256) (n : Fin 2048) : (win0_1.rect t).emb (ix2 r n) = ix2 r n := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb3 (t : Fin cfg0.N) (n : Fin 2048) : (win0_3.rect t).emb (ix2 0 n) = ix2 0 n := by
  obtain ⟨-, -, h0, h1⟩ := idx_facts t
  refine funext fun a => Fin.ext ?_
  match a with
  | ⟨0, _⟩ => exact (win0_3.rect_emb_val t _ 0).trans (by rw [h0]; exact (Nat.zero_mul _).symm ▸ Nat.zero_add _)
  | ⟨1, _⟩ => exact (win0_3.rect_emb_val t _ 1).trans (by rw [h1]; exact (Nat.zero_mul _).symm ▸ Nat.zero_add _)

/-- The argument blocks at an element. -/
theorem blk0 (c : Dev nD) (t : Fin cfg0.N) (r : Fin 256) (n : Fin 2048) : iblk m c 0 t (ix2 r n) = A0 m c (ix2 r n) :=
  (congrFun (V_main_arg0 m c) _).trans (congrArg (A0 m c) (emb0 t r n))
theorem blk1 (c : Dev nD) (t : Fin cfg0.N) (r : Fin 256) (n : Fin 2048) : iblk m c 1 t (ix2 r n) = A1 m c (ix2 r n) :=
  (congrFun (V_main_arg1 m c) _).trans (congrArg (A1 m c) (emb1 t r n))

/-- The array after the run is the reference's. -/
theorem final_dg (c : Dev nD) : (dats m 0 c).arrAt 3 cfg0.N = val_main_v17 (F := Ideal) (A0 m c) (A1 m c) := by
  refine (dats m 0 c).arrAt_eq_of_cover 3 _ (fun t hf => ?_) (fun i => ?_)
  · rw [Cert.RmsMemIdeal.Value.flushed3_A, out_3]
    funext y
    obtain ⟨z, n, rfl⟩ : ∃ z n, y = ix2 z n := ⟨y 0, y 1, eq_ix2 y⟩
    obtain rfl : z = 0 := Fin.ext (by have : z.val < 1 := z.isLt; show z.val = 0; omega)
    show k0_pay2 (F := Ideal) (iblk m c 1 t) (iblk m c 0 t) (k0_pay1 (F := Ideal)) (ix2 0 n)
      = val_main_v17 (F := Ideal) _ _ ((win0_3.rect t).emb (ix2 0 n))
    rw [emb3, ref_dg, pay2_apply, show k0_pay1 (F := Ideal) (ix2 0 n) = 0 from by unfold k0_pay1; simp only [pointwise], zero_add]
    refine Finset.sum_congr rfl fun r _ => ?_
    rw [ref_term]
    have e1 : (fun k => iblk m c 1 t (ix2 r k)) = fun k => A1 m c (ix2 r k) := funext fun k => blk1 m c t r k
    exact congrArg₂ (· * ·) (blk0 m c t r n) (congrArg₂ (· * ·) (blk1 m c t r n) (congrArg rr e1))
  · obtain ⟨z, n, rfl⟩ : ∃ z n, i = ix2 z n := ⟨i 0, i 1, eq_ix2 i⟩
    obtain rfl : z = 0 := Fin.ext (by have : z.val < 1 := z.isLt; show z.val = 0; omega)
    rw [← emb3 ⟨0, by decide⟩ n]
    exact ⟨⟨0, by decide⟩, flush0_3 _, View.emb_mem_set ((cfg0.win 3).blk ⟨0, by decide⟩).view _⟩

/-- The kernel computes the reference's result: started with the same arguments, both programs' runs end with the same result and
    with the arguments unchanged. -/
theorem algebraic : Cert.algebraic_RmsMemIdeal_RmsMemRefIdeal := by
  intro m g m' g' _ hagree
  refine ⟨fun c => val_main_v17 (F := Ideal) (A0 m c) (A1 m c),
    (θ_run _ _ _).mono (fun r h c => ?_) (Cert.RmsMemIdeal.Value.run_blocks (F := Ideal) m g),
    (θ_run _ _ _).mono (fun r h c => ?_) (Cert.RmsMemRefIdeal.Value.run (F := Ideal) m' g')⟩
  · exact ⟨(h c).1.trans (final_dg m c), (h c).2⟩
  · obtain ⟨a0, a1, -⟩ := hagree c
    refine ⟨(h c).1.trans ?_, (h c).2⟩
    rw [a0, a1]; exact val_main_v17_eq _ _

/-- The reference's own run ends, with its arguments unchanged and every counter at zero. -/
theorem frame_reference : Cert.quiescent_RmsMemRefIdeal := fun m ρ _ =>
  (θ_run Cert.RmsMemRefIdeal.defs _ _).mono (fun r h => ⟨fun c => (h c).2, Idealize.ShloMosaic.sem_eq_zero_of_no_sems (by decide) r.2⟩)
    (Cert.RmsMemRefIdeal.Value.run (F := Ideal) m ρ)

end Cert.Proof.RmsMemValue

end
-- ==== Proof.NormMixValue.lean ====
/-
  The value of the forward call `rms_mix`: the norm of the step's input. Each block of 512 whole rows scales each row by the
  reciprocal root of its mean square and by the gain, as the reference program does.
-/
module

public import proofs.«01_k».proof.Proof.Gen.NormMixIdeal.Value
public import proofs.«01_k».proof.Proof.Gen.NormMixRefIdeal.Read
public import proofs.«01_k».proof.Proof.Gen.NormMixRefIdeal.Run
public import proofs.«01_k».proof.Defs
public import proofs.«01_k».proof.Proof.Chunks
public import proofs.«01_k».proof.Proof.Norm

@[expose] public section

noncomputable section

namespace Cert.Proof.NormMixValue

open Cert.NormMixIdeal Cert.NormMixIdeal.Gen Idealize.ShloMosaic Idealize.ShloMosaic.TcCoe Idealize.SL.Sem
open Cert.NormMixRefIdeal.Read

variable (m : (ℓ : Loc nD τ sig) → Buf (Elt Ideal) ℓ)

/-- The block indices of the windows: row block `t` of the rows and of the result, and the whole gain. -/
theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The array's row of row `r` of the block at point `t`. -/
abbrev row (t : Fin cfg0.N) (r : Fin 512) : Fin 4096 := ⟨t.val * 512 + r.val, by have h : t.val < 8 := t.isLt; omega⟩

/-- A row's element scaled by the reciprocal root of the row's mean square and by the gain. -/
abbrev normed (h : Fin 2048 → EReal) (g : EReal) (n : Fin 2048) : EReal := h n * Norm.rr h * g

/-- The block at an element. -/
theorem pay_apply (h : Vec Ideal S512x2048 .f32) (g : Vec Ideal S1x2048 .f32) (r : Fin 512) (n : Fin 2048) :
    Cert.NormMixIdeal.Value.E2 (F := Ideal) h g (ix2 r n) = normed (fun k => h (ix2 r k)) (g (ix2 0 n)) n := by
  have e0 : Cert.NormMixIdeal.Value.ix2_0 (ix2 r n) = ix2 r n := funext fun a => Fin.ext (match a with | ⟨0, _⟩ => rfl | ⟨1, _⟩ => rfl)
  have e2 : Cert.NormMixIdeal.Value.ix2_2 (ix2 r n) = ix2 0 n := funext fun a => Fin.ext (match a with | ⟨0, _⟩ => rfl | ⟨1, _⟩ => rfl)
  unfold Cert.NormMixIdeal.Value.E2
  rw [e0, e2]
  simp only [pointwise]

/-- The reference at an index. -/
theorem ref_apply (x : (⟨S4096x2048, .f32⟩ : BufTy).Contents (Elt Ideal)) (g : (⟨S2048, .f32⟩ : BufTy).Contents (Elt Ideal)) (r : Fin 4096)
    (n : Fin 2048) : val_main_v13 (F := Ideal) x g (ix2 r n) = normed (fun k => x (ix2 r k)) (g (ix1 n)) n := by
  rw [val_main_v13_apply, val_main_v12_apply, val_main_v11_apply, val_main_v10_apply, val_main_v9_apply, val_main_v8_apply,
    val_main_v7_apply, val_main_v6_apply, val_main_v5_apply, val_main_cst_1_apply, val_main_v4_apply, val_main_v3_apply,
    val_main_cst_0_apply, val_main_v2_apply, val_main_v1_apply, val_main_cst_apply]
  simp only [val_main_v0_apply, pointwise, zero_add]
  refine congrArg₂ (· * ·) (congrArg (x (ix2 r n) * ·) (congrArg (fun s => Ideal.rsqrt (Ideal.div s _ + _))
    (Finset.sum_congr rfl fun k _ => ?_))) (congrArg g (funext fun a => Fin.ext (match a with | ⟨0, _⟩ => rfl)))
  exact congrArg (fun i => x i * x i) (funext fun a => Fin.ext (match a with | ⟨0, _⟩ => rfl | ⟨1, _⟩ => rfl))

/-- The arrays of a device as launched: the rows and the gain; the region finds the gain in its one row. -/
abbrev A0 (c : Dev nD) : (⟨S4096x2048, .f32⟩ : BufTy).Contents (Elt Ideal) := m ((c : Thread nD τ).loc main_arg0)
abbrev A1 (c : Dev nD) : (⟨S2048, .f32⟩ : BufTy).Contents (Elt Ideal) := m ((c : Thread nD τ).loc main_arg1)

theorem V_gain (c : Dev nD) : V m c main_v0 = shapeCast S1x2048 (A1 m c) shapeCasts_S2048_S1x2048 := by
  show StableHlo.after hostOps0 _ _ = _
  after_results
  rfl

theorem gain_apply (g : (⟨S2048, .f32⟩ : BufTy).Contents (Elt Ideal)) (n : Fin 2048) :
    shapeCast S1x2048 g shapeCasts_S2048_S1x2048 (ix2 0 n) = g (ix1 n) := by
  refine shapeCast_apply _ _ _ _ ?_
  rw [Shape.rowMajor_val_one, Shape.rowMajor_val_two]
  show n.val = 0 * 2048 + n.val
  omega

/-- Where a block's elements sit in their array. -/
theorem emb02 (t : Fin cfg0.N) (r : Fin 512) (n : Fin 2048) :
    (win0_0.rect t).emb (ix2 r n) = ix2 (row t r) n ∧ (win0_2.rect t).emb (ix2 r n) = ix2 (row t r) n := by
  obtain ⟨⟨h0, h1⟩, -, h2, h3⟩ := idx_facts t
  refine ⟨funext fun a => Fin.ext ?_, funext fun a => Fin.ext ?_⟩
  · match a with
    | ⟨0, _⟩ => exact (win0_0.rect_emb_val t _ 0).trans (by rw [h0]; rfl)
    | ⟨1, _⟩ => exact (win0_0.rect_emb_val t _ 1).trans (by rw [h1]; exact (Nat.zero_mul _).symm ▸ Nat.zero_add _)
  · match a with
    | ⟨0, _⟩ => exact (win0_2.rect_emb_val t _ 0).trans (by rw [h2]; rfl)
    | ⟨1, _⟩ => exact (win0_2.rect_emb_val t _ 1).trans (by rw [h3]; exact (Nat.zero_mul _).symm ▸ Nat.zero_add _)

theorem emb1 (t : Fin cfg0.N) (n : Fin 2048) : (win0_1.rect t).emb (ix2 0 n) = ix2 0 n := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

/-- The normed rows: the array after the run is the reference's. -/
theorem final (c : Dev nD) : (dats m 0 c).arrAt 2 cfg0.N = val_main_v13 (F := Ideal) (A0 m c) (A1 m c) := by
  refine (dats m 0 c).arrAt_eq_of_cover 2 _ (fun t hf => ?_) (fun i => ?_)
  · rw [Cert.NormMixIdeal.Value.flushed2]
    unfold out0_2
    rw [View.ld_unit_zero hz2, View.ld_unit_zero hz2]
    funext y
    obtain ⟨r, n, rfl⟩ : ∃ r n, y = ix2 r n := ⟨y 0, y 1, eq_ix2 y⟩
    show View.canon [⟨r0_0, k0_pay1 (F := Ideal) (iblk m c 0 t) (iblk m c 1 t)⟩] (ix2 r n)
      = val_main_v13 (F := Ideal) _ _ ((win0_2.rect t).emb (ix2 r n))
    rw [(emb02 t r n).2, Cert.NormMixIdeal.Value.canon2_eq, pay_apply, ref_apply]
    refine congrArg₂ (fun h g => normed h g n) (funext fun k => ?_) ?_
    · exact (congrFun (V_main_arg0 m c) _).trans (congrArg (A0 m c) (emb02 t r k).1)
    · exact (congrFun (V_gain m c) _).trans ((congrArg _ (emb1 t n)).trans (gain_apply _ _))
  · obtain ⟨r, n, rfl⟩ : ∃ r n, i = ix2 r n := ⟨i 0, i 1, eq_ix2 i⟩
    have hr : r.val < 4096 := r.isLt
    let t : Fin cfg0.N := ⟨r.val / 512, by show _ < 8; omega⟩
    have e : (win0_2.rect t).emb (ix2 (⟨r.val % 512, by omega⟩ : Fin 512) n) = ix2 r n :=
      (emb02 t _ n).2.trans (congrArg (fun r => ix2 r n) (Fin.ext (by show r.val / 512 * 512 + r.val % 512 = r.val; omega)))
    rw [← e]
    exact ⟨t, flush0_2 t, View.emb_mem_set ((cfg0.win 2).blk t).view _⟩

/-- The kernel computes the reference's result: started with the same arguments, both programs' runs end with the same result
    and with the arguments unchanged. -/
theorem algebraic : Cert.algebraic_NormMixIdeal_NormMixRefIdeal := by
  intro m g m' g' _ hagree
  refine ⟨fun c => val_main_v13 (F := Ideal) (A0 m c) (A1 m c),
    (θ_run _ _ _).mono (fun r h c => ?_) (Cert.NormMixIdeal.Value.run_blocks (F := Ideal) m g),
    (θ_run _ _ _).mono (fun r h c => ?_) (Cert.NormMixRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v13_eq _ _

/-- The reference's own run ends, with its arguments unchanged and every counter at zero. -/
theorem frame_reference : Cert.quiescent_NormMixRefIdeal := fun m ρ _ =>
  (θ_run Cert.NormMixRefIdeal.defs _ _).mono (fun r h => ⟨fun c => (h c).2, Idealize.ShloMosaic.sem_eq_zero_of_no_sems (by decide) r.2⟩)
    (Cert.NormMixRefIdeal.Value.run (F := Ideal) m ρ)

end Cert.Proof.NormMixValue

end
-- ==== Proof.NormMemValue.lean ====
/-
  The value of the forward call `rms_mem`: the norm of the memory's rows. Its one block is the whole array, so the result is the
  block's, which scales each row as the norm of the step's input does.
-/
module

public import proofs.«01_k».proof.Proof.Gen.NormMemIdeal.Value
public import proofs.«01_k».proof.Proof.Gen.NormMemRefIdeal.Read
public import proofs.«01_k».proof.Proof.Gen.NormMemRefIdeal.Run
public import proofs.«01_k».proof.Proof.NormMixValue

@[expose] public section

noncomputable section

namespace Cert.Proof.NormMemValue

open Cert.NormMemIdeal Cert.NormMemIdeal.Gen Idealize.ShloMosaic Idealize.ShloMosaic.TcCoe Idealize.SL.Sem
open Cert.NormMemRefIdeal.Read
open Cert.Proof.NormMixValue (normed gain_apply)

variable (m : (ℓ : Loc nD τ sig) → Buf (Elt Ideal) ℓ)

/-- Every block is its whole array. -/
theorem idx_facts : ∀ t : Fin cfg0.N, ∀ a, win0_0.index t a = 0 ∧ win0_1.index t a = 0 ∧ win0_2.index t a = 0 :=
  (by decide +kernel : ∀ t : Fin grid0.N, _)

theorem emb_rows (t : Fin cfg0.N) (y : S256x2048.Idx) : (win0_0.rect t).emb y = y ∧ (win0_2.rect t).emb y = y :=
  ⟨funext fun a => Fin.ext ((win0_0.rect_emb_val t _ a).trans (by rw [(idx_facts t a).1]; exact (Nat.zero_mul _).symm ▸ Nat.zero_add _)),
   funext fun a => Fin.ext ((win0_2.rect_emb_val t _ a).trans (by rw [(idx_facts t a).2.2]; exact (Nat.zero_mul _).symm ▸ Nat.zero_add _))⟩

theorem emb_gain (t : Fin cfg0.N) (y : S1x2048.Idx) : (win0_1.rect t).emb y = y :=
  funext fun a => Fin.ext ((win0_1.rect_emb_val t _ a).trans (by rw [(idx_facts t a).2.1]; exact (Nat.zero_mul _).symm ▸ Nat.zero_add _))

/-- The block, and the reference, at an element. -/
theorem pay_apply (h : Vec Ideal S256x2048 .f32) (g : Vec Ideal S1x2048 .f32) (r : Fin 256) (n : Fin 2048) :
    Cert.NormMemIdeal.Value.E2 (F := Ideal) h g (ix2 r n) = normed (fun k => h (ix2 r k)) (g (ix2 0 n)) n := by
  have e0 : Cert.NormMemIdeal.Value.ix2_0 (ix2 r n) = ix2 r n := funext fun a => Fin.ext (match a with | ⟨0, _⟩ => rfl | ⟨1, _⟩ => rfl)
  have e2 : Cert.NormMemIdeal.Value.ix2_2 (ix2 r n) = ix2 0 n := funext fun a => Fin.ext (match a with | ⟨0, _⟩ => rfl | ⟨1, _⟩ => rfl)
  unfold Cert.NormMemIdeal.Value.E2
  rw [e0, e2]
  simp only [pointwise]

theorem ref_apply (x : (⟨S256x2048, .f32⟩ : BufTy).Contents (Elt Ideal)) (g : (⟨S2048, .f32⟩ : BufTy).Contents (Elt Ideal)) (r : Fin 256)
    (n : Fin 2048) : val_main_v13 (F := Ideal) x g (ix2 r n) = normed (fun k => x (ix2 r k)) (g (ix1 n)) n := by
  rw [val_main_v13_apply, val_main_v12_apply, val_main_v11_apply, val_main_v10_apply, val_main_v9_apply, val_main_v8_apply,
    val_main_v7_apply, val_main_v6_apply, val_main_v5_apply, val_main_cst_1_apply, val_main_v4_apply, val_main_v3_apply,
    val_main_cst_0_apply, val_main_v2_apply, val_main_v1_apply, val_main_cst_apply]
  simp only [val_main_v0_apply, pointwise, zero_add]
  refine congrArg₂ (· * ·) (congrArg (x (ix2 r n) * ·) (congrArg (fun s => Ideal.rsqrt (Ideal.div s _ + _))
    (Finset.sum_congr rfl fun k _ => ?_))) (congrArg g (funext fun a => Fin.ext (match a with | ⟨0, _⟩ => rfl)))
  exact congrArg (fun i => x i * x i) (funext fun a => Fin.ext (match a with | ⟨0, _⟩ => rfl | ⟨1, _⟩ => rfl))

/-- The arrays of a device as launched: the memory's rows and the gain; the region finds the gain in its one row. -/
abbrev A0 (c : Dev nD) : (⟨S256x2048, .f32⟩ : BufTy).Contents (Elt Ideal) := m ((c : Thread nD τ).loc main_arg0)
abbrev A1 (c : Dev nD) : (⟨S2048, .f32⟩ : BufTy).Contents (Elt Ideal) := m ((c : Thread nD τ).loc main_arg1)

theorem V_gain (c : Dev nD) : V m c main_v0 = shapeCast S1x2048 (A1 m c) shapeCasts_S2048_S1x2048 := by
  show StableHlo.after hostOps0 _ _ = _
  after_results
  rfl

/-- The normed rows: the array after the run is the reference's. -/
theorem final (c : Dev nD) : (dats m 0 c).arrAt 2 cfg0.N = val_main_v13 (F := Ideal) (A0 m c) (A1 m c) := by
  refine (dats m 0 c).arrAt_eq_of_cover 2 _ (fun t hf => ?_) (fun i => ?_)
  · rw [Cert.NormMemIdeal.Value.flushed2]
    unfold out0_2
    rw [View.ld_unit_zero hz2, View.ld_unit_zero hz2]
    funext y
    obtain ⟨r, n, rfl⟩ : ∃ r n, y = ix2 r n := ⟨y 0, y 1, eq_ix2 y⟩
    show View.canon [⟨r0_0, k0_pay1 (F := Ideal) (iblk m c 0 t) (iblk m c 1 t)⟩] (ix2 r n)
      = val_main_v13 (F := Ideal) _ _ ((win0_2.rect t).emb (ix2 r n))
    rw [(emb_rows t _).2, Cert.NormMemIdeal.Value.canon2_eq, pay_apply, ref_apply]
    refine congrArg₂ (fun h g => normed h g n) (funext fun k => ?_) ?_
    · exact (congrFun (V_main_arg0 m c) _).trans (congrArg (A0 m c) (emb_rows t _).1)
    · exact (congrFun (V_gain m c) _).trans ((congrArg _ (emb_gain t _)).trans (gain_apply _ n))
  · let t : Fin cfg0.N := ⟨0, by decide⟩
    rw [← (emb_rows t i).2]
    exact ⟨t, flush0_2 t, View.emb_mem_set ((cfg0.win 2).blk t).view _⟩

/-- The kernel computes the reference's result: started with the same arguments, both programs' runs end with the same result
    and with the arguments unchanged. -/
theorem algebraic : Cert.algebraic_NormMemIdeal_NormMemRefIdeal := by
  intro m g m' g' _ hagree
  refine ⟨fun c => val_main_v13 (F := Ideal) (A0 m c) (A1 m c),
    (θ_run _ _ _).mono (fun r h c => ?_) (Cert.NormMemIdeal.Value.run_blocks (F := Ideal) m g),
    (θ_run _ _ _).mono (fun r h c => ?_) (Cert.NormMemRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v13_eq _ _

/-- The reference's own run ends, with its arguments unchanged and every counter at zero. -/
theorem frame_reference : Cert.quiescent_NormMemRefIdeal := fun m ρ _ =>
  (θ_run Cert.NormMemRefIdeal.defs _ _).mono (fun r h => ⟨fun c => (h c).2, Idealize.ShloMosaic.sem_eq_zero_of_no_sems (by decide) r.2⟩)
    (Cert.NormMemRefIdeal.Value.run (F := Ideal) m ρ)

end Cert.Proof.NormMemValue

end
-- ==== Proof.ConvFwdValue.lean ====
/-
  The value of the forward call `conv_fwd`: the short gated convolution. A block computes what the backward call's block computes
  for the first gate's gradient, with the gate itself where that has the gradient of the result; so what is proved of the one at an
  element holds of the other, and the reference's two terms are one as well.
-/
module

public import proofs.«01_k».proof.Proof.Gen.ConvFwdIdeal.Value
public import proofs.«01_k».proof.Proof.Gen.ConvFwdRefIdeal.Read
public import proofs.«01_k».proof.Proof.Gen.ConvFwdRefIdeal.Run
public import proofs.«01_k».proof.Proof.ConvValue

@[expose] public section

noncomputable section

namespace Cert.Proof.ConvFwdValue

open Cert.ConvFwdIdeal Cert.ConvFwdIdeal.Gen Idealize.ShloMosaic Idealize.ShloMosaic.TcCoe Idealize.SL.Sem
open Cert.ConvFwdRefIdeal.Read
open Cert.Proof.ConvBlock (Blocks row prow nrow dgb_at)

variable (m : (ℓ : Loc nD τ sig) → Buf (Elt Ideal) ℓ)

/-- The block indices of the windows at a grid point: row block `t / 2` and column half `t % 2`, past the columns before the slice,
    and the group before the row block. -/
theorem idx_facts : ∀ t : Fin cfg0.N, ((grid0.coords t) 0).val = t.val / 2
    ∧ (win0_0.index t 0 = t.val / 2 ∧ win0_0.index t 1 = 3 + t.val % 2) ∧ (win0_1.index t 0 = t.val / 2 ∧ win0_1.index t 1 = 5 + t.val % 2)
    ∧ (win0_2.index t 0 = t.val / 2 ∧ win0_2.index t 1 = 7 + t.val % 2)
    ∧ (win0_3.index t 0 = t.val / 2 * 128 - 1 ∧ win0_3.index t 1 = 3 + t.val % 2)
    ∧ (win0_4.index t 0 = t.val / 2 * 128 - 1 ∧ win0_4.index t 1 = 7 + t.val % 2)
    ∧ (win0_5.index t 0 = 0 ∧ win0_5.index t 1 = t.val % 2) ∧ (win0_6.index t 0 = t.val / 2 ∧ win0_6.index t 1 = t.val % 2) :=
  (by decide +kernel : ∀ t : Fin grid0.N, _)

/-- The same row block as a point of the backward call's grid. -/
abbrev pt (i : grid0.Coords) : Cert.ConvIdeal.grid0.Coords := fun a => match a with
  | ⟨0, _⟩ => ⟨0, (by decide : 0 < Cert.ConvIdeal.grid0.bound 0)⟩
  | ⟨1, _⟩ => ⟨(i 0).val, (i 0).isLt⟩

/-- The array's column of a block's column. -/
abbrev col (t : Fin cfg0.N) (n : Fin 512) : Fin 1024 := ⟨t.val % 2 * 512 + n.val, by omega⟩

/-- The block is the backward call's block for the first gate's gradient, of the gate. -/
theorem pay_eq (i : grid0.Coords) (z gb gc : Vec Ideal S1024x512 .f32) (zp gp w : Vec Ideal S8x512 .f32) :
    k0_pay1 (k0_pay2 gc z) (k0_pay4 i gc z gp zp w) (k0_pay5 w) gb
      = Cert.ConvIdeal.Gen.k0_pay12 (Cert.ConvIdeal.Gen.k0_pay1 z gc) (Cert.ConvIdeal.Gen.k0_pay4 (pt i) z gc gp zp)
          (Cert.ConvIdeal.Gen.k0_pay9 w) (Cert.ConvIdeal.Gen.k0_pay10 (pt i) z gc gp zp w) (Cert.ConvIdeal.Gen.k0_pay11 w) gb := rfl

/-- The reference's convolution is its backward call's gradient of the first gate, of the gate. -/
theorem ref_eq (x0 : (⟨S4096x8704, .f32⟩ : BufTy).Contents (Elt Ideal)) (x1 : (⟨S3x1024, .f32⟩ : BufTy).Contents (Elt Ideal)) :
    val_main_v27 (F := Ideal) x0 x1
      = Cert.ConvRefIdeal.Read.val_main_v67 (F := Ideal) x0 x1 (Cert.ConvRefIdeal.Read.val_main_v1 (F := Ideal) x0) := rfl

/-- The arrays of a device as launched: the projected rows and the taps. -/
abbrev A0 (c : Dev nD) : (⟨S4096x8704, .f32⟩ : BufTy).Contents (Elt Ideal) := m ((c : Thread nD τ).loc main_arg0)
abbrev A1 (c : Dev nD) : (⟨S3x1024, .f32⟩ : BufTy).Contents (Elt Ideal) := m ((c : Thread nD τ).loc main_arg1)
abbrev gate (c : Dev nD) : (⟨S4096x1024, .f32⟩ : BufTy).Contents (Elt Ideal) := Cert.ConvRefIdeal.Read.val_main_v1 (F := Ideal) (A0 m c)

/-- What the region finds in the taps' eight rows: the taps in the first three. -/
theorem V_taps (c : Dev nD) : V m c main_v2 = Host.scatter scatter_S8x1024_S1_S3x1024_01_n_0_0 (fun _ b => b)
    (broadcastInDim S8x1024 ![] bcast_S_S8x1024 (constant (F := Ideal) S_ .f32 0x00000000#32))
    (broadcastInDim S1 ![] bcast_S_S1 (constantI S_ 32 0#32)) (A1 m c) := by
  show StableHlo.after hostOps0 _ _ = _
  after_results

/-- The blocks at a grid point are the arguments'; the rows after the block, which this call does not read, are named too. -/
theorem blocks (c : Dev nD) (t : Fin cfg0.N) : Blocks (pt (grid0.coords t)) (col t) (A0 m c) (A1 m c) (gate m c) (iblk m c 0 t)
    (iblk m c 1 t) (iblk m c 2 t) (iblk m c 3 t) (iblk m c 4 t) (iblk m c 1 t)
    (fun y => gate m c (ix2 (nrow (pt (grid0.coords t)) (y 0)) (col t (y 1))))
    (fun y => gate m c (ix2 (nrow (pt (grid0.coords t)) (y 0)) (col t (y 1)))) (iblk m c 5 t) := by
  obtain ⟨hi, ⟨a0, b0⟩, ⟨a1, b1⟩, ⟨a2, b2⟩, ⟨a3, b3⟩, ⟨a4, b4⟩, ⟨a5, b5⟩, -⟩ := idx_facts t
  have gate_at : ∀ r n, iblk m c 1 t (ix2 r n) = gate m c (ix2 (row (pt (grid0.coords t)) r) (col t n)) := fun r n => by
    rw [gate, Cert.ConvRefIdeal.Read.val_main_v1_apply]
    refine (congrFun (V_main_arg0 m c) _).trans (congrArg (A0 m c) (funext fun a => Fin.ext ?_))
    match a with
    | ⟨0, _⟩ => exact (win0_1.rect_emb_val t _ 0).trans (by rw [a1]; show _ * 1024 + r.val = ((grid0.coords t) 0).val * 1024 + r.val; rw [hi])
    | ⟨1, _⟩ => exact (win0_1.rect_emb_val t _ 1).trans (by rw [b1]; show _ * 512 + n.val = 2560 + (t.val % 2 * 512 + n.val); omega)
  refine ⟨fun r n => ?_, gate_at, fun r n => ?_, fun r n => ?_, fun r n => ?_, gate_at, fun r n => rfl, fun r n => rfl, fun q hq n => ?_⟩
  · rw [Cert.ConvRefIdeal.Read.val_main_v0_apply]
    refine (congrFun (V_main_arg0 m c) _).trans (congrArg (A0 m c) (funext fun a => Fin.ext ?_))
    match a with
    | ⟨0, _⟩ => exact (win0_0.rect_emb_val t _ 0).trans (by rw [a0]; show _ * 1024 + r.val = ((grid0.coords t) 0).val * 1024 + r.val; rw [hi])
    | ⟨1, _⟩ => exact (win0_0.rect_emb_val t _ 1).trans (by rw [b0]; show _ * 512 + n.val = 1536 + (t.val % 2 * 512 + n.val); omega)
  · rw [Cert.ConvRefIdeal.Read.val_main_v2_apply]
    refine (congrFun (V_main_arg0 m c) _).trans (congrArg (A0 m c) (funext fun a => Fin.ext ?_))
    match a with
    | ⟨0, _⟩ => exact (win0_2.rect_emb_val t _ 0).trans (by rw [a2]; show _ * 1024 + r.val = ((grid0.coords t) 0).val * 1024 + r.val; rw [hi])
    | ⟨1, _⟩ => exact (win0_2.rect_emb_val t _ 1).trans (by rw [b2]; show _ * 512 + n.val = 3584 + (t.val % 2 * 512 + n.val); omega)
  · rw [Cert.ConvRefIdeal.Read.val_main_v0_apply]
    refine (congrFun (V_main_arg0 m c) _).trans (congrArg (A0 m c) (funext fun a => Fin.ext ?_))
    match a with
    | ⟨0, _⟩ => exact (win0_3.rect_emb_val t _ 0).trans (by
        rw [a3]; show _ * 8 + r.val = (((grid0.coords t) 0).val * 128 - 1) * 8 + r.val; rw [hi])
    | ⟨1, _⟩ => exact (win0_3.rect_emb_val t _ 1).trans (by rw [b3]; show _ * 512 + n.val = 1536 + (t.val % 2 * 512 + n.val); omega)
  · rw [Cert.ConvRefIdeal.Read.val_main_v2_apply]
    refine (congrFun (V_main_arg0 m c) _).trans (congrArg (A0 m c) (funext fun a => Fin.ext ?_))
    match a with
    | ⟨0, _⟩ => exact (win0_4.rect_emb_val t _ 0).trans (by
        rw [a4]; show _ * 8 + r.val = (((grid0.coords t) 0).val * 128 - 1) * 8 + r.val; rw [hi])
    | ⟨1, _⟩ => exact (win0_4.rect_emb_val t _ 1).trans (by rw [b4]; show _ * 512 + n.val = 3584 + (t.val % 2 * 512 + n.val); omega)
  · have e : (win0_5.rect t).emb (ix2 q n) = ix2 q (col t n) := by
      refine funext fun a => Fin.ext ?_
      match a with
      | ⟨0, _⟩ => exact (win0_5.rect_emb_val t _ 0).trans (by rw [a5]; exact (Nat.zero_mul _).symm ▸ Nat.zero_add _)
      | ⟨1, _⟩ => exact (win0_5.rect_emb_val t _ 1).trans (by rw [b5]; rfl)
    exact (congrFun (V_taps m c) _).trans ((congrArg _ e).trans
      (Cert.Proof.ConvValue.taps_at _ _ (fun _ => rfl) (A1 m c) q hq (col t n)))

/-- Where the result's block's elements sit in its array. -/
theorem emb6 (t : Fin cfg0.N) (r : Fin 1024) (n : Fin 512) :
    (win0_6.rect t).emb (ix2 r n) = ix2 (row (pt (grid0.coords t)) r) (col t n) := by
  obtain ⟨hi, -, -, -, -, -, -, h0, h1⟩ := idx_facts t
  refine funext fun a => Fin.ext ?_
  match a with
  | ⟨0, _⟩ => exact (win0_6.rect_emb_val t _ 0).trans (by rw [h0]; show _ * 1024 + r.val = ((grid0.coords t) 0).val * 1024 + r.val; rw [hi])
  | ⟨1, _⟩ => exact (win0_6.rect_emb_val t _ 1).trans (by rw [h1]; rfl)

/-- Every index of the result is one of a block's elements. -/
theorem onto (y : S4096x1024.Idx) : ∃ t : Fin cfg0.N, ∃ r n, ix2 (row (pt (grid0.coords t)) r) (col t n) = y := by
  have h0 : (y 0).val < 4096 := (y 0).isLt
  have h1 : (y 1).val < 1024 := (y 1).isLt
  let t : Fin cfg0.N := ⟨(y 0).val / 1024 * 2 + (y 1).val / 512, by show _ < 8; omega⟩
  have ht : t.val = (y 0).val / 1024 * 2 + (y 1).val / 512 := rfl
  refine ⟨t, ⟨(y 0).val % 1024, by omega⟩, ⟨(y 1).val % 512, by omega⟩, funext fun a => Fin.ext ?_⟩
  have hi := (idx_facts t).1
  match a with
  | ⟨0, _⟩ => show ((grid0.coords t) 0).val * 1024 + (y 0).val % 1024 = (y 0).val; omega
  | ⟨1, _⟩ => show t.val % 2 * 512 + (y 1).val % 512 = (y 1).val; omega

/-- The convolution: the array after the run is the reference's. -/
theorem final (c : Dev nD) : (dats m 0 c).arrAt 6 cfg0.N = val_main_v27 (F := Ideal) (A0 m c) (A1 m c) := by
  refine (dats m 0 c).arrAt_eq_of_cover 6 _ (fun t hf => ?_) (fun y => ?_)
  · rw [Cert.ConvFwdIdeal.Value.flushed6]
    unfold out0_6
    rw [View.canon_unit_zero hz2]
    simp only [View.ld_unit_zero (S := S1024x512) hz2, View.ld_unit_zero (S := S8x512) hz2]
    rw [pay_eq, ref_eq]
    funext y
    obtain ⟨r, n, rfl⟩ : ∃ r n, y = ix2 r n := ⟨y 0, y 1, eq_ix2 y⟩
    refine (dgb_at (blocks m c t) r n).trans ?_
    exact congrArg (Cert.ConvRefIdeal.Read.val_main_v67 (F := Ideal) (A0 m c) (A1 m c) (gate m c)) (emb6 t r n).symm
  · obtain ⟨t, r, n, rfl⟩ := onto y
    rw [← emb6 t r n]
    exact ⟨t, flush0_6 t, View.emb_mem_set ((cfg0.win 6).blk t).view _⟩

/-- The kernel computes the reference's result: started with the same arguments, both programs' runs end with the same result
    and with the arguments unchanged. -/
theorem algebraic : Cert.algebraic_ConvFwdIdeal_ConvFwdRefIdeal := by
  intro m g m' g' _ hagree
  refine ⟨fun c => val_main_v27 (F := Ideal) (A0 m c) (A1 m c),
    (θ_run _ _ _).mono (fun r h c => ?_) (Cert.ConvFwdIdeal.Value.run_blocks (F := Ideal) m g),
    (θ_run _ _ _).mono (fun r h c => ?_) (Cert.ConvFwdRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v27_eq _ _

/-- The reference's own run ends, with its arguments unchanged and every counter at zero. -/
theorem frame_reference : Cert.quiescent_ConvFwdRefIdeal := fun m ρ _ =>
  (θ_run Cert.ConvFwdRefIdeal.defs _ _).mono (fun r h => ⟨fun c => (h c).2, Idealize.ShloMosaic.sem_eq_zero_of_no_sems (by decide) r.2⟩)
    (Cert.ConvFwdRefIdeal.Value.run (F := Ideal) m ρ)

end Cert.Proof.ConvFwdValue

end
-- ==== Proof.LossHeadValue.lean ====
/-
  The value of the call `loss_head`: the last norm, the loss and the gradients that start the backward pass. Each block of 512 whole
  rows computes its rows' gradient; the loss and the gain's gradient are accumulated over the eight row blocks. They are the value
  and the derivatives the reference program computes from the loss written plainly.
-/
module

public import proofs.«01_k».proof.Proof.Gen.LossHeadIdeal.Value
public import proofs.«01_k».proof.Proof.Gen.LossHeadRefIdeal.Read
public import proofs.«01_k».proof.Proof.Gen.LossHeadRefIdeal.Run
public import proofs.«01_k».proof.Defs
public import proofs.«01_k».proof.Proof.Chunks
public import proofs.«01_k».proof.Proof.Norm

@[expose] public section

noncomputable section

namespace Cert.Proof.LossHeadValue

open Cert.LossHeadIdeal Cert.LossHeadIdeal.Gen Idealize.ShloMosaic Idealize.ShloMosaic.TcCoe Idealize.SL.Sem
open Cert.LossHeadRefIdeal.Read
open Cert.Proof.Norm

variable (m : (ℓ : Loc nD τ sig) → Buf (Elt Ideal) ℓ)

/-- The block indices of the windows at a grid point: row block `t` of the row arrays, and the whole gain, loss and gain's gradient. -/
theorem idx_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) :=
  (by decide +kernel : ∀ t : Fin grid0.N, _)

/-- The array's row of row `r` of the block at point `t`. -/
abbrev row (t : Fin 8) (r : Fin 512) : Fin 4096 := ⟨t.val * 512 + r.val, by omega⟩

/-- An element of a normed row less the target, a row's mean square of these, the gradient of the normed row,
    and the row's term of the gain's gradient. -/
abbrev err (h g e : Fin 2048 → EReal) (n : Fin 2048) : EReal := h n * rr h * g n - e n
abbrev tok (h g e : Fin 2048 → EReal) : EReal := Ideal.div (∑ k, err h g e k * err h g e k) (Ideal.ofBits .f32 0x45000000#32)
abbrev dy (h g e : Fin 2048 → EReal) (n : Fin 2048) : EReal := err h g e n * Ideal.ofBits .f32 0x3A000000#32
abbrev dgain (h g e : Fin 2048 → EReal) (n : Fin 2048) : EReal := dy h g e n * (h n * rr h)

/-- One half, and the two spellings of the gradient's factor: one by the row's length, and a half of one, over the length, twice. -/
theorem half : Ideal.ofBits .f32 0x3F000000#32 = ((1 / 2 : ℝ) : EReal) := by
  simp [Ideal.ofBits, Ideal.ieee, -EReal.coe_mul]; norm_num

theorem factor_eq (a : EReal) :
    Ideal.div (Ideal.ofBits .f32 0x3F000000#32 * Ideal.ofBits .f32 0x3F800000#32) (Ideal.ofBits .f32 0x45000000#32)
      * (Ideal.ofBits .f32 0x40000000#32 * a) = a * Ideal.ofBits .f32 0x3A000000#32 := by
  have h1 : Ideal.ofBits .f32 0x3F800000#32 = ((1 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have h3 : Ideal.ofBits .f32 0x3A000000#32 = ((1 / 2048 : ℝ) : EReal) := by simp [Ideal.ofBits, Ideal.ieee, -EReal.coe_mul]; norm_num
  rw [half, h1, h2, h3, ofBits_2048, Ideal.div_coe (by norm_num), ← EReal.coe_mul, ← EReal.coe_mul, ← mul_assoc, ← EReal.coe_mul, mul_comm a]
  norm_num

/-- A block's results at an element: the gradient, and what it adds to the loss and to the gain's gradient. -/
theorem pay12_apply (h : Vec Ideal S512x2048 .f32) (g : Vec Ideal S1x2048 .f32) (e : Vec Ideal S512x2048 .f32) (r : Fin 512) (n : Fin 2048) :
    k0_pay12 (F := Ideal) h g e (ix2 r n) = blockGrad (fun k => h (ix2 r k))
      (fun k => dy (fun k => h (ix2 r k)) (fun k => g (ix2 0 k)) (fun k => e (ix2 r k)) k * g (ix2 0 k)) 0 n := by
  unfold k0_pay12 k0_pay11 k0_pay9 k0_pay8 k0_pay7 k0_pay6
  simp only [pointwise, zero_add, shapeCast_self]
  rfl

theorem pay4_apply (h : Vec Ideal S512x2048 .f32) (g : Vec Ideal S1x2048 .f32) (e : Vec Ideal S512x2048 .f32) (v : Vec Ideal S8x128 .f32)
    (a : Fin 8) (b : Fin 128) :
    k0_pay4 (F := Ideal) (k0_pay10 h g e) v (ix2 a b) = v (ix2 a b) + Ideal.ofBits .f32 0x3F000000#32
      * ∑ r : Fin 512, tok (fun k => h (ix2 r k)) (fun k => g (ix2 0 k)) (fun k => e (ix2 r k)) := by
  unfold k0_pay4 k0_pay10 k0_pay9 k0_pay8 k0_pay7 k0_pay6
  simp only [pointwise, zero_add, shapeCast_self]
  rfl

theorem pay5_apply (h : Vec Ideal S512x2048 .f32) (g : Vec Ideal S1x2048 .f32) (e : Vec Ideal S512x2048 .f32) (v : Vec Ideal S1x2048 .f32)
    (n : Fin 2048) :
    k0_pay5 (F := Ideal) (k0_pay8 h) (k0_pay11 h g e) v (ix2 0 n) = v (ix2 0 n) + ∑ r : Fin 512,
      dgain (fun k => h (ix2 r k)) (fun k => g (ix2 0 k)) (fun k => e (ix2 r k)) n := by
  unfold k0_pay5 k0_pay11 k0_pay9 k0_pay8 k0_pay7 k0_pay6
  simp only [pointwise, zero_add, shapeCast_self]
  rfl

section
variable (c : Dev nD) (i : grid0.Coords) (a1 : Memref sig .tc .vmem S512x2048 .f32) (h1 : a1.IsWhole)
  (a2 : Memref sig .tc .vmem S512x2048 .f32) (h2 : a2.IsWhole) (a3 : Memref sig .tc .vmem S1x2048 .f32) (h3 : a3.IsWhole)
  (a4 : Memref sig .tc .vmem S512x2048 .f32) (h4 : a4.IsWhole) (a5 : Memref sig .tc .vmem S512x2048 .bf16) (h5 : a5.IsWhole)
  (a6 : Memref sig .tc .vmem S8x128 .f32) (h6 : a6.IsWhole) (a7 : Memref sig .tc .vmem S1x2048 .f32) (h7 : a7.IsWhole)
  (x0 x1 : Vec Ideal S512x2048 .f32) (x2 : Vec Ideal S1x2048 .f32) (xl : Vec Ideal S8x128 .f32) (xg : Vec Ideal S1x2048 .f32)

/-- What a point leaves in the four results' blocks: at the first point the loss and the gain's gradient start from zero, at a later
    one from what the point before left. -/
theorem out_A3 (hc : cond0_0 i) : out0_A_3 c i a1 h1 a2 h2 a3 h3 a4 h4 a5 h5 a6 h6 a7 h7 hc x0 x1 x2 = k0_pay12 x0 x2 x1 := by
  unfold out0_A_3
  rw [View.read_writes_eq_canon _ _ _ (cover0_A_3 c i a1 h1 a2 h2 a3 h3 a4 h4 a5 h5 a6 h6 a7 h7 hc x0 x1 x2)]
  unfold kernelRun0_A
  dsimp only
  try sl_unfold_words
  rw [View.canon_unit_zero hz2]
  simp only [View.readAt_eq_ld, h1.read_unread, h2.read_unread, h3.read_unread, h6.read_unread, h7.read_unread,
    View.ld_unit_zero (S := S512x2048) hz2, View.ld_unit_zero (S := S1x2048) hz2, shapeCast_self]

theorem out_A4 (hc : cond0_0 i) : out0_A_4 c i a1 h1 a2 h2 a3 h3 a4 h4 a5 h5 a6 h6 a7 h7 hc x0 x1 x2 = k0_pay1 (k0_pay12 x0 x2 x1) := by
  unfold out0_A_4
  rw [View.read_writes_eq_canon _ _ _ (cover0_A_4 c i a1 h1 a2 h2 a3 h3 a4 h4 a5 h5 a6 h6 a7 h7 hc x0 x1 x2)]
  unfold kernelRun0_A
  dsimp only
  try sl_unfold_words
  rw [View.canon_unit_zero hz2]
  simp only [View.readAt_eq_ld, h1.read_unread, h2.read_unread, h3.read_unread, h6.read_unread, h7.read_unread,
    View.ld_unit_zero (S := S512x2048) hz2, View.ld_unit_zero (S := S1x2048) hz2, shapeCast_self]

theorem out_A5 (hc : cond0_0 i) : out0_A_5 c i a1 h1 a2 h2 a3 h3 a4 h4 a5 h5 a6 h6 a7 h7 hc x0 x1 x2
    = k0_pay4 (k0_pay10 x0 x2 x1) (k0_pay2 (F := Ideal)) := by
  unfold out0_A_5
  rw [View.read_writes_eq_canon _ _ _ (cover0_A_5 c i a1 h1 a2 h2 a3 h3 a4 h4 a5 h5 a6 h6 a7 h7 hc x0 x1 x2)]
  unfold kernelRun0_A
  dsimp only
  try sl_unfold_words
  rw [View.canon_cons_unit_zero hz2, View.readCov_unit_zero (S := S8x128) _ hz2]
  simp only [View.readAt_eq_ld, h1.read_unread, h2.read_unread, h3.read_unread, h6.read_unread, h7.read_unread,
    View.ld_unit_zero (S := S512x2048) hz2, View.ld_unit_zero (S := S1x2048) hz2, shapeCast_self]

theorem out_A6 (hc : cond0_0 i) : out0_A_6 c i a1 h1 a2 h2 a3 h3 a4 h4 a5 h5 a6 h6 a7 h7 hc x0 x1 x2
    = k0_pay5 (k0_pay8 x0) (k0_pay11 x0 x2 x1) (k0_pay3 (F := Ideal)) := by
  unfold out0_A_6
  rw [View.read_writes_eq_canon _ _ _ (cover0_A_6 c i a1 h1 a2 h2 a3 h3 a4 h4 a5 h5 a6 h6 a7 h7 hc x0 x1 x2)]
  unfold kernelRun0_A
  dsimp only
  try sl_unfold_words
  rw [View.canon_cons_unit_zero hz2, View.readCov_unit_zero (S := S1x2048) _ hz2]
  simp only [View.readAt_eq_ld, h1.read_unread, h2.read_unread, h3.read_unread, h6.read_unread, h7.read_unread,
    View.ld_unit_zero (S := S512x2048) hz2, View.ld_unit_zero (S := S1x2048) hz2, shapeCast_self]

theorem out_B3 (hc : ¬cond0_0 i) : out0_B_3 c i a1 h1 a2 h2 a3 h3 a4 h4 a5 h5 a6 h6 a7 h7 hc x0 x1 x2 xl xg = k0_pay12 x0 x2 x1 := by
  unfold out0_B_3
  rw [View.read_writes_eq_canon _ _ _ (cover0_B_3 c i a1 h1 a2 h2 a3 h3 a4 h4 a5 h5 a6 h6 a7 h7 hc x0 x1 x2 xl xg)]
  unfold kernelRun0_B
  dsimp only
  try sl_unfold_words
  rw [View.canon_unit_zero hz2]
  simp only [View.readAt_eq_ld, h1.read_unread, h2.read_unread, h3.read_unread, h6.read_unread, h7.read_unread,
    View.ld_unit_zero (S := S512x2048) hz2, View.ld_unit_zero (S := S1x2048) hz2, shapeCast_self]

theorem out_B4 (hc : ¬cond0_0 i) : out0_B_4 c i a1 h1 a2 h2 a3 h3 a4 h4 a5 h5 a6 h6 a7 h7 hc x0 x1 x2 xl xg = k0_pay1 (k0_pay12 x0 x2 x1) := by
  unfold out0_B_4
  rw [View.read_writes_eq_canon _ _ _ (cover0_B_4 c i a1 h1 a2 h2 a3 h3 a4 h4 a5 h5 a6 h6 a7 h7 hc x0 x1 x2 xl xg)]
  unfold kernelRun0_B
  dsimp only
  try sl_unfold_words
  rw [View.canon_unit_zero hz2]
  simp only [View.readAt_eq_ld, h1.read_unread, h2.read_unread, h3.read_unread, h6.read_unread, h7.read_unread,
    View.ld_unit_zero (S := S512x2048) hz2, View.ld_unit_zero (S := S1x2048) hz2, shapeCast_self]

theorem out_B5 (hc : ¬cond0_0 i) : out0_B_5 c i a1 h1 a2 h2 a3 h3 a4 h4 a5 h5 a6 h6 a7 h7 hc x0 x1 x2 xl xg
    = k0_pay4 (k0_pay10 x0 x2 x1) xl := by
  unfold out0_B_5
  rw [View.read_writes_eq_canon _ _ _ (cover0_B_5 c i a1 h1 a2 h2 a3 h3 a4 h4 a5 h5 a6 h6 a7 h7 hc x0 x1 x2 xl xg)]
  unfold kernelRun0_B
  dsimp only
  try sl_unfold_words
  rw [View.canon_unit_zero hz2]
  simp only [View.readAt_eq_ld, h1.read_unread, h2.read_unread, h3.read_unread, h6.read_unread, h7.read_unread,
    View.ld_unit_zero (S := S512x2048) hz2, View.ld_unit_zero (S := S1x2048) hz2, View.ld_unit_zero (S := S8x128) hz2, shapeCast_self]

theorem out_B6 (hc : ¬cond0_0 i) : out0_B_6 c i a1 h1 a2 h2 a3 h3 a4 h4 a5 h5 a6 h6 a7 h7 hc x0 x1 x2 xl xg
    = k0_pay5 (k0_pay8 x0) (k0_pay11 x0 x2 x1) xg := by
  unfold out0_B_6
  rw [View.read_writes_eq_canon _ _ _ (cover0_B_6 c i a1 h1 a2 h2 a3 h3 a4 h4 a5 h5 a6 h6 a7 h7 hc x0 x1 x2 xl xg)]
  unfold kernelRun0_B
  dsimp only
  try sl_unfold_words
  rw [View.canon_unit_zero hz2]
  simp only [View.readAt_eq_ld, h1.read_unread, h2.read_unread, h3.read_unread, h6.read_unread, h7.read_unread,
    View.ld_unit_zero (S := S512x2048) hz2, View.ld_unit_zero (S := S1x2048) hz2, shapeCast_self]
end

/-- The results' blocks after a point. -/
theorem block3 (c : Dev nD) (t : Fin cfg0.N) :
    (outsAt0 m c t.val t.isLt).1 = k0_pay12 (F := Ideal) (iblk m c 0 t) (iblk m c 2 t) (iblk m c 1 t) := by
  by_cases h : t.val % 8 = 0
  · rw [outsAt0_A m c t h]; dsimp only; rw [out_A3]
  · rw [outsAt0_B m c t h]; dsimp only; rw [out_B3]

theorem block4 (c : Dev nD) (t : Fin cfg0.N) :
    (outsAt0 m c t.val t.isLt).2.1 = k0_pay1 (F := Ideal) (k0_pay12 (F := Ideal) (iblk m c 0 t) (iblk m c 2 t) (iblk m c 1 t)) := by
  by_cases h : t.val % 8 = 0
  · rw [outsAt0_A m c t h]; dsimp only; rw [out_A4]
  · rw [outsAt0_B m c t h]; dsimp only; rw [out_B4]

theorem loss_A (c : Dev nD) (t : Fin cfg0.N) (h : t.val % 8 = 0) : (outsAt0 m c t.val t.isLt).2.2.1
    = k0_pay4 (F := Ideal) (k0_pay10 (iblk m c 0 t) (iblk m c 2 t) (iblk m c 1 t)) (k0_pay2 (F := Ideal)) := by
  rw [outsAt0_A m c t h]; dsimp only; rw [out_A5]

theorem loss_B (c : Dev nD) (t : Fin cfg0.N) (h : ¬t.val % 8 = 0) : (outsAt0 m c t.val t.isLt).2.2.1
    = k0_pay4 (F := Ideal) (k0_pay10 (iblk m c 0 t) (iblk m c 2 t) (iblk m c 1 t))
      (outsAt0 m c (t.val - 1) (Nat.lt_of_le_of_lt (Nat.sub_le _ _) t.isLt)).2.2.1 := by
  rw [outsAt0_B m c t h]; dsimp only; rw [out_B5]

theorem gain_A (c : Dev nD) (t : Fin cfg0.N) (h : t.val % 8 = 0) : (outsAt0 m c t.val t.isLt).2.2.2
    = k0_pay5 (F := Ideal) (k0_pay8 (iblk m c 0 t)) (k0_pay11 (iblk m c 0 t) (iblk m c 2 t) (iblk m c 1 t)) (k0_pay3 (F := Ideal)) := by
  rw [outsAt0_A m c t h]; dsimp only; rw [out_A6]

theorem gain_B (c : Dev nD) (t : Fin cfg0.N) (h : ¬t.val % 8 = 0) : (outsAt0 m c t.val t.isLt).2.2.2
    = k0_pay5 (F := Ideal) (k0_pay8 (iblk m c 0 t)) (k0_pay11 (iblk m c 0 t) (iblk m c 2 t) (iblk m c 1 t))
      (outsAt0 m c (t.val - 1) (Nat.lt_of_le_of_lt (Nat.sub_le _ _) t.isLt)).2.2.2 := by
  rw [outsAt0_B m c t h]; dsimp only; rw [out_B6]

/-- The arrays of a device as launched: the rows, the target and the gain; and a row of each. -/
abbrev A0 (c : Dev nD) : (⟨S4096x2048, .f32⟩ : BufTy).Contents (Elt Ideal) := m ((c : Thread nD τ).loc main_arg0)
abbrev A1 (c : Dev nD) : (⟨S4096x2048, .f32⟩ : BufTy).Contents (Elt Ideal) := m ((c : Thread nD τ).loc main_arg1)
abbrev A2 (c : Dev nD) : (⟨S2048, .f32⟩ : BufTy).Contents (Elt Ideal) := m ((c : Thread nD τ).loc main_arg2)
abbrev rowOf (x : (⟨S4096x2048, .f32⟩ : BufTy).Contents (Elt Ideal)) (R : Fin 4096) (k : Fin 2048) : EReal := x (ix2 R k)
abbrev gains (g : (⟨S2048, .f32⟩ : BufTy).Contents (Elt Ideal)) (k : Fin 2048) : EReal := g (ix1 k)

theorem V_gain (c : Dev nD) : V m c main_v0 = shapeCast S1x2048 (A2 m c) shapeCasts_S2048_S1x2048 := by
  show StableHlo.after hostOps0 _ _ = _
  after_results
  rfl

theorem gain_apply (g : (⟨S2048, .f32⟩ : BufTy).Contents (Elt Ideal)) (n : Fin 2048) :
    shapeCast S1x2048 g shapeCasts_S2048_S1x2048 (ix2 0 n) = gains g n := by
  refine shapeCast_apply _ _ _ _ ?_
  rw [Shape.rowMajor_val_one, Shape.rowMajor_val_two]
  show n.val = 0 * 2048 + n.val
  omega

section
variable (x0 x1 : (⟨S4096x2048, .f32⟩ : BufTy).Contents (Elt Ideal)) (x2 : (⟨S2048, .f32⟩ : BufTy).Contents (Elt Ideal))

/-- The reference's mean square and reciprocal root of a row. -/
theorem ref_ms (R : Fin 4096) : val_main_v6 (F := Ideal) x0 (ix2 R 0) = ms (rowOf x0 R) := by
  rw [val_main_v6_apply, val_main_v5_apply, val_main_cst_1_apply, val_main_v4_apply, val_main_v3_apply, val_main_cst_0_apply,
    val_main_v2_apply, val_main_v1_apply, val_main_cst_apply]
  simp only [val_main_v0_apply, pointwise, zero_add]
  refine congrArg (fun s => Ideal.div s _ + _) (Finset.sum_congr rfl fun k _ => ?_)
  exact congrArg (fun i => x0 i * x0 i) (funext fun a => Fin.ext (match a with | ⟨0, _⟩ => rfl | ⟨1, _⟩ => rfl))

theorem ref_rr (R : Fin 4096) : val_main_v7 (F := Ideal) x0 (ix2 R 0) = rr (rowOf x0 R) := by
  rw [val_main_v7_apply, ref_ms]
  rfl

/-- The row's axis of an index, for the reference's columns of one number a row. -/
theorem col1 (R : Fin 4096) (n : Fin 2048) (i : Cert.LossHeadRefIdeal.S4096x1.Idx) (h : (i 0).val = R.val) : i = ix2 R 0 :=
  funext fun a => Fin.ext (match a with
    | ⟨0, _⟩ => h
    | ⟨1, _⟩ => by have h1 : (i 1).val < 1 := (i 1).isLt; show (i 1).val = 0; omega)

theorem ref_gain (R : Fin 4096) (n : Fin 2048) : val_main_v14 (F := Ideal) x2 (ix2 R n) = gains x2 n
    ∧ val_main_v34 (F := Ideal) x2 (ix2 R n) = gains x2 n := by
  rw [val_main_v14_apply, val_main_v34_apply, val_main_v13_apply]
  exact ⟨congrArg x2 (funext fun a => Fin.ext (match a with | ⟨0, _⟩ => rfl)), congrArg x2 (funext fun a => Fin.ext (match a with | ⟨0, _⟩ => rfl))⟩

/-- The reference's normed row, its difference from the target, and the gradient of the normed row. -/
theorem ref_nv (R : Fin 4096) (n : Fin 2048) : val_main_v12 (F := Ideal) x0 (ix2 R n) = x0 (ix2 R n) * rr (rowOf x0 R) := by
  rw [val_main_v12_apply, val_main_v11_apply, col1 R n (idx_main_v11 (ix2 R n)) rfl, ref_rr]
  rfl

theorem ref_err (R : Fin 4096) (n : Fin 2048) :
    val_main_v16 (F := Ideal) x0 x1 x2 (ix2 R n) = err (rowOf x0 R) (gains x2) (rowOf x1 R) n := by
  rw [val_main_v16_apply, val_main_v15_apply, ref_nv, (ref_gain x2 R n).1]
  rfl

theorem ref_dy (R : Fin 4096) (n : Fin 2048) :
    val_main_v30 (F := Ideal) x0 x1 x2 (ix2 R n) = dy (rowOf x0 R) (gains x2) (rowOf x1 R) n := by
  rw [val_main_v30_apply, val_main_v29_apply, val_main_v28_apply, val_main_v27_apply, val_main_cst_10_apply, val_main_v26_apply,
    val_main_v25_apply, val_main_cst_8_apply, val_main_cst_9_apply, val_main_v19_apply, val_main_v18_apply, val_main_cst_3_apply, ref_err]
  exact factor_eq _

theorem ref_y (R : Fin 4096) (n : Fin 2048) :
    val_main_v35 (F := Ideal) x0 x1 x2 (ix2 R n) = dy (rowOf x0 R) (gains x2) (rowOf x1 R) n * gains x2 n := by
  rw [val_main_v35_apply, ref_dy, (ref_gain x2 R n).2]
  rfl

theorem ref_factor (R : Fin 4096) (n : Fin 2048) : val_main_v46 (F := Ideal) x0 x1 x2 (ix2 R n)
    = factor (rowOf x0 R) fun k => dy (rowOf x0 R) (gains x2) (rowOf x1 R) k * gains x2 k := by
  rw [val_main_v46_apply, val_main_v45_apply, val_main_cst_15_apply]
  simp only [Finset.univ_unique, Finset.sum_singleton]
  rw [col1 R n (idx_main_v45 (idx_main_v46 (ix2 R n)) default) rfl, val_main_v44_apply, val_main_v43_apply, val_main_cst_14_apply,
    val_main_v42_apply, val_main_v39_apply, val_main_v38_apply, val_main_cst_13_apply, val_main_v10_apply, val_main_v9_apply,
    val_main_cst_2_apply, val_main_v8_apply, ref_ms, ref_rr]
  simp only [pointwise, zero_add]
  refine congrArg (fun s => Ideal.div (s * _) _) (Finset.sum_congr rfl fun k _ => ?_)
  have e : idx_main_v38 (idx_main_v39 (ix2 R 0)) k = ix2 R k :=
    funext fun a => Fin.ext (match a with
      | ⟨0, _⟩ => by show R.val * 1 + 0 = R.val; omega
      | ⟨1, _⟩ => rfl)
  rw [e, val_main_v37_apply, ref_y]
  rfl

/-- The reference's gradient at an index. -/
theorem ref_apply (R : Fin 4096) (n : Fin 2048) : val_main_v50 (F := Ideal) x0 x1 x2 (ix2 R n)
    = derivGrad (rowOf x0 R) (fun k => dy (rowOf x0 R) (gains x2) (rowOf x1 R) k * gains x2 k) 0 n := by
  rw [val_main_v50_apply, val_main_v49_apply, val_main_v48_apply, val_main_v47_apply, val_main_v41_apply, val_main_v40_apply,
    col1 R n (idx_main_v40 (ix2 R n)) rfl, ref_rr, ref_y, ref_factor, derivGrad, zero_add]
  rfl

/-- The reference's loss: half the sum of the rows' mean squares, in blocks of rows. -/
theorem ref_loss (i : S8x128.Idx) : val_main_v52 (F := Ideal) x0 x1 x2 i
    = ∑ t : Fin 8, Ideal.ofBits .f32 0x3F000000#32 * ∑ r : Fin 512, tok (rowOf x0 (row t r)) (gains x2) (rowOf x1 (row t r)) := by
  rw [val_main_v52_apply, val_main_v24_apply, val_main_cst_7_apply, val_main_v23_apply, val_main_cst_6_apply]
  have e : ∀ R : Fin 4096, val_main_v22 (F := Ideal) x0 x1 x2 (ix1 R) = tok (rowOf x0 R) (gains x2) (rowOf x1 R) := fun R => by
    rw [val_main_v22_apply, val_main_v21_apply, val_main_cst_5_apply, val_main_v20_apply, val_main_cst_4_apply]
    simp only [pointwise, zero_add]
    refine congrArg (fun s => Ideal.div s _) (Finset.sum_congr rfl fun k _ => ?_)
    have e : idx_main_v20 (ix1 R) k = ix2 R k := funext fun a => Fin.ext (match a with | ⟨0, _⟩ => rfl | ⟨1, _⟩ => rfl)
    rw [e, val_main_v17_apply, ref_err]
    rfl
  have s : ∑ j : Cert.LossHeadRefIdeal.S4096.Idx, val_main_v22 (F := Ideal) x0 x1 x2 j
      = ∑ R : Fin 4096, tok (rowOf x0 R) (gains x2) (rowOf x1 R) :=
    (Fintype.sum_equiv ⟨fun R => ix1 R, fun j => j 0, fun _ => rfl, fun j => (eq_ix1 j).symm⟩ _ _ fun R => (e R).symm).symm
  rw [s, sum_chunks (a := 8) (b := 512) rfl]
  simp only [pointwise, zero_add]
  rw [half, mul_sum _ (by norm_num)]

/-- The reference's gradient of the gain, in blocks of rows. -/
theorem ref_dg (n : Fin 2048) : val_main_v53 (F := Ideal) x0 x1 x2 (ix2 0 n) = ∑ t : Fin 8, ∑ r : Fin 512,
    dgain (rowOf x0 (row t r)) (gains x2) (rowOf x1 (row t r)) n := by
  rw [val_main_v53_apply, val_main_v36_apply, val_main_cst_12_apply]
  simp only [Finset.univ_unique, Finset.sum_singleton]
  rw [val_main_v33_apply, val_main_v32_apply, val_main_cst_11_apply]
  simp only [pointwise, zero_add]
  rw [sum_chunks (a := 8) (b := 512) rfl]
  refine Finset.sum_congr rfl fun t _ => Finset.sum_congr rfl fun r _ => ?_
  have e : idx_main_v32 (idx_main_v33 (idx_main_v36 (idx_main_v53 (ix2 0 n)) default)) (chunk rfl t r) = ix2 (row t r) n :=
    funext fun a => Fin.ext (match a with
      | ⟨0, _⟩ => rfl
      | ⟨1, _⟩ => by show 0 * 2048 + (0 * 2048 + n.val) = n.val; omega)
  rw [e, val_main_v31_apply, ref_nv, ref_dy]
  exact mul_comm _ _
end

/-- Where a block's elements sit in their array: the argument windows and the result windows. -/
theorem emb0 (t : Fin cfg0.N) (r : Fin 512) (n : Fin 2048) : (win0_0.rect t).emb (ix2 r n) = ix2 (row t r) n := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (r : Fin 512) (n : Fin 2048) : (win0_1.rect t).emb (ix2 r n) = ix2 (row t r) n := by
  obtain ⟨-, ⟨h0, h1⟩, -⟩ := idx_facts t
  refine funext fun a => Fin.ext ?_
  match a with
  | ⟨0, _⟩ => exact (win0_1.rect_emb_val t _ 0).trans (by rw [h0]; rfl)
  | ⟨1, _⟩ => exact (win0_1.rect_emb_val t _ 1).trans (by rw [h1]; exact (Nat.zero_mul _).symm ▸ Nat.zero_add _)

theorem emb2 (t : Fin cfg0.N) (n : Fin 2048) : (win0_2.rect t).emb (ix2 0 n) = ix2 0 n := by
  obtain ⟨-, -, ⟨h0, h1⟩, -⟩ := idx_facts t
  refine funext fun a => Fin.ext ?_
  match a with
  | ⟨0, _⟩ => exact (win0_2.rect_emb_val t _ 0).trans (by rw [h0]; exact (Nat.zero_mul _).symm ▸ Nat.zero_add _)
  | ⟨1, _⟩ => exact (win0_2.rect_emb_val t _ 1).trans (by rw [h1]; exact (Nat.zero_mul _).symm ▸ Nat.zero_add _)

theorem emb34 (t : Fin cfg0.N) (r : Fin 512) (n : Fin 2048) :
    (win0_3.rect t).emb (ix2 r n) = ix2 (row t r) n ∧ (win0_4.rect t).emb (ix2 r n) = ix2 (row t r) n := by
  obtain ⟨-, -, -, ⟨h0, h1⟩, ⟨h2, h3⟩, -⟩ := idx_facts t
  refine ⟨funext fun a => Fin.ext ?_, funext fun a => Fin.ext ?_⟩
  · match a with
    | ⟨0, _⟩ => exact (win0_3.rect_emb_val t _ 0).trans (by rw [h0]; rfl)
    | ⟨1, _⟩ => exact (win0_3.rect_emb_val t _ 1).trans (by rw [h1]; exact (Nat.zero_mul _).symm ▸ Nat.zero_add _)
  · match a with
    | ⟨0, _⟩ => exact (win0_4.rect_emb_val t _ 0).trans (by rw [h2]; rfl)
    | ⟨1, _⟩ => exact (win0_4.rect_emb_val t _ 1).trans (by rw [h3]; exact (Nat.zero_mul _).symm ▸ Nat.zero_add _)

theorem emb5 (t : Fin cfg0.N) (i : S8x128.Idx) : (win0_5.rect t).emb i = i := by
  obtain ⟨-, -, -, -, -, ⟨h0, h1⟩, -⟩ := idx_facts t
  refine funext fun a => Fin.ext ?_
  match a with
  | ⟨0, _⟩ => exact (win0_5.rect_emb_val t _ 0).trans (by rw [h0]; exact (Nat.zero_mul _).symm ▸ Nat.zero_add _)
  | ⟨1, _⟩ => exact (win0_5.rect_emb_val t _ 1).trans (by rw [h1]; exact (Nat.zero_mul _).symm ▸ Nat.zero_add _)

theorem emb6 (t : Fin cfg0.N) (i : S1x2048.Idx) : (win0_6.rect t).emb i = i := by
  obtain ⟨-, -, -, -, -, -, h0, h1⟩ := idx_facts t
  refine funext fun a => Fin.ext ?_
  match a with
  | ⟨0, _⟩ => exact (win0_6.rect_emb_val t _ 0).trans (by rw [h0]; exact (Nat.zero_mul _).symm ▸ Nat.zero_add _)
  | ⟨1, _⟩ => exact (win0_6.rect_emb_val t _ 1).trans (by rw [h1]; exact (Nat.zero_mul _).symm ▸ Nat.zero_add _)

/-- The argument blocks' rows, and the gain's row. -/
theorem row0 (c : Dev nD) (t : Fin cfg0.N) (r : Fin 512) : (fun k => iblk m c 0 t (ix2 r k)) = rowOf (A0 m c) (row t r) :=
  funext fun k => (congrFun (V_main_arg0 m c) _).trans (congrArg (A0 m c) (emb0 t r k))
theorem row1 (c : Dev nD) (t : Fin cfg0.N) (r : Fin 512) : (fun k => iblk m c 1 t (ix2 r k)) = rowOf (A1 m c) (row t r) :=
  funext fun k => (congrFun (V_main_arg1 m c) _).trans (congrArg (A1 m c) (emb1 t r k))
theorem row2 (c : Dev nD) (t : Fin cfg0.N) : (fun k => iblk m c 2 t (ix2 0 k)) = gains (A2 m c) :=
  funext fun k => (congrFun (V_gain m c) _).trans ((congrArg _ (emb2 t k)).trans (gain_apply _ _))

/-- A block's gradient at an element is the reference's at its array index. -/
theorem grad_block (c : Dev nD) (t : Fin cfg0.N) (r : Fin 512) (n : Fin 2048) :
    k0_pay12 (F := Ideal) (iblk m c 0 t) (iblk m c 2 t) (iblk m c 1 t) (ix2 r n)
      = val_main_v50 (F := Ideal) (A0 m c) (A1 m c) (A2 m c) (ix2 (row t r) n) := by
  rw [ref_apply, ← grad_eq]
  refine (pay12_apply _ _ _ r n).trans ?_
  exact (congrArg (fun g : Fin 2048 → EReal => blockGrad (fun k => iblk m c 0 t (ix2 r k)) (fun k => dy (fun k => iblk m c 0 t (ix2 r k)) g
    (fun k => iblk m c 1 t (ix2 r k)) k * g k) 0 n) (row2 m c t)).trans
    (congrArg₂ (fun h e : Fin 2048 → EReal => blockGrad h (fun k => dy h (gains (A2 m c)) e k * gains (A2 m c) k) 0 n) (row0 m c t r) (row1 m c t r))

/-- What a block adds to the loss, and to the gain's gradient. -/
theorem loss_block (c : Dev nD) (t : Fin cfg0.N) (v : Vec Ideal S8x128 .f32) (a : Fin 8) (b : Fin 128) :
    k0_pay4 (F := Ideal) (k0_pay10 (iblk m c 0 t) (iblk m c 2 t) (iblk m c 1 t)) v (ix2 a b) = v (ix2 a b) + Ideal.ofBits .f32 0x3F000000#32
      * ∑ r : Fin 512, tok (rowOf (A0 m c) (row t r)) (gains (A2 m c)) (rowOf (A1 m c) (row t r)) := by
  refine (pay4_apply _ _ _ v a b).trans (congrArg (v (ix2 a b) + _ * ·) (Finset.sum_congr rfl fun r _ => ?_))
  exact (congrArg (fun g : Fin 2048 → EReal => tok (fun k => iblk m c 0 t (ix2 r k)) g (fun k => iblk m c 1 t (ix2 r k))) (row2 m c t)).trans
    (congrArg₂ (fun h e : Fin 2048 → EReal => tok h (gains (A2 m c)) e) (row0 m c t r) (row1 m c t r))

theorem gain_block (c : Dev nD) (t : Fin cfg0.N) (v : Vec Ideal S1x2048 .f32) (n : Fin 2048) :
    k0_pay5 (F := Ideal) (k0_pay8 (iblk m c 0 t)) (k0_pay11 (iblk m c 0 t) (iblk m c 2 t) (iblk m c 1 t)) v (ix2 0 n)
      = v (ix2 0 n) + ∑ r : Fin 512, dgain (rowOf (A0 m c) (row t r)) (gains (A2 m c)) (rowOf (A1 m c) (row t r)) n := by
  refine (pay5_apply _ _ _ v n).trans (congrArg (v (ix2 0 n) + ·) (Finset.sum_congr rfl fun r _ => ?_))
  exact (congrArg (fun g : Fin 2048 → EReal => dgain (fun k => iblk m c 0 t (ix2 r k)) g (fun k => iblk m c 1 t (ix2 r k)) n) (row2 m c t)).trans
    (congrArg₂ (fun h e : Fin 2048 → EReal => dgain h (gains (A2 m c)) e n) (row0 m c t r) (row1 m c t r))

/-- The loss after a point and the gain's gradient after a point: the blocks so far. -/
def lossPart (c : Dev nD) (s : ℕ) : EReal := if h : s < 8 then Ideal.ofBits .f32 0x3F000000#32
  * ∑ r : Fin 512, tok (rowOf (A0 m c) (row ⟨s, h⟩ r)) (gains (A2 m c)) (rowOf (A1 m c) (row ⟨s, h⟩ r)) else 0
def lossAcc (c : Dev nD) (a : Fin 8) (b : Fin 128) (s : ℕ) : EReal := if h : s < 8 then (outsAt0 m c s h).2.2.1 (ix2 a b) else 0

theorem lossAcc_eq (c : Dev nD) (a : Fin 8) (b : Fin 128) (s : ℕ) (h : s < 8) :
    lossAcc m c a b s = ∑ u ∈ Finset.range (s + 1), lossPart m c u := by
  refine fold_sum _ _ ?_ 8 (fun k hk => ?_) s h
  · rw [lossAcc, lossPart, dif_pos (by omega), dif_pos (by omega)]
    refine (congrFun (loss_A m c ⟨0, by decide⟩ rfl) _).trans ((loss_block m c ⟨0, by decide⟩ _ a b).trans ?_)
    exact (congrArg (· + _) (show k0_pay2 (F := Ideal) (ix2 a b) = 0 from by unfold k0_pay2; simp only [pointwise])).trans (zero_add _)
  · rw [lossAcc, lossAcc, lossPart, dif_pos hk, dif_pos (by omega), dif_pos hk]
    exact (congrFun (loss_B m c ⟨k + 1, hk⟩ (by show ¬(k + 1) % 8 = 0; omega)) _).trans (loss_block m c ⟨k + 1, hk⟩ _ a b)

def gainPart (c : Dev nD) (n : Fin 2048) (s : ℕ) : EReal := if h : s < 8 then ∑ r : Fin 512,
  dgain (rowOf (A0 m c) (row ⟨s, h⟩ r)) (gains (A2 m c)) (rowOf (A1 m c) (row ⟨s, h⟩ r)) n else 0
def gainAcc (c : Dev nD) (n : Fin 2048) (s : ℕ) : EReal := if h : s < 8 then (outsAt0 m c s h).2.2.2 (ix2 0 n) else 0

theorem gainAcc_eq (c : Dev nD) (n : Fin 2048) (s : ℕ) (h : s < 8) : gainAcc m c n s = ∑ u ∈ Finset.range (s + 1), gainPart m c n u := by
  refine fold_sum _ _ ?_ 8 (fun k hk => ?_) s h
  · rw [gainAcc, gainPart, dif_pos (by omega), dif_pos (by omega)]
    refine (congrFun (gain_A m c ⟨0, by decide⟩ rfl) _).trans ((gain_block m c ⟨0, by decide⟩ _ n).trans ?_)
    exact (congrArg (· + _) (show k0_pay3 (F := Ideal) (ix2 0 n) = 0 from by unfold k0_pay3; simp only [pointwise])).trans (zero_add _)
  · rw [gainAcc, gainAcc, gainPart, dif_pos hk, dif_pos (by omega), dif_pos hk]
    exact (congrFun (gain_B m c ⟨k + 1, hk⟩ (by show ¬(k + 1) % 8 = 0; omega)) _).trans (gain_block m c ⟨k + 1, hk⟩ _ n)

/-- Every index of the gradient is one of a block's elements. -/
theorem onto (i : S4096x2048.Idx) : ∃ t : Fin cfg0.N, ∃ r n, ix2 (row t r) n = i := by
  have h0 : (i 0).val < 4096 := (i 0).isLt
  refine ⟨⟨(i 0).val / 512, by show _ < 8; omega⟩, ⟨(i 0).val % 512, by omega⟩, ⟨(i 1).val, (i 1).isLt⟩, funext fun a => Fin.ext ?_⟩
  match a with
  | ⟨0, _⟩ => show (i 0).val / 512 * 512 + (i 0).val % 512 = (i 0).val; omega
  | ⟨1, _⟩ => rfl

/-- The gradient, its rounded copy, the loss and the gain's gradient: the arrays after the run are the reference's. -/
theorem final_dh (c : Dev nD) : (dats m 0 c).arrAt 3 cfg0.N = val_main_v50 (F := Ideal) (A0 m c) (A1 m c) (A2 m c) := by
  refine (dats m 0 c).arrAt_eq_of_cover 3 _ (fun t hf => ?_) (fun i => ?_)
  · rw [Cert.LossHeadIdeal.Value.flushed3, block3]
    funext y
    obtain ⟨r, n, rfl⟩ : ∃ r n, y = ix2 r n := ⟨y 0, y 1, eq_ix2 y⟩
    show k0_pay12 (F := Ideal) _ _ _ (ix2 r n) = val_main_v50 (F := Ideal) _ _ _ ((win0_3.rect t).emb (ix2 r n))
    rw [(emb34 t r n).1]
    exact grad_block m c t r n
  · obtain ⟨t, r, n, rfl⟩ := onto i
    rw [← (emb34 t r n).1]
    exact ⟨t, flush0_3 t, View.emb_mem_set ((cfg0.win 3).blk t).view _⟩

theorem final_dhb (c : Dev nD) : (dats m 0 c).arrAt 4 cfg0.N = val_main_v51 (F := Ideal) (A0 m c) (A1 m c) (A2 m c) := by
  refine (dats m 0 c).arrAt_eq_of_cover 4 _ (fun t hf => ?_) (fun i => ?_)
  · rw [Cert.LossHeadIdeal.Value.flushed4, block4]
    funext y
    obtain ⟨r, n, rfl⟩ : ∃ r n, y = ix2 r n := ⟨y 0, y 1, eq_ix2 y⟩
    show k0_pay12 (F := Ideal) _ _ _ (ix2 r n) = val_main_v50 (F := Ideal) _ _ _ ((win0_4.rect t).emb (ix2 r n))
    rw [(emb34 t r n).2]
    exact grad_block m c t r n
  · obtain ⟨t, r, n, rfl⟩ := onto i
    rw [← (emb34 t r n).2]
    exact ⟨t, flush0_4 t, View.emb_mem_set ((cfg0.win 4).blk t).view _⟩

theorem final_loss (c : Dev nD) : (dats m 0 c).arrAt 5 cfg0.N = val_main_v52 (F := Ideal) (A0 m c) (A1 m c) (A2 m c) := by
  refine (dats m 0 c).arrAt_eq_of_cover 5 _ (fun t hf => ?_) (fun i => ?_)
  · have h7 : t.val % 8 = 7 := (flush0_5 t).mp hf
    have hN : t.val < 8 := t.isLt
    obtain rfl : t = ⟨7, by decide⟩ := Fin.ext (by show t.val = 7; omega)
    rw [Cert.LossHeadIdeal.Value.flushed5]
    funext y
    obtain ⟨a, b, rfl⟩ : ∃ a b, y = ix2 a b := ⟨y 0, y 1, eq_ix2 y⟩
    show (outsAt0 m c 7 (by decide)).2.2.1 (ix2 a b) = val_main_v52 (F := Ideal) _ _ _ ((win0_5.rect ⟨7, by decide⟩).emb (ix2 a b))
    rw [ref_loss]
    have h := lossAcc_eq m c a b 7 (by decide)
    rw [lossAcc, dif_pos (by decide), Finset.sum_range] at h
    refine h.trans (Finset.sum_congr rfl fun s _ => ?_)
    rw [lossPart, dif_pos s.isLt]
  · rw [← emb5 ⟨7, by decide⟩ i]
    exact ⟨⟨7, by decide⟩, (flush0_5 _).mpr rfl, View.emb_mem_set ((cfg0.win 5).blk ⟨7, by decide⟩).view _⟩

theorem final_dg (c : Dev nD) : (dats m 0 c).arrAt 6 cfg0.N = val_main_v53 (F := Ideal) (A0 m c) (A1 m c) (A2 m c) := by
  refine (dats m 0 c).arrAt_eq_of_cover 6 _ (fun t hf => ?_) (fun i => ?_)
  · have h7 : t.val % 8 = 7 := (flush0_6 t).mp hf
    have hN : t.val < 8 := t.isLt
    obtain rfl : t = ⟨7, by decide⟩ := Fin.ext (by show t.val = 7; omega)
    rw [Cert.LossHeadIdeal.Value.flushed6]
    funext y
    obtain ⟨z, n, rfl⟩ : ∃ z n, y = ix2 z n := ⟨y 0, y 1, eq_ix2 y⟩
    obtain rfl : z = 0 := Fin.ext (by have : z.val < 1 := z.isLt; show z.val = 0; omega)
    show (outsAt0 m c 7 (by decide)).2.2.2 (ix2 0 n) = val_main_v53 (F := Ideal) _ _ _ ((win0_6.rect ⟨7, by decide⟩).emb (ix2 0 n))
    rw [emb6, ref_dg]
    have h := gainAcc_eq m c n 7 (by decide)
    rw [gainAcc, dif_pos (by decide), Finset.sum_range] at h
    refine h.trans (Finset.sum_congr rfl fun s _ => ?_)
    rw [gainPart, dif_pos s.isLt]
  · rw [← emb6 ⟨7, by decide⟩ i]
    exact ⟨⟨7, by decide⟩, (flush0_6 _).mpr rfl, View.emb_mem_set ((cfg0.win 6).blk ⟨7, by decide⟩).view _⟩

/-- The kernel computes the reference's four results: started with the same arguments, both programs' runs end with the same
    results and with the arguments unchanged. -/
theorem algebraic : Cert.algebraic_LossHeadIdeal_LossHeadRefIdeal := by
  intro m g m' g' _ hagree
  refine ⟨fun c => val_main_v50 (F := Ideal) (A0 m c) (A1 m c) (A2 m c), fun c => val_main_v51 (F := Ideal) (A0 m c) (A1 m c) (A2 m c),
    fun c => val_main_v52 (F := Ideal) (A0 m c) (A1 m c) (A2 m c), fun c => val_main_v53 (F := Ideal) (A0 m c) (A1 m c) (A2 m c),
    (θ_run _ _ _).mono (fun r h c => ?_) (Cert.LossHeadIdeal.Value.run_blocks (F := Ideal) m g),
    (θ_run _ _ _).mono (fun r h c => ?_) (Cert.LossHeadRefIdeal.Value.run (F := Ideal) m' g')⟩
  · exact ⟨(h c).1.trans (final_dh m c), (h c).2.1.trans (final_dhb m c), (h c).2.2.1.trans (final_loss m c),
      (h c).2.2.2.1.trans (final_dg m c), (h c).2.2.2.2⟩
  · obtain ⟨a0, a1, a2⟩ := hagree c
    refine ⟨(h c).1.trans ?_, (h c).2.1.trans ?_, (h c).2.2.1.trans ?_, (h c).2.2.2.1.trans ?_, (h c).2.2.2.2⟩
    · rw [val_main_v50_eq, a0, a1, a2]
    · rw [val_main_v51_eq, a0, a1, a2]
    · rw [a0, a1, a2]; exact val_main_v52_eq _ _ _
    · rw [a0, a1, a2]; exact val_main_v53_eq _ _ _

/-- The reference's own run ends, with its arguments unchanged and every counter at zero. -/
theorem frame_reference : Cert.quiescent_LossHeadRefIdeal := fun m ρ _ =>
  (θ_run Cert.LossHeadRefIdeal.defs _ _).mono (fun r h => ⟨fun c => (h c).2.2.2.2, Idealize.ShloMosaic.sem_eq_zero_of_no_sems (by decide) r.2⟩)
    (Cert.LossHeadRefIdeal.Value.run (F := Ideal) m ρ)

end Cert.Proof.LossHeadValue

end
-- ==== Proof.XattnValue.lean ====
/-
  The value of the forward call `xattn_fwd`: the cross-attention of one device's rows over the memory, four heads of 128 columns. For
  each head a block of 512 whole rows takes the scaled products of its queries with the keys, their softmax along the memory and its
  product with the values, as the reference program does for all heads at once.
-/
module

public import proofs.«01_k».proof.Proof.Gen.XattnIdeal.Value
public import proofs.«01_k».proof.Proof.Gen.XattnRefIdeal.Read
public import proofs.«01_k».proof.Proof.Gen.XattnRefIdeal.Run
public import proofs.«01_k».proof.Defs
public import proofs.«01_k».proof.Proof.Chunks

@[expose] public section

noncomputable section

namespace Cert.Proof.XattnValue

open Cert.XattnIdeal Cert.XattnIdeal.Gen Idealize.ShloMosaic Idealize.ShloMosaic.TcCoe Idealize.SL.Sem
open Cert.XattnRefIdeal.Read

variable (m : (ℓ : Loc nD τ sig) → Buf (Elt Ideal) ℓ)

/-! ## One head of one row -/

/-- The scaled product of a row's query with a key. -/
def score (q : Fin 128 → EReal) (k : Fin 256 → Fin 128 → EReal) (j : Fin 256) : EReal :=
  (∑ d, q d * k j d) * Ideal.ofBits .f32 0x3DB504F3#32

/-- The greatest of a row's scores. -/
def top (s : Fin 256 → EReal) : EReal := (Finset.univ : Finset (Fin 256)).fold max (Ideal.ofBits .f32 0xFF800000#32) s

/-- A row's softmax. -/
def soft (s : Fin 256 → EReal) (j : Fin 256) : EReal := Ideal.div (Ideal.exp (s j - top s)) (∑ l, Ideal.exp (s l - top s))

/-- A row's result: the values weighted by the softmax. -/
def head (s : Fin 256 → EReal) (v : Fin 256 → Fin 128 → EReal) (d : Fin 128) : EReal := ∑ j, soft s j * v j d

/-- A head's column of the queries, of the keys and of the values. -/
abbrev qcol (h : Fin 4) (d : Fin 128) : Fin 512 := ⟨h.val * 128 + d.val, by omega⟩
abbrev kcol (h : Fin 4) (d : Fin 128) : Fin 1024 := ⟨h.val * 128 + d.val, by omega⟩
abbrev vcol (h : Fin 4) (d : Fin 128) : Fin 1024 := ⟨512 + h.val * 128 + d.val, by omega⟩

/-! ## The block at an element -/

/-- The block's scores of a head. -/
def scores (q : FVec Ideal S512x128 .bf16) (k : FVec Ideal S256x128 .bf16) : FVec Ideal S512x256 .f32 :=
  mulf (matmul dot_S512x128_S256x128_S512x256_1_1_0_0_n_n none q k (constant S512x256 .f32 0x00000000#32))
    (broadcast S512x256 (Scalar.ofBits .f32 0x3DB504F3#32))

/-- The block's exponentials of a head's scores less the row's greatest. -/
def exps (s : FVec Ideal S512x256 .f32) : FVec Ideal S512x256 .f32 :=
  exp (subf s (broadcastTo S512x256 (shapeCast S512x1
    (multiReduction .maximumf [1] S512 s 0xFF800000#32 reduces_S512x256_S512 (.inl rfl) rfl) shapeCasts_S512_S512x1) broadcasts_S512x1_S512x256))

/-- The block's result for a head. -/
def heads (s : FVec Ideal S512x256 .f32) (v : FVec Ideal S256x128 .bf16) : FVec Ideal S512x128 .f32 :=
  matmul dot_S512x256_S256x128_S512x128_1_0_0_1_n_n none (truncf .bf16 (divf (exps s) (broadcastTo S512x256 (shapeCast S512x1
    (multiReduction .add [1] S512 (exps s) 0x00000000#32 reduces_S512x256_S512 (.inl rfl) rfl) shapeCasts_S512_S512x1)
      broadcasts_S512x1_S512x256)) bitsLt_bf16_f32) v (constant S512x128 .f32 0x00000000#32)

theorem scores_apply (q : FVec Ideal S512x128 .bf16) (k : FVec Ideal S256x128 .bf16) (r : Fin 512) (j : Fin 256) :
    scores q k (ix2 r j) = score (fun d => q (ix2 r d)) (fun j d => k (ix2 j d)) j := by
  unfold scores score
  simp only [pointwise, zero_add]

theorem exps_apply (s : FVec Ideal S512x256 .f32) (r : Fin 512) (j : Fin 256) :
    exps s (ix2 r j) = Ideal.exp (s (ix2 r j) - top fun l => s (ix2 r l)) := by
  unfold exps top
  simp only [pointwise]
  rfl

theorem heads_apply (s : FVec Ideal S512x256 .f32) (v : FVec Ideal S256x128 .bf16) (r : Fin 512) (d : Fin 128) :
    heads s v (ix2 r d) = head (fun j => s (ix2 r j)) (fun j d => v (ix2 j d)) d := by
  unfold heads head soft
  simp only [pointwise, zero_add, exps_apply]
  exact Finset.sum_congr rfl fun j _ => congrArg (fun z => Ideal.div _ z * _) (Finset.sum_congr rfl fun l _ => exps_apply s r l)

/-- A head's slice of the queries, of the keys and of the values. -/
def qpart (q : Vec Ideal S512x512 .bf16) (h : Fin 4) : FVec Ideal S512x128 .bf16 := fun y => q (ix2 (y 0) (qcol h (y 1)))
def kpart (kv : Vec Ideal S256x1024 .bf16) (h : Fin 4) : FVec Ideal S256x128 .bf16 := fun y => kv (ix2 (y 0) (kcol h (y 1)))
def vpart (kv : Vec Ideal S256x1024 .bf16) (h : Fin 4) : FVec Ideal S256x128 .bf16 := fun y => kv (ix2 (y 0) (vcol h (y 1)))

theorem q_slice (q : Vec Ideal S512x512 .bf16) (h : Fin 4) (o : ℕ) (w : S512x512.Slices ![0, o] S512x128) (e : o = h.val * 128) :
    extractStridedSlice S512x128 ![0, o] q w = qpart q h := by
  subst e
  funext y
  exact extractStridedSlice_apply _ q w y _ fun a => match a with | ⟨0, _⟩ => (Nat.zero_add _).symm | ⟨1, _⟩ => rfl

theorem k_slice (kv : Vec Ideal S256x1024 .bf16) (h : Fin 4) (o : ℕ) (w : S256x1024.Slices ![0, o] S256x128) (e : o = h.val * 128) :
    extractStridedSlice S256x128 ![0, o] kv w = kpart kv h := by
  subst e
  funext y
  exact extractStridedSlice_apply _ kv w y _ fun a => match a with | ⟨0, _⟩ => (Nat.zero_add _).symm | ⟨1, _⟩ => rfl

theorem v_slice (kv : Vec Ideal S256x1024 .bf16) (h : Fin 4) (o : ℕ) (w : S256x1024.Slices ![0, o] S256x128) (e : o = 512 + h.val * 128) :
    extractStridedSlice S256x128 ![0, o] kv w = vpart kv h := by
  subst e
  funext y
  exact extractStridedSlice_apply _ kv w y _ fun a => match a with | ⟨0, _⟩ => (Nat.zero_add _).symm | ⟨1, _⟩ => rfl

/-- A head's part of the block. -/
def part (q : Vec Ideal S512x512 .bf16) (kv : Vec Ideal S256x1024 .bf16) (h : Fin 4) : FVec Ideal S512x128 .f32 :=
  heads (scores (qpart q h) (kpart kv h)) (vpart kv h)

/-- The block: its four heads side by side. -/
theorem pay_eq (q : Vec Ideal S512x512 .bf16) (kv : Vec Ideal S256x1024 .bf16) :
    k0_pay1 (F := Ideal) q kv (k0_pay2 q kv) (k0_pay3 q kv) (k0_pay4 kv) (k0_pay5 q kv)
      = concatenate S512x512 1 [⟨S512x128, part q kv 0⟩, ⟨S512x128, part q kv 1⟩, ⟨S512x128, part q kv 2⟩, ⟨S512x128, part q kv 3⟩]
          concatenates_S512x128_S512x128_S512x128_S512x128_S512x512_d1 := by
  unfold part
  rw [← q_slice q 0 0 slices_S512x512_o0_0_S512x128 rfl, ← q_slice q 1 128 slices_S512x512_o0_128_S512x128 rfl,
    ← q_slice q 2 256 slices_S512x512_o0_256_S512x128 rfl, ← q_slice q 3 384 slices_S512x512_o0_384_S512x128 rfl,
    ← k_slice kv 0 0 slices_S256x1024_o0_0_S256x128 rfl, ← k_slice kv 1 128 slices_S256x1024_o0_128_S256x128 rfl,
    ← k_slice kv 2 256 slices_S256x1024_o0_256_S256x128 rfl, ← k_slice kv 3 384 slices_S256x1024_o0_384_S256x128 rfl,
    ← v_slice kv 0 512 slices_S256x1024_o0_512_S256x128 rfl, ← v_slice kv 1 640 slices_S256x1024_o0_640_S256x128 rfl,
    ← v_slice kv 2 768 slices_S256x1024_o0_768_S256x128 rfl, ← v_slice kv 3 896 slices_S256x1024_o0_896_S256x128 rfl]
  rfl

/-- Four blocks of 128 columns side by side, at a column of one of them. -/
theorem beside (p : Fin 4 → FVec Ideal S512x128 .f32) (r : Fin 512) (h : Fin 4) (d : Fin 128) :
    concatenate S512x512 1 [⟨S512x128, p 0⟩, ⟨S512x128, p 1⟩, ⟨S512x128, p 2⟩, ⟨S512x128, p 3⟩]
      concatenates_S512x128_S512x128_S512x128_S512x128_S512x512_d1 (ix2 r (qcol h d)) = p h (ix2 r d) :=
  concatenate_ofFn_apply (t := S512x512) (s₁ := S512x128) (1 : Fin 2) p
    concatenates_S512x128_S512x128_S512x128_S512x128_S512x512_d1 rfl 128 rfl (ix2 r (qcol h d)) h
    (by show (h.val * 128 + d.val) / 128 = h.val; omega) (ix2 r d) (by show d.val = (h.val * 128 + d.val) % 128; omega)
    fun b hb => match b with
      | ⟨0, _⟩ => rfl
      | ⟨1, _⟩ => absurd rfl hb

/-- The block at an element. -/
theorem pay_apply (q : Vec Ideal S512x512 .bf16) (kv : Vec Ideal S256x1024 .bf16) (r : Fin 512) (h : Fin 4) (d : Fin 128) :
    k0_pay1 (F := Ideal) q kv (k0_pay2 q kv) (k0_pay3 q kv) (k0_pay4 kv) (k0_pay5 q kv) (ix2 r (qcol h d))
      = head (score (fun d => q (ix2 r (qcol h d))) fun j d => kv (ix2 j (kcol h d))) (fun j d => kv (ix2 j (vcol h d))) d := by
  rw [pay_eq, beside (part q kv), part, heads_apply]
  simp only [scores_apply]
  rfl

/-! ## The reference at an element -/

section Reference
variable (x0 : (⟨S4096x512, .bf16⟩ : BufTy).Contents (Elt Ideal)) (x1 : (⟨S256x1024, .bf16⟩ : BufTy).Contents (Elt Ideal))

/-- The reference's queries, keys and values by heads. -/
theorem q_at (r : Fin 4096) (h : Fin 4) (d : Fin 128) : val_main_v2 (F := Ideal) x0 (ix3 r h d) = x0 (ix2 r (qcol h d)) := by
  rw [val_main_v2_apply, val_main_v0_apply]
  refine congrArg x0 (funext fun a => Fin.ext ?_)
  match a with
  | ⟨0, _⟩ => show ((r.val * 4 + h.val) * 128 + d.val) / 512 = r.val; omega
  | ⟨1, _⟩ => show ((r.val * 4 + h.val) * 128 + d.val) % 512 = h.val * 128 + d.val; omega

theorem k_at (j : Fin 256) (h : Fin 4) (d : Fin 128) : val_main_v4 (F := Ideal) x1 (ix3 j h d) = x1 (ix2 j (kcol h d)) := by
  rw [val_main_v4_apply, val_main_v3_apply, val_main_v1_apply]
  refine congrArg x1 (funext fun a => Fin.ext ?_)
  match a with
  | ⟨0, _⟩ => show ((j.val * 4 + h.val) * 128 + d.val) / 512 = j.val; omega
  | ⟨1, _⟩ => show ((j.val * 4 + h.val) * 128 + d.val) % 512 = h.val * 128 + d.val; omega

theorem v_at (j : Fin 256) (h : Fin 4) (d : Fin 128) : val_main_v6 (F := Ideal) x1 (ix3 j h d) = x1 (ix2 j (vcol h d)) := by
  rw [val_main_v6_apply, val_main_v5_apply, val_main_v1_apply]
  refine congrArg x1 (funext fun a => Fin.ext ?_)
  match a with
  | ⟨0, _⟩ => show ((j.val * 4 + h.val) * 128 + d.val) / 512 = j.val; omega
  | ⟨1, _⟩ => show 512 + ((j.val * 4 + h.val) * 128 + d.val) % 512 = 512 + h.val * 128 + d.val; omega

/-- A row's scores of a head. -/
abbrev rscore (h : Fin 4) (r : Fin 4096) : Fin 256 → EReal :=
  score (fun d => x0 (ix2 r (qcol h d))) fun j d => x1 (ix2 j (kcol h d))

theorem score_at (h : Fin 4) (r : Fin 4096) (j : Fin 256) : val_main_v9 (F := Ideal) x0 x1 (ix3 h r j) = rscore x0 x1 h r j := by
  rw [val_main_v9_apply, val_main_v8_apply, val_main_cst_apply, val_main_v7_apply]
  refine congrArg (· * _) (Finset.sum_congr rfl fun d _ => ?_)
  have el : lidx_main_v7 (ix3 h r j) d = ix3 r h d := funext fun a => Fin.ext (match a with | ⟨0, _⟩ => rfl | ⟨1, _⟩ => rfl | ⟨2, _⟩ => rfl)
  have er : ridx_main_v7 (ix3 h r j) d = ix3 j h d := funext fun a => Fin.ext (match a with | ⟨0, _⟩ => rfl | ⟨1, _⟩ => rfl | ⟨2, _⟩ => rfl)
  rw [el, er, q_at, k_at]

/-- The greatest score, which the reference compares with minus infinity once more. -/
theorem top_at (h : Fin 4) (r : Fin 4096) : val_main_v12 (F := Ideal) x0 x1 (ix2 h r) = top (rscore x0 x1 h r) := by
  have e : val_main_v10 (F := Ideal) x0 x1 (ix2 h r) = top (rscore x0 x1 h r) := by
    unfold val_main_v10
    rw [Host.reduce_eq_fold, Shape.ReducesTo.fold_fiber_r3_a2]
    exact congrArg (Finset.univ.fold max _) (funext fun j => score_at x0 x1 h r j)
  rw [val_main_v12_apply, e, val_main_v11_apply, val_main_cst_1_apply]
  exact max_eq_right (Finset.le_fold_max _ |>.2 (Or.inl le_rfl))

theorem exp_at (h : Fin 4) (r : Fin 4096) (j : Fin 256) :
    val_main_v16 (F := Ideal) x0 x1 (ix3 h r j) = Ideal.exp (rscore x0 x1 h r j - top (rscore x0 x1 h r)) := by
  have e : idx_main_v13 (idx_main_v14 (ix3 h r j)) = ix2 h r := funext fun a => Fin.ext (match a with | ⟨0, _⟩ => rfl | ⟨1, _⟩ => rfl)
  rw [val_main_v16_apply, val_main_v15_apply, val_main_v14_apply, val_main_v13_apply, e, top_at, score_at]
  rfl

theorem soft_at (h : Fin 4) (r : Fin 4096) (j : Fin 256) :
    val_main_v20 (F := Ideal) x0 x1 (ix3 h r j) = soft (rscore x0 x1 h r) j := by
  have e : idx_main_v18 (idx_main_v19 (ix3 h r j)) = ix2 h r := funext fun a => Fin.ext (match a with | ⟨0, _⟩ => rfl | ⟨1, _⟩ => rfl)
  have ek : ∀ l, idx_main_v17 (ix2 h r) l = ix3 h r l := fun l =>
    funext fun a => Fin.ext (match a with | ⟨0, _⟩ => rfl | ⟨1, _⟩ => rfl | ⟨2, _⟩ => rfl)
  rw [val_main_v20_apply, val_main_v19_apply, val_main_v18_apply, e, val_main_v17_apply, val_main_cst_2_apply]
  simp only [ek, exp_at, pointwise, zero_add]
  rfl

/-- The reference at an element. -/
theorem ref_apply (r : Fin 4096) (h : Fin 4) (d : Fin 128) : val_main_v24 (F := Ideal) x0 x1 (ix2 r (qcol h d))
    = head (rscore x0 x1 h r) (fun j d => x1 (ix2 j (vcol h d))) d := by
  have e : idx_main_v22 (idx_main_v23 (ix2 r (qcol h d))) = ix3 h d r := by
    refine funext fun a => Fin.ext ?_
    match a with
    | ⟨0, _⟩ => show (r.val * 512 + (h.val * 128 + d.val)) / 128 % 4 = h.val; omega
    | ⟨1, _⟩ => show (r.val * 512 + (h.val * 128 + d.val)) % 128 = d.val; omega
    | ⟨2, _⟩ => show (r.val * 512 + (h.val * 128 + d.val)) / 512 = r.val; omega
  rw [val_main_v24_apply, val_main_v23_apply, val_main_v22_apply, e]
  refine (val_main_v21_apply x0 x1 _).trans (Finset.sum_congr rfl fun j _ => ?_)
  have el : lidx_main_v21 (ix3 h d r) j = ix3 j h d := funext fun a => Fin.ext (match a with | ⟨0, _⟩ => rfl | ⟨1, _⟩ => rfl | ⟨2, _⟩ => rfl)
  have er : ridx_main_v21 (ix3 h d r) j = ix3 h r j := funext fun a => Fin.ext (match a with | ⟨0, _⟩ => rfl | ⟨1, _⟩ => rfl | ⟨2, _⟩ => rfl)
  rw [el, er, v_at, soft_at]
  exact mul_comm _ _

end Reference

/-! ## The array after the run -/

/-- The block indices of the windows: row block `t` of the queries and of the result, and the whole keys and values. -/
theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The array's row of row `r` of the block at point `t`. -/
abbrev row (t : Fin cfg0.N) (r : Fin 512) : Fin 4096 := ⟨t.val * 512 + r.val, by have h : t.val < 8 := t.isLt; omega⟩

/-- The arrays of a device as launched: the queries, and the keys and values. -/
abbrev A0 (c : Dev nD) : (⟨S4096x512, .bf16⟩ : BufTy).Contents (Elt Ideal) := m ((c : Thread nD τ).loc main_arg0)
abbrev A1 (c : Dev nD) : (⟨S256x1024, .bf16⟩ : BufTy).Contents (Elt Ideal) := m ((c : Thread nD τ).loc main_arg1)

/-- Where a block's elements sit in their array. -/
theorem emb02 (t : Fin cfg0.N) (r : Fin 512) (n : Fin 512) :
    (win0_0.rect t).emb (ix2 r n) = ix2 (row t r) n ∧ (win0_2.rect t).emb (ix2 r n) = ix2 (row t r) n := by
  obtain ⟨⟨h0, h1⟩, -, h2, h3⟩ := idx_facts t
  refine ⟨funext fun a => Fin.ext ?_, funext fun a => Fin.ext ?_⟩
  · match a with
    | ⟨0, _⟩ => exact (win0_0.rect_emb_val t _ 0).trans (by rw [h0]; rfl)
    | ⟨1, _⟩ => exact (win0_0.rect_emb_val t _ 1).trans (by rw [h1]; exact (Nat.zero_mul _).symm ▸ Nat.zero_add _)
  · match a with
    | ⟨0, _⟩ => exact (win0_2.rect_emb_val t _ 0).trans (by rw [h2]; rfl)
    | ⟨1, _⟩ => exact (win0_2.rect_emb_val t _ 1).trans (by rw [h3]; exact (Nat.zero_mul _).symm ▸ Nat.zero_add _)

theorem emb1 (t : Fin cfg0.N) (j : Fin 256) (n : Fin 1024) : (win0_1.rect t).emb (ix2 j n) = ix2 j n := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

/-- The queries' block and the keys' and values' are the arguments'. -/
theorem q_blk (c : Dev nD) (t : Fin cfg0.N) (r : Fin 512) (n : Fin 512) : iblk m c 0 t (ix2 r n) = A0 m c (ix2 (row t r) n) :=
  (congrFun (V_main_arg0 m c) _).trans (congrArg (A0 m c) (emb02 t r n).1)

theorem kv_blk (c : Dev nD) (t : Fin cfg0.N) (j : Fin 256) (n : Fin 1024) : iblk m c 1 t (ix2 j n) = A1 m c (ix2 j n) :=
  (congrFun (V_main_arg1 m c) _).trans (congrArg (A1 m c) (emb1 t j n))

/-- The attention: the array after the run is the reference's. -/
theorem final (c : Dev nD) : (dats m 0 c).arrAt 2 cfg0.N = val_main_v24 (F := Ideal) (A0 m c) (A1 m c) := by
  refine (dats m 0 c).arrAt_eq_of_cover 2 _ (fun t hf => ?_) (fun i => ?_)
  · rw [Cert.XattnIdeal.Value.flushed2]
    unfold out0_2
    rw [View.canon_unit_zero hz2]
    simp only [View.ld_unit_zero (S := S512x512) hz2, View.ld_unit_zero (S := S256x1024) hz2]
    funext y
    obtain ⟨r, h, d, rfl⟩ : ∃ r h d, y = ix2 r (qcol h d) := by
      have h1 : (y 1).val < 512 := (y 1).isLt
      refine ⟨y 0, ⟨(y 1).val / 128, by omega⟩, ⟨(y 1).val % 128, by omega⟩, funext fun a => Fin.ext ?_⟩
      match a with
      | ⟨0, _⟩ => rfl
      | ⟨1, _⟩ => show (y 1).val = (y 1).val / 128 * 128 + (y 1).val % 128; omega
    refine (pay_apply (iblk m c 0 t) (iblk m c 1 t) r h d).trans ?_
    show _ = val_main_v24 (F := Ideal) _ _ ((win0_2.rect t).emb (ix2 r (qcol h d)))
    rw [(emb02 t r _).2, ref_apply]
    refine congrArg₂ (fun s v => head s v d) (congrArg₂ score (funext fun e => q_blk m c t r _) (funext fun j => funext fun e => ?_))
      (funext fun j => funext fun e => ?_)
    · exact kv_blk m c t j _
    · exact kv_blk m c t j _
  · obtain ⟨r, n, rfl⟩ : ∃ r n, i = ix2 r n := ⟨i 0, i 1, eq_ix2 i⟩
    have hr : r.val < 4096 := r.isLt
    let t : Fin cfg0.N := ⟨r.val / 512, by show _ < 8; omega⟩
    have e : (win0_2.rect t).emb (ix2 (⟨r.val % 512, by omega⟩ : Fin 512) n) = ix2 r n :=
      (emb02 t _ n).2.trans (congrArg (fun r => ix2 r n) (Fin.ext (by show r.val / 512 * 512 + r.val % 512 = r.val; omega)))
    rw [← e]
    exact ⟨t, flush0_2 t, View.emb_mem_set ((cfg0.win 2).blk t).view _⟩

/-- The kernel computes the reference's result: started with the same arguments, both programs' runs end with the same result
    and with the arguments unchanged. -/
theorem algebraic : Cert.algebraic_XattnIdeal_XattnRefIdeal := by
  intro m g m' g' _ hagree
  refine ⟨fun c => val_main_v24 (F := Ideal) (A0 m c) (A1 m c),
    (θ_run _ _ _).mono (fun r h c => ?_) (Cert.XattnIdeal.Value.run_blocks (F := Ideal) m g),
    (θ_run _ _ _).mono (fun r h c => ?_) (Cert.XattnRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v24_eq _ _

/-- The reference's own run ends, with its arguments unchanged and every counter at zero. -/
theorem frame_reference : Cert.quiescent_XattnRefIdeal := fun m ρ _ =>
  (θ_run Cert.XattnRefIdeal.defs _ _).mono (fun r h => ⟨fun c => (h c).2, Idealize.ShloMosaic.sem_eq_zero_of_no_sems (by decide) r.2⟩)
    (Cert.XattnRefIdeal.Value.run (F := Ideal) m ρ)

end Cert.Proof.XattnValue

end
-- ==== Proof.XattnBwdValue.lean ====
/-
  The value of the backward call `xattn_bwd`: the gradients of the cross-attention's queries, and of its keys and values. For each of
  the four heads a block of 512 rows takes the softmax of its scores again and the gradient through it; the gradients of the keys and
  values are added up over the eight blocks. The gradient through the softmax is a different formula in the kernel and in the
  reference, and the two agree where the queries and the keys are finite.
-/
module

public import proofs.«01_k».proof.Proof.Gen.XattnBwdIdeal.Value
public import proofs.«01_k».proof.Proof.Gen.XattnBwdRefIdeal.Read
public import proofs.«01_k».proof.Proof.Gen.XattnBwdRefIdeal.Run
public import proofs.«01_k».proof.Defs
public import proofs.«01_k».proof.Proof.Chunks
public import proofs.«01_k».proof.Proof.Norm
public import proofs.«01_k».proof.Proof.DactValue
public import proofs.«01_k».proof.Proof.XattnValue
public import Idealize.ShloMosaic.Lib.KernelVsHost

@[expose] public section

noncomputable section

namespace Cert.Proof.XattnBwdValue

open Cert.XattnBwdIdeal Cert.XattnBwdIdeal.Gen Idealize.ShloMosaic Idealize.ShloMosaic.TcCoe Idealize.SL.Sem
open Cert.XattnBwdRefIdeal.Read
open Cert.Proof.XattnValue (score top soft qcol kcol vcol scores exps scores_apply exps_apply qpart kpart vpart q_slice k_slice v_slice beside)
open Cert.Proof.DactValue (real_of_test real_sum)

variable (m : (ℓ : Loc nD τ sig) → Buf (Elt Ideal) ℓ)

/-- The side conditions of the precondition's operations. -/
theorem preFacts : Cert.Pre_finite_xattn.Facts where
  slices_S256x1024_S256x512_0_0 := by decide
  bitsLt_bf16_f32 := by decide
  bcast_S_S4096x512 := by decide
  bcast_S_S256x512 := by decide

/-! ## The gradient through the softmax of one row -/

/-- The kernel's gradient of a row's scores before their scaling, `g` being the gradient of the row's softmax, -/
def deriv (s g : Fin 256 → EReal) (j : Fin 256) : EReal :=
  soft s j * (g j - ∑ l, soft s l * g l) * Ideal.ofBits .f32 0x3DB504F3#32

/-- a row's exponential, and its sum, -/
def ex (s : Fin 256 → EReal) (j : Fin 256) : EReal := Ideal.exp (s j - top s)
def exSum (s : Fin 256 → EReal) : EReal := ∑ l, ex s l

/-- and the reference's gradient. -/
def vjp (s g : Fin 256 → EReal) (j : Fin 256) : EReal :=
  (Ideal.div (g j) (exSum s) + -(∑ l, g l * Ideal.div 1 (exSum s * exSum s) * ex s l)) * ex s j * Ideal.ofBits .f32 0x3DB504F3#32

/-- The exponentials of real scores are positive real numbers. -/
theorem ex_real (s : Fin 256 → EReal) (hs : ∀ j, ∃ r : ℝ, s j = r) : ∃ e : Fin 256 → ℝ, (∀ j, 0 < e j) ∧ ∀ j, ex s j = (e j : EReal) := by
  have hbot : Ideal.ofBits .f32 0xFF800000#32 = ⊥ := by simp [Ideal.ofBits, Ideal.ieee]
  choose u hu using hs
  have h1 : top s < ⊤ := by
    unfold top
    rw [hbot]
    exact (Finset.fold_max_lt _).2 ⟨bot_lt_top, fun j _ => by rw [hu j]; exact EReal.coe_lt_top _⟩
  have h2 : ⊥ < top s := by
    unfold top
    exact (Finset.lt_fold_max _).2 (Or.inr ⟨0, Finset.mem_univ _, by rw [hu 0]; exact EReal.bot_lt_coe _⟩)
  have ht : top s = ((top s).toReal : EReal) := (EReal.coe_toReal h1.ne h2.ne').symm
  refine ⟨fun j => Real.exp (u j - (top s).toReal), fun j => Real.exp_pos _, fun j => ?_⟩
  unfold ex
  rw [ht, hu j, ← EReal.coe_sub, Ideal.exp_coe, EReal.toReal_coe]

/-- The sum of real numbers. -/
theorem coe_sum (e : Fin 256 → ℝ) : ∑ l, (e l : EReal) = ((∑ l, e l : ℝ) : EReal) := by
  induction (Finset.univ : Finset (Fin 256)) using Finset.cons_induction with
  | empty => simp
  | cons a s ha ih => rw [Finset.sum_cons, Finset.sum_cons, ih, EReal.coe_add]

/-- At real scores the two gradients agree, whatever the gradient of the softmax is. -/
theorem deriv_eq (s g : Fin 256 → EReal) (hs : ∀ j, ∃ r : ℝ, s j = r) (j : Fin 256) : deriv s g j = vjp s g j := by
  obtain ⟨e, he, hx⟩ := ex_real s hs
  have hz : 0 < ∑ l, e l := Finset.sum_pos (fun l _ => he l) ⟨0, Finset.mem_univ _⟩
  obtain ⟨z, hze⟩ : ∃ z, z = ∑ l, e l := ⟨_, rfl⟩
  rw [← hze] at hz
  have hZ : exSum s = (z : EReal) := by
    unfold exSum
    rw [hze, ← coe_sum]
    exact Finset.sum_congr rfl fun l _ => hx l
  have hp : ∀ l, soft s l = ((e l * (1 / z) : ℝ) : EReal) := fun l => by
    show Ideal.div (ex s l) (exSum s) = _
    rw [hZ, hx, Ideal.div_coe hz.ne', EReal.coe_mul]
  have hc : Ideal.div 1 (exSum s * exSum s) = ((1 / (z * z) : ℝ) : EReal) := by
    rw [hZ, ← EReal.coe_mul, Ideal.div_coe (mul_pos hz hz).ne', one_mul]
  have hX : ∑ l, g l * Ideal.div 1 (exSum s * exSum s) * ex s l = ((1 / z : ℝ) : EReal) * ∑ l, soft s l * g l := by
    rw [← Norm.mul_sum _ (by positivity)]
    refine Finset.sum_congr rfl fun l _ => ?_
    rw [hc, hx, hp, mul_assoc, ← EReal.coe_mul, mul_comm, ← mul_assoc, ← EReal.coe_mul]
    refine congrArg (fun a : ℝ => (a : EReal) * g l) ?_
    field_simp
  unfold deriv vjp
  rw [hX, hZ, hx, Ideal.div_coe hz.ne', hp j, mul_comm _ ((e j : ℝ) : EReal), sub_eq_add_neg,
    EReal.left_distrib_of_nonneg_of_ne_top (by have := he j; exact_mod_cast (by positivity)) (EReal.coe_ne_top _),
    EReal.left_distrib_of_nonneg_of_ne_top (by have := he j; exact_mod_cast (he j).le) (EReal.coe_ne_top _),
    mul_neg, mul_neg, EReal.coe_mul, mul_assoc, mul_assoc, mul_comm (g j)]

/-! ## One head of one row -/

/-- A row's scores of a head, and the gradient of their softmax. -/
abbrev rs {R : ℕ} (q : (⟨2, ![R, 512]⟩ : Shape).Idx → EReal) (kv : S256x1024.Idx → EReal) (h : Fin 4) (r : Fin R) : Fin 256 → EReal :=
  score (fun d => q (ix2 r (qcol h d))) fun j d => kv (ix2 j (kcol h d))
def rg {R : ℕ} (dox : (⟨2, ![R, 512]⟩ : Shape).Idx → EReal) (kv : S256x1024.Idx → EReal) (h : Fin 4) (r : Fin R) (j : Fin 256) : EReal :=
  ∑ d, dox (ix2 r (qcol h d)) * kv (ix2 j (vcol h d))

/-- A row's gradient of its query. -/
def dqT {R : ℕ} (q : (⟨2, ![R, 512]⟩ : Shape).Idx → EReal) (kv : S256x1024.Idx → EReal) (dox : (⟨2, ![R, 512]⟩ : Shape).Idx → EReal)
    (h : Fin 4) (d : Fin 128) (r : Fin R) : EReal :=
  ∑ j, deriv (rs q kv h r) (rg dox kv h r) j * kv (ix2 j (kcol h d))

/-- The eight pieces of the keys' and values' columns, and what a row adds to their gradient: to a key's its query times the gradient
    of their score, to a value's its own gradient times their softmax. -/
abbrev col8 (b : Fin 8) (d : Fin 128) : Fin 1024 := ⟨b.val * 128 + d.val, by omega⟩
abbrev hd (b : Fin 8) : Fin 4 := ⟨b.val % 4, by omega⟩
def kvT {R : ℕ} (q : (⟨2, ![R, 512]⟩ : Shape).Idx → EReal) (kv : S256x1024.Idx → EReal) (dox : (⟨2, ![R, 512]⟩ : Shape).Idx → EReal)
    (j : Fin 256) (b : Fin 8) (d : Fin 128) (r : Fin R) : EReal :=
  if b.val < 4 then deriv (rs q kv (hd b) r) (rg dox kv (hd b) r) j * q (ix2 r (qcol (hd b) d))
  else soft (rs q kv (hd b) r) j * dox (ix2 r (qcol (hd b) d))

/-! ## The block at an element -/

/-- The block's softmax of a head's scores, the gradient of it, and the gradient of the scores. -/
def softs (s : FVec Ideal S512x256 .f32) : FVec Ideal S512x256 .f32 :=
  divf (exps s) (broadcastTo S512x256 (shapeCast S512x1
    (multiReduction .add [1] S512 (exps s) 0x00000000#32 reduces_S512x256_S512 (.inl rfl) rfl) shapeCasts_S512_S512x1) broadcasts_S512x1_S512x256)

def prods (v : FVec Ideal S256x128 .bf16) (dox : FVec Ideal S512x128 .bf16) : FVec Ideal S512x256 .f32 :=
  matmul dot_S512x128_S256x128_S512x256_1_1_0_0_n_n none dox v (constant S512x256 .f32 0x00000000#32)

def grads (p g : FVec Ideal S512x256 .f32) : FVec Ideal S512x256 .bf16 :=
  truncf .bf16 (mulf (mulf p (subf g (broadcastTo S512x256 (shapeCast S512x1
    (multiReduction .add [1] S512 (mulf p g) 0x00000000#32 reduces_S512x256_S512 (.inl rfl) rfl) shapeCasts_S512_S512x1)
      broadcasts_S512x1_S512x256))) (broadcast S512x256 (Scalar.ofBits .f32 0x3DB504F3#32))) bitsLt_bf16_f32

theorem softs_apply (s : FVec Ideal S512x256 .f32) (r : Fin 512) (j : Fin 256) : softs s (ix2 r j) = soft (fun l => s (ix2 r l)) j := by
  unfold softs soft
  simp only [pointwise, zero_add, exps_apply]
  exact congrArg (Ideal.div _) (Finset.sum_congr rfl fun l _ => exps_apply s r l)

theorem prods_apply (v : FVec Ideal S256x128 .bf16) (dox : FVec Ideal S512x128 .bf16) (r : Fin 512) (j : Fin 256) :
    prods v dox (ix2 r j) = ∑ d, dox (ix2 r d) * v (ix2 j d) := by
  unfold prods
  simp only [pointwise, zero_add]

theorem grads_apply (p g : FVec Ideal S512x256 .f32) (r : Fin 512) (j : Fin 256) :
    grads p g (ix2 r j) = p (ix2 r j) * (g (ix2 r j) - ∑ l, p (ix2 r l) * g (ix2 r l)) * Ideal.ofBits .f32 0x3DB504F3#32 := by
  unfold grads
  simp only [pointwise, zero_add]
  rfl

section Block
variable (q : Vec Ideal S512x512 .bf16) (kv : Vec Ideal S256x1024 .bf16) (dox : Vec Ideal S512x512 .bf16)

/-- A head's softmax, the gradient of its scores, and its parts of the three gradients. -/
def pPart (h : Fin 4) : FVec Ideal S512x256 .f32 := softs (scores (qpart q h) (kpart kv h))
def dsPart (h : Fin 4) : FVec Ideal S512x256 .bf16 := grads (pPart q kv h) (prods (vpart kv h) (qpart dox h))
def dqPart (h : Fin 4) : FVec Ideal S512x128 .f32 :=
  matmul dot_S512x256_S256x128_S512x128_1_0_0_1_n_n none (dsPart q kv dox h) (kpart kv h) (constant S512x128 .f32 0x00000000#32)
def dkPart (h : Fin 4) : FVec Ideal S256x128 .f32 :=
  matmul dot_S512x256_S512x128_S256x128_0_0_1_1_n_n none (dsPart q kv dox h) (qpart q h) (constant S256x128 .f32 0x00000000#32)
def dvPart (h : Fin 4) : FVec Ideal S256x128 .f32 :=
  matmul dot_S512x256_S512x128_S256x128_0_0_1_1_n_n none (truncf .bf16 (pPart q kv h) bitsLt_bf16_f32) (qpart dox h) (constant S256x128 .f32 0x00000000#32)

/-- The pieces of the keys' and values' gradient. -/
def kvPart (b : Fin 8) : FVec Ideal S256x128 .f32 := if b.val < 4 then dkPart q kv dox (hd b) else dvPart q kv dox (hd b)

theorem pPart_apply (h : Fin 4) (r : Fin 512) (j : Fin 256) : pPart q kv h (ix2 r j) = soft (rs (R := 512) q kv h r) j := by
  unfold pPart
  rw [softs_apply]
  simp only [scores_apply]
  rfl

theorem dsPart_apply (h : Fin 4) (r : Fin 512) (j : Fin 256) :
    dsPart q kv dox h (ix2 r j) = deriv (rs (R := 512) q kv h r) (rg (R := 512) dox kv h r) j := by
  unfold dsPart deriv
  rw [grads_apply]
  simp only [pPart_apply, prods_apply]
  rfl

theorem dqPart_apply (h : Fin 4) (r : Fin 512) (d : Fin 128) : dqPart q kv dox h (ix2 r d) = dqT (R := 512) q kv dox h d r := by
  unfold dqPart dqT
  simp only [pointwise, zero_add]
  exact Finset.sum_congr rfl fun j _ => congrArg (· * _) (dsPart_apply q kv dox h r j)

theorem kvPart_apply (b : Fin 8) (j : Fin 256) (d : Fin 128) : kvPart q kv dox b (ix2 j d) = ∑ r : Fin 512, kvT (R := 512) q kv dox j b d r := by
  unfold kvPart kvT
  split
  · unfold dkPart
    simp only [pointwise, zero_add]
    exact Finset.sum_congr rfl fun r _ => congrArg (· * _) (dsPart_apply q kv dox _ r j)
  · unfold dvPart
    simp only [pointwise, zero_add]
    exact Finset.sum_congr rfl fun r _ => congrArg (· * _) (pPart_apply q kv _ r j)

/-- What a point stores: the four heads' gradients of the queries side by side, -/
abbrev dqBlk : FVec Ideal S512x512 .bf16 :=
  k0_pay36 (F := Ideal) q kv dox (k0_pay8 q kv dox) (k0_pay18 (k0_pay11 kv) (k0_pay12 kv) (k0_pay14 dox) (k0_pay15 q kv)) (k0_pay21 kv)
    (k0_pay25 q kv dox) (Scalar.ofBits .f32 0x3DB504F3#32)

/-- and what it found in the other block with the eight pieces of the keys' and values' gradient added. -/
abbrev kvBlk (acc : Vec Ideal S256x1024 .f32) : FVec Ideal S256x1024 .f32 :=
  k0_pay2 (F := Ideal) (k0_pay9 q kv dox) (k0_pay10 q kv dox) (k0_pay19 (k0_pay12 kv) (k0_pay13 q) (k0_pay14 dox) (k0_pay15 q kv))
    (k0_pay20 (k0_pay14 dox) (k0_pay15 q kv)) (k0_pay27 (k0_pay22 q) (k0_pay25 q kv dox) (Scalar.ofBits .f32 0x3DB504F3#32))
    (k0_pay28 (k0_pay23 dox) (k0_pay24 q kv)) (k0_pay34 q kv dox) (k0_pay35 q kv dox) acc

theorem dqBlk_eq : dqBlk q kv dox = truncf .bf16 (concatenate S512x512 1 [⟨S512x128, dqPart q kv dox 0⟩, ⟨S512x128, dqPart q kv dox 1⟩,
    ⟨S512x128, dqPart q kv dox 2⟩, ⟨S512x128, dqPart q kv dox 3⟩] concatenates_S512x128_S512x128_S512x128_S512x128_S512x512_d1) bitsLt_bf16_f32 := by
  unfold dqPart dsPart pPart
  rw [← q_slice q 0 0 slices_S512x512_o0_0_S512x128 rfl, ← q_slice q 1 128 slices_S512x512_o0_128_S512x128 rfl,
    ← q_slice q 2 256 slices_S512x512_o0_256_S512x128 rfl, ← q_slice q 3 384 slices_S512x512_o0_384_S512x128 rfl,
    ← q_slice dox 0 0 slices_S512x512_o0_0_S512x128 rfl, ← q_slice dox 1 128 slices_S512x512_o0_128_S512x128 rfl,
    ← q_slice dox 2 256 slices_S512x512_o0_256_S512x128 rfl, ← q_slice dox 3 384 slices_S512x512_o0_384_S512x128 rfl,
    ← k_slice kv 0 0 slices_S256x1024_o0_0_S256x128 rfl, ← k_slice kv 1 128 slices_S256x1024_o0_128_S256x128 rfl,
    ← k_slice kv 2 256 slices_S256x1024_o0_256_S256x128 rfl, ← k_slice kv 3 384 slices_S256x1024_o0_384_S256x128 rfl,
    ← v_slice kv 0 512 slices_S256x1024_o0_512_S256x128 rfl, ← v_slice kv 1 640 slices_S256x1024_o0_640_S256x128 rfl,
    ← v_slice kv 2 768 slices_S256x1024_o0_768_S256x128 rfl, ← v_slice kv 3 896 slices_S256x1024_o0_896_S256x128 rfl]
  rfl

/-- The pieces as the kernel computes them. -/
theorem keys_eq : k0_pay9 (F := Ideal) q kv dox = dkPart q kv dox 0
    ∧ k0_pay19 (F := Ideal) (k0_pay12 kv) (k0_pay13 q) (k0_pay14 dox) (k0_pay15 q kv) = dkPart q kv dox 1
    ∧ k0_pay27 (F := Ideal) (k0_pay22 q) (k0_pay25 q kv dox) (Scalar.ofBits .f32 0x3DB504F3#32) = dkPart q kv dox 2
    ∧ k0_pay34 (F := Ideal) q kv dox = dkPart q kv dox 3 := by
  unfold dkPart dsPart pPart
  rw [← q_slice q 0 0 slices_S512x512_o0_0_S512x128 rfl, ← q_slice q 1 128 slices_S512x512_o0_128_S512x128 rfl,
    ← q_slice q 2 256 slices_S512x512_o0_256_S512x128 rfl, ← q_slice q 3 384 slices_S512x512_o0_384_S512x128 rfl,
    ← q_slice dox 0 0 slices_S512x512_o0_0_S512x128 rfl, ← q_slice dox 1 128 slices_S512x512_o0_128_S512x128 rfl,
    ← q_slice dox 2 256 slices_S512x512_o0_256_S512x128 rfl, ← q_slice dox 3 384 slices_S512x512_o0_384_S512x128 rfl,
    ← k_slice kv 0 0 slices_S256x1024_o0_0_S256x128 rfl, ← k_slice kv 1 128 slices_S256x1024_o0_128_S256x128 rfl,
    ← k_slice kv 2 256 slices_S256x1024_o0_256_S256x128 rfl, ← k_slice kv 3 384 slices_S256x1024_o0_384_S256x128 rfl,
    ← v_slice kv 0 512 slices_S256x1024_o0_512_S256x128 rfl, ← v_slice kv 1 640 slices_S256x1024_o0_640_S256x128 rfl,
    ← v_slice kv 2 768 slices_S256x1024_o0_768_S256x128 rfl, ← v_slice kv 3 896 slices_S256x1024_o0_896_S256x128 rfl]
  exact ⟨rfl, rfl, rfl, rfl⟩

theorem values_eq : k0_pay10 (F := Ideal) q kv dox = dvPart q kv dox 0
    ∧ k0_pay20 (F := Ideal) (k0_pay14 dox) (k0_pay15 q kv) = dvPart q kv dox 1
    ∧ k0_pay28 (F := Ideal) (k0_pay23 dox) (k0_pay24 q kv) = dvPart q kv dox 2
    ∧ k0_pay35 (F := Ideal) q kv dox = dvPart q kv dox 3 := by
  unfold dvPart pPart
  rw [← q_slice q 0 0 slices_S512x512_o0_0_S512x128 rfl, ← q_slice q 1 128 slices_S512x512_o0_128_S512x128 rfl,
    ← q_slice q 2 256 slices_S512x512_o0_256_S512x128 rfl, ← q_slice q 3 384 slices_S512x512_o0_384_S512x128 rfl,
    ← q_slice dox 0 0 slices_S512x512_o0_0_S512x128 rfl, ← q_slice dox 1 128 slices_S512x512_o0_128_S512x128 rfl,
    ← q_slice dox 2 256 slices_S512x512_o0_256_S512x128 rfl, ← q_slice dox 3 384 slices_S512x512_o0_384_S512x128 rfl,
    ← k_slice kv 0 0 slices_S256x1024_o0_0_S256x128 rfl, ← k_slice kv 1 128 slices_S256x1024_o0_128_S256x128 rfl,
    ← k_slice kv 2 256 slices_S256x1024_o0_256_S256x128 rfl, ← k_slice kv 3 384 slices_S256x1024_o0_384_S256x128 rfl]
  exact ⟨rfl, rfl, rfl, rfl⟩

/-- Eight blocks of 128 columns side by side, at a column of one of them. -/
theorem beside8 (p : Fin 8 → FVec Ideal S256x128 .f32) (j : Fin 256) (b : Fin 8) (d : Fin 128) :
    concatenate S256x1024 1 [⟨S256x128, p 0⟩, ⟨S256x128, p 1⟩, ⟨S256x128, p 2⟩, ⟨S256x128, p 3⟩, ⟨S256x128, p 4⟩, ⟨S256x128, p 5⟩,
      ⟨S256x128, p 6⟩, ⟨S256x128, p 7⟩]
      concatenates_S256x128_S256x128_S256x128_S256x128_S256x128_S256x128_S256x128_S256x128_S256x1024_d1 (ix2 j (col8 b d)) = p b (ix2 j d) :=
  concatenate_ofFn_apply (t := S256x1024) (s₁ := S256x128) (1 : Fin 2) p
    concatenates_S256x128_S256x128_S256x128_S256x128_S256x128_S256x128_S256x128_S256x128_S256x1024_d1 rfl 128 rfl (ix2 j (col8 b d)) b
    (by show (b.val * 128 + d.val) / 128 = b.val; omega) (ix2 j d) (by show d.val = (b.val * 128 + d.val) % 128; omega)
    fun a ha => match a with
      | ⟨0, _⟩ => rfl
      | ⟨1, _⟩ => absurd rfl ha

/-- The two stored blocks at an element. -/
theorem dqBlk_apply (r : Fin 512) (h : Fin 4) (d : Fin 128) : dqBlk q kv dox (ix2 r (qcol h d)) = dqT (R := 512) q kv dox h d r := by
  rw [dqBlk_eq]
  exact (beside (dqPart q kv dox) r h d).trans (dqPart_apply q kv dox h r d)

theorem kvBlk_apply (acc : Vec Ideal S256x1024 .f32) (j : Fin 256) (b : Fin 8) (d : Fin 128) :
    kvBlk q kv dox acc (ix2 j (col8 b d)) = acc (ix2 j (col8 b d)) + ∑ r : Fin 512, kvT (R := 512) q kv dox j b d r := by
  obtain ⟨k0, k1, k2, k3⟩ := keys_eq q kv dox
  obtain ⟨v0, v1, v2, v3⟩ := values_eq q kv dox
  unfold kvBlk
  rw [k0, k1, k2, k3, v0, v1, v2, v3]
  unfold k0_pay2
  rw [shapeCast_self]
  exact congrArg (acc (ix2 j (col8 b d)) + ·) ((beside8 (kvPart q kv dox) j b d).trans (kvPart_apply q kv dox b j d))

end Block

/-- What a point leaves in the two results' blocks: at the first point the gradient of the keys and values starts from zero, at a
    later one from what the point before left. -/
theorem out_A3 (c : Dev nD) (i : grid0.Coords) (a1 : Memref sig .tc .vmem S512x512 .bf16) (h1 : a1.IsWhole)
    (a2 : Memref sig .tc .vmem S256x1024 .bf16) (h2 : a2.IsWhole) (a3 : Memref sig .tc .vmem S512x512 .bf16) (h3 : a3.IsWhole)
    (a4 : Memref sig .tc .vmem S512x512 .bf16) (h4 : a4.IsWhole) (a5 : Memref sig .tc .vmem S256x1024 .f32) (h5 : a5.IsWhole)
    (hc0 : cond0_0 i) (x0 : Vec Ideal S512x512 .bf16) (x1 : Vec Ideal S256x1024 .bf16) (x2 : Vec Ideal S512x512 .bf16) :
    out0_A_3 c i a1 h1 a2 h2 a3 h3 a4 h4 a5 h5 hc0 x0 x1 x2 = dqBlk x0 x1 x2 := by
  unfold out0_A_3
  rw [View.read_writes_eq_canon _ _ _ (cover0_A_3 c i a1 h1 a2 h2 a3 h3 a4 h4 a5 h5 hc0 x0 x1 x2)]
  unfold kernelRun0_A
  dsimp only
  sl_unfold_words
  rw [View.canon_unit_zero hz2]
  simp only [View.readAt_eq_ld, h1.read_unread, h2.read_unread, h3.read_unread, h5.read_unread,
    View.ld_unit_zero (S := S512x512) hz2, View.ld_unit_zero (S := S256x1024) hz2, shapeCast_self]

theorem out_A4 (c : Dev nD) (i : grid0.Coords) (a1 : Memref sig .tc .vmem S512x512 .bf16) (h1 : a1.IsWhole)
    (a2 : Memref sig .tc .vmem S256x1024 .bf16) (h2 : a2.IsWhole) (a3 : Memref sig .tc .vmem S512x512 .bf16) (h3 : a3.IsWhole)
    (a4 : Memref sig .tc .vmem S512x512 .bf16) (h4 : a4.IsWhole) (a5 : Memref sig .tc .vmem S256x1024 .f32) (h5 : a5.IsWhole)
    (hc0 : cond0_0 i) (x0 : Vec Ideal S512x512 .bf16) (x1 : Vec Ideal S256x1024 .bf16) (x2 : Vec Ideal S512x512 .bf16) :
    out0_A_4 c i a1 h1 a2 h2 a3 h3 a4 h4 a5 h5 hc0 x0 x1 x2 = kvBlk x0 x1 x2 (k0_pay1 (F := Ideal)) := by
  unfold out0_A_4
  rw [View.read_writes_eq_canon _ _ _ (cover0_A_4 c i a1 h1 a2 h2 a3 h3 a4 h4 a5 h5 hc0 x0 x1 x2)]
  unfold kernelRun0_A
  dsimp only
  sl_unfold_words
  rw [View.canon_cons_unit_zero hz2, View.readCov_unit_zero (S := S256x1024) _ hz2]
  simp only [View.readAt_eq_ld, h1.read_unread, h2.read_unread, h3.read_unread, h5.read_unread,
    View.ld_unit_zero (S := S512x512) hz2, View.ld_unit_zero (S := S256x1024) hz2, shapeCast_self]

theorem out_B3 (c : Dev nD) (i : grid0.Coords) (a1 : Memref sig .tc .vmem S512x512 .bf16) (h1 : a1.IsWhole)
    (a2 : Memref sig .tc .vmem S256x1024 .bf16) (h2 : a2.IsWhole) (a3 : Memref sig .tc .vmem S512x512 .bf16) (h3 : a3.IsWhole)
    (a4 : Memref sig .tc .vmem S512x512 .bf16) (h4 : a4.IsWhole) (a5 : Memref sig .tc .vmem S256x1024 .f32) (h5 : a5.IsWhole)
    (hc0 : ¬cond0_0 i) (x0 : Vec Ideal S512x512 .bf16) (x1 : Vec Ideal S256x1024 .bf16) (x2 : Vec Ideal S512x512 .bf16)
    (xs : Vec Ideal S256x1024 .f32) :
    out0_B_3 c i a1 h1 a2 h2 a3 h3 a4 h4 a5 h5 hc0 x0 x1 x2 xs = dqBlk x0 x1 x2 := by
  unfold out0_B_3
  rw [View.read_writes_eq_canon _ _ _ (cover0_B_3 c i a1 h1 a2 h2 a3 h3 a4 h4 a5 h5 hc0 x0 x1 x2 xs)]
  unfold kernelRun0_B
  dsimp only
  sl_unfold_words
  rw [View.canon_unit_zero hz2]
  simp only [View.readAt_eq_ld, h1.read_unread, h2.read_unread, h3.read_unread, h5.read_unread,
    View.ld_unit_zero (S := S512x512) hz2, View.ld_unit_zero (S := S256x1024) hz2, shapeCast_self]

theorem out_B4 (c : Dev nD) (i : grid0.Coords) (a1 : Memref sig .tc .vmem S512x512 .bf16) (h1 : a1.IsWhole)
    (a2 : Memref sig .tc .vmem S256x1024 .bf16) (h2 : a2.IsWhole) (a3 : Memref sig .tc .vmem S512x512 .bf16) (h3 : a3.IsWhole)
    (a4 : Memref sig .tc .vmem S512x512 .bf16) (h4 : a4.IsWhole) (a5 : Memref sig .tc .vmem S256x1024 .f32) (h5 : a5.IsWhole)
    (hc0 : ¬cond0_0 i) (x0 : Vec Ideal S512x512 .bf16) (x1 : Vec Ideal S256x1024 .bf16) (x2 : Vec Ideal S512x512 .bf16)
    (xs : Vec Ideal S256x1024 .f32) :
    out0_B_4 c i a1 h1 a2 h2 a3 h3 a4 h4 a5 h5 hc0 x0 x1 x2 xs = kvBlk x0 x1 x2 xs := by
  unfold out0_B_4
  rw [View.read_writes_eq_canon _ _ _ (cover0_B_4 c i a1 h1 a2 h2 a3 h3 a4 h4 a5 h5 hc0 x0 x1 x2 xs)]
  unfold kernelRun0_B
  dsimp only
  sl_unfold_words
  rw [View.canon_unit_zero hz2]
  simp only [View.readAt_eq_ld, h1.read_unread, h2.read_unread, h3.read_unread, h5.read_unread,
    View.ld_unit_zero (S := S512x512) hz2, View.ld_unit_zero (S := S256x1024) hz2, shapeCast_self]

/-- The two results' blocks after a point. -/
theorem block3 (c : Dev nD) (t : Fin cfg0.N) :
    (outsAt0 m c t.val t.isLt).1 = dqBlk (iblk m c 0 t) (iblk m c 1 t) (iblk m c 2 t) := by
  by_cases h : t.val % 8 = 0
  · rw [outsAt0_A m c t h]; dsimp only; rw [out_A3]
  · rw [outsAt0_B m c t h]; dsimp only; rw [out_B3]

theorem acc_A (c : Dev nD) (t : Fin cfg0.N) (h : t.val % 8 = 0) :
    (outsAt0 m c t.val t.isLt).2 = kvBlk (iblk m c 0 t) (iblk m c 1 t) (iblk m c 2 t) (k0_pay1 (F := Ideal)) := by
  rw [outsAt0_A m c t h]; dsimp only; rw [out_A4]

theorem acc_B (c : Dev nD) (t : Fin cfg0.N) (h : ¬t.val % 8 = 0) :
    (outsAt0 m c t.val t.isLt).2 = kvBlk (iblk m c 0 t) (iblk m c 1 t) (iblk m c 2 t)
      (outsAt0 m c (t.val - 1) (Nat.lt_of_le_of_lt (Nat.sub_le _ _) t.isLt)).2 := by
  rw [outsAt0_B m c t h]; dsimp only; rw [out_B4]

/-! ## The reference at an element -/

/-- Columns of zeros put before and after an array's columns, at an element. -/
theorem pad_cols {R A B : ℕ} (lo hi : ℕ) (x : (⟨2, ![R, A]⟩ : Shape).Idx → EReal) (v : Cert.XattnBwdRefIdeal.S_.Idx → EReal)
    (h : Shape.Pads ⟨2, ![R, A]⟩ ![0, lo] ![0, hi] ![0, 0] ⟨2, ![R, B]⟩) (hu : 0 < Cert.XattnBwdRefIdeal.S_.numel)
    (hv : v (Shape.Idx.first hu) = 0) (j : Fin R) (n : Fin B) :
    pad ⟨2, ![R, B]⟩ ![0, lo] ![0, hi] ![0, 0] x v h hu (ix2 j n)
      = if h : lo ≤ n.val ∧ n.val - lo < A then x (ix2 j ⟨n.val - lo, h.2⟩) else 0 := by
  split
  · next h' =>
    exact pad_apply_of_inside _ _ _ _ _ _ _ _ _ fun a => match a with
      | ⟨0, _⟩ => by show j.val = 0 + j.val * 1; omega
      | ⟨1, _⟩ => by show n.val = lo + (n.val - lo) * 1; omega
  · next h' =>
    refine (pad_apply_of_not_inside _ _ _ _ _ _ _ _ 1 fun hin => h' ⟨hin.1, ?_⟩).trans hv
    have := hin.2.2
    have e : (n.val - lo) / 1 < A := this
    omega

section Reference
variable (x0 : (⟨S4096x512, .bf16⟩ : BufTy).Contents (Elt Ideal)) (x1 : (⟨S256x1024, .bf16⟩ : BufTy).Contents (Elt Ideal))
  (x2 : (⟨S4096x512, .bf16⟩ : BufTy).Contents (Elt Ideal))

/-- The reference's queries, keys, values and gradient by heads, its exponentials and its softmax: as in the forward call. -/
theorem q_at (r : Fin 4096) (h : Fin 4) (d : Fin 128) : val_main_v2 (F := Ideal) x0 (ix3 r h d) = x0 (ix2 r (qcol h d)) :=
  XattnValue.q_at x0 r h d
theorem k_at (j : Fin 256) (h : Fin 4) (d : Fin 128) : val_main_v4 (F := Ideal) x1 (ix3 j h d) = x1 (ix2 j (kcol h d)) :=
  XattnValue.k_at x1 j h d
theorem v_at (j : Fin 256) (h : Fin 4) (d : Fin 128) : val_main_v6 (F := Ideal) x1 (ix3 j h d) = x1 (ix2 j (vcol h d)) :=
  XattnValue.v_at x1 j h d
theorem do_at (r : Fin 4096) (h : Fin 4) (d : Fin 128) : val_main_v42 (F := Ideal) x2 (ix3 r h d) = x2 (ix2 r (qcol h d)) :=
  XattnValue.q_at x2 r h d
theorem ex_at (h : Fin 4) (r : Fin 4096) (j : Fin 256) : val_main_v30 (F := Ideal) x0 x1 (ix3 h r j) = ex (rs x0 x1 h r) j :=
  XattnValue.exp_at x0 x1 h r j
theorem soft_at (h : Fin 4) (r : Fin 4096) (j : Fin 256) : val_main_v34 (F := Ideal) x0 x1 (ix3 h r j) = soft (rs x0 x1 h r) j :=
  XattnValue.soft_at x0 x1 h r j

theorem exSum_at (h : Fin 4) (r : Fin 4096) (z : Fin 1) : val_main_v32 (F := Ideal) x0 x1 (ix3 h r z) = exSum (rs x0 x1 h r) := by
  have e : idx_main_v32 (ix3 h r z) = ix2 h r := funext fun a => Fin.ext (match a with | ⟨0, _⟩ => rfl | ⟨1, _⟩ => rfl)
  have ek : ∀ l, idx_main_v31 (ix2 h r) l = ix3 h r l := fun l =>
    funext fun a => Fin.ext (match a with | ⟨0, _⟩ => rfl | ⟨1, _⟩ => rfl | ⟨2, _⟩ => rfl)
  rw [val_main_v32_apply, e, val_main_v31_apply, val_main_cst_8_apply]
  simp only [ek, ex_at, pointwise, zero_add]
  rfl

/-- The gradient of the softmax, -/
theorem g_at (h : Fin 4) (r : Fin 4096) (j : Fin 256) : val_main_v44 (F := Ideal) x1 x2 (ix3 h r j) = rg x2 x1 h r j := by
  rw [val_main_v44_apply]
  refine Finset.sum_congr rfl fun d _ => ?_
  have el : idx_main_v43 (lidx_main_v44 (ix3 h r j) d) = ix3 r h d := funext fun a => Fin.ext (match a with | ⟨0, _⟩ => rfl | ⟨1, _⟩ => rfl | ⟨2, _⟩ => rfl)
  have er : ridx_main_v44 (ix3 h r j) d = ix3 j h d := funext fun a => Fin.ext (match a with | ⟨0, _⟩ => rfl | ⟨1, _⟩ => rfl | ⟨2, _⟩ => rfl)
  rw [val_main_v43_apply, el, er, do_at, v_at]

/-- of the sum it divides by, -/
theorem z_at (h : Fin 4) (r : Fin 4096) : val_main_v55 (F := Ideal) x0 x1 x2 (ix2 h r)
    = -(∑ l, rg x2 x1 h r l * Ideal.div 1 (exSum (rs x0 x1 h r) * exSum (rs x0 x1 h r)) * ex (rs x0 x1 h r) l) := by
  have e5 : idx_main_v55 (ix2 h r) 0 = ix3 h r 0 := funext fun a => Fin.ext (match a with | ⟨0, _⟩ => rfl | ⟨1, _⟩ => rfl | ⟨2, _⟩ => rfl)
  have e1 : idx_main_v51 (ix3 h r 0) = ix2 h r := by
    refine funext fun a => Fin.ext ?_
    match a with
    | ⟨0, _⟩ => show ((h.val * 4096 + r.val) * 1 + 0) / 4096 = h.val; omega
    | ⟨1, _⟩ => show ((h.val * 4096 + r.val) * 1 + 0) % 4096 = r.val; omega
  have ek : ∀ l, idx_main_v50 (ix2 h r) l = ix3 h r l := fun l =>
    funext fun a => Fin.ext (match a with | ⟨0, _⟩ => rfl | ⟨1, _⟩ => rfl | ⟨2, _⟩ => rfl)
  have e7 : ∀ l : Fin 256, idx_main_v47 (ix3 h r l) = ix3 h r 0 := fun l =>
    funext fun a => Fin.ext (match a with | ⟨0, _⟩ => rfl | ⟨1, _⟩ => rfl | ⟨2, _⟩ => rfl)
  rw [val_main_v55_apply, val_main_cst_11_apply]
  simp only [Finset.univ_unique, Finset.sum_singleton]
  rw [show (default : Fin 1) = 0 from rfl, e5, val_main_v52_apply, val_main_v51_apply, e1, val_main_v50_apply, val_main_cst_10_apply]
  simp only [ek, val_main_v49_apply, val_main_v48_apply, val_main_v47_apply, e7, val_main_v37_apply, val_main_v36_apply,
    val_main_cst_9_apply, val_main_v35_apply, exSum_at, g_at, ex_at, pointwise, zero_add]

/-- and of the scores. -/
theorem ds_at (h : Fin 4) (r : Fin 4096) (j : Fin 256) :
    val_main_v60 (F := Ideal) x0 x1 x2 (ix3 h r j) = vjp (rs x0 x1 h r) (rg x2 x1 h r) j := by
  have e3 : idx_main_v53 (ix3 h r j) = ix3 h r 0 := funext fun a => Fin.ext (match a with | ⟨0, _⟩ => rfl | ⟨1, _⟩ => rfl | ⟨2, _⟩ => rfl)
  have e6 : idx_main_v56 (ix3 h r j) = ix2 h r := funext fun a => Fin.ext (match a with | ⟨0, _⟩ => rfl | ⟨1, _⟩ => rfl)
  rw [val_main_v60_apply, val_main_v58_apply, val_main_v57_apply, val_main_v54_apply, val_main_v53_apply, val_main_v56_apply, e3, e6,
    exSum_at, z_at, g_at, ex_at, val_main_v59_apply]
  rfl

/-- What the precondition gives: real scores. -/
theorem rs_real (h0 : ∀ i, ∃ r : ℝ, x0 i = (r : EReal)) (h1 : ∀ j h d, ∃ r : ℝ, x1 (ix2 j (kcol h d)) = (r : EReal)) (h : Fin 4) (r : Fin 4096) (j : Fin 256) :
    ∃ u : ℝ, rs x0 x1 h r j = u := by
  obtain ⟨a, ha⟩ := real_sum (fun d => x0 (ix2 r (qcol h d))) (fun d => x1 (ix2 j (kcol h d))) (fun _ => h0 _) (fun _ => h1 _ _ _)
  obtain ⟨b, hb⟩ : ∃ b : ℝ, Ideal.ofBits .f32 0x3DB504F3#32 = (b : EReal) := ⟨_, by simp [Ideal.ofBits, Ideal.ieee, -EReal.coe_mul]; rfl⟩
  refine ⟨a * b, ?_⟩
  unfold rs score
  rw [ha, hb, EReal.coe_mul]

variable (h0 : ∀ i, ∃ r : ℝ, x0 i = (r : EReal)) (h1 : ∀ j h d, ∃ r : ℝ, x1 (ix2 j (kcol h d)) = (r : EReal))
include h0 h1

theorem ds_at' (h : Fin 4) (r : Fin 4096) (j : Fin 256) :
    val_main_v60 (F := Ideal) x0 x1 x2 (ix3 h r j) = deriv (rs x0 x1 h r) (rg x2 x1 h r) j :=
  (ds_at x0 x1 x2 h r j).trans (deriv_eq _ _ (rs_real x0 x1 h0 h1 h r) j).symm

/-- The reference's gradient of the queries at an element. -/
theorem ref_dq (r : Fin 4096) (h : Fin 4) (d : Fin 128) : val_main_v71 (F := Ideal) x0 x1 x2 (ix2 r (qcol h d)) = dqT x0 x1 x2 h d r := by
  have e : idx_main_v64 (idx_main_v70 (ix2 r (qcol h d))) = ix3 h r d := by
    refine funext fun a => Fin.ext ?_
    match a with
    | ⟨0, _⟩ => show (r.val * 512 + (h.val * 128 + d.val)) / 128 % 4 = h.val; omega
    | ⟨1, _⟩ => show (r.val * 512 + (h.val * 128 + d.val)) / 512 = r.val; omega
    | ⟨2, _⟩ => show (r.val * 512 + (h.val * 128 + d.val)) % 128 = d.val; omega
  rw [val_main_v71_apply, val_main_v70_apply, val_main_v64_apply, e]
  refine (val_main_v63_apply x0 x1 x2 _).trans (Finset.sum_congr rfl fun j _ => ?_)
  have el : lidx_main_v63 (ix3 h r d) j = ix3 h r j := funext fun a => Fin.ext (match a with | ⟨0, _⟩ => rfl | ⟨1, _⟩ => rfl | ⟨2, _⟩ => rfl)
  have er : ridx_main_v63 (ix3 h r d) j = ix3 j h d := funext fun a => Fin.ext (match a with | ⟨0, _⟩ => rfl | ⟨1, _⟩ => rfl | ⟨2, _⟩ => rfl)
  rw [el, er, k_at, ds_at' x0 x1 x2 h0 h1]

/-- Its gradients of the keys and of the values at an element, before they are put side by side. -/
theorem ref_dk (j : Fin 256) (h : Fin 4) (d : Fin 128) : val_main_v67 (F := Ideal) x0 x1 x2 (ix2 j (qcol h d))
    = ∑ r, deriv (rs x0 x1 h r) (rg x2 x1 h r) j * x0 (ix2 r (qcol h d)) := by
  have e : idx_main_v62 (idx_main_v67 (ix2 j (qcol h d))) = ix3 h j d := by
    refine funext fun a => Fin.ext ?_
    match a with
    | ⟨0, _⟩ => show (j.val * 512 + (h.val * 128 + d.val)) / 128 % 4 = h.val; omega
    | ⟨1, _⟩ => show (j.val * 512 + (h.val * 128 + d.val)) / 512 = j.val; omega
    | ⟨2, _⟩ => show (j.val * 512 + (h.val * 128 + d.val)) % 128 = d.val; omega
  rw [val_main_v67_apply, val_main_v62_apply, e]
  refine (val_main_v61_apply x0 x1 x2 _).trans (Finset.sum_congr rfl fun r _ => ?_)
  have el : lidx_main_v61 (ix3 h j d) r = ix3 h r j := funext fun a => Fin.ext (match a with | ⟨0, _⟩ => rfl | ⟨1, _⟩ => rfl | ⟨2, _⟩ => rfl)
  have er : ridx_main_v61 (ix3 h j d) r = ix3 r h d := funext fun a => Fin.ext (match a with | ⟨0, _⟩ => rfl | ⟨1, _⟩ => rfl | ⟨2, _⟩ => rfl)
  rw [el, er, q_at, ds_at' x0 x1 x2 h0 h1]

omit h0 h1 in
theorem ref_dv (j : Fin 256) (h : Fin 4) (d : Fin 128) : val_main_v65 (F := Ideal) x0 x1 x2 (ix2 j (qcol h d))
    = ∑ r, soft (rs x0 x1 h r) j * x2 (ix2 r (qcol h d)) := by
  have e : idx_main_v46 (idx_main_v65 (ix2 j (qcol h d))) = ix3 h d j := by
    refine funext fun a => Fin.ext ?_
    match a with
    | ⟨0, _⟩ => show (j.val * 512 + (h.val * 128 + d.val)) / 128 % 4 = h.val; omega
    | ⟨1, _⟩ => show (j.val * 512 + (h.val * 128 + d.val)) % 128 = d.val; omega
    | ⟨2, _⟩ => show (j.val * 512 + (h.val * 128 + d.val)) / 512 = j.val; omega
  rw [val_main_v65_apply, val_main_v46_apply, e]
  refine (val_main_v45_apply x0 x1 x2 _).trans (Finset.sum_congr rfl fun r _ => ?_)
  have el : idx_main_v43 (lidx_main_v45 (ix3 h d j) r) = ix3 r h d := funext fun a => Fin.ext (match a with | ⟨0, _⟩ => rfl | ⟨1, _⟩ => rfl | ⟨2, _⟩ => rfl)
  have er : ridx_main_v45 (ix3 h d j) r = ix3 h r j := funext fun a => Fin.ext (match a with | ⟨0, _⟩ => rfl | ⟨1, _⟩ => rfl | ⟨2, _⟩ => rfl)
  rw [val_main_v43_apply, el, er, do_at, soft_at]
  exact mul_comm _ _

/-- The two side by side: the reference's gradient of the keys and values at an element. -/
theorem ref_kv (j : Fin 256) (b : Fin 8) (d : Fin 128) :
    val_main_v69 (F := Ideal) x0 x1 x2 (ix2 j (col8 b d)) = ∑ r : Fin 4096, kvT x0 x1 x2 j b d r := by
  have hb := b.isLt
  have hd' := d.isLt
  have e66 := pad_cols 512 0 (val_main_v65 (F := Ideal) x0 x1 x2) (val_main_cst_13 (F := Ideal))
    Cert.XattnBwdRefIdeal.Gen.pads_S256x512_S256x1024_000_51200 Cert.XattnBwdRefIdeal.Gen.h_S_
    (by rw [val_main_cst_13_apply]; simp only [pointwise]) j (col8 b d)
  have e68 := pad_cols 0 512 (val_main_v67 (F := Ideal) x0 x1 x2) (val_main_cst_14 (F := Ideal))
    Cert.XattnBwdRefIdeal.Gen.pads_S256x512_S256x1024_000_05120 Cert.XattnBwdRefIdeal.Gen.h_S_
    (by rw [val_main_cst_14_apply]; simp only [pointwise]) j (col8 b d)
  refine (congrArg₂ (fun a b : EReal => a + b) e66 e68).trans ?_
  unfold kvT
  by_cases h : b.val < 4
  · rw [dif_neg (by show ¬(512 ≤ b.val * 128 + d.val ∧ b.val * 128 + d.val - 512 < 512); omega),
      dif_pos (by show 0 ≤ b.val * 128 + d.val ∧ b.val * 128 + d.val - 0 < 512; omega), zero_add]
    simp only [if_pos h]
    refine Eq.trans (congrArg (fun n => val_main_v67 (F := Ideal) x0 x1 x2 (ix2 j n)) (Fin.ext ?_)) (ref_dk x0 x1 x2 h0 h1 j (hd b) d)
    show b.val * 128 + d.val - 0 = b.val % 4 * 128 + d.val
    omega
  · rw [dif_pos (by show 512 ≤ b.val * 128 + d.val ∧ b.val * 128 + d.val - 512 < 512; omega),
      dif_neg (by show ¬(0 ≤ b.val * 128 + d.val ∧ b.val * 128 + d.val - 0 < 512); omega), add_zero]
    simp only [if_neg h]
    refine Eq.trans (congrArg (fun n => val_main_v65 (F := Ideal) x0 x1 x2 (ix2 j n)) (Fin.ext ?_)) (ref_dv x0 x1 x2 j (hd b) d)
    show b.val * 128 + d.val - 512 = b.val % 4 * 128 + d.val
    omega

end Reference

/-! ## The arrays after the run -/

/-- The block indices of the windows: row block `t` of the queries, of the gradient and of the queries' gradient, and the whole keys and
    values and their whole gradient. -/
theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) :=
  (by decide +kernel : ∀ t : Fin grid0.N, _)

/-- The array's row of row `r` of the block at point `t`. -/
abbrev row (t : Fin cfg0.N) (r : Fin 512) : Fin 4096 := ⟨t.val * 512 + r.val, by have h : t.val < 8 := t.isLt; omega⟩

/-- The arrays of a device as launched: the queries, the keys and values, and the gradient. -/
abbrev A0 (c : Dev nD) : (⟨S4096x512, .bf16⟩ : BufTy).Contents (Elt Ideal) := m ((c : Thread nD τ).loc main_arg0)
abbrev A1 (c : Dev nD) : (⟨S256x1024, .bf16⟩ : BufTy).Contents (Elt Ideal) := m ((c : Thread nD τ).loc main_arg1)
abbrev A2 (c : Dev nD) : (⟨S4096x512, .bf16⟩ : BufTy).Contents (Elt Ideal) := m ((c : Thread nD τ).loc main_arg2)

/-- Where a block's elements sit in their array. -/
theorem emb023 (t : Fin cfg0.N) (r : Fin 512) (n : Fin 512) : (win0_0.rect t).emb (ix2 r n) = ix2 (row t r) n
    ∧ (win0_2.rect t).emb (ix2 r n) = ix2 (row t r) n ∧ (win0_3.rect t).emb (ix2 r n) = ix2 (row t r) n := by
  obtain ⟨⟨h0, h1⟩, -, ⟨h2, h3⟩, ⟨h4, h5⟩, -⟩ := idx_facts t
  refine ⟨funext fun a => Fin.ext ?_, funext fun a => Fin.ext ?_, funext fun a => Fin.ext ?_⟩
  · match a with
    | ⟨0, _⟩ => exact (win0_0.rect_emb_val t _ 0).trans (by rw [h0]; rfl)
    | ⟨1, _⟩ => exact (win0_0.rect_emb_val t _ 1).trans (by rw [h1]; exact (Nat.zero_mul _).symm ▸ Nat.zero_add _)
  · match a with
    | ⟨0, _⟩ => exact (win0_2.rect_emb_val t _ 0).trans (by rw [h2]; rfl)
    | ⟨1, _⟩ => exact (win0_2.rect_emb_val t _ 1).trans (by rw [h3]; exact (Nat.zero_mul _).symm ▸ Nat.zero_add _)
  · match a with
    | ⟨0, _⟩ => exact (win0_3.rect_emb_val t _ 0).trans (by rw [h4]; rfl)
    | ⟨1, _⟩ => exact (win0_3.rect_emb_val t _ 1).trans (by rw [h5]; exact (Nat.zero_mul _).symm ▸ Nat.zero_add _)

theorem emb14 (t : Fin cfg0.N) (j : Fin 256) (n : Fin 1024) :
    (win0_1.rect t).emb (ix2 j n) = ix2 j n ∧ (win0_4.rect t).emb (ix2 j n) = ix2 j n := by
  obtain ⟨-, ⟨h0, h1⟩, -, -, ⟨h2, h3⟩⟩ := idx_facts t
  refine ⟨funext fun a => Fin.ext ?_, funext fun a => Fin.ext ?_⟩
  · match a with
    | ⟨0, _⟩ => exact (win0_1.rect_emb_val t _ 0).trans (by rw [h0]; exact (Nat.zero_mul _).symm ▸ Nat.zero_add _)
    | ⟨1, _⟩ => exact (win0_1.rect_emb_val t _ 1).trans (by rw [h1]; exact (Nat.zero_mul _).symm ▸ Nat.zero_add _)
  · match a with
    | ⟨0, _⟩ => exact (win0_4.rect_emb_val t _ 0).trans (by rw [h2]; exact (Nat.zero_mul _).symm ▸ Nat.zero_add _)
    | ⟨1, _⟩ => exact (win0_4.rect_emb_val t _ 1).trans (by rw [h3]; exact (Nat.zero_mul _).symm ▸ Nat.zero_add _)

/-- The argument blocks at an element. -/
theorem q_blk (c : Dev nD) (t : Fin cfg0.N) (r : Fin 512) (n : Fin 512) : iblk m c 0 t (ix2 r n) = A0 m c (ix2 (row t r) n) :=
  (congrFun (V_main_arg0 m c) _).trans (congrArg (A0 m c) (emb023 t r n).1)
theorem kv_blk (c : Dev nD) (t : Fin cfg0.N) (j : Fin 256) (n : Fin 1024) : iblk m c 1 t (ix2 j n) = A1 m c (ix2 j n) :=
  (congrFun (V_main_arg1 m c) _).trans (congrArg (A1 m c) (emb14 t j n).1)
theorem do_blk (c : Dev nD) (t : Fin cfg0.N) (r : Fin 512) (n : Fin 512) : iblk m c 2 t (ix2 r n) = A2 m c (ix2 (row t r) n) :=
  (congrFun (V_main_arg2 m c) _).trans (congrArg (A2 m c) (emb023 t r n).2.1)

/-- A block row's scores, the gradient of their softmax and the row's terms are the array row's. -/
theorem rs_blk (c : Dev nD) (t : Fin cfg0.N) (h : Fin 4) (r : Fin 512) :
    rs (R := 512) (iblk m c 0 t) (iblk m c 1 t) h r = rs (A0 m c) (A1 m c) h (row t r) :=
  congrArg₂ score (funext fun d => q_blk m c t r _) (funext fun j => funext fun d => kv_blk m c t j _)

theorem rg_blk (c : Dev nD) (t : Fin cfg0.N) (h : Fin 4) (r : Fin 512) :
    rg (R := 512) (iblk m c 2 t) (iblk m c 1 t) h r = rg (A2 m c) (A1 m c) h (row t r) :=
  funext fun j => Finset.sum_congr rfl fun d _ => congrArg₂ (fun a b : EReal => a * b) (do_blk m c t r _) (kv_blk m c t j _)

theorem dqT_blk (c : Dev nD) (t : Fin cfg0.N) (h : Fin 4) (d : Fin 128) (r : Fin 512) :
    dqT (R := 512) (iblk m c 0 t) (iblk m c 1 t) (iblk m c 2 t) h d r = dqT (A0 m c) (A1 m c) (A2 m c) h d (row t r) :=
  Finset.sum_congr rfl fun j _ => congrArg₂ (fun a b : EReal => a * b)
    (congrArg₂ (fun s g => deriv s g j) (rs_blk m c t h r) (rg_blk m c t h r)) (kv_blk m c t j _)

theorem kvT_blk (c : Dev nD) (t : Fin cfg0.N) (j : Fin 256) (b : Fin 8) (d : Fin 128) (r : Fin 512) :
    kvT (R := 512) (iblk m c 0 t) (iblk m c 1 t) (iblk m c 2 t) j b d r = kvT (A0 m c) (A1 m c) (A2 m c) j b d (row t r) := by
  unfold kvT
  split
  · exact congrArg₂ (fun a b : EReal => a * b)
      (congrArg₂ (fun s g => deriv s g j) (rs_blk m c t _ r) (rg_blk m c t _ r)) (q_blk m c t r _)
  · exact congrArg₂ (fun a b : EReal => a * b) (congrArg (fun s => soft s j) (rs_blk m c t _ r)) (do_blk m c t r _)

/-- The gradient of the keys and values after a point: the blocks so far. -/
def part (c : Dev nD) (j : Fin 256) (b : Fin 8) (d : Fin 128) (s : ℕ) : EReal :=
  if h : s < 8 then ∑ r : Fin 512, kvT (A0 m c) (A1 m c) (A2 m c) j b d (row ⟨s, h⟩ r) else 0
def acc (c : Dev nD) (j : Fin 256) (b : Fin 8) (d : Fin 128) (s : ℕ) : EReal :=
  if h : s < 8 then (outsAt0 m c s h).2 (ix2 j (col8 b d)) else 0

theorem part_block (c : Dev nD) (t : Fin cfg0.N) (v : Vec Ideal S256x1024 .f32) (j : Fin 256) (b : Fin 8) (d : Fin 128) :
    kvBlk (iblk m c 0 t) (iblk m c 1 t) (iblk m c 2 t) v (ix2 j (col8 b d))
      = v (ix2 j (col8 b d)) + ∑ r : Fin 512, kvT (A0 m c) (A1 m c) (A2 m c) j b d (row t r) :=
  (kvBlk_apply _ _ _ v j b d).trans (congrArg (v (ix2 j (col8 b d)) + ·) (Finset.sum_congr rfl fun r _ => kvT_blk m c t j b d r))

theorem acc_eq (c : Dev nD) (j : Fin 256) (b : Fin 8) (d : Fin 128) (s : ℕ) (h : s < 8) :
    acc m c j b d s = ∑ u ∈ Finset.range (s + 1), part m c j b d u := by
  refine Norm.fold_sum _ _ ?_ 8 (fun k hk => ?_) s h
  · rw [acc, part, dif_pos (by omega), dif_pos (by omega)]
    refine (congrFun (acc_A m c ⟨0, by decide⟩ rfl) _).trans ((part_block m c ⟨0, by decide⟩ _ j b d).trans ?_)
    exact (congrArg (· + _) (show k0_pay1 (F := Ideal) (ix2 j (col8 b d)) = 0 from by unfold k0_pay1; simp only [pointwise])).trans (zero_add _)
  · rw [acc, acc, part, dif_pos hk, dif_pos (by omega), dif_pos hk]
    exact (congrFun (acc_B m c ⟨k + 1, hk⟩ (by show ¬(k + 1) % 8 = 0; omega)) _).trans (part_block m c ⟨k + 1, hk⟩ _ j b d)

/-- What the precondition says: every element of the queries and of the keys is a real number. -/
theorem real_args (hpre : Cert.Pre_XattnBwdIdeal_finite_xattn (hPre_finite_xattn := preFacts) m) (c : Dev nD) :
    (∀ i, ∃ r : ℝ, A0 m c i = (r : EReal)) ∧ (∀ j h d, ∃ r : ℝ, A1 m c (ix2 j (kcol h d)) = (r : EReal)) := by
  obtain ⟨h0, h1⟩ := hpre c
  refine ⟨fun i => real_of_test _ _ (congrFun h0 i), fun j h d => ?_⟩
  obtain ⟨r, hr⟩ := real_of_test _ _ (congrFun h1 (ix2 j (qcol h d)))
  refine ⟨r, Eq.trans (extractStridedSlice_apply _ (A1 m c) _ _ _ fun a => ?_).symm hr⟩
  match a with
  | ⟨0, _⟩ => exact (Nat.zero_add _).symm
  | ⟨1, _⟩ => exact (Nat.zero_add _).symm

/-- The two gradients: the arrays after the run are the reference's. -/
theorem final_dq (hpre : Cert.Pre_XattnBwdIdeal_finite_xattn (hPre_finite_xattn := preFacts) m) (c : Dev nD) :
    (dats m 0 c).arrAt 3 cfg0.N = val_main_v71 (F := Ideal) (A0 m c) (A1 m c) (A2 m c) := by
  obtain ⟨hr0, hr1⟩ := real_args m hpre c
  refine (dats m 0 c).arrAt_eq_of_cover 3 _ (fun t hf => ?_) (fun i => ?_)
  · rw [Cert.XattnBwdIdeal.Value.flushed3, block3]
    funext y
    obtain ⟨r, h, d, rfl⟩ : ∃ r h d, y = ix2 r (qcol h d) := by
      have h1 : (y 1).val < 512 := (y 1).isLt
      refine ⟨y 0, ⟨(y 1).val / 128, by omega⟩, ⟨(y 1).val % 128, by omega⟩, funext fun a => Fin.ext ?_⟩
      match a with
      | ⟨0, _⟩ => rfl
      | ⟨1, _⟩ => show (y 1).val = (y 1).val / 128 * 128 + (y 1).val % 128; omega
    refine (dqBlk_apply (iblk m c 0 t) (iblk m c 1 t) (iblk m c 2 t) r h d).trans ?_
    show _ = val_main_v71 (F := Ideal) _ _ _ ((win0_3.rect t).emb (ix2 r (qcol h d)))
    rw [(emb023 t r _).2.2, ref_dq _ _ _ hr0 hr1]
    exact dqT_blk m c t h d r
  · obtain ⟨r, n, rfl⟩ : ∃ r n, i = ix2 r n := ⟨i 0, i 1, eq_ix2 i⟩
    have hr : r.val < 4096 := r.isLt
    let t : Fin cfg0.N := ⟨r.val / 512, by show _ < 8; omega⟩
    have e : (win0_3.rect t).emb (ix2 (⟨r.val % 512, by omega⟩ : Fin 512) n) = ix2 r n :=
      (emb023 t _ n).2.2.trans (congrArg (fun r => ix2 r n) (Fin.ext (by show r.val / 512 * 512 + r.val % 512 = r.val; omega)))
    rw [← e]
    exact ⟨t, flush0_3 t, View.emb_mem_set ((cfg0.win 3).blk t).view _⟩

theorem final_dkv (hpre : Cert.Pre_XattnBwdIdeal_finite_xattn (hPre_finite_xattn := preFacts) m) (c : Dev nD) :
    (dats m 0 c).arrAt 4 cfg0.N = val_main_v69 (F := Ideal) (A0 m c) (A1 m c) (A2 m c) := by
  obtain ⟨hr0, hr1⟩ := real_args m hpre c
  refine (dats m 0 c).arrAt_eq_of_cover 4 _ (fun t hf => ?_) (fun i => ?_)
  · have h7 : t.val % 8 = 7 := (flush0_4 t).mp hf
    have hN : t.val < 8 := t.isLt
    obtain rfl : t = ⟨7, by decide⟩ := Fin.ext (by show t.val = 7; omega)
    rw [Cert.XattnBwdIdeal.Value.flushed4]
    funext y
    obtain ⟨j, b, d, rfl⟩ : ∃ j b d, y = ix2 j (col8 b d) := by
      have h1 : (y 1).val < 1024 := (y 1).isLt
      refine ⟨y 0, ⟨(y 1).val / 128, by omega⟩, ⟨(y 1).val % 128, by omega⟩, funext fun a => Fin.ext ?_⟩
      match a with
      | ⟨0, _⟩ => rfl
      | ⟨1, _⟩ => show (y 1).val = (y 1).val / 128 * 128 + (y 1).val % 128; omega
    show (outsAt0 m c 7 (by decide)).2 (ix2 j (col8 b d)) = val_main_v69 (F := Ideal) _ _ _ ((win0_4.rect ⟨7, by decide⟩).emb (ix2 j (col8 b d)))
    rw [(emb14 _ j _).2, ref_kv _ _ _ hr0 hr1, sum_chunks (a := 8) (b := 512) rfl]
    have h := acc_eq m c j b d 7 (by decide)
    rw [acc, dif_pos (by decide), Finset.sum_range] at h
    refine h.trans (Finset.sum_congr rfl fun s _ => ?_)
    rw [part, dif_pos s.isLt]
  · obtain ⟨j, n, rfl⟩ : ∃ j n, i = ix2 j n := ⟨i 0, i 1, eq_ix2 i⟩
    rw [← (emb14 ⟨7, by decide⟩ j n).2]
    exact ⟨⟨7, by decide⟩, (flush0_4 _).mpr rfl, View.emb_mem_set ((cfg0.win 4).blk ⟨7, by decide⟩).view _⟩

/-- On finite queries and keys the kernel computes the reference's two gradients: started with the same arguments, both
    programs' runs end with the same results and with the arguments unchanged. -/
theorem algebraic : Cert.algebraic_XattnBwdIdeal_XattnBwdRefIdeal_pre_finite_xattn (hPre_finite_xattn := preFacts) := by
  intro m g m' g' hpre hagree
  refine ⟨fun c => val_main_v71 (F := Ideal) (A0 m c) (A1 m c) (A2 m c), fun c => val_main_v69 (F := Ideal) (A0 m c) (A1 m c) (A2 m c),
    (θ_run _ _ _).mono (fun r h c => ?_) (Cert.XattnBwdIdeal.Value.run_blocks (F := Ideal) m g),
    (θ_run _ _ _).mono (fun r h c => ?_) (Cert.XattnBwdRefIdeal.Value.run (F := Ideal) m' g')⟩
  · exact ⟨(h c).1.trans (final_dq m hpre c), (h c).2.1.trans (final_dkv m hpre c), (h c).2.2⟩
  · obtain ⟨a0, a1, a2⟩ := hagree c
    refine ⟨(h c).1.trans ?_, (h c).2.1.trans ?_, (h c).2.2⟩
    · exact (val_main_v71_eq m' c).trans (by rw [a0, a1, a2])
    · exact (val_main_v69_eq m' c).trans (by rw [a0, a1, a2])

/-- The reference's own run ends, with its arguments unchanged and every counter at zero. -/
theorem frame_reference : Cert.quiescent_XattnBwdRefIdeal := fun m ρ _ =>
  (θ_run Cert.XattnBwdRefIdeal.defs _ _).mono (fun r h => ⟨fun c => (h c).2.2, Idealize.ShloMosaic.sem_eq_zero_of_no_sems (by decide) r.2⟩)
    (Cert.XattnBwdRefIdeal.Value.run (F := Ideal) m ρ)

end Cert.Proof.XattnBwdValue

end
-- ==== Proof.XqValue.lean ====
/-
  The value of the forward call `mm_xq`: the cross attention's queries, each block of 1024 rows one product over the 2048 columns
  of the normed rows. It is the projection the reference program computes.
-/
module

public import proofs.«01_k».proof.Proof.Gen.XqIdeal.Value
public import proofs.«01_k».proof.Proof.Gen.XqRefIdeal.Read
public import proofs.«01_k».proof.Proof.Gen.XqRefIdeal.Run
public import proofs.«01_k».proof.Defs
public import proofs.«01_k».proof.Proof.Chunks

@[expose] public section

noncomputable section

namespace Cert.Proof.XqValue

open Cert.XqIdeal Cert.XqIdeal.Gen Idealize.ShloMosaic Idealize.ShloMosaic.TcCoe Idealize.SL.Sem
open Cert.XqRefIdeal.Read

variable (m : (ℓ : Loc nD τ sig) → Buf (Elt Ideal) ℓ)

/-- The block indices of the windows at a grid point: row block `t` of the normed rows, the whole weight, and row block `t`
    of the result. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The array index of element `(r, n)` of the block at point `t`. -/
abbrev at_ (t : Fin cfg0.N) (r : Fin 1024) (n : Fin 512) : S4096x512.Idx := fun a => match a with
  | ⟨0, _⟩ => ⟨t.val * 1024 + r.val, by have h : t.val < 4 := t.isLt; have := r.isLt; show _ < 4096; omega⟩
  | ⟨1, _⟩ => ⟨n.val, n.isLt⟩

/-- The block product at an element: the sum over the 2048 columns. -/
theorem pay_apply (v0 : Vec Ideal S1024x2048 .bf16) (v1 : Vec Ideal S2048x512 .bf16) (r : Fin 1024) (n : Fin 512) :
    k0_pay1 (F := Ideal) v0 v1 (ix2 r n) = ∑ k : Fin 2048, v0 (ix2 r k) * v1 (ix2 k n) := by
  unfold k0_pay1
  simp only [pointwise, zero_add, shapeCast_self]

/-- The reference's queries at an index: the sum over the 2048 columns. -/
theorem ref_apply (x0 : (⟨S4096x2048, .bf16⟩ : BufTy).Contents (Elt Ideal)) (x1 : (⟨S2048x512, .bf16⟩ : BufTy).Contents (Elt Ideal))
    (i : S4096x512.Idx) :
    val_main_v3 (F := Ideal) x0 x1 i = ∑ k : Fin 2048, x0 (fun a => match a with | ⟨0, _⟩ => ⟨(i 0).val, (i 0).isLt⟩ | ⟨1, _⟩ => ⟨k.val, k.isLt⟩)
      * x1 (fun a => match a with | ⟨0, _⟩ => ⟨k.val, k.isLt⟩ | ⟨1, _⟩ => ⟨(i 1).val, (i 1).isLt⟩) := by
  rw [val_main_v3_apply]
  exact val_main_v2_apply x0 x1 i

/-- Where a block's elements sit in their array: the two argument windows and the result window. -/
theorem emb0 (t : Fin cfg0.N) (k : Fin 2048) (r : Fin 1024) (n : Fin 512) :
    (win0_0.rect t).emb (ix2 r k) = (fun a => match a with | ⟨0, _⟩ => ⟨(at_ t r n 0).val, (at_ t r n 0).isLt⟩ | ⟨1, _⟩ => ⟨k.val, k.isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 2048) (r : Fin 1024) (n : Fin 512) :
    (win0_1.rect t).emb (ix2 k n) = (fun a => match a with | ⟨0, _⟩ => ⟨k.val, k.isLt⟩ | ⟨1, _⟩ => ⟨(at_ t r n 1).val, (at_ t r n 1).isLt⟩ : S2048x512.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb2 (t : Fin cfg0.N) (r : Fin 1024) (n : Fin 512) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; exact (Nat.zero_mul _).symm ▸ Nat.zero_add _)

/-- Every index of the result array is one of a block's elements. -/
theorem onto (i : S4096x512.Idx) : ∃ t : Fin cfg0.N, ∃ r n, at_ t r n = i := by
  have h0 : (i 0).val < 4096 := (i 0).isLt
  refine ⟨⟨(i 0).val / 1024, by show _ < 4; omega⟩, ⟨(i 0).val % 1024, by omega⟩, ⟨(i 1).val, (i 1).isLt⟩, funext fun a => Fin.ext ?_⟩
  match a with
  | ⟨0, _⟩ => show (i 0).val / 1024 * 1024 + (i 0).val % 1024 = (i 0).val; omega
  | ⟨1, _⟩ => rfl

/-- The two argument arrays of a device as launched: the normed rows and the weight. -/
abbrev A0 (c : Dev nD) : (⟨S4096x2048, .bf16⟩ : BufTy).Contents (Elt Ideal) := m ((c : Thread nD τ).loc main_arg0)
abbrev A1 (c : Dev nD) : (⟨S2048x512, .bf16⟩ : BufTy).Contents (Elt Ideal) := m ((c : Thread nD τ).loc main_arg1)

/-- The queries: the array after the run is the reference's. -/
theorem final (c : Dev nD) : (dats m 0 c).arrAt 2 cfg0.N = val_main_v3 (F := Ideal) (A0 m c) (A1 m c) := by
  refine (dats m 0 c).arrAt_eq_of_cover 2 _ (fun t hf => ?_) (fun i => ?_)
  · rw [Cert.XqIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v3 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's queries: started with the same arguments, both programs' runs end with the same
    result and with the arguments unchanged. -/
theorem algebraic : Cert.algebraic_XqIdeal_XqRefIdeal := by
  intro m g m' g' _ hagree
  refine ⟨fun c => val_main_v3 (F := Ideal) (A0 m c) (A1 m c),
    (θ_run _ _ _).mono (fun r h c => ?_) (Cert.XqIdeal.Value.run_blocks (F := Ideal) m g),
    (θ_run _ _ _).mono (fun r h c => ?_) (Cert.XqRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v3_eq _ _

/-- The reference's own run ends, with its arguments unchanged and every counter at zero. -/
theorem frame_reference : Cert.quiescent_XqRefIdeal := fun m ρ _ =>
  (θ_run Cert.XqRefIdeal.defs _ _).mono (fun r h => ⟨fun c => (h c).2, Idealize.ShloMosaic.sem_eq_zero_of_no_sems (by decide) r.2⟩)
    (Cert.XqRefIdeal.Value.run (F := Ideal) m ρ)

end Cert.Proof.XqValue

end
-- ==== Proof.XkvValue.lean ====
/-
  The value of the forward call `mm_xkv`: the keys and values of the memory, one product over the 2048 columns of its normed rows.
  They are the ones the reference program computes.
-/
module

public import proofs.«01_k».proof.Proof.Gen.XkvIdeal.Value
public import proofs.«01_k».proof.Proof.Gen.XkvRefIdeal.Read
public import proofs.«01_k».proof.Proof.Gen.XkvRefIdeal.Run
public import proofs.«01_k».proof.Defs
public import proofs.«01_k».proof.Proof.Chunks

@[expose] public section

noncomputable section

namespace Cert.Proof.XkvValue

open Cert.XkvIdeal Cert.XkvIdeal.Gen Idealize.ShloMosaic Idealize.ShloMosaic.TcCoe Idealize.SL.Sem
open Cert.XkvRefIdeal.Read

variable (m : (ℓ : Loc nD τ sig) → Buf (Elt Ideal) ℓ)

/-- The block indices of the windows at the one grid point: each window's one block. -/
theorem idx_facts : ∀ t : Fin cfg0.N,
    (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, _)

/-- The array index of element `(r, n)` of the block at point `t`. -/
abbrev at_ (t : Fin cfg0.N) (r : Fin 256) (n : Fin 1024) : S256x1024.Idx := ix2 r n

/-- The block product at an element: the sum over the 2048 columns. -/
theorem pay_apply (v0 : Vec Ideal S256x2048 .bf16) (v1 : Vec Ideal S2048x1024 .bf16) (r : Fin 256) (n : Fin 1024) :
    k0_pay1 (F := Ideal) v0 v1 (ix2 r n) = ∑ k : Fin 2048, v0 (ix2 r k) * v1 (ix2 k n) := by
  unfold k0_pay1
  simp only [pointwise, zero_add, shapeCast_self]

/-- The reference's keys and values at an index: the sum over the 2048 columns. -/
theorem ref_apply (x0 : (⟨S256x2048, .bf16⟩ : BufTy).Contents (Elt Ideal)) (x1 : (⟨S2048x1024, .bf16⟩ : BufTy).Contents (Elt Ideal))
    (i : S256x1024.Idx) :
    val_main_v3 (F := Ideal) x0 x1 i = ∑ k : Fin 2048, x0 (fun a => match a with | ⟨0, _⟩ => ⟨(i 0).val, (i 0).isLt⟩ | ⟨1, _⟩ => ⟨k.val, k.isLt⟩)
      * x1 (fun a => match a with | ⟨0, _⟩ => ⟨k.val, k.isLt⟩ | ⟨1, _⟩ => ⟨(i 1).val, (i 1).isLt⟩) := by
  rw [val_main_v3_apply]
  exact val_main_v2_apply x0 x1 i

/-- Where a block's elements sit in their array: the two argument windows and the result window. -/
theorem emb0 (t : Fin cfg0.N) (k : Fin 2048) (r : Fin 256) (n : Fin 1024) :
    (win0_0.rect t).emb (ix2 r k) = (fun a => match a with | ⟨0, _⟩ => ⟨(at_ t r n 0).val, (at_ t r n 0).isLt⟩ | ⟨1, _⟩ => ⟨k.val, k.isLt⟩ : S256x2048.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; exact (Nat.zero_mul _).symm ▸ Nat.zero_add _)

theorem emb1 (t : Fin cfg0.N) (k : Fin 2048) (r : Fin 256) (n : Fin 1024) :
    (win0_1.rect t).emb (ix2 k n) = (fun a => match a with | ⟨0, _⟩ => ⟨k.val, k.isLt⟩ | ⟨1, _⟩ => ⟨(at_ t r n 1).val, (at_ t r n 1).isLt⟩ : S2048x1024.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb2 (t : Fin cfg0.N) (r : Fin 256) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; exact (Nat.zero_mul _).symm ▸ Nat.zero_add _)
  | ⟨1, _⟩ => exact (win0_2.rect_emb_val t _ 1).trans (by rw [h1]; exact (Nat.zero_mul _).symm ▸ Nat.zero_add _)

/-- Every index of the result array is one of the block's elements. -/
theorem onto (i : S256x1024.Idx) : ∃ t : Fin cfg0.N, ∃ r n, at_ t r n = i := ⟨⟨0, by decide⟩, i 0, i 1, (eq_ix2 i).symm⟩

/-- The two argument arrays of a device as launched: the memory's normed rows and the weight. -/
abbrev A0 (c : Dev nD) : (⟨S256x2048, .bf16⟩ : BufTy).Contents (Elt Ideal) := m ((c : Thread nD τ).loc main_arg0)
abbrev A1 (c : Dev nD) : (⟨S2048x1024, .bf16⟩ : BufTy).Contents (Elt Ideal) := m ((c : Thread nD τ).loc main_arg1)

/-- The keys and values: the array after the run is the reference's. -/
theorem final (c : Dev nD) : (dats m 0 c).arrAt 2 cfg0.N = val_main_v3 (F := Ideal) (A0 m c) (A1 m c) := by
  refine (dats m 0 c).arrAt_eq_of_cover 2 _ (fun t hf => ?_) (fun i => ?_)
  · rw [Cert.XkvIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v3 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's keys and values: started with the same arguments, both programs' runs end with the same
    result and with the arguments unchanged. -/
theorem algebraic : Cert.algebraic_XkvIdeal_XkvRefIdeal := by
  intro m g m' g' _ hagree
  refine ⟨fun c => val_main_v3 (F := Ideal) (A0 m c) (A1 m c),
    (θ_run _ _ _).mono (fun r h c => ?_) (Cert.XkvIdeal.Value.run_blocks (F := Ideal) m g),
    (θ_run _ _ _).mono (fun r h c => ?_) (Cert.XkvRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v3_eq _ _

/-- The reference's own run ends, with its arguments unchanged and every counter at zero. -/
theorem frame_reference : Cert.quiescent_XkvRefIdeal := fun m ρ _ =>
  (θ_run Cert.XkvRefIdeal.defs _ _).mono (fun r h => ⟨fun c => (h c).2, Idealize.ShloMosaic.sem_eq_zero_of_no_sems (by decide) r.2⟩)
    (Cert.XkvRefIdeal.Value.run (F := Ideal) m ρ)

end Cert.Proof.XkvValue

end
-- ==== Proof.XoValue.lean ====
/-
  The value of the forward call `mm_xo`: the cross attention's output projection with the residual added, and the next norm of it.
  Each block of 512 whole rows is the residual plus one product over the 512 columns of the attention's output; its second result
  scales each row by the reciprocal root of its mean square and by the gain. Both are the results the reference program computes.
-/
module

public import proofs.«01_k».proof.Proof.Gen.XoIdeal.Value
public import proofs.«01_k».proof.Proof.Gen.XoRefIdeal.Read
public import proofs.«01_k».proof.Proof.Gen.XoRefIdeal.Run
public import proofs.«01_k».proof.Defs
public import proofs.«01_k».proof.Proof.Chunks

@[expose] public section

noncomputable section

namespace Cert.Proof.XoValue

open Cert.XoIdeal Cert.XoIdeal.Gen Idealize.ShloMosaic Idealize.ShloMosaic.TcCoe Idealize.SL.Sem
open Cert.XoRefIdeal.Read

variable (m : (ℓ : Loc nD τ sig) → Buf (Elt Ideal) ℓ)

/-- The block indices of the windows at a grid point: row block `t` of the attention's output, of the residual and of both results,
    and the whole weight and gain. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

/-- The array index of element `(r, n)` of the block at point `t`. -/
abbrev at_ (t : Fin cfg0.N) (r : Fin 512) (n : Fin 2048) : S4096x2048.Idx := fun a => match a with
  | ⟨0, _⟩ => ⟨t.val * 512 + r.val, by have h : t.val < 8 := t.isLt; have := r.isLt; show _ < 4096; omega⟩
  | ⟨1, _⟩ => ⟨n.val, n.isLt⟩

/-- A row's element scaled by the reciprocal root of the row's mean square and by the gain. -/
abbrev normed (h : Fin 2048 → EReal) (g : EReal) (n : Fin 2048) : EReal :=
  h n * Ideal.rsqrt (Ideal.div (∑ k : Fin 2048, h k * h k) (Ideal.ofBits .f32 0x45000000#32) + Ideal.ofBits .f32 0x358637BD#32) * g

/-- The projected block at an element, and the normed block. -/
theorem pay1_apply (v0 : Vec Ideal S512x512 .bf16) (v1 : Vec Ideal S512x2048 .bf16) (v3 : Vec Ideal S512x2048 .f32) (r : Fin 512)
    (n : Fin 2048) :
    k0_pay1 (F := Ideal) v0 v1 v3 (ix2 r n) = v3 (ix2 r n) + ∑ k : Fin 512, v0 (ix2 r k) * v1 (ix2 k n) := by
  unfold k0_pay1
  simp only [pointwise, zero_add]

theorem pay2_apply (v0 : Vec Ideal S512x512 .bf16) (v1 : Vec Ideal S512x2048 .bf16) (v3 : Vec Ideal S512x2048 .f32)
    (v16 : Vec Ideal S1x2048 .f32) (r : Fin 512) (n : Fin 2048) :
    Cert.XoIdeal.Value.E5 (F := Ideal) v0 v1 v3 v16 (ix2 r n)
      = normed (fun k => k0_pay1 (F := Ideal) v0 v1 v3 (ix2 r k)) (v16 (ix2 0 n)) n := by
  have e0 : Cert.XoIdeal.Value.ix5_0 (ix2 r n) = ix2 r n := funext fun a => Fin.ext (match a with | ⟨0, _⟩ => rfl | ⟨1, _⟩ => rfl)
  have e2 : Cert.XoIdeal.Value.ix5_2 (ix2 r n) = ix2 0 n := funext fun a => Fin.ext (match a with | ⟨0, _⟩ => rfl | ⟨1, _⟩ => rfl)
  unfold Cert.XoIdeal.Value.E5
  rw [e0, e2]
  simp only [pointwise]

/-- The arrays of a device as launched: the attention's output, the weight, the residual and the gain. -/
abbrev A0 (c : Dev nD) : (⟨S4096x512, .bf16⟩ : BufTy).Contents (Elt Ideal) := m ((c : Thread nD τ).loc main_arg0)
abbrev A1 (c : Dev nD) : (⟨S512x2048, .bf16⟩ : BufTy).Contents (Elt Ideal) := m ((c : Thread nD τ).loc main_arg1)
abbrev A2 (c : Dev nD) : (⟨S4096x2048, .f32⟩ : BufTy).Contents (Elt Ideal) := m ((c : Thread nD τ).loc main_arg2)
abbrev A3 (c : Dev nD) : (⟨S2048, .f32⟩ : BufTy).Contents (Elt Ideal) := m ((c : Thread nD τ).loc main_arg3)

/-- What the region finds in the gain's row: the gain. -/
theorem V_gain (c : Dev nD) : V m c main_v0 = shapeCast S1x2048 (A3 m c) shapeCasts_S2048_S1x2048 := by
  show StableHlo.after hostOps0 _ _ = _
  after_results
  rfl

theorem gain_apply (g : (⟨S2048, .f32⟩ : BufTy).Contents (Elt Ideal)) (i : S1x2048.Idx) :
    shapeCast S1x2048 g shapeCasts_S2048_S1x2048 i = g (fun a => match a with | ⟨0, _⟩ => ⟨(i 1).val, (i 1).isLt⟩) := by
  have h0 : (i 0).val < 1 := (i 0).isLt
  refine shapeCast_apply _ _ i _ ?_
  rw [Shape.rowMajor_val_one, Shape.rowMajor_val_two]
  show (i 1).val = (i 0).val * 2048 + (i 1).val
  omega

/-- The reference's normed rows at an index. -/
theorem ref_apply (x0 : (⟨S4096x512, .bf16⟩ : BufTy).Contents (Elt Ideal)) (x1 : (⟨S512x2048, .bf16⟩ : BufTy).Contents (Elt Ideal))
    (x2 : (⟨S4096x2048, .f32⟩ : BufTy).Contents (Elt Ideal)) (x3 : (⟨S2048, .f32⟩ : BufTy).Contents (Elt Ideal)) (t : Fin cfg0.N)
    (r : Fin 512) (n : Fin 2048) :
    val_main_v17 (F := Ideal) x0 x1 x2 x3 (at_ t r n)
      = normed (fun k => val_main_v3 (F := Ideal) x0 x1 x2 (at_ t r k)) (x3 (fun a => match a with | ⟨0, _⟩ => n)) n := by
  rw [val_main_v17_apply, val_main_v16_apply, val_main_v15_apply, val_main_v14_apply, val_main_v13_apply, val_main_v12_apply,
    val_main_v11_apply, val_main_v10_apply, val_main_v9_apply, val_main_cst_1_apply, val_main_v8_apply, val_main_v7_apply,
    val_main_cst_0_apply, val_main_v6_apply, val_main_v5_apply, val_main_cst_apply]
  simp only [val_main_v4_apply, pointwise, zero_add]
  refine congrArg₂ (· * ·) (congrArg (val_main_v3 (F := Ideal) x0 x1 x2 (at_ t r n) * ·) (congrArg (fun s => Ideal.rsqrt (Ideal.div s _ + _))
    (Finset.sum_congr rfl fun k _ => ?_))) (congrArg x3 (funext fun a => Fin.ext ?_))
  · exact congrArg (fun i => val_main_v3 (F := Ideal) x0 x1 x2 i * val_main_v3 (F := Ideal) x0 x1 x2 i)
      (funext fun a => Fin.ext (match a with | ⟨0, _⟩ => rfl | ⟨1, _⟩ => rfl))
  · match a with
    | ⟨0, _⟩ => rfl

/-- Where a block's elements sit in their array: the four argument windows and the two result windows. -/
theorem emb0 (t : Fin cfg0.N) (r k : Fin 512) :
    (win0_0.rect t).emb (ix2 r k) = (fun a => match a with
      | ⟨0, _⟩ => ⟨t.val * 512 + r.val, by have h : t.val < 8 := t.isLt; have := r.isLt; show _ < 4096; omega⟩
      | ⟨1, _⟩ => ⟨k.val, k.isLt⟩ : S4096x512.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb245 (t : Fin cfg0.N) (r : Fin 512) (n : Fin 2048) :
    (win0_2.rect t).emb (ix2 r n) = at_ t r n
    ∧ (win0_4.rect t).emb (ix2 r n) = at_ t r n ∧ (win0_5.rect t).emb (ix2 r n) = at_ t r n := by
  obtain ⟨-, -, ⟨h2, h3⟩, -, ⟨h4, h5⟩, h6, h7⟩ := idx_facts t
  refine ⟨funext fun a => Fin.ext ?_, funext fun a => Fin.ext ?_, funext fun a => Fin.ext ?_⟩
  · match a with
    | ⟨0, _⟩ => exact (win0_2.rect_emb_val t _ 0).trans (by rw [h2]; rfl)
    | ⟨1, _⟩ => exact (win0_2.rect_emb_val t _ 1).trans (by rw [h3]; exact (Nat.zero_mul _).symm ▸ Nat.zero_add _)
  · match a with
    | ⟨0, _⟩ => exact (win0_4.rect_emb_val t _ 0).trans (by rw [h4]; rfl)
    | ⟨1, _⟩ => exact (win0_4.rect_emb_val t _ 1).trans (by rw [h5]; exact (Nat.zero_mul _).symm ▸ Nat.zero_add _)
  · match a with
    | ⟨0, _⟩ => exact (win0_5.rect_emb_val t _ 0).trans (by rw [h6]; rfl)
    | ⟨1, _⟩ => exact (win0_5.rect_emb_val t _ 1).trans (by rw [h7]; exact (Nat.zero_mul _).symm ▸ Nat.zero_add _)

theorem emb1 (t : Fin cfg0.N) (k : Fin 512) (n : Fin 2048) : (win0_1.rect t).emb (ix2 k n) = ix2 k n := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb3 (t : Fin cfg0.N) (n : Fin 2048) : (win0_3.rect t).emb (ix2 0 n) = ix2 0 n := by
  obtain ⟨-, -, -, ⟨h0, h1⟩, -⟩ := idx_facts t
  refine funext fun a => Fin.ext ?_
  match a with
  | ⟨0, _⟩ => exact (win0_3.rect_emb_val t _ 0).trans (by rw [h0]; exact (Nat.zero_mul _).symm ▸ Nat.zero_add _)
  | ⟨1, _⟩ => exact (win0_3.rect_emb_val t _ 1).trans (by rw [h1]; exact (Nat.zero_mul _).symm ▸ Nat.zero_add _)

/-- Every index of a result array is one of a block's elements. -/
theorem onto (i : S4096x2048.Idx) : ∃ t : Fin cfg0.N, ∃ r n, at_ t r n = i := by
  have h0 : (i 0).val < 4096 := (i 0).isLt
  refine ⟨⟨(i 0).val / 512, by show _ < 8; omega⟩, ⟨(i 0).val % 512, by omega⟩, ⟨(i 1).val, (i 1).isLt⟩, funext fun a => Fin.ext ?_⟩
  match a with
  | ⟨0, _⟩ => show (i 0).val / 512 * 512 + (i 0).val % 512 = (i 0).val; omega
  | ⟨1, _⟩ => rfl

/-- The projected block at an element is the reference's at its array index. -/
theorem product_eq (c : Dev nD) (t : Fin cfg0.N) (r : Fin 512) (n : Fin 2048) :
    k0_pay1 (F := Ideal) (iblk m c 0 t) (iblk m c 1 t) (iblk m c 2 t) (ix2 r n)
      = val_main_v3 (F := Ideal) (A0 m c) (A1 m c) (A2 m c) (at_ t r n) := by
  rw [pay1_apply, val_main_v3_apply, val_main_v2_apply]
  refine congrArg₂ (· + ·) ((congrFun (V_main_arg2 m c) _).trans (congrArg (A2 m c) (emb245 t r n).1))
    (Finset.sum_congr rfl fun k _ => congrArg₂ (· * ·) ?_ ?_)
  · exact (congrFun (V_main_arg0 m c) _).trans (congrArg (A0 m c) ((emb0 t r k).trans
      (funext fun a => Fin.ext (match a with | ⟨0, _⟩ => rfl | ⟨1, _⟩ => rfl))))
  · exact (congrFun (V_main_arg1 m c) _).trans (congrArg (A1 m c) ((emb1 t k n).trans
      (funext fun a => Fin.ext (match a with | ⟨0, _⟩ => rfl | ⟨1, _⟩ => rfl))))

/-- The projected rows, and the normed ones: the arrays after the run are the reference's. -/
theorem final_h (c : Dev nD) : (dats m 0 c).arrAt 4 cfg0.N = val_main_v3 (F := Ideal) (A0 m c) (A1 m c) (A2 m c) := by
  refine (dats m 0 c).arrAt_eq_of_cover 4 _ (fun t hf => ?_) (fun i => ?_)
  · rw [Cert.XoIdeal.Value.flushed4]
    unfold out0_4
    rw [View.canon_unit_zero hz2, View.ld_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (iblk m c 2 t) (ix2 r n)
      = val_main_v3 (F := Ideal) _ _ _ ((win0_4.rect t).emb (ix2 r n))
    rw [(emb245 t r n).2.1]
    exact product_eq m c t r n
  · obtain ⟨t, r, n, rfl⟩ := onto i
    rw [← (emb245 t r n).2.1]
    exact ⟨t, flush0_4 t, View.emb_mem_set ((cfg0.win 4).blk t).view _⟩

theorem final_u (c : Dev nD) : (dats m 0 c).arrAt 5 cfg0.N = val_main_v17 (F := Ideal) (A0 m c) (A1 m c) (A2 m c) (A3 m c) := by
  refine (dats m 0 c).arrAt_eq_of_cover 5 _ (fun t hf => ?_) (fun i => ?_)
  · rw [Cert.XoIdeal.Value.flushed5]
    unfold out0_5
    rw [View.ld_unit_zero hz2, View.ld_unit_zero hz2, View.ld_unit_zero hz2, View.ld_unit_zero hz2]
    funext y
    obtain ⟨r, n, rfl⟩ : ∃ r n, y = ix2 r n := ⟨y 0, y 1, eq_ix2 y⟩
    show View.canon [⟨r0_1, k0_pay2 (F := Ideal) (iblk m c 0 t) (iblk m c 1 t) (iblk m c 2 t) (iblk m c 3 t)⟩] (ix2 r n)
      = val_main_v17 (F := Ideal) _ _ _ _ ((win0_5.rect t).emb (ix2 r n))
    rw [(emb245 t r n).2.2, Cert.XoIdeal.Value.canon5_eq, pay2_apply, ref_apply]
    refine congrArg₂ (fun h g => normed h g n) (funext fun k => product_eq m c t r k) ?_
    refine (congrFun (V_gain m c) _).trans ((congrArg _ (emb3 t n)).trans ((gain_apply _ _).trans (congrArg (A3 m c) ?_)))
    exact funext fun a => Fin.ext (match a with | ⟨0, _⟩ => rfl)
  · obtain ⟨t, r, n, rfl⟩ := onto i
    rw [← (emb245 t r n).2.2]
    exact ⟨t, flush0_5 t, View.emb_mem_set ((cfg0.win 5).blk t).view _⟩

/-- The kernel computes the reference's two results: started with the same arguments, both programs' runs end with the same
    results and with the arguments unchanged. -/
theorem algebraic : Cert.algebraic_XoIdeal_XoRefIdeal := by
  intro m g m' g' _ hagree
  refine ⟨fun c => val_main_v3 (F := Ideal) (A0 m c) (A1 m c) (A2 m c),
    fun c => val_main_v17 (F := Ideal) (A0 m c) (A1 m c) (A2 m c) (A3 m c),
    (θ_run _ _ _).mono (fun r h c => ?_) (Cert.XoIdeal.Value.run_blocks (F := Ideal) m g),
    (θ_run _ _ _).mono (fun r h c => ?_) (Cert.XoRefIdeal.Value.run (F := Ideal) m' g')⟩
  · exact ⟨(h c).1.trans (final_h m c), (h c).2.1.trans (final_u m c), (h c).2.2⟩
  · obtain ⟨a0, a1, a2, a3⟩ := hagree c
    refine ⟨(h c).1.trans ?_, (h c).2.1.trans ?_, (h c).2.2⟩
    · rw [a0, a1, a2]; exact val_main_v3_eq _ _ _
    · rw [a0, a1, a2, a3]; exact val_main_v17_eq _ _ _ _

/-- The reference's own run ends, with its arguments unchanged and every counter at zero. -/
theorem frame_reference : Cert.quiescent_XoRefIdeal := fun m ρ _ =>
  (θ_run Cert.XoRefIdeal.defs _ _).mono (fun r h => ⟨fun c => (h c).2.2, Idealize.ShloMosaic.sem_eq_zero_of_no_sems (by decide) r.2⟩)
    (Cert.XoRefIdeal.Value.run (F := Ideal) m ρ)

end Cert.Proof.XoValue

end
-- ==== Proof.DwXoValue.lean ====
/-
  The value of the backward call `mm_dw_xo`: the gradient of the cross attention's output weight in its eight shards of columns,
  each one product over the 4096 tokens. It is the gradient the reference program computes.
-/
module

public import proofs.«01_k».proof.Proof.Gen.DwXoIdeal.Value
public import proofs.«01_k».proof.Proof.Gen.DwXoRefIdeal.Read
public import proofs.«01_k».proof.Proof.Gen.DwXoRefIdeal.Run
public import proofs.«01_k».proof.Defs
public import proofs.«01_k».proof.Proof.Chunks
public import Idealize.ShloMosaic.Lib.Pointwise
public import Idealize.ShloMosaic.Lib.ValueIdx
public import Idealize.ShloMosaic.Lib.ValueLayout

@[expose] public section

noncomputable section

namespace Cert.Proof.DwXoValue

open Cert.DwXoIdeal Cert.DwXoIdeal.Gen Idealize.ShloMosaic Idealize.ShloMosaic.TcCoe Idealize.SL.Sem
open Cert.DwXoRefIdeal.Read

variable (m : (ℓ : Loc nD τ sig) → Buf (Elt Ideal) ℓ)

/-- The block indices of the windows at a grid point: the whole of the cross attention's output, and shard `t` of the columns of the
    incoming gradient and of the weight's. -/
theorem idx_facts : ∀ t : Fin cfg0.N,
    (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) :=
  (by decide +kernel : ∀ t : Fin grid0.N, _)

/-- The array index of element `(r, n)` of the block at point `t`. -/
abbrev at_ (t : Fin cfg0.N) (r : Fin 512) (n : Fin 256) : S8x512x256.Idx := fun a => match a with
  | ⟨0, _⟩ => ⟨t.val, t.isLt⟩
  | ⟨1, _⟩ => ⟨r.val, r.isLt⟩
  | ⟨2, _⟩ => ⟨n.val, n.isLt⟩

/-- The block product at an element: the sum over the 4096 tokens. -/
theorem pay_apply (v0 : Vec Ideal S4096x512 .bf16) (v1 : Vec Ideal S4096x256 .bf16) (u : Fin 1) (r : Fin 512) (n : Fin 256) :
    k0_pay1 (F := Ideal) v0 v1 (ix3 u r n) = ∑ k : Fin 4096, v0 (ix2 k r) * v1 (ix2 k n) := by
  unfold k0_pay1
  simp only [pointwise, zero_add, ValueIdx.shapeCast_ab_1ab_apply]

/-- The reference's weight gradient at an index: the sum over the tokens. -/
theorem ref_apply (x0 : (⟨S4096x512, .bf16⟩ : BufTy).Contents (Elt Ideal)) (x1 : (⟨S4096x2048, .bf16⟩ : BufTy).Contents (Elt Ideal))
    (i : S8x512x256.Idx) :
    val_main_v8 (F := Ideal) x0 x1 i = ∑ k : Fin 4096, x0 (fun a => match a with | ⟨0, _⟩ => ⟨k.val, k.isLt⟩ | ⟨1, _⟩ => ⟨(i 1).val, (i 1).isLt⟩)
      * x1 (fun a => match a with
        | ⟨0, _⟩ => ⟨k.val, k.isLt⟩
        | ⟨1, _⟩ => ⟨(i 0).val * 256 + (i 2).val, by
            have h : (i 0).val < 8 := (i 0).isLt; have h' : (i 2).val < 256 := (i 2).isLt; show _ < 2048; omega⟩) := by
  have h0 : (i 0).val < 8 := (i 0).isLt
  have h1 : (i 1).val < 512 := (i 1).isLt
  have h2 : (i 2).val < 256 := (i 2).isLt
  rw [val_main_v8_apply, val_main_v7_apply, val_main_v6_apply, val_main_v5_apply, val_main_v4_apply]
  refine Finset.sum_congr rfl fun k _ => (mul_comm _ _).trans (congrArg₂ (· * ·) ?_ ?_)
  · rw [val_main_v1_apply]
    refine congrArg x0 (funext fun a => Fin.ext ?_)
    match a with
    | ⟨0, _⟩ => rfl
    | ⟨1, _⟩ => show (((i 1).val * 8 + (i 0).val) * 256 + (i 2).val) / 2048 = (i 1).val; omega
  · rw [val_main_v3_apply]
    refine congrArg x1 (funext fun a => Fin.ext ?_)
    match a with
    | ⟨0, _⟩ => rfl
    | ⟨1, _⟩ => show (((i 1).val * 8 + (i 0).val) * 256 + (i 2).val) % 2048 = (i 0).val * 256 + (i 2).val; omega

/-- Where a block's elements sit in their array: the two argument windows and the result window. -/
theorem emb0 (t : Fin cfg0.N) (k : Fin 4096) (r : Fin 512) (n : Fin 256) :
    (win0_0.rect t).emb (ix2 k r) = (fun a => match a with | ⟨0, _⟩ => ⟨k.val, k.isLt⟩ | ⟨1, _⟩ => ⟨(at_ t r n 1).val, (at_ t r n 1).isLt⟩ : S4096x512.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; exact (Nat.zero_mul _).symm ▸ Nat.zero_add _)

theorem emb1 (t : Fin cfg0.N) (k : Fin 4096) (r : Fin 512) (n : Fin 256) :
    (win0_1.rect t).emb (ix2 k n) = (fun a => match a with
        | ⟨0, _⟩ => ⟨k.val, k.isLt⟩
        | ⟨1, _⟩ => ⟨(at_ t r n 0).val * 256 + (at_ t r n 2).val, by
            have h : (at_ t r n 0).val < 8 := (at_ t r n 0).isLt; have h' : (at_ t r n 2).val < 256 := (at_ t r n 2).isLt; show _ < 2048; omega⟩
        : S4096x2048.Idx) := by
  obtain ⟨-, ⟨h0, h1⟩, -⟩ := idx_facts t
  refine funext fun a => Fin.ext ?_
  match a with
  | ⟨0, _⟩ => exact (win0_1.rect_emb_val t _ 0).trans (by rw [h0]; show 0 * 4096 + k.val = k.val; omega)
  | ⟨1, _⟩ => exact (win0_1.rect_emb_val t _ 1).trans (by rw [h1]; rfl)

theorem emb2 (t : Fin cfg0.N) (r : Fin 512) (n : Fin 256) : (win0_2.rect t).emb (ix3 0 r n) = at_ t r n := by
  obtain ⟨-, -, h0, h1, h2⟩ := idx_facts t
  refine funext fun a => Fin.ext ?_
  match a with
  | ⟨0, _⟩ => exact (win0_2.rect_emb_val t _ 0).trans (by rw [h0]; exact Nat.mul_one _)
  | ⟨1, _⟩ => exact (win0_2.rect_emb_val t _ 1).trans (by rw [h1]; show 0 * 512 + r.val = r.val; omega)
  | ⟨2, _⟩ => exact (win0_2.rect_emb_val t _ 2).trans (by rw [h2]; exact (Nat.zero_mul _).symm ▸ Nat.zero_add _)

/-- Every index of the result array is one of a block's elements. -/
theorem onto (i : S8x512x256.Idx) : ∃ t : Fin cfg0.N, ∃ r n, at_ t r n = i := by
  refine ⟨⟨(i 0).val, (i 0).isLt⟩, ⟨(i 1).val, (i 1).isLt⟩, ⟨(i 2).val, (i 2).isLt⟩, funext fun a => Fin.ext ?_⟩
  match a with
  | ⟨0, _⟩ => rfl
  | ⟨1, _⟩ => rfl
  | ⟨2, _⟩ => rfl

/-- The two argument arrays of a device as launched: the cross attention's output and the incoming gradient. -/
abbrev A0 (c : Dev nD) : (⟨S4096x512, .bf16⟩ : BufTy).Contents (Elt Ideal) := m ((c : Thread nD τ).loc main_arg0)
abbrev A1 (c : Dev nD) : (⟨S4096x2048, .bf16⟩ : BufTy).Contents (Elt Ideal) := m ((c : Thread nD τ).loc main_arg1)

/-- The weight gradient: the array after the run is the reference's. -/
theorem final (c : Dev nD) : (dats m 0 c).arrAt 2 cfg0.N = val_main_v8 (F := Ideal) (A0 m c) (A1 m c) := by
  refine (dats m 0 c).arrAt_eq_of_cover 2 _ (fun t hf => ?_) (fun i => ?_)
  · rw [Cert.DwXoIdeal.Value.flushed2]
    unfold out0_2
    rw [View.canon_unit_zero hz3, View.ld_unit_zero hz2, View.ld_unit_zero hz2]
    funext y
    obtain ⟨r, n, rfl⟩ : ∃ r n, y = ix3 0 r n := ⟨y 1, y 2, (eq_ix3 y).trans (congrArg (fun u => ix3 u (y 1) (y 2)) (Subsingleton.elim (α := Fin 1) _ _))⟩
    show k0_pay1 (F := Ideal) (iblk m c 0 t) (iblk m c 1 t) (ix3 0 r n) = val_main_v8 (F := Ideal) _ _ ((win0_2.rect t).emb (ix3 0 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwXoIdeal_DwXoRefIdeal := by
  intro m g m' g' _ hagree
  refine ⟨fun c => val_main_v8 (F := Ideal) (A0 m c) (A1 m c),
    (θ_run _ _ _).mono (fun r h c => ?_) (Cert.DwXoIdeal.Value.run_blocks (F := Ideal) m g),
    (θ_run _ _ _).mono (fun r h c => ?_) (Cert.DwXoRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v8_eq _ _

/-- The reference's own run ends, with its arguments unchanged and every counter at zero. -/
theorem frame_reference : Cert.quiescent_DwXoRefIdeal := fun m ρ _ =>
  (θ_run Cert.DwXoRefIdeal.defs _ _).mono (fun r h => ⟨fun c => (h c).2, Idealize.ShloMosaic.sem_eq_zero_of_no_sems (by decide) r.2⟩)
    (Cert.DwXoRefIdeal.Value.run (F := Ideal) m ρ)

end Cert.Proof.DwXoValue

end
-- ==== Proof.DoXValue.lean ====
/-
  The value of the backward call `mm_do_x`: the gradient of the cross attention's output, each block of 1024 rows one product
  over the 2048 columns of the incoming gradient and of the output weight. It is the gradient the reference program computes.
-/
module

public import proofs.«01_k».proof.Proof.Gen.DoXIdeal.Value
public import proofs.«01_k».proof.Proof.Gen.DoXRefIdeal.Read
public import proofs.«01_k».proof.Proof.Gen.DoXRefIdeal.Run
public import proofs.«01_k».proof.Defs
public import proofs.«01_k».proof.Proof.Chunks

@[expose] public section

noncomputable section

namespace Cert.Proof.DoXValue

open Cert.DoXIdeal Cert.DoXIdeal.Gen Idealize.ShloMosaic Idealize.ShloMosaic.TcCoe Idealize.SL.Sem
open Cert.DoXRefIdeal.Read

variable (m : (ℓ : Loc nD τ sig) → Buf (Elt Ideal) ℓ)

/-- The block indices of the windows at a grid point: row block `t` of the incoming gradient, the whole weight, and row block `t`
    of the result. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The array index of element `(r, n)` of the block at point `t`. -/
abbrev at_ (t : Fin cfg0.N) (r : Fin 1024) (n : Fin 512) : S4096x512.Idx := fun a => match a with
  | ⟨0, _⟩ => ⟨t.val * 1024 + r.val, by have h : t.val < 4 := t.isLt; have := r.isLt; show _ < 4096; omega⟩
  | ⟨1, _⟩ => ⟨n.val, n.isLt⟩

/-- The block product at an element: the sum over the 2048 columns. -/
theorem pay_apply (v0 : Vec Ideal S1024x2048 .bf16) (v1 : Vec Ideal S512x2048 .bf16) (r : Fin 1024) (n : Fin 512) :
    k0_pay1 (F := Ideal) v0 v1 (ix2 r n) = ∑ k : Fin 2048, v0 (ix2 r k) * v1 (ix2 n k) := by
  unfold k0_pay1
  simp only [pointwise, zero_add, shapeCast_self]

/-- The reference's gradient at an index: the sum over the 2048 columns. -/
theorem ref_apply (x0 : (⟨S4096x2048, .bf16⟩ : BufTy).Contents (Elt Ideal)) (x1 : (⟨S512x2048, .bf16⟩ : BufTy).Contents (Elt Ideal))
    (i : S4096x512.Idx) :
    val_main_v5 (F := Ideal) x0 x1 i = ∑ k : Fin 2048, x0 (fun a => match a with | ⟨0, _⟩ => ⟨(i 0).val, (i 0).isLt⟩ | ⟨1, _⟩ => ⟨k.val, k.isLt⟩)
      * x1 (fun a => match a with | ⟨0, _⟩ => ⟨(i 1).val, (i 1).isLt⟩ | ⟨1, _⟩ => ⟨k.val, k.isLt⟩) := by
  rw [val_main_v5_apply]
  exact val_main_v4_apply x0 x1 i

/-- Where a block's elements sit in their array: the two argument windows and the result window. -/
theorem emb0 (t : Fin cfg0.N) (k : Fin 2048) (r : Fin 1024) (n : Fin 512) :
    (win0_0.rect t).emb (ix2 r k) = (fun a => match a with | ⟨0, _⟩ => ⟨(at_ t r n 0).val, (at_ t r n 0).isLt⟩ | ⟨1, _⟩ => ⟨k.val, k.isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; rfl)
  | ⟨1, _⟩ => exact (win0_0.rect_emb_val t _ 1).trans (by rw [h1]; exact (Nat.zero_mul _).symm ▸ Nat.zero_add _)

theorem emb1 (t : Fin cfg0.N) (k : Fin 2048) (r : Fin 1024) (n : Fin 512) :
    (win0_1.rect t).emb (ix2 n k) = (fun a => match a with | ⟨0, _⟩ => ⟨(at_ t r n 1).val, (at_ t r n 1).isLt⟩ | ⟨1, _⟩ => ⟨k.val, k.isLt⟩ : S512x2048.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb2 (t : Fin cfg0.N) (r : Fin 1024) (n : Fin 512) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; exact (Nat.zero_mul _).symm ▸ Nat.zero_add _)

/-- Every index of the result array is one of a block's elements. -/
theorem onto (i : S4096x512.Idx) : ∃ t : Fin cfg0.N, ∃ r n, at_ t r n = i := by
  have h0 : (i 0).val < 4096 := (i 0).isLt
  refine ⟨⟨(i 0).val / 1024, by show _ < 4; omega⟩, ⟨(i 0).val % 1024, by omega⟩, ⟨(i 1).val, (i 1).isLt⟩, funext fun a => Fin.ext ?_⟩
  match a with
  | ⟨0, _⟩ => show (i 0).val / 1024 * 1024 + (i 0).val % 1024 = (i 0).val; omega
  | ⟨1, _⟩ => rfl

/-- The two argument arrays of a device as launched: the incoming gradient and the weight. -/
abbrev A0 (c : Dev nD) : (⟨S4096x2048, .bf16⟩ : BufTy).Contents (Elt Ideal) := m ((c : Thread nD τ).loc main_arg0)
abbrev A1 (c : Dev nD) : (⟨S512x2048, .bf16⟩ : BufTy).Contents (Elt Ideal) := m ((c : Thread nD τ).loc main_arg1)

/-- The gradient: the array after the run is the reference's. -/
theorem final (c : Dev nD) : (dats m 0 c).arrAt 2 cfg0.N = val_main_v5 (F := Ideal) (A0 m c) (A1 m c) := by
  refine (dats m 0 c).arrAt_eq_of_cover 2 _ (fun t hf => ?_) (fun i => ?_)
  · rw [Cert.DoXIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v5 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DoXIdeal_DoXRefIdeal := by
  intro m g m' g' _ hagree
  refine ⟨fun c => val_main_v5 (F := Ideal) (A0 m c) (A1 m c),
    (θ_run _ _ _).mono (fun r h c => ?_) (Cert.DoXIdeal.Value.run_blocks (F := Ideal) m g),
    (θ_run _ _ _).mono (fun r h c => ?_) (Cert.DoXRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v5_eq _ _

/-- The reference's own run ends, with its arguments unchanged and every counter at zero. -/
theorem frame_reference : Cert.quiescent_DoXRefIdeal := fun m ρ _ =>
  (θ_run Cert.DoXRefIdeal.defs _ _).mono (fun r h => ⟨fun c => (h c).2, Idealize.ShloMosaic.sem_eq_zero_of_no_sems (by decide) r.2⟩)
    (Cert.DoXRefIdeal.Value.run (F := Ideal) m ρ)

end Cert.Proof.DoXValue

end
-- ==== Proof.DwXqValue.lean ====
/-
  The value of the backward call `mm_dw_xq`: the gradient of the cross attention's query weight, each block of 1024 rows one
  product over the 4096 tokens of the normed rows and the queries' gradient. It is the gradient the reference program computes.
-/
module

public import proofs.«01_k».proof.Proof.Gen.DwXqIdeal.Value
public import proofs.«01_k».proof.Proof.Gen.DwXqRefIdeal.Read
public import proofs.«01_k».proof.Proof.Gen.DwXqRefIdeal.Run
public import proofs.«01_k».proof.Defs
public import proofs.«01_k».proof.Proof.Chunks
public import Idealize.ShloMosaic.Lib.Pointwise
public import Idealize.ShloMosaic.Lib.ValueIdx

@[expose] public section

noncomputable section

namespace Cert.Proof.DwXqValue

open Cert.DwXqIdeal Cert.DwXqIdeal.Gen Idealize.ShloMosaic Idealize.ShloMosaic.TcCoe Idealize.SL.Sem
open Cert.DwXqRefIdeal.Read (val_main_v6)

variable (m : (ℓ : Loc nD τ sig) → Buf (Elt Ideal) ℓ)

/-- The block indices of the windows at a grid point: column block `t` of the normed rows, the whole of the queries' gradient,
    and row block `t` of the weight gradient. -/
theorem idx_facts : ∀ t : Fin cfg0.N,
    (win0_0.index t 0 = 0 ∧ win0_0.index t 1 = t.val) ∧ (win0_1.index t 0 = 0 ∧ win0_1.index t 1 = 0)
    ∧ (win0_2.index t 0 = t.val ∧ win0_2.index t 1 = 0) :=
  (by decide +kernel : ∀ t : Fin grid0.N, _)

/-- The array index of element `(r, n)` of the block at point `t`. -/
abbrev at_ (t : Fin cfg0.N) (r : Fin 1024) (n : Fin 512) : S2048x512.Idx := fun a => match a with
  | ⟨0, _⟩ => ⟨t.val * 1024 + r.val, by have h : t.val < 2 := t.isLt; have := r.isLt; show _ < 2048; omega⟩
  | ⟨1, _⟩ => ⟨n.val, n.isLt⟩

/-- The block product at an element: the sum over the 4096 tokens. -/
theorem pay_apply (v0 : Vec Ideal S4096x1024 .bf16) (v1 : Vec Ideal S4096x512 .bf16) (r : Fin 1024) (n : Fin 512) :
    k0_pay1 (F := Ideal) v0 v1 (ix2 r n) = ∑ k : Fin 4096, v0 (ix2 k r) * v1 (ix2 k n) := by
  unfold k0_pay1
  simp only [pointwise, zero_add]

/-- The reference's weight gradient at an index: the sum over the tokens. -/
theorem ref_apply (x0 : (⟨S4096x2048, .bf16⟩ : BufTy).Contents (Elt Ideal)) (x1 : (⟨S4096x512, .bf16⟩ : BufTy).Contents (Elt Ideal))
    (i : S2048x512.Idx) :
    val_main_v6 (F := Ideal) x0 x1 i = ∑ k : Fin 4096, x0 (fun a => match a with | ⟨0, _⟩ => ⟨k.val, k.isLt⟩ | ⟨1, _⟩ => ⟨(i 0).val, (i 0).isLt⟩)
      * x1 (fun a => match a with | ⟨0, _⟩ => ⟨k.val, k.isLt⟩ | ⟨1, _⟩ => ⟨(i 1).val, (i 1).isLt⟩) := by
  rw [Cert.DwXqRefIdeal.Read.val_main_v6_apply, Cert.DwXqRefIdeal.Read.val_main_v5_apply, Cert.DwXqRefIdeal.Read.val_main_v4_apply]
  exact Finset.sum_congr rfl fun k _ => mul_comm _ _

/-- Where a block's elements sit in their array: the two argument windows and the result window. -/
theorem emb0 (t : Fin cfg0.N) (k : Fin 4096) (r : Fin 1024) (n : Fin 512) :
    (win0_0.rect t).emb (ix2 k r) = (fun a => match a with | ⟨0, _⟩ => ⟨k.val, k.isLt⟩ | ⟨1, _⟩ => ⟨(at_ t r n 0).val, (at_ t r n 0).isLt⟩ : S4096x2048.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; rfl)

theorem emb1 (t : Fin cfg0.N) (k : Fin 4096) (r : Fin 1024) (n : Fin 512) :
    (win0_1.rect t).emb (ix2 k n) = (fun a => match a with | ⟨0, _⟩ => ⟨k.val, k.isLt⟩ | ⟨1, _⟩ => ⟨(at_ t r n 1).val, (at_ t r n 1).isLt⟩ : S4096x512.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb2 (t : Fin cfg0.N) (r : Fin 1024) (n : Fin 512) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; exact (Nat.zero_mul _).symm ▸ Nat.zero_add _)

/-- Every index of the result array is one of a block's elements. -/
theorem onto (i : S2048x512.Idx) : ∃ t : Fin cfg0.N, ∃ r n, at_ t r n = i := by
  have h0 : (i 0).val < 2048 := (i 0).isLt
  refine ⟨⟨(i 0).val / 1024, by show _ < 2; omega⟩, ⟨(i 0).val % 1024, by omega⟩, ⟨(i 1).val, (i 1).isLt⟩, funext fun a => Fin.ext ?_⟩
  match a with
  | ⟨0, _⟩ => show (i 0).val / 1024 * 1024 + (i 0).val % 1024 = (i 0).val; omega
  | ⟨1, _⟩ => rfl

/-- The two argument arrays of a device as launched: the normed rows and the queries' gradient. -/
abbrev A0 (c : Dev nD) : (⟨S4096x2048, .bf16⟩ : BufTy).Contents (Elt Ideal) := m ((c : Thread nD τ).loc main_arg0)
abbrev A1 (c : Dev nD) : (⟨S4096x512, .bf16⟩ : BufTy).Contents (Elt Ideal) := m ((c : Thread nD τ).loc main_arg1)

/-- The weight gradient: the array after the run is the reference's. -/
theorem final (c : Dev nD) : (dats m 0 c).arrAt 2 cfg0.N = val_main_v6 (F := Ideal) (A0 m c) (A1 m c) := by
  refine (dats m 0 c).arrAt_eq_of_cover 2 _ (fun t hf => ?_) (fun i => ?_)
  · rw [Cert.DwXqIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v6 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwXqIdeal_DwXqRefIdeal := by
  intro m g m' g' _ hagree
  refine ⟨fun c => val_main_v6 (F := Ideal) (A0 m c) (A1 m c),
    (θ_run _ _ _).mono (fun r h c => ?_) (Cert.DwXqIdeal.Value.run_blocks (F := Ideal) m g),
    (θ_run _ _ _).mono (fun r h c => ?_) (Cert.DwXqRefIdeal.Value.run (F := Ideal) m' g')⟩
  · exact ⟨(h c).1.trans (final m c), (h c).2⟩
  · obtain ⟨a0, a1⟩ := hagree c
    refine ⟨(h c).1.trans ?_, (h c).2⟩
    rw [a0, a1]; exact Cert.DwXqRefIdeal.Read.val_main_v6_eq _ _

/-- The reference's own run ends, with its arguments unchanged and every counter at zero. -/
theorem frame_reference : Cert.quiescent_DwXqRefIdeal := fun m ρ _ =>
  (θ_run Cert.DwXqRefIdeal.defs _ _).mono (fun r h => ⟨fun c => (h c).2, Idealize.ShloMosaic.sem_eq_zero_of_no_sems (by decide) r.2⟩)
    (Cert.DwXqRefIdeal.Value.run (F := Ideal) m ρ)

end Cert.Proof.DwXqValue

end
-- ==== Proof.DwXkvValue.lean ====
/-
  The value of the backward call `mm_dw_xkv`: the gradient of the cross attention's key and value weight, each block of 1024 rows
  one product over the memory's 256 rows. It is the gradient the reference program computes.
-/
module

public import proofs.«01_k».proof.Proof.Gen.DwXkvIdeal.Value
public import proofs.«01_k».proof.Proof.Gen.DwXkvRefIdeal.Read
public import proofs.«01_k».proof.Proof.Gen.DwXkvRefIdeal.Run
public import proofs.«01_k».proof.Defs
public import proofs.«01_k».proof.Proof.Chunks
public import Idealize.ShloMosaic.Lib.Pointwise
public import Idealize.ShloMosaic.Lib.ValueIdx

@[expose] public section

noncomputable section

namespace Cert.Proof.DwXkvValue

open Cert.DwXkvIdeal Cert.DwXkvIdeal.Gen Idealize.ShloMosaic Idealize.ShloMosaic.TcCoe Idealize.SL.Sem
open Cert.DwXkvRefIdeal.Read (val_main_v5)

variable (m : (ℓ : Loc nD τ sig) → Buf (Elt Ideal) ℓ)

/-- The block indices of the windows at a grid point: column block `t` of the memory's normed rows, the whole of the keys' and values' gradient,
    and row block `t` of the weight gradient. -/
theorem idx_facts : ∀ t : Fin cfg0.N,
    (win0_0.index t 0 = 0 ∧ win0_0.index t 1 = t.val) ∧ (win0_1.index t 0 = 0 ∧ win0_1.index t 1 = 0)
    ∧ (win0_2.index t 0 = t.val ∧ win0_2.index t 1 = 0) :=
  (by decide +kernel : ∀ t : Fin grid0.N, _)

/-- The array index of element `(r, n)` of the block at point `t`. -/
abbrev at_ (t : Fin cfg0.N) (r : Fin 1024) (n : Fin 1024) : S2048x1024.Idx := fun a => match a with
  | ⟨0, _⟩ => ⟨t.val * 1024 + r.val, by have h : t.val < 2 := t.isLt; have := r.isLt; show _ < 2048; omega⟩
  | ⟨1, _⟩ => ⟨n.val, n.isLt⟩

/-- The block product at an element: the sum over the memory's 256 rows. -/
theorem pay_apply (v0 : Vec Ideal S256x1024 .bf16) (v1 : Vec Ideal S256x1024 .f32) (r : Fin 1024) (n : Fin 1024) :
    k0_pay1 (F := Ideal) v0 v1 (ix2 r n) = ∑ k : Fin 256, v0 (ix2 k r) * v1 (ix2 k n) := by
  unfold k0_pay1
  simp only [pointwise, zero_add]

/-- The reference's weight gradient at an index: the sum over the memory's rows. -/
theorem ref_apply (x0 : (⟨S256x2048, .bf16⟩ : BufTy).Contents (Elt Ideal)) (x1 : (⟨S256x1024, .f32⟩ : BufTy).Contents (Elt Ideal))
    (i : S2048x1024.Idx) :
    val_main_v5 (F := Ideal) x0 x1 i = ∑ k : Fin 256, x0 (fun a => match a with | ⟨0, _⟩ => ⟨k.val, k.isLt⟩ | ⟨1, _⟩ => ⟨(i 0).val, (i 0).isLt⟩)
      * x1 (fun a => match a with | ⟨0, _⟩ => ⟨k.val, k.isLt⟩ | ⟨1, _⟩ => ⟨(i 1).val, (i 1).isLt⟩) := by
  rw [Cert.DwXkvRefIdeal.Read.val_main_v5_apply, Cert.DwXkvRefIdeal.Read.val_main_v4_apply, Cert.DwXkvRefIdeal.Read.val_main_v3_apply]
  exact Finset.sum_congr rfl fun k _ => mul_comm _ _

/-- Where a block's elements sit in their array: the two argument windows and the result window. -/
theorem emb0 (t : Fin cfg0.N) (k : Fin 256) (r : Fin 1024) (n : Fin 1024) :
    (win0_0.rect t).emb (ix2 k r) = (fun a => match a with | ⟨0, _⟩ => ⟨k.val, k.isLt⟩ | ⟨1, _⟩ => ⟨(at_ t r n 0).val, (at_ t r n 0).isLt⟩ : S256x2048.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; rfl)

theorem emb1 (t : Fin cfg0.N) (k : Fin 256) (r : Fin 1024) (n : Fin 1024) :
    (win0_1.rect t).emb (ix2 k n) = (fun a => match a with | ⟨0, _⟩ => ⟨k.val, k.isLt⟩ | ⟨1, _⟩ => ⟨(at_ t r n 1).val, (at_ t r n 1).isLt⟩ : S256x1024.Idx) := by
  obtain ⟨-, ⟨h0, h1⟩, -⟩ := idx_facts t
  refine funext fun a => Fin.ext ?_
  match a with
  | ⟨0, _⟩ => exact (win0_1.rect_emb_val t _ 0).trans (by rw [h0]; exact (Nat.zero_mul _).symm ▸ Nat.zero_add _)
  | ⟨1, _⟩ => exact (win0_1.rect_emb_val t _ 1).trans (by rw [h1]; exact (Nat.zero_mul _).symm ▸ Nat.zero_add _)

theorem emb2 (t : Fin cfg0.N) (r : Fin 1024) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; rfl)
  | ⟨1, _⟩ => exact (win0_2.rect_emb_val t _ 1).trans (by rw [h1]; exact (Nat.zero_mul _).symm ▸ Nat.zero_add _)

/-- Every index of the result array is one of a block's elements. -/
theorem onto (i : S2048x1024.Idx) : ∃ t : Fin cfg0.N, ∃ r n, at_ t r n = i := by
  have h0 : (i 0).val < 2048 := (i 0).isLt
  refine ⟨⟨(i 0).val / 1024, by show _ < 2; omega⟩, ⟨(i 0).val % 1024, by omega⟩, ⟨(i 1).val, (i 1).isLt⟩, funext fun a => Fin.ext ?_⟩
  match a with
  | ⟨0, _⟩ => show (i 0).val / 1024 * 1024 + (i 0).val % 1024 = (i 0).val; omega
  | ⟨1, _⟩ => rfl

/-- The two argument arrays of a device as launched: the memory's normed rows and the keys' and values' gradient. -/
abbrev A0 (c : Dev nD) : (⟨S256x2048, .bf16⟩ : BufTy).Contents (Elt Ideal) := m ((c : Thread nD τ).loc main_arg0)
abbrev A1 (c : Dev nD) : (⟨S256x1024, .f32⟩ : BufTy).Contents (Elt Ideal) := m ((c : Thread nD τ).loc main_arg1)

/-- The weight gradient: the array after the run is the reference's. -/
theorem final (c : Dev nD) : (dats m 0 c).arrAt 2 cfg0.N = val_main_v5 (F := Ideal) (A0 m c) (A1 m c) := by
  refine (dats m 0 c).arrAt_eq_of_cover 2 _ (fun t hf => ?_) (fun i => ?_)
  · rw [Cert.DwXkvIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v5 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DwXkvIdeal_DwXkvRefIdeal := by
  intro m g m' g' _ hagree
  refine ⟨fun c => val_main_v5 (F := Ideal) (A0 m c) (A1 m c),
    (θ_run _ _ _).mono (fun r h c => ?_) (Cert.DwXkvIdeal.Value.run_blocks (F := Ideal) m g),
    (θ_run _ _ _).mono (fun r h c => ?_) (Cert.DwXkvRefIdeal.Value.run (F := Ideal) m' g')⟩
  · exact ⟨(h c).1.trans (final m c), (h c).2⟩
  · obtain ⟨a0, a1⟩ := hagree c
    refine ⟨(h c).1.trans ?_, (h c).2⟩
    rw [a0, a1]; exact Cert.DwXkvRefIdeal.Read.val_main_v5_eq _ _

/-- The reference's own run ends, with its arguments unchanged and every counter at zero. -/
theorem frame_reference : Cert.quiescent_DwXkvRefIdeal := fun m ρ _ =>
  (θ_run Cert.DwXkvRefIdeal.defs _ _).mono (fun r h => ⟨fun c => (h c).2, Idealize.ShloMosaic.sem_eq_zero_of_no_sems (by decide) r.2⟩)
    (Cert.DwXkvRefIdeal.Value.run (F := Ideal) m ρ)

end Cert.Proof.DwXkvValue

end
-- ==== Proof.DmemValue.lean ====
/-
  The value of the backward call `mm_dmem`: the gradient of the memory's normed rows, each block of 1024 columns one product over
  the 1024 columns of the keys' and values' gradient and of their weight. It is the gradient the reference program computes.
-/
module

public import proofs.«01_k».proof.Proof.Gen.DmemIdeal.Value
public import proofs.«01_k».proof.Proof.Gen.DmemRefIdeal.Read
public import proofs.«01_k».proof.Proof.Gen.DmemRefIdeal.Run
public import proofs.«01_k».proof.Defs
public import proofs.«01_k».proof.Proof.Chunks

@[expose] public section

noncomputable section

namespace Cert.Proof.DmemValue

open Cert.DmemIdeal Cert.DmemIdeal.Gen Idealize.ShloMosaic Idealize.ShloMosaic.TcCoe Idealize.SL.Sem
open Cert.DmemRefIdeal.Read

variable (m : (ℓ : Loc nD τ sig) → Buf (Elt Ideal) ℓ)

/-- The block indices of the windows at a grid point: the whole incoming gradient, row block `t` of the weight, and column block
    `t` of the result. -/
theorem idx_facts : ∀ t : Fin cfg0.N,
    (win0_0.index t 0 = 0 ∧ win0_0.index t 1 = 0) ∧ (win0_1.index t 0 = t.val ∧ win0_1.index t 1 = 0)
    ∧ (win0_2.index t 0 = 0 ∧ win0_2.index t 1 = t.val) :=
  (by decide +kernel : ∀ t : Fin grid0.N, _)

/-- The array index of element `(r, n)` of the block at point `t`. -/
abbrev at_ (t : Fin cfg0.N) (r : Fin 256) (n : Fin 1024) : S256x2048.Idx := fun a => match a with
  | ⟨0, _⟩ => ⟨r.val, r.isLt⟩
  | ⟨1, _⟩ => ⟨t.val * 1024 + n.val, by have h : t.val < 2 := t.isLt; have := n.isLt; show _ < 2048; omega⟩

/-- The block product at an element: the sum over the 1024 columns. -/
theorem pay_apply (v0 : Vec Ideal S256x1024 .f32) (v1 : Vec Ideal S1024x1024 .bf16) (r : Fin 256) (n : Fin 1024) :
    k0_pay1 (F := Ideal) v0 v1 (ix2 r n) = ∑ k : Fin 1024, v0 (ix2 r k) * v1 (ix2 n k) := by
  unfold k0_pay1
  simp only [pointwise, zero_add, shapeCast_self]

/-- The reference's gradient at an index: the sum over the 1024 columns. -/
theorem ref_apply (x0 : (⟨S256x1024, .f32⟩ : BufTy).Contents (Elt Ideal)) (x1 : (⟨S2048x1024, .bf16⟩ : BufTy).Contents (Elt Ideal))
    (i : S256x2048.Idx) :
    val_main_v3 (F := Ideal) x0 x1 i = ∑ k : Fin 1024, x0 (fun a => match a with | ⟨0, _⟩ => ⟨(i 0).val, (i 0).isLt⟩ | ⟨1, _⟩ => ⟨k.val, k.isLt⟩)
      * x1 (fun a => match a with | ⟨0, _⟩ => ⟨(i 1).val, (i 1).isLt⟩ | ⟨1, _⟩ => ⟨k.val, k.isLt⟩) := by
  exact val_main_v3_apply x0 x1 i

/-- Where a block's elements sit in their array: the two argument windows and the result window. -/
theorem emb0 (t : Fin cfg0.N) (k : Fin 1024) (r : Fin 256) (n : Fin 1024) :
    (win0_0.rect t).emb (ix2 r k) = (fun a => match a with | ⟨0, _⟩ => ⟨(at_ t r n 0).val, (at_ t r n 0).isLt⟩ | ⟨1, _⟩ => ⟨k.val, k.isLt⟩ : S256x1024.Idx) := by
  obtain ⟨⟨h0, h1⟩, -⟩ := idx_facts t
  refine funext fun a => Fin.ext ?_
  match a with
  | ⟨0, _⟩ => exact (win0_0.rect_emb_val t _ 0).trans (by rw [h0]; exact (Nat.zero_mul _).symm ▸ Nat.zero_add _)
  | ⟨1, _⟩ => exact (win0_0.rect_emb_val t _ 1).trans (by rw [h1]; exact (Nat.zero_mul _).symm ▸ Nat.zero_add _)

theorem emb1 (t : Fin cfg0.N) (k : Fin 1024) (r : Fin 256) (n : Fin 1024) :
    (win0_1.rect t).emb (ix2 n k) = (fun a => match a with | ⟨0, _⟩ => ⟨(at_ t r n 1).val, (at_ t r n 1).isLt⟩ | ⟨1, _⟩ => ⟨k.val, k.isLt⟩ : S2048x1024.Idx) := by
  obtain ⟨-, ⟨h0, h1⟩, -⟩ := idx_facts t
  refine funext fun a => Fin.ext ?_
  match a with
  | ⟨0, _⟩ => exact (win0_1.rect_emb_val t _ 0).trans (by rw [h0]; rfl)
  | ⟨1, _⟩ => exact (win0_1.rect_emb_val t _ 1).trans (by rw [h1]; exact (Nat.zero_mul _).symm ▸ Nat.zero_add _)

theorem emb2 (t : Fin cfg0.N) (r : Fin 256) (n : Fin 1024) : (win0_2.rect t).emb (ix2 r n) = at_ t r n := by
  obtain ⟨-, -, h0, h1⟩ := idx_facts t
  refine funext fun a => Fin.ext ?_
  match a with
  | ⟨0, _⟩ => exact (win0_2.rect_emb_val t _ 0).trans (by rw [h0]; exact (Nat.zero_mul _).symm ▸ Nat.zero_add _)
  | ⟨1, _⟩ => exact (win0_2.rect_emb_val t _ 1).trans (by rw [h1]; rfl)

/-- Every index of the result array is one of a block's elements. -/
theorem onto (i : S256x2048.Idx) : ∃ t : Fin cfg0.N, ∃ r n, at_ t r n = i := by
  have h1 : (i 1).val < 2048 := (i 1).isLt
  refine ⟨⟨(i 1).val / 1024, by show _ < 2; omega⟩, ⟨(i 0).val, (i 0).isLt⟩, ⟨(i 1).val % 1024, by omega⟩, funext fun a => Fin.ext ?_⟩
  match a with
  | ⟨0, _⟩ => rfl
  | ⟨1, _⟩ => show (i 1).val / 1024 * 1024 + (i 1).val % 1024 = (i 1).val; omega

/-- The two argument arrays of a device as launched: the incoming gradient and the weight. -/
abbrev A0 (c : Dev nD) : (⟨S256x1024, .f32⟩ : BufTy).Contents (Elt Ideal) := m ((c : Thread nD τ).loc main_arg0)
abbrev A1 (c : Dev nD) : (⟨S2048x1024, .bf16⟩ : BufTy).Contents (Elt Ideal) := m ((c : Thread nD τ).loc main_arg1)

/-- The gradient: the array after the run is the reference's. -/
theorem final (c : Dev nD) : (dats m 0 c).arrAt 2 cfg0.N = val_main_v3 (F := Ideal) (A0 m c) (A1 m c) := by
  refine (dats m 0 c).arrAt_eq_of_cover 2 _ (fun t hf => ?_) (fun i => ?_)
  · rw [Cert.DmemIdeal.Value.flushed2]
    unfold out0_2
    rw [View.canon_unit_zero hz2, View.ld_unit_zero hz2, View.ld_unit_zero hz2]
    funext y
    obtain ⟨r, n, rfl⟩ : ∃ r n, y = ix2 r n := ⟨y 0, y 1, eq_ix2 y⟩
    show k0_pay1 (F := Ideal) (iblk m c 0 t) (iblk m c 1 t) (ix2 r n) = val_main_v3 (F := Ideal) _ _ ((win0_2.rect t).emb (ix2 r n))
    rw [emb2, pay_apply, ref_apply]
    exact Finset.sum_congr rfl fun k _ => congrArg₂ (· * ·) (congrArg (A0 m c) (emb0 t k r n)) (congrArg (A1 m c) (emb1 t k r n))
  · obtain ⟨t, r, n, rfl⟩ := onto i
    rw [← emb2]
    exact ⟨t, flush0_2 t, View.emb_mem_set ((cfg0.win 2).blk t).view _⟩

/-- The kernel computes the reference's gradient: started with the same arguments, both programs' runs end with the same
    result and with the arguments unchanged. -/
theorem algebraic : Cert.algebraic_DmemIdeal_DmemRefIdeal := by
  intro m g m' g' _ hagree
  refine ⟨fun c => val_main_v3 (F := Ideal) (A0 m c) (A1 m c),
    (θ_run _ _ _).mono (fun r h c => ?_) (Cert.DmemIdeal.Value.run_blocks (F := Ideal) m g),
    (θ_run _ _ _).mono (fun r h c => ?_) (Cert.DmemRefIdeal.Value.run (F := Ideal) m' g')⟩
  · exact ⟨(h c).1.trans (final m c), (h c).2⟩
  · obtain ⟨a0, a1⟩ := hagree c
    refine ⟨(h c).1.trans ?_, (h c).2⟩
    rw [a0, a1]; exact val_main_v3_eq _ _

/-- The reference's own run ends, with its arguments unchanged and every counter at zero. -/
theorem frame_reference : Cert.quiescent_DmemRefIdeal := fun m ρ _ =>
  (θ_run Cert.DmemRefIdeal.defs _ _).mono (fun r h => ⟨fun c => (h c).2, Idealize.ShloMosaic.sem_eq_zero_of_no_sems (by decide) r.2⟩)
    (Cert.DmemRefIdeal.Value.run (F := Ideal) m ρ)

end Cert.Proof.DmemValue

end
-- ==== Proof.AdamSmallValue.lean ====
/-
  The values of the optimiser's calls on the small weights: AdamW elementwise on a gain, on the attention sinks and on the
  convolution's taps. Each call computes, of the weight, its gradient and its two moments, the step and the two new moments, in
  the formula the reference program computes them with, so element by element the two programs are one function.
-/
module

public import proofs.«01_k».proof.Proof.Gen.AdamGainIdeal.Value
public import proofs.«01_k».proof.Proof.Gen.AdamGainRefIdeal.Read
public import proofs.«01_k».proof.Proof.Gen.AdamGainRefIdeal.Run
public import proofs.«01_k».proof.Proof.Gen.AdamSinksIdeal.Value
public import proofs.«01_k».proof.Proof.Gen.AdamSinksRefIdeal.Read
public import proofs.«01_k».proof.Proof.Gen.AdamSinksRefIdeal.Run
public import proofs.«01_k».proof.Proof.Gen.AdamConvIdeal.Value
public import proofs.«01_k».proof.Proof.Gen.AdamConvRefIdeal.Read
public import proofs.«01_k».proof.Proof.Gen.AdamConvRefIdeal.Run
public import proofs.«01_k».proof.Defs

@[expose] public section

noncomputable section

open Idealize.ShloMosaic Idealize.ShloMosaic.TcCoe Idealize.SL.Sem

namespace Cert.Proof.AdamGainValue

open Cert.AdamGainIdeal.Value

/-- The call on a gain computes the reference's step and moments: started with the same arguments, both programs' runs end with the
    same three results and with the arguments unchanged. -/
theorem algebraic : Cert.algebraic_AdamGainIdeal_AdamGainRefIdeal := by
  intro m g m' g' _ hagree
  refine ⟨_, _, _, Cert.AdamGainIdeal.Value.run (F := Ideal) m g,
    (θ_run _ _ _).mono (fun r h c => ?_) (Cert.AdamGainRefIdeal.Value.run (F := Ideal) m' g')⟩
  obtain ⟨a0, a1, a2, a3⟩ := hagree c
  refine ⟨(h c).1.trans ?_, (h c).2.1.trans ?_, (h c).2.2.1.trans ?_, (h c).2.2.2⟩
  · rw [a0, a1, a2, a3]; rfl
  · rw [a1, a2]; rfl
  · rw [a1, a3]; rfl

/-- The reference's own run ends, with its arguments unchanged and every counter at zero. -/
theorem frame_reference : Cert.quiescent_AdamGainRefIdeal := fun m ρ _ =>
  (θ_run Cert.AdamGainRefIdeal.defs _ _).mono (fun r h => ⟨fun c => (h c).2.2.2, Idealize.ShloMosaic.sem_eq_zero_of_no_sems (by decide) r.2⟩)
    (Cert.AdamGainRefIdeal.Value.run (F := Ideal) m ρ)

end Cert.Proof.AdamGainValue

namespace Cert.Proof.AdamSinksValue

open Cert.AdamSinksIdeal.Value

/-- The call on the sinks computes the reference's step and moments: started with the same arguments, both programs' runs end with the
    same three results and with the arguments unchanged. -/
theorem algebraic : Cert.algebraic_AdamSinksIdeal_AdamSinksRefIdeal := by
  intro m g m' g' _ hagree
  refine ⟨_, _, _, Cert.AdamSinksIdeal.Value.run (F := Ideal) m g,
    (θ_run _ _ _).mono (fun r h c => ?_) (Cert.AdamSinksRefIdeal.Value.run (F := Ideal) m' g')⟩
  obtain ⟨a0, a1, a2, a3⟩ := hagree c
  refine ⟨(h c).1.trans ?_, (h c).2.1.trans ?_, (h c).2.2.1.trans ?_, (h c).2.2.2⟩
  · rw [a0, a1, a2, a3]; rfl
  · rw [a1, a2]; rfl
  · rw [a1, a3]; rfl

/-- The reference's own run ends, with its arguments unchanged and every counter at zero. -/
theorem frame_reference : Cert.quiescent_AdamSinksRefIdeal := fun m ρ _ =>
  (θ_run Cert.AdamSinksRefIdeal.defs _ _).mono (fun r h => ⟨fun c => (h c).2.2.2, Idealize.ShloMosaic.sem_eq_zero_of_no_sems (by decide) r.2⟩)
    (Cert.AdamSinksRefIdeal.Value.run (F := Ideal) m ρ)

end Cert.Proof.AdamSinksValue

namespace Cert.Proof.AdamConvValue

open Cert.AdamConvIdeal.Value

/-- The call on the convolution's taps computes the reference's step and moments: started with the same arguments, both programs' runs end with the
    same three results and with the arguments unchanged. -/
theorem algebraic : Cert.algebraic_AdamConvIdeal_AdamConvRefIdeal := by
  intro m g m' g' _ hagree
  refine ⟨_, _, _, Cert.AdamConvIdeal.Value.run (F := Ideal) m g,
    (θ_run _ _ _).mono (fun r h c => ?_) (Cert.AdamConvRefIdeal.Value.run (F := Ideal) m' g')⟩
  obtain ⟨a0, a1, a2, a3⟩ := hagree c
  refine ⟨(h c).1.trans ?_, (h c).2.1.trans ?_, (h c).2.2.1.trans ?_, (h c).2.2.2⟩
  · rw [a0, a1, a2, a3]; rfl
  · rw [a1, a2]; rfl
  · rw [a1, a3]; rfl

/-- The reference's own run ends, with its arguments unchanged and every counter at zero. -/
theorem frame_reference : Cert.quiescent_AdamConvRefIdeal := fun m ρ _ =>
  (θ_run Cert.AdamConvRefIdeal.defs _ _).mono (fun r h => ⟨fun c => (h c).2.2.2, Idealize.ShloMosaic.sem_eq_zero_of_no_sems (by decide) r.2⟩)
    (Cert.AdamConvRefIdeal.Value.run (F := Ideal) m ρ)

end Cert.Proof.AdamConvValue

end
-- ==== Proof.lean ====
module

public import proofs.«01_k».proof.Defs
public import proofs.«01_k».proof.Proof.Gen.Gate.Frame
public import proofs.«01_k».proof.Proof.GateValue
public import proofs.«01_k».proof.Proof.Gen.DwOut.Frame
public import proofs.«01_k».proof.Proof.DwOutValue
public import proofs.«01_k».proof.Proof.Gen.DwFfn.Frame
public import proofs.«01_k».proof.Proof.DwFfnValue
public import proofs.«01_k».proof.Proof.Gen.DuFfn.Frame
public import proofs.«01_k».proof.Proof.DuFfnValue
public import proofs.«01_k».proof.Proof.Gen.DwIn.Frame
public import proofs.«01_k».proof.Proof.DwInValue
public import proofs.«01_k».proof.Proof.Gen.DuIn.Frame
public import proofs.«01_k».proof.Proof.DuInValue
public import proofs.«01_k».proof.Proof.Gen.Dact.Frame
public import proofs.«01_k».proof.Proof.DactValue
public import proofs.«01_k».proof.Proof.Gen.DwInB.Frame
public import proofs.«01_k».proof.Proof.DwInBValue
public import proofs.«01_k».proof.Proof.Gen.ProjIn.Frame
public import proofs.«01_k».proof.Proof.ProjInValue
public import proofs.«01_k».proof.Proof.Gen.FfnIn.Frame
public import proofs.«01_k».proof.Proof.FfnInValue
public import proofs.«01_k».proof.Proof.Gen.FfnOut.Frame
public import proofs.«01_k».proof.Proof.FfnOutValue
public import proofs.«01_k».proof.Proof.Gen.DwMix.Frame
public import proofs.«01_k».proof.Proof.DwMixValue
public import proofs.«01_k».proof.Proof.Gen.DwAttn.Frame
public import proofs.«01_k».proof.Proof.DwAttnValue
public import proofs.«01_k».proof.Proof.Gen.DwConv.Frame
public import proofs.«01_k».proof.Proof.DwConvValue
public import proofs.«01_k».proof.Proof.Gen.DoAttn.Frame
public import proofs.«01_k».proof.Proof.DoAttnValue
public import proofs.«01_k».proof.Proof.Gen.Dcy.Frame
public import proofs.«01_k».proof.Proof.DcyValue
public import proofs.«01_k».proof.Proof.Gen.AttnProj.Frame
public import proofs.«01_k».proof.Proof.AttnProjValue
public import proofs.«01_k».proof.Proof.Gen.ConvProj.Frame
public import proofs.«01_k».proof.Proof.ConvProjValue
public import proofs.«01_k».proof.Proof.Gen.MixOut.Frame
public import proofs.«01_k».proof.Proof.MixOutValue
public import proofs.«01_k».proof.Proof.Gen.RmsMix.Frame
public import proofs.«01_k».proof.Proof.RmsMixValue
public import proofs.«01_k».proof.Proof.Gen.Conv.Frame
public import proofs.«01_k».proof.Proof.ConvValue
public import proofs.«01_k».proof.Proof.Gen.RmsFfn.Frame
public import proofs.«01_k».proof.Proof.RmsFfnValue
public import proofs.«01_k».proof.Proof.Gen.RmsXattn.Frame
public import proofs.«01_k».proof.Proof.RmsXattnValue
public import proofs.«01_k».proof.Proof.Gen.RmsMem.Frame
public import proofs.«01_k».proof.Proof.RmsMemValue
public import proofs.«01_k».proof.Proof.Gen.NormMix.Frame
public import proofs.«01_k».proof.Proof.NormMixValue
public import proofs.«01_k».proof.Proof.Gen.NormMem.Frame
public import proofs.«01_k».proof.Proof.NormMemValue
public import proofs.«01_k».proof.Proof.Gen.ConvFwd.Frame
public import proofs.«01_k».proof.Proof.ConvFwdValue
public import proofs.«01_k».proof.Proof.Gen.LossHead.Frame
public import proofs.«01_k».proof.Proof.LossHeadValue
public import proofs.«01_k».proof.Proof.Gen.Xattn.Frame
public import proofs.«01_k».proof.Proof.XattnValue
public import proofs.«01_k».proof.Proof.Gen.XattnBwd.Frame
public import proofs.«01_k».proof.Proof.XattnBwdValue
public import proofs.«01_k».proof.Proof.Gen.Xq.Frame
public import proofs.«01_k».proof.Proof.XqValue
public import proofs.«01_k».proof.Proof.Gen.Xkv.Frame
public import proofs.«01_k».proof.Proof.XkvValue
public import proofs.«01_k».proof.Proof.Gen.Xo.Frame
public import proofs.«01_k».proof.Proof.XoValue
public import proofs.«01_k».proof.Proof.Gen.DwXo.Frame
public import proofs.«01_k».proof.Proof.DwXoValue
public import proofs.«01_k».proof.Proof.Gen.DoX.Frame
public import proofs.«01_k».proof.Proof.DoXValue
public import proofs.«01_k».proof.Proof.Gen.DwXq.Frame
public import proofs.«01_k».proof.Proof.DwXqValue
public import proofs.«01_k».proof.Proof.Gen.DwXkv.Frame
public import proofs.«01_k».proof.Proof.DwXkvValue
public import proofs.«01_k».proof.Proof.Gen.Dmem.Frame
public import proofs.«01_k».proof.Proof.DmemValue
public import proofs.«01_k».proof.Proof.Gen.AdamGain.Frame
public import proofs.«01_k».proof.Proof.AdamSmallValue
public import proofs.«01_k».proof.Proof.Gen.AdamSinks.Frame
public import proofs.«01_k».proof.Proof.Gen.AdamConv.Frame

@[expose] public section

/-- Each call and its reference run to the end without a fault, the idealized call is the printed call with its
roundings left out, and its results are the reference's: at every input, for the gated activation's gradient
at every finite one, and for the cross-attention's gradient wherever its queries and keys are finite. -/
theorem Cert.Proof.claim : Cert.Claim :=
  ⟨Cert.Gate.Gen.facts, Cert.GateIdeal.Gen.facts, Cert.GateRefIdeal.Gen.facts,
   Cert.DwOut.Gen.facts, Cert.DwOutIdeal.Gen.facts, Cert.DwOutRefIdeal.Gen.facts,
   Cert.DwFfn.Gen.facts, Cert.DwFfnIdeal.Gen.facts, Cert.DwFfnRefIdeal.Gen.facts,
   Cert.DuFfn.Gen.facts, Cert.DuFfnIdeal.Gen.facts, Cert.DuFfnRefIdeal.Gen.facts,
   Cert.DwIn.Gen.facts, Cert.DwInIdeal.Gen.facts, Cert.DwInRefIdeal.Gen.facts,
   Cert.DuIn.Gen.facts, Cert.DuInIdeal.Gen.facts, Cert.DuInRefIdeal.Gen.facts,
   Cert.Dact.Gen.facts, Cert.DactIdeal.Gen.facts, Cert.DactRefIdeal.Gen.facts,
   Cert.DwInB.Gen.facts, Cert.DwInBIdeal.Gen.facts, Cert.DwInBRefIdeal.Gen.facts,
   Cert.ProjIn.Gen.facts, Cert.ProjInIdeal.Gen.facts, Cert.ProjInRefIdeal.Gen.facts,
   Cert.FfnIn.Gen.facts, Cert.FfnInIdeal.Gen.facts, Cert.FfnInRefIdeal.Gen.facts,
   Cert.FfnOut.Gen.facts, Cert.FfnOutIdeal.Gen.facts, Cert.FfnOutRefIdeal.Gen.facts,
   Cert.DwMix.Gen.facts, Cert.DwMixIdeal.Gen.facts, Cert.DwMixRefIdeal.Gen.facts,
   Cert.DwAttn.Gen.facts, Cert.DwAttnIdeal.Gen.facts, Cert.DwAttnRefIdeal.Gen.facts,
   Cert.DwConv.Gen.facts, Cert.DwConvIdeal.Gen.facts, Cert.DwConvRefIdeal.Gen.facts,
   Cert.DoAttn.Gen.facts, Cert.DoAttnIdeal.Gen.facts, Cert.DoAttnRefIdeal.Gen.facts,
   Cert.Dcy.Gen.facts, Cert.DcyIdeal.Gen.facts, Cert.DcyRefIdeal.Gen.facts,
   Cert.AttnProj.Gen.facts, Cert.AttnProjIdeal.Gen.facts, Cert.AttnProjRefIdeal.Gen.facts,
   Cert.ConvProj.Gen.facts, Cert.ConvProjIdeal.Gen.facts, Cert.ConvProjRefIdeal.Gen.facts,
   Cert.MixOut.Gen.facts, Cert.MixOutIdeal.Gen.facts, Cert.MixOutRefIdeal.Gen.facts,
   Cert.RmsMix.Gen.facts, Cert.RmsMixIdeal.Gen.facts, Cert.RmsMixRefIdeal.Gen.facts,
   Cert.Conv.Gen.facts, Cert.ConvIdeal.Gen.facts, Cert.ConvRefIdeal.Gen.facts,
   Cert.RmsFfn.Gen.facts, Cert.RmsFfnIdeal.Gen.facts, Cert.RmsFfnRefIdeal.Gen.facts,
   Cert.RmsXattn.Gen.facts, Cert.RmsXattnIdeal.Gen.facts, Cert.RmsXattnRefIdeal.Gen.facts,
   Cert.RmsMem.Gen.facts, Cert.RmsMemIdeal.Gen.facts, Cert.RmsMemRefIdeal.Gen.facts,
   Cert.NormMix.Gen.facts, Cert.NormMixIdeal.Gen.facts, Cert.NormMixRefIdeal.Gen.facts,
   Cert.NormMem.Gen.facts, Cert.NormMemIdeal.Gen.facts, Cert.NormMemRefIdeal.Gen.facts,
   Cert.ConvFwd.Gen.facts, Cert.ConvFwdIdeal.Gen.facts, Cert.ConvFwdRefIdeal.Gen.facts,
   Cert.LossHead.Gen.facts, Cert.LossHeadIdeal.Gen.facts, Cert.LossHeadRefIdeal.Gen.facts,
   Cert.Xattn.Gen.facts, Cert.XattnIdeal.Gen.facts, Cert.XattnRefIdeal.Gen.facts,
   Cert.XattnBwd.Gen.facts, Cert.XattnBwdIdeal.Gen.facts, Cert.XattnBwdRefIdeal.Gen.facts,
   Cert.Xq.Gen.facts, Cert.XqIdeal.Gen.facts, Cert.XqRefIdeal.Gen.facts,
   Cert.Xkv.Gen.facts, Cert.XkvIdeal.Gen.facts, Cert.XkvRefIdeal.Gen.facts,
   Cert.Xo.Gen.facts, Cert.XoIdeal.Gen.facts, Cert.XoRefIdeal.Gen.facts,
   Cert.DwXo.Gen.facts, Cert.DwXoIdeal.Gen.facts, Cert.DwXoRefIdeal.Gen.facts,
   Cert.DoX.Gen.facts, Cert.DoXIdeal.Gen.facts, Cert.DoXRefIdeal.Gen.facts,
   Cert.DwXq.Gen.facts, Cert.DwXqIdeal.Gen.facts, Cert.DwXqRefIdeal.Gen.facts,
   Cert.DwXkv.Gen.facts, Cert.DwXkvIdeal.Gen.facts, Cert.DwXkvRefIdeal.Gen.facts,
   Cert.Dmem.Gen.facts, Cert.DmemIdeal.Gen.facts, Cert.DmemRefIdeal.Gen.facts,
   Cert.AdamGain.Gen.facts, Cert.AdamGainIdeal.Gen.facts, Cert.AdamGainRefIdeal.Gen.facts,
   Cert.AdamSinks.Gen.facts, Cert.AdamSinksIdeal.Gen.facts, Cert.AdamSinksRefIdeal.Gen.facts,
   Cert.AdamConv.Gen.facts, Cert.AdamConvIdeal.Gen.facts, Cert.AdamConvRefIdeal.Gen.facts,
   Cert.Proof.DactValue.preFacts, Cert.Proof.XattnBwdValue.preFacts,
   fun m ρ _ => Cert.Gate.Gen.frame m ρ, fun m ρ _ => Cert.GateIdeal.Gen.frame m ρ, Cert.Proof.GateValue.frame_reference,
   fun m ρ _ => Cert.DwOut.Gen.frame m ρ, fun m ρ _ => Cert.DwOutIdeal.Gen.frame m ρ, Cert.Proof.DwOutValue.frame_reference,
   fun m ρ _ => Cert.DwFfn.Gen.frame m ρ, fun m ρ _ => Cert.DwFfnIdeal.Gen.frame m ρ, Cert.Proof.DwFfnValue.frame_reference,
   fun m ρ _ => Cert.DuFfn.Gen.frame m ρ, fun m ρ _ => Cert.DuFfnIdeal.Gen.frame m ρ, Cert.Proof.DuFfnValue.frame_reference,
   fun m ρ _ => Cert.DwIn.Gen.frame m ρ, fun m ρ _ => Cert.DwInIdeal.Gen.frame m ρ, Cert.Proof.DwInValue.frame_reference,
   fun m ρ _ => Cert.DuIn.Gen.frame m ρ, fun m ρ _ => Cert.DuInIdeal.Gen.frame m ρ, Cert.Proof.DuInValue.frame_reference,
   fun m ρ _ => Cert.Dact.Gen.frame m ρ, fun m ρ _ => Cert.DactIdeal.Gen.frame m ρ, fun m ρ _ => Cert.DactIdeal.Gen.frame m ρ,
   Cert.Proof.DactValue.frame_reference, fun m ρ _ => Cert.Proof.DactValue.frame_reference m ρ trivial,
   fun m ρ _ => Cert.DwInB.Gen.frame m ρ, fun m ρ _ => Cert.DwInBIdeal.Gen.frame m ρ, Cert.Proof.DwInBValue.frame_reference,
   fun m ρ _ => Cert.ProjIn.Gen.frame m ρ, fun m ρ _ => Cert.ProjInIdeal.Gen.frame m ρ, Cert.Proof.ProjInValue.frame_reference,
   fun m ρ _ => Cert.FfnIn.Gen.frame m ρ, fun m ρ _ => Cert.FfnInIdeal.Gen.frame m ρ, Cert.Proof.FfnInValue.frame_reference,
   fun m ρ _ => Cert.FfnOut.Gen.frame m ρ, fun m ρ _ => Cert.FfnOutIdeal.Gen.frame m ρ, Cert.Proof.FfnOutValue.frame_reference,
   fun m ρ _ => Cert.DwMix.Gen.frame m ρ, fun m ρ _ => Cert.DwMixIdeal.Gen.frame m ρ, Cert.Proof.DwMixValue.frame_reference,
   fun m ρ _ => Cert.DwAttn.Gen.frame m ρ, fun m ρ _ => Cert.DwAttnIdeal.Gen.frame m ρ, Cert.Proof.DwAttnValue.frame_reference,
   fun m ρ _ => Cert.DwConv.Gen.frame m ρ, fun m ρ _ => Cert.DwConvIdeal.Gen.frame m ρ, Cert.Proof.DwConvValue.frame_reference,
   fun m ρ _ => Cert.DoAttn.Gen.frame m ρ, fun m ρ _ => Cert.DoAttnIdeal.Gen.frame m ρ, Cert.Proof.DoAttnValue.frame_reference,
   fun m ρ _ => Cert.Dcy.Gen.frame m ρ, fun m ρ _ => Cert.DcyIdeal.Gen.frame m ρ, Cert.Proof.DcyValue.frame_reference,
   fun m ρ _ => Cert.AttnProj.Gen.frame m ρ, fun m ρ _ => Cert.AttnProjIdeal.Gen.frame m ρ, Cert.Proof.AttnProjValue.frame_reference,
   fun m ρ _ => Cert.ConvProj.Gen.frame m ρ, fun m ρ _ => Cert.ConvProjIdeal.Gen.frame m ρ, Cert.Proof.ConvProjValue.frame_reference,
   fun m ρ _ => Cert.MixOut.Gen.frame m ρ, fun m ρ _ => Cert.MixOutIdeal.Gen.frame m ρ, Cert.Proof.MixOutValue.frame_reference,
   fun m ρ _ => Cert.RmsMix.Gen.frame m ρ, fun m ρ _ => Cert.RmsMixIdeal.Gen.frame m ρ, Cert.Proof.RmsMixValue.frame_reference,
   fun m ρ _ => Cert.Conv.Gen.frame m ρ, fun m ρ _ => Cert.ConvIdeal.Gen.frame m ρ, Cert.Proof.ConvValue.frame_reference,
   fun m ρ _ => Cert.RmsFfn.Gen.frame m ρ, fun m ρ _ => Cert.RmsFfnIdeal.Gen.frame m ρ, Cert.Proof.RmsFfnValue.frame_reference,
   fun m ρ _ => Cert.RmsXattn.Gen.frame m ρ, fun m ρ _ => Cert.RmsXattnIdeal.Gen.frame m ρ, Cert.Proof.RmsXattnValue.frame_reference,
   fun m ρ _ => Cert.RmsMem.Gen.frame m ρ, fun m ρ _ => Cert.RmsMemIdeal.Gen.frame m ρ, Cert.Proof.RmsMemValue.frame_reference,
   fun m ρ _ => Cert.NormMix.Gen.frame m ρ, fun m ρ _ => Cert.NormMixIdeal.Gen.frame m ρ, Cert.Proof.NormMixValue.frame_reference,
   fun m ρ _ => Cert.NormMem.Gen.frame m ρ, fun m ρ _ => Cert.NormMemIdeal.Gen.frame m ρ, Cert.Proof.NormMemValue.frame_reference,
   fun m ρ _ => Cert.ConvFwd.Gen.frame m ρ, fun m ρ _ => Cert.ConvFwdIdeal.Gen.frame m ρ, Cert.Proof.ConvFwdValue.frame_reference,
   fun m ρ _ => Cert.LossHead.Gen.frame m ρ, fun m ρ _ => Cert.LossHeadIdeal.Gen.frame m ρ, Cert.Proof.LossHeadValue.frame_reference,
   fun m ρ _ => Cert.Xattn.Gen.frame m ρ, fun m ρ _ => Cert.XattnIdeal.Gen.frame m ρ, Cert.Proof.XattnValue.frame_reference,
   fun m ρ _ => Cert.XattnBwd.Gen.frame m ρ, fun m ρ _ => Cert.XattnBwdIdeal.Gen.frame m ρ, fun m ρ _ => Cert.XattnBwdIdeal.Gen.frame m ρ,
   Cert.Proof.XattnBwdValue.frame_reference, fun m ρ _ => Cert.Proof.XattnBwdValue.frame_reference m ρ trivial,
   fun m ρ _ => Cert.Xq.Gen.frame m ρ, fun m ρ _ => Cert.XqIdeal.Gen.frame m ρ, Cert.Proof.XqValue.frame_reference,
   fun m ρ _ => Cert.Xkv.Gen.frame m ρ, fun m ρ _ => Cert.XkvIdeal.Gen.frame m ρ, Cert.Proof.XkvValue.frame_reference,
   fun m ρ _ => Cert.Xo.Gen.frame m ρ, fun m ρ _ => Cert.XoIdeal.Gen.frame m ρ, Cert.Proof.XoValue.frame_reference,
   fun m ρ _ => Cert.DwXo.Gen.frame m ρ, fun m ρ _ => Cert.DwXoIdeal.Gen.frame m ρ, Cert.Proof.DwXoValue.frame_reference,
   fun m ρ _ => Cert.DoX.Gen.frame m ρ, fun m ρ _ => Cert.DoXIdeal.Gen.frame m ρ, Cert.Proof.DoXValue.frame_reference,
   fun m ρ _ => Cert.DwXq.Gen.frame m ρ, fun m ρ _ => Cert.DwXqIdeal.Gen.frame m ρ, Cert.Proof.DwXqValue.frame_reference,
   fun m ρ _ => Cert.DwXkv.Gen.frame m ρ, fun m ρ _ => Cert.DwXkvIdeal.Gen.frame m ρ, Cert.Proof.DwXkvValue.frame_reference,
   fun m ρ _ => Cert.Dmem.Gen.frame m ρ, fun m ρ _ => Cert.DmemIdeal.Gen.frame m ρ, Cert.Proof.DmemValue.frame_reference,
   fun m ρ _ => Cert.AdamGain.Gen.frame m ρ, fun m ρ _ => Cert.AdamGainIdeal.Gen.frame m ρ, Cert.Proof.AdamGainValue.frame_reference,
   fun m ρ _ => Cert.AdamSinks.Gen.frame m ρ, fun m ρ _ => Cert.AdamSinksIdeal.Gen.frame m ρ, Cert.Proof.AdamSinksValue.frame_reference,
   fun m ρ _ => Cert.AdamConv.Gen.frame m ρ, fun m ρ _ => Cert.AdamConvIdeal.Gen.frame m ρ, Cert.Proof.AdamConvValue.frame_reference,
   trivial, Cert.Proof.GateValue.algebraic,
   trivial, Cert.Proof.DwOutValue.algebraic,
   trivial, Cert.Proof.DwFfnValue.algebraic,
   trivial, Cert.Proof.DuFfnValue.algebraic,
   trivial, Cert.Proof.DwInValue.algebraic,
   trivial, Cert.Proof.DuInValue.algebraic,
   trivial, Cert.Proof.DactValue.algebraic,
   trivial, Cert.Proof.DwInBValue.algebraic,
   trivial, Cert.Proof.ProjInValue.algebraic,
   trivial, Cert.Proof.FfnInValue.algebraic,
   trivial, Cert.Proof.FfnOutValue.algebraic,
   trivial, Cert.Proof.DwMixValue.algebraic,
   trivial, Cert.Proof.DwAttnValue.algebraic,
   trivial, Cert.Proof.DwConvValue.algebraic,
   trivial, Cert.Proof.DoAttnValue.algebraic,
   trivial, Cert.Proof.DcyValue.algebraic,
   trivial, Cert.Proof.AttnProjValue.algebraic,
   trivial, Cert.Proof.ConvProjValue.algebraic,
   trivial, Cert.Proof.MixOutValue.algebraic,
   trivial, Cert.Proof.RmsMixValue.algebraic,
   trivial, Cert.Proof.ConvValue.algebraic,
   trivial, Cert.Proof.RmsFfnValue.algebraic,
   trivial, Cert.Proof.RmsXattnValue.algebraic,
   trivial, Cert.Proof.RmsMemValue.algebraic,
   trivial, Cert.Proof.NormMixValue.algebraic,
   trivial, Cert.Proof.NormMemValue.algebraic,
   trivial, Cert.Proof.ConvFwdValue.algebraic,
   trivial, Cert.Proof.LossHeadValue.algebraic,
   trivial, Cert.Proof.XattnValue.algebraic,
   trivial, Cert.Proof.XattnBwdValue.algebraic,
   trivial, Cert.Proof.XqValue.algebraic,
   trivial, Cert.Proof.XkvValue.algebraic,
   trivial, Cert.Proof.XoValue.algebraic,
   trivial, Cert.Proof.DwXoValue.algebraic,
   trivial, Cert.Proof.DoXValue.algebraic,
   trivial, Cert.Proof.DwXqValue.algebraic,
   trivial, Cert.Proof.DwXkvValue.algebraic,
   trivial, Cert.Proof.DmemValue.algebraic,
   trivial, Cert.Proof.AdamGainValue.algebraic,
   trivial, Cert.Proof.AdamSinksValue.algebraic,
   trivial, Cert.Proof.AdamConvValue.algebraic⟩
